-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_no_tie [hPre_finite_no_tie : Cert.Pre_finite_no_tie.Facts] (m : (ℓ : Loc Cert.KernelIdeal.nD Cert.KernelIdeal.τ Cert.KernelIdeal.sig) → Buf (Elt Ideal) ℓ) : Prop :=
  ∀ c : Dev Cert.KernelIdeal.nD,
    (Cert.Pre_finite_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_no_tie [hPre_finite_no_tie : Cert.Pre_finite_no_tie.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_FfnAct (m : (ℓ : Loc Cert.FfnAct.nD Cert.FfnAct.τ Cert.FfnAct.sig) → Buf (Elt Bits) ℓ) : Prop :=
  True

def Pre_FfnActIdeal (m : (ℓ : Loc Cert.FfnActIdeal.nD Cert.FfnActIdeal.τ Cert.FfnActIdeal.sig) → Buf (Elt Ideal) ℓ) : Prop :=
  True

def Pre_FfnActIdeal_finite [hPre_finite : Cert.Pre_finite.Facts] (m : (ℓ : Loc Cert.FfnActIdeal.nD Cert.FfnActIdeal.τ Cert.FfnActIdeal.sig) → Buf (Elt Ideal) ℓ) : Prop :=
  ∀ c : Dev Cert.FfnActIdeal.nD,
    (Cert.Pre_finite.fn (F := Ideal) (m ((c.tc : Thread Cert.FfnActIdeal.nD Cert.FfnActIdeal.τ).loc Cert.FfnActIdeal.main_arg0)) (m ((c.tc : Thread Cert.FfnActIdeal.nD Cert.FfnActIdeal.τ).loc Cert.FfnActIdeal.main_arg1)) (m ((c.tc : Thread Cert.FfnActIdeal.nD Cert.FfnActIdeal.τ).loc Cert.FfnActIdeal.main_arg2)) (m ((c.tc : Thread Cert.FfnActIdeal.nD Cert.FfnActIdeal.τ).loc Cert.FfnActIdeal.main_arg3))) = (fun _ => 1#1)

def Pre_FfnActRefIdeal (m : (ℓ : Loc Cert.FfnActRefIdeal.nD Cert.FfnActRefIdeal.τ Cert.FfnActRefIdeal.sig) → Buf (Elt Ideal) ℓ) : Prop :=
  True

def Pre_FfnActRefIdeal_finite [hPre_finite : Cert.Pre_finite.Facts] (m : (ℓ : Loc Cert.FfnActRefIdeal.nD Cert.FfnActRefIdeal.τ Cert.FfnActRefIdeal.sig) → Buf (Elt Ideal) ℓ) : Prop :=
  ∀ c : Dev Cert.FfnActRefIdeal.nD,
    (Cert.Pre_finite.fn (F := Ideal) (m ((c.tc : Thread Cert.FfnActRefIdeal.nD Cert.FfnActRefIdeal.τ).loc Cert.FfnActRefIdeal.main_arg0)) (m ((c.tc : Thread Cert.FfnActRefIdeal.nD Cert.FfnActRefIdeal.τ).loc Cert.FfnActRefIdeal.main_arg1)) (m ((c.tc : Thread Cert.FfnActRefIdeal.nD Cert.FfnActRefIdeal.τ).loc Cert.FfnActRefIdeal.main_arg2)) (m ((c.tc : Thread Cert.FfnActRefIdeal.nD Cert.FfnActRefIdeal.τ).loc Cert.FfnActRefIdeal.main_arg3))) = (fun _ => 1#1)

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInRefIdeal (m : (ℓ : Loc Cert.FfnInRefIdeal.nD Cert.FfnInRefIdeal.τ Cert.FfnInRefIdeal.sig) → Buf (Elt Ideal) ℓ) : Prop :=
  True

def Pre_Dhn (m : (ℓ : Loc Cert.Dhn.nD Cert.Dhn.τ Cert.Dhn.sig) → Buf (Elt Bits) ℓ) : Prop :=
  True

def Pre_DhnIdeal (m : (ℓ : Loc Cert.DhnIdeal.nD Cert.DhnIdeal.τ Cert.DhnIdeal.sig) → Buf (Elt Ideal) ℓ) : Prop :=
  True

def Pre_DhnRefIdeal (m : (ℓ : Loc Cert.DhnRefIdeal.nD Cert.DhnRefIdeal.τ Cert.DhnRefIdeal.sig) → Buf (Elt Ideal) ℓ) : Prop :=
  True

def Pre_DwQkv (m : (ℓ : Loc Cert.DwQkv.nD Cert.DwQkv.τ Cert.DwQkv.sig) → Buf (Elt Bits) ℓ) : Prop :=
  True

def Pre_DwQkvIdeal (m : (ℓ : Loc Cert.DwQkvIdeal.nD Cert.DwQkvIdeal.τ Cert.DwQkvIdeal.sig) → Buf (Elt Ideal) ℓ) : Prop :=
  True

def Pre_DwQkvRefIdeal (m : (ℓ : Loc Cert.DwQkvRefIdeal.nD Cert.DwQkvRefIdeal.τ Cert.DwQkvRefIdeal.sig) → Buf (Elt Ideal) ℓ) : Prop :=
  True

def Pre_DwE (m : (ℓ : Loc Cert.DwE.nD Cert.DwE.τ Cert.DwE.sig) → Buf (Elt Bits) ℓ) : Prop :=
  True

def Pre_DwEIdeal (m : (ℓ : Loc Cert.DwEIdeal.nD Cert.DwEIdeal.τ Cert.DwEIdeal.sig) → Buf (Elt Ideal) ℓ) : Prop :=
  True

def Pre_DwERefIdeal (m : (ℓ : Loc Cert.DwERefIdeal.nD Cert.DwERefIdeal.τ Cert.DwERefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_Dmix (m : (ℓ : Loc Cert.Dmix.nD Cert.Dmix.τ Cert.Dmix.sig) → Buf (Elt Bits) ℓ) : Prop :=
  True

def Pre_DmixIdeal (m : (ℓ : Loc Cert.DmixIdeal.nD Cert.DmixIdeal.τ Cert.DmixIdeal.sig) → Buf (Elt Ideal) ℓ) : Prop :=
  True

def Pre_DmixRefIdeal (m : (ℓ : Loc Cert.DmixRefIdeal.nD Cert.DmixRefIdeal.τ Cert.DmixRefIdeal.sig) → Buf (Elt Ideal) ℓ) : Prop :=
  True

def Pre_ProjQkv (m : (ℓ : Loc Cert.ProjQkv.nD Cert.ProjQkv.τ Cert.ProjQkv.sig) → Buf (Elt Bits) ℓ) : Prop :=
  True

def Pre_ProjQkvIdeal (m : (ℓ : Loc Cert.ProjQkvIdeal.nD Cert.ProjQkvIdeal.τ Cert.ProjQkvIdeal.sig) → Buf (Elt Ideal) ℓ) : Prop :=
  True

def Pre_ProjQkvRefIdeal (m : (ℓ : Loc Cert.ProjQkvRefIdeal.nD Cert.ProjQkvRefIdeal.τ Cert.ProjQkvRefIdeal.sig) → Buf (Elt Ideal) ℓ) : Prop :=
  True

def Pre_ProjE (m : (ℓ : Loc Cert.ProjE.nD Cert.ProjE.τ Cert.ProjE.sig) → Buf (Elt Bits) ℓ) : Prop :=
  True

def Pre_ProjEIdeal (m : (ℓ : Loc Cert.ProjEIdeal.nD Cert.ProjEIdeal.τ Cert.ProjEIdeal.sig) → Buf (Elt Ideal) ℓ) : Prop :=
  True

def Pre_ProjERefIdeal (m : (ℓ : Loc Cert.ProjERefIdeal.nD Cert.ProjERefIdeal.τ Cert.ProjERefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdRefIdeal (m : (ℓ : Loc Cert.NormBwdRefIdeal.nD Cert.NormBwdRefIdeal.τ Cert.NormBwdRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_AdamGate0 (m : (ℓ : Loc Cert.AdamGate0.nD Cert.AdamGate0.τ Cert.AdamGate0.sig) → Buf (Elt Bits) ℓ) : Prop :=
  True

def Pre_AdamGate0Ideal (m : (ℓ : Loc Cert.AdamGate0Ideal.nD Cert.AdamGate0Ideal.τ Cert.AdamGate0Ideal.sig) → Buf (Elt Ideal) ℓ) : Prop :=
  True

def Pre_AdamGate0Ideal_core_gate0 [hPre_core_gate0 : Cert.Pre_core_gate0.Facts] (m : (ℓ : Loc Cert.AdamGate0Ideal.nD Cert.AdamGate0Ideal.τ Cert.AdamGate0Ideal.sig) → Buf (Elt Ideal) ℓ) : Prop :=
  ∀ c : Dev Cert.AdamGate0Ideal.nD,
    (Cert.Pre_core_gate0.fn (F := Ideal) (m ((c.tc : Thread Cert.AdamGate0Ideal.nD Cert.AdamGate0Ideal.τ).loc Cert.AdamGate0Ideal.main_arg0)) (m ((c.tc : Thread Cert.AdamGate0Ideal.nD Cert.AdamGate0Ideal.τ).loc Cert.AdamGate0Ideal.main_arg1)) (m ((c.tc : Thread Cert.AdamGate0Ideal.nD Cert.AdamGate0Ideal.τ).loc Cert.AdamGate0Ideal.main_arg2)) (m ((c.tc : Thread Cert.AdamGate0Ideal.nD Cert.AdamGate0Ideal.τ).loc Cert.AdamGate0Ideal.main_arg3)) (m ((c.tc : Thread Cert.AdamGate0Ideal.nD Cert.AdamGate0Ideal.τ).loc Cert.AdamGate0Ideal.main_arg4)) (m ((c.tc : Thread Cert.AdamGate0Ideal.nD Cert.AdamGate0Ideal.τ).loc Cert.AdamGate0Ideal.main_arg5))) = (fun _ => 1#1)

def Pre_AdamGate0RefIdeal (m : (ℓ : Loc Cert.AdamGate0RefIdeal.nD Cert.AdamGate0RefIdeal.τ Cert.AdamGate0RefIdeal.sig) → Buf (Elt Ideal) ℓ) : Prop :=
  True

def Pre_AdamGate0RefIdeal_core_gate0 [hPre_core_gate0 : Cert.Pre_core_gate0.Facts] (m : (ℓ : Loc Cert.AdamGate0RefIdeal.nD Cert.AdamGate0RefIdeal.τ Cert.AdamGate0RefIdeal.sig) → Buf (Elt Ideal) ℓ) : Prop :=
  ∀ c : Dev Cert.AdamGate0RefIdeal.nD,
    (Cert.Pre_core_gate0.fn (F := Ideal) (m ((c.tc : Thread Cert.AdamGate0RefIdeal.nD Cert.AdamGate0RefIdeal.τ).loc Cert.AdamGate0RefIdeal.main_arg0)) (m ((c.tc : Thread Cert.AdamGate0RefIdeal.nD Cert.AdamGate0RefIdeal.τ).loc Cert.AdamGate0RefIdeal.main_arg1)) (m ((c.tc : Thread Cert.AdamGate0RefIdeal.nD Cert.AdamGate0RefIdeal.τ).loc Cert.AdamGate0RefIdeal.main_arg2)) (m ((c.tc : Thread Cert.AdamGate0RefIdeal.nD Cert.AdamGate0RefIdeal.τ).loc Cert.AdamGate0RefIdeal.main_arg3)) (m ((c.tc : Thread Cert.AdamGate0RefIdeal.nD Cert.AdamGate0RefIdeal.τ).loc Cert.AdamGate0RefIdeal.main_arg4)) (m ((c.tc : Thread Cert.AdamGate0RefIdeal.nD Cert.AdamGate0RefIdeal.τ).loc Cert.AdamGate0RefIdeal.main_arg5))) = (fun _ => 1#1)

def Pre_AdamGate1 (m : (ℓ : Loc Cert.AdamGate1.nD Cert.AdamGate1.τ Cert.AdamGate1.sig) → Buf (Elt Bits) ℓ) : Prop :=
  True

def Pre_AdamGate1Ideal (m : (ℓ : Loc Cert.AdamGate1Ideal.nD Cert.AdamGate1Ideal.τ Cert.AdamGate1Ideal.sig) → Buf (Elt Ideal) ℓ) : Prop :=
  True

def Pre_AdamGate1Ideal_core_gate1 [hPre_core_gate1 : Cert.Pre_core_gate1.Facts] (m : (ℓ : Loc Cert.AdamGate1Ideal.nD Cert.AdamGate1Ideal.τ Cert.AdamGate1Ideal.sig) → Buf (Elt Ideal) ℓ) : Prop :=
  ∀ c : Dev Cert.AdamGate1Ideal.nD,
    (Cert.Pre_core_gate1.fn (F := Ideal) (m ((c.tc : Thread Cert.AdamGate1Ideal.nD Cert.AdamGate1Ideal.τ).loc Cert.AdamGate1Ideal.main_arg0)) (m ((c.tc : Thread Cert.AdamGate1Ideal.nD Cert.AdamGate1Ideal.τ).loc Cert.AdamGate1Ideal.main_arg1)) (m ((c.tc : Thread Cert.AdamGate1Ideal.nD Cert.AdamGate1Ideal.τ).loc Cert.AdamGate1Ideal.main_arg2)) (m ((c.tc : Thread Cert.AdamGate1Ideal.nD Cert.AdamGate1Ideal.τ).loc Cert.AdamGate1Ideal.main_arg3)) (m ((c.tc : Thread Cert.AdamGate1Ideal.nD Cert.AdamGate1Ideal.τ).loc Cert.AdamGate1Ideal.main_arg4)) (m ((c.tc : Thread Cert.AdamGate1Ideal.nD Cert.AdamGate1Ideal.τ).loc Cert.AdamGate1Ideal.main_arg5)) (m ((c.tc : Thread Cert.AdamGate1Ideal.nD Cert.AdamGate1Ideal.τ).loc Cert.AdamGate1Ideal.main_arg6)) (m ((c.tc : Thread Cert.AdamGate1Ideal.nD Cert.AdamGate1Ideal.τ).loc Cert.AdamGate1Ideal.main_arg7)) (m ((c.tc : Thread Cert.AdamGate1Ideal.nD Cert.AdamGate1Ideal.τ).loc Cert.AdamGate1Ideal.main_arg8)) (m ((c.tc : Thread Cert.AdamGate1Ideal.nD Cert.AdamGate1Ideal.τ).loc Cert.AdamGate1Ideal.main_arg9))) = (fun _ => 1#1)

def Pre_AdamGate1RefIdeal (m : (ℓ : Loc Cert.AdamGate1RefIdeal.nD Cert.AdamGate1RefIdeal.τ Cert.AdamGate1RefIdeal.sig) → Buf (Elt Ideal) ℓ) : Prop :=
  True

def Pre_AdamGate1RefIdeal_core_gate1 [hPre_core_gate1 : Cert.Pre_core_gate1.Facts] (m : (ℓ : Loc Cert.AdamGate1RefIdeal.nD Cert.AdamGate1RefIdeal.τ Cert.AdamGate1RefIdeal.sig) → Buf (Elt Ideal) ℓ) : Prop :=
  ∀ c : Dev Cert.AdamGate1RefIdeal.nD,
    (Cert.Pre_core_gate1.fn (F := Ideal) (m ((c.tc : Thread Cert.AdamGate1RefIdeal.nD Cert.AdamGate1RefIdeal.τ).loc Cert.AdamGate1RefIdeal.main_arg0)) (m ((c.tc : Thread Cert.AdamGate1RefIdeal.nD Cert.AdamGate1RefIdeal.τ).loc Cert.AdamGate1RefIdeal.main_arg1)) (m ((c.tc : Thread Cert.AdamGate1RefIdeal.nD Cert.AdamGate1RefIdeal.τ).loc Cert.AdamGate1RefIdeal.main_arg2)) (m ((c.tc : Thread Cert.AdamGate1RefIdeal.nD Cert.AdamGate1RefIdeal.τ).loc Cert.AdamGate1RefIdeal.main_arg3)) (m ((c.tc : Thread Cert.AdamGate1RefIdeal.nD Cert.AdamGate1RefIdeal.τ).loc Cert.AdamGate1RefIdeal.main_arg4)) (m ((c.tc : Thread Cert.AdamGate1RefIdeal.nD Cert.AdamGate1RefIdeal.τ).loc Cert.AdamGate1RefIdeal.main_arg5)) (m ((c.tc : Thread Cert.AdamGate1RefIdeal.nD Cert.AdamGate1RefIdeal.τ).loc Cert.AdamGate1RefIdeal.main_arg6)) (m ((c.tc : Thread Cert.AdamGate1RefIdeal.nD Cert.AdamGate1RefIdeal.τ).loc Cert.AdamGate1RefIdeal.main_arg7)) (m ((c.tc : Thread Cert.AdamGate1RefIdeal.nD Cert.AdamGate1RefIdeal.τ).loc Cert.AdamGate1RefIdeal.main_arg8)) (m ((c.tc : Thread Cert.AdamGate1RefIdeal.nD Cert.AdamGate1RefIdeal.τ).loc Cert.AdamGate1RefIdeal.main_arg9))) = (fun _ => 1#1)

def Pre_AdamDown0 (m : (ℓ : Loc Cert.AdamDown0.nD Cert.AdamDown0.τ Cert.AdamDown0.sig) → Buf (Elt Bits) ℓ) : Prop :=
  True

def Pre_AdamDown0Ideal (m : (ℓ : Loc Cert.AdamDown0Ideal.nD Cert.AdamDown0Ideal.τ Cert.AdamDown0Ideal.sig) → Buf (Elt Ideal) ℓ) : Prop :=
  True

def Pre_AdamDown0Ideal_core_down0 [hPre_core_down0 : Cert.Pre_core_down0.Facts] (m : (ℓ : Loc Cert.AdamDown0Ideal.nD Cert.AdamDown0Ideal.τ Cert.AdamDown0Ideal.sig) → Buf (Elt Ideal) ℓ) : Prop :=
  ∀ c : Dev Cert.AdamDown0Ideal.nD,
    (Cert.Pre_core_down0.fn (F := Ideal) (m ((c.tc : Thread Cert.AdamDown0Ideal.nD Cert.AdamDown0Ideal.τ).loc Cert.AdamDown0Ideal.main_arg0)) (m ((c.tc : Thread Cert.AdamDown0Ideal.nD Cert.AdamDown0Ideal.τ).loc Cert.AdamDown0Ideal.main_arg1)) (m ((c.tc : Thread Cert.AdamDown0Ideal.nD Cert.AdamDown0Ideal.τ).loc Cert.AdamDown0Ideal.main_arg2)) (m ((c.tc : Thread Cert.AdamDown0Ideal.nD Cert.AdamDown0Ideal.τ).loc Cert.AdamDown0Ideal.main_arg3)) (m ((c.tc : Thread Cert.AdamDown0Ideal.nD Cert.AdamDown0Ideal.τ).loc Cert.AdamDown0Ideal.main_arg4)) (m ((c.tc : Thread Cert.AdamDown0Ideal.nD Cert.AdamDown0Ideal.τ).loc Cert.AdamDown0Ideal.main_arg5))) = (fun _ => 1#1)

def Pre_AdamDown0RefIdeal (m : (ℓ : Loc Cert.AdamDown0RefIdeal.nD Cert.AdamDown0RefIdeal.τ Cert.AdamDown0RefIdeal.sig) → Buf (Elt Ideal) ℓ) : Prop :=
  True

def Pre_AdamDown0RefIdeal_core_down0 [hPre_core_down0 : Cert.Pre_core_down0.Facts] (m : (ℓ : Loc Cert.AdamDown0RefIdeal.nD Cert.AdamDown0RefIdeal.τ Cert.AdamDown0RefIdeal.sig) → Buf (Elt Ideal) ℓ) : Prop :=
  ∀ c : Dev Cert.AdamDown0RefIdeal.nD,
    (Cert.Pre_core_down0.fn (F := Ideal) (m ((c.tc : Thread Cert.AdamDown0RefIdeal.nD Cert.AdamDown0RefIdeal.τ).loc Cert.AdamDown0RefIdeal.main_arg0)) (m ((c.tc : Thread Cert.AdamDown0RefIdeal.nD Cert.AdamDown0RefIdeal.τ).loc Cert.AdamDown0RefIdeal.main_arg1)) (m ((c.tc : Thread Cert.AdamDown0RefIdeal.nD Cert.AdamDown0RefIdeal.τ).loc Cert.AdamDown0RefIdeal.main_arg2)) (m ((c.tc : Thread Cert.AdamDown0RefIdeal.nD Cert.AdamDown0RefIdeal.τ).loc Cert.AdamDown0RefIdeal.main_arg3)) (m ((c.tc : Thread Cert.AdamDown0RefIdeal.nD Cert.AdamDown0RefIdeal.τ).loc Cert.AdamDown0RefIdeal.main_arg4)) (m ((c.tc : Thread Cert.AdamDown0RefIdeal.nD Cert.AdamDown0RefIdeal.τ).loc Cert.AdamDown0RefIdeal.main_arg5))) = (fun _ => 1#1)

def Pre_AdamDown1 (m : (ℓ : Loc Cert.AdamDown1.nD Cert.AdamDown1.τ Cert.AdamDown1.sig) → Buf (Elt Bits) ℓ) : Prop :=
  True

def Pre_AdamDown1Ideal (m : (ℓ : Loc Cert.AdamDown1Ideal.nD Cert.AdamDown1Ideal.τ Cert.AdamDown1Ideal.sig) → Buf (Elt Ideal) ℓ) : Prop :=
  True

def Pre_AdamDown1Ideal_core_down1 [hPre_core_down1 : Cert.Pre_core_down1.Facts] (m : (ℓ : Loc Cert.AdamDown1Ideal.nD Cert.AdamDown1Ideal.τ Cert.AdamDown1Ideal.sig) → Buf (Elt Ideal) ℓ) : Prop :=
  ∀ c : Dev Cert.AdamDown1Ideal.nD,
    (Cert.Pre_core_down1.fn (F := Ideal) (m ((c.tc : Thread Cert.AdamDown1Ideal.nD Cert.AdamDown1Ideal.τ).loc Cert.AdamDown1Ideal.main_arg0)) (m ((c.tc : Thread Cert.AdamDown1Ideal.nD Cert.AdamDown1Ideal.τ).loc Cert.AdamDown1Ideal.main_arg1)) (m ((c.tc : Thread Cert.AdamDown1Ideal.nD Cert.AdamDown1Ideal.τ).loc Cert.AdamDown1Ideal.main_arg2)) (m ((c.tc : Thread Cert.AdamDown1Ideal.nD Cert.AdamDown1Ideal.τ).loc Cert.AdamDown1Ideal.main_arg3)) (m ((c.tc : Thread Cert.AdamDown1Ideal.nD Cert.AdamDown1Ideal.τ).loc Cert.AdamDown1Ideal.main_arg4)) (m ((c.tc : Thread Cert.AdamDown1Ideal.nD Cert.AdamDown1Ideal.τ).loc Cert.AdamDown1Ideal.main_arg5)) (m ((c.tc : Thread Cert.AdamDown1Ideal.nD Cert.AdamDown1Ideal.τ).loc Cert.AdamDown1Ideal.main_arg6)) (m ((c.tc : Thread Cert.AdamDown1Ideal.nD Cert.AdamDown1Ideal.τ).loc Cert.AdamDown1Ideal.main_arg7)) (m ((c.tc : Thread Cert.AdamDown1Ideal.nD Cert.AdamDown1Ideal.τ).loc Cert.AdamDown1Ideal.main_arg8)) (m ((c.tc : Thread Cert.AdamDown1Ideal.nD Cert.AdamDown1Ideal.τ).loc Cert.AdamDown1Ideal.main_arg9))) = (fun _ => 1#1)

def Pre_AdamDown1RefIdeal (m : (ℓ : Loc Cert.AdamDown1RefIdeal.nD Cert.AdamDown1RefIdeal.τ Cert.AdamDown1RefIdeal.sig) → Buf (Elt Ideal) ℓ) : Prop :=
  True

def Pre_AdamDown1RefIdeal_core_down1 [hPre_core_down1 : Cert.Pre_core_down1.Facts] (m : (ℓ : Loc Cert.AdamDown1RefIdeal.nD Cert.AdamDown1RefIdeal.τ Cert.AdamDown1RefIdeal.sig) → Buf (Elt Ideal) ℓ) : Prop :=
  ∀ c : Dev Cert.AdamDown1RefIdeal.nD,
    (Cert.Pre_core_down1.fn (F := Ideal) (m ((c.tc : Thread Cert.AdamDown1RefIdeal.nD Cert.AdamDown1RefIdeal.τ).loc Cert.AdamDown1RefIdeal.main_arg0)) (m ((c.tc : Thread Cert.AdamDown1RefIdeal.nD Cert.AdamDown1RefIdeal.τ).loc Cert.AdamDown1RefIdeal.main_arg1)) (m ((c.tc : Thread Cert.AdamDown1RefIdeal.nD Cert.AdamDown1RefIdeal.τ).loc Cert.AdamDown1RefIdeal.main_arg2)) (m ((c.tc : Thread Cert.AdamDown1RefIdeal.nD Cert.AdamDown1RefIdeal.τ).loc Cert.AdamDown1RefIdeal.main_arg3)) (m ((c.tc : Thread Cert.AdamDown1RefIdeal.nD Cert.AdamDown1RefIdeal.τ).loc Cert.AdamDown1RefIdeal.main_arg4)) (m ((c.tc : Thread Cert.AdamDown1RefIdeal.nD Cert.AdamDown1RefIdeal.τ).loc Cert.AdamDown1RefIdeal.main_arg5)) (m ((c.tc : Thread Cert.AdamDown1RefIdeal.nD Cert.AdamDown1RefIdeal.τ).loc Cert.AdamDown1RefIdeal.main_arg6)) (m ((c.tc : Thread Cert.AdamDown1RefIdeal.nD Cert.AdamDown1RefIdeal.τ).loc Cert.AdamDown1RefIdeal.main_arg7)) (m ((c.tc : Thread Cert.AdamDown1RefIdeal.nD Cert.AdamDown1RefIdeal.τ).loc Cert.AdamDown1RefIdeal.main_arg8)) (m ((c.tc : Thread Cert.AdamDown1RefIdeal.nD Cert.AdamDown1RefIdeal.τ).loc Cert.AdamDown1RefIdeal.main_arg9))) = (fun _ => 1#1)

def Pre_AdamOut0 (m : (ℓ : Loc Cert.AdamOut0.nD Cert.AdamOut0.τ Cert.AdamOut0.sig) → Buf (Elt Bits) ℓ) : Prop :=
  True

def Pre_AdamOut0Ideal (m : (ℓ : Loc Cert.AdamOut0Ideal.nD Cert.AdamOut0Ideal.τ Cert.AdamOut0Ideal.sig) → Buf (Elt Ideal) ℓ) : Prop :=
  True

def Pre_AdamOut0Ideal_core_out0 [hPre_core_out0 : Cert.Pre_core_out0.Facts] (m : (ℓ : Loc Cert.AdamOut0Ideal.nD Cert.AdamOut0Ideal.τ Cert.AdamOut0Ideal.sig) → Buf (Elt Ideal) ℓ) : Prop :=
  ∀ c : Dev Cert.AdamOut0Ideal.nD,
    (Cert.Pre_core_out0.fn (F := Ideal) (m ((c.tc : Thread Cert.AdamOut0Ideal.nD Cert.AdamOut0Ideal.τ).loc Cert.AdamOut0Ideal.main_arg0)) (m ((c.tc : Thread Cert.AdamOut0Ideal.nD Cert.AdamOut0Ideal.τ).loc Cert.AdamOut0Ideal.main_arg1)) (m ((c.tc : Thread Cert.AdamOut0Ideal.nD Cert.AdamOut0Ideal.τ).loc Cert.AdamOut0Ideal.main_arg2)) (m ((c.tc : Thread Cert.AdamOut0Ideal.nD Cert.AdamOut0Ideal.τ).loc Cert.AdamOut0Ideal.main_arg3)) (m ((c.tc : Thread Cert.AdamOut0Ideal.nD Cert.AdamOut0Ideal.τ).loc Cert.AdamOut0Ideal.main_arg4)) (m ((c.tc : Thread Cert.AdamOut0Ideal.nD Cert.AdamOut0Ideal.τ).loc Cert.AdamOut0Ideal.main_arg5))) = (fun _ => 1#1)

def Pre_AdamOut0RefIdeal (m : (ℓ : Loc Cert.AdamOut0RefIdeal.nD Cert.AdamOut0RefIdeal.τ Cert.AdamOut0RefIdeal.sig) → Buf (Elt Ideal) ℓ) : Prop :=
  True

def Pre_AdamOut0RefIdeal_core_out0 [hPre_core_out0 : Cert.Pre_core_out0.Facts] (m : (ℓ : Loc Cert.AdamOut0RefIdeal.nD Cert.AdamOut0RefIdeal.τ Cert.AdamOut0RefIdeal.sig) → Buf (Elt Ideal) ℓ) : Prop :=
  ∀ c : Dev Cert.AdamOut0RefIdeal.nD,
    (Cert.Pre_core_out0.fn (F := Ideal) (m ((c.tc : Thread Cert.AdamOut0RefIdeal.nD Cert.AdamOut0RefIdeal.τ).loc Cert.AdamOut0RefIdeal.main_arg0)) (m ((c.tc : Thread Cert.AdamOut0RefIdeal.nD Cert.AdamOut0RefIdeal.τ).loc Cert.AdamOut0RefIdeal.main_arg1)) (m ((c.tc : Thread Cert.AdamOut0RefIdeal.nD Cert.AdamOut0RefIdeal.τ).loc Cert.AdamOut0RefIdeal.main_arg2)) (m ((c.tc : Thread Cert.AdamOut0RefIdeal.nD Cert.AdamOut0RefIdeal.τ).loc Cert.AdamOut0RefIdeal.main_arg3)) (m ((c.tc : Thread Cert.AdamOut0RefIdeal.nD Cert.AdamOut0RefIdeal.τ).loc Cert.AdamOut0RefIdeal.main_arg4)) (m ((c.tc : Thread Cert.AdamOut0RefIdeal.nD Cert.AdamOut0RefIdeal.τ).loc Cert.AdamOut0RefIdeal.main_arg5))) = (fun _ => 1#1)

def Pre_AdamOut1 (m : (ℓ : Loc Cert.AdamOut1.nD Cert.AdamOut1.τ Cert.AdamOut1.sig) → Buf (Elt Bits) ℓ) : Prop :=
  True

def Pre_AdamOut1Ideal (m : (ℓ : Loc Cert.AdamOut1Ideal.nD Cert.AdamOut1Ideal.τ Cert.AdamOut1Ideal.sig) → Buf (Elt Ideal) ℓ) : Prop :=
  True

def Pre_AdamOut1Ideal_core_out1 [hPre_core_out1 : Cert.Pre_core_out1.Facts] (m : (ℓ : Loc Cert.AdamOut1Ideal.nD Cert.AdamOut1Ideal.τ Cert.AdamOut1Ideal.sig) → Buf (Elt Ideal) ℓ) : Prop :=
  ∀ c : Dev Cert.AdamOut1Ideal.nD,
    (Cert.Pre_core_out1.fn (F := Ideal) (m ((c.tc : Thread Cert.AdamOut1Ideal.nD Cert.AdamOut1Ideal.τ).loc Cert.AdamOut1Ideal.main_arg0)) (m ((c.tc : Thread Cert.AdamOut1Ideal.nD Cert.AdamOut1Ideal.τ).loc Cert.AdamOut1Ideal.main_arg1)) (m ((c.tc : Thread Cert.AdamOut1Ideal.nD Cert.AdamOut1Ideal.τ).loc Cert.AdamOut1Ideal.main_arg2)) (m ((c.tc : Thread Cert.AdamOut1Ideal.nD Cert.AdamOut1Ideal.τ).loc Cert.AdamOut1Ideal.main_arg3)) (m ((c.tc : Thread Cert.AdamOut1Ideal.nD Cert.AdamOut1Ideal.τ).loc Cert.AdamOut1Ideal.main_arg4)) (m ((c.tc : Thread Cert.AdamOut1Ideal.nD Cert.AdamOut1Ideal.τ).loc Cert.AdamOut1Ideal.main_arg5)) (m ((c.tc : Thread Cert.AdamOut1Ideal.nD Cert.AdamOut1Ideal.τ).loc Cert.AdamOut1Ideal.main_arg6)) (m ((c.tc : Thread Cert.AdamOut1Ideal.nD Cert.AdamOut1Ideal.τ).loc Cert.AdamOut1Ideal.main_arg7)) (m ((c.tc : Thread Cert.AdamOut1Ideal.nD Cert.AdamOut1Ideal.τ).loc Cert.AdamOut1Ideal.main_arg8)) (m ((c.tc : Thread Cert.AdamOut1Ideal.nD Cert.AdamOut1Ideal.τ).loc Cert.AdamOut1Ideal.main_arg9))) = (fun _ => 1#1)

def Pre_AdamOut1RefIdeal (m : (ℓ : Loc Cert.AdamOut1RefIdeal.nD Cert.AdamOut1RefIdeal.τ Cert.AdamOut1RefIdeal.sig) → Buf (Elt Ideal) ℓ) : Prop :=
  True

def Pre_AdamOut1RefIdeal_core_out1 [hPre_core_out1 : Cert.Pre_core_out1.Facts] (m : (ℓ : Loc Cert.AdamOut1RefIdeal.nD Cert.AdamOut1RefIdeal.τ Cert.AdamOut1RefIdeal.sig) → Buf (Elt Ideal) ℓ) : Prop :=
  ∀ c : Dev Cert.AdamOut1RefIdeal.nD,
    (Cert.Pre_core_out1.fn (F := Ideal) (m ((c.tc : Thread Cert.AdamOut1RefIdeal.nD Cert.AdamOut1RefIdeal.τ).loc Cert.AdamOut1RefIdeal.main_arg0)) (m ((c.tc : Thread Cert.AdamOut1RefIdeal.nD Cert.AdamOut1RefIdeal.τ).loc Cert.AdamOut1RefIdeal.main_arg1)) (m ((c.tc : Thread Cert.AdamOut1RefIdeal.nD Cert.AdamOut1RefIdeal.τ).loc Cert.AdamOut1RefIdeal.main_arg2)) (m ((c.tc : Thread Cert.AdamOut1RefIdeal.nD Cert.AdamOut1RefIdeal.τ).loc Cert.AdamOut1RefIdeal.main_arg3)) (m ((c.tc : Thread Cert.AdamOut1RefIdeal.nD Cert.AdamOut1RefIdeal.τ).loc Cert.AdamOut1RefIdeal.main_arg4)) (m ((c.tc : Thread Cert.AdamOut1RefIdeal.nD Cert.AdamOut1RefIdeal.τ).loc Cert.AdamOut1RefIdeal.main_arg5)) (m ((c.tc : Thread Cert.AdamOut1RefIdeal.nD Cert.AdamOut1RefIdeal.τ).loc Cert.AdamOut1RefIdeal.main_arg6)) (m ((c.tc : Thread Cert.AdamOut1RefIdeal.nD Cert.AdamOut1RefIdeal.τ).loc Cert.AdamOut1RefIdeal.main_arg7)) (m ((c.tc : Thread Cert.AdamOut1RefIdeal.nD Cert.AdamOut1RefIdeal.τ).loc Cert.AdamOut1RefIdeal.main_arg8)) (m ((c.tc : Thread Cert.AdamOut1RefIdeal.nD Cert.AdamOut1RefIdeal.τ).loc Cert.AdamOut1RefIdeal.main_arg9))) = (fun _ => 1#1)

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInIdeal_core_in [hPre_core_in : Cert.Pre_core_in.Facts] (m : (ℓ : Loc Cert.AdamInIdeal.nD Cert.AdamInIdeal.τ Cert.AdamInIdeal.sig) → Buf (Elt Ideal) ℓ) : Prop :=
  ∀ c : Dev Cert.AdamInIdeal.nD,
    (Cert.Pre_core_in.fn (F := Ideal) (m ((c.tc : Thread Cert.AdamInIdeal.nD Cert.AdamInIdeal.τ).loc Cert.AdamInIdeal.main_arg0)) (m ((c.tc : Thread Cert.AdamInIdeal.nD Cert.AdamInIdeal.τ).loc Cert.AdamInIdeal.main_arg1)) (m ((c.tc : Thread Cert.AdamInIdeal.nD Cert.AdamInIdeal.τ).loc Cert.AdamInIdeal.main_arg2)) (m ((c.tc : Thread Cert.AdamInIdeal.nD Cert.AdamInIdeal.τ).loc Cert.AdamInIdeal.main_arg3)) (m ((c.tc : Thread Cert.AdamInIdeal.nD Cert.AdamInIdeal.τ).loc Cert.AdamInIdeal.main_arg4)) (m ((c.tc : Thread Cert.AdamInIdeal.nD Cert.AdamInIdeal.τ).loc Cert.AdamInIdeal.main_arg5)) (m ((c.tc : Thread Cert.AdamInIdeal.nD Cert.AdamInIdeal.τ).loc Cert.AdamInIdeal.main_arg6)) (m ((c.tc : Thread Cert.AdamInIdeal.nD Cert.AdamInIdeal.τ).loc Cert.AdamInIdeal.main_arg7))) = (fun _ => 1#1)

def Pre_AdamInRefIdeal (m : (ℓ : Loc Cert.AdamInRefIdeal.nD Cert.AdamInRefIdeal.τ Cert.AdamInRefIdeal.sig) → Buf (Elt Ideal) ℓ) : Prop :=
  True

def Pre_AdamInRefIdeal_core_in [hPre_core_in : Cert.Pre_core_in.Facts] (m : (ℓ : Loc Cert.AdamInRefIdeal.nD Cert.AdamInRefIdeal.τ Cert.AdamInRefIdeal.sig) → Buf (Elt Ideal) ℓ) : Prop :=
  ∀ c : Dev Cert.AdamInRefIdeal.nD,
    (Cert.Pre_core_in.fn (F := Ideal) (m ((c.tc : Thread Cert.AdamInRefIdeal.nD Cert.AdamInRefIdeal.τ).loc Cert.AdamInRefIdeal.main_arg0)) (m ((c.tc : Thread Cert.AdamInRefIdeal.nD Cert.AdamInRefIdeal.τ).loc Cert.AdamInRefIdeal.main_arg1)) (m ((c.tc : Thread Cert.AdamInRefIdeal.nD Cert.AdamInRefIdeal.τ).loc Cert.AdamInRefIdeal.main_arg2)) (m ((c.tc : Thread Cert.AdamInRefIdeal.nD Cert.AdamInRefIdeal.τ).loc Cert.AdamInRefIdeal.main_arg3)) (m ((c.tc : Thread Cert.AdamInRefIdeal.nD Cert.AdamInRefIdeal.τ).loc Cert.AdamInRefIdeal.main_arg4)) (m ((c.tc : Thread Cert.AdamInRefIdeal.nD Cert.AdamInRefIdeal.τ).loc Cert.AdamInRefIdeal.main_arg5)) (m ((c.tc : Thread Cert.AdamInRefIdeal.nD Cert.AdamInRefIdeal.τ).loc Cert.AdamInRefIdeal.main_arg6)) (m ((c.tc : Thread Cert.AdamInRefIdeal.nD Cert.AdamInRefIdeal.τ).loc Cert.AdamInRefIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_no_tie [hKernelIdeal : Cert.KernelIdeal.Facts] [hPre_finite_no_tie : Cert.Pre_finite_no_tie.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_no_tie m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_no_tie [hReferenceIdeal : Cert.ReferenceIdeal.Facts] [hPre_finite_no_tie : Cert.Pre_finite_no_tie.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_no_tie m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2))
      ∧ r.2.sem = fun _ => 0)

def quiescent_FfnAct [hFfnAct : Cert.FfnAct.Facts] : Prop :=
  ∀ (m : (ℓ : Loc Cert.FfnAct.nD Cert.FfnAct.τ Cert.FfnAct.sig) → Buf (Elt Bits) ℓ) (g : Dev Cert.FfnAct.nD → PrngReg), Pre_FfnAct m →
    θ_run (Cert.FfnAct.defs (F := Bits)) (onTc (τ := Cert.FfnAct.τ) (Cert.FfnAct.main (F := Bits))) ⟨m, fun _ => 0, g⟩ (fun r => (∀ c : Dev Cert.FfnAct.nD,
      r.2.mem ((c.tc : Thread Cert.FfnAct.nD Cert.FfnAct.τ).loc Cert.FfnAct.main_arg0) = m ((c.tc : Thread Cert.FfnAct.nD Cert.FfnAct.τ).loc Cert.FfnAct.main_arg0)
      ∧ r.2.mem ((c.tc : Thread Cert.FfnAct.nD Cert.FfnAct.τ).loc Cert.FfnAct.main_arg1) = m ((c.tc : Thread Cert.FfnAct.nD Cert.FfnAct.τ).loc Cert.FfnAct.main_arg1)
      ∧ r.2.mem ((c.tc : Thread Cert.FfnAct.nD Cert.FfnAct.τ).loc Cert.FfnAct.main_arg2) = m ((c.tc : Thread Cert.FfnAct.nD Cert.FfnAct.τ).loc Cert.FfnAct.main_arg2)
      ∧ r.2.mem ((c.tc : Thread Cert.FfnAct.nD Cert.FfnAct.τ).loc Cert.FfnAct.main_arg3) = m ((c.tc : Thread Cert.FfnAct.nD Cert.FfnAct.τ).loc Cert.FfnAct.main_arg3))
      ∧ r.2.sem = fun _ => 0)

def quiescent_FfnActIdeal [hFfnActIdeal : Cert.FfnActIdeal.Facts] : Prop :=
  ∀ (m : (ℓ : Loc Cert.FfnActIdeal.nD Cert.FfnActIdeal.τ Cert.FfnActIdeal.sig) → Buf (Elt Ideal) ℓ) (g : Dev Cert.FfnActIdeal.nD → PrngReg), Pre_FfnActIdeal m →
    θ_run (Cert.FfnActIdeal.defs (F := Ideal)) (onTc (τ := Cert.FfnActIdeal.τ) (Cert.FfnActIdeal.main (F := Ideal))) ⟨m, fun _ => 0, g⟩ (fun r => (∀ c : Dev Cert.FfnActIdeal.nD,
      r.2.mem ((c.tc : Thread Cert.FfnActIdeal.nD Cert.FfnActIdeal.τ).loc Cert.FfnActIdeal.main_arg0) = m ((c.tc : Thread Cert.FfnActIdeal.nD Cert.FfnActIdeal.τ).loc Cert.FfnActIdeal.main_arg0)
      ∧ r.2.mem ((c.tc : Thread Cert.FfnActIdeal.nD Cert.FfnActIdeal.τ).loc Cert.FfnActIdeal.main_arg1) = m ((c.tc : Thread Cert.FfnActIdeal.nD Cert.FfnActIdeal.τ).loc Cert.FfnActIdeal.main_arg1)
      ∧ r.2.mem ((c.tc : Thread Cert.FfnActIdeal.nD Cert.FfnActIdeal.τ).loc Cert.FfnActIdeal.main_arg2) = m ((c.tc : Thread Cert.FfnActIdeal.nD Cert.FfnActIdeal.τ).loc Cert.FfnActIdeal.main_arg2)
      ∧ r.2.mem ((c.tc : Thread Cert.FfnActIdeal.nD Cert.FfnActIdeal.τ).loc Cert.FfnActIdeal.main_arg3) = m ((c.tc : Thread Cert.FfnActIdeal.nD Cert.FfnActIdeal.τ).loc Cert.FfnActIdeal.main_arg3))
      ∧ r.2.sem = fun _ => 0)

def quiescent_FfnActIdeal_pre_finite [hFfnActIdeal : Cert.FfnActIdeal.Facts] [hPre_finite : Cert.Pre_finite.Facts] : Prop :=
  ∀ (m : (ℓ : Loc Cert.FfnActIdeal.nD Cert.FfnActIdeal.τ Cert.FfnActIdeal.sig) → Buf (Elt Ideal) ℓ) (g : Dev Cert.FfnActIdeal.nD → PrngReg), Pre_FfnActIdeal_finite m →
    θ_run (Cert.FfnActIdeal.defs (F := Ideal)) (onTc (τ := Cert.FfnActIdeal.τ) (Cert.FfnActIdeal.main (F := Ideal))) ⟨m, fun _ => 0, g⟩ (fun r => (∀ c : Dev Cert.FfnActIdeal.nD,
      r.2.mem ((c.tc : Thread Cert.FfnActIdeal.nD Cert.FfnActIdeal.τ).loc Cert.FfnActIdeal.main_arg0) = m ((c.tc : Thread Cert.FfnActIdeal.nD Cert.FfnActIdeal.τ).loc Cert.FfnActIdeal.main_arg0)
      ∧ r.2.mem ((c.tc : Thread Cert.FfnActIdeal.nD Cert.FfnActIdeal.τ).loc Cert.FfnActIdeal.main_arg1) = m ((c.tc : Thread Cert.FfnActIdeal.nD Cert.FfnActIdeal.τ).loc Cert.FfnActIdeal.main_arg1)
      ∧ r.2.mem ((c.tc : Thread Cert.FfnActIdeal.nD Cert.FfnActIdeal.τ).loc Cert.FfnActIdeal.main_arg2) = m ((c.tc : Thread Cert.FfnActIdeal.nD Cert.FfnActIdeal.τ).loc Cert.FfnActIdeal.main_arg2)
      ∧ r.2.mem ((c.tc : Thread Cert.FfnActIdeal.nD Cert.FfnActIdeal.τ).loc Cert.FfnActIdeal.main_arg3) = m ((c.tc : Thread Cert.FfnActIdeal.nD Cert.FfnActIdeal.τ).loc Cert.FfnActIdeal.main_arg3))
      ∧ r.2.sem = fun _ => 0)

def quiescent_FfnActRefIdeal [hFfnActRefIdeal : Cert.FfnActRefIdeal.Facts] : Prop :=
  ∀ (m : (ℓ : Loc Cert.FfnActRefIdeal.nD Cert.FfnActRefIdeal.τ Cert.FfnActRefIdeal.sig) → Buf (Elt Ideal) ℓ) (g : Dev Cert.FfnActRefIdeal.nD → PrngReg), Pre_FfnActRefIdeal m →
    θ_run (Cert.FfnActRefIdeal.defs (F := Ideal)) (onTc (τ := Cert.FfnActRefIdeal.τ) (Cert.FfnActRefIdeal.main (F := Ideal))) ⟨m, fun _ => 0, g⟩ (fun r => (∀ c : Dev Cert.FfnActRefIdeal.nD,
      r.2.mem ((c.tc : Thread Cert.FfnActRefIdeal.nD Cert.FfnActRefIdeal.τ).loc Cert.FfnActRefIdeal.main_arg0) = m ((c.tc : Thread Cert.FfnActRefIdeal.nD Cert.FfnActRefIdeal.τ).loc Cert.FfnActRefIdeal.main_arg0)
      ∧ r.2.mem ((c.tc : Thread Cert.FfnActRefIdeal.nD Cert.FfnActRefIdeal.τ).loc Cert.FfnActRefIdeal.main_arg1) = m ((c.tc : Thread Cert.FfnActRefIdeal.nD Cert.FfnActRefIdeal.τ).loc Cert.FfnActRefIdeal.main_arg1)
      ∧ r.2.mem ((c.tc : Thread Cert.FfnActRefIdeal.nD Cert.FfnActRefIdeal.τ).loc Cert.FfnActRefIdeal.main_arg2) = m ((c.tc : Thread Cert.FfnActRefIdeal.nD Cert.FfnActRefIdeal.τ).loc Cert.FfnActRefIdeal.main_arg2)
      ∧ r.2.mem ((c.tc : Thread Cert.FfnActRefIdeal.nD Cert.FfnActRefIdeal.τ).loc Cert.FfnActRefIdeal.main_arg3) = m ((c.tc : Thread Cert.FfnActRefIdeal.nD Cert.FfnActRefIdeal.τ).loc Cert.FfnActRefIdeal.main_arg3))
      ∧ r.2.sem = fun _ => 0)

def quiescent_FfnActRefIdeal_pre_finite [hFfnActRefIdeal : Cert.FfnActRefIdeal.Facts] [hPre_finite : Cert.Pre_finite.Facts] : Prop :=
  ∀ (m : (ℓ : Loc Cert.FfnActRefIdeal.nD Cert.FfnActRefIdeal.τ Cert.FfnActRefIdeal.sig) → Buf (Elt Ideal) ℓ) (g : Dev Cert.FfnActRefIdeal.nD → PrngReg), Pre_FfnActRefIdeal_finite m →
    θ_run (Cert.FfnActRefIdeal.defs (F := Ideal)) (onTc (τ := Cert.FfnActRefIdeal.τ) (Cert.FfnActRefIdeal.main (F := Ideal))) ⟨m, fun _ => 0, g⟩ (fun r => (∀ c : Dev Cert.FfnActRefIdeal.nD,
      r.2.mem ((c.tc : Thread Cert.FfnActRefIdeal.nD Cert.FfnActRefIdeal.τ).loc Cert.FfnActRefIdeal.main_arg0) = m ((c.tc : Thread Cert.FfnActRefIdeal.nD Cert.FfnActRefIdeal.τ).loc Cert.FfnActRefIdeal.main_arg0)
      ∧ r.2.mem ((c.tc : Thread Cert.FfnActRefIdeal.nD Cert.FfnActRefIdeal.τ).loc Cert.FfnActRefIdeal.main_arg1) = m ((c.tc : Thread Cert.FfnActRefIdeal.nD Cert.FfnActRefIdeal.τ).loc Cert.FfnActRefIdeal.main_arg1)
      ∧ r.2.mem ((c.tc : Thread Cert.FfnActRefIdeal.nD Cert.FfnActRefIdeal.τ).loc Cert.FfnActRefIdeal.main_arg2) = m ((c.tc : Thread Cert.FfnActRefIdeal.nD Cert.FfnActRefIdeal.τ).loc Cert.FfnActRefIdeal.main_arg2)
      ∧ r.2.mem ((c.tc : Thread Cert.FfnActRefIdeal.nD Cert.FfnActRefIdeal.τ).loc Cert.FfnActRefIdeal.main_arg3) = m ((c.tc : Thread Cert.FfnActRefIdeal.nD Cert.FfnActRefIdeal.τ).loc Cert.FfnActRefIdeal.main_arg3))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1)
      ∧ r.2.mem ((c.tc : Thread Cert.FfnIn.nD Cert.FfnIn.τ).loc Cert.FfnIn.main_arg2) = m ((c.tc : Thread Cert.FfnIn.nD Cert.FfnIn.τ).loc Cert.FfnIn.main_arg2)
      ∧ r.2.mem ((c.tc : Thread Cert.FfnIn.nD Cert.FfnIn.τ).loc Cert.FfnIn.main_arg3) = m ((c.tc : Thread Cert.FfnIn.nD Cert.FfnIn.τ).loc Cert.FfnIn.main_arg3))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
      ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1)
      ∧ r.2.mem ((c.tc : Thread Cert.FfnInRefIdeal.nD Cert.FfnInRefIdeal.τ).loc Cert.FfnInRefIdeal.main_arg2) = m ((c.tc : Thread Cert.FfnInRefIdeal.nD Cert.FfnInRefIdeal.τ).loc Cert.FfnInRefIdeal.main_arg2)
      ∧ r.2.mem ((c.tc : Thread Cert.FfnInRefIdeal.nD Cert.FfnInRefIdeal.τ).loc Cert.FfnInRefIdeal.main_arg3) = m ((c.tc : Thread Cert.FfnInRefIdeal.nD Cert.FfnInRefIdeal.τ).loc Cert.FfnInRefIdeal.main_arg3))
      ∧ r.2.sem = fun _ => 0)

def quiescent_Dhn [hDhn : Cert.Dhn.Facts] : Prop :=
  ∀ (m : (ℓ : Loc Cert.Dhn.nD Cert.Dhn.τ Cert.Dhn.sig) → Buf (Elt Bits) ℓ) (g : Dev Cert.Dhn.nD → PrngReg), Pre_Dhn m →
    θ_run (Cert.Dhn.defs (F := Bits)) (onTc (τ := Cert.Dhn.τ) (Cert.Dhn.main (F := Bits))) ⟨m, fun _ => 0, g⟩ (fun r => (∀ c : Dev Cert.Dhn.nD,
      r.2.mem ((c.tc : Thread Cert.Dhn.nD Cert.Dhn.τ).loc Cert.Dhn.main_arg0) = m ((c.tc : Thread Cert.Dhn.nD Cert.Dhn.τ).loc Cert.Dhn.main_arg0)
      ∧ r.2.mem ((c.tc : Thread Cert.Dhn.nD Cert.Dhn.τ).loc Cert.Dhn.main_arg1) = m ((c.tc : Thread Cert.Dhn.nD Cert.Dhn.τ).loc Cert.Dhn.main_arg1))
      ∧ r.2.sem = fun _ => 0)

def quiescent_DhnIdeal [hDhnIdeal : Cert.DhnIdeal.Facts] : Prop :=
  ∀ (m : (ℓ : Loc Cert.DhnIdeal.nD Cert.DhnIdeal.τ Cert.DhnIdeal.sig) → Buf (Elt Ideal) ℓ) (g : Dev Cert.DhnIdeal.nD → PrngReg), Pre_DhnIdeal m →
    θ_run (Cert.DhnIdeal.defs (F := Ideal)) (onTc (τ := Cert.DhnIdeal.τ) (Cert.DhnIdeal.main (F := Ideal))) ⟨m, fun _ => 0, g⟩ (fun r => (∀ c : Dev Cert.DhnIdeal.nD,
      r.2.mem ((c.tc : Thread Cert.DhnIdeal.nD Cert.DhnIdeal.τ).loc Cert.DhnIdeal.main_arg0) = m ((c.tc : Thread Cert.DhnIdeal.nD Cert.DhnIdeal.τ).loc Cert.DhnIdeal.main_arg0)
      ∧ r.2.mem ((c.tc : Thread Cert.DhnIdeal.nD Cert.DhnIdeal.τ).loc Cert.DhnIdeal.main_arg1) = m ((c.tc : Thread Cert.DhnIdeal.nD Cert.DhnIdeal.τ).loc Cert.DhnIdeal.main_arg1))
      ∧ r.2.sem = fun _ => 0)

def quiescent_DhnRefIdeal [hDhnRefIdeal : Cert.DhnRefIdeal.Facts] : Prop :=
  ∀ (m : (ℓ : Loc Cert.DhnRefIdeal.nD Cert.DhnRefIdeal.τ Cert.DhnRefIdeal.sig) → Buf (Elt Ideal) ℓ) (g : Dev Cert.DhnRefIdeal.nD → PrngReg), Pre_DhnRefIdeal m →
    θ_run (Cert.DhnRefIdeal.defs (F := Ideal)) (onTc (τ := Cert.DhnRefIdeal.τ) (Cert.DhnRefIdeal.main (F := Ideal))) ⟨m, fun _ => 0, g⟩ (fun r => (∀ c : Dev Cert.DhnRefIdeal.nD,
      r.2.mem ((c.tc : Thread Cert.DhnRefIdeal.nD Cert.DhnRefIdeal.τ).loc Cert.DhnRefIdeal.main_arg0) = m ((c.tc : Thread Cert.DhnRefIdeal.nD Cert.DhnRefIdeal.τ).loc Cert.DhnRefIdeal.main_arg0)
      ∧ r.2.mem ((c.tc : Thread Cert.DhnRefIdeal.nD Cert.DhnRefIdeal.τ).loc Cert.DhnRefIdeal.main_arg1) = m ((c.tc : Thread Cert.DhnRefIdeal.nD Cert.DhnRefIdeal.τ).loc Cert.DhnRefIdeal.main_arg1))
      ∧ r.2.sem = fun _ => 0)

def quiescent_DwQkv [hDwQkv : Cert.DwQkv.Facts] : Prop :=
  ∀ (m : (ℓ : Loc Cert.DwQkv.nD Cert.DwQkv.τ Cert.DwQkv.sig) → Buf (Elt Bits) ℓ) (g : Dev Cert.DwQkv.nD → PrngReg), Pre_DwQkv m →
    θ_run (Cert.DwQkv.defs (F := Bits)) (onTc (τ := Cert.DwQkv.τ) (Cert.DwQkv.main (F := Bits))) ⟨m, fun _ => 0, g⟩ (fun r => (∀ c : Dev Cert.DwQkv.nD,
      r.2.mem ((c.tc : Thread Cert.DwQkv.nD Cert.DwQkv.τ).loc Cert.DwQkv.main_arg0) = m ((c.tc : Thread Cert.DwQkv.nD Cert.DwQkv.τ).loc Cert.DwQkv.main_arg0)
      ∧ r.2.mem ((c.tc : Thread Cert.DwQkv.nD Cert.DwQkv.τ).loc Cert.DwQkv.main_arg1) = m ((c.tc : Thread Cert.DwQkv.nD Cert.DwQkv.τ).loc Cert.DwQkv.main_arg1))
      ∧ r.2.sem = fun _ => 0)

def quiescent_DwQkvIdeal [hDwQkvIdeal : Cert.DwQkvIdeal.Facts] : Prop :=
  ∀ (m : (ℓ : Loc Cert.DwQkvIdeal.nD Cert.DwQkvIdeal.τ Cert.DwQkvIdeal.sig) → Buf (Elt Ideal) ℓ) (g : Dev Cert.DwQkvIdeal.nD → PrngReg), Pre_DwQkvIdeal m →
    θ_run (Cert.DwQkvIdeal.defs (F := Ideal)) (onTc (τ := Cert.DwQkvIdeal.τ) (Cert.DwQkvIdeal.main (F := Ideal))) ⟨m, fun _ => 0, g⟩ (fun r => (∀ c : Dev Cert.DwQkvIdeal.nD,
      r.2.mem ((c.tc : Thread Cert.DwQkvIdeal.nD Cert.DwQkvIdeal.τ).loc Cert.DwQkvIdeal.main_arg0) = m ((c.tc : Thread Cert.DwQkvIdeal.nD Cert.DwQkvIdeal.τ).loc Cert.DwQkvIdeal.main_arg0)
      ∧ r.2.mem ((c.tc : Thread Cert.DwQkvIdeal.nD Cert.DwQkvIdeal.τ).loc Cert.DwQkvIdeal.main_arg1) = m ((c.tc : Thread Cert.DwQkvIdeal.nD Cert.DwQkvIdeal.τ).loc Cert.DwQkvIdeal.main_arg1))
      ∧ r.2.sem = fun _ => 0)

def quiescent_DwQkvRefIdeal [hDwQkvRefIdeal : Cert.DwQkvRefIdeal.Facts] : Prop :=
  ∀ (m : (ℓ : Loc Cert.DwQkvRefIdeal.nD Cert.DwQkvRefIdeal.τ Cert.DwQkvRefIdeal.sig) → Buf (Elt Ideal) ℓ) (g : Dev Cert.DwQkvRefIdeal.nD → PrngReg), Pre_DwQkvRefIdeal m →
    θ_run (Cert.DwQkvRefIdeal.defs (F := Ideal)) (onTc (τ := Cert.DwQkvRefIdeal.τ) (Cert.DwQkvRefIdeal.main (F := Ideal))) ⟨m, fun _ => 0, g⟩ (fun r => (∀ c : Dev Cert.DwQkvRefIdeal.nD,
      r.2.mem ((c.tc : Thread Cert.DwQkvRefIdeal.nD Cert.DwQkvRefIdeal.τ).loc Cert.DwQkvRefIdeal.main_arg0) = m ((c.tc : Thread Cert.DwQkvRefIdeal.nD Cert.DwQkvRefIdeal.τ).loc Cert.DwQkvRefIdeal.main_arg0)
      ∧ r.2.mem ((c.tc : Thread Cert.DwQkvRefIdeal.nD Cert.DwQkvRefIdeal.τ).loc Cert.DwQkvRefIdeal.main_arg1) = m ((c.tc : Thread Cert.DwQkvRefIdeal.nD Cert.DwQkvRefIdeal.τ).loc Cert.DwQkvRefIdeal.main_arg1))
      ∧ r.2.sem = fun _ => 0)

def quiescent_DwE [hDwE : Cert.DwE.Facts] : Prop :=
  ∀ (m : (ℓ : Loc Cert.DwE.nD Cert.DwE.τ Cert.DwE.sig) → Buf (Elt Bits) ℓ) (g : Dev Cert.DwE.nD → PrngReg), Pre_DwE m →
    θ_run (Cert.DwE.defs (F := Bits)) (onTc (τ := Cert.DwE.τ) (Cert.DwE.main (F := Bits))) ⟨m, fun _ => 0, g⟩ (fun r => (∀ c : Dev Cert.DwE.nD,
      r.2.mem ((c.tc : Thread Cert.DwE.nD Cert.DwE.τ).loc Cert.DwE.main_arg0) = m ((c.tc : Thread Cert.DwE.nD Cert.DwE.τ).loc Cert.DwE.main_arg0)
      ∧ r.2.mem ((c.tc : Thread Cert.DwE.nD Cert.DwE.τ).loc Cert.DwE.main_arg1) = m ((c.tc : Thread Cert.DwE.nD Cert.DwE.τ).loc Cert.DwE.main_arg1))
      ∧ r.2.sem = fun _ => 0)

def quiescent_DwEIdeal [hDwEIdeal : Cert.DwEIdeal.Facts] : Prop :=
  ∀ (m : (ℓ : Loc Cert.DwEIdeal.nD Cert.DwEIdeal.τ Cert.DwEIdeal.sig) → Buf (Elt Ideal) ℓ) (g : Dev Cert.DwEIdeal.nD → PrngReg), Pre_DwEIdeal m →
    θ_run (Cert.DwEIdeal.defs (F := Ideal)) (onTc (τ := Cert.DwEIdeal.τ) (Cert.DwEIdeal.main (F := Ideal))) ⟨m, fun _ => 0, g⟩ (fun r => (∀ c : Dev Cert.DwEIdeal.nD,
      r.2.mem ((c.tc : Thread Cert.DwEIdeal.nD Cert.DwEIdeal.τ).loc Cert.DwEIdeal.main_arg0) = m ((c.tc : Thread Cert.DwEIdeal.nD Cert.DwEIdeal.τ).loc Cert.DwEIdeal.main_arg0)
      ∧ r.2.mem ((c.tc : Thread Cert.DwEIdeal.nD Cert.DwEIdeal.τ).loc Cert.DwEIdeal.main_arg1) = m ((c.tc : Thread Cert.DwEIdeal.nD Cert.DwEIdeal.τ).loc Cert.DwEIdeal.main_arg1))
      ∧ r.2.sem = fun _ => 0)

def quiescent_DwERefIdeal [hDwERefIdeal : Cert.DwERefIdeal.Facts] : Prop :=
  ∀ (m : (ℓ : Loc Cert.DwERefIdeal.nD Cert.DwERefIdeal.τ Cert.DwERefIdeal.sig) → Buf (Elt Ideal) ℓ) (g : Dev Cert.DwERefIdeal.nD → PrngReg), Pre_DwERefIdeal m →
    θ_run (Cert.DwERefIdeal.defs (F := Ideal)) (onTc (τ := Cert.DwERefIdeal.τ) (Cert.DwERefIdeal.main (F := Ideal))) ⟨m, fun _ => 0, g⟩ (fun r => (∀ c : Dev Cert.DwERefIdeal.nD,
      r.2.mem ((c.tc : Thread Cert.DwERefIdeal.nD Cert.DwERefIdeal.τ).loc Cert.DwERefIdeal.main_arg0) = m ((c.tc : Thread Cert.DwERefIdeal.nD Cert.DwERefIdeal.τ).loc Cert.DwERefIdeal.main_arg0)
      ∧ r.2.mem ((c.tc : Thread Cert.DwERefIdeal.nD Cert.DwERefIdeal.τ).loc Cert.DwERefIdeal.main_arg1) = m ((c.tc : Thread Cert.DwERefIdeal.nD Cert.DwERefIdeal.τ).loc Cert.DwERefIdeal.main_arg1))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1))
      ∧ r.2.sem = fun _ => 0)

def quiescent_Dmix [hDmix : Cert.Dmix.Facts] : Prop :=
  ∀ (m : (ℓ : Loc Cert.Dmix.nD Cert.Dmix.τ Cert.Dmix.sig) → Buf (Elt Bits) ℓ) (g : Dev Cert.Dmix.nD → PrngReg), Pre_Dmix m →
    θ_run (Cert.Dmix.defs (F := Bits)) (onTc (τ := Cert.Dmix.τ) (Cert.Dmix.main (F := Bits))) ⟨m, fun _ => 0, g⟩ (fun r => (∀ c : Dev Cert.Dmix.nD,
      r.2.mem ((c.tc : Thread Cert.Dmix.nD Cert.Dmix.τ).loc Cert.Dmix.main_arg0) = m ((c.tc : Thread Cert.Dmix.nD Cert.Dmix.τ).loc Cert.Dmix.main_arg0)
      ∧ r.2.mem ((c.tc : Thread Cert.Dmix.nD Cert.Dmix.τ).loc Cert.Dmix.main_arg1) = m ((c.tc : Thread Cert.Dmix.nD Cert.Dmix.τ).loc Cert.Dmix.main_arg1))
      ∧ r.2.sem = fun _ => 0)

def quiescent_DmixIdeal [hDmixIdeal : Cert.DmixIdeal.Facts] : Prop :=
  ∀ (m : (ℓ : Loc Cert.DmixIdeal.nD Cert.DmixIdeal.τ Cert.DmixIdeal.sig) → Buf (Elt Ideal) ℓ) (g : Dev Cert.DmixIdeal.nD → PrngReg), Pre_DmixIdeal m →
    θ_run (Cert.DmixIdeal.defs (F := Ideal)) (onTc (τ := Cert.DmixIdeal.τ) (Cert.DmixIdeal.main (F := Ideal))) ⟨m, fun _ => 0, g⟩ (fun r => (∀ c : Dev Cert.DmixIdeal.nD,
      r.2.mem ((c.tc : Thread Cert.DmixIdeal.nD Cert.DmixIdeal.τ).loc Cert.DmixIdeal.main_arg0) = m ((c.tc : Thread Cert.DmixIdeal.nD Cert.DmixIdeal.τ).loc Cert.DmixIdeal.main_arg0)
      ∧ r.2.mem ((c.tc : Thread Cert.DmixIdeal.nD Cert.DmixIdeal.τ).loc Cert.DmixIdeal.main_arg1) = m ((c.tc : Thread Cert.DmixIdeal.nD Cert.DmixIdeal.τ).loc Cert.DmixIdeal.main_arg1))
      ∧ r.2.sem = fun _ => 0)

def quiescent_DmixRefIdeal [hDmixRefIdeal : Cert.DmixRefIdeal.Facts] : Prop :=
  ∀ (m : (ℓ : Loc Cert.DmixRefIdeal.nD Cert.DmixRefIdeal.τ Cert.DmixRefIdeal.sig) → Buf (Elt Ideal) ℓ) (g : Dev Cert.DmixRefIdeal.nD → PrngReg), Pre_DmixRefIdeal m →
    θ_run (Cert.DmixRefIdeal.defs (F := Ideal)) (onTc (τ := Cert.DmixRefIdeal.τ) (Cert.DmixRefIdeal.main (F := Ideal))) ⟨m, fun _ => 0, g⟩ (fun r => (∀ c : Dev Cert.DmixRefIdeal.nD,
      r.2.mem ((c.tc : Thread Cert.DmixRefIdeal.nD Cert.DmixRefIdeal.τ).loc Cert.DmixRefIdeal.main_arg0) = m ((c.tc : Thread Cert.DmixRefIdeal.nD Cert.DmixRefIdeal.τ).loc Cert.DmixRefIdeal.main_arg0)
      ∧ r.2.mem ((c.tc : Thread Cert.DmixRefIdeal.nD Cert.DmixRefIdeal.τ).loc Cert.DmixRefIdeal.main_arg1) = m ((c.tc : Thread Cert.DmixRefIdeal.nD Cert.DmixRefIdeal.τ).loc Cert.DmixRefIdeal.main_arg1))
      ∧ r.2.sem = fun _ => 0)

def quiescent_ProjQkv [hProjQkv : Cert.ProjQkv.Facts] : Prop :=
  ∀ (m : (ℓ : Loc Cert.ProjQkv.nD Cert.ProjQkv.τ Cert.ProjQkv.sig) → Buf (Elt Bits) ℓ) (g : Dev Cert.ProjQkv.nD → PrngReg), Pre_ProjQkv m →
    θ_run (Cert.ProjQkv.defs (F := Bits)) (onTc (τ := Cert.ProjQkv.τ) (Cert.ProjQkv.main (F := Bits))) ⟨m, fun _ => 0, g⟩ (fun r => (∀ c : Dev Cert.ProjQkv.nD,
      r.2.mem ((c.tc : Thread Cert.ProjQkv.nD Cert.ProjQkv.τ).loc Cert.ProjQkv.main_arg0) = m ((c.tc : Thread Cert.ProjQkv.nD Cert.ProjQkv.τ).loc Cert.ProjQkv.main_arg0)
      ∧ r.2.mem ((c.tc : Thread Cert.ProjQkv.nD Cert.ProjQkv.τ).loc Cert.ProjQkv.main_arg1) = m ((c.tc : Thread Cert.ProjQkv.nD Cert.ProjQkv.τ).loc Cert.ProjQkv.main_arg1))
      ∧ r.2.sem = fun _ => 0)

def quiescent_ProjQkvIdeal [hProjQkvIdeal : Cert.ProjQkvIdeal.Facts] : Prop :=
  ∀ (m : (ℓ : Loc Cert.ProjQkvIdeal.nD Cert.ProjQkvIdeal.τ Cert.ProjQkvIdeal.sig) → Buf (Elt Ideal) ℓ) (g : Dev Cert.ProjQkvIdeal.nD → PrngReg), Pre_ProjQkvIdeal m →
    θ_run (Cert.ProjQkvIdeal.defs (F := Ideal)) (onTc (τ := Cert.ProjQkvIdeal.τ) (Cert.ProjQkvIdeal.main (F := Ideal))) ⟨m, fun _ => 0, g⟩ (fun r => (∀ c : Dev Cert.ProjQkvIdeal.nD,
      r.2.mem ((c.tc : Thread Cert.ProjQkvIdeal.nD Cert.ProjQkvIdeal.τ).loc Cert.ProjQkvIdeal.main_arg0) = m ((c.tc : Thread Cert.ProjQkvIdeal.nD Cert.ProjQkvIdeal.τ).loc Cert.ProjQkvIdeal.main_arg0)
      ∧ r.2.mem ((c.tc : Thread Cert.ProjQkvIdeal.nD Cert.ProjQkvIdeal.τ).loc Cert.ProjQkvIdeal.main_arg1) = m ((c.tc : Thread Cert.ProjQkvIdeal.nD Cert.ProjQkvIdeal.τ).loc Cert.ProjQkvIdeal.main_arg1))
      ∧ r.2.sem = fun _ => 0)

def quiescent_ProjQkvRefIdeal [hProjQkvRefIdeal : Cert.ProjQkvRefIdeal.Facts] : Prop :=
  ∀ (m : (ℓ : Loc Cert.ProjQkvRefIdeal.nD Cert.ProjQkvRefIdeal.τ Cert.ProjQkvRefIdeal.sig) → Buf (Elt Ideal) ℓ) (g : Dev Cert.ProjQkvRefIdeal.nD → PrngReg), Pre_ProjQkvRefIdeal m →
    θ_run (Cert.ProjQkvRefIdeal.defs (F := Ideal)) (onTc (τ := Cert.ProjQkvRefIdeal.τ) (Cert.ProjQkvRefIdeal.main (F := Ideal))) ⟨m, fun _ => 0, g⟩ (fun r => (∀ c : Dev Cert.ProjQkvRefIdeal.nD,
      r.2.mem ((c.tc : Thread Cert.ProjQkvRefIdeal.nD Cert.ProjQkvRefIdeal.τ).loc Cert.ProjQkvRefIdeal.main_arg0) = m ((c.tc : Thread Cert.ProjQkvRefIdeal.nD Cert.ProjQkvRefIdeal.τ).loc Cert.ProjQkvRefIdeal.main_arg0)
      ∧ r.2.mem ((c.tc : Thread Cert.ProjQkvRefIdeal.nD Cert.ProjQkvRefIdeal.τ).loc Cert.ProjQkvRefIdeal.main_arg1) = m ((c.tc : Thread Cert.ProjQkvRefIdeal.nD Cert.ProjQkvRefIdeal.τ).loc Cert.ProjQkvRefIdeal.main_arg1))
      ∧ r.2.sem = fun _ => 0)

def quiescent_ProjE [hProjE : Cert.ProjE.Facts] : Prop :=
  ∀ (m : (ℓ : Loc Cert.ProjE.nD Cert.ProjE.τ Cert.ProjE.sig) → Buf (Elt Bits) ℓ) (g : Dev Cert.ProjE.nD → PrngReg), Pre_ProjE m →
    θ_run (Cert.ProjE.defs (F := Bits)) (onTc (τ := Cert.ProjE.τ) (Cert.ProjE.main (F := Bits))) ⟨m, fun _ => 0, g⟩ (fun r => (∀ c : Dev Cert.ProjE.nD,
      r.2.mem ((c.tc : Thread Cert.ProjE.nD Cert.ProjE.τ).loc Cert.ProjE.main_arg0) = m ((c.tc : Thread Cert.ProjE.nD Cert.ProjE.τ).loc Cert.ProjE.main_arg0)
      ∧ r.2.mem ((c.tc : Thread Cert.ProjE.nD Cert.ProjE.τ).loc Cert.ProjE.main_arg1) = m ((c.tc : Thread Cert.ProjE.nD Cert.ProjE.τ).loc Cert.ProjE.main_arg1))
      ∧ r.2.sem = fun _ => 0)

def quiescent_ProjEIdeal [hProjEIdeal : Cert.ProjEIdeal.Facts] : Prop :=
  ∀ (m : (ℓ : Loc Cert.ProjEIdeal.nD Cert.ProjEIdeal.τ Cert.ProjEIdeal.sig) → Buf (Elt Ideal) ℓ) (g : Dev Cert.ProjEIdeal.nD → PrngReg), Pre_ProjEIdeal m →
    θ_run (Cert.ProjEIdeal.defs (F := Ideal)) (onTc (τ := Cert.ProjEIdeal.τ) (Cert.ProjEIdeal.main (F := Ideal))) ⟨m, fun _ => 0, g⟩ (fun r => (∀ c : Dev Cert.ProjEIdeal.nD,
      r.2.mem ((c.tc : Thread Cert.ProjEIdeal.nD Cert.ProjEIdeal.τ).loc Cert.ProjEIdeal.main_arg0) = m ((c.tc : Thread Cert.ProjEIdeal.nD Cert.ProjEIdeal.τ).loc Cert.ProjEIdeal.main_arg0)
      ∧ r.2.mem ((c.tc : Thread Cert.ProjEIdeal.nD Cert.ProjEIdeal.τ).loc Cert.ProjEIdeal.main_arg1) = m ((c.tc : Thread Cert.ProjEIdeal.nD Cert.ProjEIdeal.τ).loc Cert.ProjEIdeal.main_arg1))
      ∧ r.2.sem = fun _ => 0)

def quiescent_ProjERefIdeal [hProjERefIdeal : Cert.ProjERefIdeal.Facts] : Prop :=
  ∀ (m : (ℓ : Loc Cert.ProjERefIdeal.nD Cert.ProjERefIdeal.τ Cert.ProjERefIdeal.sig) → Buf (Elt Ideal) ℓ) (g : Dev Cert.ProjERefIdeal.nD → PrngReg), Pre_ProjERefIdeal m →
    θ_run (Cert.ProjERefIdeal.defs (F := Ideal)) (onTc (τ := Cert.ProjERefIdeal.τ) (Cert.ProjERefIdeal.main (F := Ideal))) ⟨m, fun _ => 0, g⟩ (fun r => (∀ c : Dev Cert.ProjERefIdeal.nD,
      r.2.mem ((c.tc : Thread Cert.ProjERefIdeal.nD Cert.ProjERefIdeal.τ).loc Cert.ProjERefIdeal.main_arg0) = m ((c.tc : Thread Cert.ProjERefIdeal.nD Cert.ProjERefIdeal.τ).loc Cert.ProjERefIdeal.main_arg0)
      ∧ r.2.mem ((c.tc : Thread Cert.ProjERefIdeal.nD Cert.ProjERefIdeal.τ).loc Cert.ProjERefIdeal.main_arg1) = m ((c.tc : Thread Cert.ProjERefIdeal.nD Cert.ProjERefIdeal.τ).loc Cert.ProjERefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_AdamGate0 [hAdamGate0 : Cert.AdamGate0.Facts] : Prop :=
  ∀ (m : (ℓ : Loc Cert.AdamGate0.nD Cert.AdamGate0.τ Cert.AdamGate0.sig) → Buf (Elt Bits) ℓ) (g : Dev Cert.AdamGate0.nD → PrngReg), Pre_AdamGate0 m →
    θ_run (Cert.AdamGate0.defs (F := Bits)) (onTc (τ := Cert.AdamGate0.τ) (Cert.AdamGate0.main (F := Bits))) ⟨m, fun _ => 0, g⟩ (fun r => (∀ c : Dev Cert.AdamGate0.nD,
      r.2.mem ((c.tc : Thread Cert.AdamGate0.nD Cert.AdamGate0.τ).loc Cert.AdamGate0.main_arg0) = m ((c.tc : Thread Cert.AdamGate0.nD Cert.AdamGate0.τ).loc Cert.AdamGate0.main_arg0)
      ∧ r.2.mem ((c.tc : Thread Cert.AdamGate0.nD Cert.AdamGate0.τ).loc Cert.AdamGate0.main_arg1) = m ((c.tc : Thread Cert.AdamGate0.nD Cert.AdamGate0.τ).loc Cert.AdamGate0.main_arg1)
      ∧ r.2.mem ((c.tc : Thread Cert.AdamGate0.nD Cert.AdamGate0.τ).loc Cert.AdamGate0.main_arg2) = m ((c.tc : Thread Cert.AdamGate0.nD Cert.AdamGate0.τ).loc Cert.AdamGate0.main_arg2)
      ∧ r.2.mem ((c.tc : Thread Cert.AdamGate0.nD Cert.AdamGate0.τ).loc Cert.AdamGate0.main_arg3) = m ((c.tc : Thread Cert.AdamGate0.nD Cert.AdamGate0.τ).loc Cert.AdamGate0.main_arg3)
      ∧ r.2.mem ((c.tc : Thread Cert.AdamGate0.nD Cert.AdamGate0.τ).loc Cert.AdamGate0.main_arg4) = m ((c.tc : Thread Cert.AdamGate0.nD Cert.AdamGate0.τ).loc Cert.AdamGate0.main_arg4)
      ∧ r.2.mem ((c.tc : Thread Cert.AdamGate0.nD Cert.AdamGate0.τ).loc Cert.AdamGate0.main_arg5) = m ((c.tc : Thread Cert.AdamGate0.nD Cert.AdamGate0.τ).loc Cert.AdamGate0.main_arg5))
      ∧ r.2.sem = fun _ => 0)

def quiescent_AdamGate0Ideal [hAdamGate0Ideal : Cert.AdamGate0Ideal.Facts] : Prop :=
  ∀ (m : (ℓ : Loc Cert.AdamGate0Ideal.nD Cert.AdamGate0Ideal.τ Cert.AdamGate0Ideal.sig) → Buf (Elt Ideal) ℓ) (g : Dev Cert.AdamGate0Ideal.nD → PrngReg), Pre_AdamGate0Ideal m →
    θ_run (Cert.AdamGate0Ideal.defs (F := Ideal)) (onTc (τ := Cert.AdamGate0Ideal.τ) (Cert.AdamGate0Ideal.main (F := Ideal))) ⟨m, fun _ => 0, g⟩ (fun r => (∀ c : Dev Cert.AdamGate0Ideal.nD,
      r.2.mem ((c.tc : Thread Cert.AdamGate0Ideal.nD Cert.AdamGate0Ideal.τ).loc Cert.AdamGate0Ideal.main_arg0) = m ((c.tc : Thread Cert.AdamGate0Ideal.nD Cert.AdamGate0Ideal.τ).loc Cert.AdamGate0Ideal.main_arg0)
      ∧ r.2.mem ((c.tc : Thread Cert.AdamGate0Ideal.nD Cert.AdamGate0Ideal.τ).loc Cert.AdamGate0Ideal.main_arg1) = m ((c.tc : Thread Cert.AdamGate0Ideal.nD Cert.AdamGate0Ideal.τ).loc Cert.AdamGate0Ideal.main_arg1)
      ∧ r.2.mem ((c.tc : Thread Cert.AdamGate0Ideal.nD Cert.AdamGate0Ideal.τ).loc Cert.AdamGate0Ideal.main_arg2) = m ((c.tc : Thread Cert.AdamGate0Ideal.nD Cert.AdamGate0Ideal.τ).loc Cert.AdamGate0Ideal.main_arg2)
      ∧ r.2.mem ((c.tc : Thread Cert.AdamGate0Ideal.nD Cert.AdamGate0Ideal.τ).loc Cert.AdamGate0Ideal.main_arg3) = m ((c.tc : Thread Cert.AdamGate0Ideal.nD Cert.AdamGate0Ideal.τ).loc Cert.AdamGate0Ideal.main_arg3)
      ∧ r.2.mem ((c.tc : Thread Cert.AdamGate0Ideal.nD Cert.AdamGate0Ideal.τ).loc Cert.AdamGate0Ideal.main_arg4) = m ((c.tc : Thread Cert.AdamGate0Ideal.nD Cert.AdamGate0Ideal.τ).loc Cert.AdamGate0Ideal.main_arg4)
      ∧ r.2.mem ((c.tc : Thread Cert.AdamGate0Ideal.nD Cert.AdamGate0Ideal.τ).loc Cert.AdamGate0Ideal.main_arg5) = m ((c.tc : Thread Cert.AdamGate0Ideal.nD Cert.AdamGate0Ideal.τ).loc Cert.AdamGate0Ideal.main_arg5))
      ∧ r.2.sem = fun _ => 0)

def quiescent_AdamGate0Ideal_pre_core_gate0 [hAdamGate0Ideal : Cert.AdamGate0Ideal.Facts] [hPre_core_gate0 : Cert.Pre_core_gate0.Facts] : Prop :=
  ∀ (m : (ℓ : Loc Cert.AdamGate0Ideal.nD Cert.AdamGate0Ideal.τ Cert.AdamGate0Ideal.sig) → Buf (Elt Ideal) ℓ) (g : Dev Cert.AdamGate0Ideal.nD → PrngReg), Pre_AdamGate0Ideal_core_gate0 m →
    θ_run (Cert.AdamGate0Ideal.defs (F := Ideal)) (onTc (τ := Cert.AdamGate0Ideal.τ) (Cert.AdamGate0Ideal.main (F := Ideal))) ⟨m, fun _ => 0, g⟩ (fun r => (∀ c : Dev Cert.AdamGate0Ideal.nD,
      r.2.mem ((c.tc : Thread Cert.AdamGate0Ideal.nD Cert.AdamGate0Ideal.τ).loc Cert.AdamGate0Ideal.main_arg0) = m ((c.tc : Thread Cert.AdamGate0Ideal.nD Cert.AdamGate0Ideal.τ).loc Cert.AdamGate0Ideal.main_arg0)
      ∧ r.2.mem ((c.tc : Thread Cert.AdamGate0Ideal.nD Cert.AdamGate0Ideal.τ).loc Cert.AdamGate0Ideal.main_arg1) = m ((c.tc : Thread Cert.AdamGate0Ideal.nD Cert.AdamGate0Ideal.τ).loc Cert.AdamGate0Ideal.main_arg1)
      ∧ r.2.mem ((c.tc : Thread Cert.AdamGate0Ideal.nD Cert.AdamGate0Ideal.τ).loc Cert.AdamGate0Ideal.main_arg2) = m ((c.tc : Thread Cert.AdamGate0Ideal.nD Cert.AdamGate0Ideal.τ).loc Cert.AdamGate0Ideal.main_arg2)
      ∧ r.2.mem ((c.tc : Thread Cert.AdamGate0Ideal.nD Cert.AdamGate0Ideal.τ).loc Cert.AdamGate0Ideal.main_arg3) = m ((c.tc : Thread Cert.AdamGate0Ideal.nD Cert.AdamGate0Ideal.τ).loc Cert.AdamGate0Ideal.main_arg3)
      ∧ r.2.mem ((c.tc : Thread Cert.AdamGate0Ideal.nD Cert.AdamGate0Ideal.τ).loc Cert.AdamGate0Ideal.main_arg4) = m ((c.tc : Thread Cert.AdamGate0Ideal.nD Cert.AdamGate0Ideal.τ).loc Cert.AdamGate0Ideal.main_arg4)
      ∧ r.2.mem ((c.tc : Thread Cert.AdamGate0Ideal.nD Cert.AdamGate0Ideal.τ).loc Cert.AdamGate0Ideal.main_arg5) = m ((c.tc : Thread Cert.AdamGate0Ideal.nD Cert.AdamGate0Ideal.τ).loc Cert.AdamGate0Ideal.main_arg5))
      ∧ r.2.sem = fun _ => 0)

def quiescent_AdamGate0RefIdeal [hAdamGate0RefIdeal : Cert.AdamGate0RefIdeal.Facts] : Prop :=
  ∀ (m : (ℓ : Loc Cert.AdamGate0RefIdeal.nD Cert.AdamGate0RefIdeal.τ Cert.AdamGate0RefIdeal.sig) → Buf (Elt Ideal) ℓ) (g : Dev Cert.AdamGate0RefIdeal.nD → PrngReg), Pre_AdamGate0RefIdeal m →
    θ_run (Cert.AdamGate0RefIdeal.defs (F := Ideal)) (onTc (τ := Cert.AdamGate0RefIdeal.τ) (Cert.AdamGate0RefIdeal.main (F := Ideal))) ⟨m, fun _ => 0, g⟩ (fun r => (∀ c : Dev Cert.AdamGate0RefIdeal.nD,
      r.2.mem ((c.tc : Thread Cert.AdamGate0RefIdeal.nD Cert.AdamGate0RefIdeal.τ).loc Cert.AdamGate0RefIdeal.main_arg0) = m ((c.tc : Thread Cert.AdamGate0RefIdeal.nD Cert.AdamGate0RefIdeal.τ).loc Cert.AdamGate0RefIdeal.main_arg0)
      ∧ r.2.mem ((c.tc : Thread Cert.AdamGate0RefIdeal.nD Cert.AdamGate0RefIdeal.τ).loc Cert.AdamGate0RefIdeal.main_arg1) = m ((c.tc : Thread Cert.AdamGate0RefIdeal.nD Cert.AdamGate0RefIdeal.τ).loc Cert.AdamGate0RefIdeal.main_arg1)
      ∧ r.2.mem ((c.tc : Thread Cert.AdamGate0RefIdeal.nD Cert.AdamGate0RefIdeal.τ).loc Cert.AdamGate0RefIdeal.main_arg2) = m ((c.tc : Thread Cert.AdamGate0RefIdeal.nD Cert.AdamGate0RefIdeal.τ).loc Cert.AdamGate0RefIdeal.main_arg2)
      ∧ r.2.mem ((c.tc : Thread Cert.AdamGate0RefIdeal.nD Cert.AdamGate0RefIdeal.τ).loc Cert.AdamGate0RefIdeal.main_arg3) = m ((c.tc : Thread Cert.AdamGate0RefIdeal.nD Cert.AdamGate0RefIdeal.τ).loc Cert.AdamGate0RefIdeal.main_arg3)
      ∧ r.2.mem ((c.tc : Thread Cert.AdamGate0RefIdeal.nD Cert.AdamGate0RefIdeal.τ).loc Cert.AdamGate0RefIdeal.main_arg4) = m ((c.tc : Thread Cert.AdamGate0RefIdeal.nD Cert.AdamGate0RefIdeal.τ).loc Cert.AdamGate0RefIdeal.main_arg4)
      ∧ r.2.mem ((c.tc : Thread Cert.AdamGate0RefIdeal.nD Cert.AdamGate0RefIdeal.τ).loc Cert.AdamGate0RefIdeal.main_arg5) = m ((c.tc : Thread Cert.AdamGate0RefIdeal.nD Cert.AdamGate0RefIdeal.τ).loc Cert.AdamGate0RefIdeal.main_arg5))
      ∧ r.2.sem = fun _ => 0)

def quiescent_AdamGate0RefIdeal_pre_core_gate0 [hAdamGate0RefIdeal : Cert.AdamGate0RefIdeal.Facts] [hPre_core_gate0 : Cert.Pre_core_gate0.Facts] : Prop :=
  ∀ (m : (ℓ : Loc Cert.AdamGate0RefIdeal.nD Cert.AdamGate0RefIdeal.τ Cert.AdamGate0RefIdeal.sig) → Buf (Elt Ideal) ℓ) (g : Dev Cert.AdamGate0RefIdeal.nD → PrngReg), Pre_AdamGate0RefIdeal_core_gate0 m →
    θ_run (Cert.AdamGate0RefIdeal.defs (F := Ideal)) (onTc (τ := Cert.AdamGate0RefIdeal.τ) (Cert.AdamGate0RefIdeal.main (F := Ideal))) ⟨m, fun _ => 0, g⟩ (fun r => (∀ c : Dev Cert.AdamGate0RefIdeal.nD,
      r.2.mem ((c.tc : Thread Cert.AdamGate0RefIdeal.nD Cert.AdamGate0RefIdeal.τ).loc Cert.AdamGate0RefIdeal.main_arg0) = m ((c.tc : Thread Cert.AdamGate0RefIdeal.nD Cert.AdamGate0RefIdeal.τ).loc Cert.AdamGate0RefIdeal.main_arg0)
      ∧ r.2.mem ((c.tc : Thread Cert.AdamGate0RefIdeal.nD Cert.AdamGate0RefIdeal.τ).loc Cert.AdamGate0RefIdeal.main_arg1) = m ((c.tc : Thread Cert.AdamGate0RefIdeal.nD Cert.AdamGate0RefIdeal.τ).loc Cert.AdamGate0RefIdeal.main_arg1)
      ∧ r.2.mem ((c.tc : Thread Cert.AdamGate0RefIdeal.nD Cert.AdamGate0RefIdeal.τ).loc Cert.AdamGate0RefIdeal.main_arg2) = m ((c.tc : Thread Cert.AdamGate0RefIdeal.nD Cert.AdamGate0RefIdeal.τ).loc Cert.AdamGate0RefIdeal.main_arg2)
      ∧ r.2.mem ((c.tc : Thread Cert.AdamGate0RefIdeal.nD Cert.AdamGate0RefIdeal.τ).loc Cert.AdamGate0RefIdeal.main_arg3) = m ((c.tc : Thread Cert.AdamGate0RefIdeal.nD Cert.AdamGate0RefIdeal.τ).loc Cert.AdamGate0RefIdeal.main_arg3)
      ∧ r.2.mem ((c.tc : Thread Cert.AdamGate0RefIdeal.nD Cert.AdamGate0RefIdeal.τ).loc Cert.AdamGate0RefIdeal.main_arg4) = m ((c.tc : Thread Cert.AdamGate0RefIdeal.nD Cert.AdamGate0RefIdeal.τ).loc Cert.AdamGate0RefIdeal.main_arg4)
      ∧ r.2.mem ((c.tc : Thread Cert.AdamGate0RefIdeal.nD Cert.AdamGate0RefIdeal.τ).loc Cert.AdamGate0RefIdeal.main_arg5) = m ((c.tc : Thread Cert.AdamGate0RefIdeal.nD Cert.AdamGate0RefIdeal.τ).loc Cert.AdamGate0RefIdeal.main_arg5))
      ∧ r.2.sem = fun _ => 0)

def quiescent_AdamGate1 [hAdamGate1 : Cert.AdamGate1.Facts] : Prop :=
  ∀ (m : (ℓ : Loc Cert.AdamGate1.nD Cert.AdamGate1.τ Cert.AdamGate1.sig) → Buf (Elt Bits) ℓ) (g : Dev Cert.AdamGate1.nD → PrngReg), Pre_AdamGate1 m →
    θ_run (Cert.AdamGate1.defs (F := Bits)) (onTc (τ := Cert.AdamGate1.τ) (Cert.AdamGate1.main (F := Bits))) ⟨m, fun _ => 0, g⟩ (fun r => (∀ c : Dev Cert.AdamGate1.nD,
      r.2.mem ((c.tc : Thread Cert.AdamGate1.nD Cert.AdamGate1.τ).loc Cert.AdamGate1.main_arg0) = m ((c.tc : Thread Cert.AdamGate1.nD Cert.AdamGate1.τ).loc Cert.AdamGate1.main_arg0)
      ∧ r.2.mem ((c.tc : Thread Cert.AdamGate1.nD Cert.AdamGate1.τ).loc Cert.AdamGate1.main_arg1) = m ((c.tc : Thread Cert.AdamGate1.nD Cert.AdamGate1.τ).loc Cert.AdamGate1.main_arg1)
      ∧ r.2.mem ((c.tc : Thread Cert.AdamGate1.nD Cert.AdamGate1.τ).loc Cert.AdamGate1.main_arg2) = m ((c.tc : Thread Cert.AdamGate1.nD Cert.AdamGate1.τ).loc Cert.AdamGate1.main_arg2)
      ∧ r.2.mem ((c.tc : Thread Cert.AdamGate1.nD Cert.AdamGate1.τ).loc Cert.AdamGate1.main_arg3) = m ((c.tc : Thread Cert.AdamGate1.nD Cert.AdamGate1.τ).loc Cert.AdamGate1.main_arg3)
      ∧ r.2.mem ((c.tc : Thread Cert.AdamGate1.nD Cert.AdamGate1.τ).loc Cert.AdamGate1.main_arg4) = m ((c.tc : Thread Cert.AdamGate1.nD Cert.AdamGate1.τ).loc Cert.AdamGate1.main_arg4)
      ∧ r.2.mem ((c.tc : Thread Cert.AdamGate1.nD Cert.AdamGate1.τ).loc Cert.AdamGate1.main_arg5) = m ((c.tc : Thread Cert.AdamGate1.nD Cert.AdamGate1.τ).loc Cert.AdamGate1.main_arg5)
      ∧ r.2.mem ((c.tc : Thread Cert.AdamGate1.nD Cert.AdamGate1.τ).loc Cert.AdamGate1.main_arg6) = m ((c.tc : Thread Cert.AdamGate1.nD Cert.AdamGate1.τ).loc Cert.AdamGate1.main_arg6)
      ∧ r.2.mem ((c.tc : Thread Cert.AdamGate1.nD Cert.AdamGate1.τ).loc Cert.AdamGate1.main_arg7) = m ((c.tc : Thread Cert.AdamGate1.nD Cert.AdamGate1.τ).loc Cert.AdamGate1.main_arg7)
      ∧ r.2.mem ((c.tc : Thread Cert.AdamGate1.nD Cert.AdamGate1.τ).loc Cert.AdamGate1.main_arg8) = m ((c.tc : Thread Cert.AdamGate1.nD Cert.AdamGate1.τ).loc Cert.AdamGate1.main_arg8)
      ∧ r.2.mem ((c.tc : Thread Cert.AdamGate1.nD Cert.AdamGate1.τ).loc Cert.AdamGate1.main_arg9) = m ((c.tc : Thread Cert.AdamGate1.nD Cert.AdamGate1.τ).loc Cert.AdamGate1.main_arg9))
      ∧ r.2.sem = fun _ => 0)

def quiescent_AdamGate1Ideal [hAdamGate1Ideal : Cert.AdamGate1Ideal.Facts] : Prop :=
  ∀ (m : (ℓ : Loc Cert.AdamGate1Ideal.nD Cert.AdamGate1Ideal.τ Cert.AdamGate1Ideal.sig) → Buf (Elt Ideal) ℓ) (g : Dev Cert.AdamGate1Ideal.nD → PrngReg), Pre_AdamGate1Ideal m →
    θ_run (Cert.AdamGate1Ideal.defs (F := Ideal)) (onTc (τ := Cert.AdamGate1Ideal.τ) (Cert.AdamGate1Ideal.main (F := Ideal))) ⟨m, fun _ => 0, g⟩ (fun r => (∀ c : Dev Cert.AdamGate1Ideal.nD,
      r.2.mem ((c.tc : Thread Cert.AdamGate1Ideal.nD Cert.AdamGate1Ideal.τ).loc Cert.AdamGate1Ideal.main_arg0) = m ((c.tc : Thread Cert.AdamGate1Ideal.nD Cert.AdamGate1Ideal.τ).loc Cert.AdamGate1Ideal.main_arg0)
      ∧ r.2.mem ((c.tc : Thread Cert.AdamGate1Ideal.nD Cert.AdamGate1Ideal.τ).loc Cert.AdamGate1Ideal.main_arg1) = m ((c.tc : Thread Cert.AdamGate1Ideal.nD Cert.AdamGate1Ideal.τ).loc Cert.AdamGate1Ideal.main_arg1)
      ∧ r.2.mem ((c.tc : Thread Cert.AdamGate1Ideal.nD Cert.AdamGate1Ideal.τ).loc Cert.AdamGate1Ideal.main_arg2) = m ((c.tc : Thread Cert.AdamGate1Ideal.nD Cert.AdamGate1Ideal.τ).loc Cert.AdamGate1Ideal.main_arg2)
      ∧ r.2.mem ((c.tc : Thread Cert.AdamGate1Ideal.nD Cert.AdamGate1Ideal.τ).loc Cert.AdamGate1Ideal.main_arg3) = m ((c.tc : Thread Cert.AdamGate1Ideal.nD Cert.AdamGate1Ideal.τ).loc Cert.AdamGate1Ideal.main_arg3)
      ∧ r.2.mem ((c.tc : Thread Cert.AdamGate1Ideal.nD Cert.AdamGate1Ideal.τ).loc Cert.AdamGate1Ideal.main_arg4) = m ((c.tc : Thread Cert.AdamGate1Ideal.nD Cert.AdamGate1Ideal.τ).loc Cert.AdamGate1Ideal.main_arg4)
      ∧ r.2.mem ((c.tc : Thread Cert.AdamGate1Ideal.nD Cert.AdamGate1Ideal.τ).loc Cert.AdamGate1Ideal.main_arg5) = m ((c.tc : Thread Cert.AdamGate1Ideal.nD Cert.AdamGate1Ideal.τ).loc Cert.AdamGate1Ideal.main_arg5)
      ∧ r.2.mem ((c.tc : Thread Cert.AdamGate1Ideal.nD Cert.AdamGate1Ideal.τ).loc Cert.AdamGate1Ideal.main_arg6) = m ((c.tc : Thread Cert.AdamGate1Ideal.nD Cert.AdamGate1Ideal.τ).loc Cert.AdamGate1Ideal.main_arg6)
      ∧ r.2.mem ((c.tc : Thread Cert.AdamGate1Ideal.nD Cert.AdamGate1Ideal.τ).loc Cert.AdamGate1Ideal.main_arg7) = m ((c.tc : Thread Cert.AdamGate1Ideal.nD Cert.AdamGate1Ideal.τ).loc Cert.AdamGate1Ideal.main_arg7)
      ∧ r.2.mem ((c.tc : Thread Cert.AdamGate1Ideal.nD Cert.AdamGate1Ideal.τ).loc Cert.AdamGate1Ideal.main_arg8) = m ((c.tc : Thread Cert.AdamGate1Ideal.nD Cert.AdamGate1Ideal.τ).loc Cert.AdamGate1Ideal.main_arg8)
      ∧ r.2.mem ((c.tc : Thread Cert.AdamGate1Ideal.nD Cert.AdamGate1Ideal.τ).loc Cert.AdamGate1Ideal.main_arg9) = m ((c.tc : Thread Cert.AdamGate1Ideal.nD Cert.AdamGate1Ideal.τ).loc Cert.AdamGate1Ideal.main_arg9))
      ∧ r.2.sem = fun _ => 0)

def quiescent_AdamGate1Ideal_pre_core_gate1 [hAdamGate1Ideal : Cert.AdamGate1Ideal.Facts] [hPre_core_gate1 : Cert.Pre_core_gate1.Facts] : Prop :=
  ∀ (m : (ℓ : Loc Cert.AdamGate1Ideal.nD Cert.AdamGate1Ideal.τ Cert.AdamGate1Ideal.sig) → Buf (Elt Ideal) ℓ) (g : Dev Cert.AdamGate1Ideal.nD → PrngReg), Pre_AdamGate1Ideal_core_gate1 m →
    θ_run (Cert.AdamGate1Ideal.defs (F := Ideal)) (onTc (τ := Cert.AdamGate1Ideal.τ) (Cert.AdamGate1Ideal.main (F := Ideal))) ⟨m, fun _ => 0, g⟩ (fun r => (∀ c : Dev Cert.AdamGate1Ideal.nD,
      r.2.mem ((c.tc : Thread Cert.AdamGate1Ideal.nD Cert.AdamGate1Ideal.τ).loc Cert.AdamGate1Ideal.main_arg0) = m ((c.tc : Thread Cert.AdamGate1Ideal.nD Cert.AdamGate1Ideal.τ).loc Cert.AdamGate1Ideal.main_arg0)
      ∧ r.2.mem ((c.tc : Thread Cert.AdamGate1Ideal.nD Cert.AdamGate1Ideal.τ).loc Cert.AdamGate1Ideal.main_arg1) = m ((c.tc : Thread Cert.AdamGate1Ideal.nD Cert.AdamGate1Ideal.τ).loc Cert.AdamGate1Ideal.main_arg1)
      ∧ r.2.mem ((c.tc : Thread Cert.AdamGate1Ideal.nD Cert.AdamGate1Ideal.τ).loc Cert.AdamGate1Ideal.main_arg2) = m ((c.tc : Thread Cert.AdamGate1Ideal.nD Cert.AdamGate1Ideal.τ).loc Cert.AdamGate1Ideal.main_arg2)
      ∧ r.2.mem ((c.tc : Thread Cert.AdamGate1Ideal.nD Cert.AdamGate1Ideal.τ).loc Cert.AdamGate1Ideal.main_arg3) = m ((c.tc : Thread Cert.AdamGate1Ideal.nD Cert.AdamGate1Ideal.τ).loc Cert.AdamGate1Ideal.main_arg3)
      ∧ r.2.mem ((c.tc : Thread Cert.AdamGate1Ideal.nD Cert.AdamGate1Ideal.τ).loc Cert.AdamGate1Ideal.main_arg4) = m ((c.tc : Thread Cert.AdamGate1Ideal.nD Cert.AdamGate1Ideal.τ).loc Cert.AdamGate1Ideal.main_arg4)
      ∧ r.2.mem ((c.tc : Thread Cert.AdamGate1Ideal.nD Cert.AdamGate1Ideal.τ).loc Cert.AdamGate1Ideal.main_arg5) = m ((c.tc : Thread Cert.AdamGate1Ideal.nD Cert.AdamGate1Ideal.τ).loc Cert.AdamGate1Ideal.main_arg5)
      ∧ r.2.mem ((c.tc : Thread Cert.AdamGate1Ideal.nD Cert.AdamGate1Ideal.τ).loc Cert.AdamGate1Ideal.main_arg6) = m ((c.tc : Thread Cert.AdamGate1Ideal.nD Cert.AdamGate1Ideal.τ).loc Cert.AdamGate1Ideal.main_arg6)
      ∧ r.2.mem ((c.tc : Thread Cert.AdamGate1Ideal.nD Cert.AdamGate1Ideal.τ).loc Cert.AdamGate1Ideal.main_arg7) = m ((c.tc : Thread Cert.AdamGate1Ideal.nD Cert.AdamGate1Ideal.τ).loc Cert.AdamGate1Ideal.main_arg7)
      ∧ r.2.mem ((c.tc : Thread Cert.AdamGate1Ideal.nD Cert.AdamGate1Ideal.τ).loc Cert.AdamGate1Ideal.main_arg8) = m ((c.tc : Thread Cert.AdamGate1Ideal.nD Cert.AdamGate1Ideal.τ).loc Cert.AdamGate1Ideal.main_arg8)
      ∧ r.2.mem ((c.tc : Thread Cert.AdamGate1Ideal.nD Cert.AdamGate1Ideal.τ).loc Cert.AdamGate1Ideal.main_arg9) = m ((c.tc : Thread Cert.AdamGate1Ideal.nD Cert.AdamGate1Ideal.τ).loc Cert.AdamGate1Ideal.main_arg9))
      ∧ r.2.sem = fun _ => 0)

def quiescent_AdamGate1RefIdeal [hAdamGate1RefIdeal : Cert.AdamGate1RefIdeal.Facts] : Prop :=
  ∀ (m : (ℓ : Loc Cert.AdamGate1RefIdeal.nD Cert.AdamGate1RefIdeal.τ Cert.AdamGate1RefIdeal.sig) → Buf (Elt Ideal) ℓ) (g : Dev Cert.AdamGate1RefIdeal.nD → PrngReg), Pre_AdamGate1RefIdeal m →
    θ_run (Cert.AdamGate1RefIdeal.defs (F := Ideal)) (onTc (τ := Cert.AdamGate1RefIdeal.τ) (Cert.AdamGate1RefIdeal.main (F := Ideal))) ⟨m, fun _ => 0, g⟩ (fun r => (∀ c : Dev Cert.AdamGate1RefIdeal.nD,
      r.2.mem ((c.tc : Thread Cert.AdamGate1RefIdeal.nD Cert.AdamGate1RefIdeal.τ).loc Cert.AdamGate1RefIdeal.main_arg0) = m ((c.tc : Thread Cert.AdamGate1RefIdeal.nD Cert.AdamGate1RefIdeal.τ).loc Cert.AdamGate1RefIdeal.main_arg0)
      ∧ r.2.mem ((c.tc : Thread Cert.AdamGate1RefIdeal.nD Cert.AdamGate1RefIdeal.τ).loc Cert.AdamGate1RefIdeal.main_arg1) = m ((c.tc : Thread Cert.AdamGate1RefIdeal.nD Cert.AdamGate1RefIdeal.τ).loc Cert.AdamGate1RefIdeal.main_arg1)
      ∧ r.2.mem ((c.tc : Thread Cert.AdamGate1RefIdeal.nD Cert.AdamGate1RefIdeal.τ).loc Cert.AdamGate1RefIdeal.main_arg2) = m ((c.tc : Thread Cert.AdamGate1RefIdeal.nD Cert.AdamGate1RefIdeal.τ).loc Cert.AdamGate1RefIdeal.main_arg2)
      ∧ r.2.mem ((c.tc : Thread Cert.AdamGate1RefIdeal.nD Cert.AdamGate1RefIdeal.τ).loc Cert.AdamGate1RefIdeal.main_arg3) = m ((c.tc : Thread Cert.AdamGate1RefIdeal.nD Cert.AdamGate1RefIdeal.τ).loc Cert.AdamGate1RefIdeal.main_arg3)
      ∧ r.2.mem ((c.tc : Thread Cert.AdamGate1RefIdeal.nD Cert.AdamGate1RefIdeal.τ).loc Cert.AdamGate1RefIdeal.main_arg4) = m ((c.tc : Thread Cert.AdamGate1RefIdeal.nD Cert.AdamGate1RefIdeal.τ).loc Cert.AdamGate1RefIdeal.main_arg4)
      ∧ r.2.mem ((c.tc : Thread Cert.AdamGate1RefIdeal.nD Cert.AdamGate1RefIdeal.τ).loc Cert.AdamGate1RefIdeal.main_arg5) = m ((c.tc : Thread Cert.AdamGate1RefIdeal.nD Cert.AdamGate1RefIdeal.τ).loc Cert.AdamGate1RefIdeal.main_arg5)
      ∧ r.2.mem ((c.tc : Thread Cert.AdamGate1RefIdeal.nD Cert.AdamGate1RefIdeal.τ).loc Cert.AdamGate1RefIdeal.main_arg6) = m ((c.tc : Thread Cert.AdamGate1RefIdeal.nD Cert.AdamGate1RefIdeal.τ).loc Cert.AdamGate1RefIdeal.main_arg6)
      ∧ r.2.mem ((c.tc : Thread Cert.AdamGate1RefIdeal.nD Cert.AdamGate1RefIdeal.τ).loc Cert.AdamGate1RefIdeal.main_arg7) = m ((c.tc : Thread Cert.AdamGate1RefIdeal.nD Cert.AdamGate1RefIdeal.τ).loc Cert.AdamGate1RefIdeal.main_arg7)
      ∧ r.2.mem ((c.tc : Thread Cert.AdamGate1RefIdeal.nD Cert.AdamGate1RefIdeal.τ).loc Cert.AdamGate1RefIdeal.main_arg8) = m ((c.tc : Thread Cert.AdamGate1RefIdeal.nD Cert.AdamGate1RefIdeal.τ).loc Cert.AdamGate1RefIdeal.main_arg8)
      ∧ r.2.mem ((c.tc : Thread Cert.AdamGate1RefIdeal.nD Cert.AdamGate1RefIdeal.τ).loc Cert.AdamGate1RefIdeal.main_arg9) = m ((c.tc : Thread Cert.AdamGate1RefIdeal.nD Cert.AdamGate1RefIdeal.τ).loc Cert.AdamGate1RefIdeal.main_arg9))
      ∧ r.2.sem = fun _ => 0)

def quiescent_AdamGate1RefIdeal_pre_core_gate1 [hAdamGate1RefIdeal : Cert.AdamGate1RefIdeal.Facts] [hPre_core_gate1 : Cert.Pre_core_gate1.Facts] : Prop :=
  ∀ (m : (ℓ : Loc Cert.AdamGate1RefIdeal.nD Cert.AdamGate1RefIdeal.τ Cert.AdamGate1RefIdeal.sig) → Buf (Elt Ideal) ℓ) (g : Dev Cert.AdamGate1RefIdeal.nD → PrngReg), Pre_AdamGate1RefIdeal_core_gate1 m →
    θ_run (Cert.AdamGate1RefIdeal.defs (F := Ideal)) (onTc (τ := Cert.AdamGate1RefIdeal.τ) (Cert.AdamGate1RefIdeal.main (F := Ideal))) ⟨m, fun _ => 0, g⟩ (fun r => (∀ c : Dev Cert.AdamGate1RefIdeal.nD,
      r.2.mem ((c.tc : Thread Cert.AdamGate1RefIdeal.nD Cert.AdamGate1RefIdeal.τ).loc Cert.AdamGate1RefIdeal.main_arg0) = m ((c.tc : Thread Cert.AdamGate1RefIdeal.nD Cert.AdamGate1RefIdeal.τ).loc Cert.AdamGate1RefIdeal.main_arg0)
      ∧ r.2.mem ((c.tc : Thread Cert.AdamGate1RefIdeal.nD Cert.AdamGate1RefIdeal.τ).loc Cert.AdamGate1RefIdeal.main_arg1) = m ((c.tc : Thread Cert.AdamGate1RefIdeal.nD Cert.AdamGate1RefIdeal.τ).loc Cert.AdamGate1RefIdeal.main_arg1)
      ∧ r.2.mem ((c.tc : Thread Cert.AdamGate1RefIdeal.nD Cert.AdamGate1RefIdeal.τ).loc Cert.AdamGate1RefIdeal.main_arg2) = m ((c.tc : Thread Cert.AdamGate1RefIdeal.nD Cert.AdamGate1RefIdeal.τ).loc Cert.AdamGate1RefIdeal.main_arg2)
      ∧ r.2.mem ((c.tc : Thread Cert.AdamGate1RefIdeal.nD Cert.AdamGate1RefIdeal.τ).loc Cert.AdamGate1RefIdeal.main_arg3) = m ((c.tc : Thread Cert.AdamGate1RefIdeal.nD Cert.AdamGate1RefIdeal.τ).loc Cert.AdamGate1RefIdeal.main_arg3)
      ∧ r.2.mem ((c.tc : Thread Cert.AdamGate1RefIdeal.nD Cert.AdamGate1RefIdeal.τ).loc Cert.AdamGate1RefIdeal.main_arg4) = m ((c.tc : Thread Cert.AdamGate1RefIdeal.nD Cert.AdamGate1RefIdeal.τ).loc Cert.AdamGate1RefIdeal.main_arg4)
      ∧ r.2.mem ((c.tc : Thread Cert.AdamGate1RefIdeal.nD Cert.AdamGate1RefIdeal.τ).loc Cert.AdamGate1RefIdeal.main_arg5) = m ((c.tc : Thread Cert.AdamGate1RefIdeal.nD Cert.AdamGate1RefIdeal.τ).loc Cert.AdamGate1RefIdeal.main_arg5)
      ∧ r.2.mem ((c.tc : Thread Cert.AdamGate1RefIdeal.nD Cert.AdamGate1RefIdeal.τ).loc Cert.AdamGate1RefIdeal.main_arg6) = m ((c.tc : Thread Cert.AdamGate1RefIdeal.nD Cert.AdamGate1RefIdeal.τ).loc Cert.AdamGate1RefIdeal.main_arg6)
      ∧ r.2.mem ((c.tc : Thread Cert.AdamGate1RefIdeal.nD Cert.AdamGate1RefIdeal.τ).loc Cert.AdamGate1RefIdeal.main_arg7) = m ((c.tc : Thread Cert.AdamGate1RefIdeal.nD Cert.AdamGate1RefIdeal.τ).loc Cert.AdamGate1RefIdeal.main_arg7)
      ∧ r.2.mem ((c.tc : Thread Cert.AdamGate1RefIdeal.nD Cert.AdamGate1RefIdeal.τ).loc Cert.AdamGate1RefIdeal.main_arg8) = m ((c.tc : Thread Cert.AdamGate1RefIdeal.nD Cert.AdamGate1RefIdeal.τ).loc Cert.AdamGate1RefIdeal.main_arg8)
      ∧ r.2.mem ((c.tc : Thread Cert.AdamGate1RefIdeal.nD Cert.AdamGate1RefIdeal.τ).loc Cert.AdamGate1RefIdeal.main_arg9) = m ((c.tc : Thread Cert.AdamGate1RefIdeal.nD Cert.AdamGate1RefIdeal.τ).loc Cert.AdamGate1RefIdeal.main_arg9))
      ∧ r.2.sem = fun _ => 0)

def quiescent_AdamDown0 [hAdamDown0 : Cert.AdamDown0.Facts] : Prop :=
  ∀ (m : (ℓ : Loc Cert.AdamDown0.nD Cert.AdamDown0.τ Cert.AdamDown0.sig) → Buf (Elt Bits) ℓ) (g : Dev Cert.AdamDown0.nD → PrngReg), Pre_AdamDown0 m →
    θ_run (Cert.AdamDown0.defs (F := Bits)) (onTc (τ := Cert.AdamDown0.τ) (Cert.AdamDown0.main (F := Bits))) ⟨m, fun _ => 0, g⟩ (fun r => (∀ c : Dev Cert.AdamDown0.nD,
      r.2.mem ((c.tc : Thread Cert.AdamDown0.nD Cert.AdamDown0.τ).loc Cert.AdamDown0.main_arg0) = m ((c.tc : Thread Cert.AdamDown0.nD Cert.AdamDown0.τ).loc Cert.AdamDown0.main_arg0)
      ∧ r.2.mem ((c.tc : Thread Cert.AdamDown0.nD Cert.AdamDown0.τ).loc Cert.AdamDown0.main_arg1) = m ((c.tc : Thread Cert.AdamDown0.nD Cert.AdamDown0.τ).loc Cert.AdamDown0.main_arg1)
      ∧ r.2.mem ((c.tc : Thread Cert.AdamDown0.nD Cert.AdamDown0.τ).loc Cert.AdamDown0.main_arg2) = m ((c.tc : Thread Cert.AdamDown0.nD Cert.AdamDown0.τ).loc Cert.AdamDown0.main_arg2)
      ∧ r.2.mem ((c.tc : Thread Cert.AdamDown0.nD Cert.AdamDown0.τ).loc Cert.AdamDown0.main_arg3) = m ((c.tc : Thread Cert.AdamDown0.nD Cert.AdamDown0.τ).loc Cert.AdamDown0.main_arg3)
      ∧ r.2.mem ((c.tc : Thread Cert.AdamDown0.nD Cert.AdamDown0.τ).loc Cert.AdamDown0.main_arg4) = m ((c.tc : Thread Cert.AdamDown0.nD Cert.AdamDown0.τ).loc Cert.AdamDown0.main_arg4)
      ∧ r.2.mem ((c.tc : Thread Cert.AdamDown0.nD Cert.AdamDown0.τ).loc Cert.AdamDown0.main_arg5) = m ((c.tc : Thread Cert.AdamDown0.nD Cert.AdamDown0.τ).loc Cert.AdamDown0.main_arg5))
      ∧ r.2.sem = fun _ => 0)

def quiescent_AdamDown0Ideal [hAdamDown0Ideal : Cert.AdamDown0Ideal.Facts] : Prop :=
  ∀ (m : (ℓ : Loc Cert.AdamDown0Ideal.nD Cert.AdamDown0Ideal.τ Cert.AdamDown0Ideal.sig) → Buf (Elt Ideal) ℓ) (g : Dev Cert.AdamDown0Ideal.nD → PrngReg), Pre_AdamDown0Ideal m →
    θ_run (Cert.AdamDown0Ideal.defs (F := Ideal)) (onTc (τ := Cert.AdamDown0Ideal.τ) (Cert.AdamDown0Ideal.main (F := Ideal))) ⟨m, fun _ => 0, g⟩ (fun r => (∀ c : Dev Cert.AdamDown0Ideal.nD,
      r.2.mem ((c.tc : Thread Cert.AdamDown0Ideal.nD Cert.AdamDown0Ideal.τ).loc Cert.AdamDown0Ideal.main_arg0) = m ((c.tc : Thread Cert.AdamDown0Ideal.nD Cert.AdamDown0Ideal.τ).loc Cert.AdamDown0Ideal.main_arg0)
      ∧ r.2.mem ((c.tc : Thread Cert.AdamDown0Ideal.nD Cert.AdamDown0Ideal.τ).loc Cert.AdamDown0Ideal.main_arg1) = m ((c.tc : Thread Cert.AdamDown0Ideal.nD Cert.AdamDown0Ideal.τ).loc Cert.AdamDown0Ideal.main_arg1)
      ∧ r.2.mem ((c.tc : Thread Cert.AdamDown0Ideal.nD Cert.AdamDown0Ideal.τ).loc Cert.AdamDown0Ideal.main_arg2) = m ((c.tc : Thread Cert.AdamDown0Ideal.nD Cert.AdamDown0Ideal.τ).loc Cert.AdamDown0Ideal.main_arg2)
      ∧ r.2.mem ((c.tc : Thread Cert.AdamDown0Ideal.nD Cert.AdamDown0Ideal.τ).loc Cert.AdamDown0Ideal.main_arg3) = m ((c.tc : Thread Cert.AdamDown0Ideal.nD Cert.AdamDown0Ideal.τ).loc Cert.AdamDown0Ideal.main_arg3)
      ∧ r.2.mem ((c.tc : Thread Cert.AdamDown0Ideal.nD Cert.AdamDown0Ideal.τ).loc Cert.AdamDown0Ideal.main_arg4) = m ((c.tc : Thread Cert.AdamDown0Ideal.nD Cert.AdamDown0Ideal.τ).loc Cert.AdamDown0Ideal.main_arg4)
      ∧ r.2.mem ((c.tc : Thread Cert.AdamDown0Ideal.nD Cert.AdamDown0Ideal.τ).loc Cert.AdamDown0Ideal.main_arg5) = m ((c.tc : Thread Cert.AdamDown0Ideal.nD Cert.AdamDown0Ideal.τ).loc Cert.AdamDown0Ideal.main_arg5))
      ∧ r.2.sem = fun _ => 0)

def quiescent_AdamDown0Ideal_pre_core_down0 [hAdamDown0Ideal : Cert.AdamDown0Ideal.Facts] [hPre_core_down0 : Cert.Pre_core_down0.Facts] : Prop :=
  ∀ (m : (ℓ : Loc Cert.AdamDown0Ideal.nD Cert.AdamDown0Ideal.τ Cert.AdamDown0Ideal.sig) → Buf (Elt Ideal) ℓ) (g : Dev Cert.AdamDown0Ideal.nD → PrngReg), Pre_AdamDown0Ideal_core_down0 m →
    θ_run (Cert.AdamDown0Ideal.defs (F := Ideal)) (onTc (τ := Cert.AdamDown0Ideal.τ) (Cert.AdamDown0Ideal.main (F := Ideal))) ⟨m, fun _ => 0, g⟩ (fun r => (∀ c : Dev Cert.AdamDown0Ideal.nD,
      r.2.mem ((c.tc : Thread Cert.AdamDown0Ideal.nD Cert.AdamDown0Ideal.τ).loc Cert.AdamDown0Ideal.main_arg0) = m ((c.tc : Thread Cert.AdamDown0Ideal.nD Cert.AdamDown0Ideal.τ).loc Cert.AdamDown0Ideal.main_arg0)
      ∧ r.2.mem ((c.tc : Thread Cert.AdamDown0Ideal.nD Cert.AdamDown0Ideal.τ).loc Cert.AdamDown0Ideal.main_arg1) = m ((c.tc : Thread Cert.AdamDown0Ideal.nD Cert.AdamDown0Ideal.τ).loc Cert.AdamDown0Ideal.main_arg1)
      ∧ r.2.mem ((c.tc : Thread Cert.AdamDown0Ideal.nD Cert.AdamDown0Ideal.τ).loc Cert.AdamDown0Ideal.main_arg2) = m ((c.tc : Thread Cert.AdamDown0Ideal.nD Cert.AdamDown0Ideal.τ).loc Cert.AdamDown0Ideal.main_arg2)
      ∧ r.2.mem ((c.tc : Thread Cert.AdamDown0Ideal.nD Cert.AdamDown0Ideal.τ).loc Cert.AdamDown0Ideal.main_arg3) = m ((c.tc : Thread Cert.AdamDown0Ideal.nD Cert.AdamDown0Ideal.τ).loc Cert.AdamDown0Ideal.main_arg3)
      ∧ r.2.mem ((c.tc : Thread Cert.AdamDown0Ideal.nD Cert.AdamDown0Ideal.τ).loc Cert.AdamDown0Ideal.main_arg4) = m ((c.tc : Thread Cert.AdamDown0Ideal.nD Cert.AdamDown0Ideal.τ).loc Cert.AdamDown0Ideal.main_arg4)
      ∧ r.2.mem ((c.tc : Thread Cert.AdamDown0Ideal.nD Cert.AdamDown0Ideal.τ).loc Cert.AdamDown0Ideal.main_arg5) = m ((c.tc : Thread Cert.AdamDown0Ideal.nD Cert.AdamDown0Ideal.τ).loc Cert.AdamDown0Ideal.main_arg5))
      ∧ r.2.sem = fun _ => 0)

def quiescent_AdamDown0RefIdeal [hAdamDown0RefIdeal : Cert.AdamDown0RefIdeal.Facts] : Prop :=
  ∀ (m : (ℓ : Loc Cert.AdamDown0RefIdeal.nD Cert.AdamDown0RefIdeal.τ Cert.AdamDown0RefIdeal.sig) → Buf (Elt Ideal) ℓ) (g : Dev Cert.AdamDown0RefIdeal.nD → PrngReg), Pre_AdamDown0RefIdeal m →
    θ_run (Cert.AdamDown0RefIdeal.defs (F := Ideal)) (onTc (τ := Cert.AdamDown0RefIdeal.τ) (Cert.AdamDown0RefIdeal.main (F := Ideal))) ⟨m, fun _ => 0, g⟩ (fun r => (∀ c : Dev Cert.AdamDown0RefIdeal.nD,
      r.2.mem ((c.tc : Thread Cert.AdamDown0RefIdeal.nD Cert.AdamDown0RefIdeal.τ).loc Cert.AdamDown0RefIdeal.main_arg0) = m ((c.tc : Thread Cert.AdamDown0RefIdeal.nD Cert.AdamDown0RefIdeal.τ).loc Cert.AdamDown0RefIdeal.main_arg0)
      ∧ r.2.mem ((c.tc : Thread Cert.AdamDown0RefIdeal.nD Cert.AdamDown0RefIdeal.τ).loc Cert.AdamDown0RefIdeal.main_arg1) = m ((c.tc : Thread Cert.AdamDown0RefIdeal.nD Cert.AdamDown0RefIdeal.τ).loc Cert.AdamDown0RefIdeal.main_arg1)
      ∧ r.2.mem ((c.tc : Thread Cert.AdamDown0RefIdeal.nD Cert.AdamDown0RefIdeal.τ).loc Cert.AdamDown0RefIdeal.main_arg2) = m ((c.tc : Thread Cert.AdamDown0RefIdeal.nD Cert.AdamDown0RefIdeal.τ).loc Cert.AdamDown0RefIdeal.main_arg2)
      ∧ r.2.mem ((c.tc : Thread Cert.AdamDown0RefIdeal.nD Cert.AdamDown0RefIdeal.τ).loc Cert.AdamDown0RefIdeal.main_arg3) = m ((c.tc : Thread Cert.AdamDown0RefIdeal.nD Cert.AdamDown0RefIdeal.τ).loc Cert.AdamDown0RefIdeal.main_arg3)
      ∧ r.2.mem ((c.tc : Thread Cert.AdamDown0RefIdeal.nD Cert.AdamDown0RefIdeal.τ).loc Cert.AdamDown0RefIdeal.main_arg4) = m ((c.tc : Thread Cert.AdamDown0RefIdeal.nD Cert.AdamDown0RefIdeal.τ).loc Cert.AdamDown0RefIdeal.main_arg4)
      ∧ r.2.mem ((c.tc : Thread Cert.AdamDown0RefIdeal.nD Cert.AdamDown0RefIdeal.τ).loc Cert.AdamDown0RefIdeal.main_arg5) = m ((c.tc : Thread Cert.AdamDown0RefIdeal.nD Cert.AdamDown0RefIdeal.τ).loc Cert.AdamDown0RefIdeal.main_arg5))
      ∧ r.2.sem = fun _ => 0)

def quiescent_AdamDown0RefIdeal_pre_core_down0 [hAdamDown0RefIdeal : Cert.AdamDown0RefIdeal.Facts] [hPre_core_down0 : Cert.Pre_core_down0.Facts] : Prop :=
  ∀ (m : (ℓ : Loc Cert.AdamDown0RefIdeal.nD Cert.AdamDown0RefIdeal.τ Cert.AdamDown0RefIdeal.sig) → Buf (Elt Ideal) ℓ) (g : Dev Cert.AdamDown0RefIdeal.nD → PrngReg), Pre_AdamDown0RefIdeal_core_down0 m →
    θ_run (Cert.AdamDown0RefIdeal.defs (F := Ideal)) (onTc (τ := Cert.AdamDown0RefIdeal.τ) (Cert.AdamDown0RefIdeal.main (F := Ideal))) ⟨m, fun _ => 0, g⟩ (fun r => (∀ c : Dev Cert.AdamDown0RefIdeal.nD,
      r.2.mem ((c.tc : Thread Cert.AdamDown0RefIdeal.nD Cert.AdamDown0RefIdeal.τ).loc Cert.AdamDown0RefIdeal.main_arg0) = m ((c.tc : Thread Cert.AdamDown0RefIdeal.nD Cert.AdamDown0RefIdeal.τ).loc Cert.AdamDown0RefIdeal.main_arg0)
      ∧ r.2.mem ((c.tc : Thread Cert.AdamDown0RefIdeal.nD Cert.AdamDown0RefIdeal.τ).loc Cert.AdamDown0RefIdeal.main_arg1) = m ((c.tc : Thread Cert.AdamDown0RefIdeal.nD Cert.AdamDown0RefIdeal.τ).loc Cert.AdamDown0RefIdeal.main_arg1)
      ∧ r.2.mem ((c.tc : Thread Cert.AdamDown0RefIdeal.nD Cert.AdamDown0RefIdeal.τ).loc Cert.AdamDown0RefIdeal.main_arg2) = m ((c.tc : Thread Cert.AdamDown0RefIdeal.nD Cert.AdamDown0RefIdeal.τ).loc Cert.AdamDown0RefIdeal.main_arg2)
      ∧ r.2.mem ((c.tc : Thread Cert.AdamDown0RefIdeal.nD Cert.AdamDown0RefIdeal.τ).loc Cert.AdamDown0RefIdeal.main_arg3) = m ((c.tc : Thread Cert.AdamDown0RefIdeal.nD Cert.AdamDown0RefIdeal.τ).loc Cert.AdamDown0RefIdeal.main_arg3)
      ∧ r.2.mem ((c.tc : Thread Cert.AdamDown0RefIdeal.nD Cert.AdamDown0RefIdeal.τ).loc Cert.AdamDown0RefIdeal.main_arg4) = m ((c.tc : Thread Cert.AdamDown0RefIdeal.nD Cert.AdamDown0RefIdeal.τ).loc Cert.AdamDown0RefIdeal.main_arg4)
      ∧ r.2.mem ((c.tc : Thread Cert.AdamDown0RefIdeal.nD Cert.AdamDown0RefIdeal.τ).loc Cert.AdamDown0RefIdeal.main_arg5) = m ((c.tc : Thread Cert.AdamDown0RefIdeal.nD Cert.AdamDown0RefIdeal.τ).loc Cert.AdamDown0RefIdeal.main_arg5))
      ∧ r.2.sem = fun _ => 0)

def quiescent_AdamDown1 [hAdamDown1 : Cert.AdamDown1.Facts] : Prop :=
  ∀ (m : (ℓ : Loc Cert.AdamDown1.nD Cert.AdamDown1.τ Cert.AdamDown1.sig) → Buf (Elt Bits) ℓ) (g : Dev Cert.AdamDown1.nD → PrngReg), Pre_AdamDown1 m →
    θ_run (Cert.AdamDown1.defs (F := Bits)) (onTc (τ := Cert.AdamDown1.τ) (Cert.AdamDown1.main (F := Bits))) ⟨m, fun _ => 0, g⟩ (fun r => (∀ c : Dev Cert.AdamDown1.nD,
      r.2.mem ((c.tc : Thread Cert.AdamDown1.nD Cert.AdamDown1.τ).loc Cert.AdamDown1.main_arg0) = m ((c.tc : Thread Cert.AdamDown1.nD Cert.AdamDown1.τ).loc Cert.AdamDown1.main_arg0)
      ∧ r.2.mem ((c.tc : Thread Cert.AdamDown1.nD Cert.AdamDown1.τ).loc Cert.AdamDown1.main_arg1) = m ((c.tc : Thread Cert.AdamDown1.nD Cert.AdamDown1.τ).loc Cert.AdamDown1.main_arg1)
      ∧ r.2.mem ((c.tc : Thread Cert.AdamDown1.nD Cert.AdamDown1.τ).loc Cert.AdamDown1.main_arg2) = m ((c.tc : Thread Cert.AdamDown1.nD Cert.AdamDown1.τ).loc Cert.AdamDown1.main_arg2)
      ∧ r.2.mem ((c.tc : Thread Cert.AdamDown1.nD Cert.AdamDown1.τ).loc Cert.AdamDown1.main_arg3) = m ((c.tc : Thread Cert.AdamDown1.nD Cert.AdamDown1.τ).loc Cert.AdamDown1.main_arg3)
      ∧ r.2.mem ((c.tc : Thread Cert.AdamDown1.nD Cert.AdamDown1.τ).loc Cert.AdamDown1.main_arg4) = m ((c.tc : Thread Cert.AdamDown1.nD Cert.AdamDown1.τ).loc Cert.AdamDown1.main_arg4)
      ∧ r.2.mem ((c.tc : Thread Cert.AdamDown1.nD Cert.AdamDown1.τ).loc Cert.AdamDown1.main_arg5) = m ((c.tc : Thread Cert.AdamDown1.nD Cert.AdamDown1.τ).loc Cert.AdamDown1.main_arg5)
      ∧ r.2.mem ((c.tc : Thread Cert.AdamDown1.nD Cert.AdamDown1.τ).loc Cert.AdamDown1.main_arg6) = m ((c.tc : Thread Cert.AdamDown1.nD Cert.AdamDown1.τ).loc Cert.AdamDown1.main_arg6)
      ∧ r.2.mem ((c.tc : Thread Cert.AdamDown1.nD Cert.AdamDown1.τ).loc Cert.AdamDown1.main_arg7) = m ((c.tc : Thread Cert.AdamDown1.nD Cert.AdamDown1.τ).loc Cert.AdamDown1.main_arg7)
      ∧ r.2.mem ((c.tc : Thread Cert.AdamDown1.nD Cert.AdamDown1.τ).loc Cert.AdamDown1.main_arg8) = m ((c.tc : Thread Cert.AdamDown1.nD Cert.AdamDown1.τ).loc Cert.AdamDown1.main_arg8)
      ∧ r.2.mem ((c.tc : Thread Cert.AdamDown1.nD Cert.AdamDown1.τ).loc Cert.AdamDown1.main_arg9) = m ((c.tc : Thread Cert.AdamDown1.nD Cert.AdamDown1.τ).loc Cert.AdamDown1.main_arg9))
      ∧ r.2.sem = fun _ => 0)

def quiescent_AdamDown1Ideal [hAdamDown1Ideal : Cert.AdamDown1Ideal.Facts] : Prop :=
  ∀ (m : (ℓ : Loc Cert.AdamDown1Ideal.nD Cert.AdamDown1Ideal.τ Cert.AdamDown1Ideal.sig) → Buf (Elt Ideal) ℓ) (g : Dev Cert.AdamDown1Ideal.nD → PrngReg), Pre_AdamDown1Ideal m →
    θ_run (Cert.AdamDown1Ideal.defs (F := Ideal)) (onTc (τ := Cert.AdamDown1Ideal.τ) (Cert.AdamDown1Ideal.main (F := Ideal))) ⟨m, fun _ => 0, g⟩ (fun r => (∀ c : Dev Cert.AdamDown1Ideal.nD,
      r.2.mem ((c.tc : Thread Cert.AdamDown1Ideal.nD Cert.AdamDown1Ideal.τ).loc Cert.AdamDown1Ideal.main_arg0) = m ((c.tc : Thread Cert.AdamDown1Ideal.nD Cert.AdamDown1Ideal.τ).loc Cert.AdamDown1Ideal.main_arg0)
      ∧ r.2.mem ((c.tc : Thread Cert.AdamDown1Ideal.nD Cert.AdamDown1Ideal.τ).loc Cert.AdamDown1Ideal.main_arg1) = m ((c.tc : Thread Cert.AdamDown1Ideal.nD Cert.AdamDown1Ideal.τ).loc Cert.AdamDown1Ideal.main_arg1)
      ∧ r.2.mem ((c.tc : Thread Cert.AdamDown1Ideal.nD Cert.AdamDown1Ideal.τ).loc Cert.AdamDown1Ideal.main_arg2) = m ((c.tc : Thread Cert.AdamDown1Ideal.nD Cert.AdamDown1Ideal.τ).loc Cert.AdamDown1Ideal.main_arg2)
      ∧ r.2.mem ((c.tc : Thread Cert.AdamDown1Ideal.nD Cert.AdamDown1Ideal.τ).loc Cert.AdamDown1Ideal.main_arg3) = m ((c.tc : Thread Cert.AdamDown1Ideal.nD Cert.AdamDown1Ideal.τ).loc Cert.AdamDown1Ideal.main_arg3)
      ∧ r.2.mem ((c.tc : Thread Cert.AdamDown1Ideal.nD Cert.AdamDown1Ideal.τ).loc Cert.AdamDown1Ideal.main_arg4) = m ((c.tc : Thread Cert.AdamDown1Ideal.nD Cert.AdamDown1Ideal.τ).loc Cert.AdamDown1Ideal.main_arg4)
      ∧ r.2.mem ((c.tc : Thread Cert.AdamDown1Ideal.nD Cert.AdamDown1Ideal.τ).loc Cert.AdamDown1Ideal.main_arg5) = m ((c.tc : Thread Cert.AdamDown1Ideal.nD Cert.AdamDown1Ideal.τ).loc Cert.AdamDown1Ideal.main_arg5)
      ∧ r.2.mem ((c.tc : Thread Cert.AdamDown1Ideal.nD Cert.AdamDown1Ideal.τ).loc Cert.AdamDown1Ideal.main_arg6) = m ((c.tc : Thread Cert.AdamDown1Ideal.nD Cert.AdamDown1Ideal.τ).loc Cert.AdamDown1Ideal.main_arg6)
      ∧ r.2.mem ((c.tc : Thread Cert.AdamDown1Ideal.nD Cert.AdamDown1Ideal.τ).loc Cert.AdamDown1Ideal.main_arg7) = m ((c.tc : Thread Cert.AdamDown1Ideal.nD Cert.AdamDown1Ideal.τ).loc Cert.AdamDown1Ideal.main_arg7)
      ∧ r.2.mem ((c.tc : Thread Cert.AdamDown1Ideal.nD Cert.AdamDown1Ideal.τ).loc Cert.AdamDown1Ideal.main_arg8) = m ((c.tc : Thread Cert.AdamDown1Ideal.nD Cert.AdamDown1Ideal.τ).loc Cert.AdamDown1Ideal.main_arg8)
      ∧ r.2.mem ((c.tc : Thread Cert.AdamDown1Ideal.nD Cert.AdamDown1Ideal.τ).loc Cert.AdamDown1Ideal.main_arg9) = m ((c.tc : Thread Cert.AdamDown1Ideal.nD Cert.AdamDown1Ideal.τ).loc Cert.AdamDown1Ideal.main_arg9))
      ∧ r.2.sem = fun _ => 0)

def quiescent_AdamDown1Ideal_pre_core_down1 [hAdamDown1Ideal : Cert.AdamDown1Ideal.Facts] [hPre_core_down1 : Cert.Pre_core_down1.Facts] : Prop :=
  ∀ (m : (ℓ : Loc Cert.AdamDown1Ideal.nD Cert.AdamDown1Ideal.τ Cert.AdamDown1Ideal.sig) → Buf (Elt Ideal) ℓ) (g : Dev Cert.AdamDown1Ideal.nD → PrngReg), Pre_AdamDown1Ideal_core_down1 m →
    θ_run (Cert.AdamDown1Ideal.defs (F := Ideal)) (onTc (τ := Cert.AdamDown1Ideal.τ) (Cert.AdamDown1Ideal.main (F := Ideal))) ⟨m, fun _ => 0, g⟩ (fun r => (∀ c : Dev Cert.AdamDown1Ideal.nD,
      r.2.mem ((c.tc : Thread Cert.AdamDown1Ideal.nD Cert.AdamDown1Ideal.τ).loc Cert.AdamDown1Ideal.main_arg0) = m ((c.tc : Thread Cert.AdamDown1Ideal.nD Cert.AdamDown1Ideal.τ).loc Cert.AdamDown1Ideal.main_arg0)
      ∧ r.2.mem ((c.tc : Thread Cert.AdamDown1Ideal.nD Cert.AdamDown1Ideal.τ).loc Cert.AdamDown1Ideal.main_arg1) = m ((c.tc : Thread Cert.AdamDown1Ideal.nD Cert.AdamDown1Ideal.τ).loc Cert.AdamDown1Ideal.main_arg1)
      ∧ r.2.mem ((c.tc : Thread Cert.AdamDown1Ideal.nD Cert.AdamDown1Ideal.τ).loc Cert.AdamDown1Ideal.main_arg2) = m ((c.tc : Thread Cert.AdamDown1Ideal.nD Cert.AdamDown1Ideal.τ).loc Cert.AdamDown1Ideal.main_arg2)
      ∧ r.2.mem ((c.tc : Thread Cert.AdamDown1Ideal.nD Cert.AdamDown1Ideal.τ).loc Cert.AdamDown1Ideal.main_arg3) = m ((c.tc : Thread Cert.AdamDown1Ideal.nD Cert.AdamDown1Ideal.τ).loc Cert.AdamDown1Ideal.main_arg3)
      ∧ r.2.mem ((c.tc : Thread Cert.AdamDown1Ideal.nD Cert.AdamDown1Ideal.τ).loc Cert.AdamDown1Ideal.main_arg4) = m ((c.tc : Thread Cert.AdamDown1Ideal.nD Cert.AdamDown1Ideal.τ).loc Cert.AdamDown1Ideal.main_arg4)
      ∧ r.2.mem ((c.tc : Thread Cert.AdamDown1Ideal.nD Cert.AdamDown1Ideal.τ).loc Cert.AdamDown1Ideal.main_arg5) = m ((c.tc : Thread Cert.AdamDown1Ideal.nD Cert.AdamDown1Ideal.τ).loc Cert.AdamDown1Ideal.main_arg5)
      ∧ r.2.mem ((c.tc : Thread Cert.AdamDown1Ideal.nD Cert.AdamDown1Ideal.τ).loc Cert.AdamDown1Ideal.main_arg6) = m ((c.tc : Thread Cert.AdamDown1Ideal.nD Cert.AdamDown1Ideal.τ).loc Cert.AdamDown1Ideal.main_arg6)
      ∧ r.2.mem ((c.tc : Thread Cert.AdamDown1Ideal.nD Cert.AdamDown1Ideal.τ).loc Cert.AdamDown1Ideal.main_arg7) = m ((c.tc : Thread Cert.AdamDown1Ideal.nD Cert.AdamDown1Ideal.τ).loc Cert.AdamDown1Ideal.main_arg7)
      ∧ r.2.mem ((c.tc : Thread Cert.AdamDown1Ideal.nD Cert.AdamDown1Ideal.τ).loc Cert.AdamDown1Ideal.main_arg8) = m ((c.tc : Thread Cert.AdamDown1Ideal.nD Cert.AdamDown1Ideal.τ).loc Cert.AdamDown1Ideal.main_arg8)
      ∧ r.2.mem ((c.tc : Thread Cert.AdamDown1Ideal.nD Cert.AdamDown1Ideal.τ).loc Cert.AdamDown1Ideal.main_arg9) = m ((c.tc : Thread Cert.AdamDown1Ideal.nD Cert.AdamDown1Ideal.τ).loc Cert.AdamDown1Ideal.main_arg9))
      ∧ r.2.sem = fun _ => 0)

def quiescent_AdamDown1RefIdeal [hAdamDown1RefIdeal : Cert.AdamDown1RefIdeal.Facts] : Prop :=
  ∀ (m : (ℓ : Loc Cert.AdamDown1RefIdeal.nD Cert.AdamDown1RefIdeal.τ Cert.AdamDown1RefIdeal.sig) → Buf (Elt Ideal) ℓ) (g : Dev Cert.AdamDown1RefIdeal.nD → PrngReg), Pre_AdamDown1RefIdeal m →
    θ_run (Cert.AdamDown1RefIdeal.defs (F := Ideal)) (onTc (τ := Cert.AdamDown1RefIdeal.τ) (Cert.AdamDown1RefIdeal.main (F := Ideal))) ⟨m, fun _ => 0, g⟩ (fun r => (∀ c : Dev Cert.AdamDown1RefIdeal.nD,
      r.2.mem ((c.tc : Thread Cert.AdamDown1RefIdeal.nD Cert.AdamDown1RefIdeal.τ).loc Cert.AdamDown1RefIdeal.main_arg0) = m ((c.tc : Thread Cert.AdamDown1RefIdeal.nD Cert.AdamDown1RefIdeal.τ).loc Cert.AdamDown1RefIdeal.main_arg0)
      ∧ r.2.mem ((c.tc : Thread Cert.AdamDown1RefIdeal.nD Cert.AdamDown1RefIdeal.τ).loc Cert.AdamDown1RefIdeal.main_arg1) = m ((c.tc : Thread Cert.AdamDown1RefIdeal.nD Cert.AdamDown1RefIdeal.τ).loc Cert.AdamDown1RefIdeal.main_arg1)
      ∧ r.2.mem ((c.tc : Thread Cert.AdamDown1RefIdeal.nD Cert.AdamDown1RefIdeal.τ).loc Cert.AdamDown1RefIdeal.main_arg2) = m ((c.tc : Thread Cert.AdamDown1RefIdeal.nD Cert.AdamDown1RefIdeal.τ).loc Cert.AdamDown1RefIdeal.main_arg2)
      ∧ r.2.mem ((c.tc : Thread Cert.AdamDown1RefIdeal.nD Cert.AdamDown1RefIdeal.τ).loc Cert.AdamDown1RefIdeal.main_arg3) = m ((c.tc : Thread Cert.AdamDown1RefIdeal.nD Cert.AdamDown1RefIdeal.τ).loc Cert.AdamDown1RefIdeal.main_arg3)
      ∧ r.2.mem ((c.tc : Thread Cert.AdamDown1RefIdeal.nD Cert.AdamDown1RefIdeal.τ).loc Cert.AdamDown1RefIdeal.main_arg4) = m ((c.tc : Thread Cert.AdamDown1RefIdeal.nD Cert.AdamDown1RefIdeal.τ).loc Cert.AdamDown1RefIdeal.main_arg4)
      ∧ r.2.mem ((c.tc : Thread Cert.AdamDown1RefIdeal.nD Cert.AdamDown1RefIdeal.τ).loc Cert.AdamDown1RefIdeal.main_arg5) = m ((c.tc : Thread Cert.AdamDown1RefIdeal.nD Cert.AdamDown1RefIdeal.τ).loc Cert.AdamDown1RefIdeal.main_arg5)
      ∧ r.2.mem ((c.tc : Thread Cert.AdamDown1RefIdeal.nD Cert.AdamDown1RefIdeal.τ).loc Cert.AdamDown1RefIdeal.main_arg6) = m ((c.tc : Thread Cert.AdamDown1RefIdeal.nD Cert.AdamDown1RefIdeal.τ).loc Cert.AdamDown1RefIdeal.main_arg6)
      ∧ r.2.mem ((c.tc : Thread Cert.AdamDown1RefIdeal.nD Cert.AdamDown1RefIdeal.τ).loc Cert.AdamDown1RefIdeal.main_arg7) = m ((c.tc : Thread Cert.AdamDown1RefIdeal.nD Cert.AdamDown1RefIdeal.τ).loc Cert.AdamDown1RefIdeal.main_arg7)
      ∧ r.2.mem ((c.tc : Thread Cert.AdamDown1RefIdeal.nD Cert.AdamDown1RefIdeal.τ).loc Cert.AdamDown1RefIdeal.main_arg8) = m ((c.tc : Thread Cert.AdamDown1RefIdeal.nD Cert.AdamDown1RefIdeal.τ).loc Cert.AdamDown1RefIdeal.main_arg8)
      ∧ r.2.mem ((c.tc : Thread Cert.AdamDown1RefIdeal.nD Cert.AdamDown1RefIdeal.τ).loc Cert.AdamDown1RefIdeal.main_arg9) = m ((c.tc : Thread Cert.AdamDown1RefIdeal.nD Cert.AdamDown1RefIdeal.τ).loc Cert.AdamDown1RefIdeal.main_arg9))
      ∧ r.2.sem = fun _ => 0)

def quiescent_AdamDown1RefIdeal_pre_core_down1 [hAdamDown1RefIdeal : Cert.AdamDown1RefIdeal.Facts] [hPre_core_down1 : Cert.Pre_core_down1.Facts] : Prop :=
  ∀ (m : (ℓ : Loc Cert.AdamDown1RefIdeal.nD Cert.AdamDown1RefIdeal.τ Cert.AdamDown1RefIdeal.sig) → Buf (Elt Ideal) ℓ) (g : Dev Cert.AdamDown1RefIdeal.nD → PrngReg), Pre_AdamDown1RefIdeal_core_down1 m →
    θ_run (Cert.AdamDown1RefIdeal.defs (F := Ideal)) (onTc (τ := Cert.AdamDown1RefIdeal.τ) (Cert.AdamDown1RefIdeal.main (F := Ideal))) ⟨m, fun _ => 0, g⟩ (fun r => (∀ c : Dev Cert.AdamDown1RefIdeal.nD,
      r.2.mem ((c.tc : Thread Cert.AdamDown1RefIdeal.nD Cert.AdamDown1RefIdeal.τ).loc Cert.AdamDown1RefIdeal.main_arg0) = m ((c.tc : Thread Cert.AdamDown1RefIdeal.nD Cert.AdamDown1RefIdeal.τ).loc Cert.AdamDown1RefIdeal.main_arg0)
      ∧ r.2.mem ((c.tc : Thread Cert.AdamDown1RefIdeal.nD Cert.AdamDown1RefIdeal.τ).loc Cert.AdamDown1RefIdeal.main_arg1) = m ((c.tc : Thread Cert.AdamDown1RefIdeal.nD Cert.AdamDown1RefIdeal.τ).loc Cert.AdamDown1RefIdeal.main_arg1)
      ∧ r.2.mem ((c.tc : Thread Cert.AdamDown1RefIdeal.nD Cert.AdamDown1RefIdeal.τ).loc Cert.AdamDown1RefIdeal.main_arg2) = m ((c.tc : Thread Cert.AdamDown1RefIdeal.nD Cert.AdamDown1RefIdeal.τ).loc Cert.AdamDown1RefIdeal.main_arg2)
      ∧ r.2.mem ((c.tc : Thread Cert.AdamDown1RefIdeal.nD Cert.AdamDown1RefIdeal.τ).loc Cert.AdamDown1RefIdeal.main_arg3) = m ((c.tc : Thread Cert.AdamDown1RefIdeal.nD Cert.AdamDown1RefIdeal.τ).loc Cert.AdamDown1RefIdeal.main_arg3)
      ∧ r.2.mem ((c.tc : Thread Cert.AdamDown1RefIdeal.nD Cert.AdamDown1RefIdeal.τ).loc Cert.AdamDown1RefIdeal.main_arg4) = m ((c.tc : Thread Cert.AdamDown1RefIdeal.nD Cert.AdamDown1RefIdeal.τ).loc Cert.AdamDown1RefIdeal.main_arg4)
      ∧ r.2.mem ((c.tc : Thread Cert.AdamDown1RefIdeal.nD Cert.AdamDown1RefIdeal.τ).loc Cert.AdamDown1RefIdeal.main_arg5) = m ((c.tc : Thread Cert.AdamDown1RefIdeal.nD Cert.AdamDown1RefIdeal.τ).loc Cert.AdamDown1RefIdeal.main_arg5)
      ∧ r.2.mem ((c.tc : Thread Cert.AdamDown1RefIdeal.nD Cert.AdamDown1RefIdeal.τ).loc Cert.AdamDown1RefIdeal.main_arg6) = m ((c.tc : Thread Cert.AdamDown1RefIdeal.nD Cert.AdamDown1RefIdeal.τ).loc Cert.AdamDown1RefIdeal.main_arg6)
      ∧ r.2.mem ((c.tc : Thread Cert.AdamDown1RefIdeal.nD Cert.AdamDown1RefIdeal.τ).loc Cert.AdamDown1RefIdeal.main_arg7) = m ((c.tc : Thread Cert.AdamDown1RefIdeal.nD Cert.AdamDown1RefIdeal.τ).loc Cert.AdamDown1RefIdeal.main_arg7)
      ∧ r.2.mem ((c.tc : Thread Cert.AdamDown1RefIdeal.nD Cert.AdamDown1RefIdeal.τ).loc Cert.AdamDown1RefIdeal.main_arg8) = m ((c.tc : Thread Cert.AdamDown1RefIdeal.nD Cert.AdamDown1RefIdeal.τ).loc Cert.AdamDown1RefIdeal.main_arg8)
      ∧ r.2.mem ((c.tc : Thread Cert.AdamDown1RefIdeal.nD Cert.AdamDown1RefIdeal.τ).loc Cert.AdamDown1RefIdeal.main_arg9) = m ((c.tc : Thread Cert.AdamDown1RefIdeal.nD Cert.AdamDown1RefIdeal.τ).loc Cert.AdamDown1RefIdeal.main_arg9))
      ∧ r.2.sem = fun _ => 0)

def quiescent_AdamOut0 [hAdamOut0 : Cert.AdamOut0.Facts] : Prop :=
  ∀ (m : (ℓ : Loc Cert.AdamOut0.nD Cert.AdamOut0.τ Cert.AdamOut0.sig) → Buf (Elt Bits) ℓ) (g : Dev Cert.AdamOut0.nD → PrngReg), Pre_AdamOut0 m →
    θ_run (Cert.AdamOut0.defs (F := Bits)) (onTc (τ := Cert.AdamOut0.τ) (Cert.AdamOut0.main (F := Bits))) ⟨m, fun _ => 0, g⟩ (fun r => (∀ c : Dev Cert.AdamOut0.nD,
      r.2.mem ((c.tc : Thread Cert.AdamOut0.nD Cert.AdamOut0.τ).loc Cert.AdamOut0.main_arg0) = m ((c.tc : Thread Cert.AdamOut0.nD Cert.AdamOut0.τ).loc Cert.AdamOut0.main_arg0)
      ∧ r.2.mem ((c.tc : Thread Cert.AdamOut0.nD Cert.AdamOut0.τ).loc Cert.AdamOut0.main_arg1) = m ((c.tc : Thread Cert.AdamOut0.nD Cert.AdamOut0.τ).loc Cert.AdamOut0.main_arg1)
      ∧ r.2.mem ((c.tc : Thread Cert.AdamOut0.nD Cert.AdamOut0.τ).loc Cert.AdamOut0.main_arg2) = m ((c.tc : Thread Cert.AdamOut0.nD Cert.AdamOut0.τ).loc Cert.AdamOut0.main_arg2)
      ∧ r.2.mem ((c.tc : Thread Cert.AdamOut0.nD Cert.AdamOut0.τ).loc Cert.AdamOut0.main_arg3) = m ((c.tc : Thread Cert.AdamOut0.nD Cert.AdamOut0.τ).loc Cert.AdamOut0.main_arg3)
      ∧ r.2.mem ((c.tc : Thread Cert.AdamOut0.nD Cert.AdamOut0.τ).loc Cert.AdamOut0.main_arg4) = m ((c.tc : Thread Cert.AdamOut0.nD Cert.AdamOut0.τ).loc Cert.AdamOut0.main_arg4)
      ∧ r.2.mem ((c.tc : Thread Cert.AdamOut0.nD Cert.AdamOut0.τ).loc Cert.AdamOut0.main_arg5) = m ((c.tc : Thread Cert.AdamOut0.nD Cert.AdamOut0.τ).loc Cert.AdamOut0.main_arg5))
      ∧ r.2.sem = fun _ => 0)

def quiescent_AdamOut0Ideal [hAdamOut0Ideal : Cert.AdamOut0Ideal.Facts] : Prop :=
  ∀ (m : (ℓ : Loc Cert.AdamOut0Ideal.nD Cert.AdamOut0Ideal.τ Cert.AdamOut0Ideal.sig) → Buf (Elt Ideal) ℓ) (g : Dev Cert.AdamOut0Ideal.nD → PrngReg), Pre_AdamOut0Ideal m →
    θ_run (Cert.AdamOut0Ideal.defs (F := Ideal)) (onTc (τ := Cert.AdamOut0Ideal.τ) (Cert.AdamOut0Ideal.main (F := Ideal))) ⟨m, fun _ => 0, g⟩ (fun r => (∀ c : Dev Cert.AdamOut0Ideal.nD,
      r.2.mem ((c.tc : Thread Cert.AdamOut0Ideal.nD Cert.AdamOut0Ideal.τ).loc Cert.AdamOut0Ideal.main_arg0) = m ((c.tc : Thread Cert.AdamOut0Ideal.nD Cert.AdamOut0Ideal.τ).loc Cert.AdamOut0Ideal.main_arg0)
      ∧ r.2.mem ((c.tc : Thread Cert.AdamOut0Ideal.nD Cert.AdamOut0Ideal.τ).loc Cert.AdamOut0Ideal.main_arg1) = m ((c.tc : Thread Cert.AdamOut0Ideal.nD Cert.AdamOut0Ideal.τ).loc Cert.AdamOut0Ideal.main_arg1)
      ∧ r.2.mem ((c.tc : Thread Cert.AdamOut0Ideal.nD Cert.AdamOut0Ideal.τ).loc Cert.AdamOut0Ideal.main_arg2) = m ((c.tc : Thread Cert.AdamOut0Ideal.nD Cert.AdamOut0Ideal.τ).loc Cert.AdamOut0Ideal.main_arg2)
      ∧ r.2.mem ((c.tc : Thread Cert.AdamOut0Ideal.nD Cert.AdamOut0Ideal.τ).loc Cert.AdamOut0Ideal.main_arg3) = m ((c.tc : Thread Cert.AdamOut0Ideal.nD Cert.AdamOut0Ideal.τ).loc Cert.AdamOut0Ideal.main_arg3)
      ∧ r.2.mem ((c.tc : Thread Cert.AdamOut0Ideal.nD Cert.AdamOut0Ideal.τ).loc Cert.AdamOut0Ideal.main_arg4) = m ((c.tc : Thread Cert.AdamOut0Ideal.nD Cert.AdamOut0Ideal.τ).loc Cert.AdamOut0Ideal.main_arg4)
      ∧ r.2.mem ((c.tc : Thread Cert.AdamOut0Ideal.nD Cert.AdamOut0Ideal.τ).loc Cert.AdamOut0Ideal.main_arg5) = m ((c.tc : Thread Cert.AdamOut0Ideal.nD Cert.AdamOut0Ideal.τ).loc Cert.AdamOut0Ideal.main_arg5))
      ∧ r.2.sem = fun _ => 0)

def quiescent_AdamOut0Ideal_pre_core_out0 [hAdamOut0Ideal : Cert.AdamOut0Ideal.Facts] [hPre_core_out0 : Cert.Pre_core_out0.Facts] : Prop :=
  ∀ (m : (ℓ : Loc Cert.AdamOut0Ideal.nD Cert.AdamOut0Ideal.τ Cert.AdamOut0Ideal.sig) → Buf (Elt Ideal) ℓ) (g : Dev Cert.AdamOut0Ideal.nD → PrngReg), Pre_AdamOut0Ideal_core_out0 m →
    θ_run (Cert.AdamOut0Ideal.defs (F := Ideal)) (onTc (τ := Cert.AdamOut0Ideal.τ) (Cert.AdamOut0Ideal.main (F := Ideal))) ⟨m, fun _ => 0, g⟩ (fun r => (∀ c : Dev Cert.AdamOut0Ideal.nD,
      r.2.mem ((c.tc : Thread Cert.AdamOut0Ideal.nD Cert.AdamOut0Ideal.τ).loc Cert.AdamOut0Ideal.main_arg0) = m ((c.tc : Thread Cert.AdamOut0Ideal.nD Cert.AdamOut0Ideal.τ).loc Cert.AdamOut0Ideal.main_arg0)
      ∧ r.2.mem ((c.tc : Thread Cert.AdamOut0Ideal.nD Cert.AdamOut0Ideal.τ).loc Cert.AdamOut0Ideal.main_arg1) = m ((c.tc : Thread Cert.AdamOut0Ideal.nD Cert.AdamOut0Ideal.τ).loc Cert.AdamOut0Ideal.main_arg1)
      ∧ r.2.mem ((c.tc : Thread Cert.AdamOut0Ideal.nD Cert.AdamOut0Ideal.τ).loc Cert.AdamOut0Ideal.main_arg2) = m ((c.tc : Thread Cert.AdamOut0Ideal.nD Cert.AdamOut0Ideal.τ).loc Cert.AdamOut0Ideal.main_arg2)
      ∧ r.2.mem ((c.tc : Thread Cert.AdamOut0Ideal.nD Cert.AdamOut0Ideal.τ).loc Cert.AdamOut0Ideal.main_arg3) = m ((c.tc : Thread Cert.AdamOut0Ideal.nD Cert.AdamOut0Ideal.τ).loc Cert.AdamOut0Ideal.main_arg3)
      ∧ r.2.mem ((c.tc : Thread Cert.AdamOut0Ideal.nD Cert.AdamOut0Ideal.τ).loc Cert.AdamOut0Ideal.main_arg4) = m ((c.tc : Thread Cert.AdamOut0Ideal.nD Cert.AdamOut0Ideal.τ).loc Cert.AdamOut0Ideal.main_arg4)
      ∧ r.2.mem ((c.tc : Thread Cert.AdamOut0Ideal.nD Cert.AdamOut0Ideal.τ).loc Cert.AdamOut0Ideal.main_arg5) = m ((c.tc : Thread Cert.AdamOut0Ideal.nD Cert.AdamOut0Ideal.τ).loc Cert.AdamOut0Ideal.main_arg5))
      ∧ r.2.sem = fun _ => 0)

def quiescent_AdamOut0RefIdeal [hAdamOut0RefIdeal : Cert.AdamOut0RefIdeal.Facts] : Prop :=
  ∀ (m : (ℓ : Loc Cert.AdamOut0RefIdeal.nD Cert.AdamOut0RefIdeal.τ Cert.AdamOut0RefIdeal.sig) → Buf (Elt Ideal) ℓ) (g : Dev Cert.AdamOut0RefIdeal.nD → PrngReg), Pre_AdamOut0RefIdeal m →
    θ_run (Cert.AdamOut0RefIdeal.defs (F := Ideal)) (onTc (τ := Cert.AdamOut0RefIdeal.τ) (Cert.AdamOut0RefIdeal.main (F := Ideal))) ⟨m, fun _ => 0, g⟩ (fun r => (∀ c : Dev Cert.AdamOut0RefIdeal.nD,
      r.2.mem ((c.tc : Thread Cert.AdamOut0RefIdeal.nD Cert.AdamOut0RefIdeal.τ).loc Cert.AdamOut0RefIdeal.main_arg0) = m ((c.tc : Thread Cert.AdamOut0RefIdeal.nD Cert.AdamOut0RefIdeal.τ).loc Cert.AdamOut0RefIdeal.main_arg0)
      ∧ r.2.mem ((c.tc : Thread Cert.AdamOut0RefIdeal.nD Cert.AdamOut0RefIdeal.τ).loc Cert.AdamOut0RefIdeal.main_arg1) = m ((c.tc : Thread Cert.AdamOut0RefIdeal.nD Cert.AdamOut0RefIdeal.τ).loc Cert.AdamOut0RefIdeal.main_arg1)
      ∧ r.2.mem ((c.tc : Thread Cert.AdamOut0RefIdeal.nD Cert.AdamOut0RefIdeal.τ).loc Cert.AdamOut0RefIdeal.main_arg2) = m ((c.tc : Thread Cert.AdamOut0RefIdeal.nD Cert.AdamOut0RefIdeal.τ).loc Cert.AdamOut0RefIdeal.main_arg2)
      ∧ r.2.mem ((c.tc : Thread Cert.AdamOut0RefIdeal.nD Cert.AdamOut0RefIdeal.τ).loc Cert.AdamOut0RefIdeal.main_arg3) = m ((c.tc : Thread Cert.AdamOut0RefIdeal.nD Cert.AdamOut0RefIdeal.τ).loc Cert.AdamOut0RefIdeal.main_arg3)
      ∧ r.2.mem ((c.tc : Thread Cert.AdamOut0RefIdeal.nD Cert.AdamOut0RefIdeal.τ).loc Cert.AdamOut0RefIdeal.main_arg4) = m ((c.tc : Thread Cert.AdamOut0RefIdeal.nD Cert.AdamOut0RefIdeal.τ).loc Cert.AdamOut0RefIdeal.main_arg4)
      ∧ r.2.mem ((c.tc : Thread Cert.AdamOut0RefIdeal.nD Cert.AdamOut0RefIdeal.τ).loc Cert.AdamOut0RefIdeal.main_arg5) = m ((c.tc : Thread Cert.AdamOut0RefIdeal.nD Cert.AdamOut0RefIdeal.τ).loc Cert.AdamOut0RefIdeal.main_arg5))
      ∧ r.2.sem = fun _ => 0)

def quiescent_AdamOut0RefIdeal_pre_core_out0 [hAdamOut0RefIdeal : Cert.AdamOut0RefIdeal.Facts] [hPre_core_out0 : Cert.Pre_core_out0.Facts] : Prop :=
  ∀ (m : (ℓ : Loc Cert.AdamOut0RefIdeal.nD Cert.AdamOut0RefIdeal.τ Cert.AdamOut0RefIdeal.sig) → Buf (Elt Ideal) ℓ) (g : Dev Cert.AdamOut0RefIdeal.nD → PrngReg), Pre_AdamOut0RefIdeal_core_out0 m →
    θ_run (Cert.AdamOut0RefIdeal.defs (F := Ideal)) (onTc (τ := Cert.AdamOut0RefIdeal.τ) (Cert.AdamOut0RefIdeal.main (F := Ideal))) ⟨m, fun _ => 0, g⟩ (fun r => (∀ c : Dev Cert.AdamOut0RefIdeal.nD,
      r.2.mem ((c.tc : Thread Cert.AdamOut0RefIdeal.nD Cert.AdamOut0RefIdeal.τ).loc Cert.AdamOut0RefIdeal.main_arg0) = m ((c.tc : Thread Cert.AdamOut0RefIdeal.nD Cert.AdamOut0RefIdeal.τ).loc Cert.AdamOut0RefIdeal.main_arg0)
      ∧ r.2.mem ((c.tc : Thread Cert.AdamOut0RefIdeal.nD Cert.AdamOut0RefIdeal.τ).loc Cert.AdamOut0RefIdeal.main_arg1) = m ((c.tc : Thread Cert.AdamOut0RefIdeal.nD Cert.AdamOut0RefIdeal.τ).loc Cert.AdamOut0RefIdeal.main_arg1)
      ∧ r.2.mem ((c.tc : Thread Cert.AdamOut0RefIdeal.nD Cert.AdamOut0RefIdeal.τ).loc Cert.AdamOut0RefIdeal.main_arg2) = m ((c.tc : Thread Cert.AdamOut0RefIdeal.nD Cert.AdamOut0RefIdeal.τ).loc Cert.AdamOut0RefIdeal.main_arg2)
      ∧ r.2.mem ((c.tc : Thread Cert.AdamOut0RefIdeal.nD Cert.AdamOut0RefIdeal.τ).loc Cert.AdamOut0RefIdeal.main_arg3) = m ((c.tc : Thread Cert.AdamOut0RefIdeal.nD Cert.AdamOut0RefIdeal.τ).loc Cert.AdamOut0RefIdeal.main_arg3)
      ∧ r.2.mem ((c.tc : Thread Cert.AdamOut0RefIdeal.nD Cert.AdamOut0RefIdeal.τ).loc Cert.AdamOut0RefIdeal.main_arg4) = m ((c.tc : Thread Cert.AdamOut0RefIdeal.nD Cert.AdamOut0RefIdeal.τ).loc Cert.AdamOut0RefIdeal.main_arg4)
      ∧ r.2.mem ((c.tc : Thread Cert.AdamOut0RefIdeal.nD Cert.AdamOut0RefIdeal.τ).loc Cert.AdamOut0RefIdeal.main_arg5) = m ((c.tc : Thread Cert.AdamOut0RefIdeal.nD Cert.AdamOut0RefIdeal.τ).loc Cert.AdamOut0RefIdeal.main_arg5))
      ∧ r.2.sem = fun _ => 0)

def quiescent_AdamOut1 [hAdamOut1 : Cert.AdamOut1.Facts] : Prop :=
  ∀ (m : (ℓ : Loc Cert.AdamOut1.nD Cert.AdamOut1.τ Cert.AdamOut1.sig) → Buf (Elt Bits) ℓ) (g : Dev Cert.AdamOut1.nD → PrngReg), Pre_AdamOut1 m →
    θ_run (Cert.AdamOut1.defs (F := Bits)) (onTc (τ := Cert.AdamOut1.τ) (Cert.AdamOut1.main (F := Bits))) ⟨m, fun _ => 0, g⟩ (fun r => (∀ c : Dev Cert.AdamOut1.nD,
      r.2.mem ((c.tc : Thread Cert.AdamOut1.nD Cert.AdamOut1.τ).loc Cert.AdamOut1.main_arg0) = m ((c.tc : Thread Cert.AdamOut1.nD Cert.AdamOut1.τ).loc Cert.AdamOut1.main_arg0)
      ∧ r.2.mem ((c.tc : Thread Cert.AdamOut1.nD Cert.AdamOut1.τ).loc Cert.AdamOut1.main_arg1) = m ((c.tc : Thread Cert.AdamOut1.nD Cert.AdamOut1.τ).loc Cert.AdamOut1.main_arg1)
      ∧ r.2.mem ((c.tc : Thread Cert.AdamOut1.nD Cert.AdamOut1.τ).loc Cert.AdamOut1.main_arg2) = m ((c.tc : Thread Cert.AdamOut1.nD Cert.AdamOut1.τ).loc Cert.AdamOut1.main_arg2)
      ∧ r.2.mem ((c.tc : Thread Cert.AdamOut1.nD Cert.AdamOut1.τ).loc Cert.AdamOut1.main_arg3) = m ((c.tc : Thread Cert.AdamOut1.nD Cert.AdamOut1.τ).loc Cert.AdamOut1.main_arg3)
      ∧ r.2.mem ((c.tc : Thread Cert.AdamOut1.nD Cert.AdamOut1.τ).loc Cert.AdamOut1.main_arg4) = m ((c.tc : Thread Cert.AdamOut1.nD Cert.AdamOut1.τ).loc Cert.AdamOut1.main_arg4)
      ∧ r.2.mem ((c.tc : Thread Cert.AdamOut1.nD Cert.AdamOut1.τ).loc Cert.AdamOut1.main_arg5) = m ((c.tc : Thread Cert.AdamOut1.nD Cert.AdamOut1.τ).loc Cert.AdamOut1.main_arg5)
      ∧ r.2.mem ((c.tc : Thread Cert.AdamOut1.nD Cert.AdamOut1.τ).loc Cert.AdamOut1.main_arg6) = m ((c.tc : Thread Cert.AdamOut1.nD Cert.AdamOut1.τ).loc Cert.AdamOut1.main_arg6)
      ∧ r.2.mem ((c.tc : Thread Cert.AdamOut1.nD Cert.AdamOut1.τ).loc Cert.AdamOut1.main_arg7) = m ((c.tc : Thread Cert.AdamOut1.nD Cert.AdamOut1.τ).loc Cert.AdamOut1.main_arg7)
      ∧ r.2.mem ((c.tc : Thread Cert.AdamOut1.nD Cert.AdamOut1.τ).loc Cert.AdamOut1.main_arg8) = m ((c.tc : Thread Cert.AdamOut1.nD Cert.AdamOut1.τ).loc Cert.AdamOut1.main_arg8)
      ∧ r.2.mem ((c.tc : Thread Cert.AdamOut1.nD Cert.AdamOut1.τ).loc Cert.AdamOut1.main_arg9) = m ((c.tc : Thread Cert.AdamOut1.nD Cert.AdamOut1.τ).loc Cert.AdamOut1.main_arg9))
      ∧ r.2.sem = fun _ => 0)

def quiescent_AdamOut1Ideal [hAdamOut1Ideal : Cert.AdamOut1Ideal.Facts] : Prop :=
  ∀ (m : (ℓ : Loc Cert.AdamOut1Ideal.nD Cert.AdamOut1Ideal.τ Cert.AdamOut1Ideal.sig) → Buf (Elt Ideal) ℓ) (g : Dev Cert.AdamOut1Ideal.nD → PrngReg), Pre_AdamOut1Ideal m →
    θ_run (Cert.AdamOut1Ideal.defs (F := Ideal)) (onTc (τ := Cert.AdamOut1Ideal.τ) (Cert.AdamOut1Ideal.main (F := Ideal))) ⟨m, fun _ => 0, g⟩ (fun r => (∀ c : Dev Cert.AdamOut1Ideal.nD,
      r.2.mem ((c.tc : Thread Cert.AdamOut1Ideal.nD Cert.AdamOut1Ideal.τ).loc Cert.AdamOut1Ideal.main_arg0) = m ((c.tc : Thread Cert.AdamOut1Ideal.nD Cert.AdamOut1Ideal.τ).loc Cert.AdamOut1Ideal.main_arg0)
      ∧ r.2.mem ((c.tc : Thread Cert.AdamOut1Ideal.nD Cert.AdamOut1Ideal.τ).loc Cert.AdamOut1Ideal.main_arg1) = m ((c.tc : Thread Cert.AdamOut1Ideal.nD Cert.AdamOut1Ideal.τ).loc Cert.AdamOut1Ideal.main_arg1)
      ∧ r.2.mem ((c.tc : Thread Cert.AdamOut1Ideal.nD Cert.AdamOut1Ideal.τ).loc Cert.AdamOut1Ideal.main_arg2) = m ((c.tc : Thread Cert.AdamOut1Ideal.nD Cert.AdamOut1Ideal.τ).loc Cert.AdamOut1Ideal.main_arg2)
      ∧ r.2.mem ((c.tc : Thread Cert.AdamOut1Ideal.nD Cert.AdamOut1Ideal.τ).loc Cert.AdamOut1Ideal.main_arg3) = m ((c.tc : Thread Cert.AdamOut1Ideal.nD Cert.AdamOut1Ideal.τ).loc Cert.AdamOut1Ideal.main_arg3)
      ∧ r.2.mem ((c.tc : Thread Cert.AdamOut1Ideal.nD Cert.AdamOut1Ideal.τ).loc Cert.AdamOut1Ideal.main_arg4) = m ((c.tc : Thread Cert.AdamOut1Ideal.nD Cert.AdamOut1Ideal.τ).loc Cert.AdamOut1Ideal.main_arg4)
      ∧ r.2.mem ((c.tc : Thread Cert.AdamOut1Ideal.nD Cert.AdamOut1Ideal.τ).loc Cert.AdamOut1Ideal.main_arg5) = m ((c.tc : Thread Cert.AdamOut1Ideal.nD Cert.AdamOut1Ideal.τ).loc Cert.AdamOut1Ideal.main_arg5)
      ∧ r.2.mem ((c.tc : Thread Cert.AdamOut1Ideal.nD Cert.AdamOut1Ideal.τ).loc Cert.AdamOut1Ideal.main_arg6) = m ((c.tc : Thread Cert.AdamOut1Ideal.nD Cert.AdamOut1Ideal.τ).loc Cert.AdamOut1Ideal.main_arg6)
      ∧ r.2.mem ((c.tc : Thread Cert.AdamOut1Ideal.nD Cert.AdamOut1Ideal.τ).loc Cert.AdamOut1Ideal.main_arg7) = m ((c.tc : Thread Cert.AdamOut1Ideal.nD Cert.AdamOut1Ideal.τ).loc Cert.AdamOut1Ideal.main_arg7)
      ∧ r.2.mem ((c.tc : Thread Cert.AdamOut1Ideal.nD Cert.AdamOut1Ideal.τ).loc Cert.AdamOut1Ideal.main_arg8) = m ((c.tc : Thread Cert.AdamOut1Ideal.nD Cert.AdamOut1Ideal.τ).loc Cert.AdamOut1Ideal.main_arg8)
      ∧ r.2.mem ((c.tc : Thread Cert.AdamOut1Ideal.nD Cert.AdamOut1Ideal.τ).loc Cert.AdamOut1Ideal.main_arg9) = m ((c.tc : Thread Cert.AdamOut1Ideal.nD Cert.AdamOut1Ideal.τ).loc Cert.AdamOut1Ideal.main_arg9))
      ∧ r.2.sem = fun _ => 0)

def quiescent_AdamOut1Ideal_pre_core_out1 [hAdamOut1Ideal : Cert.AdamOut1Ideal.Facts] [hPre_core_out1 : Cert.Pre_core_out1.Facts] : Prop :=
  ∀ (m : (ℓ : Loc Cert.AdamOut1Ideal.nD Cert.AdamOut1Ideal.τ Cert.AdamOut1Ideal.sig) → Buf (Elt Ideal) ℓ) (g : Dev Cert.AdamOut1Ideal.nD → PrngReg), Pre_AdamOut1Ideal_core_out1 m →
    θ_run (Cert.AdamOut1Ideal.defs (F := Ideal)) (onTc (τ := Cert.AdamOut1Ideal.τ) (Cert.AdamOut1Ideal.main (F := Ideal))) ⟨m, fun _ => 0, g⟩ (fun r => (∀ c : Dev Cert.AdamOut1Ideal.nD,
      r.2.mem ((c.tc : Thread Cert.AdamOut1Ideal.nD Cert.AdamOut1Ideal.τ).loc Cert.AdamOut1Ideal.main_arg0) = m ((c.tc : Thread Cert.AdamOut1Ideal.nD Cert.AdamOut1Ideal.τ).loc Cert.AdamOut1Ideal.main_arg0)
      ∧ r.2.mem ((c.tc : Thread Cert.AdamOut1Ideal.nD Cert.AdamOut1Ideal.τ).loc Cert.AdamOut1Ideal.main_arg1) = m ((c.tc : Thread Cert.AdamOut1Ideal.nD Cert.AdamOut1Ideal.τ).loc Cert.AdamOut1Ideal.main_arg1)
      ∧ r.2.mem ((c.tc : Thread Cert.AdamOut1Ideal.nD Cert.AdamOut1Ideal.τ).loc Cert.AdamOut1Ideal.main_arg2) = m ((c.tc : Thread Cert.AdamOut1Ideal.nD Cert.AdamOut1Ideal.τ).loc Cert.AdamOut1Ideal.main_arg2)
      ∧ r.2.mem ((c.tc : Thread Cert.AdamOut1Ideal.nD Cert.AdamOut1Ideal.τ).loc Cert.AdamOut1Ideal.main_arg3) = m ((c.tc : Thread Cert.AdamOut1Ideal.nD Cert.AdamOut1Ideal.τ).loc Cert.AdamOut1Ideal.main_arg3)
      ∧ r.2.mem ((c.tc : Thread Cert.AdamOut1Ideal.nD Cert.AdamOut1Ideal.τ).loc Cert.AdamOut1Ideal.main_arg4) = m ((c.tc : Thread Cert.AdamOut1Ideal.nD Cert.AdamOut1Ideal.τ).loc Cert.AdamOut1Ideal.main_arg4)
      ∧ r.2.mem ((c.tc : Thread Cert.AdamOut1Ideal.nD Cert.AdamOut1Ideal.τ).loc Cert.AdamOut1Ideal.main_arg5) = m ((c.tc : Thread Cert.AdamOut1Ideal.nD Cert.AdamOut1Ideal.τ).loc Cert.AdamOut1Ideal.main_arg5)
      ∧ r.2.mem ((c.tc : Thread Cert.AdamOut1Ideal.nD Cert.AdamOut1Ideal.τ).loc Cert.AdamOut1Ideal.main_arg6) = m ((c.tc : Thread Cert.AdamOut1Ideal.nD Cert.AdamOut1Ideal.τ).loc Cert.AdamOut1Ideal.main_arg6)
      ∧ r.2.mem ((c.tc : Thread Cert.AdamOut1Ideal.nD Cert.AdamOut1Ideal.τ).loc Cert.AdamOut1Ideal.main_arg7) = m ((c.tc : Thread Cert.AdamOut1Ideal.nD Cert.AdamOut1Ideal.τ).loc Cert.AdamOut1Ideal.main_arg7)
      ∧ r.2.mem ((c.tc : Thread Cert.AdamOut1Ideal.nD Cert.AdamOut1Ideal.τ).loc Cert.AdamOut1Ideal.main_arg8) = m ((c.tc : Thread Cert.AdamOut1Ideal.nD Cert.AdamOut1Ideal.τ).loc Cert.AdamOut1Ideal.main_arg8)
      ∧ r.2.mem ((c.tc : Thread Cert.AdamOut1Ideal.nD Cert.AdamOut1Ideal.τ).loc Cert.AdamOut1Ideal.main_arg9) = m ((c.tc : Thread Cert.AdamOut1Ideal.nD Cert.AdamOut1Ideal.τ).loc Cert.AdamOut1Ideal.main_arg9))
      ∧ r.2.sem = fun _ => 0)

def quiescent_AdamOut1RefIdeal [hAdamOut1RefIdeal : Cert.AdamOut1RefIdeal.Facts] : Prop :=
  ∀ (m : (ℓ : Loc Cert.AdamOut1RefIdeal.nD Cert.AdamOut1RefIdeal.τ Cert.AdamOut1RefIdeal.sig) → Buf (Elt Ideal) ℓ) (g : Dev Cert.AdamOut1RefIdeal.nD → PrngReg), Pre_AdamOut1RefIdeal m →
    θ_run (Cert.AdamOut1RefIdeal.defs (F := Ideal)) (onTc (τ := Cert.AdamOut1RefIdeal.τ) (Cert.AdamOut1RefIdeal.main (F := Ideal))) ⟨m, fun _ => 0, g⟩ (fun r => (∀ c : Dev Cert.AdamOut1RefIdeal.nD,
      r.2.mem ((c.tc : Thread Cert.AdamOut1RefIdeal.nD Cert.AdamOut1RefIdeal.τ).loc Cert.AdamOut1RefIdeal.main_arg0) = m ((c.tc : Thread Cert.AdamOut1RefIdeal.nD Cert.AdamOut1RefIdeal.τ).loc Cert.AdamOut1RefIdeal.main_arg0)
      ∧ r.2.mem ((c.tc : Thread Cert.AdamOut1RefIdeal.nD Cert.AdamOut1RefIdeal.τ).loc Cert.AdamOut1RefIdeal.main_arg1) = m ((c.tc : Thread Cert.AdamOut1RefIdeal.nD Cert.AdamOut1RefIdeal.τ).loc Cert.AdamOut1RefIdeal.main_arg1)
      ∧ r.2.mem ((c.tc : Thread Cert.AdamOut1RefIdeal.nD Cert.AdamOut1RefIdeal.τ).loc Cert.AdamOut1RefIdeal.main_arg2) = m ((c.tc : Thread Cert.AdamOut1RefIdeal.nD Cert.AdamOut1RefIdeal.τ).loc Cert.AdamOut1RefIdeal.main_arg2)
      ∧ r.2.mem ((c.tc : Thread Cert.AdamOut1RefIdeal.nD Cert.AdamOut1RefIdeal.τ).loc Cert.AdamOut1RefIdeal.main_arg3) = m ((c.tc : Thread Cert.AdamOut1RefIdeal.nD Cert.AdamOut1RefIdeal.τ).loc Cert.AdamOut1RefIdeal.main_arg3)
      ∧ r.2.mem ((c.tc : Thread Cert.AdamOut1RefIdeal.nD Cert.AdamOut1RefIdeal.τ).loc Cert.AdamOut1RefIdeal.main_arg4) = m ((c.tc : Thread Cert.AdamOut1RefIdeal.nD Cert.AdamOut1RefIdeal.τ).loc Cert.AdamOut1RefIdeal.main_arg4)
      ∧ r.2.mem ((c.tc : Thread Cert.AdamOut1RefIdeal.nD Cert.AdamOut1RefIdeal.τ).loc Cert.AdamOut1RefIdeal.main_arg5) = m ((c.tc : Thread Cert.AdamOut1RefIdeal.nD Cert.AdamOut1RefIdeal.τ).loc Cert.AdamOut1RefIdeal.main_arg5)
      ∧ r.2.mem ((c.tc : Thread Cert.AdamOut1RefIdeal.nD Cert.AdamOut1RefIdeal.τ).loc Cert.AdamOut1RefIdeal.main_arg6) = m ((c.tc : Thread Cert.AdamOut1RefIdeal.nD Cert.AdamOut1RefIdeal.τ).loc Cert.AdamOut1RefIdeal.main_arg6)
      ∧ r.2.mem ((c.tc : Thread Cert.AdamOut1RefIdeal.nD Cert.AdamOut1RefIdeal.τ).loc Cert.AdamOut1RefIdeal.main_arg7) = m ((c.tc : Thread Cert.AdamOut1RefIdeal.nD Cert.AdamOut1RefIdeal.τ).loc Cert.AdamOut1RefIdeal.main_arg7)
      ∧ r.2.mem ((c.tc : Thread Cert.AdamOut1RefIdeal.nD Cert.AdamOut1RefIdeal.τ).loc Cert.AdamOut1RefIdeal.main_arg8) = m ((c.tc : Thread Cert.AdamOut1RefIdeal.nD Cert.AdamOut1RefIdeal.τ).loc Cert.AdamOut1RefIdeal.main_arg8)
      ∧ r.2.mem ((c.tc : Thread Cert.AdamOut1RefIdeal.nD Cert.AdamOut1RefIdeal.τ).loc Cert.AdamOut1RefIdeal.main_arg9) = m ((c.tc : Thread Cert.AdamOut1RefIdeal.nD Cert.AdamOut1RefIdeal.τ).loc Cert.AdamOut1RefIdeal.main_arg9))
      ∧ r.2.sem = fun _ => 0)

def quiescent_AdamOut1RefIdeal_pre_core_out1 [hAdamOut1RefIdeal : Cert.AdamOut1RefIdeal.Facts] [hPre_core_out1 : Cert.Pre_core_out1.Facts] : Prop :=
  ∀ (m : (ℓ : Loc Cert.AdamOut1RefIdeal.nD Cert.AdamOut1RefIdeal.τ Cert.AdamOut1RefIdeal.sig) → Buf (Elt Ideal) ℓ) (g : Dev Cert.AdamOut1RefIdeal.nD → PrngReg), Pre_AdamOut1RefIdeal_core_out1 m →
    θ_run (Cert.AdamOut1RefIdeal.defs (F := Ideal)) (onTc (τ := Cert.AdamOut1RefIdeal.τ) (Cert.AdamOut1RefIdeal.main (F := Ideal))) ⟨m, fun _ => 0, g⟩ (fun r => (∀ c : Dev Cert.AdamOut1RefIdeal.nD,
      r.2.mem ((c.tc : Thread Cert.AdamOut1RefIdeal.nD Cert.AdamOut1RefIdeal.τ).loc Cert.AdamOut1RefIdeal.main_arg0) = m ((c.tc : Thread Cert.AdamOut1RefIdeal.nD Cert.AdamOut1RefIdeal.τ).loc Cert.AdamOut1RefIdeal.main_arg0)
      ∧ r.2.mem ((c.tc : Thread Cert.AdamOut1RefIdeal.nD Cert.AdamOut1RefIdeal.τ).loc Cert.AdamOut1RefIdeal.main_arg1) = m ((c.tc : Thread Cert.AdamOut1RefIdeal.nD Cert.AdamOut1RefIdeal.τ).loc Cert.AdamOut1RefIdeal.main_arg1)
      ∧ r.2.mem ((c.tc : Thread Cert.AdamOut1RefIdeal.nD Cert.AdamOut1RefIdeal.τ).loc Cert.AdamOut1RefIdeal.main_arg2) = m ((c.tc : Thread Cert.AdamOut1RefIdeal.nD Cert.AdamOut1RefIdeal.τ).loc Cert.AdamOut1RefIdeal.main_arg2)
      ∧ r.2.mem ((c.tc : Thread Cert.AdamOut1RefIdeal.nD Cert.AdamOut1RefIdeal.τ).loc Cert.AdamOut1RefIdeal.main_arg3) = m ((c.tc : Thread Cert.AdamOut1RefIdeal.nD Cert.AdamOut1RefIdeal.τ).loc Cert.AdamOut1RefIdeal.main_arg3)
      ∧ r.2.mem ((c.tc : Thread Cert.AdamOut1RefIdeal.nD Cert.AdamOut1RefIdeal.τ).loc Cert.AdamOut1RefIdeal.main_arg4) = m ((c.tc : Thread Cert.AdamOut1RefIdeal.nD Cert.AdamOut1RefIdeal.τ).loc Cert.AdamOut1RefIdeal.main_arg4)
      ∧ r.2.mem ((c.tc : Thread Cert.AdamOut1RefIdeal.nD Cert.AdamOut1RefIdeal.τ).loc Cert.AdamOut1RefIdeal.main_arg5) = m ((c.tc : Thread Cert.AdamOut1RefIdeal.nD Cert.AdamOut1RefIdeal.τ).loc Cert.AdamOut1RefIdeal.main_arg5)
      ∧ r.2.mem ((c.tc : Thread Cert.AdamOut1RefIdeal.nD Cert.AdamOut1RefIdeal.τ).loc Cert.AdamOut1RefIdeal.main_arg6) = m ((c.tc : Thread Cert.AdamOut1RefIdeal.nD Cert.AdamOut1RefIdeal.τ).loc Cert.AdamOut1RefIdeal.main_arg6)
      ∧ r.2.mem ((c.tc : Thread Cert.AdamOut1RefIdeal.nD Cert.AdamOut1RefIdeal.τ).loc Cert.AdamOut1RefIdeal.main_arg7) = m ((c.tc : Thread Cert.AdamOut1RefIdeal.nD Cert.AdamOut1RefIdeal.τ).loc Cert.AdamOut1RefIdeal.main_arg7)
      ∧ r.2.mem ((c.tc : Thread Cert.AdamOut1RefIdeal.nD Cert.AdamOut1RefIdeal.τ).loc Cert.AdamOut1RefIdeal.main_arg8) = m ((c.tc : Thread Cert.AdamOut1RefIdeal.nD Cert.AdamOut1RefIdeal.τ).loc Cert.AdamOut1RefIdeal.main_arg8)
      ∧ r.2.mem ((c.tc : Thread Cert.AdamOut1RefIdeal.nD Cert.AdamOut1RefIdeal.τ).loc Cert.AdamOut1RefIdeal.main_arg9) = m ((c.tc : Thread Cert.AdamOut1RefIdeal.nD Cert.AdamOut1RefIdeal.τ).loc Cert.AdamOut1RefIdeal.main_arg9))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4)
      ∧ r.2.mem ((c.tc : Thread Cert.AdamIn.nD Cert.AdamIn.τ).loc Cert.AdamIn.main_arg5) = m ((c.tc : Thread Cert.AdamIn.nD Cert.AdamIn.τ).loc Cert.AdamIn.main_arg5)
      ∧ r.2.mem ((c.tc : Thread Cert.AdamIn.nD Cert.AdamIn.τ).loc Cert.AdamIn.main_arg6) = m ((c.tc : Thread Cert.AdamIn.nD Cert.AdamIn.τ).loc Cert.AdamIn.main_arg6)
      ∧ r.2.mem ((c.tc : Thread Cert.AdamIn.nD Cert.AdamIn.τ).loc Cert.AdamIn.main_arg7) = m ((c.tc : Thread Cert.AdamIn.nD Cert.AdamIn.τ).loc Cert.AdamIn.main_arg7))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4)
      ∧ r.2.mem ((c.tc : Thread Cert.AdamInIdeal.nD Cert.AdamInIdeal.τ).loc Cert.AdamInIdeal.main_arg5) = m ((c.tc : Thread Cert.AdamInIdeal.nD Cert.AdamInIdeal.τ).loc Cert.AdamInIdeal.main_arg5)
      ∧ r.2.mem ((c.tc : Thread Cert.AdamInIdeal.nD Cert.AdamInIdeal.τ).loc Cert.AdamInIdeal.main_arg6) = m ((c.tc : Thread Cert.AdamInIdeal.nD Cert.AdamInIdeal.τ).loc Cert.AdamInIdeal.main_arg6)
      ∧ r.2.mem ((c.tc : Thread Cert.AdamInIdeal.nD Cert.AdamInIdeal.τ).loc Cert.AdamInIdeal.main_arg7) = m ((c.tc : Thread Cert.AdamInIdeal.nD Cert.AdamInIdeal.τ).loc Cert.AdamInIdeal.main_arg7))
      ∧ r.2.sem = fun _ => 0)

def quiescent_AdamInIdeal_pre_core_in [hAdamInIdeal : Cert.AdamInIdeal.Facts] [hPre_core_in : Cert.Pre_core_in.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal_core_in m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4)
      ∧ r.2.mem ((c.tc : Thread Cert.AdamInIdeal.nD Cert.AdamInIdeal.τ).loc Cert.AdamInIdeal.main_arg5) = m ((c.tc : Thread Cert.AdamInIdeal.nD Cert.AdamInIdeal.τ).loc Cert.AdamInIdeal.main_arg5)
      ∧ r.2.mem ((c.tc : Thread Cert.AdamInIdeal.nD Cert.AdamInIdeal.τ).loc Cert.AdamInIdeal.main_arg6) = m ((c.tc : Thread Cert.AdamInIdeal.nD Cert.AdamInIdeal.τ).loc Cert.AdamInIdeal.main_arg6)
      ∧ r.2.mem ((c.tc : Thread Cert.AdamInIdeal.nD Cert.AdamInIdeal.τ).loc Cert.AdamInIdeal.main_arg7) = m ((c.tc : Thread Cert.AdamInIdeal.nD Cert.AdamInIdeal.τ).loc Cert.AdamInIdeal.main_arg7))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3)
      ∧ r.2.mem ((c.tc : Thread Cert.AdamInRefIdeal.nD Cert.AdamInRefIdeal.τ).loc Cert.AdamInRefIdeal.main_arg4) = m ((c.tc : Thread Cert.AdamInRefIdeal.nD Cert.AdamInRefIdeal.τ).loc Cert.AdamInRefIdeal.main_arg4)
      ∧ r.2.mem ((c.tc : Thread Cert.AdamInRefIdeal.nD Cert.AdamInRefIdeal.τ).loc Cert.AdamInRefIdeal.main_arg5) = m ((c.tc : Thread Cert.AdamInRefIdeal.nD Cert.AdamInRefIdeal.τ).loc Cert.AdamInRefIdeal.main_arg5)
      ∧ r.2.mem ((c.tc : Thread Cert.AdamInRefIdeal.nD Cert.AdamInRefIdeal.τ).loc Cert.AdamInRefIdeal.main_arg6) = m ((c.tc : Thread Cert.AdamInRefIdeal.nD Cert.AdamInRefIdeal.τ).loc Cert.AdamInRefIdeal.main_arg6)
      ∧ r.2.mem ((c.tc : Thread Cert.AdamInRefIdeal.nD Cert.AdamInRefIdeal.τ).loc Cert.AdamInRefIdeal.main_arg7) = m ((c.tc : Thread Cert.AdamInRefIdeal.nD Cert.AdamInRefIdeal.τ).loc Cert.AdamInRefIdeal.main_arg7))
      ∧ r.2.sem = fun _ => 0)

def quiescent_AdamInRefIdeal_pre_core_in [hAdamInRefIdeal : Cert.AdamInRefIdeal.Facts] [hPre_core_in : Cert.Pre_core_in.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal_core_in m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3)
      ∧ r.2.mem ((c.tc : Thread Cert.AdamInRefIdeal.nD Cert.AdamInRefIdeal.τ).loc Cert.AdamInRefIdeal.main_arg4) = m ((c.tc : Thread Cert.AdamInRefIdeal.nD Cert.AdamInRefIdeal.τ).loc Cert.AdamInRefIdeal.main_arg4)
      ∧ r.2.mem ((c.tc : Thread Cert.AdamInRefIdeal.nD Cert.AdamInRefIdeal.τ).loc Cert.AdamInRefIdeal.main_arg5) = m ((c.tc : Thread Cert.AdamInRefIdeal.nD Cert.AdamInRefIdeal.τ).loc Cert.AdamInRefIdeal.main_arg5)
      ∧ r.2.mem ((c.tc : Thread Cert.AdamInRefIdeal.nD Cert.AdamInRefIdeal.τ).loc Cert.AdamInRefIdeal.main_arg6) = m ((c.tc : Thread Cert.AdamInRefIdeal.nD Cert.AdamInRefIdeal.τ).loc Cert.AdamInRefIdeal.main_arg6)
      ∧ r.2.mem ((c.tc : Thread Cert.AdamInRefIdeal.nD Cert.AdamInRefIdeal.τ).loc Cert.AdamInRefIdeal.main_arg7) = m ((c.tc : Thread Cert.AdamInRefIdeal.nD Cert.AdamInRefIdeal.τ).loc Cert.AdamInRefIdeal.main_arg7))
      ∧ r.2.sem = fun _ => 0)

def preserves_Kernel_KernelIdeal : Prop :=
  IdealRules.sign_bit.Statement Cert.KernelIdeal.S544x1 .f32

def algebraic_KernelIdeal_ReferenceIdeal_pre_finite_no_tie [hKernelIdeal : Cert.KernelIdeal.Facts] [hReferenceIdeal : Cert.ReferenceIdeal.Facts] [hPre_finite_no_tie : Cert.Pre_finite_no_tie.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_no_tie m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v54_0)) (v1 : (c : Dev Cert.KernelIdeal.nD) → Buf (Elt Ideal) ((c.tc : Thread Cert.KernelIdeal.nD Cert.KernelIdeal.τ).loc Cert.KernelIdeal.main_v54_1)) (v2 : (c : Dev Cert.KernelIdeal.nD) → Buf (Elt Ideal) ((c.tc : Thread Cert.KernelIdeal.nD Cert.KernelIdeal.τ).loc Cert.KernelIdeal.main_v54_2)) (v3 : (c : Dev Cert.KernelIdeal.nD) → Buf (Elt Ideal) ((c.tc : Thread Cert.KernelIdeal.nD Cert.KernelIdeal.τ).loc Cert.KernelIdeal.main_v54_3)) (v4 : (c : Dev Cert.KernelIdeal.nD) → Buf (Elt Ideal) ((c.tc : Thread Cert.KernelIdeal.nD Cert.KernelIdeal.τ).loc Cert.KernelIdeal.main_v54_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54_0) = v0 c
          ∧ r.2.mem ((c.tc : Thread Cert.KernelIdeal.nD Cert.KernelIdeal.τ).loc Cert.KernelIdeal.main_v54_1) = v1 c
          ∧ r.2.mem ((c.tc : Thread Cert.KernelIdeal.nD Cert.KernelIdeal.τ).loc Cert.KernelIdeal.main_v54_2) = v2 c
          ∧ r.2.mem ((c.tc : Thread Cert.KernelIdeal.nD Cert.KernelIdeal.τ).loc Cert.KernelIdeal.main_v54_3) = v3 c
          ∧ r.2.mem ((c.tc : Thread Cert.KernelIdeal.nD Cert.KernelIdeal.τ).loc Cert.KernelIdeal.main_v54_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v143) = v0 c
          ∧ r.2.mem ((c.tc : Thread Cert.ReferenceIdeal.nD Cert.ReferenceIdeal.τ).loc Cert.ReferenceIdeal.main_v146) = v1 c
          ∧ r.2.mem ((c.tc : Thread Cert.ReferenceIdeal.nD Cert.ReferenceIdeal.τ).loc Cert.ReferenceIdeal.main_v149) = v2 c
          ∧ r.2.mem ((c.tc : Thread Cert.ReferenceIdeal.nD Cert.ReferenceIdeal.τ).loc Cert.ReferenceIdeal.main_v137) = v3 c
          ∧ r.2.mem ((c.tc : Thread Cert.ReferenceIdeal.nD Cert.ReferenceIdeal.τ).loc Cert.ReferenceIdeal.main_v140) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)) →
    ∃ (v0 : (c : Dev Cert.FfnUpIdeal.nD) → Buf (Elt Ideal) ((c.tc : Thread Cert.FfnUpIdeal.nD Cert.FfnUpIdeal.τ).loc Cert.FfnUpIdeal.main_v4_0)) (v1 : (c : Dev Cert.FfnUpIdeal.nD) → Buf (Elt Ideal) ((c.tc : Thread Cert.FfnUpIdeal.nD Cert.FfnUpIdeal.τ).loc Cert.FfnUpIdeal.main_v4_1)) (v2 : (c : Dev Cert.FfnUpIdeal.nD) → Buf (Elt Ideal) ((c.tc : Thread Cert.FfnUpIdeal.nD Cert.FfnUpIdeal.τ).loc Cert.FfnUpIdeal.main_v4_2)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v4_0) = v0 c
          ∧ r.2.mem ((c.tc : Thread Cert.FfnUpIdeal.nD Cert.FfnUpIdeal.τ).loc Cert.FfnUpIdeal.main_v4_1) = v1 c
          ∧ r.2.mem ((c.tc : Thread Cert.FfnUpIdeal.nD Cert.FfnUpIdeal.τ).loc Cert.FfnUpIdeal.main_v4_2) = v2 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v5) = v0 c
          ∧ r.2.mem ((c.tc : Thread Cert.FfnUpRefIdeal.nD Cert.FfnUpRefIdeal.τ).loc Cert.FfnUpRefIdeal.main_v6) = v1 c
          ∧ r.2.mem ((c.tc : Thread Cert.FfnUpRefIdeal.nD Cert.FfnUpRefIdeal.τ).loc Cert.FfnUpRefIdeal.main_v9) = v2 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)) →
    ∃ (v0 : (c : Dev Cert.FfnDownIdeal.nD) → Buf (Elt Ideal) ((c.tc : Thread Cert.FfnDownIdeal.nD Cert.FfnDownIdeal.τ).loc Cert.FfnDownIdeal.main_v1)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v1) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v3) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2))

def preserves_FfnAct_FfnActIdeal : Prop :=
  True

def algebraic_FfnActIdeal_FfnActRefIdeal_pre_finite [hFfnActIdeal : Cert.FfnActIdeal.Facts] [hFfnActRefIdeal : Cert.FfnActRefIdeal.Facts] [hPre_finite : Cert.Pre_finite.Facts] : Prop :=
  ∀ (m : (ℓ : Loc Cert.FfnActIdeal.nD Cert.FfnActIdeal.τ Cert.FfnActIdeal.sig) → Buf (Elt Ideal) ℓ) (g : Dev Cert.FfnActIdeal.nD → PrngReg)
    (m' : (ℓ : Loc Cert.FfnActRefIdeal.nD Cert.FfnActRefIdeal.τ Cert.FfnActRefIdeal.sig) → Buf (Elt Ideal) ℓ) (g' : Dev Cert.FfnActRefIdeal.nD → PrngReg), Pre_FfnActIdeal_finite m →
    (∀ c : Dev Cert.FfnActIdeal.nD,
      m' ((c.tc : Thread Cert.FfnActRefIdeal.nD Cert.FfnActRefIdeal.τ).loc Cert.FfnActRefIdeal.main_arg0) = m ((c.tc : Thread Cert.FfnActIdeal.nD Cert.FfnActIdeal.τ).loc Cert.FfnActIdeal.main_arg0)
      ∧ m' ((c.tc : Thread Cert.FfnActRefIdeal.nD Cert.FfnActRefIdeal.τ).loc Cert.FfnActRefIdeal.main_arg1) = m ((c.tc : Thread Cert.FfnActIdeal.nD Cert.FfnActIdeal.τ).loc Cert.FfnActIdeal.main_arg1)
      ∧ m' ((c.tc : Thread Cert.FfnActRefIdeal.nD Cert.FfnActRefIdeal.τ).loc Cert.FfnActRefIdeal.main_arg2) = m ((c.tc : Thread Cert.FfnActIdeal.nD Cert.FfnActIdeal.τ).loc Cert.FfnActIdeal.main_arg2)
      ∧ m' ((c.tc : Thread Cert.FfnActRefIdeal.nD Cert.FfnActRefIdeal.τ).loc Cert.FfnActRefIdeal.main_arg3) = m ((c.tc : Thread Cert.FfnActIdeal.nD Cert.FfnActIdeal.τ).loc Cert.FfnActIdeal.main_arg3)) →
    ∃ (v0 : (c : Dev Cert.FfnActIdeal.nD) → Buf (Elt Ideal) ((c.tc : Thread Cert.FfnActIdeal.nD Cert.FfnActIdeal.τ).loc Cert.FfnActIdeal.main_v1_0)) (v1 : (c : Dev Cert.FfnActIdeal.nD) → Buf (Elt Ideal) ((c.tc : Thread Cert.FfnActIdeal.nD Cert.FfnActIdeal.τ).loc Cert.FfnActIdeal.main_v1_1)),
      θ_run (Cert.FfnActIdeal.defs (F := Ideal)) (onTc (τ := Cert.FfnActIdeal.τ) (Cert.FfnActIdeal.main (F := Ideal))) ⟨m, fun _ => 0, g⟩ (fun r => ∀ c : Dev Cert.FfnActIdeal.nD,
          r.2.mem ((c.tc : Thread Cert.FfnActIdeal.nD Cert.FfnActIdeal.τ).loc Cert.FfnActIdeal.main_v1_0) = v0 c
          ∧ r.2.mem ((c.tc : Thread Cert.FfnActIdeal.nD Cert.FfnActIdeal.τ).loc Cert.FfnActIdeal.main_v1_1) = v1 c
          ∧ r.2.mem ((c.tc : Thread Cert.FfnActIdeal.nD Cert.FfnActIdeal.τ).loc Cert.FfnActIdeal.main_arg0) = m ((c.tc : Thread Cert.FfnActIdeal.nD Cert.FfnActIdeal.τ).loc Cert.FfnActIdeal.main_arg0)
          ∧ r.2.mem ((c.tc : Thread Cert.FfnActIdeal.nD Cert.FfnActIdeal.τ).loc Cert.FfnActIdeal.main_arg1) = m ((c.tc : Thread Cert.FfnActIdeal.nD Cert.FfnActIdeal.τ).loc Cert.FfnActIdeal.main_arg1)
          ∧ r.2.mem ((c.tc : Thread Cert.FfnActIdeal.nD Cert.FfnActIdeal.τ).loc Cert.FfnActIdeal.main_arg2) = m ((c.tc : Thread Cert.FfnActIdeal.nD Cert.FfnActIdeal.τ).loc Cert.FfnActIdeal.main_arg2)
          ∧ r.2.mem ((c.tc : Thread Cert.FfnActIdeal.nD Cert.FfnActIdeal.τ).loc Cert.FfnActIdeal.main_arg3) = m ((c.tc : Thread Cert.FfnActIdeal.nD Cert.FfnActIdeal.τ).loc Cert.FfnActIdeal.main_arg3))
      ∧ θ_run (Cert.FfnActRefIdeal.defs (F := Ideal)) (onTc (τ := Cert.FfnActRefIdeal.τ) (Cert.FfnActRefIdeal.main (F := Ideal))) ⟨m', fun _ => 0, g'⟩ (fun r => ∀ c : Dev Cert.FfnActRefIdeal.nD,
          r.2.mem ((c.tc : Thread Cert.FfnActRefIdeal.nD Cert.FfnActRefIdeal.τ).loc Cert.FfnActRefIdeal.main_v11) = v0 c
          ∧ r.2.mem ((c.tc : Thread Cert.FfnActRefIdeal.nD Cert.FfnActRefIdeal.τ).loc Cert.FfnActRefIdeal.main_v12) = v1 c
          ∧ r.2.mem ((c.tc : Thread Cert.FfnActRefIdeal.nD Cert.FfnActRefIdeal.τ).loc Cert.FfnActRefIdeal.main_arg0) = m' ((c.tc : Thread Cert.FfnActRefIdeal.nD Cert.FfnActRefIdeal.τ).loc Cert.FfnActRefIdeal.main_arg0)
          ∧ r.2.mem ((c.tc : Thread Cert.FfnActRefIdeal.nD Cert.FfnActRefIdeal.τ).loc Cert.FfnActRefIdeal.main_arg1) = m' ((c.tc : Thread Cert.FfnActRefIdeal.nD Cert.FfnActRefIdeal.τ).loc Cert.FfnActRefIdeal.main_arg1)
          ∧ r.2.mem ((c.tc : Thread Cert.FfnActRefIdeal.nD Cert.FfnActRefIdeal.τ).loc Cert.FfnActRefIdeal.main_arg2) = m' ((c.tc : Thread Cert.FfnActRefIdeal.nD Cert.FfnActRefIdeal.τ).loc Cert.FfnActRefIdeal.main_arg2)
          ∧ r.2.mem ((c.tc : Thread Cert.FfnActRefIdeal.nD Cert.FfnActRefIdeal.τ).loc Cert.FfnActRefIdeal.main_arg3) = m' ((c.tc : Thread Cert.FfnActRefIdeal.nD Cert.FfnActRefIdeal.τ).loc Cert.FfnActRefIdeal.main_arg3))

def preserves_FfnIn_FfnInIdeal : Prop :=
  True

def algebraic_FfnInIdeal_FfnInRefIdeal [hFfnInIdeal : Cert.FfnInIdeal.Facts] [hFfnInRefIdeal : Cert.FfnInRefIdeal.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)
      ∧ m' ((c.tc : Thread Cert.FfnInRefIdeal.nD Cert.FfnInRefIdeal.τ).loc Cert.FfnInRefIdeal.main_arg2) = m ((c.tc : Thread Cert.FfnInIdeal.nD Cert.FfnInIdeal.τ).loc Cert.FfnInIdeal.main_arg2)
      ∧ m' ((c.tc : Thread Cert.FfnInRefIdeal.nD Cert.FfnInRefIdeal.τ).loc Cert.FfnInRefIdeal.main_arg3) = m ((c.tc : Thread Cert.FfnInIdeal.nD Cert.FfnInIdeal.τ).loc Cert.FfnInIdeal.main_arg3)) →
    ∃ (v0 : (c : Dev Cert.FfnInIdeal.nD) → Buf (Elt Ideal) ((c.tc : Thread Cert.FfnInIdeal.nD Cert.FfnInIdeal.τ).loc Cert.FfnInIdeal.main_v4)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v4) = v0 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
          ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
          ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v9) = v0 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1)
          ∧ r.2.mem ((c.tc : Thread Cert.FfnInRefIdeal.nD Cert.FfnInRefIdeal.τ).loc Cert.FfnInRefIdeal.main_arg2) = m' ((c.tc : Thread Cert.FfnInRefIdeal.nD Cert.FfnInRefIdeal.τ).loc Cert.FfnInRefIdeal.main_arg2)
          ∧ r.2.mem ((c.tc : Thread Cert.FfnInRefIdeal.nD Cert.FfnInRefIdeal.τ).loc Cert.FfnInRefIdeal.main_arg3) = m' ((c.tc : Thread Cert.FfnInRefIdeal.nD Cert.FfnInRefIdeal.τ).loc Cert.FfnInRefIdeal.main_arg3))

def preserves_Dhn_DhnIdeal : Prop :=
  True

def algebraic_DhnIdeal_DhnRefIdeal [hDhnIdeal : Cert.DhnIdeal.Facts] [hDhnRefIdeal : Cert.DhnRefIdeal.Facts] : Prop :=
  ∀ (m : (ℓ : Loc Cert.DhnIdeal.nD Cert.DhnIdeal.τ Cert.DhnIdeal.sig) → Buf (Elt Ideal) ℓ) (g : Dev Cert.DhnIdeal.nD → PrngReg)
    (m' : (ℓ : Loc Cert.DhnRefIdeal.nD Cert.DhnRefIdeal.τ Cert.DhnRefIdeal.sig) → Buf (Elt Ideal) ℓ) (g' : Dev Cert.DhnRefIdeal.nD → PrngReg), Pre_DhnIdeal m →
    (∀ c : Dev Cert.DhnIdeal.nD,
      m' ((c.tc : Thread Cert.DhnRefIdeal.nD Cert.DhnRefIdeal.τ).loc Cert.DhnRefIdeal.main_arg0) = m ((c.tc : Thread Cert.DhnIdeal.nD Cert.DhnIdeal.τ).loc Cert.DhnIdeal.main_arg0)
      ∧ m' ((c.tc : Thread Cert.DhnRefIdeal.nD Cert.DhnRefIdeal.τ).loc Cert.DhnRefIdeal.main_arg1) = m ((c.tc : Thread Cert.DhnIdeal.nD Cert.DhnIdeal.τ).loc Cert.DhnIdeal.main_arg1)) →
    ∃ (v0 : (c : Dev Cert.DhnIdeal.nD) → Buf (Elt Ideal) ((c.tc : Thread Cert.DhnIdeal.nD Cert.DhnIdeal.τ).loc Cert.DhnIdeal.main_v30)),
      θ_run (Cert.DhnIdeal.defs (F := Ideal)) (onTc (τ := Cert.DhnIdeal.τ) (Cert.DhnIdeal.main (F := Ideal))) ⟨m, fun _ => 0, g⟩ (fun r => ∀ c : Dev Cert.DhnIdeal.nD,
          r.2.mem ((c.tc : Thread Cert.DhnIdeal.nD Cert.DhnIdeal.τ).loc Cert.DhnIdeal.main_v30) = v0 c
          ∧ r.2.mem ((c.tc : Thread Cert.DhnIdeal.nD Cert.DhnIdeal.τ).loc Cert.DhnIdeal.main_arg0) = m ((c.tc : Thread Cert.DhnIdeal.nD Cert.DhnIdeal.τ).loc Cert.DhnIdeal.main_arg0)
          ∧ r.2.mem ((c.tc : Thread Cert.DhnIdeal.nD Cert.DhnIdeal.τ).loc Cert.DhnIdeal.main_arg1) = m ((c.tc : Thread Cert.DhnIdeal.nD Cert.DhnIdeal.τ).loc Cert.DhnIdeal.main_arg1))
      ∧ θ_run (Cert.DhnRefIdeal.defs (F := Ideal)) (onTc (τ := Cert.DhnRefIdeal.τ) (Cert.DhnRefIdeal.main (F := Ideal))) ⟨m', fun _ => 0, g'⟩ (fun r => ∀ c : Dev Cert.DhnRefIdeal.nD,
          r.2.mem ((c.tc : Thread Cert.DhnRefIdeal.nD Cert.DhnRefIdeal.τ).loc Cert.DhnRefIdeal.main_v4) = v0 c
          ∧ r.2.mem ((c.tc : Thread Cert.DhnRefIdeal.nD Cert.DhnRefIdeal.τ).loc Cert.DhnRefIdeal.main_arg0) = m' ((c.tc : Thread Cert.DhnRefIdeal.nD Cert.DhnRefIdeal.τ).loc Cert.DhnRefIdeal.main_arg0)
          ∧ r.2.mem ((c.tc : Thread Cert.DhnRefIdeal.nD Cert.DhnRefIdeal.τ).loc Cert.DhnRefIdeal.main_arg1) = m' ((c.tc : Thread Cert.DhnRefIdeal.nD Cert.DhnRefIdeal.τ).loc Cert.DhnRefIdeal.main_arg1))

def preserves_DwQkv_DwQkvIdeal : Prop :=
  True

def algebraic_DwQkvIdeal_DwQkvRefIdeal [hDwQkvIdeal : Cert.DwQkvIdeal.Facts] [hDwQkvRefIdeal : Cert.DwQkvRefIdeal.Facts] : Prop :=
  ∀ (m : (ℓ : Loc Cert.DwQkvIdeal.nD Cert.DwQkvIdeal.τ Cert.DwQkvIdeal.sig) → Buf (Elt Ideal) ℓ) (g : Dev Cert.DwQkvIdeal.nD → PrngReg)
    (m' : (ℓ : Loc Cert.DwQkvRefIdeal.nD Cert.DwQkvRefIdeal.τ Cert.DwQkvRefIdeal.sig) → Buf (Elt Ideal) ℓ) (g' : Dev Cert.DwQkvRefIdeal.nD → PrngReg), Pre_DwQkvIdeal m →
    (∀ c : Dev Cert.DwQkvIdeal.nD,
      m' ((c.tc : Thread Cert.DwQkvRefIdeal.nD Cert.DwQkvRefIdeal.τ).loc Cert.DwQkvRefIdeal.main_arg0) = m ((c.tc : Thread Cert.DwQkvIdeal.nD Cert.DwQkvIdeal.τ).loc Cert.DwQkvIdeal.main_arg0)
      ∧ m' ((c.tc : Thread Cert.DwQkvRefIdeal.nD Cert.DwQkvRefIdeal.τ).loc Cert.DwQkvRefIdeal.main_arg1) = m ((c.tc : Thread Cert.DwQkvIdeal.nD Cert.DwQkvIdeal.τ).loc Cert.DwQkvIdeal.main_arg1)) →
    ∃ (v0 : (c : Dev Cert.DwQkvIdeal.nD) → Buf (Elt Ideal) ((c.tc : Thread Cert.DwQkvIdeal.nD Cert.DwQkvIdeal.τ).loc Cert.DwQkvIdeal.main_v0)),
      θ_run (Cert.DwQkvIdeal.defs (F := Ideal)) (onTc (τ := Cert.DwQkvIdeal.τ) (Cert.DwQkvIdeal.main (F := Ideal))) ⟨m, fun _ => 0, g⟩ (fun r => ∀ c : Dev Cert.DwQkvIdeal.nD,
          r.2.mem ((c.tc : Thread Cert.DwQkvIdeal.nD Cert.DwQkvIdeal.τ).loc Cert.DwQkvIdeal.main_v0) = v0 c
          ∧ r.2.mem ((c.tc : Thread Cert.DwQkvIdeal.nD Cert.DwQkvIdeal.τ).loc Cert.DwQkvIdeal.main_arg0) = m ((c.tc : Thread Cert.DwQkvIdeal.nD Cert.DwQkvIdeal.τ).loc Cert.DwQkvIdeal.main_arg0)
          ∧ r.2.mem ((c.tc : Thread Cert.DwQkvIdeal.nD Cert.DwQkvIdeal.τ).loc Cert.DwQkvIdeal.main_arg1) = m ((c.tc : Thread Cert.DwQkvIdeal.nD Cert.DwQkvIdeal.τ).loc Cert.DwQkvIdeal.main_arg1))
      ∧ θ_run (Cert.DwQkvRefIdeal.defs (F := Ideal)) (onTc (τ := Cert.DwQkvRefIdeal.τ) (Cert.DwQkvRefIdeal.main (F := Ideal))) ⟨m', fun _ => 0, g'⟩ (fun r => ∀ c : Dev Cert.DwQkvRefIdeal.nD,
          r.2.mem ((c.tc : Thread Cert.DwQkvRefIdeal.nD Cert.DwQkvRefIdeal.τ).loc Cert.DwQkvRefIdeal.main_v8) = v0 c
          ∧ r.2.mem ((c.tc : Thread Cert.DwQkvRefIdeal.nD Cert.DwQkvRefIdeal.τ).loc Cert.DwQkvRefIdeal.main_arg0) = m' ((c.tc : Thread Cert.DwQkvRefIdeal.nD Cert.DwQkvRefIdeal.τ).loc Cert.DwQkvRefIdeal.main_arg0)
          ∧ r.2.mem ((c.tc : Thread Cert.DwQkvRefIdeal.nD Cert.DwQkvRefIdeal.τ).loc Cert.DwQkvRefIdeal.main_arg1) = m' ((c.tc : Thread Cert.DwQkvRefIdeal.nD Cert.DwQkvRefIdeal.τ).loc Cert.DwQkvRefIdeal.main_arg1))

def preserves_DwE_DwEIdeal : Prop :=
  True

def algebraic_DwEIdeal_DwERefIdeal [hDwEIdeal : Cert.DwEIdeal.Facts] [hDwERefIdeal : Cert.DwERefIdeal.Facts] : Prop :=
  ∀ (m : (ℓ : Loc Cert.DwEIdeal.nD Cert.DwEIdeal.τ Cert.DwEIdeal.sig) → Buf (Elt Ideal) ℓ) (g : Dev Cert.DwEIdeal.nD → PrngReg)
    (m' : (ℓ : Loc Cert.DwERefIdeal.nD Cert.DwERefIdeal.τ Cert.DwERefIdeal.sig) → Buf (Elt Ideal) ℓ) (g' : Dev Cert.DwERefIdeal.nD → PrngReg), Pre_DwEIdeal m →
    (∀ c : Dev Cert.DwEIdeal.nD,
      m' ((c.tc : Thread Cert.DwERefIdeal.nD Cert.DwERefIdeal.τ).loc Cert.DwERefIdeal.main_arg0) = m ((c.tc : Thread Cert.DwEIdeal.nD Cert.DwEIdeal.τ).loc Cert.DwEIdeal.main_arg0)
      ∧ m' ((c.tc : Thread Cert.DwERefIdeal.nD Cert.DwERefIdeal.τ).loc Cert.DwERefIdeal.main_arg1) = m ((c.tc : Thread Cert.DwEIdeal.nD Cert.DwEIdeal.τ).loc Cert.DwEIdeal.main_arg1)) →
    ∃ (v0 : (c : Dev Cert.DwEIdeal.nD) → Buf (Elt Ideal) ((c.tc : Thread Cert.DwEIdeal.nD Cert.DwEIdeal.τ).loc Cert.DwEIdeal.main_v2)),
      θ_run (Cert.DwEIdeal.defs (F := Ideal)) (onTc (τ := Cert.DwEIdeal.τ) (Cert.DwEIdeal.main (F := Ideal))) ⟨m, fun _ => 0, g⟩ (fun r => ∀ c : Dev Cert.DwEIdeal.nD,
          r.2.mem ((c.tc : Thread Cert.DwEIdeal.nD Cert.DwEIdeal.τ).loc Cert.DwEIdeal.main_v2) = v0 c
          ∧ r.2.mem ((c.tc : Thread Cert.DwEIdeal.nD Cert.DwEIdeal.τ).loc Cert.DwEIdeal.main_arg0) = m ((c.tc : Thread Cert.DwEIdeal.nD Cert.DwEIdeal.τ).loc Cert.DwEIdeal.main_arg0)
          ∧ r.2.mem ((c.tc : Thread Cert.DwEIdeal.nD Cert.DwEIdeal.τ).loc Cert.DwEIdeal.main_arg1) = m ((c.tc : Thread Cert.DwEIdeal.nD Cert.DwEIdeal.τ).loc Cert.DwEIdeal.main_arg1))
      ∧ θ_run (Cert.DwERefIdeal.defs (F := Ideal)) (onTc (τ := Cert.DwERefIdeal.τ) (Cert.DwERefIdeal.main (F := Ideal))) ⟨m', fun _ => 0, g'⟩ (fun r => ∀ c : Dev Cert.DwERefIdeal.nD,
          r.2.mem ((c.tc : Thread Cert.DwERefIdeal.nD Cert.DwERefIdeal.τ).loc Cert.DwERefIdeal.main_v10) = v0 c
          ∧ r.2.mem ((c.tc : Thread Cert.DwERefIdeal.nD Cert.DwERefIdeal.τ).loc Cert.DwERefIdeal.main_arg0) = m' ((c.tc : Thread Cert.DwERefIdeal.nD Cert.DwERefIdeal.τ).loc Cert.DwERefIdeal.main_arg0)
          ∧ r.2.mem ((c.tc : Thread Cert.DwERefIdeal.nD Cert.DwERefIdeal.τ).loc Cert.DwERefIdeal.main_arg1) = m' ((c.tc : Thread Cert.DwERefIdeal.nD Cert.DwERefIdeal.τ).loc Cert.DwERefIdeal.main_arg1))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v2)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v2) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v6) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1))

def preserves_Dmix_DmixIdeal : Prop :=
  True

def algebraic_DmixIdeal_DmixRefIdeal [hDmixIdeal : Cert.DmixIdeal.Facts] [hDmixRefIdeal : Cert.DmixRefIdeal.Facts] : Prop :=
  ∀ (m : (ℓ : Loc Cert.DmixIdeal.nD Cert.DmixIdeal.τ Cert.DmixIdeal.sig) → Buf (Elt Ideal) ℓ) (g : Dev Cert.DmixIdeal.nD → PrngReg)
    (m' : (ℓ : Loc Cert.DmixRefIdeal.nD Cert.DmixRefIdeal.τ Cert.DmixRefIdeal.sig) → Buf (Elt Ideal) ℓ) (g' : Dev Cert.DmixRefIdeal.nD → PrngReg), Pre_DmixIdeal m →
    (∀ c : Dev Cert.DmixIdeal.nD,
      m' ((c.tc : Thread Cert.DmixRefIdeal.nD Cert.DmixRefIdeal.τ).loc Cert.DmixRefIdeal.main_arg0) = m ((c.tc : Thread Cert.DmixIdeal.nD Cert.DmixIdeal.τ).loc Cert.DmixIdeal.main_arg0)
      ∧ m' ((c.tc : Thread Cert.DmixRefIdeal.nD Cert.DmixRefIdeal.τ).loc Cert.DmixRefIdeal.main_arg1) = m ((c.tc : Thread Cert.DmixIdeal.nD Cert.DmixIdeal.τ).loc Cert.DmixIdeal.main_arg1)) →
    ∃ (v0 : (c : Dev Cert.DmixIdeal.nD) → Buf (Elt Ideal) ((c.tc : Thread Cert.DmixIdeal.nD Cert.DmixIdeal.τ).loc Cert.DmixIdeal.main_v0)),
      θ_run (Cert.DmixIdeal.defs (F := Ideal)) (onTc (τ := Cert.DmixIdeal.τ) (Cert.DmixIdeal.main (F := Ideal))) ⟨m, fun _ => 0, g⟩ (fun r => ∀ c : Dev Cert.DmixIdeal.nD,
          r.2.mem ((c.tc : Thread Cert.DmixIdeal.nD Cert.DmixIdeal.τ).loc Cert.DmixIdeal.main_v0) = v0 c
          ∧ r.2.mem ((c.tc : Thread Cert.DmixIdeal.nD Cert.DmixIdeal.τ).loc Cert.DmixIdeal.main_arg0) = m ((c.tc : Thread Cert.DmixIdeal.nD Cert.DmixIdeal.τ).loc Cert.DmixIdeal.main_arg0)
          ∧ r.2.mem ((c.tc : Thread Cert.DmixIdeal.nD Cert.DmixIdeal.τ).loc Cert.DmixIdeal.main_arg1) = m ((c.tc : Thread Cert.DmixIdeal.nD Cert.DmixIdeal.τ).loc Cert.DmixIdeal.main_arg1))
      ∧ θ_run (Cert.DmixRefIdeal.defs (F := Ideal)) (onTc (τ := Cert.DmixRefIdeal.τ) (Cert.DmixRefIdeal.main (F := Ideal))) ⟨m', fun _ => 0, g'⟩ (fun r => ∀ c : Dev Cert.DmixRefIdeal.nD,
          r.2.mem ((c.tc : Thread Cert.DmixRefIdeal.nD Cert.DmixRefIdeal.τ).loc Cert.DmixRefIdeal.main_v4) = v0 c
          ∧ r.2.mem ((c.tc : Thread Cert.DmixRefIdeal.nD Cert.DmixRefIdeal.τ).loc Cert.DmixRefIdeal.main_arg0) = m' ((c.tc : Thread Cert.DmixRefIdeal.nD Cert.DmixRefIdeal.τ).loc Cert.DmixRefIdeal.main_arg0)
          ∧ r.2.mem ((c.tc : Thread Cert.DmixRefIdeal.nD Cert.DmixRefIdeal.τ).loc Cert.DmixRefIdeal.main_arg1) = m' ((c.tc : Thread Cert.DmixRefIdeal.nD Cert.DmixRefIdeal.τ).loc Cert.DmixRefIdeal.main_arg1))

def preserves_ProjQkv_ProjQkvIdeal : Prop :=
  True

def algebraic_ProjQkvIdeal_ProjQkvRefIdeal [hProjQkvIdeal : Cert.ProjQkvIdeal.Facts] [hProjQkvRefIdeal : Cert.ProjQkvRefIdeal.Facts] : Prop :=
  ∀ (m : (ℓ : Loc Cert.ProjQkvIdeal.nD Cert.ProjQkvIdeal.τ Cert.ProjQkvIdeal.sig) → Buf (Elt Ideal) ℓ) (g : Dev Cert.ProjQkvIdeal.nD → PrngReg)
    (m' : (ℓ : Loc Cert.ProjQkvRefIdeal.nD Cert.ProjQkvRefIdeal.τ Cert.ProjQkvRefIdeal.sig) → Buf (Elt Ideal) ℓ) (g' : Dev Cert.ProjQkvRefIdeal.nD → PrngReg), Pre_ProjQkvIdeal m →
    (∀ c : Dev Cert.ProjQkvIdeal.nD,
      m' ((c.tc : Thread Cert.ProjQkvRefIdeal.nD Cert.ProjQkvRefIdeal.τ).loc Cert.ProjQkvRefIdeal.main_arg0) = m ((c.tc : Thread Cert.ProjQkvIdeal.nD Cert.ProjQkvIdeal.τ).loc Cert.ProjQkvIdeal.main_arg0)
      ∧ m' ((c.tc : Thread Cert.ProjQkvRefIdeal.nD Cert.ProjQkvRefIdeal.τ).loc Cert.ProjQkvRefIdeal.main_arg1) = m ((c.tc : Thread Cert.ProjQkvIdeal.nD Cert.ProjQkvIdeal.τ).loc Cert.ProjQkvIdeal.main_arg1)) →
    ∃ (v0 : (c : Dev Cert.ProjQkvIdeal.nD) → Buf (Elt Ideal) ((c.tc : Thread Cert.ProjQkvIdeal.nD Cert.ProjQkvIdeal.τ).loc Cert.ProjQkvIdeal.main_v0)),
      θ_run (Cert.ProjQkvIdeal.defs (F := Ideal)) (onTc (τ := Cert.ProjQkvIdeal.τ) (Cert.ProjQkvIdeal.main (F := Ideal))) ⟨m, fun _ => 0, g⟩ (fun r => ∀ c : Dev Cert.ProjQkvIdeal.nD,
          r.2.mem ((c.tc : Thread Cert.ProjQkvIdeal.nD Cert.ProjQkvIdeal.τ).loc Cert.ProjQkvIdeal.main_v0) = v0 c
          ∧ r.2.mem ((c.tc : Thread Cert.ProjQkvIdeal.nD Cert.ProjQkvIdeal.τ).loc Cert.ProjQkvIdeal.main_arg0) = m ((c.tc : Thread Cert.ProjQkvIdeal.nD Cert.ProjQkvIdeal.τ).loc Cert.ProjQkvIdeal.main_arg0)
          ∧ r.2.mem ((c.tc : Thread Cert.ProjQkvIdeal.nD Cert.ProjQkvIdeal.τ).loc Cert.ProjQkvIdeal.main_arg1) = m ((c.tc : Thread Cert.ProjQkvIdeal.nD Cert.ProjQkvIdeal.τ).loc Cert.ProjQkvIdeal.main_arg1))
      ∧ θ_run (Cert.ProjQkvRefIdeal.defs (F := Ideal)) (onTc (τ := Cert.ProjQkvRefIdeal.τ) (Cert.ProjQkvRefIdeal.main (F := Ideal))) ⟨m', fun _ => 0, g'⟩ (fun r => ∀ c : Dev Cert.ProjQkvRefIdeal.nD,
          r.2.mem ((c.tc : Thread Cert.ProjQkvRefIdeal.nD Cert.ProjQkvRefIdeal.τ).loc Cert.ProjQkvRefIdeal.main_v4) = v0 c
          ∧ r.2.mem ((c.tc : Thread Cert.ProjQkvRefIdeal.nD Cert.ProjQkvRefIdeal.τ).loc Cert.ProjQkvRefIdeal.main_arg0) = m' ((c.tc : Thread Cert.ProjQkvRefIdeal.nD Cert.ProjQkvRefIdeal.τ).loc Cert.ProjQkvRefIdeal.main_arg0)
          ∧ r.2.mem ((c.tc : Thread Cert.ProjQkvRefIdeal.nD Cert.ProjQkvRefIdeal.τ).loc Cert.ProjQkvRefIdeal.main_arg1) = m' ((c.tc : Thread Cert.ProjQkvRefIdeal.nD Cert.ProjQkvRefIdeal.τ).loc Cert.ProjQkvRefIdeal.main_arg1))

def preserves_ProjE_ProjEIdeal : Prop :=
  True

def algebraic_ProjEIdeal_ProjERefIdeal [hProjEIdeal : Cert.ProjEIdeal.Facts] [hProjERefIdeal : Cert.ProjERefIdeal.Facts] : Prop :=
  ∀ (m : (ℓ : Loc Cert.ProjEIdeal.nD Cert.ProjEIdeal.τ Cert.ProjEIdeal.sig) → Buf (Elt Ideal) ℓ) (g : Dev Cert.ProjEIdeal.nD → PrngReg)
    (m' : (ℓ : Loc Cert.ProjERefIdeal.nD Cert.ProjERefIdeal.τ Cert.ProjERefIdeal.sig) → Buf (Elt Ideal) ℓ) (g' : Dev Cert.ProjERefIdeal.nD → PrngReg), Pre_ProjEIdeal m →
    (∀ c : Dev Cert.ProjEIdeal.nD,
      m' ((c.tc : Thread Cert.ProjERefIdeal.nD Cert.ProjERefIdeal.τ).loc Cert.ProjERefIdeal.main_arg0) = m ((c.tc : Thread Cert.ProjEIdeal.nD Cert.ProjEIdeal.τ).loc Cert.ProjEIdeal.main_arg0)
      ∧ m' ((c.tc : Thread Cert.ProjERefIdeal.nD Cert.ProjERefIdeal.τ).loc Cert.ProjERefIdeal.main_arg1) = m ((c.tc : Thread Cert.ProjEIdeal.nD Cert.ProjEIdeal.τ).loc Cert.ProjEIdeal.main_arg1)) →
    ∃ (v0 : (c : Dev Cert.ProjEIdeal.nD) → Buf (Elt Ideal) ((c.tc : Thread Cert.ProjEIdeal.nD Cert.ProjEIdeal.τ).loc Cert.ProjEIdeal.main_v0)),
      θ_run (Cert.ProjEIdeal.defs (F := Ideal)) (onTc (τ := Cert.ProjEIdeal.τ) (Cert.ProjEIdeal.main (F := Ideal))) ⟨m, fun _ => 0, g⟩ (fun r => ∀ c : Dev Cert.ProjEIdeal.nD,
          r.2.mem ((c.tc : Thread Cert.ProjEIdeal.nD Cert.ProjEIdeal.τ).loc Cert.ProjEIdeal.main_v0) = v0 c
          ∧ r.2.mem ((c.tc : Thread Cert.ProjEIdeal.nD Cert.ProjEIdeal.τ).loc Cert.ProjEIdeal.main_arg0) = m ((c.tc : Thread Cert.ProjEIdeal.nD Cert.ProjEIdeal.τ).loc Cert.ProjEIdeal.main_arg0)
          ∧ r.2.mem ((c.tc : Thread Cert.ProjEIdeal.nD Cert.ProjEIdeal.τ).loc Cert.ProjEIdeal.main_arg1) = m ((c.tc : Thread Cert.ProjEIdeal.nD Cert.ProjEIdeal.τ).loc Cert.ProjEIdeal.main_arg1))
      ∧ θ_run (Cert.ProjERefIdeal.defs (F := Ideal)) (onTc (τ := Cert.ProjERefIdeal.τ) (Cert.ProjERefIdeal.main (F := Ideal))) ⟨m', fun _ => 0, g'⟩ (fun r => ∀ c : Dev Cert.ProjERefIdeal.nD,
          r.2.mem ((c.tc : Thread Cert.ProjERefIdeal.nD Cert.ProjERefIdeal.τ).loc Cert.ProjERefIdeal.main_v7) = v0 c
          ∧ r.2.mem ((c.tc : Thread Cert.ProjERefIdeal.nD Cert.ProjERefIdeal.τ).loc Cert.ProjERefIdeal.main_arg0) = m' ((c.tc : Thread Cert.ProjERefIdeal.nD Cert.ProjERefIdeal.τ).loc Cert.ProjERefIdeal.main_arg0)
          ∧ r.2.mem ((c.tc : Thread Cert.ProjERefIdeal.nD Cert.ProjERefIdeal.τ).loc Cert.ProjERefIdeal.main_arg1) = m' ((c.tc : Thread Cert.ProjERefIdeal.nD Cert.ProjERefIdeal.τ).loc Cert.ProjERefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v2) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v3) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_NormBwd_NormBwdIdeal : Prop :=
  True

def algebraic_NormBwdIdeal_NormBwdRefIdeal [hNormBwdIdeal : Cert.NormBwdIdeal.Facts] [hNormBwdRefIdeal : Cert.NormBwdRefIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)
      ∧ m' ((c.tc : Thread Cert.NormBwdRefIdeal.nD Cert.NormBwdRefIdeal.τ).loc Cert.NormBwdRefIdeal.main_arg3) = m ((c.tc : Thread Cert.NormBwdIdeal.nD Cert.NormBwdIdeal.τ).loc Cert.NormBwdIdeal.main_arg3)) →
    ∃ (v0 : (c : Dev Cert.NormBwdIdeal.nD) → Buf (Elt Ideal) ((c.tc : Thread Cert.NormBwdIdeal.nD Cert.NormBwdIdeal.τ).loc Cert.NormBwdIdeal.main_v1_0)) (v1 : (c : Dev Cert.NormBwdIdeal.nD) → Buf (Elt Ideal) ((c.tc : Thread Cert.NormBwdIdeal.nD Cert.NormBwdIdeal.τ).loc Cert.NormBwdIdeal.main_v1_1)) (v2 : (c : Dev Cert.NormBwdIdeal.nD) → Buf (Elt Ideal) ((c.tc : Thread Cert.NormBwdIdeal.nD Cert.NormBwdIdeal.τ).loc Cert.NormBwdIdeal.main_v1_2)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v1_0) = v0 c
          ∧ r.2.mem ((c.tc : Thread Cert.NormBwdIdeal.nD Cert.NormBwdIdeal.τ).loc Cert.NormBwdIdeal.main_v1_1) = v1 c
          ∧ r.2.mem ((c.tc : Thread Cert.NormBwdIdeal.nD Cert.NormBwdIdeal.τ).loc Cert.NormBwdIdeal.main_v1_2) = v2 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v36) = v0 c
          ∧ r.2.mem ((c.tc : Thread Cert.NormBwdRefIdeal.nD Cert.NormBwdRefIdeal.τ).loc Cert.NormBwdRefIdeal.main_v37) = v1 c
          ∧ r.2.mem ((c.tc : Thread Cert.NormBwdRefIdeal.nD Cert.NormBwdRefIdeal.τ).loc Cert.NormBwdRefIdeal.main_v39) = v2 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2)
          ∧ r.2.mem ((c.tc : Thread Cert.NormBwdRefIdeal.nD Cert.NormBwdRefIdeal.τ).loc Cert.NormBwdRefIdeal.main_arg3) = m' ((c.tc : Thread Cert.NormBwdRefIdeal.nD Cert.NormBwdRefIdeal.τ).loc Cert.NormBwdRefIdeal.main_arg3))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v2_0)) (v1 : (c : Dev Cert.LossHeadIdeal.nD) → Buf (Elt Ideal) ((c.tc : Thread Cert.LossHeadIdeal.nD Cert.LossHeadIdeal.τ).loc Cert.LossHeadIdeal.main_v2_1)) (v2 : (c : Dev Cert.LossHeadIdeal.nD) → Buf (Elt Ideal) ((c.tc : Thread Cert.LossHeadIdeal.nD Cert.LossHeadIdeal.τ).loc Cert.LossHeadIdeal.main_v2_2)) (v3 : (c : Dev Cert.LossHeadIdeal.nD) → Buf (Elt Ideal) ((c.tc : Thread Cert.LossHeadIdeal.nD Cert.LossHeadIdeal.τ).loc Cert.LossHeadIdeal.main_v2_3)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v2_0) = v0 c
          ∧ r.2.mem ((c.tc : Thread Cert.LossHeadIdeal.nD Cert.LossHeadIdeal.τ).loc Cert.LossHeadIdeal.main_v2_1) = v1 c
          ∧ r.2.mem ((c.tc : Thread Cert.LossHeadIdeal.nD Cert.LossHeadIdeal.τ).loc Cert.LossHeadIdeal.main_v2_2) = v2 c
          ∧ r.2.mem ((c.tc : Thread Cert.LossHeadIdeal.nD Cert.LossHeadIdeal.τ).loc Cert.LossHeadIdeal.main_v2_3) = v3 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v52) = v0 c
          ∧ r.2.mem ((c.tc : Thread Cert.LossHeadRefIdeal.nD Cert.LossHeadRefIdeal.τ).loc Cert.LossHeadRefIdeal.main_v53) = v1 c
          ∧ r.2.mem ((c.tc : Thread Cert.LossHeadRefIdeal.nD Cert.LossHeadRefIdeal.τ).loc Cert.LossHeadRefIdeal.main_v55) = v2 c
          ∧ r.2.mem ((c.tc : Thread Cert.LossHeadRefIdeal.nD Cert.LossHeadRefIdeal.τ).loc Cert.LossHeadRefIdeal.main_v56) = v3 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v4) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_AdamGate0_AdamGate0Ideal : Prop :=
  True

def algebraic_AdamGate0Ideal_AdamGate0RefIdeal_pre_core_gate0 [hAdamGate0Ideal : Cert.AdamGate0Ideal.Facts] [hAdamGate0RefIdeal : Cert.AdamGate0RefIdeal.Facts] [hPre_core_gate0 : Cert.Pre_core_gate0.Facts] : Prop :=
  ∀ (m : (ℓ : Loc Cert.AdamGate0Ideal.nD Cert.AdamGate0Ideal.τ Cert.AdamGate0Ideal.sig) → Buf (Elt Ideal) ℓ) (g : Dev Cert.AdamGate0Ideal.nD → PrngReg)
    (m' : (ℓ : Loc Cert.AdamGate0RefIdeal.nD Cert.AdamGate0RefIdeal.τ Cert.AdamGate0RefIdeal.sig) → Buf (Elt Ideal) ℓ) (g' : Dev Cert.AdamGate0RefIdeal.nD → PrngReg), Pre_AdamGate0Ideal_core_gate0 m →
    (∀ c : Dev Cert.AdamGate0Ideal.nD,
      m' ((c.tc : Thread Cert.AdamGate0RefIdeal.nD Cert.AdamGate0RefIdeal.τ).loc Cert.AdamGate0RefIdeal.main_arg0) = m ((c.tc : Thread Cert.AdamGate0Ideal.nD Cert.AdamGate0Ideal.τ).loc Cert.AdamGate0Ideal.main_arg0)
      ∧ m' ((c.tc : Thread Cert.AdamGate0RefIdeal.nD Cert.AdamGate0RefIdeal.τ).loc Cert.AdamGate0RefIdeal.main_arg1) = m ((c.tc : Thread Cert.AdamGate0Ideal.nD Cert.AdamGate0Ideal.τ).loc Cert.AdamGate0Ideal.main_arg1)
      ∧ m' ((c.tc : Thread Cert.AdamGate0RefIdeal.nD Cert.AdamGate0RefIdeal.τ).loc Cert.AdamGate0RefIdeal.main_arg2) = m ((c.tc : Thread Cert.AdamGate0Ideal.nD Cert.AdamGate0Ideal.τ).loc Cert.AdamGate0Ideal.main_arg2)
      ∧ m' ((c.tc : Thread Cert.AdamGate0RefIdeal.nD Cert.AdamGate0RefIdeal.τ).loc Cert.AdamGate0RefIdeal.main_arg3) = m ((c.tc : Thread Cert.AdamGate0Ideal.nD Cert.AdamGate0Ideal.τ).loc Cert.AdamGate0Ideal.main_arg3)
      ∧ m' ((c.tc : Thread Cert.AdamGate0RefIdeal.nD Cert.AdamGate0RefIdeal.τ).loc Cert.AdamGate0RefIdeal.main_arg4) = m ((c.tc : Thread Cert.AdamGate0Ideal.nD Cert.AdamGate0Ideal.τ).loc Cert.AdamGate0Ideal.main_arg4)
      ∧ m' ((c.tc : Thread Cert.AdamGate0RefIdeal.nD Cert.AdamGate0RefIdeal.τ).loc Cert.AdamGate0RefIdeal.main_arg5) = m ((c.tc : Thread Cert.AdamGate0Ideal.nD Cert.AdamGate0Ideal.τ).loc Cert.AdamGate0Ideal.main_arg5)) →
    ∃ (v0 : (c : Dev Cert.AdamGate0Ideal.nD) → Buf (Elt Ideal) ((c.tc : Thread Cert.AdamGate0Ideal.nD Cert.AdamGate0Ideal.τ).loc Cert.AdamGate0Ideal.main_v2)) (v1 : (c : Dev Cert.AdamGate0Ideal.nD) → Buf (Elt Ideal) ((c.tc : Thread Cert.AdamGate0Ideal.nD Cert.AdamGate0Ideal.τ).loc Cert.AdamGate0Ideal.main_v4)) (v2 : (c : Dev Cert.AdamGate0Ideal.nD) → Buf (Elt Ideal) ((c.tc : Thread Cert.AdamGate0Ideal.nD Cert.AdamGate0Ideal.τ).loc Cert.AdamGate0Ideal.main_v6)) (v3 : (c : Dev Cert.AdamGate0Ideal.nD) → Buf (Elt Ideal) ((c.tc : Thread Cert.AdamGate0Ideal.nD Cert.AdamGate0Ideal.τ).loc Cert.AdamGate0Ideal.main_v8)),
      θ_run (Cert.AdamGate0Ideal.defs (F := Ideal)) (onTc (τ := Cert.AdamGate0Ideal.τ) (Cert.AdamGate0Ideal.main (F := Ideal))) ⟨m, fun _ => 0, g⟩ (fun r => ∀ c : Dev Cert.AdamGate0Ideal.nD,
          r.2.mem ((c.tc : Thread Cert.AdamGate0Ideal.nD Cert.AdamGate0Ideal.τ).loc Cert.AdamGate0Ideal.main_v2) = v0 c
          ∧ r.2.mem ((c.tc : Thread Cert.AdamGate0Ideal.nD Cert.AdamGate0Ideal.τ).loc Cert.AdamGate0Ideal.main_v4) = v1 c
          ∧ r.2.mem ((c.tc : Thread Cert.AdamGate0Ideal.nD Cert.AdamGate0Ideal.τ).loc Cert.AdamGate0Ideal.main_v6) = v2 c
          ∧ r.2.mem ((c.tc : Thread Cert.AdamGate0Ideal.nD Cert.AdamGate0Ideal.τ).loc Cert.AdamGate0Ideal.main_v8) = v3 c
          ∧ r.2.mem ((c.tc : Thread Cert.AdamGate0Ideal.nD Cert.AdamGate0Ideal.τ).loc Cert.AdamGate0Ideal.main_arg0) = m ((c.tc : Thread Cert.AdamGate0Ideal.nD Cert.AdamGate0Ideal.τ).loc Cert.AdamGate0Ideal.main_arg0)
          ∧ r.2.mem ((c.tc : Thread Cert.AdamGate0Ideal.nD Cert.AdamGate0Ideal.τ).loc Cert.AdamGate0Ideal.main_arg1) = m ((c.tc : Thread Cert.AdamGate0Ideal.nD Cert.AdamGate0Ideal.τ).loc Cert.AdamGate0Ideal.main_arg1)
          ∧ r.2.mem ((c.tc : Thread Cert.AdamGate0Ideal.nD Cert.AdamGate0Ideal.τ).loc Cert.AdamGate0Ideal.main_arg2) = m ((c.tc : Thread Cert.AdamGate0Ideal.nD Cert.AdamGate0Ideal.τ).loc Cert.AdamGate0Ideal.main_arg2)
          ∧ r.2.mem ((c.tc : Thread Cert.AdamGate0Ideal.nD Cert.AdamGate0Ideal.τ).loc Cert.AdamGate0Ideal.main_arg3) = m ((c.tc : Thread Cert.AdamGate0Ideal.nD Cert.AdamGate0Ideal.τ).loc Cert.AdamGate0Ideal.main_arg3)
          ∧ r.2.mem ((c.tc : Thread Cert.AdamGate0Ideal.nD Cert.AdamGate0Ideal.τ).loc Cert.AdamGate0Ideal.main_arg4) = m ((c.tc : Thread Cert.AdamGate0Ideal.nD Cert.AdamGate0Ideal.τ).loc Cert.AdamGate0Ideal.main_arg4)
          ∧ r.2.mem ((c.tc : Thread Cert.AdamGate0Ideal.nD Cert.AdamGate0Ideal.τ).loc Cert.AdamGate0Ideal.main_arg5) = m ((c.tc : Thread Cert.AdamGate0Ideal.nD Cert.AdamGate0Ideal.τ).loc Cert.AdamGate0Ideal.main_arg5))
      ∧ θ_run (Cert.AdamGate0RefIdeal.defs (F := Ideal)) (onTc (τ := Cert.AdamGate0RefIdeal.τ) (Cert.AdamGate0RefIdeal.main (F := Ideal))) ⟨m', fun _ => 0, g'⟩ (fun r => ∀ c : Dev Cert.AdamGate0RefIdeal.nD,
          r.2.mem ((c.tc : Thread Cert.AdamGate0RefIdeal.nD Cert.AdamGate0RefIdeal.τ).loc Cert.AdamGate0RefIdeal.main_v5) = v0 c
          ∧ r.2.mem ((c.tc : Thread Cert.AdamGate0RefIdeal.nD Cert.AdamGate0RefIdeal.τ).loc Cert.AdamGate0RefIdeal.main_v35) = v1 c
          ∧ r.2.mem ((c.tc : Thread Cert.AdamGate0RefIdeal.nD Cert.AdamGate0RefIdeal.τ).loc Cert.AdamGate0RefIdeal.main_v16) = v2 c
          ∧ r.2.mem ((c.tc : Thread Cert.AdamGate0RefIdeal.nD Cert.AdamGate0RefIdeal.τ).loc Cert.AdamGate0RefIdeal.main_v22) = v3 c
          ∧ r.2.mem ((c.tc : Thread Cert.AdamGate0RefIdeal.nD Cert.AdamGate0RefIdeal.τ).loc Cert.AdamGate0RefIdeal.main_arg0) = m' ((c.tc : Thread Cert.AdamGate0RefIdeal.nD Cert.AdamGate0RefIdeal.τ).loc Cert.AdamGate0RefIdeal.main_arg0)
          ∧ r.2.mem ((c.tc : Thread Cert.AdamGate0RefIdeal.nD Cert.AdamGate0RefIdeal.τ).loc Cert.AdamGate0RefIdeal.main_arg1) = m' ((c.tc : Thread Cert.AdamGate0RefIdeal.nD Cert.AdamGate0RefIdeal.τ).loc Cert.AdamGate0RefIdeal.main_arg1)
          ∧ r.2.mem ((c.tc : Thread Cert.AdamGate0RefIdeal.nD Cert.AdamGate0RefIdeal.τ).loc Cert.AdamGate0RefIdeal.main_arg2) = m' ((c.tc : Thread Cert.AdamGate0RefIdeal.nD Cert.AdamGate0RefIdeal.τ).loc Cert.AdamGate0RefIdeal.main_arg2)
          ∧ r.2.mem ((c.tc : Thread Cert.AdamGate0RefIdeal.nD Cert.AdamGate0RefIdeal.τ).loc Cert.AdamGate0RefIdeal.main_arg3) = m' ((c.tc : Thread Cert.AdamGate0RefIdeal.nD Cert.AdamGate0RefIdeal.τ).loc Cert.AdamGate0RefIdeal.main_arg3)
          ∧ r.2.mem ((c.tc : Thread Cert.AdamGate0RefIdeal.nD Cert.AdamGate0RefIdeal.τ).loc Cert.AdamGate0RefIdeal.main_arg4) = m' ((c.tc : Thread Cert.AdamGate0RefIdeal.nD Cert.AdamGate0RefIdeal.τ).loc Cert.AdamGate0RefIdeal.main_arg4)
          ∧ r.2.mem ((c.tc : Thread Cert.AdamGate0RefIdeal.nD Cert.AdamGate0RefIdeal.τ).loc Cert.AdamGate0RefIdeal.main_arg5) = m' ((c.tc : Thread Cert.AdamGate0RefIdeal.nD Cert.AdamGate0RefIdeal.τ).loc Cert.AdamGate0RefIdeal.main_arg5))

def preserves_AdamGate1_AdamGate1Ideal : Prop :=
  True

def algebraic_AdamGate1Ideal_AdamGate1RefIdeal_pre_core_gate1 [hAdamGate1Ideal : Cert.AdamGate1Ideal.Facts] [hAdamGate1RefIdeal : Cert.AdamGate1RefIdeal.Facts] [hPre_core_gate1 : Cert.Pre_core_gate1.Facts] : Prop :=
  ∀ (m : (ℓ : Loc Cert.AdamGate1Ideal.nD Cert.AdamGate1Ideal.τ Cert.AdamGate1Ideal.sig) → Buf (Elt Ideal) ℓ) (g : Dev Cert.AdamGate1Ideal.nD → PrngReg)
    (m' : (ℓ : Loc Cert.AdamGate1RefIdeal.nD Cert.AdamGate1RefIdeal.τ Cert.AdamGate1RefIdeal.sig) → Buf (Elt Ideal) ℓ) (g' : Dev Cert.AdamGate1RefIdeal.nD → PrngReg), Pre_AdamGate1Ideal_core_gate1 m →
    (∀ c : Dev Cert.AdamGate1Ideal.nD,
      m' ((c.tc : Thread Cert.AdamGate1RefIdeal.nD Cert.AdamGate1RefIdeal.τ).loc Cert.AdamGate1RefIdeal.main_arg0) = m ((c.tc : Thread Cert.AdamGate1Ideal.nD Cert.AdamGate1Ideal.τ).loc Cert.AdamGate1Ideal.main_arg0)
      ∧ m' ((c.tc : Thread Cert.AdamGate1RefIdeal.nD Cert.AdamGate1RefIdeal.τ).loc Cert.AdamGate1RefIdeal.main_arg1) = m ((c.tc : Thread Cert.AdamGate1Ideal.nD Cert.AdamGate1Ideal.τ).loc Cert.AdamGate1Ideal.main_arg1)
      ∧ m' ((c.tc : Thread Cert.AdamGate1RefIdeal.nD Cert.AdamGate1RefIdeal.τ).loc Cert.AdamGate1RefIdeal.main_arg2) = m ((c.tc : Thread Cert.AdamGate1Ideal.nD Cert.AdamGate1Ideal.τ).loc Cert.AdamGate1Ideal.main_arg2)
      ∧ m' ((c.tc : Thread Cert.AdamGate1RefIdeal.nD Cert.AdamGate1RefIdeal.τ).loc Cert.AdamGate1RefIdeal.main_arg3) = m ((c.tc : Thread Cert.AdamGate1Ideal.nD Cert.AdamGate1Ideal.τ).loc Cert.AdamGate1Ideal.main_arg3)
      ∧ m' ((c.tc : Thread Cert.AdamGate1RefIdeal.nD Cert.AdamGate1RefIdeal.τ).loc Cert.AdamGate1RefIdeal.main_arg4) = m ((c.tc : Thread Cert.AdamGate1Ideal.nD Cert.AdamGate1Ideal.τ).loc Cert.AdamGate1Ideal.main_arg4)
      ∧ m' ((c.tc : Thread Cert.AdamGate1RefIdeal.nD Cert.AdamGate1RefIdeal.τ).loc Cert.AdamGate1RefIdeal.main_arg5) = m ((c.tc : Thread Cert.AdamGate1Ideal.nD Cert.AdamGate1Ideal.τ).loc Cert.AdamGate1Ideal.main_arg5)
      ∧ m' ((c.tc : Thread Cert.AdamGate1RefIdeal.nD Cert.AdamGate1RefIdeal.τ).loc Cert.AdamGate1RefIdeal.main_arg6) = m ((c.tc : Thread Cert.AdamGate1Ideal.nD Cert.AdamGate1Ideal.τ).loc Cert.AdamGate1Ideal.main_arg6)
      ∧ m' ((c.tc : Thread Cert.AdamGate1RefIdeal.nD Cert.AdamGate1RefIdeal.τ).loc Cert.AdamGate1RefIdeal.main_arg7) = m ((c.tc : Thread Cert.AdamGate1Ideal.nD Cert.AdamGate1Ideal.τ).loc Cert.AdamGate1Ideal.main_arg7)
      ∧ m' ((c.tc : Thread Cert.AdamGate1RefIdeal.nD Cert.AdamGate1RefIdeal.τ).loc Cert.AdamGate1RefIdeal.main_arg8) = m ((c.tc : Thread Cert.AdamGate1Ideal.nD Cert.AdamGate1Ideal.τ).loc Cert.AdamGate1Ideal.main_arg8)
      ∧ m' ((c.tc : Thread Cert.AdamGate1RefIdeal.nD Cert.AdamGate1RefIdeal.τ).loc Cert.AdamGate1RefIdeal.main_arg9) = m ((c.tc : Thread Cert.AdamGate1Ideal.nD Cert.AdamGate1Ideal.τ).loc Cert.AdamGate1Ideal.main_arg9)) →
    ∃ (v0 : (c : Dev Cert.AdamGate1Ideal.nD) → Buf (Elt Ideal) ((c.tc : Thread Cert.AdamGate1Ideal.nD Cert.AdamGate1Ideal.τ).loc Cert.AdamGate1Ideal.main_v0_0)) (v1 : (c : Dev Cert.AdamGate1Ideal.nD) → Buf (Elt Ideal) ((c.tc : Thread Cert.AdamGate1Ideal.nD Cert.AdamGate1Ideal.τ).loc Cert.AdamGate1Ideal.main_v0_1)) (v2 : (c : Dev Cert.AdamGate1Ideal.nD) → Buf (Elt Ideal) ((c.tc : Thread Cert.AdamGate1Ideal.nD Cert.AdamGate1Ideal.τ).loc Cert.AdamGate1Ideal.main_v0_2)) (v3 : (c : Dev Cert.AdamGate1Ideal.nD) → Buf (Elt Ideal) ((c.tc : Thread Cert.AdamGate1Ideal.nD Cert.AdamGate1Ideal.τ).loc Cert.AdamGate1Ideal.main_v0_3)),
      θ_run (Cert.AdamGate1Ideal.defs (F := Ideal)) (onTc (τ := Cert.AdamGate1Ideal.τ) (Cert.AdamGate1Ideal.main (F := Ideal))) ⟨m, fun _ => 0, g⟩ (fun r => ∀ c : Dev Cert.AdamGate1Ideal.nD,
          r.2.mem ((c.tc : Thread Cert.AdamGate1Ideal.nD Cert.AdamGate1Ideal.τ).loc Cert.AdamGate1Ideal.main_v0_0) = v0 c
          ∧ r.2.mem ((c.tc : Thread Cert.AdamGate1Ideal.nD Cert.AdamGate1Ideal.τ).loc Cert.AdamGate1Ideal.main_v0_1) = v1 c
          ∧ r.2.mem ((c.tc : Thread Cert.AdamGate1Ideal.nD Cert.AdamGate1Ideal.τ).loc Cert.AdamGate1Ideal.main_v0_2) = v2 c
          ∧ r.2.mem ((c.tc : Thread Cert.AdamGate1Ideal.nD Cert.AdamGate1Ideal.τ).loc Cert.AdamGate1Ideal.main_v0_3) = v3 c
          ∧ r.2.mem ((c.tc : Thread Cert.AdamGate1Ideal.nD Cert.AdamGate1Ideal.τ).loc Cert.AdamGate1Ideal.main_arg0) = m ((c.tc : Thread Cert.AdamGate1Ideal.nD Cert.AdamGate1Ideal.τ).loc Cert.AdamGate1Ideal.main_arg0)
          ∧ r.2.mem ((c.tc : Thread Cert.AdamGate1Ideal.nD Cert.AdamGate1Ideal.τ).loc Cert.AdamGate1Ideal.main_arg1) = m ((c.tc : Thread Cert.AdamGate1Ideal.nD Cert.AdamGate1Ideal.τ).loc Cert.AdamGate1Ideal.main_arg1)
          ∧ r.2.mem ((c.tc : Thread Cert.AdamGate1Ideal.nD Cert.AdamGate1Ideal.τ).loc Cert.AdamGate1Ideal.main_arg2) = m ((c.tc : Thread Cert.AdamGate1Ideal.nD Cert.AdamGate1Ideal.τ).loc Cert.AdamGate1Ideal.main_arg2)
          ∧ r.2.mem ((c.tc : Thread Cert.AdamGate1Ideal.nD Cert.AdamGate1Ideal.τ).loc Cert.AdamGate1Ideal.main_arg3) = m ((c.tc : Thread Cert.AdamGate1Ideal.nD Cert.AdamGate1Ideal.τ).loc Cert.AdamGate1Ideal.main_arg3)
          ∧ r.2.mem ((c.tc : Thread Cert.AdamGate1Ideal.nD Cert.AdamGate1Ideal.τ).loc Cert.AdamGate1Ideal.main_arg4) = m ((c.tc : Thread Cert.AdamGate1Ideal.nD Cert.AdamGate1Ideal.τ).loc Cert.AdamGate1Ideal.main_arg4)
          ∧ r.2.mem ((c.tc : Thread Cert.AdamGate1Ideal.nD Cert.AdamGate1Ideal.τ).loc Cert.AdamGate1Ideal.main_arg5) = m ((c.tc : Thread Cert.AdamGate1Ideal.nD Cert.AdamGate1Ideal.τ).loc Cert.AdamGate1Ideal.main_arg5)
          ∧ r.2.mem ((c.tc : Thread Cert.AdamGate1Ideal.nD Cert.AdamGate1Ideal.τ).loc Cert.AdamGate1Ideal.main_arg6) = m ((c.tc : Thread Cert.AdamGate1Ideal.nD Cert.AdamGate1Ideal.τ).loc Cert.AdamGate1Ideal.main_arg6)
          ∧ r.2.mem ((c.tc : Thread Cert.AdamGate1Ideal.nD Cert.AdamGate1Ideal.τ).loc Cert.AdamGate1Ideal.main_arg7) = m ((c.tc : Thread Cert.AdamGate1Ideal.nD Cert.AdamGate1Ideal.τ).loc Cert.AdamGate1Ideal.main_arg7)
          ∧ r.2.mem ((c.tc : Thread Cert.AdamGate1Ideal.nD Cert.AdamGate1Ideal.τ).loc Cert.AdamGate1Ideal.main_arg8) = m ((c.tc : Thread Cert.AdamGate1Ideal.nD Cert.AdamGate1Ideal.τ).loc Cert.AdamGate1Ideal.main_arg8)
          ∧ r.2.mem ((c.tc : Thread Cert.AdamGate1Ideal.nD Cert.AdamGate1Ideal.τ).loc Cert.AdamGate1Ideal.main_arg9) = m ((c.tc : Thread Cert.AdamGate1Ideal.nD Cert.AdamGate1Ideal.τ).loc Cert.AdamGate1Ideal.main_arg9))
      ∧ θ_run (Cert.AdamGate1RefIdeal.defs (F := Ideal)) (onTc (τ := Cert.AdamGate1RefIdeal.τ) (Cert.AdamGate1RefIdeal.main (F := Ideal))) ⟨m', fun _ => 0, g'⟩ (fun r => ∀ c : Dev Cert.AdamGate1RefIdeal.nD,
          r.2.mem ((c.tc : Thread Cert.AdamGate1RefIdeal.nD Cert.AdamGate1RefIdeal.τ).loc Cert.AdamGate1RefIdeal.main_v40) = v0 c
          ∧ r.2.mem ((c.tc : Thread Cert.AdamGate1RefIdeal.nD Cert.AdamGate1RefIdeal.τ).loc Cert.AdamGate1RefIdeal.main_v45) = v1 c
          ∧ r.2.mem ((c.tc : Thread Cert.AdamGate1RefIdeal.nD Cert.AdamGate1RefIdeal.τ).loc Cert.AdamGate1RefIdeal.main_v50) = v2 c
          ∧ r.2.mem ((c.tc : Thread Cert.AdamGate1RefIdeal.nD Cert.AdamGate1RefIdeal.τ).loc Cert.AdamGate1RefIdeal.main_v55) = v3 c
          ∧ r.2.mem ((c.tc : Thread Cert.AdamGate1RefIdeal.nD Cert.AdamGate1RefIdeal.τ).loc Cert.AdamGate1RefIdeal.main_arg0) = m' ((c.tc : Thread Cert.AdamGate1RefIdeal.nD Cert.AdamGate1RefIdeal.τ).loc Cert.AdamGate1RefIdeal.main_arg0)
          ∧ r.2.mem ((c.tc : Thread Cert.AdamGate1RefIdeal.nD Cert.AdamGate1RefIdeal.τ).loc Cert.AdamGate1RefIdeal.main_arg1) = m' ((c.tc : Thread Cert.AdamGate1RefIdeal.nD Cert.AdamGate1RefIdeal.τ).loc Cert.AdamGate1RefIdeal.main_arg1)
          ∧ r.2.mem ((c.tc : Thread Cert.AdamGate1RefIdeal.nD Cert.AdamGate1RefIdeal.τ).loc Cert.AdamGate1RefIdeal.main_arg2) = m' ((c.tc : Thread Cert.AdamGate1RefIdeal.nD Cert.AdamGate1RefIdeal.τ).loc Cert.AdamGate1RefIdeal.main_arg2)
          ∧ r.2.mem ((c.tc : Thread Cert.AdamGate1RefIdeal.nD Cert.AdamGate1RefIdeal.τ).loc Cert.AdamGate1RefIdeal.main_arg3) = m' ((c.tc : Thread Cert.AdamGate1RefIdeal.nD Cert.AdamGate1RefIdeal.τ).loc Cert.AdamGate1RefIdeal.main_arg3)
          ∧ r.2.mem ((c.tc : Thread Cert.AdamGate1RefIdeal.nD Cert.AdamGate1RefIdeal.τ).loc Cert.AdamGate1RefIdeal.main_arg4) = m' ((c.tc : Thread Cert.AdamGate1RefIdeal.nD Cert.AdamGate1RefIdeal.τ).loc Cert.AdamGate1RefIdeal.main_arg4)
          ∧ r.2.mem ((c.tc : Thread Cert.AdamGate1RefIdeal.nD Cert.AdamGate1RefIdeal.τ).loc Cert.AdamGate1RefIdeal.main_arg5) = m' ((c.tc : Thread Cert.AdamGate1RefIdeal.nD Cert.AdamGate1RefIdeal.τ).loc Cert.AdamGate1RefIdeal.main_arg5)
          ∧ r.2.mem ((c.tc : Thread Cert.AdamGate1RefIdeal.nD Cert.AdamGate1RefIdeal.τ).loc Cert.AdamGate1RefIdeal.main_arg6) = m' ((c.tc : Thread Cert.AdamGate1RefIdeal.nD Cert.AdamGate1RefIdeal.τ).loc Cert.AdamGate1RefIdeal.main_arg6)
          ∧ r.2.mem ((c.tc : Thread Cert.AdamGate1RefIdeal.nD Cert.AdamGate1RefIdeal.τ).loc Cert.AdamGate1RefIdeal.main_arg7) = m' ((c.tc : Thread Cert.AdamGate1RefIdeal.nD Cert.AdamGate1RefIdeal.τ).loc Cert.AdamGate1RefIdeal.main_arg7)
          ∧ r.2.mem ((c.tc : Thread Cert.AdamGate1RefIdeal.nD Cert.AdamGate1RefIdeal.τ).loc Cert.AdamGate1RefIdeal.main_arg8) = m' ((c.tc : Thread Cert.AdamGate1RefIdeal.nD Cert.AdamGate1RefIdeal.τ).loc Cert.AdamGate1RefIdeal.main_arg8)
          ∧ r.2.mem ((c.tc : Thread Cert.AdamGate1RefIdeal.nD Cert.AdamGate1RefIdeal.τ).loc Cert.AdamGate1RefIdeal.main_arg9) = m' ((c.tc : Thread Cert.AdamGate1RefIdeal.nD Cert.AdamGate1RefIdeal.τ).loc Cert.AdamGate1RefIdeal.main_arg9))

def preserves_AdamDown0_AdamDown0Ideal : Prop :=
  True

def algebraic_AdamDown0Ideal_AdamDown0RefIdeal_pre_core_down0 [hAdamDown0Ideal : Cert.AdamDown0Ideal.Facts] [hAdamDown0RefIdeal : Cert.AdamDown0RefIdeal.Facts] [hPre_core_down0 : Cert.Pre_core_down0.Facts] : Prop :=
  ∀ (m : (ℓ : Loc Cert.AdamDown0Ideal.nD Cert.AdamDown0Ideal.τ Cert.AdamDown0Ideal.sig) → Buf (Elt Ideal) ℓ) (g : Dev Cert.AdamDown0Ideal.nD → PrngReg)
    (m' : (ℓ : Loc Cert.AdamDown0RefIdeal.nD Cert.AdamDown0RefIdeal.τ Cert.AdamDown0RefIdeal.sig) → Buf (Elt Ideal) ℓ) (g' : Dev Cert.AdamDown0RefIdeal.nD → PrngReg), Pre_AdamDown0Ideal_core_down0 m →
    (∀ c : Dev Cert.AdamDown0Ideal.nD,
      m' ((c.tc : Thread Cert.AdamDown0RefIdeal.nD Cert.AdamDown0RefIdeal.τ).loc Cert.AdamDown0RefIdeal.main_arg0) = m ((c.tc : Thread Cert.AdamDown0Ideal.nD Cert.AdamDown0Ideal.τ).loc Cert.AdamDown0Ideal.main_arg0)
      ∧ m' ((c.tc : Thread Cert.AdamDown0RefIdeal.nD Cert.AdamDown0RefIdeal.τ).loc Cert.AdamDown0RefIdeal.main_arg1) = m ((c.tc : Thread Cert.AdamDown0Ideal.nD Cert.AdamDown0Ideal.τ).loc Cert.AdamDown0Ideal.main_arg1)
      ∧ m' ((c.tc : Thread Cert.AdamDown0RefIdeal.nD Cert.AdamDown0RefIdeal.τ).loc Cert.AdamDown0RefIdeal.main_arg2) = m ((c.tc : Thread Cert.AdamDown0Ideal.nD Cert.AdamDown0Ideal.τ).loc Cert.AdamDown0Ideal.main_arg2)
      ∧ m' ((c.tc : Thread Cert.AdamDown0RefIdeal.nD Cert.AdamDown0RefIdeal.τ).loc Cert.AdamDown0RefIdeal.main_arg3) = m ((c.tc : Thread Cert.AdamDown0Ideal.nD Cert.AdamDown0Ideal.τ).loc Cert.AdamDown0Ideal.main_arg3)
      ∧ m' ((c.tc : Thread Cert.AdamDown0RefIdeal.nD Cert.AdamDown0RefIdeal.τ).loc Cert.AdamDown0RefIdeal.main_arg4) = m ((c.tc : Thread Cert.AdamDown0Ideal.nD Cert.AdamDown0Ideal.τ).loc Cert.AdamDown0Ideal.main_arg4)
      ∧ m' ((c.tc : Thread Cert.AdamDown0RefIdeal.nD Cert.AdamDown0RefIdeal.τ).loc Cert.AdamDown0RefIdeal.main_arg5) = m ((c.tc : Thread Cert.AdamDown0Ideal.nD Cert.AdamDown0Ideal.τ).loc Cert.AdamDown0Ideal.main_arg5)) →
    ∃ (v0 : (c : Dev Cert.AdamDown0Ideal.nD) → Buf (Elt Ideal) ((c.tc : Thread Cert.AdamDown0Ideal.nD Cert.AdamDown0Ideal.τ).loc Cert.AdamDown0Ideal.main_v2)) (v1 : (c : Dev Cert.AdamDown0Ideal.nD) → Buf (Elt Ideal) ((c.tc : Thread Cert.AdamDown0Ideal.nD Cert.AdamDown0Ideal.τ).loc Cert.AdamDown0Ideal.main_v4)) (v2 : (c : Dev Cert.AdamDown0Ideal.nD) → Buf (Elt Ideal) ((c.tc : Thread Cert.AdamDown0Ideal.nD Cert.AdamDown0Ideal.τ).loc Cert.AdamDown0Ideal.main_v6)) (v3 : (c : Dev Cert.AdamDown0Ideal.nD) → Buf (Elt Ideal) ((c.tc : Thread Cert.AdamDown0Ideal.nD Cert.AdamDown0Ideal.τ).loc Cert.AdamDown0Ideal.main_v8)),
      θ_run (Cert.AdamDown0Ideal.defs (F := Ideal)) (onTc (τ := Cert.AdamDown0Ideal.τ) (Cert.AdamDown0Ideal.main (F := Ideal))) ⟨m, fun _ => 0, g⟩ (fun r => ∀ c : Dev Cert.AdamDown0Ideal.nD,
          r.2.mem ((c.tc : Thread Cert.AdamDown0Ideal.nD Cert.AdamDown0Ideal.τ).loc Cert.AdamDown0Ideal.main_v2) = v0 c
          ∧ r.2.mem ((c.tc : Thread Cert.AdamDown0Ideal.nD Cert.AdamDown0Ideal.τ).loc Cert.AdamDown0Ideal.main_v4) = v1 c
          ∧ r.2.mem ((c.tc : Thread Cert.AdamDown0Ideal.nD Cert.AdamDown0Ideal.τ).loc Cert.AdamDown0Ideal.main_v6) = v2 c
          ∧ r.2.mem ((c.tc : Thread Cert.AdamDown0Ideal.nD Cert.AdamDown0Ideal.τ).loc Cert.AdamDown0Ideal.main_v8) = v3 c
          ∧ r.2.mem ((c.tc : Thread Cert.AdamDown0Ideal.nD Cert.AdamDown0Ideal.τ).loc Cert.AdamDown0Ideal.main_arg0) = m ((c.tc : Thread Cert.AdamDown0Ideal.nD Cert.AdamDown0Ideal.τ).loc Cert.AdamDown0Ideal.main_arg0)
          ∧ r.2.mem ((c.tc : Thread Cert.AdamDown0Ideal.nD Cert.AdamDown0Ideal.τ).loc Cert.AdamDown0Ideal.main_arg1) = m ((c.tc : Thread Cert.AdamDown0Ideal.nD Cert.AdamDown0Ideal.τ).loc Cert.AdamDown0Ideal.main_arg1)
          ∧ r.2.mem ((c.tc : Thread Cert.AdamDown0Ideal.nD Cert.AdamDown0Ideal.τ).loc Cert.AdamDown0Ideal.main_arg2) = m ((c.tc : Thread Cert.AdamDown0Ideal.nD Cert.AdamDown0Ideal.τ).loc Cert.AdamDown0Ideal.main_arg2)
          ∧ r.2.mem ((c.tc : Thread Cert.AdamDown0Ideal.nD Cert.AdamDown0Ideal.τ).loc Cert.AdamDown0Ideal.main_arg3) = m ((c.tc : Thread Cert.AdamDown0Ideal.nD Cert.AdamDown0Ideal.τ).loc Cert.AdamDown0Ideal.main_arg3)
          ∧ r.2.mem ((c.tc : Thread Cert.AdamDown0Ideal.nD Cert.AdamDown0Ideal.τ).loc Cert.AdamDown0Ideal.main_arg4) = m ((c.tc : Thread Cert.AdamDown0Ideal.nD Cert.AdamDown0Ideal.τ).loc Cert.AdamDown0Ideal.main_arg4)
          ∧ r.2.mem ((c.tc : Thread Cert.AdamDown0Ideal.nD Cert.AdamDown0Ideal.τ).loc Cert.AdamDown0Ideal.main_arg5) = m ((c.tc : Thread Cert.AdamDown0Ideal.nD Cert.AdamDown0Ideal.τ).loc Cert.AdamDown0Ideal.main_arg5))
      ∧ θ_run (Cert.AdamDown0RefIdeal.defs (F := Ideal)) (onTc (τ := Cert.AdamDown0RefIdeal.τ) (Cert.AdamDown0RefIdeal.main (F := Ideal))) ⟨m', fun _ => 0, g'⟩ (fun r => ∀ c : Dev Cert.AdamDown0RefIdeal.nD,
          r.2.mem ((c.tc : Thread Cert.AdamDown0RefIdeal.nD Cert.AdamDown0RefIdeal.τ).loc Cert.AdamDown0RefIdeal.main_v5) = v0 c
          ∧ r.2.mem ((c.tc : Thread Cert.AdamDown0RefIdeal.nD Cert.AdamDown0RefIdeal.τ).loc Cert.AdamDown0RefIdeal.main_v35) = v1 c
          ∧ r.2.mem ((c.tc : Thread Cert.AdamDown0RefIdeal.nD Cert.AdamDown0RefIdeal.τ).loc Cert.AdamDown0RefIdeal.main_v16) = v2 c
          ∧ r.2.mem ((c.tc : Thread Cert.AdamDown0RefIdeal.nD Cert.AdamDown0RefIdeal.τ).loc Cert.AdamDown0RefIdeal.main_v22) = v3 c
          ∧ r.2.mem ((c.tc : Thread Cert.AdamDown0RefIdeal.nD Cert.AdamDown0RefIdeal.τ).loc Cert.AdamDown0RefIdeal.main_arg0) = m' ((c.tc : Thread Cert.AdamDown0RefIdeal.nD Cert.AdamDown0RefIdeal.τ).loc Cert.AdamDown0RefIdeal.main_arg0)
          ∧ r.2.mem ((c.tc : Thread Cert.AdamDown0RefIdeal.nD Cert.AdamDown0RefIdeal.τ).loc Cert.AdamDown0RefIdeal.main_arg1) = m' ((c.tc : Thread Cert.AdamDown0RefIdeal.nD Cert.AdamDown0RefIdeal.τ).loc Cert.AdamDown0RefIdeal.main_arg1)
          ∧ r.2.mem ((c.tc : Thread Cert.AdamDown0RefIdeal.nD Cert.AdamDown0RefIdeal.τ).loc Cert.AdamDown0RefIdeal.main_arg2) = m' ((c.tc : Thread Cert.AdamDown0RefIdeal.nD Cert.AdamDown0RefIdeal.τ).loc Cert.AdamDown0RefIdeal.main_arg2)
          ∧ r.2.mem ((c.tc : Thread Cert.AdamDown0RefIdeal.nD Cert.AdamDown0RefIdeal.τ).loc Cert.AdamDown0RefIdeal.main_arg3) = m' ((c.tc : Thread Cert.AdamDown0RefIdeal.nD Cert.AdamDown0RefIdeal.τ).loc Cert.AdamDown0RefIdeal.main_arg3)
          ∧ r.2.mem ((c.tc : Thread Cert.AdamDown0RefIdeal.nD Cert.AdamDown0RefIdeal.τ).loc Cert.AdamDown0RefIdeal.main_arg4) = m' ((c.tc : Thread Cert.AdamDown0RefIdeal.nD Cert.AdamDown0RefIdeal.τ).loc Cert.AdamDown0RefIdeal.main_arg4)
          ∧ r.2.mem ((c.tc : Thread Cert.AdamDown0RefIdeal.nD Cert.AdamDown0RefIdeal.τ).loc Cert.AdamDown0RefIdeal.main_arg5) = m' ((c.tc : Thread Cert.AdamDown0RefIdeal.nD Cert.AdamDown0RefIdeal.τ).loc Cert.AdamDown0RefIdeal.main_arg5))

def preserves_AdamDown1_AdamDown1Ideal : Prop :=
  True

def algebraic_AdamDown1Ideal_AdamDown1RefIdeal_pre_core_down1 [hAdamDown1Ideal : Cert.AdamDown1Ideal.Facts] [hAdamDown1RefIdeal : Cert.AdamDown1RefIdeal.Facts] [hPre_core_down1 : Cert.Pre_core_down1.Facts] : Prop :=
  ∀ (m : (ℓ : Loc Cert.AdamDown1Ideal.nD Cert.AdamDown1Ideal.τ Cert.AdamDown1Ideal.sig) → Buf (Elt Ideal) ℓ) (g : Dev Cert.AdamDown1Ideal.nD → PrngReg)
    (m' : (ℓ : Loc Cert.AdamDown1RefIdeal.nD Cert.AdamDown1RefIdeal.τ Cert.AdamDown1RefIdeal.sig) → Buf (Elt Ideal) ℓ) (g' : Dev Cert.AdamDown1RefIdeal.nD → PrngReg), Pre_AdamDown1Ideal_core_down1 m →
    (∀ c : Dev Cert.AdamDown1Ideal.nD,
      m' ((c.tc : Thread Cert.AdamDown1RefIdeal.nD Cert.AdamDown1RefIdeal.τ).loc Cert.AdamDown1RefIdeal.main_arg0) = m ((c.tc : Thread Cert.AdamDown1Ideal.nD Cert.AdamDown1Ideal.τ).loc Cert.AdamDown1Ideal.main_arg0)
      ∧ m' ((c.tc : Thread Cert.AdamDown1RefIdeal.nD Cert.AdamDown1RefIdeal.τ).loc Cert.AdamDown1RefIdeal.main_arg1) = m ((c.tc : Thread Cert.AdamDown1Ideal.nD Cert.AdamDown1Ideal.τ).loc Cert.AdamDown1Ideal.main_arg1)
      ∧ m' ((c.tc : Thread Cert.AdamDown1RefIdeal.nD Cert.AdamDown1RefIdeal.τ).loc Cert.AdamDown1RefIdeal.main_arg2) = m ((c.tc : Thread Cert.AdamDown1Ideal.nD Cert.AdamDown1Ideal.τ).loc Cert.AdamDown1Ideal.main_arg2)
      ∧ m' ((c.tc : Thread Cert.AdamDown1RefIdeal.nD Cert.AdamDown1RefIdeal.τ).loc Cert.AdamDown1RefIdeal.main_arg3) = m ((c.tc : Thread Cert.AdamDown1Ideal.nD Cert.AdamDown1Ideal.τ).loc Cert.AdamDown1Ideal.main_arg3)
      ∧ m' ((c.tc : Thread Cert.AdamDown1RefIdeal.nD Cert.AdamDown1RefIdeal.τ).loc Cert.AdamDown1RefIdeal.main_arg4) = m ((c.tc : Thread Cert.AdamDown1Ideal.nD Cert.AdamDown1Ideal.τ).loc Cert.AdamDown1Ideal.main_arg4)
      ∧ m' ((c.tc : Thread Cert.AdamDown1RefIdeal.nD Cert.AdamDown1RefIdeal.τ).loc Cert.AdamDown1RefIdeal.main_arg5) = m ((c.tc : Thread Cert.AdamDown1Ideal.nD Cert.AdamDown1Ideal.τ).loc Cert.AdamDown1Ideal.main_arg5)
      ∧ m' ((c.tc : Thread Cert.AdamDown1RefIdeal.nD Cert.AdamDown1RefIdeal.τ).loc Cert.AdamDown1RefIdeal.main_arg6) = m ((c.tc : Thread Cert.AdamDown1Ideal.nD Cert.AdamDown1Ideal.τ).loc Cert.AdamDown1Ideal.main_arg6)
      ∧ m' ((c.tc : Thread Cert.AdamDown1RefIdeal.nD Cert.AdamDown1RefIdeal.τ).loc Cert.AdamDown1RefIdeal.main_arg7) = m ((c.tc : Thread Cert.AdamDown1Ideal.nD Cert.AdamDown1Ideal.τ).loc Cert.AdamDown1Ideal.main_arg7)
      ∧ m' ((c.tc : Thread Cert.AdamDown1RefIdeal.nD Cert.AdamDown1RefIdeal.τ).loc Cert.AdamDown1RefIdeal.main_arg8) = m ((c.tc : Thread Cert.AdamDown1Ideal.nD Cert.AdamDown1Ideal.τ).loc Cert.AdamDown1Ideal.main_arg8)
      ∧ m' ((c.tc : Thread Cert.AdamDown1RefIdeal.nD Cert.AdamDown1RefIdeal.τ).loc Cert.AdamDown1RefIdeal.main_arg9) = m ((c.tc : Thread Cert.AdamDown1Ideal.nD Cert.AdamDown1Ideal.τ).loc Cert.AdamDown1Ideal.main_arg9)) →
    ∃ (v0 : (c : Dev Cert.AdamDown1Ideal.nD) → Buf (Elt Ideal) ((c.tc : Thread Cert.AdamDown1Ideal.nD Cert.AdamDown1Ideal.τ).loc Cert.AdamDown1Ideal.main_v0_0)) (v1 : (c : Dev Cert.AdamDown1Ideal.nD) → Buf (Elt Ideal) ((c.tc : Thread Cert.AdamDown1Ideal.nD Cert.AdamDown1Ideal.τ).loc Cert.AdamDown1Ideal.main_v0_1)) (v2 : (c : Dev Cert.AdamDown1Ideal.nD) → Buf (Elt Ideal) ((c.tc : Thread Cert.AdamDown1Ideal.nD Cert.AdamDown1Ideal.τ).loc Cert.AdamDown1Ideal.main_v0_2)) (v3 : (c : Dev Cert.AdamDown1Ideal.nD) → Buf (Elt Ideal) ((c.tc : Thread Cert.AdamDown1Ideal.nD Cert.AdamDown1Ideal.τ).loc Cert.AdamDown1Ideal.main_v0_3)),
      θ_run (Cert.AdamDown1Ideal.defs (F := Ideal)) (onTc (τ := Cert.AdamDown1Ideal.τ) (Cert.AdamDown1Ideal.main (F := Ideal))) ⟨m, fun _ => 0, g⟩ (fun r => ∀ c : Dev Cert.AdamDown1Ideal.nD,
          r.2.mem ((c.tc : Thread Cert.AdamDown1Ideal.nD Cert.AdamDown1Ideal.τ).loc Cert.AdamDown1Ideal.main_v0_0) = v0 c
          ∧ r.2.mem ((c.tc : Thread Cert.AdamDown1Ideal.nD Cert.AdamDown1Ideal.τ).loc Cert.AdamDown1Ideal.main_v0_1) = v1 c
          ∧ r.2.mem ((c.tc : Thread Cert.AdamDown1Ideal.nD Cert.AdamDown1Ideal.τ).loc Cert.AdamDown1Ideal.main_v0_2) = v2 c
          ∧ r.2.mem ((c.tc : Thread Cert.AdamDown1Ideal.nD Cert.AdamDown1Ideal.τ).loc Cert.AdamDown1Ideal.main_v0_3) = v3 c
          ∧ r.2.mem ((c.tc : Thread Cert.AdamDown1Ideal.nD Cert.AdamDown1Ideal.τ).loc Cert.AdamDown1Ideal.main_arg0) = m ((c.tc : Thread Cert.AdamDown1Ideal.nD Cert.AdamDown1Ideal.τ).loc Cert.AdamDown1Ideal.main_arg0)
          ∧ r.2.mem ((c.tc : Thread Cert.AdamDown1Ideal.nD Cert.AdamDown1Ideal.τ).loc Cert.AdamDown1Ideal.main_arg1) = m ((c.tc : Thread Cert.AdamDown1Ideal.nD Cert.AdamDown1Ideal.τ).loc Cert.AdamDown1Ideal.main_arg1)
          ∧ r.2.mem ((c.tc : Thread Cert.AdamDown1Ideal.nD Cert.AdamDown1Ideal.τ).loc Cert.AdamDown1Ideal.main_arg2) = m ((c.tc : Thread Cert.AdamDown1Ideal.nD Cert.AdamDown1Ideal.τ).loc Cert.AdamDown1Ideal.main_arg2)
          ∧ r.2.mem ((c.tc : Thread Cert.AdamDown1Ideal.nD Cert.AdamDown1Ideal.τ).loc Cert.AdamDown1Ideal.main_arg3) = m ((c.tc : Thread Cert.AdamDown1Ideal.nD Cert.AdamDown1Ideal.τ).loc Cert.AdamDown1Ideal.main_arg3)
          ∧ r.2.mem ((c.tc : Thread Cert.AdamDown1Ideal.nD Cert.AdamDown1Ideal.τ).loc Cert.AdamDown1Ideal.main_arg4) = m ((c.tc : Thread Cert.AdamDown1Ideal.nD Cert.AdamDown1Ideal.τ).loc Cert.AdamDown1Ideal.main_arg4)
          ∧ r.2.mem ((c.tc : Thread Cert.AdamDown1Ideal.nD Cert.AdamDown1Ideal.τ).loc Cert.AdamDown1Ideal.main_arg5) = m ((c.tc : Thread Cert.AdamDown1Ideal.nD Cert.AdamDown1Ideal.τ).loc Cert.AdamDown1Ideal.main_arg5)
          ∧ r.2.mem ((c.tc : Thread Cert.AdamDown1Ideal.nD Cert.AdamDown1Ideal.τ).loc Cert.AdamDown1Ideal.main_arg6) = m ((c.tc : Thread Cert.AdamDown1Ideal.nD Cert.AdamDown1Ideal.τ).loc Cert.AdamDown1Ideal.main_arg6)
          ∧ r.2.mem ((c.tc : Thread Cert.AdamDown1Ideal.nD Cert.AdamDown1Ideal.τ).loc Cert.AdamDown1Ideal.main_arg7) = m ((c.tc : Thread Cert.AdamDown1Ideal.nD Cert.AdamDown1Ideal.τ).loc Cert.AdamDown1Ideal.main_arg7)
          ∧ r.2.mem ((c.tc : Thread Cert.AdamDown1Ideal.nD Cert.AdamDown1Ideal.τ).loc Cert.AdamDown1Ideal.main_arg8) = m ((c.tc : Thread Cert.AdamDown1Ideal.nD Cert.AdamDown1Ideal.τ).loc Cert.AdamDown1Ideal.main_arg8)
          ∧ r.2.mem ((c.tc : Thread Cert.AdamDown1Ideal.nD Cert.AdamDown1Ideal.τ).loc Cert.AdamDown1Ideal.main_arg9) = m ((c.tc : Thread Cert.AdamDown1Ideal.nD Cert.AdamDown1Ideal.τ).loc Cert.AdamDown1Ideal.main_arg9))
      ∧ θ_run (Cert.AdamDown1RefIdeal.defs (F := Ideal)) (onTc (τ := Cert.AdamDown1RefIdeal.τ) (Cert.AdamDown1RefIdeal.main (F := Ideal))) ⟨m', fun _ => 0, g'⟩ (fun r => ∀ c : Dev Cert.AdamDown1RefIdeal.nD,
          r.2.mem ((c.tc : Thread Cert.AdamDown1RefIdeal.nD Cert.AdamDown1RefIdeal.τ).loc Cert.AdamDown1RefIdeal.main_v40) = v0 c
          ∧ r.2.mem ((c.tc : Thread Cert.AdamDown1RefIdeal.nD Cert.AdamDown1RefIdeal.τ).loc Cert.AdamDown1RefIdeal.main_v45) = v1 c
          ∧ r.2.mem ((c.tc : Thread Cert.AdamDown1RefIdeal.nD Cert.AdamDown1RefIdeal.τ).loc Cert.AdamDown1RefIdeal.main_v50) = v2 c
          ∧ r.2.mem ((c.tc : Thread Cert.AdamDown1RefIdeal.nD Cert.AdamDown1RefIdeal.τ).loc Cert.AdamDown1RefIdeal.main_v55) = v3 c
          ∧ r.2.mem ((c.tc : Thread Cert.AdamDown1RefIdeal.nD Cert.AdamDown1RefIdeal.τ).loc Cert.AdamDown1RefIdeal.main_arg0) = m' ((c.tc : Thread Cert.AdamDown1RefIdeal.nD Cert.AdamDown1RefIdeal.τ).loc Cert.AdamDown1RefIdeal.main_arg0)
          ∧ r.2.mem ((c.tc : Thread Cert.AdamDown1RefIdeal.nD Cert.AdamDown1RefIdeal.τ).loc Cert.AdamDown1RefIdeal.main_arg1) = m' ((c.tc : Thread Cert.AdamDown1RefIdeal.nD Cert.AdamDown1RefIdeal.τ).loc Cert.AdamDown1RefIdeal.main_arg1)
          ∧ r.2.mem ((c.tc : Thread Cert.AdamDown1RefIdeal.nD Cert.AdamDown1RefIdeal.τ).loc Cert.AdamDown1RefIdeal.main_arg2) = m' ((c.tc : Thread Cert.AdamDown1RefIdeal.nD Cert.AdamDown1RefIdeal.τ).loc Cert.AdamDown1RefIdeal.main_arg2)
          ∧ r.2.mem ((c.tc : Thread Cert.AdamDown1RefIdeal.nD Cert.AdamDown1RefIdeal.τ).loc Cert.AdamDown1RefIdeal.main_arg3) = m' ((c.tc : Thread Cert.AdamDown1RefIdeal.nD Cert.AdamDown1RefIdeal.τ).loc Cert.AdamDown1RefIdeal.main_arg3)
          ∧ r.2.mem ((c.tc : Thread Cert.AdamDown1RefIdeal.nD Cert.AdamDown1RefIdeal.τ).loc Cert.AdamDown1RefIdeal.main_arg4) = m' ((c.tc : Thread Cert.AdamDown1RefIdeal.nD Cert.AdamDown1RefIdeal.τ).loc Cert.AdamDown1RefIdeal.main_arg4)
          ∧ r.2.mem ((c.tc : Thread Cert.AdamDown1RefIdeal.nD Cert.AdamDown1RefIdeal.τ).loc Cert.AdamDown1RefIdeal.main_arg5) = m' ((c.tc : Thread Cert.AdamDown1RefIdeal.nD Cert.AdamDown1RefIdeal.τ).loc Cert.AdamDown1RefIdeal.main_arg5)
          ∧ r.2.mem ((c.tc : Thread Cert.AdamDown1RefIdeal.nD Cert.AdamDown1RefIdeal.τ).loc Cert.AdamDown1RefIdeal.main_arg6) = m' ((c.tc : Thread Cert.AdamDown1RefIdeal.nD Cert.AdamDown1RefIdeal.τ).loc Cert.AdamDown1RefIdeal.main_arg6)
          ∧ r.2.mem ((c.tc : Thread Cert.AdamDown1RefIdeal.nD Cert.AdamDown1RefIdeal.τ).loc Cert.AdamDown1RefIdeal.main_arg7) = m' ((c.tc : Thread Cert.AdamDown1RefIdeal.nD Cert.AdamDown1RefIdeal.τ).loc Cert.AdamDown1RefIdeal.main_arg7)
          ∧ r.2.mem ((c.tc : Thread Cert.AdamDown1RefIdeal.nD Cert.AdamDown1RefIdeal.τ).loc Cert.AdamDown1RefIdeal.main_arg8) = m' ((c.tc : Thread Cert.AdamDown1RefIdeal.nD Cert.AdamDown1RefIdeal.τ).loc Cert.AdamDown1RefIdeal.main_arg8)
          ∧ r.2.mem ((c.tc : Thread Cert.AdamDown1RefIdeal.nD Cert.AdamDown1RefIdeal.τ).loc Cert.AdamDown1RefIdeal.main_arg9) = m' ((c.tc : Thread Cert.AdamDown1RefIdeal.nD Cert.AdamDown1RefIdeal.τ).loc Cert.AdamDown1RefIdeal.main_arg9))

def preserves_AdamOut0_AdamOut0Ideal : Prop :=
  True

def algebraic_AdamOut0Ideal_AdamOut0RefIdeal_pre_core_out0 [hAdamOut0Ideal : Cert.AdamOut0Ideal.Facts] [hAdamOut0RefIdeal : Cert.AdamOut0RefIdeal.Facts] [hPre_core_out0 : Cert.Pre_core_out0.Facts] : Prop :=
  ∀ (m : (ℓ : Loc Cert.AdamOut0Ideal.nD Cert.AdamOut0Ideal.τ Cert.AdamOut0Ideal.sig) → Buf (Elt Ideal) ℓ) (g : Dev Cert.AdamOut0Ideal.nD → PrngReg)
    (m' : (ℓ : Loc Cert.AdamOut0RefIdeal.nD Cert.AdamOut0RefIdeal.τ Cert.AdamOut0RefIdeal.sig) → Buf (Elt Ideal) ℓ) (g' : Dev Cert.AdamOut0RefIdeal.nD → PrngReg), Pre_AdamOut0Ideal_core_out0 m →
    (∀ c : Dev Cert.AdamOut0Ideal.nD,
      m' ((c.tc : Thread Cert.AdamOut0RefIdeal.nD Cert.AdamOut0RefIdeal.τ).loc Cert.AdamOut0RefIdeal.main_arg0) = m ((c.tc : Thread Cert.AdamOut0Ideal.nD Cert.AdamOut0Ideal.τ).loc Cert.AdamOut0Ideal.main_arg0)
      ∧ m' ((c.tc : Thread Cert.AdamOut0RefIdeal.nD Cert.AdamOut0RefIdeal.τ).loc Cert.AdamOut0RefIdeal.main_arg1) = m ((c.tc : Thread Cert.AdamOut0Ideal.nD Cert.AdamOut0Ideal.τ).loc Cert.AdamOut0Ideal.main_arg1)
      ∧ m' ((c.tc : Thread Cert.AdamOut0RefIdeal.nD Cert.AdamOut0RefIdeal.τ).loc Cert.AdamOut0RefIdeal.main_arg2) = m ((c.tc : Thread Cert.AdamOut0Ideal.nD Cert.AdamOut0Ideal.τ).loc Cert.AdamOut0Ideal.main_arg2)
      ∧ m' ((c.tc : Thread Cert.AdamOut0RefIdeal.nD Cert.AdamOut0RefIdeal.τ).loc Cert.AdamOut0RefIdeal.main_arg3) = m ((c.tc : Thread Cert.AdamOut0Ideal.nD Cert.AdamOut0Ideal.τ).loc Cert.AdamOut0Ideal.main_arg3)
      ∧ m' ((c.tc : Thread Cert.AdamOut0RefIdeal.nD Cert.AdamOut0RefIdeal.τ).loc Cert.AdamOut0RefIdeal.main_arg4) = m ((c.tc : Thread Cert.AdamOut0Ideal.nD Cert.AdamOut0Ideal.τ).loc Cert.AdamOut0Ideal.main_arg4)
      ∧ m' ((c.tc : Thread Cert.AdamOut0RefIdeal.nD Cert.AdamOut0RefIdeal.τ).loc Cert.AdamOut0RefIdeal.main_arg5) = m ((c.tc : Thread Cert.AdamOut0Ideal.nD Cert.AdamOut0Ideal.τ).loc Cert.AdamOut0Ideal.main_arg5)) →
    ∃ (v0 : (c : Dev Cert.AdamOut0Ideal.nD) → Buf (Elt Ideal) ((c.tc : Thread Cert.AdamOut0Ideal.nD Cert.AdamOut0Ideal.τ).loc Cert.AdamOut0Ideal.main_v2)) (v1 : (c : Dev Cert.AdamOut0Ideal.nD) → Buf (Elt Ideal) ((c.tc : Thread Cert.AdamOut0Ideal.nD Cert.AdamOut0Ideal.τ).loc Cert.AdamOut0Ideal.main_v4)) (v2 : (c : Dev Cert.AdamOut0Ideal.nD) → Buf (Elt Ideal) ((c.tc : Thread Cert.AdamOut0Ideal.nD Cert.AdamOut0Ideal.τ).loc Cert.AdamOut0Ideal.main_v6)) (v3 : (c : Dev Cert.AdamOut0Ideal.nD) → Buf (Elt Ideal) ((c.tc : Thread Cert.AdamOut0Ideal.nD Cert.AdamOut0Ideal.τ).loc Cert.AdamOut0Ideal.main_v8)),
      θ_run (Cert.AdamOut0Ideal.defs (F := Ideal)) (onTc (τ := Cert.AdamOut0Ideal.τ) (Cert.AdamOut0Ideal.main (F := Ideal))) ⟨m, fun _ => 0, g⟩ (fun r => ∀ c : Dev Cert.AdamOut0Ideal.nD,
          r.2.mem ((c.tc : Thread Cert.AdamOut0Ideal.nD Cert.AdamOut0Ideal.τ).loc Cert.AdamOut0Ideal.main_v2) = v0 c
          ∧ r.2.mem ((c.tc : Thread Cert.AdamOut0Ideal.nD Cert.AdamOut0Ideal.τ).loc Cert.AdamOut0Ideal.main_v4) = v1 c
          ∧ r.2.mem ((c.tc : Thread Cert.AdamOut0Ideal.nD Cert.AdamOut0Ideal.τ).loc Cert.AdamOut0Ideal.main_v6) = v2 c
          ∧ r.2.mem ((c.tc : Thread Cert.AdamOut0Ideal.nD Cert.AdamOut0Ideal.τ).loc Cert.AdamOut0Ideal.main_v8) = v3 c
          ∧ r.2.mem ((c.tc : Thread Cert.AdamOut0Ideal.nD Cert.AdamOut0Ideal.τ).loc Cert.AdamOut0Ideal.main_arg0) = m ((c.tc : Thread Cert.AdamOut0Ideal.nD Cert.AdamOut0Ideal.τ).loc Cert.AdamOut0Ideal.main_arg0)
          ∧ r.2.mem ((c.tc : Thread Cert.AdamOut0Ideal.nD Cert.AdamOut0Ideal.τ).loc Cert.AdamOut0Ideal.main_arg1) = m ((c.tc : Thread Cert.AdamOut0Ideal.nD Cert.AdamOut0Ideal.τ).loc Cert.AdamOut0Ideal.main_arg1)
          ∧ r.2.mem ((c.tc : Thread Cert.AdamOut0Ideal.nD Cert.AdamOut0Ideal.τ).loc Cert.AdamOut0Ideal.main_arg2) = m ((c.tc : Thread Cert.AdamOut0Ideal.nD Cert.AdamOut0Ideal.τ).loc Cert.AdamOut0Ideal.main_arg2)
          ∧ r.2.mem ((c.tc : Thread Cert.AdamOut0Ideal.nD Cert.AdamOut0Ideal.τ).loc Cert.AdamOut0Ideal.main_arg3) = m ((c.tc : Thread Cert.AdamOut0Ideal.nD Cert.AdamOut0Ideal.τ).loc Cert.AdamOut0Ideal.main_arg3)
          ∧ r.2.mem ((c.tc : Thread Cert.AdamOut0Ideal.nD Cert.AdamOut0Ideal.τ).loc Cert.AdamOut0Ideal.main_arg4) = m ((c.tc : Thread Cert.AdamOut0Ideal.nD Cert.AdamOut0Ideal.τ).loc Cert.AdamOut0Ideal.main_arg4)
          ∧ r.2.mem ((c.tc : Thread Cert.AdamOut0Ideal.nD Cert.AdamOut0Ideal.τ).loc Cert.AdamOut0Ideal.main_arg5) = m ((c.tc : Thread Cert.AdamOut0Ideal.nD Cert.AdamOut0Ideal.τ).loc Cert.AdamOut0Ideal.main_arg5))
      ∧ θ_run (Cert.AdamOut0RefIdeal.defs (F := Ideal)) (onTc (τ := Cert.AdamOut0RefIdeal.τ) (Cert.AdamOut0RefIdeal.main (F := Ideal))) ⟨m', fun _ => 0, g'⟩ (fun r => ∀ c : Dev Cert.AdamOut0RefIdeal.nD,
          r.2.mem ((c.tc : Thread Cert.AdamOut0RefIdeal.nD Cert.AdamOut0RefIdeal.τ).loc Cert.AdamOut0RefIdeal.main_v5) = v0 c
          ∧ r.2.mem ((c.tc : Thread Cert.AdamOut0RefIdeal.nD Cert.AdamOut0RefIdeal.τ).loc Cert.AdamOut0RefIdeal.main_v35) = v1 c
          ∧ r.2.mem ((c.tc : Thread Cert.AdamOut0RefIdeal.nD Cert.AdamOut0RefIdeal.τ).loc Cert.AdamOut0RefIdeal.main_v16) = v2 c
          ∧ r.2.mem ((c.tc : Thread Cert.AdamOut0RefIdeal.nD Cert.AdamOut0RefIdeal.τ).loc Cert.AdamOut0RefIdeal.main_v22) = v3 c
          ∧ r.2.mem ((c.tc : Thread Cert.AdamOut0RefIdeal.nD Cert.AdamOut0RefIdeal.τ).loc Cert.AdamOut0RefIdeal.main_arg0) = m' ((c.tc : Thread Cert.AdamOut0RefIdeal.nD Cert.AdamOut0RefIdeal.τ).loc Cert.AdamOut0RefIdeal.main_arg0)
          ∧ r.2.mem ((c.tc : Thread Cert.AdamOut0RefIdeal.nD Cert.AdamOut0RefIdeal.τ).loc Cert.AdamOut0RefIdeal.main_arg1) = m' ((c.tc : Thread Cert.AdamOut0RefIdeal.nD Cert.AdamOut0RefIdeal.τ).loc Cert.AdamOut0RefIdeal.main_arg1)
          ∧ r.2.mem ((c.tc : Thread Cert.AdamOut0RefIdeal.nD Cert.AdamOut0RefIdeal.τ).loc Cert.AdamOut0RefIdeal.main_arg2) = m' ((c.tc : Thread Cert.AdamOut0RefIdeal.nD Cert.AdamOut0RefIdeal.τ).loc Cert.AdamOut0RefIdeal.main_arg2)
          ∧ r.2.mem ((c.tc : Thread Cert.AdamOut0RefIdeal.nD Cert.AdamOut0RefIdeal.τ).loc Cert.AdamOut0RefIdeal.main_arg3) = m' ((c.tc : Thread Cert.AdamOut0RefIdeal.nD Cert.AdamOut0RefIdeal.τ).loc Cert.AdamOut0RefIdeal.main_arg3)
          ∧ r.2.mem ((c.tc : Thread Cert.AdamOut0RefIdeal.nD Cert.AdamOut0RefIdeal.τ).loc Cert.AdamOut0RefIdeal.main_arg4) = m' ((c.tc : Thread Cert.AdamOut0RefIdeal.nD Cert.AdamOut0RefIdeal.τ).loc Cert.AdamOut0RefIdeal.main_arg4)
          ∧ r.2.mem ((c.tc : Thread Cert.AdamOut0RefIdeal.nD Cert.AdamOut0RefIdeal.τ).loc Cert.AdamOut0RefIdeal.main_arg5) = m' ((c.tc : Thread Cert.AdamOut0RefIdeal.nD Cert.AdamOut0RefIdeal.τ).loc Cert.AdamOut0RefIdeal.main_arg5))

def preserves_AdamOut1_AdamOut1Ideal : Prop :=
  True

def algebraic_AdamOut1Ideal_AdamOut1RefIdeal_pre_core_out1 [hAdamOut1Ideal : Cert.AdamOut1Ideal.Facts] [hAdamOut1RefIdeal : Cert.AdamOut1RefIdeal.Facts] [hPre_core_out1 : Cert.Pre_core_out1.Facts] : Prop :=
  ∀ (m : (ℓ : Loc Cert.AdamOut1Ideal.nD Cert.AdamOut1Ideal.τ Cert.AdamOut1Ideal.sig) → Buf (Elt Ideal) ℓ) (g : Dev Cert.AdamOut1Ideal.nD → PrngReg)
    (m' : (ℓ : Loc Cert.AdamOut1RefIdeal.nD Cert.AdamOut1RefIdeal.τ Cert.AdamOut1RefIdeal.sig) → Buf (Elt Ideal) ℓ) (g' : Dev Cert.AdamOut1RefIdeal.nD → PrngReg), Pre_AdamOut1Ideal_core_out1 m →
    (∀ c : Dev Cert.AdamOut1Ideal.nD,
      m' ((c.tc : Thread Cert.AdamOut1RefIdeal.nD Cert.AdamOut1RefIdeal.τ).loc Cert.AdamOut1RefIdeal.main_arg0) = m ((c.tc : Thread Cert.AdamOut1Ideal.nD Cert.AdamOut1Ideal.τ).loc Cert.AdamOut1Ideal.main_arg0)
      ∧ m' ((c.tc : Thread Cert.AdamOut1RefIdeal.nD Cert.AdamOut1RefIdeal.τ).loc Cert.AdamOut1RefIdeal.main_arg1) = m ((c.tc : Thread Cert.AdamOut1Ideal.nD Cert.AdamOut1Ideal.τ).loc Cert.AdamOut1Ideal.main_arg1)
      ∧ m' ((c.tc : Thread Cert.AdamOut1RefIdeal.nD Cert.AdamOut1RefIdeal.τ).loc Cert.AdamOut1RefIdeal.main_arg2) = m ((c.tc : Thread Cert.AdamOut1Ideal.nD Cert.AdamOut1Ideal.τ).loc Cert.AdamOut1Ideal.main_arg2)
      ∧ m' ((c.tc : Thread Cert.AdamOut1RefIdeal.nD Cert.AdamOut1RefIdeal.τ).loc Cert.AdamOut1RefIdeal.main_arg3) = m ((c.tc : Thread Cert.AdamOut1Ideal.nD Cert.AdamOut1Ideal.τ).loc Cert.AdamOut1Ideal.main_arg3)
      ∧ m' ((c.tc : Thread Cert.AdamOut1RefIdeal.nD Cert.AdamOut1RefIdeal.τ).loc Cert.AdamOut1RefIdeal.main_arg4) = m ((c.tc : Thread Cert.AdamOut1Ideal.nD Cert.AdamOut1Ideal.τ).loc Cert.AdamOut1Ideal.main_arg4)
      ∧ m' ((c.tc : Thread Cert.AdamOut1RefIdeal.nD Cert.AdamOut1RefIdeal.τ).loc Cert.AdamOut1RefIdeal.main_arg5) = m ((c.tc : Thread Cert.AdamOut1Ideal.nD Cert.AdamOut1Ideal.τ).loc Cert.AdamOut1Ideal.main_arg5)
      ∧ m' ((c.tc : Thread Cert.AdamOut1RefIdeal.nD Cert.AdamOut1RefIdeal.τ).loc Cert.AdamOut1RefIdeal.main_arg6) = m ((c.tc : Thread Cert.AdamOut1Ideal.nD Cert.AdamOut1Ideal.τ).loc Cert.AdamOut1Ideal.main_arg6)
      ∧ m' ((c.tc : Thread Cert.AdamOut1RefIdeal.nD Cert.AdamOut1RefIdeal.τ).loc Cert.AdamOut1RefIdeal.main_arg7) = m ((c.tc : Thread Cert.AdamOut1Ideal.nD Cert.AdamOut1Ideal.τ).loc Cert.AdamOut1Ideal.main_arg7)
      ∧ m' ((c.tc : Thread Cert.AdamOut1RefIdeal.nD Cert.AdamOut1RefIdeal.τ).loc Cert.AdamOut1RefIdeal.main_arg8) = m ((c.tc : Thread Cert.AdamOut1Ideal.nD Cert.AdamOut1Ideal.τ).loc Cert.AdamOut1Ideal.main_arg8)
      ∧ m' ((c.tc : Thread Cert.AdamOut1RefIdeal.nD Cert.AdamOut1RefIdeal.τ).loc Cert.AdamOut1RefIdeal.main_arg9) = m ((c.tc : Thread Cert.AdamOut1Ideal.nD Cert.AdamOut1Ideal.τ).loc Cert.AdamOut1Ideal.main_arg9)) →
    ∃ (v0 : (c : Dev Cert.AdamOut1Ideal.nD) → Buf (Elt Ideal) ((c.tc : Thread Cert.AdamOut1Ideal.nD Cert.AdamOut1Ideal.τ).loc Cert.AdamOut1Ideal.main_v0_0)) (v1 : (c : Dev Cert.AdamOut1Ideal.nD) → Buf (Elt Ideal) ((c.tc : Thread Cert.AdamOut1Ideal.nD Cert.AdamOut1Ideal.τ).loc Cert.AdamOut1Ideal.main_v0_1)) (v2 : (c : Dev Cert.AdamOut1Ideal.nD) → Buf (Elt Ideal) ((c.tc : Thread Cert.AdamOut1Ideal.nD Cert.AdamOut1Ideal.τ).loc Cert.AdamOut1Ideal.main_v0_2)) (v3 : (c : Dev Cert.AdamOut1Ideal.nD) → Buf (Elt Ideal) ((c.tc : Thread Cert.AdamOut1Ideal.nD Cert.AdamOut1Ideal.τ).loc Cert.AdamOut1Ideal.main_v0_3)),
      θ_run (Cert.AdamOut1Ideal.defs (F := Ideal)) (onTc (τ := Cert.AdamOut1Ideal.τ) (Cert.AdamOut1Ideal.main (F := Ideal))) ⟨m, fun _ => 0, g⟩ (fun r => ∀ c : Dev Cert.AdamOut1Ideal.nD,
          r.2.mem ((c.tc : Thread Cert.AdamOut1Ideal.nD Cert.AdamOut1Ideal.τ).loc Cert.AdamOut1Ideal.main_v0_0) = v0 c
          ∧ r.2.mem ((c.tc : Thread Cert.AdamOut1Ideal.nD Cert.AdamOut1Ideal.τ).loc Cert.AdamOut1Ideal.main_v0_1) = v1 c
          ∧ r.2.mem ((c.tc : Thread Cert.AdamOut1Ideal.nD Cert.AdamOut1Ideal.τ).loc Cert.AdamOut1Ideal.main_v0_2) = v2 c
          ∧ r.2.mem ((c.tc : Thread Cert.AdamOut1Ideal.nD Cert.AdamOut1Ideal.τ).loc Cert.AdamOut1Ideal.main_v0_3) = v3 c
          ∧ r.2.mem ((c.tc : Thread Cert.AdamOut1Ideal.nD Cert.AdamOut1Ideal.τ).loc Cert.AdamOut1Ideal.main_arg0) = m ((c.tc : Thread Cert.AdamOut1Ideal.nD Cert.AdamOut1Ideal.τ).loc Cert.AdamOut1Ideal.main_arg0)
          ∧ r.2.mem ((c.tc : Thread Cert.AdamOut1Ideal.nD Cert.AdamOut1Ideal.τ).loc Cert.AdamOut1Ideal.main_arg1) = m ((c.tc : Thread Cert.AdamOut1Ideal.nD Cert.AdamOut1Ideal.τ).loc Cert.AdamOut1Ideal.main_arg1)
          ∧ r.2.mem ((c.tc : Thread Cert.AdamOut1Ideal.nD Cert.AdamOut1Ideal.τ).loc Cert.AdamOut1Ideal.main_arg2) = m ((c.tc : Thread Cert.AdamOut1Ideal.nD Cert.AdamOut1Ideal.τ).loc Cert.AdamOut1Ideal.main_arg2)
          ∧ r.2.mem ((c.tc : Thread Cert.AdamOut1Ideal.nD Cert.AdamOut1Ideal.τ).loc Cert.AdamOut1Ideal.main_arg3) = m ((c.tc : Thread Cert.AdamOut1Ideal.nD Cert.AdamOut1Ideal.τ).loc Cert.AdamOut1Ideal.main_arg3)
          ∧ r.2.mem ((c.tc : Thread Cert.AdamOut1Ideal.nD Cert.AdamOut1Ideal.τ).loc Cert.AdamOut1Ideal.main_arg4) = m ((c.tc : Thread Cert.AdamOut1Ideal.nD Cert.AdamOut1Ideal.τ).loc Cert.AdamOut1Ideal.main_arg4)
          ∧ r.2.mem ((c.tc : Thread Cert.AdamOut1Ideal.nD Cert.AdamOut1Ideal.τ).loc Cert.AdamOut1Ideal.main_arg5) = m ((c.tc : Thread Cert.AdamOut1Ideal.nD Cert.AdamOut1Ideal.τ).loc Cert.AdamOut1Ideal.main_arg5)
          ∧ r.2.mem ((c.tc : Thread Cert.AdamOut1Ideal.nD Cert.AdamOut1Ideal.τ).loc Cert.AdamOut1Ideal.main_arg6) = m ((c.tc : Thread Cert.AdamOut1Ideal.nD Cert.AdamOut1Ideal.τ).loc Cert.AdamOut1Ideal.main_arg6)
          ∧ r.2.mem ((c.tc : Thread Cert.AdamOut1Ideal.nD Cert.AdamOut1Ideal.τ).loc Cert.AdamOut1Ideal.main_arg7) = m ((c.tc : Thread Cert.AdamOut1Ideal.nD Cert.AdamOut1Ideal.τ).loc Cert.AdamOut1Ideal.main_arg7)
          ∧ r.2.mem ((c.tc : Thread Cert.AdamOut1Ideal.nD Cert.AdamOut1Ideal.τ).loc Cert.AdamOut1Ideal.main_arg8) = m ((c.tc : Thread Cert.AdamOut1Ideal.nD Cert.AdamOut1Ideal.τ).loc Cert.AdamOut1Ideal.main_arg8)
          ∧ r.2.mem ((c.tc : Thread Cert.AdamOut1Ideal.nD Cert.AdamOut1Ideal.τ).loc Cert.AdamOut1Ideal.main_arg9) = m ((c.tc : Thread Cert.AdamOut1Ideal.nD Cert.AdamOut1Ideal.τ).loc Cert.AdamOut1Ideal.main_arg9))
      ∧ θ_run (Cert.AdamOut1RefIdeal.defs (F := Ideal)) (onTc (τ := Cert.AdamOut1RefIdeal.τ) (Cert.AdamOut1RefIdeal.main (F := Ideal))) ⟨m', fun _ => 0, g'⟩ (fun r => ∀ c : Dev Cert.AdamOut1RefIdeal.nD,
          r.2.mem ((c.tc : Thread Cert.AdamOut1RefIdeal.nD Cert.AdamOut1RefIdeal.τ).loc Cert.AdamOut1RefIdeal.main_v40) = v0 c
          ∧ r.2.mem ((c.tc : Thread Cert.AdamOut1RefIdeal.nD Cert.AdamOut1RefIdeal.τ).loc Cert.AdamOut1RefIdeal.main_v45) = v1 c
          ∧ r.2.mem ((c.tc : Thread Cert.AdamOut1RefIdeal.nD Cert.AdamOut1RefIdeal.τ).loc Cert.AdamOut1RefIdeal.main_v50) = v2 c
          ∧ r.2.mem ((c.tc : Thread Cert.AdamOut1RefIdeal.nD Cert.AdamOut1RefIdeal.τ).loc Cert.AdamOut1RefIdeal.main_v55) = v3 c
          ∧ r.2.mem ((c.tc : Thread Cert.AdamOut1RefIdeal.nD Cert.AdamOut1RefIdeal.τ).loc Cert.AdamOut1RefIdeal.main_arg0) = m' ((c.tc : Thread Cert.AdamOut1RefIdeal.nD Cert.AdamOut1RefIdeal.τ).loc Cert.AdamOut1RefIdeal.main_arg0)
          ∧ r.2.mem ((c.tc : Thread Cert.AdamOut1RefIdeal.nD Cert.AdamOut1RefIdeal.τ).loc Cert.AdamOut1RefIdeal.main_arg1) = m' ((c.tc : Thread Cert.AdamOut1RefIdeal.nD Cert.AdamOut1RefIdeal.τ).loc Cert.AdamOut1RefIdeal.main_arg1)
          ∧ r.2.mem ((c.tc : Thread Cert.AdamOut1RefIdeal.nD Cert.AdamOut1RefIdeal.τ).loc Cert.AdamOut1RefIdeal.main_arg2) = m' ((c.tc : Thread Cert.AdamOut1RefIdeal.nD Cert.AdamOut1RefIdeal.τ).loc Cert.AdamOut1RefIdeal.main_arg2)
          ∧ r.2.mem ((c.tc : Thread Cert.AdamOut1RefIdeal.nD Cert.AdamOut1RefIdeal.τ).loc Cert.AdamOut1RefIdeal.main_arg3) = m' ((c.tc : Thread Cert.AdamOut1RefIdeal.nD Cert.AdamOut1RefIdeal.τ).loc Cert.AdamOut1RefIdeal.main_arg3)
          ∧ r.2.mem ((c.tc : Thread Cert.AdamOut1RefIdeal.nD Cert.AdamOut1RefIdeal.τ).loc Cert.AdamOut1RefIdeal.main_arg4) = m' ((c.tc : Thread Cert.AdamOut1RefIdeal.nD Cert.AdamOut1RefIdeal.τ).loc Cert.AdamOut1RefIdeal.main_arg4)
          ∧ r.2.mem ((c.tc : Thread Cert.AdamOut1RefIdeal.nD Cert.AdamOut1RefIdeal.τ).loc Cert.AdamOut1RefIdeal.main_arg5) = m' ((c.tc : Thread Cert.AdamOut1RefIdeal.nD Cert.AdamOut1RefIdeal.τ).loc Cert.AdamOut1RefIdeal.main_arg5)
          ∧ r.2.mem ((c.tc : Thread Cert.AdamOut1RefIdeal.nD Cert.AdamOut1RefIdeal.τ).loc Cert.AdamOut1RefIdeal.main_arg6) = m' ((c.tc : Thread Cert.AdamOut1RefIdeal.nD Cert.AdamOut1RefIdeal.τ).loc Cert.AdamOut1RefIdeal.main_arg6)
          ∧ r.2.mem ((c.tc : Thread Cert.AdamOut1RefIdeal.nD Cert.AdamOut1RefIdeal.τ).loc Cert.AdamOut1RefIdeal.main_arg7) = m' ((c.tc : Thread Cert.AdamOut1RefIdeal.nD Cert.AdamOut1RefIdeal.τ).loc Cert.AdamOut1RefIdeal.main_arg7)
          ∧ r.2.mem ((c.tc : Thread Cert.AdamOut1RefIdeal.nD Cert.AdamOut1RefIdeal.τ).loc Cert.AdamOut1RefIdeal.main_arg8) = m' ((c.tc : Thread Cert.AdamOut1RefIdeal.nD Cert.AdamOut1RefIdeal.τ).loc Cert.AdamOut1RefIdeal.main_arg8)
          ∧ r.2.mem ((c.tc : Thread Cert.AdamOut1RefIdeal.nD Cert.AdamOut1RefIdeal.τ).loc Cert.AdamOut1RefIdeal.main_arg9) = m' ((c.tc : Thread Cert.AdamOut1RefIdeal.nD Cert.AdamOut1RefIdeal.τ).loc Cert.AdamOut1RefIdeal.main_arg9))

def preserves_AdamIn_AdamInIdeal : Prop :=
  True

def algebraic_AdamInIdeal_AdamInRefIdeal_pre_core_in [hAdamInIdeal : Cert.AdamInIdeal.Facts] [hAdamInRefIdeal : Cert.AdamInRefIdeal.Facts] [hPre_core_in : Cert.Pre_core_in.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal_core_in m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)
      ∧ m' ((c.tc : Thread Cert.AdamInRefIdeal.nD Cert.AdamInRefIdeal.τ).loc Cert.AdamInRefIdeal.main_arg4) = m ((c.tc : Thread Cert.AdamInIdeal.nD Cert.AdamInIdeal.τ).loc Cert.AdamInIdeal.main_arg4)
      ∧ m' ((c.tc : Thread Cert.AdamInRefIdeal.nD Cert.AdamInRefIdeal.τ).loc Cert.AdamInRefIdeal.main_arg5) = m ((c.tc : Thread Cert.AdamInIdeal.nD Cert.AdamInIdeal.τ).loc Cert.AdamInIdeal.main_arg5)
      ∧ m' ((c.tc : Thread Cert.AdamInRefIdeal.nD Cert.AdamInRefIdeal.τ).loc Cert.AdamInRefIdeal.main_arg6) = m ((c.tc : Thread Cert.AdamInIdeal.nD Cert.AdamInIdeal.τ).loc Cert.AdamInIdeal.main_arg6)
      ∧ m' ((c.tc : Thread Cert.AdamInRefIdeal.nD Cert.AdamInRefIdeal.τ).loc Cert.AdamInRefIdeal.main_arg7) = m ((c.tc : Thread Cert.AdamInIdeal.nD Cert.AdamInIdeal.τ).loc Cert.AdamInIdeal.main_arg7)) →
    ∃ (v0 : (c : Dev Cert.AdamInIdeal.nD) → Buf (Elt Ideal) ((c.tc : Thread Cert.AdamInIdeal.nD Cert.AdamInIdeal.τ).loc Cert.AdamInIdeal.main_v4)) (v1 : (c : Dev Cert.AdamInIdeal.nD) → Buf (Elt Ideal) ((c.tc : Thread Cert.AdamInIdeal.nD Cert.AdamInIdeal.τ).loc Cert.AdamInIdeal.main_v5)) (v2 : (c : Dev Cert.AdamInIdeal.nD) → Buf (Elt Ideal) ((c.tc : Thread Cert.AdamInIdeal.nD Cert.AdamInIdeal.τ).loc Cert.AdamInIdeal.main_v6)) (v3 : (c : Dev Cert.AdamInIdeal.nD) → Buf (Elt Ideal) ((c.tc : Thread Cert.AdamInIdeal.nD Cert.AdamInIdeal.τ).loc Cert.AdamInIdeal.main_v7)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v4) = v0 c
          ∧ r.2.mem ((c.tc : Thread Cert.AdamInIdeal.nD Cert.AdamInIdeal.τ).loc Cert.AdamInIdeal.main_v5) = v1 c
          ∧ r.2.mem ((c.tc : Thread Cert.AdamInIdeal.nD Cert.AdamInIdeal.τ).loc Cert.AdamInIdeal.main_v6) = v2 c
          ∧ r.2.mem ((c.tc : Thread Cert.AdamInIdeal.nD Cert.AdamInIdeal.τ).loc Cert.AdamInIdeal.main_v7) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4)
          ∧ r.2.mem ((c.tc : Thread Cert.AdamInIdeal.nD Cert.AdamInIdeal.τ).loc Cert.AdamInIdeal.main_arg5) = m ((c.tc : Thread Cert.AdamInIdeal.nD Cert.AdamInIdeal.τ).loc Cert.AdamInIdeal.main_arg5)
          ∧ r.2.mem ((c.tc : Thread Cert.AdamInIdeal.nD Cert.AdamInIdeal.τ).loc Cert.AdamInIdeal.main_arg6) = m ((c.tc : Thread Cert.AdamInIdeal.nD Cert.AdamInIdeal.τ).loc Cert.AdamInIdeal.main_arg6)
          ∧ r.2.mem ((c.tc : Thread Cert.AdamInIdeal.nD Cert.AdamInIdeal.τ).loc Cert.AdamInIdeal.main_arg7) = m ((c.tc : Thread Cert.AdamInIdeal.nD Cert.AdamInIdeal.τ).loc Cert.AdamInIdeal.main_arg7))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v18) = v0 c
          ∧ r.2.mem ((c.tc : Thread Cert.AdamInRefIdeal.nD Cert.AdamInRefIdeal.τ).loc Cert.AdamInRefIdeal.main_v42) = v1 c
          ∧ r.2.mem ((c.tc : Thread Cert.AdamInRefIdeal.nD Cert.AdamInRefIdeal.τ).loc Cert.AdamInRefIdeal.main_v23) = v2 c
          ∧ r.2.mem ((c.tc : Thread Cert.AdamInRefIdeal.nD Cert.AdamInRefIdeal.τ).loc Cert.AdamInRefIdeal.main_v29) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3)
          ∧ r.2.mem ((c.tc : Thread Cert.AdamInRefIdeal.nD Cert.AdamInRefIdeal.τ).loc Cert.AdamInRefIdeal.main_arg4) = m' ((c.tc : Thread Cert.AdamInRefIdeal.nD Cert.AdamInRefIdeal.τ).loc Cert.AdamInRefIdeal.main_arg4)
          ∧ r.2.mem ((c.tc : Thread Cert.AdamInRefIdeal.nD Cert.AdamInRefIdeal.τ).loc Cert.AdamInRefIdeal.main_arg5) = m' ((c.tc : Thread Cert.AdamInRefIdeal.nD Cert.AdamInRefIdeal.τ).loc Cert.AdamInRefIdeal.main_arg5)
          ∧ r.2.mem ((c.tc : Thread Cert.AdamInRefIdeal.nD Cert.AdamInRefIdeal.τ).loc Cert.AdamInRefIdeal.main_arg6) = m' ((c.tc : Thread Cert.AdamInRefIdeal.nD Cert.AdamInRefIdeal.τ).loc Cert.AdamInRefIdeal.main_arg6)
          ∧ r.2.mem ((c.tc : Thread Cert.AdamInRefIdeal.nD Cert.AdamInRefIdeal.τ).loc Cert.AdamInRefIdeal.main_arg7) = m' ((c.tc : Thread Cert.AdamInRefIdeal.nD Cert.AdamInRefIdeal.τ).loc Cert.AdamInRefIdeal.main_arg7))

def Claim : Prop :=
  ∃ (hKernel : Cert.Kernel.Facts) (hKernelIdeal : Cert.KernelIdeal.Facts) (hReferenceIdeal : Cert.ReferenceIdeal.Facts) (hFfnUp : Cert.FfnUp.Facts) (hFfnUpIdeal : Cert.FfnUpIdeal.Facts) (hFfnUpRefIdeal : Cert.FfnUpRefIdeal.Facts) (hFfnDown : Cert.FfnDown.Facts) (hFfnDownIdeal : Cert.FfnDownIdeal.Facts) (hFfnDownRefIdeal : Cert.FfnDownRefIdeal.Facts) (hFfnAct : Cert.FfnAct.Facts) (hFfnActIdeal : Cert.FfnActIdeal.Facts) (hFfnActRefIdeal : Cert.FfnActRefIdeal.Facts) (hFfnIn : Cert.FfnIn.Facts) (hFfnInIdeal : Cert.FfnInIdeal.Facts) (hFfnInRefIdeal : Cert.FfnInRefIdeal.Facts) (hDhn : Cert.Dhn.Facts) (hDhnIdeal : Cert.DhnIdeal.Facts) (hDhnRefIdeal : Cert.DhnRefIdeal.Facts) (hDwQkv : Cert.DwQkv.Facts) (hDwQkvIdeal : Cert.DwQkvIdeal.Facts) (hDwQkvRefIdeal : Cert.DwQkvRefIdeal.Facts) (hDwE : Cert.DwE.Facts) (hDwEIdeal : Cert.DwEIdeal.Facts) (hDwERefIdeal : Cert.DwERefIdeal.Facts) (hDwOut : Cert.DwOut.Facts) (hDwOutIdeal : Cert.DwOutIdeal.Facts) (hDwOutRefIdeal : Cert.DwOutRefIdeal.Facts) (hDmix : Cert.Dmix.Facts) (hDmixIdeal : Cert.DmixIdeal.Facts) (hDmixRefIdeal : Cert.DmixRefIdeal.Facts) (hProjQkv : Cert.ProjQkv.Facts) (hProjQkvIdeal : Cert.ProjQkvIdeal.Facts) (hProjQkvRefIdeal : Cert.ProjQkvRefIdeal.Facts) (hProjE : Cert.ProjE.Facts) (hProjEIdeal : Cert.ProjEIdeal.Facts) (hProjERefIdeal : Cert.ProjERefIdeal.Facts) (hOutProj : Cert.OutProj.Facts) (hOutProjIdeal : Cert.OutProjIdeal.Facts) (hOutProjRefIdeal : Cert.OutProjRefIdeal.Facts) (hNormBwd : Cert.NormBwd.Facts) (hNormBwdIdeal : Cert.NormBwdIdeal.Facts) (hNormBwdRefIdeal : Cert.NormBwdRefIdeal.Facts) (hLossHead : Cert.LossHead.Facts) (hLossHeadIdeal : Cert.LossHeadIdeal.Facts) (hLossHeadRefIdeal : Cert.LossHeadRefIdeal.Facts) (hAdamSmall : Cert.AdamSmall.Facts) (hAdamSmallIdeal : Cert.AdamSmallIdeal.Facts) (hAdamSmallRefIdeal : Cert.AdamSmallRefIdeal.Facts) (hAdamGate0 : Cert.AdamGate0.Facts) (hAdamGate0Ideal : Cert.AdamGate0Ideal.Facts) (hAdamGate0RefIdeal : Cert.AdamGate0RefIdeal.Facts) (hAdamGate1 : Cert.AdamGate1.Facts) (hAdamGate1Ideal : Cert.AdamGate1Ideal.Facts) (hAdamGate1RefIdeal : Cert.AdamGate1RefIdeal.Facts) (hAdamDown0 : Cert.AdamDown0.Facts) (hAdamDown0Ideal : Cert.AdamDown0Ideal.Facts) (hAdamDown0RefIdeal : Cert.AdamDown0RefIdeal.Facts) (hAdamDown1 : Cert.AdamDown1.Facts) (hAdamDown1Ideal : Cert.AdamDown1Ideal.Facts) (hAdamDown1RefIdeal : Cert.AdamDown1RefIdeal.Facts) (hAdamOut0 : Cert.AdamOut0.Facts) (hAdamOut0Ideal : Cert.AdamOut0Ideal.Facts) (hAdamOut0RefIdeal : Cert.AdamOut0RefIdeal.Facts) (hAdamOut1 : Cert.AdamOut1.Facts) (hAdamOut1Ideal : Cert.AdamOut1Ideal.Facts) (hAdamOut1RefIdeal : Cert.AdamOut1RefIdeal.Facts) (hAdamIn : Cert.AdamIn.Facts) (hAdamInIdeal : Cert.AdamInIdeal.Facts) (hAdamInRefIdeal : Cert.AdamInRefIdeal.Facts) (hPre_finite_no_tie : Cert.Pre_finite_no_tie.Facts) (hPre_finite : Cert.Pre_finite.Facts) (hPre_core_gate0 : Cert.Pre_core_gate0.Facts) (hPre_core_gate1 : Cert.Pre_core_gate1.Facts) (hPre_core_down0 : Cert.Pre_core_down0.Facts) (hPre_core_down1 : Cert.Pre_core_down1.Facts) (hPre_core_out0 : Cert.Pre_core_out0.Facts) (hPre_core_out1 : Cert.Pre_core_out1.Facts) (hPre_core_in : Cert.Pre_core_in.Facts),
    quiescent_Kernel (hKernel := hKernel)
    ∧ quiescent_KernelIdeal (hKernelIdeal := hKernelIdeal)
    ∧ quiescent_KernelIdeal_pre_finite_no_tie (hKernelIdeal := hKernelIdeal) (hPre_finite_no_tie := hPre_finite_no_tie)
    ∧ quiescent_ReferenceIdeal (hReferenceIdeal := hReferenceIdeal)
    ∧ quiescent_ReferenceIdeal_pre_finite_no_tie (hReferenceIdeal := hReferenceIdeal) (hPre_finite_no_tie := hPre_finite_no_tie)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_FfnAct (hFfnAct := hFfnAct)
    ∧ quiescent_FfnActIdeal (hFfnActIdeal := hFfnActIdeal)
    ∧ quiescent_FfnActIdeal_pre_finite (hFfnActIdeal := hFfnActIdeal) (hPre_finite := hPre_finite)
    ∧ quiescent_FfnActRefIdeal (hFfnActRefIdeal := hFfnActRefIdeal)
    ∧ quiescent_FfnActRefIdeal_pre_finite (hFfnActRefIdeal := hFfnActRefIdeal) (hPre_finite := hPre_finite)
    ∧ quiescent_FfnIn (hFfnIn := hFfnIn)
    ∧ quiescent_FfnInIdeal (hFfnInIdeal := hFfnInIdeal)
    ∧ quiescent_FfnInRefIdeal (hFfnInRefIdeal := hFfnInRefIdeal)
    ∧ quiescent_Dhn (hDhn := hDhn)
    ∧ quiescent_DhnIdeal (hDhnIdeal := hDhnIdeal)
    ∧ quiescent_DhnRefIdeal (hDhnRefIdeal := hDhnRefIdeal)
    ∧ quiescent_DwQkv (hDwQkv := hDwQkv)
    ∧ quiescent_DwQkvIdeal (hDwQkvIdeal := hDwQkvIdeal)
    ∧ quiescent_DwQkvRefIdeal (hDwQkvRefIdeal := hDwQkvRefIdeal)
    ∧ quiescent_DwE (hDwE := hDwE)
    ∧ quiescent_DwEIdeal (hDwEIdeal := hDwEIdeal)
    ∧ quiescent_DwERefIdeal (hDwERefIdeal := hDwERefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_Dmix (hDmix := hDmix)
    ∧ quiescent_DmixIdeal (hDmixIdeal := hDmixIdeal)
    ∧ quiescent_DmixRefIdeal (hDmixRefIdeal := hDmixRefIdeal)
    ∧ quiescent_ProjQkv (hProjQkv := hProjQkv)
    ∧ quiescent_ProjQkvIdeal (hProjQkvIdeal := hProjQkvIdeal)
    ∧ quiescent_ProjQkvRefIdeal (hProjQkvRefIdeal := hProjQkvRefIdeal)
    ∧ quiescent_ProjE (hProjE := hProjE)
    ∧ quiescent_ProjEIdeal (hProjEIdeal := hProjEIdeal)
    ∧ quiescent_ProjERefIdeal (hProjERefIdeal := hProjERefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_NormBwd (hNormBwd := hNormBwd)
    ∧ quiescent_NormBwdIdeal (hNormBwdIdeal := hNormBwdIdeal)
    ∧ quiescent_NormBwdRefIdeal (hNormBwdRefIdeal := hNormBwdRefIdeal)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_AdamGate0 (hAdamGate0 := hAdamGate0)
    ∧ quiescent_AdamGate0Ideal (hAdamGate0Ideal := hAdamGate0Ideal)
    ∧ quiescent_AdamGate0Ideal_pre_core_gate0 (hAdamGate0Ideal := hAdamGate0Ideal) (hPre_core_gate0 := hPre_core_gate0)
    ∧ quiescent_AdamGate0RefIdeal (hAdamGate0RefIdeal := hAdamGate0RefIdeal)
    ∧ quiescent_AdamGate0RefIdeal_pre_core_gate0 (hAdamGate0RefIdeal := hAdamGate0RefIdeal) (hPre_core_gate0 := hPre_core_gate0)
    ∧ quiescent_AdamGate1 (hAdamGate1 := hAdamGate1)
    ∧ quiescent_AdamGate1Ideal (hAdamGate1Ideal := hAdamGate1Ideal)
    ∧ quiescent_AdamGate1Ideal_pre_core_gate1 (hAdamGate1Ideal := hAdamGate1Ideal) (hPre_core_gate1 := hPre_core_gate1)
    ∧ quiescent_AdamGate1RefIdeal (hAdamGate1RefIdeal := hAdamGate1RefIdeal)
    ∧ quiescent_AdamGate1RefIdeal_pre_core_gate1 (hAdamGate1RefIdeal := hAdamGate1RefIdeal) (hPre_core_gate1 := hPre_core_gate1)
    ∧ quiescent_AdamDown0 (hAdamDown0 := hAdamDown0)
    ∧ quiescent_AdamDown0Ideal (hAdamDown0Ideal := hAdamDown0Ideal)
    ∧ quiescent_AdamDown0Ideal_pre_core_down0 (hAdamDown0Ideal := hAdamDown0Ideal) (hPre_core_down0 := hPre_core_down0)
    ∧ quiescent_AdamDown0RefIdeal (hAdamDown0RefIdeal := hAdamDown0RefIdeal)
    ∧ quiescent_AdamDown0RefIdeal_pre_core_down0 (hAdamDown0RefIdeal := hAdamDown0RefIdeal) (hPre_core_down0 := hPre_core_down0)
    ∧ quiescent_AdamDown1 (hAdamDown1 := hAdamDown1)
    ∧ quiescent_AdamDown1Ideal (hAdamDown1Ideal := hAdamDown1Ideal)
    ∧ quiescent_AdamDown1Ideal_pre_core_down1 (hAdamDown1Ideal := hAdamDown1Ideal) (hPre_core_down1 := hPre_core_down1)
    ∧ quiescent_AdamDown1RefIdeal (hAdamDown1RefIdeal := hAdamDown1RefIdeal)
    ∧ quiescent_AdamDown1RefIdeal_pre_core_down1 (hAdamDown1RefIdeal := hAdamDown1RefIdeal) (hPre_core_down1 := hPre_core_down1)
    ∧ quiescent_AdamOut0 (hAdamOut0 := hAdamOut0)
    ∧ quiescent_AdamOut0Ideal (hAdamOut0Ideal := hAdamOut0Ideal)
    ∧ quiescent_AdamOut0Ideal_pre_core_out0 (hAdamOut0Ideal := hAdamOut0Ideal) (hPre_core_out0 := hPre_core_out0)
    ∧ quiescent_AdamOut0RefIdeal (hAdamOut0RefIdeal := hAdamOut0RefIdeal)
    ∧ quiescent_AdamOut0RefIdeal_pre_core_out0 (hAdamOut0RefIdeal := hAdamOut0RefIdeal) (hPre_core_out0 := hPre_core_out0)
    ∧ quiescent_AdamOut1 (hAdamOut1 := hAdamOut1)
    ∧ quiescent_AdamOut1Ideal (hAdamOut1Ideal := hAdamOut1Ideal)
    ∧ quiescent_AdamOut1Ideal_pre_core_out1 (hAdamOut1Ideal := hAdamOut1Ideal) (hPre_core_out1 := hPre_core_out1)
    ∧ quiescent_AdamOut1RefIdeal (hAdamOut1RefIdeal := hAdamOut1RefIdeal)
    ∧ quiescent_AdamOut1RefIdeal_pre_core_out1 (hAdamOut1RefIdeal := hAdamOut1RefIdeal) (hPre_core_out1 := hPre_core_out1)
    ∧ quiescent_AdamIn (hAdamIn := hAdamIn)
    ∧ quiescent_AdamInIdeal (hAdamInIdeal := hAdamInIdeal)
    ∧ quiescent_AdamInIdeal_pre_core_in (hAdamInIdeal := hAdamInIdeal) (hPre_core_in := hPre_core_in)
    ∧ quiescent_AdamInRefIdeal (hAdamInRefIdeal := hAdamInRefIdeal)
    ∧ quiescent_AdamInRefIdeal_pre_core_in (hAdamInRefIdeal := hAdamInRefIdeal) (hPre_core_in := hPre_core_in)
    ∧ preserves_Kernel_KernelIdeal
    ∧ algebraic_KernelIdeal_ReferenceIdeal_pre_finite_no_tie (hKernelIdeal := hKernelIdeal) (hReferenceIdeal := hReferenceIdeal) (hPre_finite_no_tie := hPre_finite_no_tie)
    ∧ preserves_FfnUp_FfnUpIdeal
    ∧ algebraic_FfnUpIdeal_FfnUpRefIdeal (hFfnUpIdeal := hFfnUpIdeal) (hFfnUpRefIdeal := hFfnUpRefIdeal)
    ∧ preserves_FfnDown_FfnDownIdeal
    ∧ algebraic_FfnDownIdeal_FfnDownRefIdeal (hFfnDownIdeal := hFfnDownIdeal) (hFfnDownRefIdeal := hFfnDownRefIdeal)
    ∧ preserves_FfnAct_FfnActIdeal
    ∧ algebraic_FfnActIdeal_FfnActRefIdeal_pre_finite (hFfnActIdeal := hFfnActIdeal) (hFfnActRefIdeal := hFfnActRefIdeal) (hPre_finite := hPre_finite)
    ∧ preserves_FfnIn_FfnInIdeal
    ∧ algebraic_FfnInIdeal_FfnInRefIdeal (hFfnInIdeal := hFfnInIdeal) (hFfnInRefIdeal := hFfnInRefIdeal)
    ∧ preserves_Dhn_DhnIdeal
    ∧ algebraic_DhnIdeal_DhnRefIdeal (hDhnIdeal := hDhnIdeal) (hDhnRefIdeal := hDhnRefIdeal)
    ∧ preserves_DwQkv_DwQkvIdeal
    ∧ algebraic_DwQkvIdeal_DwQkvRefIdeal (hDwQkvIdeal := hDwQkvIdeal) (hDwQkvRefIdeal := hDwQkvRefIdeal)
    ∧ preserves_DwE_DwEIdeal
    ∧ algebraic_DwEIdeal_DwERefIdeal (hDwEIdeal := hDwEIdeal) (hDwERefIdeal := hDwERefIdeal)
    ∧ preserves_DwOut_DwOutIdeal
    ∧ algebraic_DwOutIdeal_DwOutRefIdeal (hDwOutIdeal := hDwOutIdeal) (hDwOutRefIdeal := hDwOutRefIdeal)
    ∧ preserves_Dmix_DmixIdeal
    ∧ algebraic_DmixIdeal_DmixRefIdeal (hDmixIdeal := hDmixIdeal) (hDmixRefIdeal := hDmixRefIdeal)
    ∧ preserves_ProjQkv_ProjQkvIdeal
    ∧ algebraic_ProjQkvIdeal_ProjQkvRefIdeal (hProjQkvIdeal := hProjQkvIdeal) (hProjQkvRefIdeal := hProjQkvRefIdeal)
    ∧ preserves_ProjE_ProjEIdeal
    ∧ algebraic_ProjEIdeal_ProjERefIdeal (hProjEIdeal := hProjEIdeal) (hProjERefIdeal := hProjERefIdeal)
    ∧ preserves_OutProj_OutProjIdeal
    ∧ algebraic_OutProjIdeal_OutProjRefIdeal (hOutProjIdeal := hOutProjIdeal) (hOutProjRefIdeal := hOutProjRefIdeal)
    ∧ preserves_NormBwd_NormBwdIdeal
    ∧ algebraic_NormBwdIdeal_NormBwdRefIdeal (hNormBwdIdeal := hNormBwdIdeal) (hNormBwdRefIdeal := hNormBwdRefIdeal)
    ∧ preserves_LossHead_LossHeadIdeal
    ∧ algebraic_LossHeadIdeal_LossHeadRefIdeal (hLossHeadIdeal := hLossHeadIdeal) (hLossHeadRefIdeal := hLossHeadRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_AdamGate0_AdamGate0Ideal
    ∧ algebraic_AdamGate0Ideal_AdamGate0RefIdeal_pre_core_gate0 (hAdamGate0Ideal := hAdamGate0Ideal) (hAdamGate0RefIdeal := hAdamGate0RefIdeal) (hPre_core_gate0 := hPre_core_gate0)
    ∧ preserves_AdamGate1_AdamGate1Ideal
    ∧ algebraic_AdamGate1Ideal_AdamGate1RefIdeal_pre_core_gate1 (hAdamGate1Ideal := hAdamGate1Ideal) (hAdamGate1RefIdeal := hAdamGate1RefIdeal) (hPre_core_gate1 := hPre_core_gate1)
    ∧ preserves_AdamDown0_AdamDown0Ideal
    ∧ algebraic_AdamDown0Ideal_AdamDown0RefIdeal_pre_core_down0 (hAdamDown0Ideal := hAdamDown0Ideal) (hAdamDown0RefIdeal := hAdamDown0RefIdeal) (hPre_core_down0 := hPre_core_down0)
    ∧ preserves_AdamDown1_AdamDown1Ideal
    ∧ algebraic_AdamDown1Ideal_AdamDown1RefIdeal_pre_core_down1 (hAdamDown1Ideal := hAdamDown1Ideal) (hAdamDown1RefIdeal := hAdamDown1RefIdeal) (hPre_core_down1 := hPre_core_down1)
    ∧ preserves_AdamOut0_AdamOut0Ideal
    ∧ algebraic_AdamOut0Ideal_AdamOut0RefIdeal_pre_core_out0 (hAdamOut0Ideal := hAdamOut0Ideal) (hAdamOut0RefIdeal := hAdamOut0RefIdeal) (hPre_core_out0 := hPre_core_out0)
    ∧ preserves_AdamOut1_AdamOut1Ideal
    ∧ algebraic_AdamOut1Ideal_AdamOut1RefIdeal_pre_core_out1 (hAdamOut1Ideal := hAdamOut1Ideal) (hAdamOut1RefIdeal := hAdamOut1RefIdeal) (hPre_core_out1 := hPre_core_out1)
    ∧ preserves_AdamIn_AdamInIdeal
    ∧ algebraic_AdamInIdeal_AdamInRefIdeal_pre_core_in (hAdamInIdeal := hAdamInIdeal) (hAdamInRefIdeal := hAdamInRefIdeal) (hPre_core_in := hPre_core_in)
-- ==== Pre_core_down0.lean ====
abbrev S704x2048 : Shape := ⟨2, ![704, 2048]⟩
abbrev S2x1408x2048 : Shape := ⟨3, ![2, 1408, 2048]⟩
abbrev S5 : Shape := ⟨1, ![5]⟩
abbrev S1 : Shape := ⟨1, ![1]⟩
abbrev S_ : Shape := ⟨0, ![]⟩

class Facts : Prop where
  slices_S5_S1_0 : S5.Slices ![0] S1
  shapeCasts_S1_S_ : S1.ShapeCasts S_

variable [Facts]

def fn {F : FTy → Type} [FloatOps F] (main_arg0 : FVec F S704x2048 .f32) (main_arg1 : FVec F S704x2048 .f32) (main_arg2 : FVec F S2x1408x2048 .f32) (main_arg3 : FVec F S2x1408x2048 .f32) (main_arg4 : FVec F S2x1408x2048 .f32) (main_arg5 : IVec S5 32) : IVec S_ 1 :=
  let main_v0 : IVec S1 32 := (extractStridedSlice S1 ![0] · slices_S5_S1_0) main_arg5
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![0] · slices_S5_S1_0) main_arg5
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := ori main_v2 main_v5
  main_v6
-- ==== Pre_core_down1.lean ====
abbrev S704x2048 : Shape := ⟨2, ![704, 2048]⟩
abbrev S2x1408x2048 : Shape := ⟨3, ![2, 1408, 2048]⟩
abbrev S5 : Shape := ⟨1, ![5]⟩
abbrev S1 : Shape := ⟨1, ![1]⟩
abbrev S_ : Shape := ⟨0, ![]⟩

class Facts : Prop where
  slices_S5_S1_0 : S5.Slices ![0] S1
  shapeCasts_S1_S_ : S1.ShapeCasts S_

variable [Facts]

def fn {F : FTy → Type} [FloatOps F] (main_arg0 : FVec F S704x2048 .f32) (main_arg1 : FVec F S704x2048 .f32) (main_arg2 : FVec F S2x1408x2048 .f32) (main_arg3 : FVec F S2x1408x2048 .f32) (main_arg4 : FVec F S2x1408x2048 .f32) (main_arg5 : FVec F S2x1408x2048 .f32) (main_arg6 : FVec F S2x1408x2048 .f32) (main_arg7 : FVec F S2x1408x2048 .f32) (main_arg8 : FVec F S2x1408x2048 .f32) (main_arg9 : IVec S5 32) : IVec S_ 1 :=
  let main_v0 : IVec S1 32 := (extractStridedSlice S1 ![0] · slices_S5_S1_0) main_arg9
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![0] · slices_S5_S1_0) main_arg9
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := ori main_v2 main_v5
  main_v6
-- ==== Pre_core_gate0.lean ====
abbrev S1024x1408 : Shape := ⟨2, ![1024, 1408]⟩
abbrev S2x2048x1408 : Shape := ⟨3, ![2, 2048, 1408]⟩
abbrev S5 : Shape := ⟨1, ![5]⟩
abbrev S1 : Shape := ⟨1, ![1]⟩
abbrev S_ : Shape := ⟨0, ![]⟩

class Facts : Prop where
  slices_S5_S1_0 : S5.Slices ![0] S1
  shapeCasts_S1_S_ : S1.ShapeCasts S_

variable [Facts]

def fn {F : FTy → Type} [FloatOps F] (main_arg0 : FVec F S1024x1408 .f32) (main_arg1 : FVec F S1024x1408 .f32) (main_arg2 : FVec F S2x2048x1408 .f32) (main_arg3 : FVec F S2x2048x1408 .f32) (main_arg4 : FVec F S2x2048x1408 .f32) (main_arg5 : IVec S5 32) : IVec S_ 1 :=
  let main_v0 : IVec S1 32 := (extractStridedSlice S1 ![0] · slices_S5_S1_0) main_arg5
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![0] · slices_S5_S1_0) main_arg5
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := ori main_v2 main_v5
  main_v6
-- ==== Pre_core_gate1.lean ====
abbrev S1024x1408 : Shape := ⟨2, ![1024, 1408]⟩
abbrev S2x2048x1408 : Shape := ⟨3, ![2, 2048, 1408]⟩
abbrev S5 : Shape := ⟨1, ![5]⟩
abbrev S1 : Shape := ⟨1, ![1]⟩
abbrev S_ : Shape := ⟨0, ![]⟩

class Facts : Prop where
  slices_S5_S1_0 : S5.Slices ![0] S1
  shapeCasts_S1_S_ : S1.ShapeCasts S_

variable [Facts]

def fn {F : FTy → Type} [FloatOps F] (main_arg0 : FVec F S1024x1408 .f32) (main_arg1 : FVec F S1024x1408 .f32) (main_arg2 : FVec F S2x2048x1408 .f32) (main_arg3 : FVec F S2x2048x1408 .f32) (main_arg4 : FVec F S2x2048x1408 .f32) (main_arg5 : FVec F S2x2048x1408 .f32) (main_arg6 : FVec F S2x2048x1408 .f32) (main_arg7 : FVec F S2x2048x1408 .f32) (main_arg8 : FVec F S2x2048x1408 .f32) (main_arg9 : IVec S5 32) : IVec S_ 1 :=
  let main_v0 : IVec S1 32 := (extractStridedSlice S1 ![0] · slices_S5_S1_0) main_arg9
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![0] · slices_S5_S1_0) main_arg9
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := ori main_v2 main_v5
  main_v6
-- ==== Pre_core_in.lean ====
abbrev S1538x1024 : Shape := ⟨2, ![1538, 1024]⟩
abbrev S2x2048x1538 : Shape := ⟨3, ![2, 2048, 1538]⟩
abbrev S5 : Shape := ⟨1, ![5]⟩
abbrev S1 : Shape := ⟨1, ![1]⟩
abbrev S_ : Shape := ⟨0, ![]⟩

class Facts : Prop where
  slices_S5_S1_0 : S5.Slices ![0] S1
  shapeCasts_S1_S_ : S1.ShapeCasts S_

variable [Facts]

def fn {F : FTy → Type} [FloatOps F] (main_arg0 : FVec F S1538x1024 .f32) (main_arg1 : FVec F S1538x1024 .f32) (main_arg2 : FVec F S1538x1024 .f32) (main_arg3 : FVec F S1538x1024 .f32) (main_arg4 : FVec F S2x2048x1538 .f32) (main_arg5 : FVec F S2x2048x1538 .f32) (main_arg6 : FVec F S2x2048x1538 .f32) (main_arg7 : IVec S5 32) : IVec S_ 1 :=
  let main_v0 : IVec S1 32 := (extractStridedSlice S1 ![0] · slices_S5_S1_0) main_arg7
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![0] · slices_S5_S1_0) main_arg7
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := ori main_v2 main_v5
  main_v6
-- ==== Pre_core_out0.lean ====
abbrev S256x2048 : Shape := ⟨2, ![256, 2048]⟩
abbrev S2x512x2048 : Shape := ⟨3, ![2, 512, 2048]⟩
abbrev S5 : Shape := ⟨1, ![5]⟩
abbrev S1 : Shape := ⟨1, ![1]⟩
abbrev S_ : Shape := ⟨0, ![]⟩

class Facts : Prop where
  slices_S5_S1_0 : S5.Slices ![0] S1
  shapeCasts_S1_S_ : S1.ShapeCasts S_

variable [Facts]

def fn {F : FTy → Type} [FloatOps F] (main_arg0 : FVec F S256x2048 .f32) (main_arg1 : FVec F S256x2048 .f32) (main_arg2 : FVec F S2x512x2048 .f32) (main_arg3 : FVec F S2x512x2048 .f32) (main_arg4 : FVec F S2x512x2048 .f32) (main_arg5 : IVec S5 32) : IVec S_ 1 :=
  let main_v0 : IVec S1 32 := (extractStridedSlice S1 ![0] · slices_S5_S1_0) main_arg5
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![0] · slices_S5_S1_0) main_arg5
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := ori main_v2 main_v5
  main_v6
-- ==== Pre_core_out1.lean ====
abbrev S256x2048 : Shape := ⟨2, ![256, 2048]⟩
abbrev S2x512x2048 : Shape := ⟨3, ![2, 512, 2048]⟩
abbrev S5 : Shape := ⟨1, ![5]⟩
abbrev S1 : Shape := ⟨1, ![1]⟩
abbrev S_ : Shape := ⟨0, ![]⟩

class Facts : Prop where
  slices_S5_S1_0 : S5.Slices ![0] S1
  shapeCasts_S1_S_ : S1.ShapeCasts S_

variable [Facts]

def fn {F : FTy → Type} [FloatOps F] (main_arg0 : FVec F S256x2048 .f32) (main_arg1 : FVec F S256x2048 .f32) (main_arg2 : FVec F S2x512x2048 .f32) (main_arg3 : FVec F S2x512x2048 .f32) (main_arg4 : FVec F S2x512x2048 .f32) (main_arg5 : FVec F S2x512x2048 .f32) (main_arg6 : FVec F S2x512x2048 .f32) (main_arg7 : FVec F S2x512x2048 .f32) (main_arg8 : FVec F S2x512x2048 .f32) (main_arg9 : IVec S5 32) : IVec S_ 1 :=
  let main_v0 : IVec S1 32 := (extractStridedSlice S1 ![0] · slices_S5_S1_0) main_arg9
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![0] · slices_S5_S1_0) main_arg9
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := ori main_v2 main_v5
  main_v6
-- ==== Pre_finite.lean ====
abbrev S2176x2048 : Shape := ⟨2, ![2176, 2048]⟩
abbrev S5632x2048 : Shape := ⟨2, ![5632, 2048]⟩
abbrev S2176x5632 : Shape := ⟨2, ![2176, 5632]⟩
abbrev S_ : Shape := ⟨0, ![]⟩

class Facts : Prop where
  bcast_S_S2176x2048 : S_.BroadcastsInDim S2176x2048 (![] : Fin 0 → Fin S2176x2048.rank)
  reducesTo_S2176x2048_S_d0_1 : S2176x2048.ReducesTo [0, 1] S_
  h_S_ : 0 < S_.numel
  bcast_S_S5632x2048 : S_.BroadcastsInDim S5632x2048 (![] : Fin 0 → Fin S5632x2048.rank)
  reducesTo_S5632x2048_S_d0_1 : S5632x2048.ReducesTo [0, 1] S_
  bcast_S_S2176x5632 : S_.BroadcastsInDim S2176x5632 (![] : Fin 0 → Fin S2176x5632.rank)
  reducesTo_S2176x5632_S_d0_1 : S2176x5632.ReducesTo [0, 1] S_

variable [Facts]

def fn {F : FTy → Type} [FloatOps F] (main_arg0 : FVec F S2176x2048 .bf16) (main_arg1 : FVec F S5632x2048 .bf16) (main_arg2 : FVec F S2176x5632 .bf16) (main_arg3 : FVec F S2176x5632 .bf16) : IVec S_ 1 :=
  let main_v0 : FVec F S2176x2048 .bf16 := Host.absf main_arg0
  let main_cst : FVec F S_ .bf16 := constant S_ .bf16 0x7F80#16
  let main_v1 : FVec F S2176x2048 .bf16 := broadcastInDim S2176x2048 ![] bcast_S_S2176x2048 main_cst
  let main_v2 : IVec S2176x2048 1 := cmpf .olt main_v0 main_v1
  let main_c : IVec S_ 1 := constantI S_ 1 1#1
  let main_v3 : IVec S_ 1 := (fun x v => Host.reduce IntOp.andi x v reducesTo_S2176x2048_S_d0_1 h_S_) main_v2 main_c
  let main_v4 : FVec F S5632x2048 .bf16 := Host.absf main_arg1
  let main_cst_0 : FVec F S_ .bf16 := constant S_ .bf16 0x7F80#16
  let main_v5 : FVec F S5632x2048 .bf16 := broadcastInDim S5632x2048 ![] bcast_S_S5632x2048 main_cst_0
  let main_v6 : IVec S5632x2048 1 := cmpf .olt main_v4 main_v5
  let main_c_1 : IVec S_ 1 := constantI S_ 1 1#1
  let main_v7 : IVec S_ 1 := (fun x v => Host.reduce IntOp.andi x v reducesTo_S5632x2048_S_d0_1 h_S_) main_v6 main_c_1
  let main_v8 : IVec S_ 1 := andi main_v3 main_v7
  let main_v9 : FVec F S2176x5632 .bf16 := Host.absf main_arg3
  let main_cst_2 : FVec F S_ .bf16 := constant S_ .bf16 0x7F80#16
  let main_v10 : FVec F S2176x5632 .bf16 := broadcastInDim S2176x5632 ![] bcast_S_S2176x5632 main_cst_2
  let main_v11 : IVec S2176x5632 1 := cmpf .olt main_v9 main_v10
  let main_c_3 : IVec S_ 1 := constantI S_ 1 1#1
  let main_v12 : IVec S_ 1 := (fun x v => Host.reduce IntOp.andi x v reducesTo_S2176x5632_S_d0_1 h_S_) main_v11 main_c_3
  let main_v13 : IVec S_ 1 := andi main_v8 main_v12
  main_v13
-- ==== Pre_finite_no_tie.lean ====
abbrev S2176x2048 : Shape := ⟨2, ![2176, 2048]⟩
abbrev S4x2176 : Shape := ⟨2, ![4, 2176]⟩
abbrev S2176x1024 : Shape := ⟨2, ![2176, 1024]⟩
abbrev S_ : Shape := ⟨0, ![]⟩
abbrev S2176x512 : Shape := ⟨2, ![2176, 512]⟩
abbrev S2176x4x128 : Shape := ⟨3, ![2176, 4, 128]⟩
abbrev S4x2176x128 : Shape := ⟨3, ![4, 2176, 128]⟩
abbrev S4x2176x2176 : Shape := ⟨3, ![4, 2176, 2176]⟩

class Facts : Prop where
  bcast_S_S_ : S_.BroadcastsInDim S_ (![] : Fin 0 → Fin S_.rank)
  reduceWindows_S4x2176_S4x2176_w1s1p0_0_w2176s1p2175_0 : S4x2176.ReduceWindows (![1, 2176] : Fin 2 → Nat) ![1, 1] ![0, 2175] ![0, 0] S4x2176
  h_S_ : 0 < S_.numel
  slices_S2176x2048_S2176x512_0_0 : S2176x2048.Slices ![0, 0] S2176x512
  bitsLt_bf16_f32 : FTy.bits .bf16 < FTy.bits .f32
  shapeCasts_S2176x512_S2176x4x128 : S2176x512.ShapeCasts S2176x4x128
  transposes_S2176x4x128_S4x2176x128_1_0_2 : S2176x4x128.Transposes [1, 0, 2] S4x2176x128
  slices_S2176x2048_S2176x512_0_512 : S2176x2048.Slices ![0, 512] S2176x512
  bcast_S4x2176_S4x2176x2176_0_1 : S4x2176.BroadcastsInDim S4x2176x2176 (![0, 1] : Fin 2 → Fin S4x2176x2176.rank)
  bcast_S4x2176_S4x2176x2176_0_2 : S4x2176.BroadcastsInDim S4x2176x2176 (![0, 2] : Fin 2 → Fin S4x2176x2176.rank)
  bcast_S_S4x2176x2176 : S_.BroadcastsInDim S4x2176x2176 (![] : Fin 0 → Fin S4x2176x2176.rank)
  reducesTo_S4x2176x2176_S4x2176_d2 : S4x2176x2176.ReducesTo [2] S4x2176
  bcast_S_S4x2176x128 : S_.BroadcastsInDim S4x2176x128 (![] : Fin 0 → Fin S4x2176x128.rank)
  bcast_S_S2176x2048 : S_.BroadcastsInDim S2176x2048 (![] : Fin 0 → Fin S2176x2048.rank)
  reducesTo_S2176x2048_S_d0_1 : S2176x2048.ReducesTo [0, 1] S_
  bcast_S_S4x2176 : S_.BroadcastsInDim S4x2176 (![] : Fin 0 → Fin S4x2176.rank)
  reducesTo_S4x2176_S_d0_1 : S4x2176.ReducesTo [0, 1] S_
  bcast_S_S2176x1024 : S_.BroadcastsInDim S2176x1024 (![] : Fin 0 → Fin S2176x1024.rank)
  reducesTo_S2176x1024_S_d0_1 : S2176x1024.ReducesTo [0, 1] S_
  dot_S4x2176x128_S4x2176x128_S4x2176x2176_2_2_1_1_0_0_wf : DotDims.WF S4x2176x128 S4x2176x128 S4x2176x2176 [2] [2] [1] [1] [0] [0]

variable [Facts]

def dot_S4x2176x128_S4x2176x128_S4x2176x2176_2_2_1_1_0_0 : DotDims S4x2176x128 S4x2176x128 S4x2176x2176 where
  lhsContracting := [2]
  rhsContracting := [2]
  lhsNonContracting := [1]
  rhsNonContracting := [1]
  lhsBatch := [0]
  rhsBatch := [0]
  wf := dot_S4x2176x128_S4x2176x128_S4x2176x2176_2_2_1_1_0_0_wf
def fn_cumsum {F : FTy → Type} [FloatOps F] (arg0 : FVec F S4x2176 .f32) : FVec F S4x2176 .f32 :=
  let cst : FVec F S_ .f32 := constant S_ .f32 0x00000000#32
  let v0 : FVec F S_ .f32 := broadcastInDim S_ ![] bcast_S_S_ cst
  let v1 : FVec F S4x2176 .f32 := (fun x v => Host.reduceWindowAdd ![1, 2176] ![1, 1] ![0, 2175] ![0, 0] x v reduceWindows_S4x2176_S4x2176_w1s1p0_0_w2176s1p2175_0 h_S_) arg0 v0
  v1

def fn_part2 {F : FTy → Type} [FloatOps F] (main_arg3 : FVec F S2176x1024 .f32) (main_v20 : FVec F S4x2176 .f32) (main_v28 : FVec F S4x2176 .f32) (main_v37 : IVec S_ 1) (main_v38 : FVec F S4x2176 .f32) (main_cst_6 : FVec F S_ .f32) : IVec S_ 1 :=
  let main_v39 : FVec F S4x2176 .f32 := broadcastInDim S4x2176 ![] bcast_S_S4x2176 main_cst_6
  let main_v40 : IVec S4x2176 1 := cmpf .olt main_v38 main_v39
  let main_c_7 : IVec S_ 1 := constantI S_ 1 1#1
  let main_v41 : IVec S_ 1 := (fun x v => Host.reduce IntOp.andi x v reducesTo_S4x2176_S_d0_1 h_S_) main_v40 main_c_7
  let main_v42 : IVec S_ 1 := andi main_v37 main_v41
  let main_v43 : FVec F S2176x1024 .f32 := Host.absf main_arg3
  let main_cst_8 : FVec F S_ .f32 := constant S_ .f32 0x7F800000#32
  let main_v44 : FVec F S2176x1024 .f32 := broadcastInDim S2176x1024 ![] bcast_S_S2176x1024 main_cst_8
  let main_v45 : IVec S2176x1024 1 := cmpf .olt main_v43 main_v44
  let main_c_9 : IVec S_ 1 := constantI S_ 1 1#1
  let main_v46 : IVec S_ 1 := (fun x v => Host.reduce IntOp.andi x v reducesTo_S2176x1024_S_d0_1 h_S_) main_v45 main_c_9
  let main_v47 : IVec S_ 1 := andi main_v42 main_v46
  let main_v48 : FVec F S4x2176 .f32 := Host.absf main_v28
  let main_v49 : FVec F S4x2176 .f32 := Host.negf main_v20
  let main_v50 : FVec F S4x2176 .f32 := Host.exp main_v49
  let main_v51 : IVec S4x2176 1 := cmpf .une main_v48 main_v50
  let main_c_10 : IVec S_ 1 := constantI S_ 1 1#1
  let main_v52 : IVec S_ 1 := (fun x v => Host.reduce IntOp.andi x v reducesTo_S4x2176_S_d0_1 h_S_) main_v51 main_c_10
  let main_v53 : IVec S_ 1 := andi main_v47 main_v52
  main_v53

def fn_part1 {F : FTy → Type} [FloatOps F] (main_arg0 : FVec F S2176x2048 .bf16) (main_arg1 : FVec F S4x2176 .f32) (main_arg2 : FVec F S4x2176 .f32) (main_arg3 : FVec F S2176x1024 .f32) (main_v4 : FVec F S4x2176x128 .f32) (main_v8 : FVec F S4x2176x128 .f32) (main_v18 : FVec F S4x2176x2176 .f32) (main_v20 : FVec F S4x2176 .f32) (main_cst_1 : FVec F S_ .f32) : IVec S_ 1 :=
  let main_v21 : FVec F S4x2176x128 .f32 := broadcastInDim S4x2176x128 ![] bcast_S_S4x2176x128 main_cst_1
  let main_v22 : FVec F S4x2176x128 .f32 := mulf main_v4 main_v21
  let main_v23 : FVec F S4x2176x2176 .f32 := (fun l r => Host.dotGeneral dot_S4x2176x128_S4x2176x128_S4x2176x2176_2_2_1_1_0_0 none l r) main_v22 main_v8
  let main_v24 : FVec F S4x2176x2176 .f32 := broadcastInDim S4x2176x2176 ![0, 1] bcast_S4x2176_S4x2176x2176_0_1 main_v20
  let main_v25 : FVec F S4x2176x2176 .f32 := subf main_v18 main_v24
  let main_v26 : FVec F S4x2176x2176 .f32 := Host.exp main_v25
  let main_v27 : FVec F S4x2176x2176 .f32 := mulf main_v23 main_v26
  let main_cst_2 : FVec F S_ .f32 := constant S_ .f32 0x00000000#32
  let main_v28 : FVec F S4x2176 .f32 := (fun x v => Host.reduceAdd x v reducesTo_S4x2176x2176_S4x2176_d2 h_S_) main_v27 main_cst_2
  let main_v29 : FVec F S2176x2048 .bf16 := Host.absf main_arg0
  let main_cst_3 : FVec F S_ .bf16 := constant S_ .bf16 0x7F80#16
  let main_v30 : FVec F S2176x2048 .bf16 := broadcastInDim S2176x2048 ![] bcast_S_S2176x2048 main_cst_3
  let main_v31 : IVec S2176x2048 1 := cmpf .olt main_v29 main_v30
  let main_c : IVec S_ 1 := constantI S_ 1 1#1
  let main_v32 : IVec S_ 1 := (fun x v => Host.reduce IntOp.andi x v reducesTo_S2176x2048_S_d0_1 h_S_) main_v31 main_c
  let main_v33 : FVec F S4x2176 .f32 := Host.absf main_arg1
  let main_cst_4 : FVec F S_ .f32 := constant S_ .f32 0x7F800000#32
  let main_v34 : FVec F S4x2176 .f32 := broadcastInDim S4x2176 ![] bcast_S_S4x2176 main_cst_4
  let main_v35 : IVec S4x2176 1 := cmpf .olt main_v33 main_v34
  let main_c_5 : IVec S_ 1 := constantI S_ 1 1#1
  let main_v36 : IVec S_ 1 := (fun x v => Host.reduce IntOp.andi x v reducesTo_S4x2176_S_d0_1 h_S_) main_v35 main_c_5
  let main_v37 : IVec S_ 1 := andi main_v32 main_v36
  let main_v38 : FVec F S4x2176 .f32 := Host.absf main_arg2
  let main_cst_6 : FVec F S_ .f32 := constant S_ .f32 0x7F800000#32
  fn_part2 (F := F) main_arg3 main_v20 main_v28 main_v37 main_v38 main_cst_6

def fn {F : FTy → Type} [FloatOps F] (main_arg0 : FVec F S2176x2048 .bf16) (main_arg1 : FVec F S4x2176 .f32) (main_arg2 : FVec F S4x2176 .f32) (main_arg3 : FVec F S2176x1024 .f32) : IVec S_ 1 :=
  let main_v0 : FVec F S4x2176 .f32 := fn_cumsum (F := F) main_arg2
  let main_v1 : FVec F S2176x512 .bf16 := (extractStridedSlice S2176x512 ![0, 0] · slices_S2176x2048_S2176x512_0_0) main_arg0
  let main_v2 : FVec F S2176x512 .f32 := (extf .f32 · bitsLt_bf16_f32) main_v1
  let main_v3 : FVec F S2176x4x128 .f32 := shapeCast S2176x4x128 main_v2 shapeCasts_S2176x512_S2176x4x128
  let main_v4 : FVec F S4x2176x128 .f32 := (transpose S4x2176x128 [1, 0, 2] · transposes_S2176x4x128_S4x2176x128_1_0_2) main_v3
  let main_v5 : FVec F S2176x512 .bf16 := (extractStridedSlice S2176x512 ![0, 512] · slices_S2176x2048_S2176x512_0_512) main_arg0
  let main_v6 : FVec F S2176x512 .f32 := (extf .f32 · bitsLt_bf16_f32) main_v5
  let main_v7 : FVec F S2176x4x128 .f32 := shapeCast S2176x4x128 main_v6 shapeCasts_S2176x512_S2176x4x128
  let main_v8 : FVec F S4x2176x128 .f32 := (transpose S4x2176x128 [1, 0, 2] · transposes_S2176x4x128_S4x2176x128_1_0_2) main_v7
  let main_v9 : IVec S4x2176x2176 32 := iotaInDim S4x2176x2176 32 1
  let main_v10 : IVec S4x2176x2176 32 := iotaInDim S4x2176x2176 32 2
  let main_v11 : IVec S4x2176x2176 1 := cmpi .sge main_v9 main_v10
  let main_v12 : FVec F S4x2176x2176 .f32 := broadcastInDim S4x2176x2176 ![0, 1] bcast_S4x2176_S4x2176x2176_0_1 main_v0
  let main_v13 : FVec F S4x2176x2176 .f32 := broadcastInDim S4x2176x2176 ![0, 2] bcast_S4x2176_S4x2176x2176_0_2 main_v0
  let main_v14 : FVec F S4x2176x2176 .f32 := subf main_v12 main_v13
  let main_v15 : FVec F S4x2176x2176 .f32 := broadcastInDim S4x2176x2176 ![0, 2] bcast_S4x2176_S4x2176x2176_0_2 main_arg1
  let main_v16 : FVec F S4x2176x2176 .f32 := addf main_v14 main_v15
  let main_cst : FVec F S_ .f32 := constant S_ .f32 0xFF800000#32
  let main_v17 : FVec F S4x2176x2176 .f32 := broadcastInDim S4x2176x2176 ![] bcast_S_S4x2176x2176 main_cst
  let main_v18 : FVec F S4x2176x2176 .f32 := select main_v11 main_v16 main_v17
  let main_cst_0 : FVec F S_ .f32 := constant S_ .f32 0xFF800000#32
  let main_v19 : FVec F S4x2176 .f32 := (fun x v => Host.reduce FloatOps.maximumf x v reducesTo_S4x2176x2176_S4x2176_d2 h_S_) main_v18 main_cst_0
  let main_v20 : FVec F S4x2176 .f32 := maximumf main_v0 main_v19
  let main_cst_1 : FVec F S_ .f32 := constant S_ .f32 0x3DB504F3#32
  fn_part1 (F := F) main_arg0 main_arg1 main_arg2 main_arg3 main_v4 main_v8 main_v18 main_v20 main_cst_1
-- ==== Kernel.lean ====
abbrev S2176x2048 : Shape := ⟨2, ![2176, 2048]⟩
abbrev S4x2176 : Shape := ⟨2, ![4, 2176]⟩
abbrev S2176x1024 : Shape := ⟨2, ![2176, 1024]⟩
abbrev S_ : Shape := ⟨0, ![]⟩
abbrev S128x2176 : Shape := ⟨2, ![128, 2176]⟩
abbrev S2176x4 : Shape := ⟨2, ![2176, 4]⟩
abbrev S2176x128 : Shape := ⟨2, ![2176, 128]⟩
abbrev S2176x512 : Shape := ⟨2, ![2176, 512]⟩
abbrev S2176x4x128 : Shape := ⟨3, ![2176, 4, 128]⟩
abbrev S4x2176x128 : Shape := ⟨3, ![4, 2176, 128]⟩
abbrev S2176x4x256 : Shape := ⟨3, ![2176, 4, 256]⟩
abbrev S4x2176x256 : Shape := ⟨3, ![4, 2176, 256]⟩
abbrev S2176x2176 : Shape := ⟨2, ![2176, 2176]⟩
abbrev S4x2176x1 : Shape := ⟨3, ![4, 2176, 1]⟩
abbrev S4x1x2176 : Shape := ⟨3, ![4, 1, 2176]⟩
abbrev S4x2176x2176 : Shape := ⟨3, ![4, 2176, 2176]⟩
abbrev S544x128 : Shape := ⟨2, ![544, 128]⟩
abbrev S2176x256 : Shape := ⟨2, ![2176, 256]⟩
abbrev S8x2176 : Shape := ⟨2, ![8, 2176]⟩
abbrev S544x256 : Shape := ⟨2, ![544, 256]⟩
abbrev S256x2176 : Shape := ⟨2, ![256, 2176]⟩
abbrev S544 : Shape := ⟨1, ![544]⟩
abbrev S544x1 : Shape := ⟨2, ![544, 1]⟩
abbrev S640x128 : Shape := ⟨2, ![640, 128]⟩
abbrev S640x256 : Shape := ⟨2, ![640, 256]⟩
abbrev S1x640 : Shape := ⟨2, ![1, 640]⟩
abbrev S544x640 : Shape := ⟨2, ![544, 640]⟩
abbrev S640 : Shape := ⟨1, ![640]⟩
abbrev S128x640 : Shape := ⟨2, ![128, 640]⟩
abbrev S256x640 : Shape := ⟨2, ![256, 640]⟩
abbrev S1152x128 : Shape := ⟨2, ![1152, 128]⟩
abbrev S1152x256 : Shape := ⟨2, ![1152, 256]⟩
abbrev S1x1152 : Shape := ⟨2, ![1, 1152]⟩
abbrev S544x1152 : Shape := ⟨2, ![544, 1152]⟩
abbrev S1152 : Shape := ⟨1, ![1152]⟩
abbrev S128x1152 : Shape := ⟨2, ![128, 1152]⟩
abbrev S256x1152 : Shape := ⟨2, ![256, 1152]⟩
abbrev S1664x128 : Shape := ⟨2, ![1664, 128]⟩
abbrev S1664x256 : Shape := ⟨2, ![1664, 256]⟩
abbrev S1x1664 : Shape := ⟨2, ![1, 1664]⟩
abbrev S544x1664 : Shape := ⟨2, ![544, 1664]⟩
abbrev S1664 : Shape := ⟨1, ![1664]⟩
abbrev S128x1664 : Shape := ⟨2, ![128, 1664]⟩
abbrev S256x1664 : Shape := ⟨2, ![256, 1664]⟩
abbrev S1x2176 : Shape := ⟨2, ![1, 2176]⟩
abbrev S544x2176 : Shape := ⟨2, ![544, 2176]⟩
abbrev S2176 : Shape := ⟨1, ![2176]⟩

abbrev nBuf : Space → Nat
  | .hbm => 89
  | .vmem => 25
  | .smem => 0
  | _ => 0

abbrev bufTy : (tb : Table) → Fin (tcTables nBuf tb) → BufTy
  | .hbm, ⟨0, _⟩ => ⟨S2176x2048, .bf16⟩
  | .hbm, ⟨1, _⟩ => ⟨S4x2176, .f32⟩
  | .hbm, ⟨2, _⟩ => ⟨S4x2176, .f32⟩
  | .hbm, ⟨3, _⟩ => ⟨S2176x1024, .f32⟩
  | .hbm, ⟨4, _⟩ => ⟨S_, .f32⟩
  | .hbm, ⟨5, _⟩ => ⟨S_, .f32⟩
  | .hbm, ⟨6, _⟩ => ⟨S4x2176, .f32⟩
  | .hbm, ⟨7, _⟩ => ⟨S4x2176, .f32⟩
  | .hbm, ⟨8, _⟩ => ⟨S_, .f32⟩
  | .hbm, ⟨9, _⟩ => ⟨S_, .f32⟩
  | .hbm, ⟨10, _⟩ => ⟨S4x2176, .f32⟩
  | .hbm, ⟨11, _⟩ => ⟨S_, .i32⟩
  | .hbm, ⟨12, _⟩ => ⟨S_, .f32⟩
  | .hbm, ⟨13, _⟩ => ⟨S128x2176, .f32⟩
  | .hbm, ⟨14, _⟩ => ⟨S2176x4, .f32⟩
  | .hbm, ⟨15, _⟩ => ⟨S_, .i32⟩
  | .hbm, ⟨16, _⟩ => ⟨S_, .f32⟩
  | .hbm, ⟨17, _⟩ => ⟨S2176x128, .f32⟩
  | .hbm, ⟨18, _⟩ => ⟨S4x2176, .f32⟩
  | .hbm, ⟨19, _⟩ => ⟨S4x2176, .f32⟩
  | .hbm, ⟨20, _⟩ => ⟨S2176x4, .f32⟩
  | .hbm, ⟨21, _⟩ => ⟨S_, .i32⟩
  | .hbm, ⟨22, _⟩ => ⟨S_, .f32⟩
  | .hbm, ⟨23, _⟩ => ⟨S2176x128, .f32⟩
  | .hbm, ⟨24, _⟩ => ⟨S2176x512, .bf16⟩
  | .hbm, ⟨25, _⟩ => ⟨S2176x512, .f32⟩
  | .hbm, ⟨26, _⟩ => ⟨S2176x4x128, .f32⟩
  | .hbm, ⟨27, _⟩ => ⟨S4x2176x128, .f32⟩
  | .hbm, ⟨28, _⟩ => ⟨S2176x512, .bf16⟩
  | .hbm, ⟨29, _⟩ => ⟨S2176x512, .f32⟩
  | .hbm, ⟨30, _⟩ => ⟨S2176x4x128, .f32⟩
  | .hbm, ⟨31, _⟩ => ⟨S4x2176x128, .f32⟩
  | .hbm, ⟨32, _⟩ => ⟨S2176x1024, .bf16⟩
  | .hbm, ⟨33, _⟩ => ⟨S2176x1024, .f32⟩
  | .hbm, ⟨34, _⟩ => ⟨S2176x4x256, .f32⟩
  | .hbm, ⟨35, _⟩ => ⟨S4x2176x256, .f32⟩
  | .hbm, ⟨36, _⟩ => ⟨S_, .i1⟩
  | .hbm, ⟨37, _⟩ => ⟨S2176x2176, .i1⟩
  | .hbm, ⟨38, _⟩ => ⟨S2176x2176, .i32⟩
  | .hbm, ⟨39, _⟩ => ⟨S_, .i32⟩
  | .hbm, ⟨40, _⟩ => ⟨S2176x2176, .i32⟩
  | .hbm, ⟨41, _⟩ => ⟨S2176x2176, .i32⟩
  | .hbm, ⟨42, _⟩ => ⟨S2176x2176, .i32⟩
  | .hbm, ⟨43, _⟩ => ⟨S2176x2176, .i1⟩
  | .hbm, ⟨44, _⟩ => ⟨S_, .i1⟩
  | .hbm, ⟨45, _⟩ => ⟨S2176x2176, .i1⟩
  | .hbm, ⟨46, _⟩ => ⟨S2176x2176, .i1⟩
  | .hbm, ⟨47, _⟩ => ⟨S_, .f32⟩
  | .hbm, ⟨48, _⟩ => ⟨S4x2176x128, .f32⟩
  | .hbm, ⟨49, _⟩ => ⟨S4x2176x128, .f32⟩
  | .hbm, ⟨50, _⟩ => ⟨S4x2176x1, .f32⟩
  | .hbm, ⟨51, _⟩ => ⟨S4x1x2176, .f32⟩
  | .hbm, ⟨52, _⟩ => ⟨S4x2176x2176, .f32⟩
  | .hbm, ⟨53, _⟩ => ⟨S4x2176x2176, .f32⟩
  | .hbm, ⟨54, _⟩ => ⟨S4x2176x2176, .f32⟩
  | .hbm, ⟨55, _⟩ => ⟨S4x1x2176, .f32⟩
  | .hbm, ⟨56, _⟩ => ⟨S4x2176x2176, .f32⟩
  | .hbm, ⟨57, _⟩ => ⟨S4x2176x2176, .f32⟩
  | .hbm, ⟨58, _⟩ => ⟨S_, .f32⟩
  | .hbm, ⟨59, _⟩ => ⟨S_, .f32⟩
  | .hbm, ⟨60, _⟩ => ⟨S4x2176x2176, .i1⟩
  | .hbm, ⟨61, _⟩ => ⟨S4x2176x2176, .f32⟩
  | .hbm, ⟨62, _⟩ => ⟨S4x2176x2176, .f32⟩
  | .hbm, ⟨63, _⟩ => ⟨S_, .f32⟩
  | .hbm, ⟨64, _⟩ => ⟨S4x2176, .f32⟩
  | .hbm, ⟨65, _⟩ => ⟨S4x2176, .f32⟩
  | .hbm, ⟨66, _⟩ => ⟨S4x2176x2176, .f32⟩
  | .hbm, ⟨67, _⟩ => ⟨S4x2176x1, .f32⟩
  | .hbm, ⟨68, _⟩ => ⟨S4x2176x2176, .f32⟩
  | .hbm, ⟨69, _⟩ => ⟨S4x2176x2176, .f32⟩
  | .hbm, ⟨70, _⟩ => ⟨S4x2176x2176, .f32⟩
  | .hbm, ⟨71, _⟩ => ⟨S4x2176x2176, .f32⟩
  | .hbm, ⟨72, _⟩ => ⟨S4x2176x256, .f32⟩
  | .hbm, ⟨73, _⟩ => ⟨S_, .f32⟩
  | .hbm, ⟨74, _⟩ => ⟨S4x2176, .f32⟩
  | .hbm, ⟨75, _⟩ => ⟨S4x2176, .f32⟩
  | .hbm, ⟨76, _⟩ => ⟨S4x2176, .f32⟩
  | .hbm, ⟨77, _⟩ => ⟨S4x2176, .f32⟩
  | .hbm, ⟨78, _⟩ => ⟨S4x2176, .f32⟩
  | .hbm, ⟨79, _⟩ => ⟨S4x2176x1, .f32⟩
  | .hbm, ⟨80, _⟩ => ⟨S4x2176x256, .f32⟩
  | .hbm, ⟨81, _⟩ => ⟨S4x2176x256, .f32⟩
  | .hbm, ⟨82, _⟩ => ⟨S2176x4x256, .f32⟩
  | .hbm, ⟨83, _⟩ => ⟨S2176x1024, .f32⟩
  | .hbm, ⟨84, _⟩ => ⟨S2176x512, .bf16⟩
  | .hbm, ⟨85, _⟩ => ⟨S2176x512, .bf16⟩
  | .hbm, ⟨86, _⟩ => ⟨S2176x1024, .bf16⟩
  | .hbm, ⟨87, _⟩ => ⟨S128x2176, .f32⟩
  | .hbm, ⟨88, _⟩ => ⟨S2176x128, .f32⟩
  | .local _ .vmem, ⟨0, _⟩ => ⟨S544x128, .bf16⟩
  | .local _ .vmem, ⟨1, _⟩ => ⟨S544x128, .bf16⟩
  | .local _ .vmem, ⟨2, _⟩ => ⟨S2176x128, .bf16⟩
  | .local _ .vmem, ⟨3, _⟩ => ⟨S2176x128, .bf16⟩
  | .local _ .vmem, ⟨4, _⟩ => ⟨S2176x256, .bf16⟩
  | .local _ .vmem, ⟨5, _⟩ => ⟨S2176x256, .bf16⟩
  | .local _ .vmem, ⟨6, _⟩ => ⟨S8x2176, .f32⟩
  | .local _ .vmem, ⟨7, _⟩ => ⟨S544x128, .f32⟩
  | .local _ .vmem, ⟨8, _⟩ => ⟨S544x128, .f32⟩
  | .local _ .vmem, ⟨9, _⟩ => ⟨S544x128, .f32⟩
  | .local _ .vmem, ⟨10, _⟩ => ⟨S544x128, .f32⟩
  | .local _ .vmem, ⟨11, _⟩ => ⟨S544x256, .f32⟩
  | .local _ .vmem, ⟨12, _⟩ => ⟨S544x256, .f32⟩
  | .local _ .vmem, ⟨13, _⟩ => ⟨S544x256, .f32⟩
  | .local _ .vmem, ⟨14, _⟩ => ⟨S544x256, .f32⟩
  | .local _ .vmem, ⟨15, _⟩ => ⟨S544x128, .bf16⟩
  | .local _ .vmem, ⟨16, _⟩ => ⟨S544x128, .bf16⟩
  | .local _ .vmem, ⟨17, _⟩ => ⟨S2176x128, .bf16⟩
  | .local _ .vmem, ⟨18, _⟩ => ⟨S2176x128, .bf16⟩
  | .local _ .vmem, ⟨19, _⟩ => ⟨S2176x256, .bf16⟩
  | .local _ .vmem, ⟨20, _⟩ => ⟨S2176x256, .bf16⟩
  | .local _ .vmem, ⟨21, _⟩ => ⟨S128x2176, .f32⟩
  | .local _ .vmem, ⟨22, _⟩ => ⟨S2176x128, .f32⟩
  | .local _ .vmem, ⟨23, _⟩ => ⟨S128x2176, .f32⟩
  | .local _ .vmem, ⟨24, _⟩ => ⟨S256x2176, .f32⟩
  | _, _ => ⟨S2176x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_call0_cst : Ref sig .tc := ⟨.hbm, 4, rfl⟩
abbrev main_call0_call0_v0 : Ref sig .tc := ⟨.hbm, 5, rfl⟩
abbrev main_v0 : Ref sig .tc := ⟨.hbm, 6, rfl⟩
abbrev main_v1 : Ref sig .tc := ⟨.hbm, 7, rfl⟩
abbrev main_call1_cst : Ref sig .tc := ⟨.hbm, 8, rfl⟩
abbrev main_call1_v0 : Ref sig .tc := ⟨.hbm, 9, rfl⟩
abbrev main_v2 : Ref sig .tc := ⟨.hbm, 10, rfl⟩
abbrev main_c : Ref sig .tc := ⟨.hbm, 11, rfl⟩
abbrev main_call2_v0 : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_call3_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c_1 : Ref sig .tc := ⟨.hbm, 21, rfl⟩
abbrev main_call4_v0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_2 : Ref sig .tc := ⟨.hbm, 36, rfl⟩
abbrev main_v22 : Ref sig .tc := ⟨.hbm, 37, rfl⟩
abbrev main_call5_v0 : Ref sig .tc := ⟨.hbm, 38, rfl⟩
abbrev main_call5_c : Ref sig .tc := ⟨.hbm, 39, rfl⟩
abbrev main_call5_v1 : Ref sig .tc := ⟨.hbm, 40, rfl⟩
abbrev main_call5_v2 : Ref sig .tc := ⟨.hbm, 41, rfl⟩
abbrev main_call5_v3 : Ref sig .tc := ⟨.hbm, 42, rfl⟩
abbrev main_call5_v4 : Ref sig .tc := ⟨.hbm, 43, rfl⟩
abbrev main_call5_c_0 : Ref sig .tc := ⟨.hbm, 44, rfl⟩
abbrev main_call5_v5 : Ref sig .tc := ⟨.hbm, 45, rfl⟩
abbrev main_v23 : Ref sig .tc := ⟨.hbm, 46, rfl⟩
abbrev main_cst : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_3 : Ref sig .tc := ⟨.hbm, 58, rfl⟩
abbrev main_call6_v0 : Ref sig .tc := ⟨.hbm, 59, rfl⟩
abbrev main_call6_v1 : Ref sig .tc := ⟨.hbm, 60, rfl⟩
abbrev main_call6_v2 : Ref sig .tc := ⟨.hbm, 61, rfl⟩
abbrev main_v34 : Ref sig .tc := ⟨.hbm, 62, rfl⟩
abbrev main_cst_4 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_5 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54_0 : Ref sig .tc := ⟨.hbm, 84, rfl⟩
abbrev main_v54_1 : Ref sig .tc := ⟨.hbm, 85, rfl⟩
abbrev main_v54_2 : Ref sig .tc := ⟨.hbm, 86, rfl⟩
abbrev main_v54_3 : Ref sig .tc := ⟨.hbm, 87, rfl⟩
abbrev main_v54_4 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg12_0 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem12_0 : DmaSem sig := 22

abbrev nD : Nat := 1
abbrev τ : Topo := Topo.v7x

variable {F : FTy → Type} [BitOps F]

abbrev grid0 : Pipeline.Grid := ⟨2, ![4, 4], ![false, false]⟩

def k0_cond3 (i : grid0.Coords) : BitVec 1 :=
  let arg1 : BitVec 32 := BitVec.ofNat 32 (i 1).val
  let c0_i32_10 : BitVec 32 := 0#32
  let v26 : BitVec 1 := Scalar.cmpi .eq arg1 c0_i32_10
  let v27 : BitVec 32 := Scalar.extui v26
  let c0_i32_11 : BitVec 32 := 0#32
  let v28 : BitVec 1 := Scalar.cmpi .ne v27 c0_i32_11
  v28

def k0_off1 (i : grid0.Coords) : Fin 2 → Nat :=
  let arg0 : BitVec 32 := BitVec.ofNat 32 (i 0).val
  let v44 : Index := Scalar.indexCast arg0
  let c0_23 : Index := 0#32
  ![v44.toNat, 0]
def k0_off2 (i : grid0.Coords) : Fin 2 → Nat :=
  let arg0 : BitVec 32 := BitVec.ofNat 32 (i 0).val
  let v103 : Index := Scalar.indexCast arg0
  let c0_38 : Index := 0#32
  ![v103.toNat, 0]
def k0_mult1 (i : grid0.Coords) : BitVec 32 :=
  let arg1 : BitVec 32 := BitVec.ofNat 32 (i 1).val
  let c544_i32_55 : BitVec 32 := 544#32
  let v132 : BitVec 32 := Scalar.muli arg1 c544_i32_55
  v132
def k0_off3 (i : grid0.Coords) : Fin 2 → Nat :=
  let arg1 : BitVec 32 := BitVec.ofNat 32 (i 1).val
  let c544_i32_55 : BitVec 32 := 544#32
  let v132 : BitVec 32 := Scalar.muli arg1 c544_i32_55
  let v133 : BitVec 32 := v132
  let v134 : Index := Scalar.indexCast v133
  let c0_56 : Index := 0#32
  ![v134.toNat, 0]
def k0_cond4 (i : grid0.Coords) : BitVec 1 :=
  let arg1 : BitVec 32 := BitVec.ofNat 32 (i 1).val
  let c1_i32 : BitVec 32 := 1#32
  let v29 : BitVec 1 := Scalar.cmpi .eq arg1 c1_i32
  let v30 : BitVec 32 := Scalar.extui v29
  let c0_i32_12 : BitVec 32 := 0#32
  let v31 : BitVec 1 := Scalar.cmpi .ne v30 c0_i32_12
  v31

def k0_off4 (i : grid0.Coords) : Fin 2 → Nat :=
  let arg0 : BitVec 32 := BitVec.ofNat 32 (i 0).val
  let v44 : Index := Scalar.indexCast arg0
  let c0_23 : Index := 0#32
  ![v44.toNat, 0]
def k0_off5 (i : grid0.Coords) : Fin 2 → Nat :=
  let arg0 : BitVec 32 := BitVec.ofNat 32 (i 0).val
  let v103 : Index := Scalar.indexCast arg0
  let c0_38 : Index := 0#32
  ![v103.toNat, 0]
def k0_mult2 (i : grid0.Coords) : BitVec 32 :=
  let arg1 : BitVec 32 := BitVec.ofNat 32 (i 1).val
  let c544_i32_55 : BitVec 32 := 544#32
  let v132 : BitVec 32 := Scalar.muli arg1 c544_i32_55
  v132
def k0_off6 (i : grid0.Coords) : Fin 2 → Nat :=
  let arg1 : BitVec 32 := BitVec.ofNat 32 (i 1).val
  let c544_i32_55 : BitVec 32 := 544#32
  let v132 : BitVec 32 := Scalar.muli arg1 c544_i32_55
  let v133 : BitVec 32 := v132
  let v134 : Index := Scalar.indexCast v133
  let c0_56 : Index := 0#32
  ![v134.toNat, 0]
def k0_cond5 (i : grid0.Coords) : BitVec 1 :=
  let arg1 : BitVec 32 := BitVec.ofNat 32 (i 1).val
  let c2_i32 : BitVec 32 := 2#32
  let v32 : BitVec 1 := Scalar.cmpi .eq arg1 c2_i32
  let v33 : BitVec 32 := Scalar.extui v32
  let c0_i32_13 : BitVec 32 := 0#32
  let v34 : BitVec 1 := Scalar.cmpi .ne v33 c0_i32_13
  v34

def k0_off7 (i : grid0.Coords) : Fin 2 → Nat :=
  let arg0 : BitVec 32 := BitVec.ofNat 32 (i 0).val
  let v44 : Index := Scalar.indexCast arg0
  let c0_23 : Index := 0#32
  ![v44.toNat, 0]
def k0_off8 (i : grid0.Coords) : Fin 2 → Nat :=
  let arg0 : BitVec 32 := BitVec.ofNat 32 (i 0).val
  let v103 : Index := Scalar.indexCast arg0
  let c0_38 : Index := 0#32
  ![v103.toNat, 0]
def k0_mult3 (i : grid0.Coords) : BitVec 32 :=
  let arg1 : BitVec 32 := BitVec.ofNat 32 (i 1).val
  let c544_i32_55 : BitVec 32 := 544#32
  let v132 : BitVec 32 := Scalar.muli arg1 c544_i32_55
  v132
def k0_off9 (i : grid0.Coords) : Fin 2 → Nat :=
  let arg1 : BitVec 32 := BitVec.ofNat 32 (i 1).val
  let c544_i32_55 : BitVec 32 := 544#32
  let v132 : BitVec 32 := Scalar.muli arg1 c544_i32_55
  let v133 : BitVec 32 := v132
  let v134 : Index := Scalar.indexCast v133
  let c0_56 : Index := 0#32
  ![v134.toNat, 0]
def k0_cond6 (i : grid0.Coords) : BitVec 1 :=
  let arg1 : BitVec 32 := BitVec.ofNat 32 (i 1).val
  let c3_i32 : BitVec 32 := 3#32
  let v35 : BitVec 1 := Scalar.cmpi .eq arg1 c3_i32
  let v36 : BitVec 32 := Scalar.extui v35
  let c0_i32_14 : BitVec 32 := 0#32
  let v37 : BitVec 1 := Scalar.cmpi .ne v36 c0_i32_14
  v37

def k0_off10 (i : grid0.Coords) : Fin 2 → Nat :=
  let arg0 : BitVec 32 := BitVec.ofNat 32 (i 0).val
  let v44 : Index := Scalar.indexCast arg0
  let c0_23 : Index := 0#32
  ![v44.toNat, 0]
def k0_off11 (i : grid0.Coords) : Fin 2 → Nat :=
  let arg0 : BitVec 32 := BitVec.ofNat 32 (i 0).val
  let v103 : Index := Scalar.indexCast arg0
  let c0_38 : Index := 0#32
  ![v103.toNat, 0]
def k0_mult4 (i : grid0.Coords) : BitVec 32 :=
  let arg1 : BitVec 32 := BitVec.ofNat 32 (i 1).val
  let c544_i32_55 : BitVec 32 := 544#32
  let v132 : BitVec 32 := Scalar.muli arg1 c544_i32_55
  v132
def k0_off12 (i : grid0.Coords) : Fin 2 → Nat :=
  let arg1 : BitVec 32 := BitVec.ofNat 32 (i 1).val
  let c544_i32_55 : BitVec 32 := 544#32
  let v132 : BitVec 32 := Scalar.muli arg1 c544_i32_55
  let v133 : BitVec 32 := v132
  let v134 : Index := Scalar.indexCast v133
  let c0_56 : Index := 0#32
  ![v134.toNat, 0]
def k0_cond7 (i : grid0.Coords) : BitVec 1 :=
  let arg1 : BitVec 32 := BitVec.ofNat 32 (i 1).val
  let c3_i32_15 : BitVec 32 := 3#32
  let v38 : BitVec 1 := Scalar.cmpi .eq arg1 c3_i32_15
  let v39 : BitVec 32 := Scalar.extui v38
  let c0_i32_16 : BitVec 32 := 0#32
  let v40 : BitVec 1 := Scalar.cmpi .ne v39 c0_i32_16
  v40

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S544x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2176x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2176x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S8x2176 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S544x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S544x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S544x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S544x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S544x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2176x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S2176x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S128x2176 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S2176x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== KernelIdeal.lean ====
variable {F : FTy → Type} [FloatOps F]
-- ==== ReferenceIdeal.lean ====
abbrev S2176x2048 : Shape := ⟨2, ![2176, 2048]⟩
abbrev S4x2176 : Shape := ⟨2, ![4, 2176]⟩
abbrev S2176x1024 : Shape := ⟨2, ![2176, 1024]⟩
abbrev S_ : Shape := ⟨0, ![]⟩
abbrev S2176x512 : Shape := ⟨2, ![2176, 512]⟩
abbrev S2176x4x128 : Shape := ⟨3, ![2176, 4, 128]⟩
abbrev S4x2176x128 : Shape := ⟨3, ![4, 2176, 128]⟩
abbrev S2176x4x256 : Shape := ⟨3, ![2176, 4, 256]⟩
abbrev S4x2176x256 : Shape := ⟨3, ![4, 2176, 256]⟩
abbrev S2176x2176 : Shape := ⟨2, ![2176, 2176]⟩
abbrev S4x2176x1 : Shape := ⟨3, ![4, 2176, 1]⟩
abbrev S4x1x2176 : Shape := ⟨3, ![4, 1, 2176]⟩
abbrev S4x2176x2176 : Shape := ⟨3, ![4, 2176, 2176]⟩
abbrev S4x256x2176 : Shape := ⟨3, ![4, 256, 2176]⟩
abbrev S128x2176 : Shape := ⟨2, ![128, 2176]⟩
abbrev S2176x4 : Shape := ⟨2, ![2176, 4]⟩
abbrev S2176x128 : Shape := ⟨2, ![2176, 128]⟩

abbrev nBuf : Space → Nat
  | .hbm => 207
  | .vmem => 0
  | .smem => 0
  | _ => 0

abbrev hbmTy0_0 (i : Nat) : BufTy := match i % 128 with
  | 0 => ⟨S2176x2048, .bf16⟩
  | 1 => ⟨S4x2176, .f32⟩
  | 2 => ⟨S4x2176, .f32⟩
  | 3 => ⟨S2176x1024, .f32⟩
  | 4 => ⟨S_, .f32⟩
  | 5 => ⟨S_, .f32⟩
  | 6 => ⟨S4x2176, .f32⟩
  | 7 => ⟨S2176x512, .bf16⟩
  | 8 => ⟨S2176x512, .f32⟩
  | 9 => ⟨S2176x4x128, .f32⟩
  | 10 => ⟨S4x2176x128, .f32⟩
  | 11 => ⟨S2176x512, .bf16⟩
  | 12 => ⟨S2176x512, .f32⟩
  | 13 => ⟨S2176x4x128, .f32⟩
  | 14 => ⟨S4x2176x128, .f32⟩
  | 15 => ⟨S2176x1024, .bf16⟩
  | 16 => ⟨S2176x1024, .f32⟩
  | 17 => ⟨S2176x4x256, .f32⟩
  | 18 => ⟨S4x2176x256, .f32⟩
  | 19 => ⟨S_, .i1⟩
  | 20 => ⟨S2176x2176, .i1⟩
  | 21 => ⟨S2176x2176, .i32⟩
  | 22 => ⟨S_, .i32⟩
  | 23 => ⟨S2176x2176, .i32⟩
  | 24 => ⟨S2176x2176, .i32⟩
  | 25 => ⟨S2176x2176, .i32⟩
  | 26 => ⟨S2176x2176, .i1⟩
  | 27 => ⟨S_, .i1⟩
  | 28 => ⟨S2176x2176, .i1⟩
  | 29 => ⟨S2176x2176, .i1⟩
  | 30 => ⟨S_, .f32⟩
  | 31 => ⟨S4x2176x128, .f32⟩
  | 32 => ⟨S4x2176x128, .f32⟩
  | 33 => ⟨S4x2176x1, .f32⟩
  | 34 => ⟨S4x1x2176, .f32⟩
  | 35 => ⟨S4x2176x2176, .f32⟩
  | 36 => ⟨S4x2176x2176, .f32⟩
  | 37 => ⟨S4x2176x2176, .f32⟩
  | 38 => ⟨S4x1x2176, .f32⟩
  | 39 => ⟨S4x2176x2176, .f32⟩
  | 40 => ⟨S4x2176x2176, .f32⟩
  | 41 => ⟨S_, .f32⟩
  | 42 => ⟨S_, .f32⟩
  | 43 => ⟨S4x2176x2176, .i1⟩
  | 44 => ⟨S4x2176x2176, .f32⟩
  | 45 => ⟨S4x2176x2176, .f32⟩
  | 46 => ⟨S_, .f32⟩
  | 47 => ⟨S4x2176x2176, .f32⟩
  | 48 => ⟨S_, .f32⟩
  | 49 => ⟨S4x2176, .f32⟩
  | 50 => ⟨S4x2176x1, .f32⟩
  | 51 => ⟨S4x2176x2176, .f32⟩
  | 52 => ⟨S4x2176x2176, .i1⟩
  | 53 => ⟨S4x2176x2176, .f32⟩
  | 54 => ⟨S_, .f32⟩
  | 55 => ⟨S4x2176, .f32⟩
  | 56 => ⟨S4x2176, .f32⟩
  | 57 => ⟨S4x2176, .i1⟩
  | 58 => ⟨S4x2176, .i1⟩
  | 59 => ⟨S_, .f32⟩
  | 60 => ⟨S4x2176, .f32⟩
  | 61 => ⟨S_, .f32⟩
  | 62 => ⟨S4x2176, .f32⟩
  | 63 => ⟨S_, .f32⟩
  | 64 => ⟨S4x2176, .f32⟩
  | 65 => ⟨S4x2176, .f32⟩
  | 66 => ⟨S4x2176, .f32⟩
  | 67 => ⟨S4x2176, .i1⟩
  | 68 => ⟨S4x2176, .i1⟩
  | 69 => ⟨S_, .f32⟩
  | 70 => ⟨S4x2176, .f32⟩
  | 71 => ⟨S_, .f32⟩
  | 72 => ⟨S4x2176, .f32⟩
  | 73 => ⟨S_, .f32⟩
  | 74 => ⟨S4x2176, .f32⟩
  | 75 => ⟨S4x2176, .f32⟩
  | 76 => ⟨S4x2176, .f32⟩
  | 77 => ⟨S4x2176x2176, .f32⟩
  | 78 => ⟨S4x2176x1, .f32⟩
  | 79 => ⟨S4x2176x2176, .f32⟩
  | 80 => ⟨S4x2176x2176, .f32⟩
  | 81 => ⟨S4x2176x2176, .f32⟩
  | 82 => ⟨S4x2176x2176, .f32⟩
  | 83 => ⟨S4x2176x256, .f32⟩
  | 84 => ⟨S_, .f32⟩
  | 85 => ⟨S4x2176, .f32⟩
  | 86 => ⟨S4x2176, .f32⟩
  | 87 => ⟨S_, .f32⟩
  | 88 => ⟨S4x2176, .f32⟩
  | 89 => ⟨S4x2176, .i1⟩
  | 90 => ⟨S4x2176, .f32⟩
  | 91 => ⟨S4x2176, .f32⟩
  | 92 => ⟨S4x2176, .f32⟩
  | 93 => ⟨S4x2176, .i1⟩
  | 94 => ⟨S4x2176, .i1⟩
  | 95 => ⟨S_, .f32⟩
  | 96 => ⟨S4x2176, .f32⟩
  | 97 => ⟨S_, .f32⟩
  | 98 => ⟨S4x2176, .f32⟩
  | 99 => ⟨S_, .f32⟩
  | 100 => ⟨S4x2176, .f32⟩
  | 101 => ⟨S4x2176, .f32⟩
  | 102 => ⟨S4x2176, .f32⟩
  | 103 => ⟨S4x2176, .i1⟩
  | 104 => ⟨S4x2176, .i1⟩
  | 105 => ⟨S_, .f32⟩
  | 106 => ⟨S4x2176, .f32⟩
  | 107 => ⟨S_, .f32⟩
  | 108 => ⟨S4x2176, .f32⟩
  | 109 => ⟨S_, .f32⟩
  | 110 => ⟨S4x2176, .f32⟩
  | 111 => ⟨S4x2176, .f32⟩
  | 112 => ⟨S4x2176, .f32⟩
  | 113 => ⟨S4x2176x1, .f32⟩
  | 114 => ⟨S4x2176x256, .f32⟩
  | 115 => ⟨S4x2176x256, .f32⟩
  | 116 => ⟨S4x2176x1, .f32⟩
  | 117 => ⟨S_, .f32⟩
  | 118 => ⟨S4x2176x1, .f32⟩
  | 119 => ⟨S4x2176x1, .f32⟩
  | 120 => ⟨S2176x4x256, .f32⟩
  | 121 => ⟨S4x2176x256, .f32⟩
  | 122 => ⟨S4x2176x256, .f32⟩
  | 123 => ⟨S4x2176x256, .f32⟩
  | 124 => ⟨S4x2176x256, .f32⟩
  | 125 => ⟨S_, .f32⟩
  | 126 => ⟨S4x2176, .f32⟩
  | 127 => ⟨S4x2176x1, .f32⟩
  | _ => ⟨S2176x2048, .bf16⟩

abbrev hbmTy0_1 (i : Nat) : BufTy := match i % 128 with
  | 0 => ⟨S4x2176x1, .f32⟩
  | 1 => ⟨S4x2176x256, .f32⟩
  | 2 => ⟨S4x2176x256, .f32⟩
  | 3 => ⟨S_, .f32⟩
  | 4 => ⟨S4x2176, .f32⟩
  | 5 => ⟨S4x2176, .f32⟩
  | 6 => ⟨S4x2176, .f32⟩
  | 7 => ⟨S4x2176, .f32⟩
  | 8 => ⟨S4x2176, .f32⟩
  | 9 => ⟨S_, .f32⟩
  | 10 => ⟨S4x2176, .f32⟩
  | 11 => ⟨S4x2176, .f32⟩
  | 12 => ⟨S4x2176, .f32⟩
  | 13 => ⟨S4x2176, .f32⟩
  | 14 => ⟨S4x2176, .f32⟩
  | 15 => ⟨S4x2176x2176, .f32⟩
  | 16 => ⟨S4x256x2176, .f32⟩
  | 17 => ⟨S4x2176x256, .f32⟩
  | 18 => ⟨S4x2176x2176, .f32⟩
  | 19 => ⟨S4x2176x2176, .f32⟩
  | 20 => ⟨S4x2176x2176, .f32⟩
  | 21 => ⟨S4x2176x2176, .f32⟩
  | 22 => ⟨S4x2176x2176, .f32⟩
  | 23 => ⟨S4x2176x2176, .f32⟩
  | 24 => ⟨S_, .f32⟩
  | 25 => ⟨S4x2176, .f32⟩
  | 26 => ⟨S4x2176x1, .f32⟩
  | 27 => ⟨S_, .f32⟩
  | 28 => ⟨S4x2176, .f32⟩
  | 29 => ⟨S4x2176, .f32⟩
  | 30 => ⟨S4x2176x128, .f32⟩
  | 31 => ⟨S4x2176x128, .f32⟩
  | 32 => ⟨S4x2176, .f32⟩
  | 33 => ⟨S4x2176, .f32⟩
  | 34 => ⟨S4x2176, .f32⟩
  | 35 => ⟨S4x2176x2176, .f32⟩
  | 36 => ⟨S4x2176x2176, .f32⟩
  | 37 => ⟨S4x2176x2176, .f32⟩
  | 38 => ⟨S_, .f32⟩
  | 39 => ⟨S4x2176x2176, .f32⟩
  | 40 => ⟨S4x2176x2176, .f32⟩
  | 41 => ⟨S_, .f32⟩
  | 42 => ⟨S4x2176, .f32⟩
  | 43 => ⟨S4x1x2176, .f32⟩
  | 44 => ⟨S_, .f32⟩
  | 45 => ⟨S4x2176, .f32⟩
  | 46 => ⟨S_, .f32⟩
  | 47 => ⟨S4x2176, .f32⟩
  | 48 => ⟨S4x2176x1, .f32⟩
  | 49 => ⟨S4x2176x2176, .f32⟩
  | 50 => ⟨S_, .f32⟩
  | 51 => ⟨S4x2176, .f32⟩
  | 52 => ⟨S4x1x2176, .f32⟩
  | 53 => ⟨S_, .f32⟩
  | 54 => ⟨S4x2176, .f32⟩
  | 55 => ⟨S4x2176, .f32⟩
  | 56 => ⟨S_, .f32⟩
  | 57 => ⟨S4x2176, .f32⟩
  | 58 => ⟨S4x2176, .f32⟩
  | 59 => ⟨S_, .f32⟩
  | 60 => ⟨S4x2176x128, .f32⟩
  | 61 => ⟨S4x2176x128, .f32⟩
  | 62 => ⟨S_, .i32⟩
  | 63 => ⟨S_, .f32⟩
  | 64 => ⟨S128x2176, .f32⟩
  | 65 => ⟨S4x2176, .f32⟩
  | 66 => ⟨S2176x4, .f32⟩
  | 67 => ⟨S_, .i32⟩
  | 68 => ⟨S_, .f32⟩
  | 69 => ⟨S2176x128, .f32⟩
  | 70 => ⟨S2176x4x128, .f32⟩
  | 71 => ⟨S2176x512, .f32⟩
  | 72 => ⟨S2176x512, .bf16⟩
  | 73 => ⟨S2176x4x128, .f32⟩
  | 74 => ⟨S2176x512, .f32⟩
  | 75 => ⟨S2176x512, .bf16⟩
  | 76 => ⟨S2176x4x256, .f32⟩
  | 77 => ⟨S2176x1024, .f32⟩
  | 78 => ⟨S2176x1024, .bf16⟩
  | _ => ⟨S2176x2048, .bf16⟩

abbrev hbmTy (i : Nat) : BufTy := match i / 128 with
  | 0 => hbmTy0_0 i
  | 1 => hbmTy0_1 i
  | _ => ⟨S2176x2048, .bf16⟩

abbrev bufTy : (tb : Table) → Fin (tcTables nBuf tb) → BufTy
  | .hbm, ⟨i, _⟩ => hbmTy i
  | _, _ => ⟨S2176x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_call0_cst : Ref sig .tc := ⟨.hbm, 4, rfl⟩
abbrev main_call0_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_v13 : Ref sig .tc := ⟨.hbm, 20, rfl⟩
abbrev main_call1_v0 : Ref sig .tc := ⟨.hbm, 21, rfl⟩
abbrev main_call1_c : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_c_0 : Ref sig .tc := ⟨.hbm, 27, rfl⟩
abbrev main_call1_v5 : Ref sig .tc := ⟨.hbm, 28, rfl⟩
abbrev main_v14 : Ref sig .tc := ⟨.hbm, 29, rfl⟩
abbrev main_cst : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_0 : Ref sig .tc := ⟨.hbm, 41, rfl⟩
abbrev main_call2_v0 : Ref sig .tc := ⟨.hbm, 42, rfl⟩
abbrev main_v25_1 : Ref sig .tc := ⟨.hbm, 43, rfl⟩
abbrev main_call2_v2 : Ref sig .tc := ⟨.hbm, 44, rfl⟩
abbrev main_v25_0 : Ref sig .tc := ⟨.hbm, 45, rfl⟩
abbrev main_call2_cst : Ref sig .tc := ⟨.hbm, 46, rfl⟩
abbrev main_v25_2 : Ref sig .tc := ⟨.hbm, 47, rfl⟩
abbrev main_cst_1 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_2 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_3 : Ref sig .tc := ⟨.hbm, 59, rfl⟩
abbrev main_v35 : Ref sig .tc := ⟨.hbm, 60, rfl⟩
abbrev main_cst_4 : Ref sig .tc := ⟨.hbm, 61, rfl⟩
abbrev main_v36 : Ref sig .tc := ⟨.hbm, 62, rfl⟩
abbrev main_cst_5 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_6 : Ref sig .tc := ⟨.hbm, 69, rfl⟩
abbrev main_v42 : Ref sig .tc := ⟨.hbm, 70, rfl⟩
abbrev main_cst_7 : Ref sig .tc := ⟨.hbm, 71, rfl⟩
abbrev main_v43 : Ref sig .tc := ⟨.hbm, 72, rfl⟩
abbrev main_cst_8 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_9 : Ref sig .tc := ⟨.hbm, 84, rfl⟩
abbrev main_v54 : Ref sig .tc := ⟨.hbm, 85, rfl⟩
abbrev main_v55 : Ref sig .tc := ⟨.hbm, 86, rfl⟩
abbrev main_cst_10 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_11 : Ref sig .tc := ⟨.hbm, 95, rfl⟩
abbrev main_v63 : Ref sig .tc := ⟨.hbm, 96, rfl⟩
abbrev main_cst_12 : Ref sig .tc := ⟨.hbm, 97, rfl⟩
abbrev main_v64 : Ref sig .tc := ⟨.hbm, 98, rfl⟩
abbrev main_cst_13 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_cst_14 : Ref sig .tc := ⟨.hbm, 105, rfl⟩
abbrev main_v70 : Ref sig .tc := ⟨.hbm, 106, rfl⟩
abbrev main_cst_15 : Ref sig .tc := ⟨.hbm, 107, rfl⟩
abbrev main_v71 : Ref sig .tc := ⟨.hbm, 108, rfl⟩
abbrev main_cst_16 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_cst_17 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_cst_18 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_cst_19 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_cst_20 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_cst_21 : Ref sig .tc := ⟨.hbm, 152, rfl⟩
abbrev main_v110 : Ref sig .tc := ⟨.hbm, 153, rfl⟩
abbrev main_v111 : Ref sig .tc := ⟨.hbm, 154, rfl⟩
abbrev main_cst_22 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_call3_cst : Ref sig .tc := ⟨.hbm, 166, rfl⟩
abbrev main_call3_v0 : Ref sig .tc := ⟨.hbm, 167, rfl⟩
abbrev main_v122 : Ref sig .tc := ⟨.hbm, 168, rfl⟩
abbrev main_cst_23 : Ref sig .tc := ⟨.hbm, 169, rfl⟩
abbrev main_v123 : Ref sig .tc := ⟨.hbm, 170, rfl⟩
abbrev main_v124 : Ref sig .tc := ⟨.hbm, 171, rfl⟩
abbrev main_cst_24 : Ref sig .tc := ⟨.hbm, 172, rfl⟩
abbrev main_v125 : Ref sig .tc := ⟨.hbm, 173, rfl⟩
abbrev main_cst_25 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_cst_26 : Ref sig .tc := ⟨.hbm, 178, rfl⟩
abbrev main_v129 : Ref sig .tc := ⟨.hbm, 179, rfl⟩
abbrev main_v130 : Ref sig .tc := ⟨.hbm, 180, rfl⟩
abbrev main_cst_27 : Ref sig .tc := ⟨.hbm, 181, rfl⟩
abbrev main_v131 : Ref sig .tc := ⟨.hbm, 182, rfl⟩
abbrev main_v132 : Ref sig .tc := ⟨.hbm, 183, rfl⟩
abbrev main_cst_28 : Ref sig .tc := ⟨.hbm, 184, rfl⟩
abbrev main_v133 : Ref sig .tc := ⟨.hbm, 185, rfl⟩
abbrev main_v134 : Ref sig .tc := ⟨.hbm, 186, rfl⟩
abbrev main_cst_29 : Ref sig .tc := ⟨.hbm, 187, rfl⟩
abbrev main_v135 : Ref sig .tc := ⟨.hbm, 188, rfl⟩
abbrev main_v136 : Ref sig .tc := ⟨.hbm, 189, rfl⟩
abbrev main_c_30 : Ref sig .tc := ⟨.hbm, 190, rfl⟩
abbrev main_call4_v0 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_c_31 : Ref sig .tc := ⟨.hbm, 195, rfl⟩
abbrev main_call5_v0 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩

abbrev nD : Nat := 1
abbrev τ : Topo := Topo.v7x

variable {F : FTy → Type} [FloatOps F]
-- ==== FfnUp.lean ====
abbrev S2176x2048 : Shape := ⟨2, ![2176, 2048]⟩
abbrev S2048x5632 : Shape := ⟨2, ![2048, 5632]⟩
abbrev S2048x4x1408 : Shape := ⟨3, ![2048, 4, 1408]⟩
abbrev S4x2048x1408 : Shape := ⟨3, ![4, 2048, 1408]⟩
abbrev S2176x5632 : Shape := ⟨2, ![2176, 5632]⟩
abbrev S544x2048 : Shape := ⟨2, ![544, 2048]⟩
abbrev S1x2048x1408 : Shape := ⟨3, ![1, 2048, 1408]⟩
abbrev S544x1408 : Shape := ⟨2, ![544, 1408]⟩
abbrev S2048x1408 : Shape := ⟨2, ![2048, 1408]⟩

abbrev nBuf : Space → Nat
  | .hbm => 10
  | .vmem => 12
  | .smem => 0
  | _ => 0

abbrev bufTy : (tb : Table) → Fin (tcTables nBuf tb) → BufTy
  | .hbm, ⟨0, _⟩ => ⟨S2176x2048, .bf16⟩
  | .hbm, ⟨1, _⟩ => ⟨S2048x5632, .bf16⟩
  | .hbm, ⟨2, _⟩ => ⟨S2048x5632, .bf16⟩
  | .hbm, ⟨3, _⟩ => ⟨S2048x4x1408, .bf16⟩
  | .hbm, ⟨4, _⟩ => ⟨S4x2048x1408, .bf16⟩
  | .hbm, ⟨5, _⟩ => ⟨S2048x4x1408, .bf16⟩
  | .hbm, ⟨6, _⟩ => ⟨S4x2048x1408, .bf16⟩
  | .hbm, ⟨7, _⟩ => ⟨S2176x5632, .bf16⟩
  | .hbm, ⟨8, _⟩ => ⟨S2176x5632, .bf16⟩
  | .hbm, ⟨9, _⟩ => ⟨S2176x5632, .bf16⟩
  | .local _ .vmem, ⟨0, _⟩ => ⟨S544x2048, .bf16⟩
  | .local _ .vmem, ⟨1, _⟩ => ⟨S544x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S544x1408, .bf16⟩
  | .local _ .vmem, ⟨7, _⟩ => ⟨S544x1408, .bf16⟩
  | .local _ .vmem, ⟨8, _⟩ => ⟨S544x1408, .bf16⟩
  | .local _ .vmem, ⟨9, _⟩ => ⟨S544x1408, .bf16⟩
  | .local _ .vmem, ⟨10, _⟩ => ⟨S544x1408, .bf16⟩
  | .local _ .vmem, ⟨11, _⟩ => ⟨S544x1408, .bf16⟩
  | _, _ => ⟨S2176x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S544x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S544x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S544x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S544x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnUpRefIdeal.lean ====
abbrev S2176x2048 : Shape := ⟨2, ![2176, 2048]⟩
abbrev S2048x5632 : Shape := ⟨2, ![2048, 5632]⟩
abbrev S2176x5632 : Shape := ⟨2, ![2176, 5632]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S2176x2048, .bf16⟩
  | .hbm, ⟨1, _⟩ => ⟨S2048x5632, .bf16⟩
  | .hbm, ⟨2, _⟩ => ⟨S2048x5632, .bf16⟩
  | .hbm, ⟨3, _⟩ => ⟨S2176x2048, .f32⟩
  | .hbm, ⟨4, _⟩ => ⟨S2048x5632, .f32⟩
  | .hbm, ⟨5, _⟩ => ⟨S2176x5632, .f32⟩
  | .hbm, ⟨6, _⟩ => ⟨S2048x5632, .f32⟩
  | .hbm, ⟨7, _⟩ => ⟨S2176x5632, .f32⟩
  | .hbm, ⟨8, _⟩ => ⟨S2176x5632, .bf16⟩
  | .hbm, ⟨9, _⟩ => ⟨S2176x5632, .bf16⟩
  | .hbm, ⟨10, _⟩ => ⟨S2176x5632, .f32⟩
  | .hbm, ⟨11, _⟩ => ⟨S2176x5632, .f32⟩
  | .hbm, ⟨12, _⟩ => ⟨S_, .f32⟩
  | .hbm, ⟨13, _⟩ => ⟨S2176x5632, .f32⟩
  | .hbm, ⟨14, _⟩ => ⟨S2176x5632, .f32⟩
  | .hbm, ⟨15, _⟩ => ⟨S_, .f32⟩
  | .hbm, ⟨16, _⟩ => ⟨S2176x5632, .f32⟩
  | .hbm, ⟨17, _⟩ => ⟨S2176x5632, .f32⟩
  | .hbm, ⟨18, _⟩ => ⟨S2176x5632, .f32⟩
  | .hbm, ⟨19, _⟩ => ⟨S2176x5632, .f32⟩
  | .hbm, ⟨20, _⟩ => ⟨S2176x5632, .bf16⟩
  | _, _ => ⟨S2176x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== FfnDown.lean ====
abbrev S2176x5632 : Shape := ⟨2, ![2176, 5632]⟩
abbrev S5632x2048 : Shape := ⟨2, ![5632, 2048]⟩
abbrev S2176x2048 : Shape := ⟨2, ![2176, 2048]⟩
abbrev S4x1408x2048 : Shape := ⟨3, ![4, 1408, 2048]⟩
abbrev S1088x5632 : Shape := ⟨2, ![1088, 5632]⟩
abbrev S4x1408x512 : Shape := ⟨3, ![4, 1408, 512]⟩
abbrev S1088x512 : Shape := ⟨2, ![1088, 512]⟩
abbrev S5632x512 : Shape := ⟨2, ![5632, 512]⟩

abbrev nBuf : Space → Nat
  | .hbm => 5
  | .vmem => 8
  | .smem => 0
  | _ => 0

abbrev bufTy : (tb : Table) → Fin (tcTables nBuf tb) → BufTy
  | .hbm, ⟨0, _⟩ => ⟨S2176x5632, .bf16⟩
  | .hbm, ⟨1, _⟩ => ⟨S5632x2048, .bf16⟩
  | .hbm, ⟨2, _⟩ => ⟨S2176x2048, .f32⟩
  | .hbm, ⟨3, _⟩ => ⟨S4x1408x2048, .bf16⟩
  | .hbm, ⟨4, _⟩ => ⟨S2176x2048, .f32⟩
  | .local _ .vmem, ⟨0, _⟩ => ⟨S1088x5632, .bf16⟩
  | .local _ .vmem, ⟨1, _⟩ => ⟨S1088x5632, .bf16⟩
  | .local _ .vmem, ⟨2, _⟩ => ⟨S4x1408x512, .bf16⟩
  | .local _ .vmem, ⟨3, _⟩ => ⟨S4x1408x512, .bf16⟩
  | .local _ .vmem, ⟨4, _⟩ => ⟨S1088x512, .f32⟩
  | .local _ .vmem, ⟨5, _⟩ => ⟨S1088x512, .f32⟩
  | .local _ .vmem, ⟨6, _⟩ => ⟨S1088x512, .f32⟩
  | .local _ .vmem, ⟨7, _⟩ => ⟨S1088x512, .f32⟩
  | _, _ => ⟨S2176x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1088x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x1408x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1088x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnDownRefIdeal.lean ====
abbrev S2176x5632 : Shape := ⟨2, ![2176, 5632]⟩
abbrev S5632x2048 : Shape := ⟨2, ![5632, 2048]⟩
abbrev S2176x2048 : Shape := ⟨2, ![2176, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2176x5632, .bf16⟩
  | .hbm, ⟨1, _⟩ => ⟨S5632x2048, .bf16⟩
  | .hbm, ⟨2, _⟩ => ⟨S2176x2048, .f32⟩
  | .hbm, ⟨3, _⟩ => ⟨S2176x5632, .f32⟩
  | .hbm, ⟨4, _⟩ => ⟨S5632x2048, .f32⟩
  | .hbm, ⟨5, _⟩ => ⟨S2176x2048, .f32⟩
  | .hbm, ⟨6, _⟩ => ⟨S2176x2048, .f32⟩
  | _, _ => ⟨S2176x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== FfnAct.lean ====
abbrev S2176x2048 : Shape := ⟨2, ![2176, 2048]⟩
abbrev S5632x2048 : Shape := ⟨2, ![5632, 2048]⟩
abbrev S2176x5632 : Shape := ⟨2, ![2176, 5632]⟩
abbrev S4x1408x2048 : Shape := ⟨3, ![4, 1408, 2048]⟩
abbrev S544x2048 : Shape := ⟨2, ![544, 2048]⟩
abbrev S1x1408x2048 : Shape := ⟨3, ![1, 1408, 2048]⟩
abbrev S544x1408 : Shape := ⟨2, ![544, 1408]⟩
abbrev S1408x2048 : Shape := ⟨2, ![1408, 2048]⟩

abbrev nBuf : Space → Nat
  | .hbm => 7
  | .vmem => 12
  | .smem => 0
  | _ => 0

abbrev bufTy : (tb : Table) → Fin (tcTables nBuf tb) → BufTy
  | .hbm, ⟨0, _⟩ => ⟨S2176x2048, .bf16⟩
  | .hbm, ⟨1, _⟩ => ⟨S5632x2048, .bf16⟩
  | .hbm, ⟨2, _⟩ => ⟨S2176x5632, .bf16⟩
  | .hbm, ⟨3, _⟩ => ⟨S2176x5632, .bf16⟩
  | .hbm, ⟨4, _⟩ => ⟨S4x1408x2048, .bf16⟩
  | .hbm, ⟨5, _⟩ => ⟨S2176x5632, .bf16⟩
  | .hbm, ⟨6, _⟩ => ⟨S2176x5632, .bf16⟩
  | .local _ .vmem, ⟨0, _⟩ => ⟨S544x2048, .bf16⟩
  | .local _ .vmem, ⟨1, _⟩ => ⟨S544x2048, .bf16⟩
  | .local _ .vmem, ⟨2, _⟩ => ⟨S1x1408x2048, .bf16⟩
  | .local _ .vmem, ⟨3, _⟩ => ⟨S1x1408x2048, .bf16⟩
  | .local _ .vmem, ⟨4, _⟩ => ⟨S544x1408, .bf16⟩
  | .local _ .vmem, ⟨5, _⟩ => ⟨S544x1408, .bf16⟩
  | .local _ .vmem, ⟨6, _⟩ => ⟨S544x1408, .bf16⟩
  | .local _ .vmem, ⟨7, _⟩ => ⟨S544x1408, .bf16⟩
  | .local _ .vmem, ⟨8, _⟩ => ⟨S544x1408, .bf16⟩
  | .local _ .vmem, ⟨9, _⟩ => ⟨S544x1408, .bf16⟩
  | .local _ .vmem, ⟨10, _⟩ => ⟨S544x1408, .bf16⟩
  | .local _ .vmem, ⟨11, _⟩ => ⟨S544x1408, .bf16⟩
  | _, _ => ⟨S2176x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S544x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S544x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S544x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S544x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S544x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnActRefIdeal.lean ====
abbrev S2176x2048 : Shape := ⟨2, ![2176, 2048]⟩
abbrev S5632x2048 : Shape := ⟨2, ![5632, 2048]⟩
abbrev S2176x5632 : Shape := ⟨2, ![2176, 5632]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S2176x2048, .bf16⟩
  | .hbm, ⟨1, _⟩ => ⟨S5632x2048, .bf16⟩
  | .hbm, ⟨2, _⟩ => ⟨S2176x5632, .bf16⟩
  | .hbm, ⟨3, _⟩ => ⟨S2176x5632, .bf16⟩
  | .hbm, ⟨4, _⟩ => ⟨S2176x5632, .f32⟩
  | .hbm, ⟨5, _⟩ => ⟨S2176x5632, .f32⟩
  | .hbm, ⟨6, _⟩ => ⟨S2176x5632, .f32⟩
  | .hbm, ⟨7, _⟩ => ⟨S2176x5632, .f32⟩
  | .hbm, ⟨8, _⟩ => ⟨S_, .f32⟩
  | .hbm, ⟨9, _⟩ => ⟨S2176x5632, .f32⟩
  | .hbm, ⟨10, _⟩ => ⟨S2176x5632, .f32⟩
  | .hbm, ⟨11, _⟩ => ⟨S_, .f32⟩
  | .hbm, ⟨12, _⟩ => ⟨S2176x5632, .f32⟩
  | .hbm, ⟨13, _⟩ => ⟨S2176x5632, .f32⟩
  | .hbm, ⟨14, _⟩ => ⟨S_, .f32⟩
  | .hbm, ⟨15, _⟩ => ⟨S2176x5632, .f32⟩
  | .hbm, ⟨16, _⟩ => ⟨S2176x5632, .f32⟩
  | .hbm, ⟨17, _⟩ => ⟨S2176x5632, .f32⟩
  | .hbm, ⟨18, _⟩ => ⟨S2176x5632, .f32⟩
  | .hbm, ⟨19, _⟩ => ⟨S2176x5632, .f32⟩
  | .hbm, ⟨20, _⟩ => ⟨S5632x2048, .f32⟩
  | .hbm, ⟨21, _⟩ => ⟨S2176x2048, .f32⟩
  | .hbm, ⟨22, _⟩ => ⟨S2176x2048, .f32⟩
  | .hbm, ⟨23, _⟩ => ⟨S2176x5632, .f32⟩
  | .hbm, ⟨24, _⟩ => ⟨S2176x5632, .f32⟩
  | .hbm, ⟨25, _⟩ => ⟨S2176x5632, .f32⟩
  | .hbm, ⟨26, _⟩ => ⟨S2176x5632, .f32⟩
  | .hbm, ⟨27, _⟩ => ⟨S2176x5632, .f32⟩
  | .hbm, ⟨28, _⟩ => ⟨S2176x5632, .f32⟩
  | .hbm, ⟨29, _⟩ => ⟨S2176x5632, .f32⟩
  | .hbm, ⟨30, _⟩ => ⟨S2176x5632, .bf16⟩
  | .hbm, ⟨31, _⟩ => ⟨S2176x5632, .bf16⟩
  | _, _ => ⟨S2176x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== FfnIn.lean ====
abbrev S2176x5632 : Shape := ⟨2, ![2176, 5632]⟩
abbrev S2048x5632 : Shape := ⟨2, ![2048, 5632]⟩
abbrev S2048x4x1408 : Shape := ⟨3, ![2048, 4, 1408]⟩
abbrev S4x2048x1408 : Shape := ⟨3, ![4, 2048, 1408]⟩
abbrev S2176x2048 : Shape := ⟨2, ![2176, 2048]⟩
abbrev S1088x1408 : Shape := ⟨2, ![1088, 1408]⟩
abbrev S1x1024x1408 : Shape := ⟨3, ![1, 1024, 1408]⟩
abbrev S1088x1024 : Shape := ⟨2, ![1088, 1024]⟩
abbrev S1024x1408 : Shape := ⟨2, ![1024, 1408]⟩

abbrev nBuf : Space → Nat
  | .hbm => 9
  | .vmem => 11
  | .smem => 0
  | _ => 0

abbrev bufTy : (tb : Table) → Fin (tcTables nBuf tb) → BufTy
  | .hbm, ⟨0, _⟩ => ⟨S2176x5632, .bf16⟩
  | .hbm, ⟨1, _⟩ => ⟨S2176x5632, .bf16⟩
  | .hbm, ⟨2, _⟩ => ⟨S2048x5632, .bf16⟩
  | .hbm, ⟨3, _⟩ => ⟨S2048x5632, .bf16⟩
  | .hbm, ⟨4, _⟩ => ⟨S2048x4x1408, .bf16⟩
  | .hbm, ⟨5, _⟩ => ⟨S4x2048x1408, .bf16⟩
  | .hbm, ⟨6, _⟩ => ⟨S2048x4x1408, .bf16⟩
  | .hbm, ⟨7, _⟩ => ⟨S4x2048x1408, .bf16⟩
  | .hbm, ⟨8, _⟩ => ⟨S2176x2048, .f32⟩
  | .local _ .vmem, ⟨0, _⟩ => ⟨S1088x1408, .bf16⟩
  | .local _ .vmem, ⟨1, _⟩ => ⟨S1088x1408, .bf16⟩
  | .local _ .vmem, ⟨2, _⟩ => ⟨S1088x1408, .bf16⟩
  | .local _ .vmem, ⟨3, _⟩ => ⟨S1088x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1x1024x1408, .bf16⟩
  | .local _ .vmem, ⟨7, _⟩ => ⟨S1x1024x1408, .bf16⟩
  | .local _ .vmem, ⟨8, _⟩ => ⟨S1088x1024, .f32⟩
  | .local _ .vmem, ⟨9, _⟩ => ⟨S1088x1024, .f32⟩
  | .local _ .vmem, ⟨10, _⟩ => ⟨S1088x1024, .f32⟩
  | _, _ => ⟨S2176x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_13 : BitVec 32 := 3#32
  let v17 : BitVec 1 := Scalar.cmpi .eq arg2 c3_i32_13
  let v18 : BitVec 32 := Scalar.extui v17
  let c0_i32_14 : BitVec 32 := 0#32
  let v19 : BitVec 1 := Scalar.cmpi .ne v18 c0_i32_14
  v19

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1088x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1088x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== FfnInRefIdeal.lean ====
abbrev S2176x5632 : Shape := ⟨2, ![2176, 5632]⟩
abbrev S2048x5632 : Shape := ⟨2, ![2048, 5632]⟩
abbrev S_ : Shape := ⟨0, ![]⟩
abbrev S2176x2048 : Shape := ⟨2, ![2176, 2048]⟩

abbrev nBuf : Space → Nat
  | .hbm => 15
  | .vmem => 0
  | .smem => 0
  | _ => 0

abbrev bufTy : (tb : Table) → Fin (tcTables nBuf tb) → BufTy
  | .hbm, ⟨0, _⟩ => ⟨S2176x5632, .bf16⟩
  | .hbm, ⟨1, _⟩ => ⟨S2176x5632, .bf16⟩
  | .hbm, ⟨2, _⟩ => ⟨S2048x5632, .bf16⟩
  | .hbm, ⟨3, _⟩ => ⟨S2048x5632, .bf16⟩
  | .hbm, ⟨4, _⟩ => ⟨S_, .f32⟩
  | .hbm, ⟨5, _⟩ => ⟨S2176x2048, .f32⟩
  | .hbm, ⟨6, _⟩ => ⟨S2048x5632, .f32⟩
  | .hbm, ⟨7, _⟩ => ⟨S2176x5632, .f32⟩
  | .hbm, ⟨8, _⟩ => ⟨S2048x5632, .f32⟩
  | .hbm, ⟨9, _⟩ => ⟨S2176x5632, .f32⟩
  | .hbm, ⟨10, _⟩ => ⟨S2176x5632, .f32⟩
  | .hbm, ⟨11, _⟩ => ⟨S2176x5632, .f32⟩
  | .hbm, ⟨12, _⟩ => ⟨S2176x2048, .f32⟩
  | .hbm, ⟨13, _⟩ => ⟨S2176x2048, .f32⟩
  | .hbm, ⟨14, _⟩ => ⟨S2176x2048, .f32⟩
  | _, _ => ⟨S2176x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Dhn.lean ====
abbrev S2176x6152 : Shape := ⟨2, ![2176, 6152]⟩
abbrev S2048x6152 : Shape := ⟨2, ![2048, 6152]⟩
abbrev S2176x1024 : Shape := ⟨2, ![2176, 1024]⟩
abbrev S2048x1024 : Shape := ⟨2, ![2048, 1024]⟩
abbrev S1024x2048 : Shape := ⟨2, ![1024, 2048]⟩
abbrev S2176x8 : Shape := ⟨2, ![2176, 8]⟩
abbrev S_ : Shape := ⟨0, ![]⟩
abbrev S2176x128 : Shape := ⟨2, ![2176, 128]⟩
abbrev S2048x8 : Shape := ⟨2, ![2048, 8]⟩
abbrev S8x2048 : Shape := ⟨2, ![8, 2048]⟩
abbrev S128x2048 : Shape := ⟨2, ![128, 2048]⟩
abbrev S2176x2048 : Shape := ⟨2, ![2176, 2048]⟩
abbrev S1x2176x1024 : Shape := ⟨3, ![1, 2176, 1024]⟩
abbrev S4x2176x1024 : Shape := ⟨3, ![4, 2176, 1024]⟩
abbrev S2048x2048 : Shape := ⟨2, ![2048, 2048]⟩
abbrev S1x1024x2048 : Shape := ⟨3, ![1, 1024, 2048]⟩
abbrev S4x1024x2048 : Shape := ⟨3, ![4, 1024, 2048]⟩
abbrev S1088x2048 : Shape := ⟨2, ![1088, 2048]⟩
abbrev S4x1088x1024 : Shape := ⟨3, ![4, 1088, 1024]⟩
abbrev S1088x128 : Shape := ⟨2, ![1088, 128]⟩
abbrev S2048x512 : Shape := ⟨2, ![2048, 512]⟩
abbrev S4x1024x512 : Shape := ⟨3, ![4, 1024, 512]⟩
abbrev S128x512 : Shape := ⟨2, ![128, 512]⟩
abbrev S1088x512 : Shape := ⟨2, ![1088, 512]⟩
abbrev S1x1088x1024 : Shape := ⟨3, ![1, 1088, 1024]⟩
abbrev S1088x1024 : Shape := ⟨2, ![1088, 1024]⟩
abbrev S1x1024x512 : Shape := ⟨3, ![1, 1024, 512]⟩
abbrev S1024x512 : Shape := ⟨2, ![1024, 512]⟩

abbrev nBuf : Space → Nat
  | .hbm => 37
  | .vmem => 14
  | .smem => 0
  | _ => 0

abbrev bufTy : (tb : Table) → Fin (tcTables nBuf tb) → BufTy
  | .hbm, ⟨0, _⟩ => ⟨S2176x6152, .bf16⟩
  | .hbm, ⟨1, _⟩ => ⟨S2048x6152, .bf16⟩
  | .hbm, ⟨2, _⟩ => ⟨S2176x1024, .bf16⟩
  | .hbm, ⟨3, _⟩ => ⟨S2176x1024, .bf16⟩
  | .hbm, ⟨4, _⟩ => ⟨S2176x1024, .bf16⟩
  | .hbm, ⟨5, _⟩ => ⟨S2176x1024, .bf16⟩
  | .hbm, ⟨6, _⟩ => ⟨S2048x1024, .bf16⟩
  | .hbm, ⟨7, _⟩ => ⟨S2048x1024, .bf16⟩
  | .hbm, ⟨8, _⟩ => ⟨S2048x1024, .bf16⟩
  | .hbm, ⟨9, _⟩ => ⟨S2048x1024, .bf16⟩
  | .hbm, ⟨10, _⟩ => ⟨S1024x2048, .bf16⟩
  | .hbm, ⟨11, _⟩ => ⟨S1024x2048, .bf16⟩
  | .hbm, ⟨12, _⟩ => ⟨S1024x2048, .bf16⟩
  | .hbm, ⟨13, _⟩ => ⟨S1024x2048, .bf16⟩
  | .hbm, ⟨14, _⟩ => ⟨S2176x8, .bf16⟩
  | .hbm, ⟨15, _⟩ => ⟨S_, .i32⟩
  | .hbm, ⟨16, _⟩ => ⟨S_, .bf16⟩
  | .hbm, ⟨17, _⟩ => ⟨S2176x128, .bf16⟩
  | .hbm, ⟨18, _⟩ => ⟨S2048x8, .bf16⟩
  | .hbm, ⟨19, _⟩ => ⟨S8x2048, .bf16⟩
  | .hbm, ⟨20, _⟩ => ⟨S_, .i32⟩
  | .hbm, ⟨21, _⟩ => ⟨S_, .bf16⟩
  | .hbm, ⟨22, _⟩ => ⟨S128x2048, .bf16⟩
  | .hbm, ⟨23, _⟩ => ⟨S2176x2048, .bf16⟩
  | .hbm, ⟨24, _⟩ => ⟨S1x2176x1024, .bf16⟩
  | .hbm, ⟨25, _⟩ => ⟨S1x2176x1024, .bf16⟩
  | .hbm, ⟨26, _⟩ => ⟨S1x2176x1024, .bf16⟩
  | .hbm, ⟨27, _⟩ => ⟨S1x2176x1024, .bf16⟩
  | .hbm, ⟨28, _⟩ => ⟨S4x2176x1024, .bf16⟩
  | .hbm, ⟨29, _⟩ => ⟨S2048x2048, .bf16⟩
  | .hbm, ⟨30, _⟩ => ⟨S2048x2048, .bf16⟩
  | .hbm, ⟨31, _⟩ => ⟨S1x1024x2048, .bf16⟩
  | .hbm, ⟨32, _⟩ => ⟨S1x1024x2048, .bf16⟩
  | .hbm, ⟨33, _⟩ => ⟨S1x1024x2048, .bf16⟩
  | .hbm, ⟨34, _⟩ => ⟨S1x1024x2048, .bf16⟩
  | .hbm, ⟨35, _⟩ => ⟨S4x1024x2048, .bf16⟩
  | .hbm, ⟨36, _⟩ => ⟨S2176x2048, .f32⟩
  | .local _ .vmem, ⟨0, _⟩ => ⟨S1088x2048, .bf16⟩
  | .local _ .vmem, ⟨1, _⟩ => ⟨S1088x2048, .bf16⟩
  | .local _ .vmem, ⟨2, _⟩ => ⟨S4x1088x1024, .bf16⟩
  | .local _ .vmem, ⟨3, _⟩ => ⟨S4x1088x1024, .bf16⟩
  | .local _ .vmem, ⟨4, _⟩ => ⟨S1088x128, .bf16⟩
  | .local _ .vmem, ⟨5, _⟩ => ⟨S1088x128, .bf16⟩
  | .local _ .vmem, ⟨6, _⟩ => ⟨S2048x512, .bf16⟩
  | .local _ .vmem, ⟨7, _⟩ => ⟨S2048x512, .bf16⟩
  | .local _ .vmem, ⟨8, _⟩ => ⟨S4x1024x512, .bf16⟩
  | .local _ .vmem, ⟨9, _⟩ => ⟨S4x1024x512, .bf16⟩
  | .local _ .vmem, ⟨10, _⟩ => ⟨S128x512, .bf16⟩
  | .local _ .vmem, ⟨11, _⟩ => ⟨S128x512, .bf16⟩
  | .local _ .vmem, ⟨12, _⟩ => ⟨S1088x512, .f32⟩
  | .local _ .vmem, ⟨13, _⟩ => ⟨S1088x512, .f32⟩
  | _, _ => ⟨S2176x6152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_c : Ref sig .tc := ⟨.hbm, 15, rfl⟩
abbrev main_call0_v0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_c_0 : Ref sig .tc := ⟨.hbm, 20, rfl⟩
abbrev main_call1_v0 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x1088x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1088x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S4x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1088x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== DhnRefIdeal.lean ====
abbrev S2176x6152 : Shape := ⟨2, ![2176, 6152]⟩
abbrev S2048x6152 : Shape := ⟨2, ![2048, 6152]⟩
abbrev S_ : Shape := ⟨0, ![]⟩
abbrev S2176x2048 : Shape := ⟨2, ![2176, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2176x6152, .bf16⟩
  | .hbm, ⟨1, _⟩ => ⟨S2048x6152, .bf16⟩
  | .hbm, ⟨2, _⟩ => ⟨S_, .f32⟩
  | .hbm, ⟨3, _⟩ => ⟨S2176x2048, .f32⟩
  | .hbm, ⟨4, _⟩ => ⟨S2048x6152, .f32⟩
  | .hbm, ⟨5, _⟩ => ⟨S2176x6152, .f32⟩
  | .hbm, ⟨6, _⟩ => ⟨S2176x6152, .f32⟩
  | .hbm, ⟨7, _⟩ => ⟨S2176x2048, .f32⟩
  | _, _ => ⟨S2176x6152, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DwQkv.lean ====
abbrev S2176x2048 : Shape := ⟨2, ![2176, 2048]⟩
abbrev S2048x2048 : Shape := ⟨2, ![2048, 2048]⟩
abbrev S2176x1024 : Shape := ⟨2, ![2176, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2176x2048, .bf16⟩
  | .hbm, ⟨1, _⟩ => ⟨S2176x2048, .bf16⟩
  | .hbm, ⟨2, _⟩ => ⟨S2048x2048, .bf16⟩
  | .local _ .vmem, ⟨0, _⟩ => ⟨S2176x1024, .bf16⟩
  | .local _ .vmem, ⟨1, _⟩ => ⟨S2176x1024, .bf16⟩
  | .local _ .vmem, ⟨2, _⟩ => ⟨S2176x1024, .bf16⟩
  | .local _ .vmem, ⟨3, _⟩ => ⟨S2176x1024, .bf16⟩
  | .local _ .vmem, ⟨4, _⟩ => ⟨S1024x1024, .bf16⟩
  | .local _ .vmem, ⟨5, _⟩ => ⟨S1024x1024, .bf16⟩
  | _, _ => ⟨S2176x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwQkvRefIdeal.lean ====
abbrev S2176x2048 : Shape := ⟨2, ![2176, 2048]⟩
abbrev S_ : Shape := ⟨0, ![]⟩
abbrev S2048x2048 : Shape := ⟨2, ![2048, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2176x2048, .bf16⟩
  | .hbm, ⟨1, _⟩ => ⟨S2176x2048, .bf16⟩
  | .hbm, ⟨2, _⟩ => ⟨S_, .f32⟩
  | .hbm, ⟨3, _⟩ => ⟨S2048x2048, .f32⟩
  | .hbm, ⟨4, _⟩ => ⟨S2176x2048, .f32⟩
  | .hbm, ⟨5, _⟩ => ⟨S2048x2048, .f32⟩
  | .hbm, ⟨6, _⟩ => ⟨S2176x2048, .f32⟩
  | .hbm, ⟨7, _⟩ => ⟨S2176x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .bf16⟩
  | _, _ => ⟨S2176x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DwE.lean ====
abbrev S2176x4096 : Shape := ⟨2, ![2176, 4096]⟩
abbrev S2176x2048 : Shape := ⟨2, ![2176, 2048]⟩
abbrev S2176x4x1024 : Shape := ⟨3, ![2176, 4, 1024]⟩
abbrev S4x2176x1024 : Shape := ⟨3, ![4, 2176, 1024]⟩
abbrev S4x1024x2048 : Shape := ⟨3, ![4, 1024, 2048]⟩
abbrev S1x2176x1024 : Shape := ⟨3, ![1, 2176, 1024]⟩
abbrev S2176x1024 : Shape := ⟨2, ![2176, 1024]⟩
abbrev S1x1024x1024 : Shape := ⟨3, ![1, 1024, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2176x4096, .bf16⟩
  | .hbm, ⟨1, _⟩ => ⟨S2176x2048, .bf16⟩
  | .hbm, ⟨2, _⟩ => ⟨S2176x4x1024, .bf16⟩
  | .hbm, ⟨3, _⟩ => ⟨S4x2176x1024, .bf16⟩
  | .hbm, ⟨4, _⟩ => ⟨S4x1024x2048, .bf16⟩
  | .local _ .vmem, ⟨0, _⟩ => ⟨S1x2176x1024, .bf16⟩
  | .local _ .vmem, ⟨1, _⟩ => ⟨S1x2176x1024, .bf16⟩
  | .local _ .vmem, ⟨2, _⟩ => ⟨S2176x1024, .bf16⟩
  | .local _ .vmem, ⟨3, _⟩ => ⟨S2176x1024, .bf16⟩
  | .local _ .vmem, ⟨4, _⟩ => ⟨S1x1024x1024, .bf16⟩
  | .local _ .vmem, ⟨5, _⟩ => ⟨S1x1024x1024, .bf16⟩
  | _, _ => ⟨S2176x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwERefIdeal.lean ====
abbrev S2176x4096 : Shape := ⟨2, ![2176, 4096]⟩
abbrev S2176x2048 : Shape := ⟨2, ![2176, 2048]⟩
abbrev S_ : Shape := ⟨0, ![]⟩
abbrev S4x1024x2048 : Shape := ⟨3, ![4, 1024, 2048]⟩
abbrev S4096x2048 : Shape := ⟨2, ![4096, 2048]⟩
abbrev S2048x4096 : Shape := ⟨2, ![2048, 4096]⟩

abbrev nBuf : Space → Nat
  | .hbm => 14
  | .vmem => 0
  | .smem => 0
  | _ => 0

abbrev bufTy : (tb : Table) → Fin (tcTables nBuf tb) → BufTy
  | .hbm, ⟨0, _⟩ => ⟨S2176x4096, .bf16⟩
  | .hbm, ⟨1, _⟩ => ⟨S2176x2048, .bf16⟩
  | .hbm, ⟨2, _⟩ => ⟨S_, .f32⟩
  | .hbm, ⟨3, _⟩ => ⟨S4x1024x2048, .f32⟩
  | .hbm, ⟨4, _⟩ => ⟨S2176x2048, .f32⟩
  | .hbm, ⟨5, _⟩ => ⟨S4096x2048, .f32⟩
  | .hbm, ⟨6, _⟩ => ⟨S2048x4096, .f32⟩
  | .hbm, ⟨7, _⟩ => ⟨S2176x4096, .f32⟩
  | .hbm, ⟨8, _⟩ => ⟨S2176x4096, .f32⟩
  | .hbm, ⟨9, _⟩ => ⟨S4096x2048, .f32⟩
  | .hbm, ⟨10, _⟩ => ⟨S2048x4096, .f32⟩
  | .hbm, ⟨11, _⟩ => ⟨S4096x2048, .f32⟩
  | .hbm, ⟨12, _⟩ => ⟨S4x1024x2048, .f32⟩
  | .hbm, ⟨13, _⟩ => ⟨S4x1024x2048, .bf16⟩
  | _, _ => ⟨S2176x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== DwOut.lean ====
abbrev S2176x2048 : Shape := ⟨2, ![2176, 2048]⟩
abbrev S2176x2x1024 : Shape := ⟨3, ![2176, 2, 1024]⟩
abbrev S2x2176x1024 : Shape := ⟨3, ![2, 2176, 1024]⟩
abbrev S2048x2048 : Shape := ⟨2, ![2048, 2048]⟩
abbrev S1x2176x1024 : Shape := ⟨3, ![1, 2176, 1024]⟩
abbrev S2176x1024 : Shape := ⟨2, ![2176, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2176x2048, .bf16⟩
  | .hbm, ⟨1, _⟩ => ⟨S2176x2048, .bf16⟩
  | .hbm, ⟨2, _⟩ => ⟨S2176x2x1024, .bf16⟩
  | .hbm, ⟨3, _⟩ => ⟨S2x2176x1024, .bf16⟩
  | .hbm, ⟨4, _⟩ => ⟨S2048x2048, .bf16⟩
  | .local _ .vmem, ⟨0, _⟩ => ⟨S1x2176x1024, .bf16⟩
  | .local _ .vmem, ⟨1, _⟩ => ⟨S1x2176x1024, .bf16⟩
  | .local _ .vmem, ⟨2, _⟩ => ⟨S2176x1024, .bf16⟩
  | .local _ .vmem, ⟨3, _⟩ => ⟨S2176x1024, .bf16⟩
  | .local _ .vmem, ⟨4, _⟩ => ⟨S1024x1024, .bf16⟩
  | .local _ .vmem, ⟨5, _⟩ => ⟨S1024x1024, .bf16⟩
  | _, _ => ⟨S2176x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwOutRefIdeal.lean ====
abbrev S2176x2048 : Shape := ⟨2, ![2176, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2176x2048, .bf16⟩
  | .hbm, ⟨1, _⟩ => ⟨S2176x2048, .bf16⟩
  | .hbm, ⟨2, _⟩ => ⟨S_, .f32⟩
  | .hbm, ⟨3, _⟩ => ⟨S2048x2048, .f32⟩
  | .hbm, ⟨4, _⟩ => ⟨S2176x2048, .f32⟩
  | .hbm, ⟨5, _⟩ => ⟨S2176x2048, .f32⟩
  | .hbm, ⟨6, _⟩ => ⟨S2176x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S2176x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dmix.lean ====
abbrev S2176x2048 : Shape := ⟨2, ![2176, 2048]⟩
abbrev S2048x2048 : Shape := ⟨2, ![2048, 2048]⟩
abbrev S1088x2048 : Shape := ⟨2, ![1088, 2048]⟩
abbrev S1024x2048 : Shape := ⟨2, ![1024, 2048]⟩
abbrev S1088x1024 : Shape := ⟨2, ![1088, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2176x2048, .bf16⟩
  | .hbm, ⟨1, _⟩ => ⟨S2048x2048, .bf16⟩
  | .hbm, ⟨2, _⟩ => ⟨S2176x2048, .f32⟩
  | .local _ .vmem, ⟨0, _⟩ => ⟨S1088x2048, .bf16⟩
  | .local _ .vmem, ⟨1, _⟩ => ⟨S1088x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1088x1024, .f32⟩
  | .local _ .vmem, ⟨5, _⟩ => ⟨S1088x1024, .f32⟩
  | _, _ => ⟨S2176x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DmixRefIdeal.lean ====
abbrev S2176x2048 : Shape := ⟨2, ![2176, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2176x2048, .bf16⟩
  | .hbm, ⟨1, _⟩ => ⟨S2048x2048, .bf16⟩
  | .hbm, ⟨2, _⟩ => ⟨S_, .f32⟩
  | .hbm, ⟨3, _⟩ => ⟨S2176x2048, .f32⟩
  | .hbm, ⟨4, _⟩ => ⟨S2048x2048, .f32⟩
  | .hbm, ⟨5, _⟩ => ⟨S2176x2048, .f32⟩
  | .hbm, ⟨6, _⟩ => ⟨S2176x2048, .f32⟩
  | .hbm, ⟨7, _⟩ => ⟨S2176x2048, .f32⟩
  | _, _ => ⟨S2176x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== ProjQkv.lean ====
abbrev S2176x2048 : Shape := ⟨2, ![2176, 2048]⟩
abbrev S2048x2048 : Shape := ⟨2, ![2048, 2048]⟩
abbrev S512x2048 : Shape := ⟨2, ![512, 2048]⟩
abbrev S2176x512 : Shape := ⟨2, ![2176, 512]⟩

abbrev nBuf : Space → Nat
  | .hbm => 3
  | .vmem => 5
  | .smem => 0
  | _ => 0

abbrev bufTy : (tb : Table) → Fin (tcTables nBuf tb) → BufTy
  | .hbm, ⟨0, _⟩ => ⟨S2176x2048, .bf16⟩
  | .hbm, ⟨1, _⟩ => ⟨S2048x2048, .bf16⟩
  | .hbm, ⟨2, _⟩ => ⟨S2176x2048, .bf16⟩
  | .local _ .vmem, ⟨0, _⟩ => ⟨S2176x2048, .bf16⟩
  | .local _ .vmem, ⟨1, _⟩ => ⟨S512x2048, .bf16⟩
  | .local _ .vmem, ⟨2, _⟩ => ⟨S512x2048, .bf16⟩
  | .local _ .vmem, ⟨3, _⟩ => ⟨S2176x512, .bf16⟩
  | .local _ .vmem, ⟨4, _⟩ => ⟨S2176x512, .bf16⟩
  | _, _ => ⟨S2176x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 1 → Memref sig .tc .vmem S2176x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S2176x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== ProjQkvRefIdeal.lean ====
abbrev S2176x2048 : Shape := ⟨2, ![2176, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2176x2048, .bf16⟩
  | .hbm, ⟨1, _⟩ => ⟨S2048x2048, .bf16⟩
  | .hbm, ⟨2, _⟩ => ⟨S2176x2048, .f32⟩
  | .hbm, ⟨3, _⟩ => ⟨S2048x2048, .f32⟩
  | .hbm, ⟨4, _⟩ => ⟨S2048x2048, .f32⟩
  | .hbm, ⟨5, _⟩ => ⟨S2176x2048, .f32⟩
  | .hbm, ⟨6, _⟩ => ⟨S2176x2048, .bf16⟩
  | _, _ => ⟨S2176x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== ProjE.lean ====
abbrev S2176x2048 : Shape := ⟨2, ![2176, 2048]⟩
abbrev S4x1024x2048 : Shape := ⟨3, ![4, 1024, 2048]⟩
abbrev S4x2176x1024 : Shape := ⟨3, ![4, 2176, 1024]⟩
abbrev S1x512x2048 : Shape := ⟨3, ![1, 512, 2048]⟩
abbrev S1x2176x512 : Shape := ⟨3, ![1, 2176, 512]⟩
abbrev S512x2048 : Shape := ⟨2, ![512, 2048]⟩
abbrev S2176x512 : Shape := ⟨2, ![2176, 512]⟩

abbrev nBuf : Space → Nat
  | .hbm => 3
  | .vmem => 5
  | .smem => 0
  | _ => 0

abbrev bufTy : (tb : Table) → Fin (tcTables nBuf tb) → BufTy
  | .hbm, ⟨0, _⟩ => ⟨S2176x2048, .bf16⟩
  | .hbm, ⟨1, _⟩ => ⟨S4x1024x2048, .bf16⟩
  | .hbm, ⟨2, _⟩ => ⟨S4x2176x1024, .bf16⟩
  | .local _ .vmem, ⟨0, _⟩ => ⟨S2176x2048, .bf16⟩
  | .local _ .vmem, ⟨1, _⟩ => ⟨S1x512x2048, .bf16⟩
  | .local _ .vmem, ⟨2, _⟩ => ⟨S1x512x2048, .bf16⟩
  | .local _ .vmem, ⟨3, _⟩ => ⟨S1x2176x512, .bf16⟩
  | .local _ .vmem, ⟨4, _⟩ => ⟨S1x2176x512, .bf16⟩
  | _, _ => ⟨S2176x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 1 → Memref sig .tc .vmem S2176x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x2176x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== ProjERefIdeal.lean ====
abbrev S2176x2048 : Shape := ⟨2, ![2176, 2048]⟩
abbrev S4x1024x2048 : Shape := ⟨3, ![4, 1024, 2048]⟩
abbrev S4096x2048 : Shape := ⟨2, ![4096, 2048]⟩
abbrev S2048x4096 : Shape := ⟨2, ![2048, 4096]⟩
abbrev S2176x4096 : Shape := ⟨2, ![2176, 4096]⟩
abbrev S2176x4x1024 : Shape := ⟨3, ![2176, 4, 1024]⟩
abbrev S4x2176x1024 : Shape := ⟨3, ![4, 2176, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2176x2048, .bf16⟩
  | .hbm, ⟨1, _⟩ => ⟨S4x1024x2048, .bf16⟩
  | .hbm, ⟨2, _⟩ => ⟨S2176x2048, .f32⟩
  | .hbm, ⟨3, _⟩ => ⟨S4x1024x2048, .f32⟩
  | .hbm, ⟨4, _⟩ => ⟨S4096x2048, .f32⟩
  | .hbm, ⟨5, _⟩ => ⟨S2048x4096, .f32⟩
  | .hbm, ⟨6, _⟩ => ⟨S2176x4096, .f32⟩
  | .hbm, ⟨7, _⟩ => ⟨S2176x4x1024, .f32⟩
  | .hbm, ⟨8, _⟩ => ⟨S4x2176x1024, .f32⟩
  | .hbm, ⟨9, _⟩ => ⟨S4x2176x1024, .bf16⟩
  | _, _ => ⟨S2176x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== OutProj.lean ====
abbrev S2176x2048 : Shape := ⟨2, ![2176, 2048]⟩
abbrev S2048x2048 : Shape := ⟨2, ![2048, 2048]⟩
abbrev S2176x2x1024 : Shape := ⟨3, ![2176, 2, 1024]⟩
abbrev S2x2176x1024 : Shape := ⟨3, ![2, 2176, 1024]⟩
abbrev S1x1088x1024 : Shape := ⟨3, ![1, 1088, 1024]⟩
abbrev S1024x1024 : Shape := ⟨2, ![1024, 1024]⟩
abbrev S1088x1024 : Shape := ⟨2, ![1088, 1024]⟩

abbrev nBuf : Space → Nat
  | .hbm => 6
  | .vmem => 9
  | .smem => 0
  | _ => 0

abbrev bufTy : (tb : Table) → Fin (tcTables nBuf tb) → BufTy
  | .hbm, ⟨0, _⟩ => ⟨S2176x2048, .bf16⟩
  | .hbm, ⟨1, _⟩ => ⟨S2048x2048, .bf16⟩
  | .hbm, ⟨2, _⟩ => ⟨S2176x2048, .f32⟩
  | .hbm, ⟨3, _⟩ => ⟨S2176x2x1024, .bf16⟩
  | .hbm, ⟨4, _⟩ => ⟨S2x2176x1024, .bf16⟩
  | .hbm, ⟨5, _⟩ => ⟨S2176x2048, .f32⟩
  | .local _ .vmem, ⟨0, _⟩ => ⟨S1x1088x1024, .bf16⟩
  | .local _ .vmem, ⟨1, _⟩ => ⟨S1x1088x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1088x1024, .f32⟩
  | .local _ .vmem, ⟨5, _⟩ => ⟨S1088x1024, .f32⟩
  | .local _ .vmem, ⟨6, _⟩ => ⟨S1088x1024, .f32⟩
  | .local _ .vmem, ⟨7, _⟩ => ⟨S1088x1024, .f32⟩
  | .local _ .vmem, ⟨8, _⟩ => ⟨S1088x1024, .f32⟩
  | _, _ => ⟨S2176x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32_7 : BitVec 32 := 1#32
  let v12 : BitVec 1 := Scalar.cmpi .eq arg2 c1_i32_7
  let v13 : BitVec 32 := Scalar.extui v12
  let c0_i32_8 : BitVec 32 := 0#32
  let v14 : BitVec 1 := Scalar.cmpi .ne v13 c0_i32_8
  v14

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1088x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutProjRefIdeal.lean ====
abbrev S2176x2048 : Shape := ⟨2, ![2176, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2176x2048, .bf16⟩
  | .hbm, ⟨1, _⟩ => ⟨S2048x2048, .bf16⟩
  | .hbm, ⟨2, _⟩ => ⟨S2176x2048, .f32⟩
  | .hbm, ⟨3, _⟩ => ⟨S2176x2048, .f32⟩
  | .hbm, ⟨4, _⟩ => ⟨S2048x2048, .f32⟩
  | .hbm, ⟨5, _⟩ => ⟨S2176x2048, .f32⟩
  | .hbm, ⟨6, _⟩ => ⟨S2176x2048, .f32⟩
  | _, _ => ⟨S2176x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== NormBwd.lean ====
abbrev S2176x2048 : Shape := ⟨2, ![2176, 2048]⟩
abbrev S2048 : Shape := ⟨1, ![2048]⟩
abbrev S1x2048 : Shape := ⟨2, ![1, 2048]⟩
abbrev S8x2048 : Shape := ⟨2, ![8, 2048]⟩
abbrev S272x2048 : Shape := ⟨2, ![272, 2048]⟩
abbrev S272 : Shape := ⟨1, ![272]⟩
abbrev S272x1 : Shape := ⟨2, ![272, 1]⟩

abbrev nBuf : Space → Nat
  | .hbm => 8
  | .vmem => 12
  | .smem => 0
  | _ => 0

abbrev bufTy : (tb : Table) → Fin (tcTables nBuf tb) → BufTy
  | .hbm, ⟨0, _⟩ => ⟨S2176x2048, .f32⟩
  | .hbm, ⟨1, _⟩ => ⟨S2176x2048, .f32⟩
  | .hbm, ⟨2, _⟩ => ⟨S2048, .f32⟩
  | .hbm, ⟨3, _⟩ => ⟨S2176x2048, .f32⟩
  | .hbm, ⟨4, _⟩ => ⟨S1x2048, .f32⟩
  | .hbm, ⟨5, _⟩ => ⟨S2176x2048, .f32⟩
  | .hbm, ⟨6, _⟩ => ⟨S2176x2048, .bf16⟩
  | .hbm, ⟨7, _⟩ => ⟨S8x2048, .f32⟩
  | .local _ .vmem, ⟨0, _⟩ => ⟨S272x2048, .f32⟩
  | .local _ .vmem, ⟨1, _⟩ => ⟨S272x2048, .f32⟩
  | .local _ .vmem, ⟨2, _⟩ => ⟨S272x2048, .f32⟩
  | .local _ .vmem, ⟨3, _⟩ => ⟨S272x2048, .f32⟩
  | .local _ .vmem, ⟨4, _⟩ => ⟨S1x2048, .f32⟩
  | .local _ .vmem, ⟨5, _⟩ => ⟨S272x2048, .f32⟩
  | .local _ .vmem, ⟨6, _⟩ => ⟨S272x2048, .f32⟩
  | .local _ .vmem, ⟨7, _⟩ => ⟨S272x2048, .f32⟩
  | .local _ .vmem, ⟨8, _⟩ => ⟨S272x2048, .f32⟩
  | .local _ .vmem, ⟨9, _⟩ => ⟨S272x2048, .bf16⟩
  | .local _ .vmem, ⟨10, _⟩ => ⟨S272x2048, .bf16⟩
  | .local _ .vmem, ⟨11, _⟩ => ⟨S8x2048, .f32⟩
  | _, _ => ⟨S2176x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S272x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S272x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S272x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S272x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S272x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormBwdRefIdeal.lean ====
abbrev S2176x2048 : Shape := ⟨2, ![2176, 2048]⟩
abbrev S2048 : Shape := ⟨1, ![2048]⟩
abbrev S_ : Shape := ⟨0, ![]⟩
abbrev S2176 : Shape := ⟨1, ![2176]⟩
abbrev S2176x1 : Shape := ⟨2, ![2176, 1]⟩
abbrev S1x2048 : Shape := ⟨2, ![1, 2048]⟩
abbrev S8x2048 : Shape := ⟨2, ![8, 2048]⟩

abbrev nBuf : Space → Nat
  | .hbm => 55
  | .vmem => 0
  | .smem => 0
  | _ => 0

abbrev bufTy : (tb : Table) → Fin (tcTables nBuf tb) → BufTy
  | .hbm, ⟨0, _⟩ => ⟨S2176x2048, .f32⟩
  | .hbm, ⟨1, _⟩ => ⟨S2176x2048, .f32⟩
  | .hbm, ⟨2, _⟩ => ⟨S2048, .f32⟩
  | .hbm, ⟨3, _⟩ => ⟨S2176x2048, .f32⟩
  | .hbm, ⟨4, _⟩ => ⟨S2176x2048, .f32⟩
  | .hbm, ⟨5, _⟩ => ⟨S_, .f32⟩
  | .hbm, ⟨6, _⟩ => ⟨S2176, .f32⟩
  | .hbm, ⟨7, _⟩ => ⟨S2176x1, .f32⟩
  | .hbm, ⟨8, _⟩ => ⟨S_, .f32⟩
  | .hbm, ⟨9, _⟩ => ⟨S2176x1, .f32⟩
  | .hbm, ⟨10, _⟩ => ⟨S2176x1, .f32⟩
  | .hbm, ⟨11, _⟩ => ⟨S_, .f32⟩
  | .hbm, ⟨12, _⟩ => ⟨S2176x1, .f32⟩
  | .hbm, ⟨13, _⟩ => ⟨S2176x1, .f32⟩
  | .hbm, ⟨14, _⟩ => ⟨S2176x1, .f32⟩
  | .hbm, ⟨15, _⟩ => ⟨S2176x1, .f32⟩
  | .hbm, ⟨16, _⟩ => ⟨S_, .f32⟩
  | .hbm, ⟨17, _⟩ => ⟨S2176x1, .f32⟩
  | .hbm, ⟨18, _⟩ => ⟨S2176x1, .f32⟩
  | .hbm, ⟨19, _⟩ => ⟨S2176x2048, .f32⟩
  | .hbm, ⟨20, _⟩ => ⟨S2176x2048, .f32⟩
  | .hbm, ⟨21, _⟩ => ⟨S1x2048, .f32⟩
  | .hbm, ⟨22, _⟩ => ⟨S2176x2048, .f32⟩
  | .hbm, ⟨23, _⟩ => ⟨S2176x2048, .f32⟩
  | .hbm, ⟨24, _⟩ => ⟨S2176x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S2176x2048, .f32⟩
  | .hbm, ⟨29, _⟩ => ⟨S2176x2048, .f32⟩
  | .hbm, ⟨30, _⟩ => ⟨S_, .f32⟩
  | .hbm, ⟨31, _⟩ => ⟨S2048, .f32⟩
  | .hbm, ⟨32, _⟩ => ⟨S2176x2048, .f32⟩
  | .hbm, ⟨33, _⟩ => ⟨S_, .f32⟩
  | .hbm, ⟨34, _⟩ => ⟨S2176, .f32⟩
  | .hbm, ⟨35, _⟩ => ⟨S2176x1, .f32⟩
  | .hbm, ⟨36, _⟩ => ⟨S2176x2048, .f32⟩
  | .hbm, ⟨37, _⟩ => ⟨S2176x2048, .f32⟩
  | .hbm, ⟨38, _⟩ => ⟨S2176x1, .f32⟩
  | .hbm, ⟨39, _⟩ => ⟨S_, .f32⟩
  | .hbm, ⟨40, _⟩ => ⟨S2176x1, .f32⟩
  | .hbm, ⟨41, _⟩ => ⟨S2176x1, .f32⟩
  | .hbm, ⟨42, _⟩ => ⟨S_, .f32⟩
  | .hbm, ⟨43, _⟩ => ⟨S2176, .f32⟩
  | .hbm, ⟨44, _⟩ => ⟨S2176x2048, .f32⟩
  | .hbm, ⟨45, _⟩ => ⟨S2176x2048, .f32⟩
  | .hbm, ⟨46, _⟩ => ⟨S2176x2048, .f32⟩
  | .hbm, ⟨47, _⟩ => ⟨S2176x2048, .f32⟩
  | .hbm, ⟨48, _⟩ => ⟨S2176x2048, .f32⟩
  | .hbm, ⟨49, _⟩ => ⟨S2176x2048, .f32⟩
  | .hbm, ⟨50, _⟩ => ⟨S2176x2048, .bf16⟩
  | .hbm, ⟨51, _⟩ => ⟨S1x2048, .f32⟩
  | .hbm, ⟨52, _⟩ => ⟨S_, .i32⟩
  | .hbm, ⟨53, _⟩ => ⟨S_, .f32⟩
  | .hbm, ⟨54, _⟩ => ⟨S8x2048, .f32⟩
  | _, _ => ⟨S2176x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_c : Ref sig .tc := ⟨.hbm, 52, rfl⟩
abbrev main_call0_v0 : Ref sig .tc := ⟨.hbm, 53, rfl⟩
abbrev main_v39 : Ref sig .tc := ⟨.hbm, 54, rfl⟩

abbrev nD : Nat := 1
abbrev τ : Topo := Topo.v7x

variable {F : FTy → Type} [FloatOps F]
-- ==== LossHead.lean ====
abbrev S2176x2048 : Shape := ⟨2, ![2176, 2048]⟩
abbrev S2048x2048 : Shape := ⟨2, ![2048, 2048]⟩
abbrev S2048 : Shape := ⟨1, ![2048]⟩
abbrev S_ : Shape := ⟨0, ![]⟩
abbrev S1x2048 : Shape := ⟨2, ![1, 2048]⟩
abbrev S8x2048 : Shape := ⟨2, ![8, 2048]⟩
abbrev S8x128 : Shape := ⟨2, ![8, 128]⟩
abbrev S272x2048 : Shape := ⟨2, ![272, 2048]⟩
abbrev S272 : Shape := ⟨1, ![272]⟩
abbrev S272x1 : Shape := ⟨2, ![272, 1]⟩
abbrev S1 : Shape := ⟨1, ![1]⟩
abbrev S1x1 : Shape := ⟨2, ![1, 1]⟩

abbrev nBuf : Space → Nat
  | .hbm => 11
  | .vmem => 11
  | .smem => 0
  | _ => 0

abbrev bufTy : (tb : Table) → Fin (tcTables nBuf tb) → BufTy
  | .hbm, ⟨0, _⟩ => ⟨S2176x2048, .f32⟩
  | .hbm, ⟨1, _⟩ => ⟨S2048x2048, .f32⟩
  | .hbm, ⟨2, _⟩ => ⟨S2048, .f32⟩
  | .hbm, ⟨3, _⟩ => ⟨S_, .i32⟩
  | .hbm, ⟨4, _⟩ => ⟨S_, .f32⟩
  | .hbm, ⟨5, _⟩ => ⟨S2176x2048, .f32⟩
  | .hbm, ⟨6, _⟩ => ⟨S1x2048, .f32⟩
  | .hbm, ⟨7, _⟩ => ⟨S2176x2048, .f32⟩
  | .hbm, ⟨8, _⟩ => ⟨S2176x2048, .bf16⟩
  | .hbm, ⟨9, _⟩ => ⟨S8x2048, .f32⟩
  | .hbm, ⟨10, _⟩ => ⟨S8x128, .f32⟩
  | .local _ .vmem, ⟨0, _⟩ => ⟨S272x2048, .f32⟩
  | .local _ .vmem, ⟨1, _⟩ => ⟨S272x2048, .f32⟩
  | .local _ .vmem, ⟨2, _⟩ => ⟨S272x2048, .f32⟩
  | .local _ .vmem, ⟨3, _⟩ => ⟨S272x2048, .f32⟩
  | .local _ .vmem, ⟨4, _⟩ => ⟨S1x2048, .f32⟩
  | .local _ .vmem, ⟨5, _⟩ => ⟨S272x2048, .f32⟩
  | .local _ .vmem, ⟨6, _⟩ => ⟨S272x2048, .f32⟩
  | .local _ .vmem, ⟨7, _⟩ => ⟨S272x2048, .bf16⟩
  | .local _ .vmem, ⟨8, _⟩ => ⟨S272x2048, .bf16⟩
  | .local _ .vmem, ⟨9, _⟩ => ⟨S8x2048, .f32⟩
  | .local _ .vmem, ⟨10, _⟩ => ⟨S8x128, .f32⟩
  | _, _ => ⟨S2176x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S272x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S272x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S272x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S272x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossHeadRefIdeal.lean ====
abbrev S2176x2048 : Shape := ⟨2, ![2176, 2048]⟩
abbrev S2048x2048 : Shape := ⟨2, ![2048, 2048]⟩
abbrev S2048 : Shape := ⟨1, ![2048]⟩
abbrev S_ : Shape := ⟨0, ![]⟩
abbrev S2176 : Shape := ⟨1, ![2176]⟩
abbrev S2176x1 : Shape := ⟨2, ![2176, 1]⟩
abbrev S1x2048 : Shape := ⟨2, ![1, 2048]⟩
abbrev S8x2048 : Shape := ⟨2, ![8, 2048]⟩
abbrev S8x128 : Shape := ⟨2, ![8, 128]⟩

abbrev nBuf : Space → Nat
  | .hbm => 80
  | .vmem => 0
  | .smem => 0
  | _ => 0

abbrev bufTy : (tb : Table) → Fin (tcTables nBuf tb) → BufTy
  | .hbm, ⟨0, _⟩ => ⟨S2176x2048, .f32⟩
  | .hbm, ⟨1, _⟩ => ⟨S2048x2048, .f32⟩
  | .hbm, ⟨2, _⟩ => ⟨S2048, .f32⟩
  | .hbm, ⟨3, _⟩ => ⟨S2176x2048, .f32⟩
  | .hbm, ⟨4, _⟩ => ⟨S_, .f32⟩
  | .hbm, ⟨5, _⟩ => ⟨S2176, .f32⟩
  | .hbm, ⟨6, _⟩ => ⟨S2176x1, .f32⟩
  | .hbm, ⟨7, _⟩ => ⟨S_, .f32⟩
  | .hbm, ⟨8, _⟩ => ⟨S2176x1, .f32⟩
  | .hbm, ⟨9, _⟩ => ⟨S2176x1, .f32⟩
  | .hbm, ⟨10, _⟩ => ⟨S_, .f32⟩
  | .hbm, ⟨11, _⟩ => ⟨S2176x1, .f32⟩
  | .hbm, ⟨12, _⟩ => ⟨S2176x1, .f32⟩
  | .hbm, ⟨13, _⟩ => ⟨S2176x1, .f32⟩
  | .hbm, ⟨14, _⟩ => ⟨S2176x1, .f32⟩
  | .hbm, ⟨15, _⟩ => ⟨S_, .f32⟩
  | .hbm, ⟨16, _⟩ => ⟨S2176x1, .f32⟩
  | .hbm, ⟨17, _⟩ => ⟨S2176x1, .f32⟩
  | .hbm, ⟨18, _⟩ => ⟨S2176x2048, .f32⟩
  | .hbm, ⟨19, _⟩ => ⟨S2176x2048, .f32⟩
  | .hbm, ⟨20, _⟩ => ⟨S1x2048, .f32⟩
  | .hbm, ⟨21, _⟩ => ⟨S2176x2048, .f32⟩
  | .hbm, ⟨22, _⟩ => ⟨S2176x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S2048, .f32⟩
  | .hbm, ⟨31, _⟩ => ⟨S_, .f32⟩
  | .hbm, ⟨32, _⟩ => ⟨S2048, .f32⟩
  | .hbm, ⟨33, _⟩ => ⟨S2048, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S2048, .f32⟩
  | .hbm, ⟨42, _⟩ => ⟨S_, .f32⟩
  | .hbm, ⟨43, _⟩ => ⟨S2048, .f32⟩
  | .hbm, ⟨44, _⟩ => ⟨S2048, .f32⟩
  | .hbm, ⟨45, _⟩ => ⟨S2048x2048, .f32⟩
  | .hbm, ⟨46, _⟩ => ⟨S2048x2048, .f32⟩
  | .hbm, ⟨47, _⟩ => ⟨S_, .f32⟩
  | .hbm, ⟨48, _⟩ => ⟨S2176x2048, .f32⟩
  | .hbm, ⟨49, _⟩ => ⟨S2176x2048, .f32⟩
  | .hbm, ⟨50, _⟩ => ⟨S_, .f32⟩
  | .hbm, ⟨51, _⟩ => ⟨S2048, .f32⟩
  | .hbm, ⟨52, _⟩ => ⟨S1x2048, .f32⟩
  | .hbm, ⟨53, _⟩ => ⟨S2176x2048, .f32⟩
  | .hbm, ⟨54, _⟩ => ⟨S2176x2048, .f32⟩
  | .hbm, ⟨55, _⟩ => ⟨S_, .f32⟩
  | .hbm, ⟨56, _⟩ => ⟨S2048, .f32⟩
  | .hbm, ⟨57, _⟩ => ⟨S2176x2048, .f32⟩
  | .hbm, ⟨58, _⟩ => ⟨S_, .f32⟩
  | .hbm, ⟨59, _⟩ => ⟨S2176, .f32⟩
  | .hbm, ⟨60, _⟩ => ⟨S2176x1, .f32⟩
  | .hbm, ⟨61, _⟩ => ⟨S2176x2048, .f32⟩
  | .hbm, ⟨62, _⟩ => ⟨S2176x2048, .f32⟩
  | .hbm, ⟨63, _⟩ => ⟨S2176x1, .f32⟩
  | .hbm, ⟨64, _⟩ => ⟨S_, .f32⟩
  | .hbm, ⟨65, _⟩ => ⟨S2176x1, .f32⟩
  | .hbm, ⟨66, _⟩ => ⟨S2176x1, .f32⟩
  | .hbm, ⟨67, _⟩ => ⟨S_, .f32⟩
  | .hbm, ⟨68, _⟩ => ⟨S2176, .f32⟩
  | .hbm, ⟨69, _⟩ => ⟨S2176x2048, .f32⟩
  | .hbm, ⟨70, _⟩ => ⟨S2176x2048, .f32⟩
  | .hbm, ⟨71, _⟩ => ⟨S2176x2048, .f32⟩
  | .hbm, ⟨72, _⟩ => ⟨S2176x2048, .f32⟩
  | .hbm, ⟨73, _⟩ => ⟨S2176x2048, .f32⟩
  | .hbm, ⟨74, _⟩ => ⟨S2176x2048, .bf16⟩
  | .hbm, ⟨75, _⟩ => ⟨S1x2048, .f32⟩
  | .hbm, ⟨76, _⟩ => ⟨S_, .i32⟩
  | .hbm, ⟨77, _⟩ => ⟨S_, .f32⟩
  | .hbm, ⟨78, _⟩ => ⟨S8x2048, .f32⟩
  | .hbm, ⟨79, _⟩ => ⟨S8x128, .f32⟩
  | _, _ => ⟨S2176x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_cst_12 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_cst_14 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_cst_16 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_c : Ref sig .tc := ⟨.hbm, 76, rfl⟩
abbrev main_call0_v0 : Ref sig .tc := ⟨.hbm, 77, rfl⟩
abbrev main_v55 : Ref sig .tc := ⟨.hbm, 78, rfl⟩
abbrev main_v56 : Ref sig .tc := ⟨.hbm, 79, rfl⟩

abbrev nD : Nat := 1
abbrev τ : Topo := Topo.v7x

variable {F : FTy → Type} [FloatOps F]
-- ==== AdamSmall.lean ====
abbrev S176x128 : Shape := ⟨2, ![176, 128]⟩

abbrev nBuf : Space → Nat
  | .hbm => 7
  | .vmem => 7
  | .smem => 0
  | _ => 0

abbrev bufTy : (tb : Table) → Fin (tcTables nBuf tb) → BufTy
  | .hbm, ⟨0, _⟩ => ⟨S176x128, .f32⟩
  | .hbm, ⟨1, _⟩ => ⟨S176x128, .f32⟩
  | .hbm, ⟨2, _⟩ => ⟨S176x128, .f32⟩
  | .hbm, ⟨3, _⟩ => ⟨S176x128, .f32⟩
  | .hbm, ⟨4, _⟩ => ⟨S176x128, .f32⟩
  | .hbm, ⟨5, _⟩ => ⟨S176x128, .f32⟩
  | .hbm, ⟨6, _⟩ => ⟨S176x128, .f32⟩
  | .local _ .vmem, ⟨0, _⟩ => ⟨S176x128, .f32⟩
  | .local _ .vmem, ⟨1, _⟩ => ⟨S176x128, .f32⟩
  | .local _ .vmem, ⟨2, _⟩ => ⟨S176x128, .f32⟩
  | .local _ .vmem, ⟨3, _⟩ => ⟨S176x128, .f32⟩
  | .local _ .vmem, ⟨4, _⟩ => ⟨S176x128, .f32⟩
  | .local _ .vmem, ⟨5, _⟩ => ⟨S176x128, .f32⟩
  | .local _ .vmem, ⟨6, _⟩ => ⟨S176x128, .f32⟩
  | _, _ => ⟨S176x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S176x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S176x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S176x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S176x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S176x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S176x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S176x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamSmallRefIdeal.lean ====
abbrev S176x128 : Shape := ⟨2, ![176, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S176x128, .f32⟩
  | .hbm, ⟨1, _⟩ => ⟨S176x128, .f32⟩
  | .hbm, ⟨2, _⟩ => ⟨S176x128, .f32⟩
  | .hbm, ⟨3, _⟩ => ⟨S176x128, .f32⟩
  | .hbm, ⟨4, _⟩ => ⟨S_, .f32⟩
  | .hbm, ⟨5, _⟩ => ⟨S176x128, .f32⟩
  | .hbm, ⟨6, _⟩ => ⟨S176x128, .f32⟩
  | .hbm, ⟨7, _⟩ => ⟨S_, .f32⟩
  | .hbm, ⟨8, _⟩ => ⟨S176x128, .f32⟩
  | .hbm, ⟨9, _⟩ => ⟨S176x128, .f32⟩
  | .hbm, ⟨10, _⟩ => ⟨S176x128, .f32⟩
  | .hbm, ⟨11, _⟩ => ⟨S_, .f32⟩
  | .hbm, ⟨12, _⟩ => ⟨S176x128, .f32⟩
  | .hbm, ⟨13, _⟩ => ⟨S176x128, .f32⟩
  | .hbm, ⟨14, _⟩ => ⟨S176x128, .f32⟩
  | .hbm, ⟨15, _⟩ => ⟨S_, .f32⟩
  | .hbm, ⟨16, _⟩ => ⟨S176x128, .f32⟩
  | .hbm, ⟨17, _⟩ => ⟨S176x128, .f32⟩
  | .hbm, ⟨18, _⟩ => ⟨S176x128, .f32⟩
  | .hbm, ⟨19, _⟩ => ⟨S_, .f32⟩
  | .hbm, ⟨20, _⟩ => ⟨S176x128, .f32⟩
  | .hbm, ⟨21, _⟩ => ⟨S176x128, .f32⟩
  | .hbm, ⟨22, _⟩ => ⟨S_, .f32⟩
  | .hbm, ⟨23, _⟩ => ⟨S176x128, .f32⟩
  | .hbm, ⟨24, _⟩ => ⟨S176x128, .f32⟩
  | .hbm, ⟨25, _⟩ => ⟨S176x128, .f32⟩
  | .hbm, ⟨26, _⟩ => ⟨S_, .f32⟩
  | .hbm, ⟨27, _⟩ => ⟨S176x128, .f32⟩
  | .hbm, ⟨28, _⟩ => ⟨S176x128, .f32⟩
  | .hbm, ⟨29, _⟩ => ⟨S176x128, .f32⟩
  | .hbm, ⟨30, _⟩ => ⟨S_, .f32⟩
  | .hbm, ⟨31, _⟩ => ⟨S176x128, .f32⟩
  | .hbm, ⟨32, _⟩ => ⟨S176x128, .f32⟩
  | .hbm, ⟨33, _⟩ => ⟨S176x128, .f32⟩
  | .hbm, ⟨34, _⟩ => ⟨S_, .f32⟩
  | .hbm, ⟨35, _⟩ => ⟨S176x128, .f32⟩
  | .hbm, ⟨36, _⟩ => ⟨S176x128, .f32⟩
  | _, _ => ⟨S176x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamGate0.lean ====
abbrev S1024x1408 : Shape := ⟨2, ![1024, 1408]⟩
abbrev S2x2048x1408 : Shape := ⟨3, ![2, 2048, 1408]⟩
abbrev S5 : Shape := ⟨1, ![5]⟩
abbrev S128x1408 : Shape := ⟨2, ![128, 1408]⟩
abbrev S1 : Shape := ⟨1, ![1]⟩
abbrev S1x128x1408 : Shape := ⟨3, ![1, 128, 1408]⟩
abbrev S1x2048x1408 : Shape := ⟨3, ![1, 2048, 1408]⟩
abbrev S2048x1408 : Shape := ⟨2, ![2048, 1408]⟩

abbrev nBuf : Space → Nat
  | .hbm => 17
  | .vmem => 18
  | .smem => 1
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S2x2048x1408, .f32⟩
  | .hbm, ⟨3, _⟩ => ⟨S2x2048x1408, .f32⟩
  | .hbm, ⟨4, _⟩ => ⟨S2x2048x1408, .f32⟩
  | .hbm, ⟨5, _⟩ => ⟨S2x2048x1408, .f32⟩
  | .hbm, ⟨6, _⟩ => ⟨S2x2048x1408, .f32⟩
  | .hbm, ⟨7, _⟩ => ⟨S2x2048x1408, .f32⟩
  | .hbm, ⟨8, _⟩ => ⟨S2x2048x1408, .f32⟩
  | .hbm, ⟨9, _⟩ => ⟨S1x2048x1408, .f32⟩
  | .hbm, ⟨10, _⟩ => ⟨S2048x1408, .f32⟩
  | .hbm, ⟨11, _⟩ => ⟨S1x2048x1408, .f32⟩
  | .hbm, ⟨12, _⟩ => ⟨S2048x1408, .f32⟩
  | .hbm, ⟨13, _⟩ => ⟨S1x2048x1408, .f32⟩
  | .hbm, ⟨14, _⟩ => ⟨S2048x1408, .f32⟩
  | .hbm, ⟨15, _⟩ => ⟨S1x2048x1408, .f32⟩
  | .hbm, ⟨16, _⟩ => ⟨S2048x1408, .f32⟩
  | .local _ .vmem, ⟨0, _⟩ => ⟨S128x1408, .f32⟩
  | .local _ .vmem, ⟨1, _⟩ => ⟨S128x1408, .f32⟩
  | .local _ .vmem, ⟨2, _⟩ => ⟨S128x1408, .f32⟩
  | .local _ .vmem, ⟨3, _⟩ => ⟨S128x1408, .f32⟩
  | .local _ .vmem, ⟨4, _⟩ => ⟨S1x128x1408, .f32⟩
  | .local _ .vmem, ⟨5, _⟩ => ⟨S1x128x1408, .f32⟩
  | .local _ .vmem, ⟨6, _⟩ => ⟨S1x128x1408, .f32⟩
  | .local _ .vmem, ⟨7, _⟩ => ⟨S1x128x1408, .f32⟩
  | .local _ .vmem, ⟨8, _⟩ => ⟨S1x128x1408, .f32⟩
  | .local _ .vmem, ⟨9, _⟩ => ⟨S1x128x1408, .f32⟩
  | .local _ .vmem, ⟨10, _⟩ => ⟨S1x128x1408, .f32⟩
  | .local _ .vmem, ⟨11, _⟩ => ⟨S1x128x1408, .f32⟩
  | .local _ .vmem, ⟨12, _⟩ => ⟨S1x128x1408, .f32⟩
  | .local _ .vmem, ⟨13, _⟩ => ⟨S1x128x1408, .f32⟩
  | .local _ .vmem, ⟨14, _⟩ => ⟨S1x128x1408, .f32⟩
  | .local _ .vmem, ⟨15, _⟩ => ⟨S1x128x1408, .f32⟩
  | .local _ .vmem, ⟨16, _⟩ => ⟨S1x128x1408, .f32⟩
  | .local _ .vmem, ⟨17, _⟩ => ⟨S1x128x1408, .f32⟩
  | .local _ .smem, ⟨0, _⟩ => ⟨S5, .i32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S5_S1_0 : ∀ a, (![0] : Fin 1 → Nat) a + S1.size a ≤ S5.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S5) ![0] S1.size inb_S5_S1_0) numel1_S1
  let c8_i32 : BitVec 32 := 8#32
  let v1 : BitVec 32 := Scalar.muli v0 c8_i32
  let v2 : BitVec 32 := Scalar.subi arg0 v1
  let c0_i32 : BitVec 32 := 0#32
  let c7_i32 : BitVec 32 := 7#32
  let v3 : BitVec 32 := Scalar.maxsi c0_i32 v2
  let v4 : BitVec 32 := Scalar.minsi c7_i32 v3
  let c0_i32_0 : BitVec 32 := 0#32
  let c0_i32_1 : BitVec 32 := 0#32
  ![v4.toNat, c0_i32_0.toNat]

def cc0_transform_1 (inb_S5_S1_0 : ∀ a, (![0] : Fin 1 → Nat) a + S1.size a ≤ S5.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S5) ![0] S1.size inb_S5_S1_0) numel1_S1
  let c1_i32 : BitVec 32 := 1#32
  let v1 : BitVec 32 := Scalar.subi c1_i32 v0
  let c8_i32 : BitVec 32 := 8#32
  let v2 : BitVec 32 := Scalar.muli v1 c8_i32
  let v3 : BitVec 32 := Scalar.subi arg0 v2
  let c0_i32 : BitVec 32 := 0#32
  let c7_i32 : BitVec 32 := 7#32
  let v4 : BitVec 32 := Scalar.maxsi c0_i32 v3
  let v5 : BitVec 32 := Scalar.minsi c7_i32 v4
  let c0_i32_0 : BitVec 32 := 0#32
  let c0_i32_1 : BitVec 32 := 0#32
  ![v5.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamGate0Ideal.lean ====
abbrev S1024x1408 : Shape := ⟨2, ![1024, 1408]⟩
abbrev S2x2048x1408 : Shape := ⟨3, ![2, 2048, 1408]⟩
abbrev S5 : Shape := ⟨1, ![5]⟩
abbrev S128x1408 : Shape := ⟨2, ![128, 1408]⟩
abbrev S1 : Shape := ⟨1, ![1]⟩
abbrev S1x128x1408 : Shape := ⟨3, ![1, 128, 1408]⟩
abbrev S1x2048x1408 : Shape := ⟨3, ![1, 2048, 1408]⟩
abbrev S2048x1408 : Shape := ⟨2, ![2048, 1408]⟩

abbrev nBuf : Space → Nat
  | .hbm => 17
  | .vmem => 18
  | .smem => 1
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S2x2048x1408, .f32⟩
  | .hbm, ⟨3, _⟩ => ⟨S2x2048x1408, .f32⟩
  | .hbm, ⟨4, _⟩ => ⟨S2x2048x1408, .f32⟩
  | .hbm, ⟨5, _⟩ => ⟨S2x2048x1408, .f32⟩
  | .hbm, ⟨6, _⟩ => ⟨S2x2048x1408, .f32⟩
  | .hbm, ⟨7, _⟩ => ⟨S2x2048x1408, .f32⟩
  | .hbm, ⟨8, _⟩ => ⟨S2x2048x1408, .f32⟩
  | .hbm, ⟨9, _⟩ => ⟨S1x2048x1408, .f32⟩
  | .hbm, ⟨10, _⟩ => ⟨S2048x1408, .f32⟩
  | .hbm, ⟨11, _⟩ => ⟨S1x2048x1408, .f32⟩
  | .hbm, ⟨12, _⟩ => ⟨S2048x1408, .f32⟩
  | .hbm, ⟨13, _⟩ => ⟨S1x2048x1408, .f32⟩
  | .hbm, ⟨14, _⟩ => ⟨S2048x1408, .f32⟩
  | .hbm, ⟨15, _⟩ => ⟨S1x2048x1408, .f32⟩
  | .hbm, ⟨16, _⟩ => ⟨S2048x1408, .f32⟩
  | .local _ .vmem, ⟨0, _⟩ => ⟨S128x1408, .f32⟩
  | .local _ .vmem, ⟨1, _⟩ => ⟨S128x1408, .f32⟩
  | .local _ .vmem, ⟨2, _⟩ => ⟨S128x1408, .f32⟩
  | .local _ .vmem, ⟨3, _⟩ => ⟨S128x1408, .f32⟩
  | .local _ .vmem, ⟨4, _⟩ => ⟨S1x128x1408, .f32⟩
  | .local _ .vmem, ⟨5, _⟩ => ⟨S1x128x1408, .f32⟩
  | .local _ .vmem, ⟨6, _⟩ => ⟨S1x128x1408, .f32⟩
  | .local _ .vmem, ⟨7, _⟩ => ⟨S1x128x1408, .f32⟩
  | .local _ .vmem, ⟨8, _⟩ => ⟨S1x128x1408, .f32⟩
  | .local _ .vmem, ⟨9, _⟩ => ⟨S1x128x1408, .f32⟩
  | .local _ .vmem, ⟨10, _⟩ => ⟨S1x128x1408, .f32⟩
  | .local _ .vmem, ⟨11, _⟩ => ⟨S1x128x1408, .f32⟩
  | .local _ .vmem, ⟨12, _⟩ => ⟨S1x128x1408, .f32⟩
  | .local _ .vmem, ⟨13, _⟩ => ⟨S1x128x1408, .f32⟩
  | .local _ .vmem, ⟨14, _⟩ => ⟨S1x128x1408, .f32⟩
  | .local _ .vmem, ⟨15, _⟩ => ⟨S1x128x1408, .f32⟩
  | .local _ .vmem, ⟨16, _⟩ => ⟨S1x128x1408, .f32⟩
  | .local _ .vmem, ⟨17, _⟩ => ⟨S1x128x1408, .f32⟩
  | .local _ .smem, ⟨0, _⟩ => ⟨S5, .i32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S5_S1_0 : ∀ a, (![0] : Fin 1 → Nat) a + S1.size a ≤ S5.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S5) ![0] S1.size inb_S5_S1_0) numel1_S1
  let c8_i32 : BitVec 32 := 8#32
  let v1 : BitVec 32 := Scalar.muli v0 c8_i32
  let v2 : BitVec 32 := Scalar.subi arg0 v1
  let c0_i32 : BitVec 32 := 0#32
  let c7_i32 : BitVec 32 := 7#32
  let v3 : BitVec 32 := Scalar.maxsi c0_i32 v2
  let v4 : BitVec 32 := Scalar.minsi c7_i32 v3
  let c0_i32_0 : BitVec 32 := 0#32
  let c0_i32_1 : BitVec 32 := 0#32
  ![v4.toNat, c0_i32_0.toNat]

def cc0_transform_1 (inb_S5_S1_0 : ∀ a, (![0] : Fin 1 → Nat) a + S1.size a ≤ S5.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S5) ![0] S1.size inb_S5_S1_0) numel1_S1
  let c1_i32 : BitVec 32 := 1#32
  let v1 : BitVec 32 := Scalar.subi c1_i32 v0
  let c8_i32 : BitVec 32 := 8#32
  let v2 : BitVec 32 := Scalar.muli v1 c8_i32
  let v3 : BitVec 32 := Scalar.subi arg0 v2
  let c0_i32 : BitVec 32 := 0#32
  let c7_i32 : BitVec 32 := 7#32
  let v4 : BitVec 32 := Scalar.maxsi c0_i32 v3
  let v5 : BitVec 32 := Scalar.minsi c7_i32 v4
  let c0_i32_0 : BitVec 32 := 0#32
  let c0_i32_1 : BitVec 32 := 0#32
  ![v5.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamGate0RefIdeal.lean ====
abbrev S1024x1408 : Shape := ⟨2, ![1024, 1408]⟩
abbrev S2x2048x1408 : Shape := ⟨3, ![2, 2048, 1408]⟩
abbrev S5 : Shape := ⟨1, ![5]⟩
abbrev S1 : Shape := ⟨1, ![1]⟩
abbrev S_ : Shape := ⟨0, ![]⟩
abbrev S2048x1408 : Shape := ⟨2, ![2048, 1408]⟩
abbrev S1x2048x1408 : Shape := ⟨3, ![1, 2048, 1408]⟩

abbrev nBuf : Space → Nat
  | .hbm => 52
  | .vmem => 0
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S2x2048x1408, .f32⟩
  | .hbm, ⟨3, _⟩ => ⟨S2x2048x1408, .f32⟩
  | .hbm, ⟨4, _⟩ => ⟨S2x2048x1408, .f32⟩
  | .hbm, ⟨5, _⟩ => ⟨S5, .i32⟩
  | .hbm, ⟨6, _⟩ => ⟨S1, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S2048x1408, .f32⟩
  | .hbm, ⟨11, _⟩ => ⟨S2048x1408, .f32⟩
  | .hbm, ⟨12, _⟩ => ⟨S2048x1408, .f32⟩
  | .hbm, ⟨13, _⟩ => ⟨S1x2048x1408, .f32⟩
  | .hbm, ⟨14, _⟩ => ⟨S2048x1408, .f32⟩
  | .hbm, ⟨15, _⟩ => ⟨S1x2048x1408, .f32⟩
  | .hbm, ⟨16, _⟩ => ⟨S2048x1408, .f32⟩
  | .hbm, ⟨17, _⟩ => ⟨S1x2048x1408, .f32⟩
  | .hbm, ⟨18, _⟩ => ⟨S2048x1408, .f32⟩
  | .hbm, ⟨19, _⟩ => ⟨S_, .f32⟩
  | .hbm, ⟨20, _⟩ => ⟨S2048x1408, .f32⟩
  | .hbm, ⟨21, _⟩ => ⟨S2048x1408, .f32⟩
  | .hbm, ⟨22, _⟩ => ⟨S_, .f32⟩
  | .hbm, ⟨23, _⟩ => ⟨S2048x1408, .f32⟩
  | .hbm, ⟨24, _⟩ => ⟨S2048x1408, .f32⟩
  | .hbm, ⟨25, _⟩ => ⟨S2048x1408, .f32⟩
  | .hbm, ⟨26, _⟩ => ⟨S_, .f32⟩
  | .hbm, ⟨27, _⟩ => ⟨S2048x1408, .f32⟩
  | .hbm, ⟨28, _⟩ => ⟨S2048x1408, .f32⟩
  | .hbm, ⟨29, _⟩ => ⟨S2048x1408, .f32⟩
  | .hbm, ⟨30, _⟩ => ⟨S_, .f32⟩
  | .hbm, ⟨31, _⟩ => ⟨S2048x1408, .f32⟩
  | .hbm, ⟨32, _⟩ => ⟨S2048x1408, .f32⟩
  | .hbm, ⟨33, _⟩ => ⟨S2048x1408, .f32⟩
  | .hbm, ⟨34, _⟩ => ⟨S_, .f32⟩
  | .hbm, ⟨35, _⟩ => ⟨S2048x1408, .f32⟩
  | .hbm, ⟨36, _⟩ => ⟨S2048x1408, .f32⟩
  | .hbm, ⟨37, _⟩ => ⟨S_, .f32⟩
  | .hbm, ⟨38, _⟩ => ⟨S2048x1408, .f32⟩
  | .hbm, ⟨39, _⟩ => ⟨S2048x1408, .f32⟩
  | .hbm, ⟨40, _⟩ => ⟨S2048x1408, .f32⟩
  | .hbm, ⟨41, _⟩ => ⟨S_, .f32⟩
  | .hbm, ⟨42, _⟩ => ⟨S2048x1408, .f32⟩
  | .hbm, ⟨43, _⟩ => ⟨S2048x1408, .f32⟩
  | .hbm, ⟨44, _⟩ => ⟨S2048x1408, .f32⟩
  | .hbm, ⟨45, _⟩ => ⟨S_, .f32⟩
  | .hbm, ⟨46, _⟩ => ⟨S2048x1408, .f32⟩
  | .hbm, ⟨47, _⟩ => ⟨S2048x1408, .f32⟩
  | .hbm, ⟨48, _⟩ => ⟨S2048x1408, .f32⟩
  | .hbm, ⟨49, _⟩ => ⟨S_, .f32⟩
  | .hbm, ⟨50, _⟩ => ⟨S2048x1408, .f32⟩
  | .hbm, ⟨51, _⟩ => ⟨S2048x1408, .f32⟩
  | _, _ => ⟨S1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩

abbrev nD : Nat := 1
abbrev τ : Topo := Topo.v7x

variable {F : FTy → Type} [FloatOps F]
-- ==== AdamGate1.lean ====
abbrev S1024x1408 : Shape := ⟨2, ![1024, 1408]⟩
abbrev S2x2048x1408 : Shape := ⟨3, ![2, 2048, 1408]⟩
abbrev S5 : Shape := ⟨1, ![5]⟩
abbrev S128x1408 : Shape := ⟨2, ![128, 1408]⟩
abbrev S1 : Shape := ⟨1, ![1]⟩
abbrev S1x128x1408 : Shape := ⟨3, ![1, 128, 1408]⟩

abbrev nBuf : Space → Nat
  | .hbm => 13
  | .vmem => 18
  | .smem => 1
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S2x2048x1408, .f32⟩
  | .hbm, ⟨3, _⟩ => ⟨S2x2048x1408, .f32⟩
  | .hbm, ⟨4, _⟩ => ⟨S2x2048x1408, .f32⟩
  | .hbm, ⟨5, _⟩ => ⟨S2x2048x1408, .f32⟩
  | .hbm, ⟨6, _⟩ => ⟨S2x2048x1408, .f32⟩
  | .hbm, ⟨7, _⟩ => ⟨S2x2048x1408, .f32⟩
  | .hbm, ⟨8, _⟩ => ⟨S2x2048x1408, .f32⟩
  | .hbm, ⟨9, _⟩ => ⟨S2x2048x1408, .f32⟩
  | .hbm, ⟨10, _⟩ => ⟨S2x2048x1408, .f32⟩
  | .hbm, ⟨11, _⟩ => ⟨S2x2048x1408, .f32⟩
  | .hbm, ⟨12, _⟩ => ⟨S2x2048x1408, .f32⟩
  | .local _ .vmem, ⟨0, _⟩ => ⟨S128x1408, .f32⟩
  | .local _ .vmem, ⟨1, _⟩ => ⟨S128x1408, .f32⟩
  | .local _ .vmem, ⟨2, _⟩ => ⟨S128x1408, .f32⟩
  | .local _ .vmem, ⟨3, _⟩ => ⟨S128x1408, .f32⟩
  | .local _ .vmem, ⟨4, _⟩ => ⟨S1x128x1408, .f32⟩
  | .local _ .vmem, ⟨5, _⟩ => ⟨S1x128x1408, .f32⟩
  | .local _ .vmem, ⟨6, _⟩ => ⟨S1x128x1408, .f32⟩
  | .local _ .vmem, ⟨7, _⟩ => ⟨S1x128x1408, .f32⟩
  | .local _ .vmem, ⟨8, _⟩ => ⟨S1x128x1408, .f32⟩
  | .local _ .vmem, ⟨9, _⟩ => ⟨S1x128x1408, .f32⟩
  | .local _ .vmem, ⟨10, _⟩ => ⟨S1x128x1408, .f32⟩
  | .local _ .vmem, ⟨11, _⟩ => ⟨S1x128x1408, .f32⟩
  | .local _ .vmem, ⟨12, _⟩ => ⟨S1x128x1408, .f32⟩
  | .local _ .vmem, ⟨13, _⟩ => ⟨S1x128x1408, .f32⟩
  | .local _ .vmem, ⟨14, _⟩ => ⟨S1x128x1408, .f32⟩
  | .local _ .vmem, ⟨15, _⟩ => ⟨S1x128x1408, .f32⟩
  | .local _ .vmem, ⟨16, _⟩ => ⟨S1x128x1408, .f32⟩
  | .local _ .vmem, ⟨17, _⟩ => ⟨S1x128x1408, .f32⟩
  | .local _ .smem, ⟨0, _⟩ => ⟨S5, .i32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg9 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_arg9.idx], fun | 0 => main_arg9.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S5_S1_0 : ∀ a, (![0] : Fin 1 → Nat) a + S1.size a ≤ S5.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S5) ![0] S1.size inb_S5_S1_0) numel1_S1
  let c8_i32 : BitVec 32 := 8#32
  let v1 : BitVec 32 := Scalar.muli v0 c8_i32
  let v2 : BitVec 32 := Scalar.subi arg0 v1
  let c0_i32 : BitVec 32 := 0#32
  let c7_i32 : BitVec 32 := 7#32
  let v3 : BitVec 32 := Scalar.maxsi c0_i32 v2
  let v4 : BitVec 32 := Scalar.minsi c7_i32 v3
  let c0_i32_0 : BitVec 32 := 0#32
  let c0_i32_1 : BitVec 32 := 0#32
  ![v4.toNat, c0_i32_0.toNat]

def cc0_transform_1 (inb_S5_S1_0 : ∀ a, (![0] : Fin 1 → Nat) a + S1.size a ≤ S5.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S5) ![0] S1.size inb_S5_S1_0) numel1_S1
  let c1_i32 : BitVec 32 := 1#32
  let v1 : BitVec 32 := Scalar.subi c1_i32 v0
  let c8_i32 : BitVec 32 := 8#32
  let v2 : BitVec 32 := Scalar.muli v1 c8_i32
  let v3 : BitVec 32 := Scalar.subi arg0 v2
  let c0_i32 : BitVec 32 := 0#32
  let c7_i32 : BitVec 32 := 7#32
  let v4 : BitVec 32 := Scalar.maxsi c0_i32 v3
  let v5 : BitVec 32 := Scalar.minsi c7_i32 v4
  let c0_i32_0 : BitVec 32 := 0#32
  let c0_i32_1 : BitVec 32 := 0#32
  ![v5.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamGate1Ideal.lean ====
abbrev S1024x1408 : Shape := ⟨2, ![1024, 1408]⟩
abbrev S2x2048x1408 : Shape := ⟨3, ![2, 2048, 1408]⟩
abbrev S5 : Shape := ⟨1, ![5]⟩
abbrev S128x1408 : Shape := ⟨2, ![128, 1408]⟩
abbrev S1 : Shape := ⟨1, ![1]⟩
abbrev S1x128x1408 : Shape := ⟨3, ![1, 128, 1408]⟩

abbrev nBuf : Space → Nat
  | .hbm => 13
  | .vmem => 18
  | .smem => 1
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S2x2048x1408, .f32⟩
  | .hbm, ⟨3, _⟩ => ⟨S2x2048x1408, .f32⟩
  | .hbm, ⟨4, _⟩ => ⟨S2x2048x1408, .f32⟩
  | .hbm, ⟨5, _⟩ => ⟨S2x2048x1408, .f32⟩
  | .hbm, ⟨6, _⟩ => ⟨S2x2048x1408, .f32⟩
  | .hbm, ⟨7, _⟩ => ⟨S2x2048x1408, .f32⟩
  | .hbm, ⟨8, _⟩ => ⟨S2x2048x1408, .f32⟩
  | .hbm, ⟨9, _⟩ => ⟨S2x2048x1408, .f32⟩
  | .hbm, ⟨10, _⟩ => ⟨S2x2048x1408, .f32⟩
  | .hbm, ⟨11, _⟩ => ⟨S2x2048x1408, .f32⟩
  | .hbm, ⟨12, _⟩ => ⟨S2x2048x1408, .f32⟩
  | .local _ .vmem, ⟨0, _⟩ => ⟨S128x1408, .f32⟩
  | .local _ .vmem, ⟨1, _⟩ => ⟨S128x1408, .f32⟩
  | .local _ .vmem, ⟨2, _⟩ => ⟨S128x1408, .f32⟩
  | .local _ .vmem, ⟨3, _⟩ => ⟨S128x1408, .f32⟩
  | .local _ .vmem, ⟨4, _⟩ => ⟨S1x128x1408, .f32⟩
  | .local _ .vmem, ⟨5, _⟩ => ⟨S1x128x1408, .f32⟩
  | .local _ .vmem, ⟨6, _⟩ => ⟨S1x128x1408, .f32⟩
  | .local _ .vmem, ⟨7, _⟩ => ⟨S1x128x1408, .f32⟩
  | .local _ .vmem, ⟨8, _⟩ => ⟨S1x128x1408, .f32⟩
  | .local _ .vmem, ⟨9, _⟩ => ⟨S1x128x1408, .f32⟩
  | .local _ .vmem, ⟨10, _⟩ => ⟨S1x128x1408, .f32⟩
  | .local _ .vmem, ⟨11, _⟩ => ⟨S1x128x1408, .f32⟩
  | .local _ .vmem, ⟨12, _⟩ => ⟨S1x128x1408, .f32⟩
  | .local _ .vmem, ⟨13, _⟩ => ⟨S1x128x1408, .f32⟩
  | .local _ .vmem, ⟨14, _⟩ => ⟨S1x128x1408, .f32⟩
  | .local _ .vmem, ⟨15, _⟩ => ⟨S1x128x1408, .f32⟩
  | .local _ .vmem, ⟨16, _⟩ => ⟨S1x128x1408, .f32⟩
  | .local _ .vmem, ⟨17, _⟩ => ⟨S1x128x1408, .f32⟩
  | .local _ .smem, ⟨0, _⟩ => ⟨S5, .i32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg9 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_arg9.idx], fun | 0 => main_arg9.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S5_S1_0 : ∀ a, (![0] : Fin 1 → Nat) a + S1.size a ≤ S5.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S5) ![0] S1.size inb_S5_S1_0) numel1_S1
  let c8_i32 : BitVec 32 := 8#32
  let v1 : BitVec 32 := Scalar.muli v0 c8_i32
  let v2 : BitVec 32 := Scalar.subi arg0 v1
  let c0_i32 : BitVec 32 := 0#32
  let c7_i32 : BitVec 32 := 7#32
  let v3 : BitVec 32 := Scalar.maxsi c0_i32 v2
  let v4 : BitVec 32 := Scalar.minsi c7_i32 v3
  let c0_i32_0 : BitVec 32 := 0#32
  let c0_i32_1 : BitVec 32 := 0#32
  ![v4.toNat, c0_i32_0.toNat]

def cc0_transform_1 (inb_S5_S1_0 : ∀ a, (![0] : Fin 1 → Nat) a + S1.size a ≤ S5.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S5) ![0] S1.size inb_S5_S1_0) numel1_S1
  let c1_i32 : BitVec 32 := 1#32
  let v1 : BitVec 32 := Scalar.subi c1_i32 v0
  let c8_i32 : BitVec 32 := 8#32
  let v2 : BitVec 32 := Scalar.muli v1 c8_i32
  let v3 : BitVec 32 := Scalar.subi arg0 v2
  let c0_i32 : BitVec 32 := 0#32
  let c7_i32 : BitVec 32 := 7#32
  let v4 : BitVec 32 := Scalar.maxsi c0_i32 v3
  let v5 : BitVec 32 := Scalar.minsi c7_i32 v4
  let c0_i32_0 : BitVec 32 := 0#32
  let c0_i32_1 : BitVec 32 := 0#32
  ![v5.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamGate1RefIdeal.lean ====
abbrev S1024x1408 : Shape := ⟨2, ![1024, 1408]⟩
abbrev S2x2048x1408 : Shape := ⟨3, ![2, 2048, 1408]⟩
abbrev S5 : Shape := ⟨1, ![5]⟩
abbrev S1 : Shape := ⟨1, ![1]⟩
abbrev S_ : Shape := ⟨0, ![]⟩
abbrev S2048x1408 : Shape := ⟨2, ![2048, 1408]⟩
abbrev S1x2048x1408 : Shape := ⟨3, ![1, 2048, 1408]⟩

abbrev nBuf : Space → Nat
  | .hbm => 76
  | .vmem => 0
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S2x2048x1408, .f32⟩
  | .hbm, ⟨3, _⟩ => ⟨S2x2048x1408, .f32⟩
  | .hbm, ⟨4, _⟩ => ⟨S2x2048x1408, .f32⟩
  | .hbm, ⟨5, _⟩ => ⟨S2x2048x1408, .f32⟩
  | .hbm, ⟨6, _⟩ => ⟨S2x2048x1408, .f32⟩
  | .hbm, ⟨7, _⟩ => ⟨S2x2048x1408, .f32⟩
  | .hbm, ⟨8, _⟩ => ⟨S2x2048x1408, .f32⟩
  | .hbm, ⟨9, _⟩ => ⟨S5, .i32⟩
  | .hbm, ⟨10, _⟩ => ⟨S1, .i32⟩
  | .hbm, ⟨11, _⟩ => ⟨S_, .i32⟩
  | .hbm, ⟨12, _⟩ => ⟨S_, .i32⟩
  | .hbm, ⟨13, _⟩ => ⟨S_, .i1⟩
  | .hbm, ⟨14, _⟩ => ⟨S2048x1408, .f32⟩
  | .hbm, ⟨15, _⟩ => ⟨S2048x1408, .f32⟩
  | .hbm, ⟨16, _⟩ => ⟨S2048x1408, .f32⟩
  | .hbm, ⟨17, _⟩ => ⟨S1x2048x1408, .f32⟩
  | .hbm, ⟨18, _⟩ => ⟨S2048x1408, .f32⟩
  | .hbm, ⟨19, _⟩ => ⟨S1x2048x1408, .f32⟩
  | .hbm, ⟨20, _⟩ => ⟨S2048x1408, .f32⟩
  | .hbm, ⟨21, _⟩ => ⟨S1x2048x1408, .f32⟩
  | .hbm, ⟨22, _⟩ => ⟨S2048x1408, .f32⟩
  | .hbm, ⟨23, _⟩ => ⟨S_, .f32⟩
  | .hbm, ⟨24, _⟩ => ⟨S2048x1408, .f32⟩
  | .hbm, ⟨25, _⟩ => ⟨S2048x1408, .f32⟩
  | .hbm, ⟨26, _⟩ => ⟨S_, .f32⟩
  | .hbm, ⟨27, _⟩ => ⟨S2048x1408, .f32⟩
  | .hbm, ⟨28, _⟩ => ⟨S2048x1408, .f32⟩
  | .hbm, ⟨29, _⟩ => ⟨S2048x1408, .f32⟩
  | .hbm, ⟨30, _⟩ => ⟨S_, .f32⟩
  | .hbm, ⟨31, _⟩ => ⟨S2048x1408, .f32⟩
  | .hbm, ⟨32, _⟩ => ⟨S2048x1408, .f32⟩
  | .hbm, ⟨33, _⟩ => ⟨S2048x1408, .f32⟩
  | .hbm, ⟨34, _⟩ => ⟨S_, .f32⟩
  | .hbm, ⟨35, _⟩ => ⟨S2048x1408, .f32⟩
  | .hbm, ⟨36, _⟩ => ⟨S2048x1408, .f32⟩
  | .hbm, ⟨37, _⟩ => ⟨S2048x1408, .f32⟩
  | .hbm, ⟨38, _⟩ => ⟨S_, .f32⟩
  | .hbm, ⟨39, _⟩ => ⟨S2048x1408, .f32⟩
  | .hbm, ⟨40, _⟩ => ⟨S2048x1408, .f32⟩
  | .hbm, ⟨41, _⟩ => ⟨S_, .f32⟩
  | .hbm, ⟨42, _⟩ => ⟨S2048x1408, .f32⟩
  | .hbm, ⟨43, _⟩ => ⟨S2048x1408, .f32⟩
  | .hbm, ⟨44, _⟩ => ⟨S2048x1408, .f32⟩
  | .hbm, ⟨45, _⟩ => ⟨S_, .f32⟩
  | .hbm, ⟨46, _⟩ => ⟨S2048x1408, .f32⟩
  | .hbm, ⟨47, _⟩ => ⟨S2048x1408, .f32⟩
  | .hbm, ⟨48, _⟩ => ⟨S2048x1408, .f32⟩
  | .hbm, ⟨49, _⟩ => ⟨S_, .f32⟩
  | .hbm, ⟨50, _⟩ => ⟨S2048x1408, .f32⟩
  | .hbm, ⟨51, _⟩ => ⟨S2048x1408, .f32⟩
  | .hbm, ⟨52, _⟩ => ⟨S2048x1408, .f32⟩
  | .hbm, ⟨53, _⟩ => ⟨S_, .f32⟩
  | .hbm, ⟨54, _⟩ => ⟨S2048x1408, .f32⟩
  | .hbm, ⟨55, _⟩ => ⟨S2048x1408, .f32⟩
  | .hbm, ⟨56, _⟩ => ⟨S1x2048x1408, .f32⟩
  | .hbm, ⟨57, _⟩ => ⟨S2048x1408, .f32⟩
  | .hbm, ⟨58, _⟩ => ⟨S1x2048x1408, .f32⟩
  | .hbm, ⟨59, _⟩ => ⟨S1x2048x1408, .f32⟩
  | .hbm, ⟨60, _⟩ => ⟨S2x2048x1408, .f32⟩
  | .hbm, ⟨61, _⟩ => ⟨S1x2048x1408, .f32⟩
  | .hbm, ⟨62, _⟩ => ⟨S2048x1408, .f32⟩
  | .hbm, ⟨63, _⟩ => ⟨S1x2048x1408, .f32⟩
  | .hbm, ⟨64, _⟩ => ⟨S1x2048x1408, .f32⟩
  | .hbm, ⟨65, _⟩ => ⟨S2x2048x1408, .f32⟩
  | .hbm, ⟨66, _⟩ => ⟨S1x2048x1408, .f32⟩
  | .hbm, ⟨67, _⟩ => ⟨S2048x1408, .f32⟩
  | .hbm, ⟨68, _⟩ => ⟨S1x2048x1408, .f32⟩
  | .hbm, ⟨69, _⟩ => ⟨S1x2048x1408, .f32⟩
  | .hbm, ⟨70, _⟩ => ⟨S2x2048x1408, .f32⟩
  | .hbm, ⟨71, _⟩ => ⟨S1x2048x1408, .f32⟩
  | .hbm, ⟨72, _⟩ => ⟨S2048x1408, .f32⟩
  | .hbm, ⟨73, _⟩ => ⟨S1x2048x1408, .f32⟩
  | .hbm, ⟨74, _⟩ => ⟨S1x2048x1408, .f32⟩
  | .hbm, ⟨75, _⟩ => ⟨S2x2048x1408, .f32⟩
  | _, _ => ⟨S1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_cst_0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩

abbrev nD : Nat := 1
abbrev τ : Topo := Topo.v7x

variable {F : FTy → Type} [FloatOps F]
-- ==== AdamDown0.lean ====
abbrev S704x2048 : Shape := ⟨2, ![704, 2048]⟩
abbrev S2x1408x2048 : Shape := ⟨3, ![2, 1408, 2048]⟩
abbrev S5 : Shape := ⟨1, ![5]⟩
abbrev S88x2048 : Shape := ⟨2, ![88, 2048]⟩
abbrev S1 : Shape := ⟨1, ![1]⟩
abbrev S1x88x2048 : Shape := ⟨3, ![1, 88, 2048]⟩
abbrev S1x1408x2048 : Shape := ⟨3, ![1, 1408, 2048]⟩
abbrev S1408x2048 : Shape := ⟨2, ![1408, 2048]⟩

abbrev nBuf : Space → Nat
  | .hbm => 17
  | .vmem => 18
  | .smem => 1
  | _ => 0

abbrev bufTy : (tb : Table) → Fin (tcTables nBuf tb) → BufTy
  | .hbm, ⟨0, _⟩ => ⟨S704x2048, .f32⟩
  | .hbm, ⟨1, _⟩ => ⟨S704x2048, .f32⟩
  | .hbm, ⟨2, _⟩ => ⟨S2x1408x2048, .f32⟩
  | .hbm, ⟨3, _⟩ => ⟨S2x1408x2048, .f32⟩
  | .hbm, ⟨4, _⟩ => ⟨S2x1408x2048, .f32⟩
  | .hbm, ⟨5, _⟩ => ⟨S2x1408x2048, .f32⟩
  | .hbm, ⟨6, _⟩ => ⟨S2x1408x2048, .f32⟩
  | .hbm, ⟨7, _⟩ => ⟨S2x1408x2048, .f32⟩
  | .hbm, ⟨8, _⟩ => ⟨S2x1408x2048, .f32⟩
  | .hbm, ⟨9, _⟩ => ⟨S1x1408x2048, .f32⟩
  | .hbm, ⟨10, _⟩ => ⟨S1408x2048, .f32⟩
  | .hbm, ⟨11, _⟩ => ⟨S1x1408x2048, .f32⟩
  | .hbm, ⟨12, _⟩ => ⟨S1408x2048, .f32⟩
  | .hbm, ⟨13, _⟩ => ⟨S1x1408x2048, .f32⟩
  | .hbm, ⟨14, _⟩ => ⟨S1408x2048, .f32⟩
  | .hbm, ⟨15, _⟩ => ⟨S1x1408x2048, .f32⟩
  | .hbm, ⟨16, _⟩ => ⟨S1408x2048, .f32⟩
  | .local _ .vmem, ⟨0, _⟩ => ⟨S88x2048, .f32⟩
  | .local _ .vmem, ⟨1, _⟩ => ⟨S88x2048, .f32⟩
  | .local _ .vmem, ⟨2, _⟩ => ⟨S88x2048, .f32⟩
  | .local _ .vmem, ⟨3, _⟩ => ⟨S88x2048, .f32⟩
  | .local _ .vmem, ⟨4, _⟩ => ⟨S1x88x2048, .f32⟩
  | .local _ .vmem, ⟨5, _⟩ => ⟨S1x88x2048, .f32⟩
  | .local _ .vmem, ⟨6, _⟩ => ⟨S1x88x2048, .f32⟩
  | .local _ .vmem, ⟨7, _⟩ => ⟨S1x88x2048, .f32⟩
  | .local _ .vmem, ⟨8, _⟩ => ⟨S1x88x2048, .f32⟩
  | .local _ .vmem, ⟨9, _⟩ => ⟨S1x88x2048, .f32⟩
  | .local _ .vmem, ⟨10, _⟩ => ⟨S1x88x2048, .f32⟩
  | .local _ .vmem, ⟨11, _⟩ => ⟨S1x88x2048, .f32⟩
  | .local _ .vmem, ⟨12, _⟩ => ⟨S1x88x2048, .f32⟩
  | .local _ .vmem, ⟨13, _⟩ => ⟨S1x88x2048, .f32⟩
  | .local _ .vmem, ⟨14, _⟩ => ⟨S1x88x2048, .f32⟩
  | .local _ .vmem, ⟨15, _⟩ => ⟨S1x88x2048, .f32⟩
  | .local _ .vmem, ⟨16, _⟩ => ⟨S1x88x2048, .f32⟩
  | .local _ .vmem, ⟨17, _⟩ => ⟨S1x88x2048, .f32⟩
  | .local _ .smem, ⟨0, _⟩ => ⟨S5, .i32⟩
  | _, _ => ⟨S704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S5_S1_0 : ∀ a, (![0] : Fin 1 → Nat) a + S1.size a ≤ S5.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S5) ![0] S1.size inb_S5_S1_0) numel1_S1
  let c8_i32 : BitVec 32 := 8#32
  let v1 : BitVec 32 := Scalar.muli v0 c8_i32
  let v2 : BitVec 32 := Scalar.subi arg0 v1
  let c0_i32 : BitVec 32 := 0#32
  let c7_i32 : BitVec 32 := 7#32
  let v3 : BitVec 32 := Scalar.maxsi c0_i32 v2
  let v4 : BitVec 32 := Scalar.minsi c7_i32 v3
  let c0_i32_0 : BitVec 32 := 0#32
  let c0_i32_1 : BitVec 32 := 0#32
  ![v4.toNat, c0_i32_0.toNat]

def cc0_transform_1 (inb_S5_S1_0 : ∀ a, (![0] : Fin 1 → Nat) a + S1.size a ≤ S5.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S5) ![0] S1.size inb_S5_S1_0) numel1_S1
  let c1_i32 : BitVec 32 := 1#32
  let v1 : BitVec 32 := Scalar.subi c1_i32 v0
  let c8_i32 : BitVec 32 := 8#32
  let v2 : BitVec 32 := Scalar.muli v1 c8_i32
  let v3 : BitVec 32 := Scalar.subi arg0 v2
  let c0_i32 : BitVec 32 := 0#32
  let c7_i32 : BitVec 32 := 7#32
  let v4 : BitVec 32 := Scalar.maxsi c0_i32 v3
  let v5 : BitVec 32 := Scalar.minsi c7_i32 v4
  let c0_i32_0 : BitVec 32 := 0#32
  let c0_i32_1 : BitVec 32 := 0#32
  ![v5.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S88x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S88x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x88x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x88x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x88x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x88x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x88x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x88x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x88x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamDown0Ideal.lean ====
abbrev S704x2048 : Shape := ⟨2, ![704, 2048]⟩
abbrev S2x1408x2048 : Shape := ⟨3, ![2, 1408, 2048]⟩
abbrev S5 : Shape := ⟨1, ![5]⟩
abbrev S88x2048 : Shape := ⟨2, ![88, 2048]⟩
abbrev S1 : Shape := ⟨1, ![1]⟩
abbrev S1x88x2048 : Shape := ⟨3, ![1, 88, 2048]⟩
abbrev S1x1408x2048 : Shape := ⟨3, ![1, 1408, 2048]⟩
abbrev S1408x2048 : Shape := ⟨2, ![1408, 2048]⟩

abbrev nBuf : Space → Nat
  | .hbm => 17
  | .vmem => 18
  | .smem => 1
  | _ => 0

abbrev bufTy : (tb : Table) → Fin (tcTables nBuf tb) → BufTy
  | .hbm, ⟨0, _⟩ => ⟨S704x2048, .f32⟩
  | .hbm, ⟨1, _⟩ => ⟨S704x2048, .f32⟩
  | .hbm, ⟨2, _⟩ => ⟨S2x1408x2048, .f32⟩
  | .hbm, ⟨3, _⟩ => ⟨S2x1408x2048, .f32⟩
  | .hbm, ⟨4, _⟩ => ⟨S2x1408x2048, .f32⟩
  | .hbm, ⟨5, _⟩ => ⟨S2x1408x2048, .f32⟩
  | .hbm, ⟨6, _⟩ => ⟨S2x1408x2048, .f32⟩
  | .hbm, ⟨7, _⟩ => ⟨S2x1408x2048, .f32⟩
  | .hbm, ⟨8, _⟩ => ⟨S2x1408x2048, .f32⟩
  | .hbm, ⟨9, _⟩ => ⟨S1x1408x2048, .f32⟩
  | .hbm, ⟨10, _⟩ => ⟨S1408x2048, .f32⟩
  | .hbm, ⟨11, _⟩ => ⟨S1x1408x2048, .f32⟩
  | .hbm, ⟨12, _⟩ => ⟨S1408x2048, .f32⟩
  | .hbm, ⟨13, _⟩ => ⟨S1x1408x2048, .f32⟩
  | .hbm, ⟨14, _⟩ => ⟨S1408x2048, .f32⟩
  | .hbm, ⟨15, _⟩ => ⟨S1x1408x2048, .f32⟩
  | .hbm, ⟨16, _⟩ => ⟨S1408x2048, .f32⟩
  | .local _ .vmem, ⟨0, _⟩ => ⟨S88x2048, .f32⟩
  | .local _ .vmem, ⟨1, _⟩ => ⟨S88x2048, .f32⟩
  | .local _ .vmem, ⟨2, _⟩ => ⟨S88x2048, .f32⟩
  | .local _ .vmem, ⟨3, _⟩ => ⟨S88x2048, .f32⟩
  | .local _ .vmem, ⟨4, _⟩ => ⟨S1x88x2048, .f32⟩
  | .local _ .vmem, ⟨5, _⟩ => ⟨S1x88x2048, .f32⟩
  | .local _ .vmem, ⟨6, _⟩ => ⟨S1x88x2048, .f32⟩
  | .local _ .vmem, ⟨7, _⟩ => ⟨S1x88x2048, .f32⟩
  | .local _ .vmem, ⟨8, _⟩ => ⟨S1x88x2048, .f32⟩
  | .local _ .vmem, ⟨9, _⟩ => ⟨S1x88x2048, .f32⟩
  | .local _ .vmem, ⟨10, _⟩ => ⟨S1x88x2048, .f32⟩
  | .local _ .vmem, ⟨11, _⟩ => ⟨S1x88x2048, .f32⟩
  | .local _ .vmem, ⟨12, _⟩ => ⟨S1x88x2048, .f32⟩
  | .local _ .vmem, ⟨13, _⟩ => ⟨S1x88x2048, .f32⟩
  | .local _ .vmem, ⟨14, _⟩ => ⟨S1x88x2048, .f32⟩
  | .local _ .vmem, ⟨15, _⟩ => ⟨S1x88x2048, .f32⟩
  | .local _ .vmem, ⟨16, _⟩ => ⟨S1x88x2048, .f32⟩
  | .local _ .vmem, ⟨17, _⟩ => ⟨S1x88x2048, .f32⟩
  | .local _ .smem, ⟨0, _⟩ => ⟨S5, .i32⟩
  | _, _ => ⟨S704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S5_S1_0 : ∀ a, (![0] : Fin 1 → Nat) a + S1.size a ≤ S5.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S5) ![0] S1.size inb_S5_S1_0) numel1_S1
  let c8_i32 : BitVec 32 := 8#32
  let v1 : BitVec 32 := Scalar.muli v0 c8_i32
  let v2 : BitVec 32 := Scalar.subi arg0 v1
  let c0_i32 : BitVec 32 := 0#32
  let c7_i32 : BitVec 32 := 7#32
  let v3 : BitVec 32 := Scalar.maxsi c0_i32 v2
  let v4 : BitVec 32 := Scalar.minsi c7_i32 v3
  let c0_i32_0 : BitVec 32 := 0#32
  let c0_i32_1 : BitVec 32 := 0#32
  ![v4.toNat, c0_i32_0.toNat]

def cc0_transform_1 (inb_S5_S1_0 : ∀ a, (![0] : Fin 1 → Nat) a + S1.size a ≤ S5.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S5) ![0] S1.size inb_S5_S1_0) numel1_S1
  let c1_i32 : BitVec 32 := 1#32
  let v1 : BitVec 32 := Scalar.subi c1_i32 v0
  let c8_i32 : BitVec 32 := 8#32
  let v2 : BitVec 32 := Scalar.muli v1 c8_i32
  let v3 : BitVec 32 := Scalar.subi arg0 v2
  let c0_i32 : BitVec 32 := 0#32
  let c7_i32 : BitVec 32 := 7#32
  let v4 : BitVec 32 := Scalar.maxsi c0_i32 v3
  let v5 : BitVec 32 := Scalar.minsi c7_i32 v4
  let c0_i32_0 : BitVec 32 := 0#32
  let c0_i32_1 : BitVec 32 := 0#32
  ![v5.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S88x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S88x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x88x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x88x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x88x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x88x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x88x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x88x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x88x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamDown0RefIdeal.lean ====
abbrev S704x2048 : Shape := ⟨2, ![704, 2048]⟩
abbrev S2x1408x2048 : Shape := ⟨3, ![2, 1408, 2048]⟩
abbrev S5 : Shape := ⟨1, ![5]⟩
abbrev S1 : Shape := ⟨1, ![1]⟩
abbrev S_ : Shape := ⟨0, ![]⟩
abbrev S1408x2048 : Shape := ⟨2, ![1408, 2048]⟩
abbrev S1x1408x2048 : Shape := ⟨3, ![1, 1408, 2048]⟩

abbrev nBuf : Space → Nat
  | .hbm => 52
  | .vmem => 0
  | .smem => 0
  | _ => 0

abbrev bufTy : (tb : Table) → Fin (tcTables nBuf tb) → BufTy
  | .hbm, ⟨0, _⟩ => ⟨S704x2048, .f32⟩
  | .hbm, ⟨1, _⟩ => ⟨S704x2048, .f32⟩
  | .hbm, ⟨2, _⟩ => ⟨S2x1408x2048, .f32⟩
  | .hbm, ⟨3, _⟩ => ⟨S2x1408x2048, .f32⟩
  | .hbm, ⟨4, _⟩ => ⟨S2x1408x2048, .f32⟩
  | .hbm, ⟨5, _⟩ => ⟨S5, .i32⟩
  | .hbm, ⟨6, _⟩ => ⟨S1, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S1408x2048, .f32⟩
  | .hbm, ⟨11, _⟩ => ⟨S1408x2048, .f32⟩
  | .hbm, ⟨12, _⟩ => ⟨S1408x2048, .f32⟩
  | .hbm, ⟨13, _⟩ => ⟨S1x1408x2048, .f32⟩
  | .hbm, ⟨14, _⟩ => ⟨S1408x2048, .f32⟩
  | .hbm, ⟨15, _⟩ => ⟨S1x1408x2048, .f32⟩
  | .hbm, ⟨16, _⟩ => ⟨S1408x2048, .f32⟩
  | .hbm, ⟨17, _⟩ => ⟨S1x1408x2048, .f32⟩
  | .hbm, ⟨18, _⟩ => ⟨S1408x2048, .f32⟩
  | .hbm, ⟨19, _⟩ => ⟨S_, .f32⟩
  | .hbm, ⟨20, _⟩ => ⟨S1408x2048, .f32⟩
  | .hbm, ⟨21, _⟩ => ⟨S1408x2048, .f32⟩
  | .hbm, ⟨22, _⟩ => ⟨S_, .f32⟩
  | .hbm, ⟨23, _⟩ => ⟨S1408x2048, .f32⟩
  | .hbm, ⟨24, _⟩ => ⟨S1408x2048, .f32⟩
  | .hbm, ⟨25, _⟩ => ⟨S1408x2048, .f32⟩
  | .hbm, ⟨26, _⟩ => ⟨S_, .f32⟩
  | .hbm, ⟨27, _⟩ => ⟨S1408x2048, .f32⟩
  | .hbm, ⟨28, _⟩ => ⟨S1408x2048, .f32⟩
  | .hbm, ⟨29, _⟩ => ⟨S1408x2048, .f32⟩
  | .hbm, ⟨30, _⟩ => ⟨S_, .f32⟩
  | .hbm, ⟨31, _⟩ => ⟨S1408x2048, .f32⟩
  | .hbm, ⟨32, _⟩ => ⟨S1408x2048, .f32⟩
  | .hbm, ⟨33, _⟩ => ⟨S1408x2048, .f32⟩
  | .hbm, ⟨34, _⟩ => ⟨S_, .f32⟩
  | .hbm, ⟨35, _⟩ => ⟨S1408x2048, .f32⟩
  | .hbm, ⟨36, _⟩ => ⟨S1408x2048, .f32⟩
  | .hbm, ⟨37, _⟩ => ⟨S_, .f32⟩
  | .hbm, ⟨38, _⟩ => ⟨S1408x2048, .f32⟩
  | .hbm, ⟨39, _⟩ => ⟨S1408x2048, .f32⟩
  | .hbm, ⟨40, _⟩ => ⟨S1408x2048, .f32⟩
  | .hbm, ⟨41, _⟩ => ⟨S_, .f32⟩
  | .hbm, ⟨42, _⟩ => ⟨S1408x2048, .f32⟩
  | .hbm, ⟨43, _⟩ => ⟨S1408x2048, .f32⟩
  | .hbm, ⟨44, _⟩ => ⟨S1408x2048, .f32⟩
  | .hbm, ⟨45, _⟩ => ⟨S_, .f32⟩
  | .hbm, ⟨46, _⟩ => ⟨S1408x2048, .f32⟩
  | .hbm, ⟨47, _⟩ => ⟨S1408x2048, .f32⟩
  | .hbm, ⟨48, _⟩ => ⟨S1408x2048, .f32⟩
  | .hbm, ⟨49, _⟩ => ⟨S_, .f32⟩
  | .hbm, ⟨50, _⟩ => ⟨S1408x2048, .f32⟩
  | .hbm, ⟨51, _⟩ => ⟨S1408x2048, .f32⟩
  | _, _ => ⟨S704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩

abbrev nD : Nat := 1
abbrev τ : Topo := Topo.v7x

variable {F : FTy → Type} [FloatOps F]
-- ==== AdamDown1.lean ====
abbrev S704x2048 : Shape := ⟨2, ![704, 2048]⟩
abbrev S2x1408x2048 : Shape := ⟨3, ![2, 1408, 2048]⟩
abbrev S5 : Shape := ⟨1, ![5]⟩
abbrev S88x2048 : Shape := ⟨2, ![88, 2048]⟩
abbrev S1 : Shape := ⟨1, ![1]⟩
abbrev S1x88x2048 : Shape := ⟨3, ![1, 88, 2048]⟩

abbrev nBuf : Space → Nat
  | .hbm => 13
  | .vmem => 18
  | .smem => 1
  | _ => 0

abbrev bufTy : (tb : Table) → Fin (tcTables nBuf tb) → BufTy
  | .hbm, ⟨0, _⟩ => ⟨S704x2048, .f32⟩
  | .hbm, ⟨1, _⟩ => ⟨S704x2048, .f32⟩
  | .hbm, ⟨2, _⟩ => ⟨S2x1408x2048, .f32⟩
  | .hbm, ⟨3, _⟩ => ⟨S2x1408x2048, .f32⟩
  | .hbm, ⟨4, _⟩ => ⟨S2x1408x2048, .f32⟩
  | .hbm, ⟨5, _⟩ => ⟨S2x1408x2048, .f32⟩
  | .hbm, ⟨6, _⟩ => ⟨S2x1408x2048, .f32⟩
  | .hbm, ⟨7, _⟩ => ⟨S2x1408x2048, .f32⟩
  | .hbm, ⟨8, _⟩ => ⟨S2x1408x2048, .f32⟩
  | .hbm, ⟨9, _⟩ => ⟨S2x1408x2048, .f32⟩
  | .hbm, ⟨10, _⟩ => ⟨S2x1408x2048, .f32⟩
  | .hbm, ⟨11, _⟩ => ⟨S2x1408x2048, .f32⟩
  | .hbm, ⟨12, _⟩ => ⟨S2x1408x2048, .f32⟩
  | .local _ .vmem, ⟨0, _⟩ => ⟨S88x2048, .f32⟩
  | .local _ .vmem, ⟨1, _⟩ => ⟨S88x2048, .f32⟩
  | .local _ .vmem, ⟨2, _⟩ => ⟨S88x2048, .f32⟩
  | .local _ .vmem, ⟨3, _⟩ => ⟨S88x2048, .f32⟩
  | .local _ .vmem, ⟨4, _⟩ => ⟨S1x88x2048, .f32⟩
  | .local _ .vmem, ⟨5, _⟩ => ⟨S1x88x2048, .f32⟩
  | .local _ .vmem, ⟨6, _⟩ => ⟨S1x88x2048, .f32⟩
  | .local _ .vmem, ⟨7, _⟩ => ⟨S1x88x2048, .f32⟩
  | .local _ .vmem, ⟨8, _⟩ => ⟨S1x88x2048, .f32⟩
  | .local _ .vmem, ⟨9, _⟩ => ⟨S1x88x2048, .f32⟩
  | .local _ .vmem, ⟨10, _⟩ => ⟨S1x88x2048, .f32⟩
  | .local _ .vmem, ⟨11, _⟩ => ⟨S1x88x2048, .f32⟩
  | .local _ .vmem, ⟨12, _⟩ => ⟨S1x88x2048, .f32⟩
  | .local _ .vmem, ⟨13, _⟩ => ⟨S1x88x2048, .f32⟩
  | .local _ .vmem, ⟨14, _⟩ => ⟨S1x88x2048, .f32⟩
  | .local _ .vmem, ⟨15, _⟩ => ⟨S1x88x2048, .f32⟩
  | .local _ .vmem, ⟨16, _⟩ => ⟨S1x88x2048, .f32⟩
  | .local _ .vmem, ⟨17, _⟩ => ⟨S1x88x2048, .f32⟩
  | .local _ .smem, ⟨0, _⟩ => ⟨S5, .i32⟩
  | _, _ => ⟨S704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg9 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_arg9.idx], fun | 0 => main_arg9.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S5_S1_0 : ∀ a, (![0] : Fin 1 → Nat) a + S1.size a ≤ S5.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S5) ![0] S1.size inb_S5_S1_0) numel1_S1
  let c8_i32 : BitVec 32 := 8#32
  let v1 : BitVec 32 := Scalar.muli v0 c8_i32
  let v2 : BitVec 32 := Scalar.subi arg0 v1
  let c0_i32 : BitVec 32 := 0#32
  let c7_i32 : BitVec 32 := 7#32
  let v3 : BitVec 32 := Scalar.maxsi c0_i32 v2
  let v4 : BitVec 32 := Scalar.minsi c7_i32 v3
  let c0_i32_0 : BitVec 32 := 0#32
  let c0_i32_1 : BitVec 32 := 0#32
  ![v4.toNat, c0_i32_0.toNat]

def cc0_transform_1 (inb_S5_S1_0 : ∀ a, (![0] : Fin 1 → Nat) a + S1.size a ≤ S5.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S5) ![0] S1.size inb_S5_S1_0) numel1_S1
  let c1_i32 : BitVec 32 := 1#32
  let v1 : BitVec 32 := Scalar.subi c1_i32 v0
  let c8_i32 : BitVec 32 := 8#32
  let v2 : BitVec 32 := Scalar.muli v1 c8_i32
  let v3 : BitVec 32 := Scalar.subi arg0 v2
  let c0_i32 : BitVec 32 := 0#32
  let c7_i32 : BitVec 32 := 7#32
  let v4 : BitVec 32 := Scalar.maxsi c0_i32 v3
  let v5 : BitVec 32 := Scalar.minsi c7_i32 v4
  let c0_i32_0 : BitVec 32 := 0#32
  let c0_i32_1 : BitVec 32 := 0#32
  ![v5.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S88x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S88x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x88x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x88x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x88x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x88x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x88x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x88x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x88x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamDown1Ideal.lean ====
abbrev S704x2048 : Shape := ⟨2, ![704, 2048]⟩
abbrev S2x1408x2048 : Shape := ⟨3, ![2, 1408, 2048]⟩
abbrev S5 : Shape := ⟨1, ![5]⟩
abbrev S88x2048 : Shape := ⟨2, ![88, 2048]⟩
abbrev S1 : Shape := ⟨1, ![1]⟩
abbrev S1x88x2048 : Shape := ⟨3, ![1, 88, 2048]⟩

abbrev nBuf : Space → Nat
  | .hbm => 13
  | .vmem => 18
  | .smem => 1
  | _ => 0

abbrev bufTy : (tb : Table) → Fin (tcTables nBuf tb) → BufTy
  | .hbm, ⟨0, _⟩ => ⟨S704x2048, .f32⟩
  | .hbm, ⟨1, _⟩ => ⟨S704x2048, .f32⟩
  | .hbm, ⟨2, _⟩ => ⟨S2x1408x2048, .f32⟩
  | .hbm, ⟨3, _⟩ => ⟨S2x1408x2048, .f32⟩
  | .hbm, ⟨4, _⟩ => ⟨S2x1408x2048, .f32⟩
  | .hbm, ⟨5, _⟩ => ⟨S2x1408x2048, .f32⟩
  | .hbm, ⟨6, _⟩ => ⟨S2x1408x2048, .f32⟩
  | .hbm, ⟨7, _⟩ => ⟨S2x1408x2048, .f32⟩
  | .hbm, ⟨8, _⟩ => ⟨S2x1408x2048, .f32⟩
  | .hbm, ⟨9, _⟩ => ⟨S2x1408x2048, .f32⟩
  | .hbm, ⟨10, _⟩ => ⟨S2x1408x2048, .f32⟩
  | .hbm, ⟨11, _⟩ => ⟨S2x1408x2048, .f32⟩
  | .hbm, ⟨12, _⟩ => ⟨S2x1408x2048, .f32⟩
  | .local _ .vmem, ⟨0, _⟩ => ⟨S88x2048, .f32⟩
  | .local _ .vmem, ⟨1, _⟩ => ⟨S88x2048, .f32⟩
  | .local _ .vmem, ⟨2, _⟩ => ⟨S88x2048, .f32⟩
  | .local _ .vmem, ⟨3, _⟩ => ⟨S88x2048, .f32⟩
  | .local _ .vmem, ⟨4, _⟩ => ⟨S1x88x2048, .f32⟩
  | .local _ .vmem, ⟨5, _⟩ => ⟨S1x88x2048, .f32⟩
  | .local _ .vmem, ⟨6, _⟩ => ⟨S1x88x2048, .f32⟩
  | .local _ .vmem, ⟨7, _⟩ => ⟨S1x88x2048, .f32⟩
  | .local _ .vmem, ⟨8, _⟩ => ⟨S1x88x2048, .f32⟩
  | .local _ .vmem, ⟨9, _⟩ => ⟨S1x88x2048, .f32⟩
  | .local _ .vmem, ⟨10, _⟩ => ⟨S1x88x2048, .f32⟩
  | .local _ .vmem, ⟨11, _⟩ => ⟨S1x88x2048, .f32⟩
  | .local _ .vmem, ⟨12, _⟩ => ⟨S1x88x2048, .f32⟩
  | .local _ .vmem, ⟨13, _⟩ => ⟨S1x88x2048, .f32⟩
  | .local _ .vmem, ⟨14, _⟩ => ⟨S1x88x2048, .f32⟩
  | .local _ .vmem, ⟨15, _⟩ => ⟨S1x88x2048, .f32⟩
  | .local _ .vmem, ⟨16, _⟩ => ⟨S1x88x2048, .f32⟩
  | .local _ .vmem, ⟨17, _⟩ => ⟨S1x88x2048, .f32⟩
  | .local _ .smem, ⟨0, _⟩ => ⟨S5, .i32⟩
  | _, _ => ⟨S704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg9 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_arg9.idx], fun | 0 => main_arg9.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S5_S1_0 : ∀ a, (![0] : Fin 1 → Nat) a + S1.size a ≤ S5.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S5) ![0] S1.size inb_S5_S1_0) numel1_S1
  let c8_i32 : BitVec 32 := 8#32
  let v1 : BitVec 32 := Scalar.muli v0 c8_i32
  let v2 : BitVec 32 := Scalar.subi arg0 v1
  let c0_i32 : BitVec 32 := 0#32
  let c7_i32 : BitVec 32 := 7#32
  let v3 : BitVec 32 := Scalar.maxsi c0_i32 v2
  let v4 : BitVec 32 := Scalar.minsi c7_i32 v3
  let c0_i32_0 : BitVec 32 := 0#32
  let c0_i32_1 : BitVec 32 := 0#32
  ![v4.toNat, c0_i32_0.toNat]

def cc0_transform_1 (inb_S5_S1_0 : ∀ a, (![0] : Fin 1 → Nat) a + S1.size a ≤ S5.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S5) ![0] S1.size inb_S5_S1_0) numel1_S1
  let c1_i32 : BitVec 32 := 1#32
  let v1 : BitVec 32 := Scalar.subi c1_i32 v0
  let c8_i32 : BitVec 32 := 8#32
  let v2 : BitVec 32 := Scalar.muli v1 c8_i32
  let v3 : BitVec 32 := Scalar.subi arg0 v2
  let c0_i32 : BitVec 32 := 0#32
  let c7_i32 : BitVec 32 := 7#32
  let v4 : BitVec 32 := Scalar.maxsi c0_i32 v3
  let v5 : BitVec 32 := Scalar.minsi c7_i32 v4
  let c0_i32_0 : BitVec 32 := 0#32
  let c0_i32_1 : BitVec 32 := 0#32
  ![v5.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S88x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S88x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x88x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x88x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x88x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x88x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x88x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x88x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x88x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamDown1RefIdeal.lean ====
abbrev S704x2048 : Shape := ⟨2, ![704, 2048]⟩
abbrev S2x1408x2048 : Shape := ⟨3, ![2, 1408, 2048]⟩
abbrev S5 : Shape := ⟨1, ![5]⟩
abbrev S1 : Shape := ⟨1, ![1]⟩
abbrev S_ : Shape := ⟨0, ![]⟩
abbrev S1408x2048 : Shape := ⟨2, ![1408, 2048]⟩
abbrev S1x1408x2048 : Shape := ⟨3, ![1, 1408, 2048]⟩

abbrev nBuf : Space → Nat
  | .hbm => 76
  | .vmem => 0
  | .smem => 0
  | _ => 0

abbrev bufTy : (tb : Table) → Fin (tcTables nBuf tb) → BufTy
  | .hbm, ⟨0, _⟩ => ⟨S704x2048, .f32⟩
  | .hbm, ⟨1, _⟩ => ⟨S704x2048, .f32⟩
  | .hbm, ⟨2, _⟩ => ⟨S2x1408x2048, .f32⟩
  | .hbm, ⟨3, _⟩ => ⟨S2x1408x2048, .f32⟩
  | .hbm, ⟨4, _⟩ => ⟨S2x1408x2048, .f32⟩
  | .hbm, ⟨5, _⟩ => ⟨S2x1408x2048, .f32⟩
  | .hbm, ⟨6, _⟩ => ⟨S2x1408x2048, .f32⟩
  | .hbm, ⟨7, _⟩ => ⟨S2x1408x2048, .f32⟩
  | .hbm, ⟨8, _⟩ => ⟨S2x1408x2048, .f32⟩
  | .hbm, ⟨9, _⟩ => ⟨S5, .i32⟩
  | .hbm, ⟨10, _⟩ => ⟨S1, .i32⟩
  | .hbm, ⟨11, _⟩ => ⟨S_, .i32⟩
  | .hbm, ⟨12, _⟩ => ⟨S_, .i32⟩
  | .hbm, ⟨13, _⟩ => ⟨S_, .i1⟩
  | .hbm, ⟨14, _⟩ => ⟨S1408x2048, .f32⟩
  | .hbm, ⟨15, _⟩ => ⟨S1408x2048, .f32⟩
  | .hbm, ⟨16, _⟩ => ⟨S1408x2048, .f32⟩
  | .hbm, ⟨17, _⟩ => ⟨S1x1408x2048, .f32⟩
  | .hbm, ⟨18, _⟩ => ⟨S1408x2048, .f32⟩
  | .hbm, ⟨19, _⟩ => ⟨S1x1408x2048, .f32⟩
  | .hbm, ⟨20, _⟩ => ⟨S1408x2048, .f32⟩
  | .hbm, ⟨21, _⟩ => ⟨S1x1408x2048, .f32⟩
  | .hbm, ⟨22, _⟩ => ⟨S1408x2048, .f32⟩
  | .hbm, ⟨23, _⟩ => ⟨S_, .f32⟩
  | .hbm, ⟨24, _⟩ => ⟨S1408x2048, .f32⟩
  | .hbm, ⟨25, _⟩ => ⟨S1408x2048, .f32⟩
  | .hbm, ⟨26, _⟩ => ⟨S_, .f32⟩
  | .hbm, ⟨27, _⟩ => ⟨S1408x2048, .f32⟩
  | .hbm, ⟨28, _⟩ => ⟨S1408x2048, .f32⟩
  | .hbm, ⟨29, _⟩ => ⟨S1408x2048, .f32⟩
  | .hbm, ⟨30, _⟩ => ⟨S_, .f32⟩
  | .hbm, ⟨31, _⟩ => ⟨S1408x2048, .f32⟩
  | .hbm, ⟨32, _⟩ => ⟨S1408x2048, .f32⟩
  | .hbm, ⟨33, _⟩ => ⟨S1408x2048, .f32⟩
  | .hbm, ⟨34, _⟩ => ⟨S_, .f32⟩
  | .hbm, ⟨35, _⟩ => ⟨S1408x2048, .f32⟩
  | .hbm, ⟨36, _⟩ => ⟨S1408x2048, .f32⟩
  | .hbm, ⟨37, _⟩ => ⟨S1408x2048, .f32⟩
  | .hbm, ⟨38, _⟩ => ⟨S_, .f32⟩
  | .hbm, ⟨39, _⟩ => ⟨S1408x2048, .f32⟩
  | .hbm, ⟨40, _⟩ => ⟨S1408x2048, .f32⟩
  | .hbm, ⟨41, _⟩ => ⟨S_, .f32⟩
  | .hbm, ⟨42, _⟩ => ⟨S1408x2048, .f32⟩
  | .hbm, ⟨43, _⟩ => ⟨S1408x2048, .f32⟩
  | .hbm, ⟨44, _⟩ => ⟨S1408x2048, .f32⟩
  | .hbm, ⟨45, _⟩ => ⟨S_, .f32⟩
  | .hbm, ⟨46, _⟩ => ⟨S1408x2048, .f32⟩
  | .hbm, ⟨47, _⟩ => ⟨S1408x2048, .f32⟩
  | .hbm, ⟨48, _⟩ => ⟨S1408x2048, .f32⟩
  | .hbm, ⟨49, _⟩ => ⟨S_, .f32⟩
  | .hbm, ⟨50, _⟩ => ⟨S1408x2048, .f32⟩
  | .hbm, ⟨51, _⟩ => ⟨S1408x2048, .f32⟩
  | .hbm, ⟨52, _⟩ => ⟨S1408x2048, .f32⟩
  | .hbm, ⟨53, _⟩ => ⟨S_, .f32⟩
  | .hbm, ⟨54, _⟩ => ⟨S1408x2048, .f32⟩
  | .hbm, ⟨55, _⟩ => ⟨S1408x2048, .f32⟩
  | .hbm, ⟨56, _⟩ => ⟨S1x1408x2048, .f32⟩
  | .hbm, ⟨57, _⟩ => ⟨S1408x2048, .f32⟩
  | .hbm, ⟨58, _⟩ => ⟨S1x1408x2048, .f32⟩
  | .hbm, ⟨59, _⟩ => ⟨S1x1408x2048, .f32⟩
  | .hbm, ⟨60, _⟩ => ⟨S2x1408x2048, .f32⟩
  | .hbm, ⟨61, _⟩ => ⟨S1x1408x2048, .f32⟩
  | .hbm, ⟨62, _⟩ => ⟨S1408x2048, .f32⟩
  | .hbm, ⟨63, _⟩ => ⟨S1x1408x2048, .f32⟩
  | .hbm, ⟨64, _⟩ => ⟨S1x1408x2048, .f32⟩
  | .hbm, ⟨65, _⟩ => ⟨S2x1408x2048, .f32⟩
  | .hbm, ⟨66, _⟩ => ⟨S1x1408x2048, .f32⟩
  | .hbm, ⟨67, _⟩ => ⟨S1408x2048, .f32⟩
  | .hbm, ⟨68, _⟩ => ⟨S1x1408x2048, .f32⟩
  | .hbm, ⟨69, _⟩ => ⟨S1x1408x2048, .f32⟩
  | .hbm, ⟨70, _⟩ => ⟨S2x1408x2048, .f32⟩
  | .hbm, ⟨71, _⟩ => ⟨S1x1408x2048, .f32⟩
  | .hbm, ⟨72, _⟩ => ⟨S1408x2048, .f32⟩
  | .hbm, ⟨73, _⟩ => ⟨S1x1408x2048, .f32⟩
  | .hbm, ⟨74, _⟩ => ⟨S1x1408x2048, .f32⟩
  | .hbm, ⟨75, _⟩ => ⟨S2x1408x2048, .f32⟩
  | _, _ => ⟨S704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_cst_0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩

abbrev nD : Nat := 1
abbrev τ : Topo := Topo.v7x

variable {F : FTy → Type} [FloatOps F]
-- ==== AdamOut0.lean ====
abbrev S256x2048 : Shape := ⟨2, ![256, 2048]⟩
abbrev S2x512x2048 : Shape := ⟨3, ![2, 512, 2048]⟩
abbrev S5 : Shape := ⟨1, ![5]⟩
abbrev S128x2048 : Shape := ⟨2, ![128, 2048]⟩
abbrev S1 : Shape := ⟨1, ![1]⟩
abbrev S1x128x2048 : Shape := ⟨3, ![1, 128, 2048]⟩
abbrev S1x512x2048 : Shape := ⟨3, ![1, 512, 2048]⟩
abbrev S512x2048 : Shape := ⟨2, ![512, 2048]⟩

abbrev nBuf : Space → Nat
  | .hbm => 17
  | .vmem => 18
  | .smem => 1
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S2x512x2048, .f32⟩
  | .hbm, ⟨3, _⟩ => ⟨S2x512x2048, .f32⟩
  | .hbm, ⟨4, _⟩ => ⟨S2x512x2048, .f32⟩
  | .hbm, ⟨5, _⟩ => ⟨S2x512x2048, .f32⟩
  | .hbm, ⟨6, _⟩ => ⟨S2x512x2048, .f32⟩
  | .hbm, ⟨7, _⟩ => ⟨S2x512x2048, .f32⟩
  | .hbm, ⟨8, _⟩ => ⟨S2x512x2048, .f32⟩
  | .hbm, ⟨9, _⟩ => ⟨S1x512x2048, .f32⟩
  | .hbm, ⟨10, _⟩ => ⟨S512x2048, .f32⟩
  | .hbm, ⟨11, _⟩ => ⟨S1x512x2048, .f32⟩
  | .hbm, ⟨12, _⟩ => ⟨S512x2048, .f32⟩
  | .hbm, ⟨13, _⟩ => ⟨S1x512x2048, .f32⟩
  | .hbm, ⟨14, _⟩ => ⟨S512x2048, .f32⟩
  | .hbm, ⟨15, _⟩ => ⟨S1x512x2048, .f32⟩
  | .hbm, ⟨16, _⟩ => ⟨S512x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | .local _ .vmem, ⟨16, _⟩ => ⟨S1x128x2048, .f32⟩
  | .local _ .vmem, ⟨17, _⟩ => ⟨S1x128x2048, .f32⟩
  | .local _ .smem, ⟨0, _⟩ => ⟨S5, .i32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S5_S1_0 : ∀ a, (![0] : Fin 1 → Nat) a + S1.size a ≤ S5.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S5) ![0] S1.size inb_S5_S1_0) numel1_S1
  let c2_i32 : BitVec 32 := 2#32
  let v1 : BitVec 32 := Scalar.muli v0 c2_i32
  let v2 : BitVec 32 := Scalar.subi arg0 v1
  let c0_i32 : BitVec 32 := 0#32
  let c1_i32 : BitVec 32 := 1#32
  let v3 : BitVec 32 := Scalar.maxsi c0_i32 v2
  let v4 : BitVec 32 := Scalar.minsi c1_i32 v3
  let c0_i32_0 : BitVec 32 := 0#32
  let c0_i32_1 : BitVec 32 := 0#32
  ![v4.toNat, c0_i32_0.toNat]

def cc0_transform_1 (inb_S5_S1_0 : ∀ a, (![0] : Fin 1 → Nat) a + S1.size a ≤ S5.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S5) ![0] S1.size inb_S5_S1_0) numel1_S1
  let c1_i32 : BitVec 32 := 1#32
  let v1 : BitVec 32 := Scalar.subi c1_i32 v0
  let c2_i32 : BitVec 32 := 2#32
  let v2 : BitVec 32 := Scalar.muli v1 c2_i32
  let v3 : BitVec 32 := Scalar.subi arg0 v2
  let c0_i32 : BitVec 32 := 0#32
  let c1_i32_0 : BitVec 32 := 1#32
  let v4 : BitVec 32 := Scalar.maxsi c0_i32 v3
  let v5 : BitVec 32 := Scalar.minsi c1_i32_0 v4
  let c0_i32_1 : BitVec 32 := 0#32
  let c0_i32_2 : BitVec 32 := 0#32
  ![v5.toNat, c0_i32_1.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamOut0RefIdeal.lean ====
abbrev S256x2048 : Shape := ⟨2, ![256, 2048]⟩
abbrev S2x512x2048 : Shape := ⟨3, ![2, 512, 2048]⟩
abbrev S5 : Shape := ⟨1, ![5]⟩
abbrev S1 : Shape := ⟨1, ![1]⟩
abbrev S_ : Shape := ⟨0, ![]⟩
abbrev S512x2048 : Shape := ⟨2, ![512, 2048]⟩
abbrev S1x512x2048 : Shape := ⟨3, ![1, 512, 2048]⟩

abbrev nBuf : Space → Nat
  | .hbm => 52
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S2x512x2048, .f32⟩
  | .hbm, ⟨3, _⟩ => ⟨S2x512x2048, .f32⟩
  | .hbm, ⟨4, _⟩ => ⟨S2x512x2048, .f32⟩
  | .hbm, ⟨5, _⟩ => ⟨S5, .i32⟩
  | .hbm, ⟨6, _⟩ => ⟨S1, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S512x2048, .f32⟩
  | .hbm, ⟨11, _⟩ => ⟨S512x2048, .f32⟩
  | .hbm, ⟨12, _⟩ => ⟨S512x2048, .f32⟩
  | .hbm, ⟨13, _⟩ => ⟨S1x512x2048, .f32⟩
  | .hbm, ⟨14, _⟩ => ⟨S512x2048, .f32⟩
  | .hbm, ⟨15, _⟩ => ⟨S1x512x2048, .f32⟩
  | .hbm, ⟨16, _⟩ => ⟨S512x2048, .f32⟩
  | .hbm, ⟨17, _⟩ => ⟨S1x512x2048, .f32⟩
  | .hbm, ⟨18, _⟩ => ⟨S512x2048, .f32⟩
  | .hbm, ⟨19, _⟩ => ⟨S_, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S512x2048, .f32⟩
  | .hbm, ⟨26, _⟩ => ⟨S_, .f32⟩
  | .hbm, ⟨27, _⟩ => ⟨S512x2048, .f32⟩
  | .hbm, ⟨28, _⟩ => ⟨S512x2048, .f32⟩
  | .hbm, ⟨29, _⟩ => ⟨S512x2048, .f32⟩
  | .hbm, ⟨30, _⟩ => ⟨S_, .f32⟩
  | .hbm, ⟨31, _⟩ => ⟨S512x2048, .f32⟩
  | .hbm, ⟨32, _⟩ => ⟨S512x2048, .f32⟩
  | .hbm, ⟨33, _⟩ => ⟨S512x2048, .f32⟩
  | .hbm, ⟨34, _⟩ => ⟨S_, .f32⟩
  | .hbm, ⟨35, _⟩ => ⟨S512x2048, .f32⟩
  | .hbm, ⟨36, _⟩ => ⟨S512x2048, .f32⟩
  | .hbm, ⟨37, _⟩ => ⟨S_, .f32⟩
  | .hbm, ⟨38, _⟩ => ⟨S512x2048, .f32⟩
  | .hbm, ⟨39, _⟩ => ⟨S512x2048, .f32⟩
  | .hbm, ⟨40, _⟩ => ⟨S512x2048, .f32⟩
  | .hbm, ⟨41, _⟩ => ⟨S_, .f32⟩
  | .hbm, ⟨42, _⟩ => ⟨S512x2048, .f32⟩
  | .hbm, ⟨43, _⟩ => ⟨S512x2048, .f32⟩
  | .hbm, ⟨44, _⟩ => ⟨S512x2048, .f32⟩
  | .hbm, ⟨45, _⟩ => ⟨S_, .f32⟩
  | .hbm, ⟨46, _⟩ => ⟨S512x2048, .f32⟩
  | .hbm, ⟨47, _⟩ => ⟨S512x2048, .f32⟩
  | .hbm, ⟨48, _⟩ => ⟨S512x2048, .f32⟩
  | .hbm, ⟨49, _⟩ => ⟨S_, .f32⟩
  | .hbm, ⟨50, _⟩ => ⟨S512x2048, .f32⟩
  | .hbm, ⟨51, _⟩ => ⟨S512x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩

abbrev nD : Nat := 1
abbrev τ : Topo := Topo.v7x

variable {F : FTy → Type} [FloatOps F]
-- ==== AdamOut1.lean ====
abbrev S256x2048 : Shape := ⟨2, ![256, 2048]⟩
abbrev S2x512x2048 : Shape := ⟨3, ![2, 512, 2048]⟩
abbrev S5 : Shape := ⟨1, ![5]⟩
abbrev S128x2048 : Shape := ⟨2, ![128, 2048]⟩
abbrev S1 : Shape := ⟨1, ![1]⟩
abbrev S1x128x2048 : Shape := ⟨3, ![1, 128, 2048]⟩

abbrev nBuf : Space → Nat
  | .hbm => 13
  | .vmem => 18
  | .smem => 1
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S2x512x2048, .f32⟩
  | .hbm, ⟨3, _⟩ => ⟨S2x512x2048, .f32⟩
  | .hbm, ⟨4, _⟩ => ⟨S2x512x2048, .f32⟩
  | .hbm, ⟨5, _⟩ => ⟨S2x512x2048, .f32⟩
  | .hbm, ⟨6, _⟩ => ⟨S2x512x2048, .f32⟩
  | .hbm, ⟨7, _⟩ => ⟨S2x512x2048, .f32⟩
  | .hbm, ⟨8, _⟩ => ⟨S2x512x2048, .f32⟩
  | .hbm, ⟨9, _⟩ => ⟨S2x512x2048, .f32⟩
  | .hbm, ⟨10, _⟩ => ⟨S2x512x2048, .f32⟩
  | .hbm, ⟨11, _⟩ => ⟨S2x512x2048, .f32⟩
  | .hbm, ⟨12, _⟩ => ⟨S2x512x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | .local _ .vmem, ⟨16, _⟩ => ⟨S1x128x2048, .f32⟩
  | .local _ .vmem, ⟨17, _⟩ => ⟨S1x128x2048, .f32⟩
  | .local _ .smem, ⟨0, _⟩ => ⟨S5, .i32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg9 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg9.idx], fun | 0 => main_arg9.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S5_S1_0 : ∀ a, (![0] : Fin 1 → Nat) a + S1.size a ≤ S5.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S5) ![0] S1.size inb_S5_S1_0) numel1_S1
  let c2_i32 : BitVec 32 := 2#32
  let v1 : BitVec 32 := Scalar.muli v0 c2_i32
  let v2 : BitVec 32 := Scalar.subi arg0 v1
  let c0_i32 : BitVec 32 := 0#32
  let c1_i32 : BitVec 32 := 1#32
  let v3 : BitVec 32 := Scalar.maxsi c0_i32 v2
  let v4 : BitVec 32 := Scalar.minsi c1_i32 v3
  let c0_i32_0 : BitVec 32 := 0#32
  let c0_i32_1 : BitVec 32 := 0#32
  ![v4.toNat, c0_i32_0.toNat]

def cc0_transform_1 (inb_S5_S1_0 : ∀ a, (![0] : Fin 1 → Nat) a + S1.size a ≤ S5.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S5) ![0] S1.size inb_S5_S1_0) numel1_S1
  let c1_i32 : BitVec 32 := 1#32
  let v1 : BitVec 32 := Scalar.subi c1_i32 v0
  let c2_i32 : BitVec 32 := 2#32
  let v2 : BitVec 32 := Scalar.muli v1 c2_i32
  let v3 : BitVec 32 := Scalar.subi arg0 v2
  let c0_i32 : BitVec 32 := 0#32
  let c1_i32_0 : BitVec 32 := 1#32
  let v4 : BitVec 32 := Scalar.maxsi c0_i32 v3
  let v5 : BitVec 32 := Scalar.minsi c1_i32_0 v4
  let c0_i32_1 : BitVec 32 := 0#32
  let c0_i32_2 : BitVec 32 := 0#32
  ![v5.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamOut1RefIdeal.lean ====
abbrev S256x2048 : Shape := ⟨2, ![256, 2048]⟩
abbrev S2x512x2048 : Shape := ⟨3, ![2, 512, 2048]⟩
abbrev S5 : Shape := ⟨1, ![5]⟩
abbrev S1 : Shape := ⟨1, ![1]⟩
abbrev S_ : Shape := ⟨0, ![]⟩
abbrev S512x2048 : Shape := ⟨2, ![512, 2048]⟩
abbrev S1x512x2048 : Shape := ⟨3, ![1, 512, 2048]⟩

abbrev nBuf : Space → Nat
  | .hbm => 76
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S2x512x2048, .f32⟩
  | .hbm, ⟨3, _⟩ => ⟨S2x512x2048, .f32⟩
  | .hbm, ⟨4, _⟩ => ⟨S2x512x2048, .f32⟩
  | .hbm, ⟨5, _⟩ => ⟨S2x512x2048, .f32⟩
  | .hbm, ⟨6, _⟩ => ⟨S2x512x2048, .f32⟩
  | .hbm, ⟨7, _⟩ => ⟨S2x512x2048, .f32⟩
  | .hbm, ⟨8, _⟩ => ⟨S2x512x2048, .f32⟩
  | .hbm, ⟨9, _⟩ => ⟨S5, .i32⟩
  | .hbm, ⟨10, _⟩ => ⟨S1, .i32⟩
  | .hbm, ⟨11, _⟩ => ⟨S_, .i32⟩
  | .hbm, ⟨12, _⟩ => ⟨S_, .i32⟩
  | .hbm, ⟨13, _⟩ => ⟨S_, .i1⟩
  | .hbm, ⟨14, _⟩ => ⟨S512x2048, .f32⟩
  | .hbm, ⟨15, _⟩ => ⟨S512x2048, .f32⟩
  | .hbm, ⟨16, _⟩ => ⟨S512x2048, .f32⟩
  | .hbm, ⟨17, _⟩ => ⟨S1x512x2048, .f32⟩
  | .hbm, ⟨18, _⟩ => ⟨S512x2048, .f32⟩
  | .hbm, ⟨19, _⟩ => ⟨S1x512x2048, .f32⟩
  | .hbm, ⟨20, _⟩ => ⟨S512x2048, .f32⟩
  | .hbm, ⟨21, _⟩ => ⟨S1x512x2048, .f32⟩
  | .hbm, ⟨22, _⟩ => ⟨S512x2048, .f32⟩
  | .hbm, ⟨23, _⟩ => ⟨S_, .f32⟩
  | .hbm, ⟨24, _⟩ => ⟨S512x2048, .f32⟩
  | .hbm, ⟨25, _⟩ => ⟨S512x2048, .f32⟩
  | .hbm, ⟨26, _⟩ => ⟨S_, .f32⟩
  | .hbm, ⟨27, _⟩ => ⟨S512x2048, .f32⟩
  | .hbm, ⟨28, _⟩ => ⟨S512x2048, .f32⟩
  | .hbm, ⟨29, _⟩ => ⟨S512x2048, .f32⟩
  | .hbm, ⟨30, _⟩ => ⟨S_, .f32⟩
  | .hbm, ⟨31, _⟩ => ⟨S512x2048, .f32⟩
  | .hbm, ⟨32, _⟩ => ⟨S512x2048, .f32⟩
  | .hbm, ⟨33, _⟩ => ⟨S512x2048, .f32⟩
  | .hbm, ⟨34, _⟩ => ⟨S_, .f32⟩
  | .hbm, ⟨35, _⟩ => ⟨S512x2048, .f32⟩
  | .hbm, ⟨36, _⟩ => ⟨S512x2048, .f32⟩
  | .hbm, ⟨37, _⟩ => ⟨S512x2048, .f32⟩
  | .hbm, ⟨38, _⟩ => ⟨S_, .f32⟩
  | .hbm, ⟨39, _⟩ => ⟨S512x2048, .f32⟩
  | .hbm, ⟨40, _⟩ => ⟨S512x2048, .f32⟩
  | .hbm, ⟨41, _⟩ => ⟨S_, .f32⟩
  | .hbm, ⟨42, _⟩ => ⟨S512x2048, .f32⟩
  | .hbm, ⟨43, _⟩ => ⟨S512x2048, .f32⟩
  | .hbm, ⟨44, _⟩ => ⟨S512x2048, .f32⟩
  | .hbm, ⟨45, _⟩ => ⟨S_, .f32⟩
  | .hbm, ⟨46, _⟩ => ⟨S512x2048, .f32⟩
  | .hbm, ⟨47, _⟩ => ⟨S512x2048, .f32⟩
  | .hbm, ⟨48, _⟩ => ⟨S512x2048, .f32⟩
  | .hbm, ⟨49, _⟩ => ⟨S_, .f32⟩
  | .hbm, ⟨50, _⟩ => ⟨S512x2048, .f32⟩
  | .hbm, ⟨51, _⟩ => ⟨S512x2048, .f32⟩
  | .hbm, ⟨52, _⟩ => ⟨S512x2048, .f32⟩
  | .hbm, ⟨53, _⟩ => ⟨S_, .f32⟩
  | .hbm, ⟨54, _⟩ => ⟨S512x2048, .f32⟩
  | .hbm, ⟨55, _⟩ => ⟨S512x2048, .f32⟩
  | .hbm, ⟨56, _⟩ => ⟨S1x512x2048, .f32⟩
  | .hbm, ⟨57, _⟩ => ⟨S512x2048, .f32⟩
  | .hbm, ⟨58, _⟩ => ⟨S1x512x2048, .f32⟩
  | .hbm, ⟨59, _⟩ => ⟨S1x512x2048, .f32⟩
  | .hbm, ⟨60, _⟩ => ⟨S2x512x2048, .f32⟩
  | .hbm, ⟨61, _⟩ => ⟨S1x512x2048, .f32⟩
  | .hbm, ⟨62, _⟩ => ⟨S512x2048, .f32⟩
  | .hbm, ⟨63, _⟩ => ⟨S1x512x2048, .f32⟩
  | .hbm, ⟨64, _⟩ => ⟨S1x512x2048, .f32⟩
  | .hbm, ⟨65, _⟩ => ⟨S2x512x2048, .f32⟩
  | .hbm, ⟨66, _⟩ => ⟨S1x512x2048, .f32⟩
  | .hbm, ⟨67, _⟩ => ⟨S512x2048, .f32⟩
  | .hbm, ⟨68, _⟩ => ⟨S1x512x2048, .f32⟩
  | .hbm, ⟨69, _⟩ => ⟨S1x512x2048, .f32⟩
  | .hbm, ⟨70, _⟩ => ⟨S2x512x2048, .f32⟩
  | .hbm, ⟨71, _⟩ => ⟨S1x512x2048, .f32⟩
  | .hbm, ⟨72, _⟩ => ⟨S512x2048, .f32⟩
  | .hbm, ⟨73, _⟩ => ⟨S1x512x2048, .f32⟩
  | .hbm, ⟨74, _⟩ => ⟨S1x512x2048, .f32⟩
  | .hbm, ⟨75, _⟩ => ⟨S2x512x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_cst_0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩

abbrev nD : Nat := 1
abbrev τ : Topo := Topo.v7x

variable {F : FTy → Type} [FloatOps F]
-- ==== AdamIn.lean ====
abbrev S1538x1024 : Shape := ⟨2, ![1538, 1024]⟩
abbrev S2x2048x1538 : Shape := ⟨3, ![2, 2048, 1538]⟩
abbrev S5 : Shape := ⟨1, ![5]⟩
abbrev S1538x2x2048 : Shape := ⟨3, ![1538, 2, 2048]⟩
abbrev S1538x128 : Shape := ⟨2, ![1538, 128]⟩
abbrev S1 : Shape := ⟨1, ![1]⟩
abbrev S1538x2x128 : Shape := ⟨3, ![1538, 2, 128]⟩
abbrev S1538x1x128 : Shape := ⟨3, ![1538, 1, 128]⟩

abbrev nBuf : Space → Nat
  | .hbm => 18
  | .vmem => 22
  | .smem => 1
  | _ => 0

abbrev bufTy : (tb : Table) → Fin (tcTables nBuf tb) → BufTy
  | .hbm, ⟨0, _⟩ => ⟨S1538x1024, .f32⟩
  | .hbm, ⟨1, _⟩ => ⟨S1538x1024, .f32⟩
  | .hbm, ⟨2, _⟩ => ⟨S1538x1024, .f32⟩
  | .hbm, ⟨3, _⟩ => ⟨S1538x1024, .f32⟩
  | .hbm, ⟨4, _⟩ => ⟨S2x2048x1538, .f32⟩
  | .hbm, ⟨5, _⟩ => ⟨S2x2048x1538, .f32⟩
  | .hbm, ⟨6, _⟩ => ⟨S2x2048x1538, .f32⟩
  | .hbm, ⟨7, _⟩ => ⟨S1538x2x2048, .f32⟩
  | .hbm, ⟨8, _⟩ => ⟨S1538x2x2048, .f32⟩
  | .hbm, ⟨9, _⟩ => ⟨S1538x2x2048, .f32⟩
  | .hbm, ⟨10, _⟩ => ⟨S1538x2x2048, .f32⟩
  | .hbm, ⟨11, _⟩ => ⟨S1538x2x2048, .f32⟩
  | .hbm, ⟨12, _⟩ => ⟨S1538x2x2048, .f32⟩
  | .hbm, ⟨13, _⟩ => ⟨S1538x2x2048, .f32⟩
  | .hbm, ⟨14, _⟩ => ⟨S2x2048x1538, .f32⟩
  | .hbm, ⟨15, _⟩ => ⟨S2x2048x1538, .f32⟩
  | .hbm, ⟨16, _⟩ => ⟨S2x2048x1538, .f32⟩
  | .hbm, ⟨17, _⟩ => ⟨S2x2048x1538, .f32⟩
  | .local _ .vmem, ⟨0, _⟩ => ⟨S1538x128, .f32⟩
  | .local _ .vmem, ⟨1, _⟩ => ⟨S1538x128, .f32⟩
  | .local _ .vmem, ⟨2, _⟩ => ⟨S1538x128, .f32⟩
  | .local _ .vmem, ⟨3, _⟩ => ⟨S1538x128, .f32⟩
  | .local _ .vmem, ⟨4, _⟩ => ⟨S1538x128, .f32⟩
  | .local _ .vmem, ⟨5, _⟩ => ⟨S1538x128, .f32⟩
  | .local _ .vmem, ⟨6, _⟩ => ⟨S1538x128, .f32⟩
  | .local _ .vmem, ⟨7, _⟩ => ⟨S1538x128, .f32⟩
  | .local _ .vmem, ⟨8, _⟩ => ⟨S1538x2x128, .f32⟩
  | .local _ .vmem, ⟨9, _⟩ => ⟨S1538x2x128, .f32⟩
  | .local _ .vmem, ⟨10, _⟩ => ⟨S1538x2x128, .f32⟩
  | .local _ .vmem, ⟨11, _⟩ => ⟨S1538x2x128, .f32⟩
  | .local _ .vmem, ⟨12, _⟩ => ⟨S1538x2x128, .f32⟩
  | .local _ .vmem, ⟨13, _⟩ => ⟨S1538x2x128, .f32⟩
  | .local _ .vmem, ⟨14, _⟩ => ⟨S1538x2x128, .f32⟩
  | .local _ .vmem, ⟨15, _⟩ => ⟨S1538x2x128, .f32⟩
  | .local _ .vmem, ⟨16, _⟩ => ⟨S1538x2x128, .f32⟩
  | .local _ .vmem, ⟨17, _⟩ => ⟨S1538x2x128, .f32⟩
  | .local _ .vmem, ⟨18, _⟩ => ⟨S1538x2x128, .f32⟩
  | .local _ .vmem, ⟨19, _⟩ => ⟨S1538x2x128, .f32⟩
  | .local _ .vmem, ⟨20, _⟩ => ⟨S1538x2x128, .f32⟩
  | .local _ .vmem, ⟨21, _⟩ => ⟨S1538x2x128, .f32⟩
  | .local _ .smem, ⟨0, _⟩ => ⟨S5, .i32⟩
  | _, _ => ⟨S1538x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_arg7 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_arg7.idx], fun | 0 => main_arg7.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S5_S1_0 : ∀ a, (![0] : Fin 1 → Nat) a + S1.size a ≤ S5.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S5) ![0] S1.size inb_S5_S1_0) numel1_S1
  let c8_i32 : BitVec 32 := 8#32
  let v1 : BitVec 32 := Scalar.muli v0 c8_i32
  let v2 : BitVec 32 := Scalar.subi arg0 v1
  let c0_i32 : BitVec 32 := 0#32
  let c7_i32 : BitVec 32 := 7#32
  let v3 : BitVec 32 := Scalar.maxsi c0_i32 v2
  let v4 : BitVec 32 := Scalar.minsi c7_i32 v3
  let c0_i32_0 : BitVec 32 := 0#32
  let c0_i32_1 : BitVec 32 := 0#32
  ![c0_i32_0.toNat, v4.toNat]

def cc0_transform_1 (inb_S5_S1_0 : ∀ a, (![0] : Fin 1 → Nat) a + S1.size a ≤ S5.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S5) ![0] S1.size inb_S5_S1_0) numel1_S1
  let c1_i32 : BitVec 32 := 1#32
  let v1 : BitVec 32 := Scalar.subi c1_i32 v0
  let c8_i32 : BitVec 32 := 8#32
  let v2 : BitVec 32 := Scalar.muli v1 c8_i32
  let v3 : BitVec 32 := Scalar.subi arg0 v2
  let c0_i32 : BitVec 32 := 0#32
  let c7_i32 : BitVec 32 := 7#32
  let v4 : BitVec 32 := Scalar.maxsi c0_i32 v3
  let v5 : BitVec 32 := Scalar.minsi c7_i32 v4
  let c0_i32_0 : BitVec 32 := 0#32
  let c0_i32_1 : BitVec 32 := 0#32
  ![c0_i32_0.toNat, v5.toNat]

def cc0_transform_2 (inb_S5_S1_0 : ∀ a, (![0] : Fin 1 → Nat) a + S1.size a ≤ S5.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S5) ![0] S1.size inb_S5_S1_0) numel1_S1
  let c8_i32 : BitVec 32 := 8#32
  let v1 : BitVec 32 := Scalar.muli v0 c8_i32
  let v2 : BitVec 32 := Scalar.subi arg0 v1
  let c0_i32 : BitVec 32 := 0#32
  let c7_i32 : BitVec 32 := 7#32
  let v3 : BitVec 32 := Scalar.maxsi c0_i32 v2
  let v4 : BitVec 32 := Scalar.minsi c7_i32 v3
  let c0_i32_0 : BitVec 32 := 0#32
  let c0_i32_1 : BitVec 32 := 0#32
  ![c0_i32_0.toNat, v4.toNat]

def cc0_transform_3 (inb_S5_S1_0 : ∀ a, (![0] : Fin 1 → Nat) a + S1.size a ≤ S5.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S5) ![0] S1.size inb_S5_S1_0) numel1_S1
  let c1_i32 : BitVec 32 := 1#32
  let v1 : BitVec 32 := Scalar.subi c1_i32 v0
  let c8_i32 : BitVec 32 := 8#32
  let v2 : BitVec 32 := Scalar.muli v1 c8_i32
  let v3 : BitVec 32 := Scalar.subi arg0 v2
  let c0_i32 : BitVec 32 := 0#32
  let c7_i32 : BitVec 32 := 7#32
  let v4 : BitVec 32 := Scalar.maxsi c0_i32 v3
  let v5 : BitVec 32 := Scalar.minsi c7_i32 v4
  let c0_i32_0 : BitVec 32 := 0#32
  let c0_i32_1 : BitVec 32 := 0#32
  ![c0_i32_0.toNat, v5.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S1538x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1538x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1538x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1538x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1538x2x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1538x2x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1538x2x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1538x2x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1538x2x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1538x2x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1538x2x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== AdamInRefIdeal.lean ====
abbrev S1538x1024 : Shape := ⟨2, ![1538, 1024]⟩
abbrev S2x2048x1538 : Shape := ⟨3, ![2, 2048, 1538]⟩
abbrev S5 : Shape := ⟨1, ![5]⟩
abbrev S1 : Shape := ⟨1, ![1]⟩
abbrev S_ : Shape := ⟨0, ![]⟩
abbrev S1024x1538 : Shape := ⟨2, ![1024, 1538]⟩
abbrev S2048x1538 : Shape := ⟨2, ![2048, 1538]⟩
abbrev S1x2048x1538 : Shape := ⟨3, ![1, 2048, 1538]⟩

abbrev nBuf : Space → Nat
  | .hbm => 62
  | .vmem => 0
  | .smem => 0
  | _ => 0

abbrev bufTy : (tb : Table) → Fin (tcTables nBuf tb) → BufTy
  | .hbm, ⟨0, _⟩ => ⟨S1538x1024, .f32⟩
  | .hbm, ⟨1, _⟩ => ⟨S1538x1024, .f32⟩
  | .hbm, ⟨2, _⟩ => ⟨S1538x1024, .f32⟩
  | .hbm, ⟨3, _⟩ => ⟨S1538x1024, .f32⟩
  | .hbm, ⟨4, _⟩ => ⟨S2x2048x1538, .f32⟩
  | .hbm, ⟨5, _⟩ => ⟨S2x2048x1538, .f32⟩
  | .hbm, ⟨6, _⟩ => ⟨S2x2048x1538, .f32⟩
  | .hbm, ⟨7, _⟩ => ⟨S5, .i32⟩
  | .hbm, ⟨8, _⟩ => ⟨S1, .i32⟩
  | .hbm, ⟨9, _⟩ => ⟨S_, .i32⟩
  | .hbm, ⟨10, _⟩ => ⟨S1024x1538, .f32⟩
  | .hbm, ⟨11, _⟩ => ⟨S1024x1538, .f32⟩
  | .hbm, ⟨12, _⟩ => ⟨S_, .i32⟩
  | .hbm, ⟨13, _⟩ => ⟨S_, .i1⟩
  | .hbm, ⟨14, _⟩ => ⟨S2048x1538, .f32⟩
  | .hbm, ⟨15, _⟩ => ⟨S2048x1538, .f32⟩
  | .hbm, ⟨16, _⟩ => ⟨S2048x1538, .f32⟩
  | .hbm, ⟨17, _⟩ => ⟨S1, .i32⟩
  | .hbm, ⟨18, _⟩ => ⟨S_, .i32⟩
  | .hbm, ⟨19, _⟩ => ⟨S1024x1538, .f32⟩
  | .hbm, ⟨20, _⟩ => ⟨S1024x1538, .f32⟩
  | .hbm, ⟨21, _⟩ => ⟨S_, .i32⟩
  | .hbm, ⟨22, _⟩ => ⟨S_, .i1⟩
  | .hbm, ⟨23, _⟩ => ⟨S2048x1538, .f32⟩
  | .hbm, ⟨24, _⟩ => ⟨S2048x1538, .f32⟩
  | .hbm, ⟨25, _⟩ => ⟨S2048x1538, .f32⟩
  | .hbm, ⟨26, _⟩ => ⟨S1x2048x1538, .f32⟩
  | .hbm, ⟨27, _⟩ => ⟨S1x2048x1538, .f32⟩
  | .hbm, ⟨28, _⟩ => ⟨S2x2048x1538, .f32⟩
  | .hbm, ⟨29, _⟩ => ⟨S_, .f32⟩
  | .hbm, ⟨30, _⟩ => ⟨S2x2048x1538, .f32⟩
  | .hbm, ⟨31, _⟩ => ⟨S2x2048x1538, .f32⟩
  | .hbm, ⟨32, _⟩ => ⟨S_, .f32⟩
  | .hbm, ⟨33, _⟩ => ⟨S2x2048x1538, .f32⟩
  | .hbm, ⟨34, _⟩ => ⟨S2x2048x1538, .f32⟩
  | .hbm, ⟨35, _⟩ => ⟨S2x2048x1538, .f32⟩
  | .hbm, ⟨36, _⟩ => ⟨S_, .f32⟩
  | .hbm, ⟨37, _⟩ => ⟨S2x2048x1538, .f32⟩
  | .hbm, ⟨38, _⟩ => ⟨S2x2048x1538, .f32⟩
  | .hbm, ⟨39, _⟩ => ⟨S2x2048x1538, .f32⟩
  | .hbm, ⟨40, _⟩ => ⟨S_, .f32⟩
  | .hbm, ⟨41, _⟩ => ⟨S2x2048x1538, .f32⟩
  | .hbm, ⟨42, _⟩ => ⟨S2x2048x1538, .f32⟩
  | .hbm, ⟨43, _⟩ => ⟨S2x2048x1538, .f32⟩
  | .hbm, ⟨44, _⟩ => ⟨S_, .f32⟩
  | .hbm, ⟨45, _⟩ => ⟨S2x2048x1538, .f32⟩
  | .hbm, ⟨46, _⟩ => ⟨S2x2048x1538, .f32⟩
  | .hbm, ⟨47, _⟩ => ⟨S_, .f32⟩
  | .hbm, ⟨48, _⟩ => ⟨S2x2048x1538, .f32⟩
  | .hbm, ⟨49, _⟩ => ⟨S2x2048x1538, .f32⟩
  | .hbm, ⟨50, _⟩ => ⟨S2x2048x1538, .f32⟩
  | .hbm, ⟨51, _⟩ => ⟨S_, .f32⟩
  | .hbm, ⟨52, _⟩ => ⟨S2x2048x1538, .f32⟩
  | .hbm, ⟨53, _⟩ => ⟨S2x2048x1538, .f32⟩
  | .hbm, ⟨54, _⟩ => ⟨S2x2048x1538, .f32⟩
  | .hbm, ⟨55, _⟩ => ⟨S_, .f32⟩
  | .hbm, ⟨56, _⟩ => ⟨S2x2048x1538, .f32⟩
  | .hbm, ⟨57, _⟩ => ⟨S2x2048x1538, .f32⟩
  | .hbm, ⟨58, _⟩ => ⟨S2x2048x1538, .f32⟩
  | .hbm, ⟨59, _⟩ => ⟨S_, .f32⟩
  | .hbm, ⟨60, _⟩ => ⟨S2x2048x1538, .f32⟩
  | .hbm, ⟨61, _⟩ => ⟨S2x2048x1538, .f32⟩
  | _, _ => ⟨S1538x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_v20 : Ref sig .tc := ⟨.hbm, 31, rfl⟩
abbrev main_cst_1 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩

abbrev nD : Nat := 1
abbrev τ : Topo := Topo.v7x

variable {F : FTy → Type} [FloatOps F]
-- ==== Proof.Gradient.lean ====
/-
  The mLSTM of one head and its gradient over the real numbers.

  The weight of position `s` at position `t` is `exp (li s - b s - μ t)`, where `μ` is a stabiliser: the value and the
  gradient do not depend on it. The kernel's `μ` is the running maximum of `li - b`; the reference's is
  `max (b t) (max over s) - b t`. Everything below is a function of `μ`; the lemmas under "the stabiliser" say what is
  left when one is replaced by another, and `cotangent_stabiliser` that the reference's own derivative in its
  stabiliser vanishes.
-/
module

public import Mathlib.Analysis.SpecialFunctions.Exp
public import Mathlib.Algebra.BigOperators.Field
public import Mathlib.Algebra.BigOperators.Ring.Finset
public import Mathlib.Algebra.Order.BigOperators.Group.Finset
public import Mathlib.Tactic.FieldSimp
public import Mathlib.Tactic.Linarith
public import Mathlib.Tactic.Ring

@[expose] public section

noncomputable section

namespace Mlstm

open scoped BigOperators

/-- One head: queries, keys, values, the cotangent of the output, the two gates (`li` the logarithm of the input gate,
`b` the sum of the logarithms of the forget gates so far) and the score's scale. -/
structure Head (T D E : ℕ) where
  q : Fin T → Fin D → ℝ
  k : Fin T → Fin D → ℝ
  v : Fin T → Fin E → ℝ
  dh : Fin T → Fin E → ℝ
  li : Fin T → ℝ
  b : Fin T → ℝ
  c : ℝ

namespace Head

variable {T D E : ℕ} (H : Head T D E) (μ ν : Fin T → ℝ)

/-- The scaled score. -/
def score (t s : Fin T) : ℝ := (∑ d, H.q t d * H.k s d) * H.c

/-- The weight of `s` at `t`, zero after `t`. -/
def wt (t s : Fin T) : ℝ := if s ≤ t then Real.exp (H.li s - H.b s - μ t) else 0

/-- The weighted score. -/
def p (t s : Fin T) : ℝ := H.wt μ t s * H.score t s

/-- The normaliser before its clamp. -/
def den (t : Fin T) : ℝ := ∑ s, H.p μ t s

/-- The clamp. -/
def clamp (t : Fin T) : ℝ := Real.exp (-H.b t - μ t)

/-- The normaliser. -/
def dd (t : Fin T) : ℝ := max |H.den μ t| (H.clamp μ t)

/-- The numerator. -/
def num (t : Fin T) (e : Fin E) : ℝ := ∑ s, H.p μ t s * H.v s e

/-- The output. -/
def ht (t : Fin T) (e : Fin E) : ℝ := H.num μ t e / H.dd μ t

/-- The product of the output and its cotangent. -/
def hdh (t : Fin T) : ℝ := ∑ e, H.dh t e * H.ht μ t e

/-- The cotangent of the numerator. -/
def dn (t : Fin T) (e : Fin E) : ℝ := H.dh t e / H.dd μ t

/-- The cotangent of the normaliser before its clamp. -/
def dden (t : Fin T) : ℝ :=
  if |H.den μ t| < H.clamp μ t then 0 else -(H.hdh μ t / H.dd μ t) * (if H.den μ t < 0 then -1 else 1)

/-- The cotangent of a weighted score. -/
def dp (t s : Fin T) : ℝ := (∑ e, H.dn μ t e * H.v s e) + H.dden μ t

/-- A weighted score times its cotangent: the cotangent of the weight's exponent. -/
def r (t s : Fin T) : ℝ := H.dp μ t s * H.p μ t s

/-- The cotangent of an unscaled score. -/
def ds (t s : Fin T) : ℝ := H.dp μ t s * H.wt μ t s * H.c

/-- The gradients. -/
def gq (t : Fin T) (d : Fin D) : ℝ := ∑ s, H.ds μ t s * H.k s d
def gk (s : Fin T) (d : Fin D) : ℝ := ∑ t, H.q t d * H.ds μ t s
def gv (s : Fin T) (e : Fin E) : ℝ := ∑ t, H.dn μ t e * H.p μ t s
def gli (s : Fin T) : ℝ := ∑ t, H.r μ t s
def gfx (t : Fin T) : ℝ := ∑ s, H.r μ t s

theorem clamp_pos (t : Fin T) : 0 < H.clamp μ t := Real.exp_pos _

theorem dd_pos (t : Fin T) : 0 < H.dd μ t := lt_max_of_lt_right (H.clamp_pos μ t)

theorem wt_zero {t s : Fin T} (h : ¬ s ≤ t) : H.wt μ t s = 0 := by simp [wt, h]

theorem p_zero {t s : Fin T} (h : ¬ s ≤ t) : H.p μ t s = 0 := by simp [p, H.wt_zero μ h]

theorem r_zero {t s : Fin T} (h : ¬ s ≤ t) : H.r μ t s = 0 := by simp [r, H.p_zero μ h]

theorem ds_zero {t s : Fin T} (h : ¬ s ≤ t) : H.ds μ t s = 0 := by simp [ds, H.wt_zero μ h]

/-! ### The stabiliser -/

/-- What a change of the stabiliser multiplies the weights of row `t` by. -/
def ratio (t : Fin T) : ℝ := Real.exp (μ t - ν t)

theorem ratio_pos (t : Fin T) : 0 < ratio μ ν t := Real.exp_pos _

theorem wt_change (t s : Fin T) : H.wt ν t s = ratio μ ν t * H.wt μ t s := by
  unfold wt ratio
  split
  · rw [← Real.exp_add]; congr 1; ring
  · simp

theorem p_change (t s : Fin T) : H.p ν t s = ratio μ ν t * H.p μ t s := by
  unfold p; rw [H.wt_change μ ν]; ring

theorem den_change (t : Fin T) : H.den ν t = ratio μ ν t * H.den μ t := by
  unfold den; rw [Finset.mul_sum]; exact Finset.sum_congr rfl fun s _ => H.p_change μ ν t s

theorem clamp_change (t : Fin T) : H.clamp ν t = ratio μ ν t * H.clamp μ t := by
  unfold clamp ratio; rw [← Real.exp_add]; congr 1; ring

theorem abs_den_change (t : Fin T) : |H.den ν t| = ratio μ ν t * |H.den μ t| := by
  rw [H.den_change μ ν, abs_mul, abs_of_pos (ratio_pos μ ν t)]

theorem dd_change (t : Fin T) : H.dd ν t = ratio μ ν t * H.dd μ t := by
  unfold dd; rw [H.abs_den_change μ ν, H.clamp_change μ ν, mul_max_of_nonneg _ _ (ratio_pos μ ν t).le]

theorem num_change (t : Fin T) (e : Fin E) : H.num ν t e = ratio μ ν t * H.num μ t e := by
  unfold num; rw [Finset.mul_sum]
  exact Finset.sum_congr rfl fun s _ => by rw [H.p_change μ ν]; ring

theorem ht_change (t : Fin T) (e : Fin E) : H.ht ν t e = H.ht μ t e := by
  unfold ht; rw [H.num_change μ ν, H.dd_change μ ν, mul_div_mul_left _ _ (ratio_pos μ ν t).ne']

theorem hdh_change (t : Fin T) : H.hdh ν t = H.hdh μ t := by
  unfold hdh; exact Finset.sum_congr rfl fun e _ => by rw [H.ht_change μ ν]

theorem dn_change (t : Fin T) (e : Fin E) : ratio μ ν t * H.dn ν t e = H.dn μ t e := by
  unfold dn; rw [H.dd_change μ ν]
  have := (ratio_pos μ ν t).ne'; have := (H.dd_pos μ t).ne'
  field_simp

theorem dden_change (t : Fin T) : ratio μ ν t * H.dden ν t = H.dden μ t := by
  have hr := ratio_pos μ ν t
  unfold dden
  rw [H.abs_den_change μ ν, H.clamp_change μ ν, H.hdh_change μ ν, H.dd_change μ ν, H.den_change μ ν]
  have h1 : ratio μ ν t * |H.den μ t| < ratio μ ν t * H.clamp μ t ↔ |H.den μ t| < H.clamp μ t :=
    mul_lt_mul_iff_right₀ hr
  have h2 : ratio μ ν t * H.den μ t < 0 ↔ H.den μ t < 0 :=
    ⟨fun h => by by_contra h'; exact absurd h (not_lt.2 (mul_nonneg hr.le (not_lt.1 h'))),
      fun h => mul_neg_of_pos_of_neg hr h⟩
  simp only [h1, h2]
  split
  · simp
  · have := hr.ne'; have := (H.dd_pos μ t).ne'
    field_simp

theorem dp_change (t s : Fin T) : ratio μ ν t * H.dp ν t s = H.dp μ t s := by
  unfold dp
  rw [mul_add, H.dden_change μ ν, Finset.mul_sum]
  exact congrArg (· + _) (Finset.sum_congr rfl fun e _ => by rw [← H.dn_change μ ν]; ring)

theorem r_change (t s : Fin T) : H.r ν t s = H.r μ t s := by
  unfold r; rw [H.p_change μ ν, ← H.dp_change μ ν]; ring

theorem ds_change (t s : Fin T) : H.ds ν t s = H.ds μ t s := by
  unfold ds; rw [H.wt_change μ ν, ← H.dp_change μ ν]; ring

theorem gq_change (t : Fin T) (d : Fin D) : H.gq ν t d = H.gq μ t d := by
  unfold gq; exact Finset.sum_congr rfl fun s _ => by rw [H.ds_change μ ν]

theorem gk_change (s : Fin T) (d : Fin D) : H.gk ν s d = H.gk μ s d := by
  unfold gk; exact Finset.sum_congr rfl fun t _ => by rw [H.ds_change μ ν]

theorem gv_change (s : Fin T) (e : Fin E) : H.gv ν s e = H.gv μ s e := by
  unfold gv
  exact Finset.sum_congr rfl fun t _ => by rw [H.p_change μ ν, ← H.dn_change μ ν]; ring

theorem gli_change (s : Fin T) : H.gli ν s = H.gli μ s := by
  unfold gli; exact Finset.sum_congr rfl fun t _ => H.r_change μ ν t s

theorem gfx_change (t : Fin T) : H.gfx ν t = H.gfx μ t := by
  unfold gfx; exact Finset.sum_congr rfl fun s _ => H.r_change μ ν t s

/-! ### The derivative in the stabiliser -/

/-- The cotangent of the normaliser, as the reference computes it from the numerator. -/
theorem cotangent_dd (t : Fin T) :
    (-∑ e, H.dh t e * (1 / (H.dd μ t * H.dd μ t)) * H.num μ t e) = -(H.hdh μ t / H.dd μ t) := by
  unfold hdh ht
  rw [Finset.sum_div]
  refine congrArg _ (Finset.sum_congr rfl fun e _ => ?_)
  have := (H.dd_pos μ t).ne'
  field_simp

/-- Without a tie the reference's halving at a tie plays no part: the cotangent of the normaliser goes to its two
operands by which of them is greater. -/
theorem dden_eq (t : Fin T) (w : ℝ)
    (hw : w = if H.clamp μ t < |H.den μ t| then 1 else 0) (hne : |H.den μ t| ≠ H.clamp μ t) :
    (if 0 ≤ H.den μ t then -(H.hdh μ t / H.dd μ t) * w else 0)
      + -(if 0 ≤ H.den μ t then 0 else -(H.hdh μ t / H.dd μ t) * w) = H.dden μ t := by
  unfold dden
  subst hw
  rcases lt_or_gt_of_ne hne with h | h
  · simp [h, not_lt.2 h.le]
  · rcases le_or_gt 0 (H.den μ t) with h0 | h0
    · simp [h, not_lt.2 h.le, h0, not_lt.2 h0]
    · simp [h, not_lt.2 h.le, h0, not_le.2 h0]

/-- The row sum of the exponents' cotangents. -/
theorem sum_r (t : Fin T) :
    ∑ s, H.r μ t s = H.hdh μ t + H.dden μ t * H.den μ t := by
  have h1 : ∀ s, H.r μ t s = (∑ e, H.dn μ t e * H.v s e * H.p μ t s) + H.dden μ t * H.p μ t s := fun s => by
    unfold r dp; rw [add_mul, Finset.sum_mul]
  simp only [h1]
  rw [Finset.sum_add_distrib, ← Finset.mul_sum, Finset.sum_comm]
  refine congrArg₂ (· + ·) ?_ rfl
  unfold hdh ht num
  refine Finset.sum_congr rfl fun e _ => ?_
  rw [Finset.sum_div, Finset.mul_sum]
  refine Finset.sum_congr rfl fun s _ => ?_
  unfold dn; ring

/-- The reference's derivative in its stabiliser is zero: the clamp's part and the weights' part cancel. -/
theorem cotangent_stabiliser (t : Fin T) (w : ℝ)
    (hw : w = if |H.den μ t| < H.clamp μ t then 1 else 0) (hne : |H.den μ t| ≠ H.clamp μ t) :
    -(-(H.hdh μ t / H.dd μ t) * w * H.clamp μ t) + ∑ s, -H.r μ t s = 0 := by
  rw [Finset.sum_neg_distrib, H.sum_r]
  subst hw
  rcases lt_or_gt_of_ne hne with h | h
  · have hd : H.dd μ t = H.clamp μ t := max_eq_right h.le
    have := (H.clamp_pos μ t).ne'
    simp only [dden, h, if_true, hd]
    field_simp; ring
  · have hd : H.dd μ t = |H.den μ t| := max_eq_left h.le
    have h3 : |H.den μ t| ≠ 0 := (lt_trans (H.clamp_pos μ t) h).ne'
    have h4 : (if H.den μ t < 0 then (-1 : ℝ) else 1) * H.den μ t = |H.den μ t| := by
      split
      · next h5 => rw [abs_of_neg h5]; ring
      · next h5 => rw [abs_of_nonneg (not_lt.1 h5)]; ring
    simp only [dden, not_lt.2 h.le, if_false, hd]
    rw [mul_assoc _ _ (H.den μ t), h4]
    field_simp; ring

end Head

end Mlstm

end
-- ==== Proof.Reals.lean ====
/-
  Extended reals that are real numbers, and what a precondition that compares magnitudes with +∞ says of them.
-/
module

public import Idealize.ShloMosaic.PureOps.Reduce
public import Idealize.ShloMosaic.PureOps.Ideal.Laws
public import Idealize.ShloMosaic.Lib.ValueIdx
public import Idealize.ShloMosaic.Lib.ReduceAll
public import Idealize.ShloMosaic.Lib.IdealHost

@[expose] public section

noncomputable section

namespace Reals

open Idealize.ShloMosaic Idealize.ShloMosaic.ValueIdx

/-- An extended real that is a real number. -/
def IsReal (x : EReal) : Prop := ∃ r : ℝ, x = (r : EReal)

theorem IsReal.coe (r : ℝ) : IsReal (r : EReal) := ⟨r, rfl⟩

theorem IsReal.eq {x : EReal} (h : IsReal x) : x = (x.toReal : EReal) := by
  obtain ⟨r, rfl⟩ := h; rfl

theorem IsReal.add {x y : EReal} (hx : IsReal x) (hy : IsReal y) : IsReal (x + y) := by
  obtain ⟨a, rfl⟩ := hx; obtain ⟨b, rfl⟩ := hy; exact ⟨a + b, by push_cast; rfl⟩

theorem IsReal.sub {x y : EReal} (hx : IsReal x) (hy : IsReal y) : IsReal (x - y) := by
  obtain ⟨a, rfl⟩ := hx; obtain ⟨b, rfl⟩ := hy; exact ⟨a - b, by push_cast; rfl⟩

theorem IsReal.max {x y : EReal} (hx : IsReal x) (hy : IsReal y) : IsReal (max x y) := by
  rcases max_choice x y with h | h <;> rw [h] <;> assumption

/-- The f32 pattern of −∞. -/
theorem ofBits_neg_infinity : Ideal.ofBits .f32 0xFF800000#32 = ⊥ := by
  simp [Ideal.ofBits, Ideal.ieee]

/-- The f32 pattern of +∞. -/
theorem ofBits_infinity : Ideal.ofBits .f32 0x7F800000#32 = ⊤ := by
  simp [Ideal.ofBits, Ideal.ieee]

/-- The bf16 pattern of +∞. -/
theorem ofBits_infinity_bf16 : Ideal.ofBits .bf16 0x7F80#16 = ⊤ := by
  simp [Ideal.ofBits, Ideal.ieee]

/-- A magnitude below +∞ is that of a real number. -/
theorem isReal_of_abs_lt {x : EReal} (h : max x (-x) < ⊤) : IsReal x := by
  induction x using EReal.rec with
  | bot => simp at h
  | top => simp at h
  | coe r => exact ⟨r, rfl⟩

theorem IsReal.mul {x y : EReal} (hx : IsReal x) (hy : IsReal y) : IsReal (x * y) := by
  obtain ⟨a, rfl⟩ := hx; obtain ⟨b, rfl⟩ := hy; exact ⟨a * b, by push_cast; rfl⟩

theorem IsReal.sum {ι : Type} (s : Finset ι) (f : ι → EReal) (h : ∀ i ∈ s, IsReal (f i)) : IsReal (∑ i ∈ s, f i) :=
  Finset.sum_induction f IsReal (fun _ _ => IsReal.add) ⟨0, by simp⟩ h

theorem andi_one {a b : BitVec 1} (h : IntOp.andi a b = 1#1) : a = 1#1 ∧ b = 1#1 := by
  revert a b; decide

/-- The shape of a scalar. -/
abbrev Sc : Shape := ⟨0, ![]⟩

instance : Subsingleton Sc.Idx := ⟨fun a b => funext fun i => i.elim0⟩

/-- A `jnp.all` of "the magnitude is below +∞". -/
theorem real_of_all {s : Shape} (φ : FTy) (x : s.Idx → EReal) (c : Sc.Idx → EReal) (hc : ∀ i, c i = ⊤) {axes : List (Fin s.rank)}
    (hb : Sc.BroadcastsInDim s (![] : Fin 0 → Fin s.rank)) (h : s.ReducesTo axes Sc) (hu : 0 < Sc.numel) (init : Sc.Idx → BitVec 1)
    (e : Host.reduce IntOp.andi (cmpf .olt (Host.absf (F := Ideal) (φ := φ) x) (broadcastInDim s ![] hb c)) init h hu ix0 = 1#1)
    (i : s.Idx) : IsReal (x i) := by
  have := Host.reduce_andi_all _ _ _ _ _ e i
  refine isReal_of_abs_lt ?_
  have h2 : BitVec.ofBool (decide (max (x i) (-(x i)) < ⊤)) = 1#1 := by
    rw [← this, ← hc ix0]
    have hx : broadcastInDim s ![] hb c i = c ix0 := by
      unfold broadcastInDim; exact congrArg c (Subsingleton.elim _ _)
    rw [← hx]; rfl
  by_contra hlt
  rw [decide_eq_false hlt] at h2
  exact absurd h2 (by decide)

end Reals
-- ==== Proof.Folds.lean ====
/-
  Running sums, running maxima and row maxima of finite extended reals.

  A running sum (`stablehlo.reduce_window` with an addition) of finite values is finite. A running maximum, and a maximum
  along an axis, of values that are finite or −∞ is at least every value it ranges over and is one of them or −∞.
-/
module

public import proofs.«01_k».proof.Proof.Reals
public import Idealize.ShloMosaic.Lib.SortNet.Extract
public import Idealize.ShloMosaic.Lib.IdealHost
public import Idealize.ShloMosaic.PureOps.Reduce
public import Idealize.ShloMosaic.PureOps.Ideal.Laws
public import Idealize.ShloMosaic.Lib.ValueIdx

@[expose] public section

noncomputable section

namespace Mlstm

open Reals Idealize.ShloMosaic Idealize.ShloMosaic.ValueIdx

/-! ### Sums -/

theorem foldl_add_isReal {ι : Type} (f : ι → EReal) : ∀ (l : List ι) (z : EReal), IsReal z → (∀ n ∈ l, IsReal (f n)) →
    IsReal (l.foldl (fun r n => r + f n) z)
  | [], _, hz, _ => hz
  | a :: l, z, hz, hf => by
    rw [List.foldl_cons]
    exact foldl_add_isReal f l _ (hz.add (hf a List.mem_cons_self)) fun n hn => hf n (List.mem_cons_of_mem _ hn)

/-- A window sum of finite values is finite. -/
theorem reduceWindowAdd_isReal {s t : Shape} (window strides lo hi : Fin s.rank → Nat)
    (h : s.ReduceWindows window strides lo hi t) (x : s.Idx → EReal) (hx : ∀ i, IsReal (x i)) (init : EReal)
    (hi0 : IsReal init) (j : t.Idx) : IsReal (Ideal.hostReduceWindowAdd window strides lo hi h x init j) := by
  unfold Ideal.hostReduceWindowAdd Host.reduceWindow
  refine foldl_add_isReal _ _ _ hi0 fun n _ => ?_
  dsimp only
  split
  · exact hx _
  · exact hi0

/-- The same of the host's window sum. -/
theorem hostReduceWindowAdd_isReal {s t u : Shape} (window strides lo hi : Fin s.rank → Nat)
    (h : s.ReduceWindows window strides lo hi t) (hu : 0 < u.numel) (x : s.Idx → EReal) (hx : ∀ i, IsReal (x i)) (init : u.Idx → EReal)
    (hi0 : IsReal (init (Shape.Idx.first hu))) (j : t.Idx) :
    IsReal (Host.reduceWindowAdd (F := Ideal) (φ := .f32) window strides lo hi x init h hu j) := by
  unfold Host.reduceWindowAdd
  rw [Ideal.hostReduceWindowAdd_def]
  exact reduceWindowAdd_isReal window strides lo hi h x hx _ hi0 j

/-! ### Maxima -/

theorem isReal_foldl_max {ι : Type} (f : ι → EReal) (l : List ι) (z : EReal) (hz : z = ⊥)
    (hf : ∀ n, IsReal (f n) ∨ f n = ⊥) (hne : l.foldl (fun acc r => max acc (f r)) z ≠ ⊥) :
    IsReal (l.foldl (fun acc r => max acc (f r)) z) := by
  rcases SortNet.foldl_max_mem f l z with e | ⟨n, -, e⟩
  · exact absurd (e.trans hz) hne
  · rcases hf n with hx | hx
    · exact (congrArg IsReal e).mpr hx
    · exact absurd (e.trans hx) hne

/-- The running maximum along the rows of an array of `H` rows and `N` columns, as `jax.lax.cummax` writes it, is at
least every value up to its position. -/
theorem le_cummax {H N : ℕ} (h : (⟨2, ![H, N]⟩ : Shape).ReduceWindows ![1, N] ![1, 1] ![0, N - 1] ![0, 0] ⟨2, ![H, N]⟩)
    {u : Shape} (hu : 0 < u.numel) (x : (⟨2, ![H, N]⟩ : Shape).Idx → EReal) (init : u.Idx → EReal) (r : Fin H)
    (s t : Fin N) (hst : s ≤ t) :
    x (ix2 r s) ≤ Host.reduceWindow (FloatOps.maximumf (F := Ideal) (φ := .f32)) ![1, N] ![1, 1] ![0, N - 1] ![0, 0] x init h hu (ix2 r t) := by
  unfold Host.reduceWindow
  have hs := s.isLt
  have ht := t.isLt
  have hle : s.val ≤ t.val := hst
  let n1 : Fin N := ⟨s.val + (N - 1) - t.val, by omega⟩
  refine le_trans (le_of_eq ?_) ((SortNet.le_foldl_max _ (List.finRange _) _).2
    ((⟨2, ![1, N]⟩ : Shape).rowMajor (ix2 0 n1)) (List.mem_finRange _))
  have h0 : ((⟨2, ![1, N]⟩ : Shape).rowMajor.symm ((⟨2, ![1, N]⟩ : Shape).rowMajor (ix2 0 n1)) 0).val = 0 := by
    rw [Equiv.symm_apply_apply]; rfl
  have h1 : ((⟨2, ![1, N]⟩ : Shape).rowMajor.symm ((⟨2, ![1, N]⟩ : Shape).rowMajor (ix2 0 n1)) 1).val = s.val + (N - 1) - t.val := by
    rw [Equiv.symm_apply_apply]; rfl
  rw [dif_pos]
  · refine congrArg x (funext fun a => Fin.ext ?_)
    fin_cases a
    · show r.val = r.val * 1 + ((⟨2, ![1, N]⟩ : Shape).rowMajor.symm ((⟨2, ![1, N]⟩ : Shape).rowMajor (ix2 0 n1)) 0).val - 0
      rw [h0]; omega
    · show s.val = t.val * 1 + ((⟨2, ![1, N]⟩ : Shape).rowMajor.symm ((⟨2, ![1, N]⟩ : Shape).rowMajor (ix2 0 n1)) 1).val - (N - 1)
      rw [h1]; omega
  · intro a
    fin_cases a
    · show 0 ≤ r.val * 1 + ((⟨2, ![1, N]⟩ : Shape).rowMajor.symm ((⟨2, ![1, N]⟩ : Shape).rowMajor (ix2 0 n1)) 0).val ∧
        r.val * 1 + ((⟨2, ![1, N]⟩ : Shape).rowMajor.symm ((⟨2, ![1, N]⟩ : Shape).rowMajor (ix2 0 n1)) 0).val - 0 < H
      have := r.isLt
      rw [h0]; omega
    · show N - 1 ≤ t.val * 1 + ((⟨2, ![1, N]⟩ : Shape).rowMajor.symm ((⟨2, ![1, N]⟩ : Shape).rowMajor (ix2 0 n1)) 1).val ∧
        t.val * 1 + ((⟨2, ![1, N]⟩ : Shape).rowMajor.symm ((⟨2, ![1, N]⟩ : Shape).rowMajor (ix2 0 n1)) 1).val - (N - 1) < N
      rw [h1]; omega

/-- The running maximum of finite values is finite. -/
theorem cummax_isReal {H N : ℕ} (h : (⟨2, ![H, N]⟩ : Shape).ReduceWindows ![1, N] ![1, 1] ![0, N - 1] ![0, 0] ⟨2, ![H, N]⟩)
    {u : Shape} (hu : 0 < u.numel) (x : (⟨2, ![H, N]⟩ : Shape).Idx → EReal) (hx : ∀ i, IsReal (x i)) (init : u.Idx → EReal)
    (hinit : init (Shape.Idx.first hu) = ⊥) (r : Fin H) (t : Fin N) :
    IsReal (Host.reduceWindow (FloatOps.maximumf (F := Ideal) (φ := .f32)) ![1, N] ![1, 1] ![0, N - 1] ![0, 0] x init h hu (ix2 r t)) := by
  have hle := le_cummax h hu x init r t t le_rfl
  have hne : Host.reduceWindow (FloatOps.maximumf (F := Ideal) (φ := .f32)) ![1, N] ![1, 1] ![0, N - 1] ![0, 0] x init h hu (ix2 r t) ≠ ⊥ := by
    intro e
    rw [e] at hle
    obtain ⟨y, hy⟩ := hx (ix2 r t)
    rw [hy] at hle
    exact absurd hle (not_le.2 (EReal.bot_lt_coe y))
  refine isReal_foldl_max _ _ _ hinit (fun n => ?_) hne
  split
  · exact Or.inl (hx _)
  · exact Or.inr hinit

/-- A maximum along axes, from −∞, of values one of which is finite and that are each finite or −∞: it is finite and
attained. -/
theorem reduce_max_attained {s t u : Shape} {axes : List (Fin s.rank)} (h : s.ReducesTo axes t) (hu : 0 < u.numel)
    (x : s.Idx → EReal) (init : u.Idx → EReal) (hinit : init (Shape.Idx.first hu) = ⊥) (j : t.Idx)
    (hx : ∀ i, IsReal (x i) ∨ x i = ⊥) (i₀ : s.Idx) (hi₀ : h.drop i₀ = j) (hr : IsReal (x i₀)) :
    IsReal (Host.reduce (FloatOps.maximumf (F := Ideal) (φ := .f32)) x init h hu j) ∧
      ∃ i, h.drop i = j ∧ x i = Host.reduce (FloatOps.maximumf (F := Ideal) (φ := .f32)) x init h hu j := by
  rw [Host.reduce_eq_foldl]
  have hle := (SortNet.le_foldl_max x (((List.finRange s.numel).map s.rowMajor.symm).filter fun i => h.drop i = j)
    (init (Shape.Idx.first hu))).2 i₀ (by
      rw [List.mem_filter]
      exact ⟨List.mem_map.2 ⟨s.rowMajor i₀, List.mem_finRange _, Equiv.symm_apply_apply _ _⟩, by simp [hi₀]⟩)
  have hne : ((((List.finRange s.numel).map s.rowMajor.symm).filter fun i => h.drop i = j).foldl
      (fun acc r => max acc (x r)) (init (Shape.Idx.first hu))) ≠ ⊥ := by
    intro e
    rw [e] at hle
    obtain ⟨y, hy⟩ := hr
    rw [hy] at hle
    exact absurd hle (not_le.2 (EReal.bot_lt_coe y))
  rcases SortNet.foldl_max_mem x (((List.finRange s.numel).map s.rowMajor.symm).filter fun i => h.drop i = j)
    (init (Shape.Idx.first hu)) with e | ⟨n, hn, e⟩
  · exact absurd (e.trans hinit) hne
  · have hn' : h.drop n = j := by simpa using (List.mem_filter.1 hn).2
    refine ⟨?_, n, hn', e.symm⟩
    rcases hx n with hx | hx
    · exact (congrArg IsReal e).mpr hx
    · exact absurd (e.trans hx) hne

end Mlstm

end
-- ==== Proof.RefForward.lean ====
/-
  The reference's forward stages read at an index, as real numbers.
-/
module

public import proofs.«01_k».proof.Proof.Gradient
public import proofs.«01_k».proof.Proof.Folds
public import proofs.«01_k».proof.Proof.Gen.ReferenceIdeal.Read
public import Idealize.ShloMosaic.Lib.Pointwise
public import Idealize.ShloMosaic.Lib.WordCmp

@[expose] public section

set_option maxRecDepth 16384

noncomputable section

namespace Mlstm

open Reals Idealize.ShloMosaic
open Cert.ReferenceIdeal Cert.ReferenceIdeal.Read Cert.ReferenceIdeal.Gen

/-- A finite sum of real numbers, read as extended reals. -/
theorem coe_sum {ι : Type} (s : Finset ι) (f : ι → ℝ) : ((∑ i ∈ s, f i : ℝ) : EReal) = ∑ i ∈ s, (f i : EReal) := by
  classical
  induction s using Finset.cons_induction with
  | empty => simp
  | cons a s ha ih => rw [Finset.sum_cons, Finset.sum_cons, EReal.coe_add, ih]

theorem coe_max (a b : ℝ) : ((max a b : ℝ) : EReal) = max (a : EReal) (b : EReal) :=
  EReal.coe_strictMono.monotone.map_max

/-- The magnitude of a real number. -/
theorem abs_coe (r : ℝ) : FloatOps.absf (F := Ideal) (φ := .f32) (r : EReal) = ((|r| : ℝ) : EReal) := by
  show max (r : EReal) (-(r : EReal)) = _
  rw [← EReal.coe_neg, ← coe_max, abs_eq_max_neg]

/-- The score's scale. -/
def scale : ℝ := (Ideal.ofBits .f32 0x3DB504F3#32).toReal

theorem scale_eq : Ideal.ofBits .f32 0x3DB504F3#32 = (scale : EReal) := by
  unfold scale
  simp [Ideal.ofBits, Ideal.ieee, ← EReal.coe_mul]

variable {x0 : (⟨S2176x2048, .bf16⟩ : BufTy).Contents (Elt Ideal)} {x1 x2 : (⟨S4x2176, .f32⟩ : BufTy).Contents (Elt Ideal)}
  {x3 : (⟨S2176x1024, .f32⟩ : BufTy).Contents (Elt Ideal)}

/-- Every entry of the four arguments is a real number. -/
structure Finite4 (x0 : (⟨S2176x2048, .bf16⟩ : BufTy).Contents (Elt Ideal)) (x1 x2 : (⟨S4x2176, .f32⟩ : BufTy).Contents (Elt Ideal))
    (x3 : (⟨S2176x1024, .f32⟩ : BufTy).Contents (Elt Ideal)) : Prop where
  qkv : ∀ i, IsReal (x0 i)
  li : ∀ i, IsReal (x1 i)
  lf : ∀ i, IsReal (x2 i)
  dh : ∀ i, IsReal (x3 i)

/-- The sum of the forget gates' logarithms up to a position. -/
def gateSum (x2 : (⟨S4x2176, .f32⟩ : BufTy).Contents (Elt Ideal)) (h : Fin 4) (t : Fin 2176) : ℝ :=
  (val_main_v0 x2 (ix2 h t)).toReal

theorem gateSum_eq (h : Fin 4) (t : Fin 2176) (hr : IsReal (val_main_v0 x2 (ix2 h t))) :
    val_main_v0 x2 (ix2 h t) = (gateSum x2 h t : EReal) := by
  unfold gateSum; exact hr.eq

/-- The row's stabiliser in the reference, as a real number. -/
def refStab (x1 x2 : (⟨S4x2176, .f32⟩ : BufTy).Contents (Elt Ideal)) (h : Fin 4) (t : Fin 2176) : ℝ :=
  (val_main_v32 x1 x2 (ix2 h t)).toReal

theorem refStab_eq (h : Fin 4) (t : Fin 2176) (hr : IsReal (val_main_v32 x1 x2 (ix2 h t))) :
    val_main_v32 x1 x2 (ix2 h t) = (refStab x1 x2 h t : EReal) := by
  unfold refStab; exact hr.eq

attribute [irreducible] gateSum refStab

/-- Head `h` of the four arguments. -/
def head (x0 : (⟨S2176x2048, .bf16⟩ : BufTy).Contents (Elt Ideal)) (x1 x2 : (⟨S4x2176, .f32⟩ : BufTy).Contents (Elt Ideal))
    (x3 : (⟨S2176x1024, .f32⟩ : BufTy).Contents (Elt Ideal)) (h : Fin 4) : Head 2176 128 256 where
  q t d := (x0 (ix2 t ⟨h.val * 128 + d.val, by omega⟩)).toReal
  k t d := (x0 (ix2 t ⟨512 + (h.val * 128 + d.val), by omega⟩)).toReal
  v t e := (x0 (ix2 t ⟨1024 + (h.val * 256 + e.val), by omega⟩)).toReal
  dh t e := (x3 (ix2 t ⟨h.val * 256 + e.val, by omega⟩)).toReal
  li t := (x1 (ix2 h t)).toReal
  b t := gateSum x2 h t
  c := scale

/-- The reference's stabiliser, less the forget gates' sum. -/
def refMu (x1 x2 : (⟨S4x2176, .f32⟩ : BufTy).Contents (Elt Ideal)) (h : Fin 4) (t : Fin 2176) : ℝ :=
  refStab x1 x2 h t - gateSum x2 h t

theorem head_b (h : Fin 4) (t : Fin 2176) : (head x0 x1 x2 x3 h).b t = gateSum x2 h t := rfl

theorem ref_q (hf : Finite4 x0 x1 x2 x3) (h : Fin 4) (t : Fin 2176) (d : Fin 128) :
    val_main_v4 x0 (ix3 h t d) = ((head x0 x1 x2 x3 h).q t d : EReal) := by
  refine Eq.trans ?_ (hf.qkv _).eq
  pointwise [val_main_v4, val_main_v3, val_main_v2, val_main_v1]

theorem ref_k (hf : Finite4 x0 x1 x2 x3) (h : Fin 4) (t : Fin 2176) (d : Fin 128) :
    val_main_v8 x0 (ix3 h t d) = ((head x0 x1 x2 x3 h).k t d : EReal) := by
  refine Eq.trans ?_ (hf.qkv _).eq
  pointwise [val_main_v8, val_main_v7, val_main_v6, val_main_v5]

theorem ref_v (hf : Finite4 x0 x1 x2 x3) (h : Fin 4) (t : Fin 2176) (e : Fin 256) :
    val_main_v12 x0 (ix3 h t e) = ((head x0 x1 x2 x3 h).v t e : EReal) := by
  refine Eq.trans ?_ (hf.qkv _).eq
  pointwise [val_main_v12, val_main_v11, val_main_v10, val_main_v9]

theorem ref_dh (hf : Finite4 x0 x1 x2 x3) (h : Fin 4) (t : Fin 2176) (e : Fin 256) :
    val_main_v82 x3 (ix3 h t e) = ((head x0 x1 x2 x3 h).dh t e : EReal) := by
  refine Eq.trans ?_ (hf.dh _).eq
  pointwise [val_main_v82, val_main_v81, val_main_v80, val_main_v79, val_main_v78]

theorem ref_li (hf : Finite4 x0 x1 x2 x3) (h : Fin 4) (t : Fin 2176) :
    x1 (ix2 h t) = ((head x0 x1 x2 x3 h).li t : EReal) := (hf.li _).eq

theorem gate_init : IsReal (val_main_call0_call0_v0 (F := Ideal) (Shape.Idx.first h_S_)) :=
  ⟨0, by pointwise [val_main_call0_call0_v0, val_main_call0_call0_cst]; rfl⟩

theorem gate_isReal (hf : Finite4 x0 x1 x2 x3) (j : S4x2176.Idx) : IsReal (val_main_v0 x2 j) :=
  hostReduceWindowAdd_isReal (s := S4x2176) (t := S4x2176) (u := S_) ![1, 2176] ![1, 1] ![0, 2175] ![0, 0]
    reduceWindows_S4x2176_S4x2176_w1s1p0_0_w2176s1p2175_0 h_S_ x2 hf.lf (val_main_call0_call0_v0 (F := Ideal)) gate_init j

theorem ref_b (hf : Finite4 x0 x1 x2 x3) (h : Fin 4) (t : Fin 2176) :
    val_main_v0 x2 (ix2 h t) = ((head x0 x1 x2 x3 h).b t : EReal) := by
  rw [head_b]
  exact gateSum_eq h t (gate_isReal hf _)

theorem ref_mask (h : Fin 4) (t s : Fin 2176) :
    val_main_v25_1 (F := Ideal) (ix3 h t s) = BitVec.ofBool (decide (s ≤ t)) := by
  pointwise [val_main_v25_1, val_main_v14, val_main_v13, val_main_call1_v5, val_main_call1_v4, val_main_call1_v3, val_main_call1_v2, val_main_call1_v1, val_main_call1_v0, val_main_call1_c, val_main_c, val_main_call1_c_0]
  rw [show IntOp.addi (BitVec.ofNat 32 t.val) 0#32 = BitVec.ofNat 32 t.val from BitVec.add_zero _,
    WordCmp.cmpi_sge_ofNat (by omega) (by omega), WordCmp.select_decide]
  by_cases hst : s.val ≤ t.val
  · rw [if_pos hst, decide_eq_true (show s ≤ t from hst)]; rfl
  · rw [if_neg hst, decide_eq_false (show ¬ s ≤ t from hst)]; rfl

theorem ref_exponent (hf : Finite4 x0 x1 x2 x3) (h : Fin 4) (t s : Fin 2176) :
    val_main_v25_0 x1 x2 (ix3 h t s) = if s ≤ t then (((head x0 x1 x2 x3 h).b t - (head x0 x1 x2 x3 h).b s + (head x0 x1 x2 x3 h).li s : ℝ) : EReal) else ⊥ := by
  pointwise [val_main_v25_0, val_main_v24, val_main_v23, val_main_v22, val_main_v21, val_main_v20, val_main_v19, val_main_v18, val_main_v17, val_main_call2_v2, val_main_call2_v0, val_main_cst_0]
  rw [ref_mask, ref_b hf, ref_b hf, ref_li hf, WordCmp.select_decide]
  refine if_congr Iff.rfl (by push_cast; rfl) ?_
  exact ofBits_neg_infinity

theorem ref_score (hf : Finite4 x0 x1 x2 x3) (h : Fin 4) (t s : Fin 2176)  :
    val_main_v47 x0 (ix3 h t s) = ((head x0 x1 x2 x3 h).score t s : EReal) := by
  pointwise [val_main_v47, val_main_v16, val_main_v15, val_main_cst]
  simp only [ref_q hf, ref_k hf, scale_eq, ← EReal.coe_mul, ← coe_sum]
  unfold Head.score
  rw [Finset.sum_mul]
  exact congrArg _ (Finset.sum_congr rfl fun d _ => by show _ * scale * _ = _ * scale; ring)

theorem ref_rowmax (hf : Finite4 x0 x1 x2 x3) (h : Fin 4) (t : Fin 2176) :
    IsReal (val_main_v26 x1 x2 (ix2 h t)) ∧ ∃ s : Fin 2176, val_main_v25_0 x1 x2 (ix3 h t s) = val_main_v26 x1 x2 (ix2 h t) := by
  have hd : ∀ (i : S4x2176x2176.Idx), reducesTo_S4x2176x2176_S4x2176_d2.drop i = ix2 (i 0) (i 1) := fun i => by
    refine funext fun a => Fin.ext ?_
    fin_cases a
    · exact Shape.ReducesTo.drop_apply_val_of_eq _ i _ _ (by decide)
    · exact Shape.ReducesTo.drop_apply_val_of_eq _ i _ _ (by decide)
  have hx : ∀ i, IsReal (val_main_v25_0 (F := Ideal) x1 x2 i) ∨ val_main_v25_0 (F := Ideal) x1 x2 i = ⊥ := fun i => by
    idx_vars i
    rw [ref_exponent hf]
    split
    · exact .inl (.coe _)
    · exact .inr rfl
  have key := reduce_max_attained reducesTo_S4x2176x2176_S4x2176_d2 h_S_ (val_main_v25_0 x1 x2) (val_main_cst_1 (F := Ideal))
    ofBits_neg_infinity (ix2 h t) hx (ix3 h t t) (hd _) (by rw [ref_exponent hf, if_pos le_rfl]; exact .coe _)
  refine ⟨key.1, ?_⟩
  obtain ⟨i, hi, e⟩ := key.2
  idx_vars i
  rw [hd] at hi
  have h0 : i0 = h := congrFun hi 0
  have h1 : i1 = t := congrFun hi 1
  subst h0 h1
  exact ⟨i2, e⟩

theorem ref_m (hf : Finite4 x0 x1 x2 x3) (h : Fin 4) (t : Fin 2176) :
    val_main_v32 x1 x2 (ix2 h t) = ((refMu x1 x2 h t + (head x0 x1 x2 x3 h).b t : ℝ) : EReal) := by
  have hr : IsReal (val_main_v32 x1 x2 (ix2 h t)) := by
    rw [val_main_v32_apply, ref_b hf]
    exact (IsReal.coe _).max (ref_rowmax hf h t).1
  rw [head_b, refMu, sub_add_cancel]
  exact refStab_eq h t hr

theorem ref_wt (hf : Finite4 x0 x1 x2 x3) (h : Fin 4) (t s : Fin 2176)  :
    val_main_v51 x1 x2 (ix3 h t s) = ((head x0 x1 x2 x3 h).wt (refMu x1 x2 h) t s : EReal) := by
  pointwise [val_main_v51, val_main_v50, val_main_v49, val_main_v48]
  rw [ref_exponent hf, ref_m hf]
  unfold Head.wt
  split
  · rw [← EReal.coe_sub, Ideal.exp_coe]
    congr 2
    ring
  · rfl

theorem ref_p (hf : Finite4 x0 x1 x2 x3) (h : Fin 4) (t s : Fin 2176)  :
    val_main_v52 x0 x1 x2 (ix3 h t s) = ((head x0 x1 x2 x3 h).p (refMu x1 x2 h) t s : EReal) := by
  pointwise [val_main_v52]
  rw [ref_score hf, ref_wt hf, ← EReal.coe_mul, mul_comm]; rfl

theorem ref_num (hf : Finite4 x0 x1 x2 x3) (h : Fin 4) (t : Fin 2176) (e : Fin 256) :
    val_main_v53 x0 x1 x2 (ix3 h t e) = ((head x0 x1 x2 x3 h).num (refMu x1 x2 h) t e : EReal) := by
  pointwise [val_main_v53]
  simp only [ref_p hf, ref_v hf, ← EReal.coe_mul, ← coe_sum]; rfl

theorem ref_den (hf : Finite4 x0 x1 x2 x3) (h : Fin 4) (t : Fin 2176) :
    val_main_v54 x0 x1 x2 (ix2 h t) = ((head x0 x1 x2 x3 h).den (refMu x1 x2 h) t : EReal) := by
  pointwise [val_main_v54, val_main_cst_9]
  simp only [ref_p hf, ← EReal.coe_mul, ← coe_sum]
  rfl

theorem ref_absden (hf : Finite4 x0 x1 x2 x3) (h : Fin 4) (t : Fin 2176) :
    val_main_v55 x0 x1 x2 (ix2 h t) = ((|(head x0 x1 x2 x3 h).den (refMu x1 x2 h) t| : ℝ) : EReal) := by
  pointwise [val_main_v55]
  rw [ref_den hf]
  exact abs_coe _

theorem ref_clamp (hf : Finite4 x0 x1 x2 x3) (h : Fin 4) (t : Fin 2176) :
    val_main_v59 x1 x2 (ix2 h t) = ((head x0 x1 x2 x3 h).clamp (refMu x1 x2 h) t : EReal) := by
  pointwise [val_main_v59, val_main_v58]
  rw [ref_m hf, ← EReal.coe_neg, Ideal.exp_coe]
  unfold Head.clamp
  congr 2
  ring

theorem ref_dd (hf : Finite4 x0 x1 x2 x3) (h : Fin 4) (t : Fin 2176) :
    val_main_v60 x0 x1 x2 (ix2 h t) = ((head x0 x1 x2 x3 h).dd (refMu x1 x2 h) t : EReal) := by
  pointwise [val_main_v60]
  rw [ref_absden hf, ref_clamp hf]
  exact (coe_max _ _).symm

end Mlstm

end
-- ==== Proof.RefBackward.lean ====
/-
  The reference's backward stages read at an index, as real numbers.
-/
module

public import proofs.«01_k».proof.Proof.RefForward

@[expose] public section

set_option maxRecDepth 16384

noncomputable section

namespace Mlstm

open Idealize.ShloMosaic
open Cert.ReferenceIdeal Cert.ReferenceIdeal.Read Cert.ReferenceIdeal.Gen

variable {x0 : (⟨S2176x2048, .bf16⟩ : BufTy).Contents (Elt Ideal)} {x1 x2 : (⟨S4x2176, .f32⟩ : BufTy).Contents (Elt Ideal)}
  {x3 : (⟨S2176x1024, .f32⟩ : BufTy).Contents (Elt Ideal)}

/-- A choice between two real numbers. -/
theorem coe_ite (p : Prop) [Decidable p] (a b : ℝ) : ((if p then a else b : ℝ) : EReal) = if p then (a : EReal) else (b : EReal) := by
  split <;> rfl

/-- No row's normaliser ties with its clamp. -/
def NoTie (x0 : (⟨S2176x2048, .bf16⟩ : BufTy).Contents (Elt Ideal)) (x1 x2 : (⟨S4x2176, .f32⟩ : BufTy).Contents (Elt Ideal))
    (x3 : (⟨S2176x1024, .f32⟩ : BufTy).Contents (Elt Ideal)) : Prop :=
  ∀ h t, |(head x0 x1 x2 x3 h).den (refMu x1 x2 h) t| ≠ (head x0 x1 x2 x3 h).clamp (refMu x1 x2 h) t

/-- A quotient of real numbers. -/
theorem div_coe' (a b : ℝ) (hb : b ≠ 0) : Ideal.div (a : EReal) (b : EReal) = ((a / b : ℝ) : EReal) := by
  simp only [Ideal.div]
  rw [if_neg (by simpa using hb), ← EReal.coe_inv, ← EReal.coe_mul, div_eq_mul_inv]

theorem ref_gt (hf : Finite4 x0 x1 x2 x3) (hn : NoTie x0 x1 x2 x3) (h : Fin 4) (t : Fin 2176) :
    val_main_v67 x0 x1 x2 (ix2 h t) = ((if (head x0 x1 x2 x3 h).clamp (refMu x1 x2 h) t < |(head x0 x1 x2 x3 h).den (refMu x1 x2 h) t| then 1 else 0 : ℝ) : EReal) := by
  pointwise [val_main_v67, val_main_v66, val_main_v65, val_main_v64, val_main_v63, val_main_v62, val_main_v61, val_main_cst_11, val_main_cst_12, val_main_cst_13]
  rw [ref_absden hf, ref_clamp hf, coe_ite]
  refine if_congr EReal.coe_lt_coe_iff rfl ?_
  rw [if_neg]
  · rfl
  · rw [EReal.coe_eq_coe_iff]; exact hn h t

theorem ref_lt (hf : Finite4 x0 x1 x2 x3) (hn : NoTie x0 x1 x2 x3) (h : Fin 4) (t : Fin 2176) :
    val_main_v74 x0 x1 x2 (ix2 h t) = ((if |(head x0 x1 x2 x3 h).den (refMu x1 x2 h) t| < (head x0 x1 x2 x3 h).clamp (refMu x1 x2 h) t then 1 else 0 : ℝ) : EReal) := by
  pointwise [val_main_v74, val_main_v73, val_main_v72, val_main_v71, val_main_v70, val_main_v69, val_main_v68, val_main_cst_14, val_main_cst_15, val_main_cst_16]
  rw [ref_absden hf, ref_clamp hf, coe_ite]
  refine if_congr EReal.coe_lt_coe_iff rfl ?_
  rw [if_neg]
  · rfl
  · rw [EReal.coe_eq_coe_iff]; exact (hn h t).symm

theorem ref_ddd (hf : Finite4 x0 x1 x2 x3) (h : Fin 4) (t : Fin 2176) :
    val_main_v91 x0 x1 x2 x3 (ix2 h t) = ((-((head x0 x1 x2 x3 h).hdh (refMu x1 x2 h) t / (head x0 x1 x2 x3 h).dd (refMu x1 x2 h) t) : ℝ) : EReal) := by
  rw [← Head.cotangent_dd]
  pointwise [val_main_v91, val_main_v88, val_main_v87, val_main_v86, val_main_v85, val_main_v84, val_main_v83, val_main_v80, val_main_v79, val_main_v78, val_main_v75, val_main_cst_17, val_main_cst_18, val_main_cst_19]
  have hne : (head x0 x1 x2 x3 h).dd (refMu x1 x2 h) t * (head x0 x1 x2 x3 h).dd (refMu x1 x2 h) t ≠ 0 :=
    (mul_pos (Head.dd_pos _ _ _) (Head.dd_pos _ _ _)).ne'
  simp only [ref_dd hf, ref_dh hf, ref_num hf, ← EReal.coe_mul, ← EReal.coe_one, div_coe' _ _ hne, ← coe_sum, ← EReal.coe_neg]
  simp

theorem ref_dn (hf : Finite4 x0 x1 x2 x3) (h : Fin 4) (t : Fin 2176) (e : Fin 256) :
    val_main_v90 x0 x1 x2 x3 (ix3 h t e) = ((head x0 x1 x2 x3 h).dn (refMu x1 x2 h) t e : EReal) := by
  pointwise [val_main_v90, val_main_v89, val_main_v75]
  rw [ref_dd hf, ref_dh hf]
  exact div_coe' _ _ (Head.dd_pos _ _ _).ne'

theorem ref_ge (hf : Finite4 x0 x1 x2 x3) (h : Fin 4) (t : Fin 2176) :
    val_main_v57 x0 x1 x2 (ix2 h t) = BitVec.ofBool (decide (0 ≤ (head x0 x1 x2 x3 h).den (refMu x1 x2 h) t)) := by
  pointwise [val_main_v57, val_main_v56, val_main_cst_10]
  rw [ref_den hf, decide_eq_decide.2 EReal.coe_nonneg]

theorem ref_dden (hf : Finite4 x0 x1 x2 x3) (hn : NoTie x0 x1 x2 x3) (h : Fin 4) (t : Fin 2176) :
    val_main_v100 x0 x1 x2 x3 (ix2 h t) = ((head x0 x1 x2 x3 h).dden (refMu x1 x2 h) t : EReal) := by
  pointwise [val_main_v100, val_main_v99, val_main_v98, val_main_v97, val_main_v96, val_main_v93, val_main_cst_20]
  rw [ref_ddd hf, ref_gt hf hn, ref_ge hf, WordCmp.select_decide, WordCmp.select_decide, ← EReal.coe_mul, ← EReal.coe_zero,
    ← coe_ite, ← coe_ite, ← EReal.coe_neg, ← EReal.coe_add, Head.dden_eq _ _ t _ rfl (hn h t)]

theorem ref_dp (hf : Finite4 x0 x1 x2 x3) (hn : NoTie x0 x1 x2 x3) (h : Fin 4) (t s : Fin 2176) :
    val_main_v105 x0 x1 x2 x3 (ix3 h t s) = ((head x0 x1 x2 x3 h).dp (refMu x1 x2 h) t s : EReal) := by
  pointwise [val_main_v105, val_main_v104, val_main_v101]
  simp only [ref_dden hf hn, ref_dn hf, ref_v hf, ← EReal.coe_mul, ← coe_sum, ← EReal.coe_add]
  rw [add_comm]; rfl

theorem ref_r (hf : Finite4 x0 x1 x2 x3) (hn : NoTie x0 x1 x2 x3) (h : Fin 4) (t s : Fin 2176) :
    val_main_v108 x0 x1 x2 x3 (ix3 h t s) = ((head x0 x1 x2 x3 h).r (refMu x1 x2 h) t s : EReal) := by
  pointwise [val_main_v108, val_main_v106]
  simp only [ref_dp hf hn, ref_score hf, ref_wt hf, ← EReal.coe_mul]
  congr 1
  unfold Head.r Head.p; ring

theorem ref_stab (hf : Finite4 x0 x1 x2 x3) (hn : NoTie x0 x1 x2 x3) (h : Fin 4) (t : Fin 2176) :
    val_main_v113 x0 x1 x2 x3 (ix2 h t) = ((0 : ℝ) : EReal) := by
  rw [← (head x0 x1 x2 x3 h).cotangent_stabiliser (refMu x1 x2 h) t _ rfl (hn h t)]
  pointwise [val_main_v113, val_main_v112, val_main_v111, val_main_v110, val_main_v109, val_main_v95, val_main_v94, val_main_v92, val_main_cst_21, val_main_cst_22]
  simp only [ref_ddd hf, ref_lt hf hn, ref_clamp hf, ref_r hf hn, ← EReal.coe_mul, ← EReal.coe_neg, ← coe_sum, ← EReal.coe_add]
  simp

theorem uitofp_true : FloatOps.uitofp (F := Ideal) FTy.f32 (BitVec.ofBool true) = 1 := by
  show (((BitVec.ofBool true).toNat : ℝ) : EReal) = 1
  simp

theorem uitofp_false : FloatOps.uitofp (F := Ideal) FTy.f32 (BitVec.ofBool false) = 0 := by
  show (((BitVec.ofBool false).toNat : ℝ) : EReal) = 0
  simp

theorem sitofp_zero : FloatOps.sitofp (F := Ideal) FTy.f32 0#32 = 0 := by
  show (((0#32 : BitVec 32).toInt : ℝ) : EReal) = 0
  simp

theorem ref_count (hf : Finite4 x0 x1 x2 x3) (h : Fin 4) (t : Fin 2176) : val_main_v31 x1 x2 (ix2 h t) ≠ 0 := by
  obtain ⟨s, hs⟩ := (ref_rowmax hf h t).2
  have hp : val_main_v31 x1 x2 (ix2 h t) = ∑ s, ((if val_main_v25_0 x1 x2 (ix3 h t s) = val_main_v26 x1 x2 (ix2 h t) then 1 else 0 : ℝ) : EReal) := by
    pointwise [val_main_v31, val_main_v30, val_main_v29, val_main_v28, val_main_v27, val_main_cst_2]
    refine Finset.sum_congr rfl fun x _ => ?_
    split
    · next e => rw [decide_eq_true e, EReal.coe_one]; exact uitofp_true
    · next e => rw [decide_eq_false e, EReal.coe_zero]; exact uitofp_false
  rw [hp, ← coe_sum, ← EReal.coe_zero, Ne, EReal.coe_eq_coe_iff]
  refine (lt_of_lt_of_le one_pos ?_).ne'
  refine le_trans (le_of_eq ?_) (Finset.single_le_sum (fun i _ => ?_) (Finset.mem_univ s))
  · rw [if_pos hs]
  · split <;> norm_num

theorem ref_masked (hf : Finite4 x0 x1 x2 x3) (hn : NoTie x0 x1 x2 x3) (h : Fin 4) (t s : Fin 2176) :
    val_main_v122 x0 x1 x2 x3 (ix3 h t s) = ((head x0 x1 x2 x3 h).r (refMu x1 x2 h) t s : EReal) := by
  have h0 : val_main_v118 x0 x1 x2 x3 (ix2 h t) = 0 := by
    pointwise [val_main_v118, val_main_v116]
    rw [ref_stab hf hn, EReal.coe_zero, zero_mul, Ideal.div, if_neg (ref_count hf h t), zero_mul]
  pointwise [val_main_v122, val_main_v121, val_main_v120, val_main_v119]
  rw [h0, zero_mul, add_zero, ref_r hf hn, ref_mask, WordCmp.select_decide]
  split
  · rfl
  · next hst =>
    rw [Head.r_zero _ _ hst]
    pointwise [val_main_call3_v0, val_main_call3_cst]
    rfl

theorem ref_gli (hf : Finite4 x0 x1 x2 x3) (hn : NoTie x0 x1 x2 x3) (h : Fin 4) (s : Fin 2176) :
    val_main_v125 x0 x1 x2 x3 (ix2 h s) = ((head x0 x1 x2 x3 h).gli (refMu x1 x2 h) s : EReal) := by
  pointwise [val_main_v125, val_main_v124, val_main_v123, val_main_cst_23, val_main_cst_24]
  simp only [ref_masked hf hn, ← coe_sum]
  simp [Head.gli]

theorem ref_gfx (hf : Finite4 x0 x1 x2 x3) (hn : NoTie x0 x1 x2 x3) (h : Fin 4) (t : Fin 2176) :
    val_main_v138 x0 x1 x2 x3 (ix2 h t) = ((head x0 x1 x2 x3 h).gfx (refMu x1 x2 h) t : EReal) := by
  pointwise [val_main_v138, val_main_v134, val_main_v133, val_main_v132, val_main_v131, val_main_v130, val_main_v129, val_main_v128, val_main_v127, val_main_v126, val_main_v117, val_main_cst_25, val_main_cst_26, val_main_cst_27, val_main_cst_28]
  rw [ref_stab hf hn, EReal.coe_zero, zero_mul, ref_gli hf hn]
  simp only [ref_masked hf hn, ← coe_sum, ← EReal.coe_neg, ← EReal.coe_zero, ← EReal.coe_add]
  simp [Head.gli, Head.gfx]

theorem ref_weighted (hf : Finite4 x0 x1 x2 x3) (hn : NoTie x0 x1 x2 x3) (h : Fin 4) (t s : Fin 2176) :
    val_main_v107 x0 x1 x2 x3 (ix3 h t s) = (((head x0 x1 x2 x3 h).dp (refMu x1 x2 h) t s * (head x0 x1 x2 x3 h).wt (refMu x1 x2 h) t s : ℝ) : EReal) := by
  pointwise [val_main_v107]
  rw [ref_dp hf hn, ref_wt hf, ← EReal.coe_mul]

theorem ref_gq (hf : Finite4 x0 x1 x2 x3) (hn : NoTie x0 x1 x2 x3) (h : Fin 4) (t : Fin 2176) (d : Fin 128) :
    val_main_v136 x0 x1 x2 x3 (ix3 h t d) = ((head x0 x1 x2 x3 h).gq (refMu x1 x2 h) t d : EReal) := by
  pointwise [val_main_v136, val_main_v135, val_main_v115, val_main_cst_29]
  simp only [ref_weighted hf hn, ref_k hf, scale_eq, ← EReal.coe_mul, ← coe_sum]
  unfold Head.gq Head.ds
  rw [Finset.sum_mul]
  exact congrArg _ (Finset.sum_congr rfl fun s _ => by show _ * _ * scale = _ * scale * _; ring)

theorem ref_gk (hf : Finite4 x0 x1 x2 x3) (hn : NoTie x0 x1 x2 x3) (h : Fin 4) (s : Fin 2176) (d : Fin 128) :
    val_main_v114 x0 x1 x2 x3 (ix3 h s d) = ((head x0 x1 x2 x3 h).gk (refMu x1 x2 h) s d : EReal) := by
  pointwise [val_main_v114, val_main_v16, val_main_v15, val_main_cst]
  simp only [ref_weighted hf hn, ref_q hf, scale_eq, ← EReal.coe_mul, ← coe_sum]
  unfold Head.gk Head.ds
  exact congrArg _ (Finset.sum_congr rfl fun t _ => by show _ * (_ * scale) = _ * (_ * scale); ring)

theorem ref_gv (hf : Finite4 x0 x1 x2 x3) (hn : NoTie x0 x1 x2 x3) (h : Fin 4) (s : Fin 2176) (e : Fin 256) :
    val_main_v103 x0 x1 x2 x3 (ix3 h s e) = ((head x0 x1 x2 x3 h).gv (refMu x1 x2 h) s e : EReal) := by
  pointwise [val_main_v103, val_main_v102]
  simp only [ref_dn hf, ref_p hf, ← EReal.coe_mul, ← coe_sum]
  rfl

/-! ### The results -/

theorem ref_dq (hf : Finite4 x0 x1 x2 x3) (hn : NoTie x0 x1 x2 x3) (h : Fin 4) (t : Fin 2176) (d : Fin 128) (hl : h.val * 128 + d.val < 512) :
    val_main_v143 x0 x1 x2 x3 (ix2 t ⟨h.val * 128 + d.val, hl⟩) = ((head x0 x1 x2 x3 h).gq (refMu x1 x2 h) t d : EReal) := by
  rw [← ref_gq hf hn]
  pointwise [val_main_v143, val_main_v142, val_main_v141]

theorem ref_dk (hf : Finite4 x0 x1 x2 x3) (hn : NoTie x0 x1 x2 x3) (h : Fin 4) (t : Fin 2176) (d : Fin 128) (hl : h.val * 128 + d.val < 512) :
    val_main_v146 x0 x1 x2 x3 (ix2 t ⟨h.val * 128 + d.val, hl⟩) = ((head x0 x1 x2 x3 h).gk (refMu x1 x2 h) t d : EReal) := by
  rw [← ref_gk hf hn]
  pointwise [val_main_v146, val_main_v145, val_main_v144]

theorem ref_dv (hf : Finite4 x0 x1 x2 x3) (hn : NoTie x0 x1 x2 x3) (h : Fin 4) (t : Fin 2176) (e : Fin 256) (hl : h.val * 256 + e.val < 1024) :
    val_main_v149 x0 x1 x2 x3 (ix2 t ⟨h.val * 256 + e.val, hl⟩) = ((head x0 x1 x2 x3 h).gv (refMu x1 x2 h) t e : EReal) := by
  rw [← ref_gv hf hn]
  pointwise [val_main_v149, val_main_v148, val_main_v147]

theorem ref_dgrow (hf : Finite4 x0 x1 x2 x3) (hn : NoTie x0 x1 x2 x3) (j : Fin 128) (s : Fin 2176) :
    val_main_v137 x0 x1 x2 x3 (ix2 j s) = if hj : j.val < 4 then ((head x0 x1 x2 x3 ⟨j.val, hj⟩).gli (refMu x1 x2 ⟨j.val, hj⟩) s : EReal) else 0 := by
  pointwise [val_main_v137]
  split
  · exact ref_gli hf hn _ s
  · pointwise [val_main_call4_v0, val_main_c_30]
    exact sitofp_zero

theorem ref_dfx (hf : Finite4 x0 x1 x2 x3) (hn : NoTie x0 x1 x2 x3) (t : Fin 2176) (j : Fin 128) :
    val_main_v140 x0 x1 x2 x3 (ix2 t j) = if hj : j.val < 4 then ((head x0 x1 x2 x3 ⟨j.val, hj⟩).gfx (refMu x1 x2 ⟨j.val, hj⟩) t : EReal) else 0 := by
  pointwise [val_main_v140, val_main_v139]
  split
  · exact ref_gfx hf hn _ t
  · pointwise [val_main_call5_v0, val_main_c_31]
    exact sitofp_zero

end Mlstm

end
-- ==== Proof.Host.lean ====
/-
  The arrays the host makes for the kernel, as functions of the kernel's arguments: the gates' rows, the stabiliser's and
  the clamp's columns, and the recomputed forward result.
-/
module

public import proofs.«01_k».proof.Proof.Gen.KernelIdeal.Frame
public import proofs.«01_k».proof.Proof.RefBackward
public import Idealize.ShloMosaic.Lib.Pointwise
public import Idealize.ShloMosaic.Lib.Pipeline.ValueKit
public import Idealize.ShloMosaic.Lib.Claim

@[expose] public section

noncomputable section

set_option maxRecDepth 16384

namespace Mlstm.Host

open Idealize.ShloMosaic Cert.KernelIdeal Cert.KernelIdeal.Gen Idealize.ShloMosaic.TcCoe Idealize.SL.Sem
open Cert.ReferenceIdeal.Read

/-- The input gate's logarithm less the sum of the forget gates' logarithms. -/
def gate (x1 x2 : FVec Ideal S4x2176 .f32) : FVec Ideal S4x2176 .f32 :=
  subf x1 (val_main_v0 (F := Ideal) x2 : FVec Ideal S4x2176 .f32)

/-- Its running maximum. -/
def top (x1 x2 : FVec Ideal S4x2176 .f32) : FVec Ideal S4x2176 .f32 :=
  Host.reduceWindow (FloatOps.maximumf (F := Ideal) (φ := .f32)) ![1, 2176] ![1, 1] ![0, 2175] ![0, 0] (gate x1 x2)
    (broadcastInDim S_ ![] bcast_S_S_ (constant (F := Ideal) S_ .f32 0xFF800000#32))
    reduceWindows_S4x2176_S4x2176_w1s1p0_0_w2176s1p2175_0 h_S_

/-- The forward result, one block of columns per head. -/
def forward (x0 : FVec Ideal S2176x2048 .bf16) (x1 x2 : FVec Ideal S4x2176 .f32) : FVec Ideal S2176x1024 .f32 :=
  shapeCast S2176x1024 (transpose S2176x4x256 [1, 0, 2] (Host.divf (val_main_v53 (F := Ideal) x0 x1 x2 : FVec Ideal S4x2176x256 .f32)
    (broadcastInDim S4x2176x256 ![0, 1, 2] bcast_S4x2176x1_S4x2176x256_0_1_2 (broadcastInDim S4x2176x1 ![0, 1] bcast_S4x2176_S4x2176x1_0_1
      (val_main_v60 (F := Ideal) x0 x1 x2 : FVec Ideal S4x2176 .f32) : FVec Ideal S4x2176x1 .f32) : FVec Ideal S4x2176x256 .f32) : FVec Ideal S4x2176x256 .f32) transposes_S4x2176x256_S2176x4x256_1_0_2 : FVec Ideal S2176x4x256 .f32) shapeCasts_S2176x4x256_S2176x1024

/-! A value written to a called function's result, or read from its operand, is the value itself. -/

theorem to_main_v0 (h1 h2 h3) (v : (⟨S4x2176, .f32⟩ : BufTy).Contents (Elt Ideal)) :
    (StableHlo.TRef.of (T := ⟨S4x2176, .f32⟩) main_v0 h1 h2 h3).toBuf (Val := Elt Ideal) v = v := rfl
theorem to_main_v2 (h1 h2 h3) (v : (⟨S4x2176, .f32⟩ : BufTy).Contents (Elt Ideal)) :
    (StableHlo.TRef.of (T := ⟨S4x2176, .f32⟩) main_v2 h1 h2 h3).toBuf (Val := Elt Ideal) v = v := rfl
theorem to_main_v3 (h1 h2 h3) (v : (⟨S128x2176, .f32⟩ : BufTy).Contents (Elt Ideal)) :
    (StableHlo.TRef.of (T := ⟨S128x2176, .f32⟩) main_v3 h1 h2 h3).toBuf (Val := Elt Ideal) v = v := rfl
theorem to_main_v5 (h1 h2 h3) (v : (⟨S2176x128, .f32⟩ : BufTy).Contents (Elt Ideal)) :
    (StableHlo.TRef.of (T := ⟨S2176x128, .f32⟩) main_v5 h1 h2 h3).toBuf (Val := Elt Ideal) v = v := rfl
theorem to_main_v9 (h1 h2 h3) (v : (⟨S2176x128, .f32⟩ : BufTy).Contents (Elt Ideal)) :
    (StableHlo.TRef.of (T := ⟨S2176x128, .f32⟩) main_v9 h1 h2 h3).toBuf (Val := Elt Ideal) v = v := rfl
theorem to_main_v23 (h1 h2 h3) (v : (⟨S2176x2176, .i1⟩ : BufTy).Contents (Elt Ideal)) :
    (StableHlo.TRef.of (T := ⟨S2176x2176, .i1⟩) main_v23 h1 h2 h3).toBuf (Val := Elt Ideal) v = v := rfl
theorem to_main_v34 (h1 h2 h3) (v : (⟨S4x2176x2176, .f32⟩ : BufTy).Contents (Elt Ideal)) :
    (StableHlo.TRef.of (T := ⟨S4x2176x2176, .f32⟩) main_v34 h1 h2 h3).toBuf (Val := Elt Ideal) v = v := rfl
theorem of_main_arg2 (h1 h2 h3) (v) :
    (StableHlo.TRef.of (T := ⟨S4x2176, .f32⟩) main_arg2 h1 h2 h3).ofBuf (Val := Elt Ideal) v = v := rfl
theorem of_main_v1 (h1 h2 h3) (v) :
    (StableHlo.TRef.of (T := ⟨S4x2176, .f32⟩) main_v1 h1 h2 h3).ofBuf (Val := Elt Ideal) v = v := rfl
theorem of_main_v4 (h1 h2 h3) (v) :
    (StableHlo.TRef.of (T := ⟨S2176x4, .f32⟩) main_v4 h1 h2 h3).ofBuf (Val := Elt Ideal) v = v := rfl
theorem of_main_v8 (h1 h2 h3) (v) :
    (StableHlo.TRef.of (T := ⟨S2176x4, .f32⟩) main_v8 h1 h2 h3).ofBuf (Val := Elt Ideal) v = v := rfl
theorem of_main_c (h1 h2 h3) (v) :
    (StableHlo.TRef.of (T := ⟨S_, .i32⟩) main_c h1 h2 h3).ofBuf (Val := Elt Ideal) v = v := rfl
theorem of_main_c_0 (h1 h2 h3) (v) :
    (StableHlo.TRef.of (T := ⟨S_, .i32⟩) main_c_0 h1 h2 h3).ofBuf (Val := Elt Ideal) v = v := rfl
theorem of_main_c_1 (h1 h2 h3) (v) :
    (StableHlo.TRef.of (T := ⟨S_, .i32⟩) main_c_1 h1 h2 h3).ofBuf (Val := Elt Ideal) v = v := rfl
theorem of_main_v22 (h1 h2 h3) (v) :
    (StableHlo.TRef.of (T := ⟨S2176x2176, .i1⟩) main_v22 h1 h2 h3).ofBuf (Val := Elt Ideal) v = v := rfl
theorem of_main_v33 (h1 h2 h3) (v) :
    (StableHlo.TRef.of (T := ⟨S4x2176x2176, .f32⟩) main_v33 h1 h2 h3).ofBuf (Val := Elt Ideal) v = v := rfl
theorem of_main_v23 (h1 h2 h3) (v) :
    (StableHlo.TRef.of (T := ⟨S2176x2176, .i1⟩) main_v23 h1 h2 h3).ofBuf (Val := Elt Ideal) v = v := rfl
theorem of_main_cst_3 (h1 h2 h3) (v) :
    (StableHlo.TRef.of (T := ⟨S_, .f32⟩) main_cst_3 h1 h2 h3).ofBuf (Val := Elt Ideal) v = v := rfl

variable (m : (ℓ : Loc nD τ sig) → Buf (Elt Ideal) ℓ) (c : Dev nD)
/-- The kernel's arguments. -/
abbrev X0 : Buf (Elt Ideal) ((c : Thread nD τ).loc main_arg0) := m ((c : Thread nD τ).loc main_arg0)
abbrev X1 : Buf (Elt Ideal) ((c : Thread nD τ).loc main_arg1) := m ((c : Thread nD τ).loc main_arg1)
abbrev X2 : Buf (Elt Ideal) ((c : Thread nD τ).loc main_arg2) := m ((c : Thread nD τ).loc main_arg2)
/-- The gates as the kernel's rows: one row per head, the rest zero. -/
theorem V_grow : V m c main_v3 = pad S128x2176 ![0, 0] ![124, 0] ![0, 0] (gate (X1 m c) (X2 m c)) (sitofp .f32 (constantI S_ 32 0#32)) pads_S4x2176_S128x2176_01240_000 h_S_ := by
  unfold V
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil,
    List.cons_append, List.nil_append, StableHlo.after_cons, StableHlo.after_nil]
  after_results_simp
  after_results_loop
  simp only [StableHlo.TRef.ofBuf_toBuf, to_main_v0, to_main_v2, to_main_v3, to_main_v5, to_main_v9, to_main_v23, to_main_v34, of_main_arg2, of_main_v1, of_main_v4, of_main_v8, of_main_c, of_main_c_0, of_main_c_1, of_main_v22, of_main_v33, of_main_v23, of_main_cst_3]
  unfold gate val_main_v0 val_main_call0_call0_v0 val_main_call0_call0_cst
  first | done | rfl
/-- The running maximum as the kernel's columns. -/
theorem V_mcol : V m c main_v5 = pad S2176x128 ![0, 0] ![0, 124] ![0, 0] (transpose S2176x4 [1, 0] (top (X1 m c) (X2 m c)) transposes_S4x2176_S2176x4_1_0) (sitofp .f32 (constantI S_ 32 0#32)) pads_S2176x4_S2176x128_000_01240 h_S_ := by
  unfold V
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil,
    List.cons_append, List.nil_append, StableHlo.after_cons, StableHlo.after_nil]
  after_results_simp
  after_results_loop
  simp only [StableHlo.TRef.ofBuf_toBuf, to_main_v0, to_main_v2, to_main_v3, to_main_v5, to_main_v9, to_main_v23, to_main_v34, of_main_arg2, of_main_v1, of_main_v4, of_main_v8, of_main_c, of_main_c_0, of_main_c_1, of_main_v22, of_main_v33, of_main_v23, of_main_cst_3]
  unfold top gate val_main_v0 val_main_call0_call0_v0 val_main_call0_call0_cst
  with_reducible_and_instances rfl
/-- The clamp's exponent as the kernel's columns. -/
theorem V_ccol : V m c main_v9 = pad S2176x128 ![0, 0] ![0, 124] ![0, 0] (transpose S2176x4 [1, 0] (subf (Host.negf (val_main_v0 (F := Ideal) (X2 m c) : FVec Ideal S4x2176 .f32)) (top (X1 m c) (X2 m c))) transposes_S4x2176_S2176x4_1_0) (sitofp .f32 (constantI S_ 32 0#32)) pads_S2176x4_S2176x128_000_01240 h_S_ := by
  unfold V
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil,
    List.cons_append, List.nil_append, StableHlo.after_cons, StableHlo.after_nil]
  after_results_simp
  after_results_loop
  simp only [StableHlo.TRef.ofBuf_toBuf, to_main_v0, to_main_v2, to_main_v3, to_main_v5, to_main_v9, to_main_v23, to_main_v34, of_main_arg2, of_main_v1, of_main_v4, of_main_v8, of_main_c, of_main_c_0, of_main_c_1, of_main_v22, of_main_v33, of_main_v23, of_main_cst_3]
  unfold top gate val_main_v0 val_main_call0_call0_v0 val_main_call0_call0_cst
  with_reducible_and_instances rfl
/-- The forward result the kernel is given, recomputed by the host. -/
theorem V_ht : V m c main_v53 = forward (X0 m c) (X1 m c) (X2 m c) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil,
    List.cons_append, List.nil_append, StableHlo.after_cons, StableHlo.after_nil]
  after_results_simp
  after_results_loop
  simp only [StableHlo.TRef.ofBuf_toBuf, to_main_v0, to_main_v2, to_main_v3, to_main_v5, to_main_v9, to_main_v23, to_main_v34, of_main_arg2, of_main_v1, of_main_v4, of_main_v8, of_main_c, of_main_c_0, of_main_c_1, of_main_v22, of_main_v33, of_main_v23, of_main_cst_3]
  unfold forward val_main_v60 val_main_v55 val_main_v54 val_main_cst_9 val_main_v59 val_main_v58 val_main_v53 val_main_v12 val_main_v11 val_main_v10 val_main_v9 val_main_v52 val_main_v51 val_main_v50 val_main_v49 val_main_v48 val_main_v32 val_main_v26 val_main_v25_0 val_main_call2_v2 val_main_call2_v0 val_main_cst_0 val_main_v24 val_main_v21 val_main_v19 val_main_v17 val_main_v20 val_main_v18 val_main_v0 val_main_call0_call0_v0 val_main_call0_call0_cst val_main_v23 val_main_v22 val_main_v25_1 val_main_v14 val_main_call1_v4 val_main_call1_v2 val_main_call1_v0 val_main_call1_v1 val_main_call1_c val_main_call1_v3 val_main_call1_v5 val_main_call1_c_0 val_main_v13 val_main_c val_main_cst_1 val_main_v47 val_main_v8 val_main_v7 val_main_v6 val_main_v5 val_main_v16 val_main_v4 val_main_v3 val_main_v2 val_main_v1 val_main_v15 val_main_cst
  rfl

end Mlstm.Host
-- ==== Proof.HostReal.lean ====
/-
  The host's arrays, element by element, as real numbers.
-/
module

public import proofs.«01_k».proof.Proof.Host

@[expose] public section

noncomputable section

set_option maxRecDepth 16384

namespace Mlstm.Host

open Reals Idealize.ShloMosaic Cert.KernelIdeal Cert.KernelIdeal.Gen
open Cert.ReferenceIdeal.Read

variable {x0 : FVec Ideal S2176x2048 .bf16} {x1 x2 : FVec Ideal S4x2176 .f32} {x3 : FVec Ideal S2176x1024 .f32}

/-- The kernel's stabiliser, less the gates' running sum: the running maximum of the gates. -/
def mu (x1 x2 : FVec Ideal S4x2176 .f32) (h : Fin 4) (t : Fin 2176) : ℝ := (top x1 x2 (ix2 h t)).toReal

theorem mu_eq (h : Fin 4) (t : Fin 2176) (hr : IsReal (top x1 x2 (ix2 h t))) : top x1 x2 (ix2 h t) = (mu x1 x2 h t : EReal) := by
  unfold mu; exact hr.eq

attribute [irreducible] mu

theorem gate_eq (hf : Finite4 x0 x1 x2 x3) (h : Fin 4) (t : Fin 2176) :
    gate x1 x2 (ix2 h t) = (((head x0 x1 x2 x3 h).li t - (head x0 x1 x2 x3 h).b t : ℝ) : EReal) := by
  show x1 (ix2 h t) - val_main_v0 (F := Ideal) x2 (ix2 h t) = _
  rw [ref_b hf, ref_li hf, EReal.coe_sub]

theorem gate_real (hf : Finite4 x0 x1 x2 x3) (j : S4x2176.Idx) : IsReal (gate x1 x2 j) := by
  have hj : j = ix2 (j 0) (j 1) := by
    funext a
    fin_cases a <;> rfl
  rw [hj]
  exact ⟨_, gate_eq hf (j 0) (j 1)⟩

theorem top_eq (hf : Finite4 x0 x1 x2 x3) (h : Fin 4) (t : Fin 2176) : top x1 x2 (ix2 h t) = (mu x1 x2 h t : EReal) :=
  mu_eq h t (cummax_isReal (H := 4) (N := 2176) reduceWindows_S4x2176_S4x2176_w1s1p0_0_w2176s1p2175_0 h_S_ (gate x1 x2)
    (gate_real hf) _ (by pointwise; exact ofBits_neg_infinity) h t)

/-- It is at least every gate up to its position. -/
theorem le_mu (hf : Finite4 x0 x1 x2 x3) (h : Fin 4) (t s : Fin 2176) (hst : s ≤ t) :
    (head x0 x1 x2 x3 h).li s - (head x0 x1 x2 x3 h).b s ≤ mu x1 x2 h t := by
  have := le_cummax (H := 4) (N := 2176) reduceWindows_S4x2176_S4x2176_w1s1p0_0_w2176s1p2175_0 h_S_ (gate x1 x2)
    (broadcastInDim S_ ![] bcast_S_S_ (constant (F := Ideal) S_ .f32 0xFF800000#32)) h s t hst
  have h2 := (gate_eq hf h s).symm.le.trans (this.trans (le_of_eq (top_eq hf h t)))
  exact_mod_cast h2

theorem forward_eq (hf : Finite4 x0 x1 x2 x3) (h : Fin 4) (t : Fin 2176) (e : Fin 256) (hl : h.val * 256 + e.val < 1024) :
    forward x0 x1 x2 (ix2 t ⟨h.val * 256 + e.val, hl⟩) = ((head x0 x1 x2 x3 h).ht (mu x1 x2 h) t e : EReal) := by
  have : forward x0 x1 x2 (ix2 t ⟨h.val * 256 + e.val, hl⟩)
      = Ideal.div (val_main_v53 (F := Ideal) x0 x1 x2 (ix3 h t e)) (val_main_v60 (F := Ideal) x0 x1 x2 (ix2 h t)) := by
    pointwise [forward]
  rw [this, ref_num hf, ref_dd hf, div_coe' _ _ ((head x0 x1 x2 x3 h).dd_pos _ _).ne']
  exact congrArg _ ((head x0 x1 x2 x3 h).ht_change (mu x1 x2 h) (refMu x1 x2 h) t e)

end Mlstm.Host
-- ==== Proof.Tile.lean ====
/-
  One tile of 544 rows against the first `n` columns, over the real numbers.

  The kernel takes the sequence in four tiles of rows and, at tile `i`, only the first `n ≥ (i + 1) * 544` columns: the
  others have weight zero. Here are the sums over those columns and the running sums over the tiles, and the arithmetic
  of one tile: each lemma takes what the kernel computes at one element, over the extended reals, to the real number
  `Gradient` has a name for.
-/
module

public import proofs.«01_k».proof.Proof.RefForward
public import proofs.«01_k».proof.Proof.RefBackward

@[expose] public section

set_option maxRecDepth 16384

noncomputable section

namespace Mlstm

open Idealize.ShloMosaic

/-- Row `r` of tile `i`. -/
def row (i : Fin 4) (r : Fin 544) : Fin 2176 := ⟨i.val * 544 + r.val, by omega⟩

/-- A function of the position, continued by zero. -/
def ext (f : Fin 2176 → ℝ) (t : ℕ) : ℝ := if h : t < 2176 then f ⟨t, h⟩ else 0

/-- The sum over the first `i` tiles. -/
def upto (f : Fin 2176 → ℝ) (i : ℕ) : ℝ := ∑ t ∈ Finset.range (i * 544), ext f t

theorem upto_zero (f : Fin 2176 → ℝ) : upto f 0 = 0 := by simp [upto]

theorem upto_succ (f : Fin 2176 → ℝ) (i : Fin 4) : upto f (i.val + 1) = upto f i.val + ∑ r, f (row i r) := by
  unfold upto
  rw [show (i.val + 1) * 544 = i.val * 544 + 544 by ring, Finset.sum_range_add, Finset.sum_range (n := 544)]
  refine congrArg _ (Finset.sum_congr rfl fun r _ => ?_)
  rw [ext, dif_pos (by omega)]; rfl

theorem upto_four (f : Fin 2176 → ℝ) : upto f 4 = ∑ t, f t := by
  unfold upto
  rw [show 4 * 544 = 2176 by norm_num, Finset.sum_range]
  exact Finset.sum_congr rfl fun t _ => by rw [ext, dif_pos t.isLt]

/-- Nothing is summed before the first nonzero term. -/
theorem upto_before (f : Fin 2176 → ℝ) (s : Fin 2176) (hf : ∀ t, t < s → f t = 0) (i : ℕ) (h : i * 544 ≤ s.val) :
    upto f i = 0 := by
  refine Finset.sum_eq_zero fun t ht => ?_
  have ht' := Finset.mem_range.mp ht
  rw [ext, dif_pos (by omega)]
  exact hf _ (Fin.lt_def.mpr (by show t < s.val; omega))

/-- A sum over the columns is the sum over the first `n`, the others being zero. -/
theorem sum_cols {n : ℕ} (hn : n ≤ 2176) (f : Fin 2176 → ℝ) (hf : ∀ s : Fin 2176, n ≤ s.val → f s = 0) :
    ∑ s : Fin n, f (Fin.castLE hn s) = ∑ s, f s := by
  have h1 : ∑ s : Fin n, f (Fin.castLE hn s) = ∑ t ∈ Finset.range n, ext f t := by
    rw [Finset.sum_range]
    exact Finset.sum_congr rfl fun t _ => by rw [ext, dif_pos (by omega)]; rfl
  have h2 : ∑ s, f s = ∑ t ∈ Finset.range 2176, ext f t := by
    rw [Finset.sum_range]
    exact Finset.sum_congr rfl fun t _ => by rw [ext, dif_pos t.isLt]
  rw [h1, h2]
  refine Finset.sum_subset (Finset.range_mono hn) fun t ht hn' => ?_
  rw [ext, dif_pos (Finset.mem_range.mp ht)]
  exact hf _ (by simpa using hn')

/-- What the kernel reads at tile `i` of one head: blocks of the head's arrays, as real numbers. `μ` is its stabiliser. -/
structure Reads (H : Head 2176 128 256) (μ : Fin 2176 → ℝ) (i : Fin 4) {n : ℕ} (hn : n ≤ 2176) (w : BitVec 32)
    (q : Fin 544 → Fin 128 → EReal) (k : Fin n → Fin 128 → EReal) (v : Fin n → Fin 256 → EReal) (g : Fin n → EReal)
    (a b : Fin 544 → EReal) (dh ht : Fin 544 → Fin 256 → EReal) : Prop where
  tile : w = BitVec.ofNat 32 i.val
  cover : (i.val + 1) * 544 ≤ n
  scale : Ideal.ofBits .f32 0x3DB504F3#32 = (H.c : EReal)
  top : ∀ t s, s ≤ t → H.li s - H.b s ≤ μ t
  q : ∀ r d, q r d = (H.q (row i r) d : EReal)
  k : ∀ s d, k s d = (H.k (Fin.castLE hn s) d : EReal)
  v : ∀ s e, v s e = (H.v (Fin.castLE hn s) e : EReal)
  gate : ∀ s, g s = ((H.li (Fin.castLE hn s) - H.b (Fin.castLE hn s) : ℝ) : EReal)
  stab : ∀ r, a r = (μ (row i r) : EReal)
  clamp : ∀ r, b r = ((-H.b (row i r) - μ (row i r) : ℝ) : EReal)
  dh : ∀ r e, dh r e = (H.dh (row i r) e : EReal)
  ht : ∀ r e, ht r e = (H.ht μ (row i r) e : EReal)

namespace Reads

variable {H : Head 2176 128 256} {μ : Fin 2176 → ℝ} {i : Fin 4} {n : ℕ} {hn : n ≤ 2176} {w : BitVec 32}
  {q : Fin 544 → Fin 128 → EReal} {k : Fin n → Fin 128 → EReal} {v : Fin n → Fin 256 → EReal} {g : Fin n → EReal}
  {a b : Fin 544 → EReal} {dh ht : Fin 544 → Fin 256 → EReal}
  (R : Reads H μ i hn w q k v g a b dh ht)

include R

/-- The causal mask, on the words of the two positions. -/
theorem mask (r : Fin 544) (s : Fin n) :
    IntOp.cmpi CmpIPredicate.sle (BitVec.ofNat 32 s.val) (IntOp.addi (Scalar.muli w 544#32) (BitVec.ofNat 32 r.val))
      = BitVec.ofBool (decide (Fin.castLE hn s ≤ row i r)) := by
  have h1 : IntOp.addi (Scalar.muli w 544#32) (BitVec.ofNat 32 r.val) = BitVec.ofNat 32 (i.val * 544 + r.val) := by
    rw [R.tile]
    show BitVec.ofNat 32 i.val * 544#32 + BitVec.ofNat 32 r.val = _
    rw [BitVec.ofNat_add, BitVec.ofNat_mul]
  have := s.isLt
  rw [h1, WordCmp.cmpi_sle_ofNat (by omega) (by omega)]
  rfl

/-- Columns after the tile are after each of its rows. -/
theorem after (r : Fin 544) (s : Fin 2176) (h : n ≤ s.val) : ¬ s ≤ row i r := by
  have := R.cover; have := r.isLt
  rw [Fin.le_def]; show ¬ s.val ≤ i.val * 544 + r.val
  omega

theorem wt (r : Fin 544) (s : Fin n) :
    Scalar.select (IntOp.cmpi CmpIPredicate.sle (BitVec.ofNat 32 s.val)
        (IntOp.addi (Scalar.muli w 544#32) (BitVec.ofNat 32 r.val))) (Ideal.exp (min (g s - a r) 0)) 0
      = (H.wt μ (row i r) (Fin.castLE hn s) : EReal) := by
  rw [R.mask, WordCmp.select_decide, Head.wt]
  split
  · next h =>
    rw [R.gate, R.stab, ← EReal.coe_sub, min_eq_left (by exact_mod_cast sub_nonpos.mpr (R.top _ _ h)), Ideal.exp_coe]
  · simp

theorem p (r : Fin 544) (s : Fin n) :
    (H.wt μ (row i r) (Fin.castLE hn s) : EReal) * ((∑ x, q r x * k s x) * Ideal.ofBits .f32 0x3DB504F3#32)
      = (H.p μ (row i r) (Fin.castLE hn s) : EReal) := by
  rw [R.scale, Finset.sum_congr rfl fun x _ => by rw [R.q, R.k, ← EReal.coe_mul], ← coe_sum, ← EReal.coe_mul,
    ← EReal.coe_mul]
  rfl

theorem den (r : Fin 544) :
    ∑ s : Fin n, (H.p μ (row i r) (Fin.castLE hn s) : EReal) = (H.den μ (row i r) : EReal) := by
  rw [← coe_sum, sum_cols hn (fun s => H.p μ (row i r) s) fun s h => H.p_zero _ (R.after r s h)]
  rfl

theorem active (r : Fin 544) :
    BitVec.ofBool (decide (FloatOps.absf (F := Ideal) (φ := .f32) ((H.den μ (row i r) : ℝ) : EReal)
        < Ideal.exp (b r)))
      = BitVec.ofBool (decide (|H.den μ (row i r)| < H.clamp μ (row i r))) := by
  rw [R.clamp, Ideal.exp_coe]
  simp only [abs_coe, EReal.coe_lt_coe_iff]
  rfl

theorem dd (r : Fin 544) :
    max (FloatOps.absf (F := Ideal) (φ := .f32) ((H.den μ (row i r) : ℝ) : EReal)) (Ideal.exp (b r))
      = (H.dd μ (row i r) : EReal) := by
  rw [R.clamp, Ideal.exp_coe]
  rw [abs_coe, ← coe_max]
  rfl

theorem hdh (r : Fin 544) : ∑ e, dh r e * ht r e = (H.hdh μ (row i r) : EReal) := by
  rw [Finset.sum_congr rfl fun x _ => by rw [R.dh, R.ht, ← EReal.coe_mul], ← coe_sum]
  rfl

theorem dn (r : Fin 544) (e : Fin 256) :
    Ideal.div (dh r e) (H.dd μ (row i r) : EReal) = (H.dn μ (row i r) e : EReal) := by
  rw [R.dh, div_coe' _ _ (H.dd_pos _ _).ne']
  rfl

theorem dp (r : Fin 544) (s : Fin n) :
    ∑ e, (H.dn μ (row i r) e : EReal) * v s e
        + Scalar.select (BitVec.ofBool (decide (|H.den μ (row i r)| < H.clamp μ (row i r)))) 0
          ((0 - Ideal.div (H.hdh μ (row i r) : EReal) (H.dd μ (row i r) : EReal))
            * if 0 < FloatOps.absf (F := Ideal) (φ := .f32) ((H.den μ (row i r) : ℝ) : EReal) then
                if ((H.den μ (row i r) : ℝ) : EReal) < 0 then Ideal.ofBits .f32 0xBF800000#32 else 1
              else ((H.den μ (row i r) : ℝ) : EReal))
      = (H.dp μ (row i r) (Fin.castLE hn s) : EReal) := by
  rw [WordCmp.select_decide, div_coe' _ _ (H.dd_pos _ _).ne',
    Finset.sum_congr rfl fun x _ => by rw [R.v, ← EReal.coe_mul], ← coe_sum, Head.dp, Head.dden, EReal.coe_add]
  congr 1
  split
  · simp
  · next h =>
    have hpos : 0 < |H.den μ (row i r)| := lt_of_lt_of_le (H.clamp_pos _ _) (not_lt.mp h)
    rw [abs_coe, if_pos (by exact_mod_cast hpos), show Ideal.ofBits .f32 0xBF800000#32 = ((-1 : ℝ) : EReal) from by
      simp [Ideal.ofBits, Ideal.ieee]
      norm_num [← EReal.coe_mul], zero_sub, ← EReal.coe_neg]
    by_cases hneg : H.den μ (row i r) < 0
    · rw [if_pos (by exact_mod_cast hneg), if_pos hneg, ← EReal.coe_mul]
    · rw [if_neg (by exact_mod_cast hneg), if_neg hneg, EReal.coe_mul, EReal.coe_one]

theorem r (r : Fin 544) (s : Fin n) :
    (H.dp μ (row i r) (Fin.castLE hn s) : EReal) * (H.p μ (row i r) (Fin.castLE hn s) : EReal)
      = (H.r μ (row i r) (Fin.castLE hn s) : EReal) := by
  rw [← EReal.coe_mul]
  rfl

theorem ds (r : Fin 544) (s : Fin n) :
    (H.dp μ (row i r) (Fin.castLE hn s) : EReal) * (H.wt μ (row i r) (Fin.castLE hn s) : EReal)
        * Ideal.ofBits .f32 0x3DB504F3#32
      = (H.ds μ (row i r) (Fin.castLE hn s) : EReal) := by
  rw [R.scale, ← EReal.coe_mul, ← EReal.coe_mul]
  rfl

theorem gq (r : Fin 544) (d : Fin 128) :
    ∑ s : Fin n, (H.ds μ (row i r) (Fin.castLE hn s) : EReal) * k s d = (H.gq μ (row i r) d : EReal) := by
  rw [Finset.sum_congr rfl fun x _ => by rw [R.k, ← EReal.coe_mul], ← coe_sum,
    sum_cols hn (fun s => H.ds μ (row i r) s * H.k s d) fun s h => by rw [H.ds_zero _ (R.after r s h), zero_mul]]
  rfl

theorem gfx (r : Fin 544) :
    ∑ s : Fin n, (H.r μ (row i r) (Fin.castLE hn s) : EReal) = (H.gfx μ (row i r) : EReal) := by
  rw [← coe_sum, sum_cols hn (fun s => H.r μ (row i r) s) fun s h => H.r_zero _ (R.after r s h)]
  rfl

/-- One tile's part of a sum over the positions, added to the tiles before it. -/
theorem step (x : EReal) (f : Fin 2176 → ℝ) (y : Fin 544 → EReal) (hx : x = (upto f i.val : EReal))
    (hy : ∀ r, y r = (f (row i r) : EReal)) : x + ∑ r, y r = (upto f (i.val + 1) : EReal) := by
  rw [hx, Finset.sum_congr rfl fun r _ => hy r, ← coe_sum, ← EReal.coe_add, upto_succ]

end Reads

end Mlstm
-- ==== Proof.Blocks.lean ====
/-
  The blocks the kernel reads at a grid point, as entries of its arguments and of the host's arrays: point `t` is tile
  `t % 4` of head `t / 4`.
-/
module

public import proofs.«01_k».proof.Proof.HostReal
public import proofs.«01_k».proof.Proof.Tile

@[expose] public section

noncomputable section

set_option maxRecDepth 16384

namespace Mlstm.Blocks

open Idealize.ShloMosaic Cert.KernelIdeal Cert.KernelIdeal.Gen Idealize.ShloMosaic.TcCoe Idealize.SL.Sem
open Mlstm.Host

/-- The head of a grid point. -/
def hd (t : Fin cfg0.N) : Fin 4 := ⟨t.val / 4, by have : t.val < 16 := t.isLt; omega⟩

/-- Its tile of rows. -/
def tl (t : Fin cfg0.N) : Fin 4 := ⟨t.val % 4, by omega⟩

theorem coords : ∀ t : Fin cfg0.N, (grid0.coords t 0).val = (hd t).val ∧ (grid0.coords t 1).val = (tl t).val :=
  (by decide +kernel : ∀ t : Fin grid0.N, _)

/-- Which block of each array a grid point reads. -/
theorem idx : ∀ t : Fin cfg0.N, win0_0.index t = ![(tl t).val, (hd t).val] ∧ win0_1.index t = ![0, 4 + (hd t).val]
    ∧ win0_2.index t = ![0, 4 + (hd t).val] ∧ win0_3.index t = ![0, 0] ∧ win0_4.index t = ![(tl t).val, 0]
    ∧ win0_5.index t = ![(tl t).val, 0] ∧ win0_6.index t = ![(tl t).val, (hd t).val]
    ∧ win0_7.index t = ![(tl t).val, (hd t).val] :=
  (by decide +kernel : ∀ t : Fin grid0.N, _)

variable (m : (ℓ : Loc nD τ sig) → Buf (Elt Ideal) ℓ) (c : Dev nD)

/-- The kernel's fourth argument: the gradient of the result. -/
abbrev X3 : Buf (Elt Ideal) ((c : Thread nD τ).loc main_arg3) := m ((c : Thread nD τ).loc main_arg3)

theorem blk_q (t : Fin cfg0.N) (r : Fin 544) (d : Fin 128) :
    iblk m c 0 t (ix2 r d) = X0 m c (ix2 (row (tl t) r) ⟨(hd t).val * 128 + d.val, by omega⟩) := by
  blk_point [iblk, V, idx t]
  rfl

theorem blk_k (t : Fin cfg0.N) (s : Fin 2176) (d : Fin 128) :
    iblk m c 1 t (ix2 s d) = X0 m c (ix2 s ⟨512 + ((hd t).val * 128 + d.val), by omega⟩) := by
  blk_point [iblk, V, idx t]

theorem blk_v (t : Fin cfg0.N) (s : Fin 2176) (e : Fin 256) :
    iblk m c 2 t (ix2 s e) = X0 m c (ix2 s ⟨1024 + ((hd t).val * 256 + e.val), by omega⟩) := by
  blk_point [iblk, V, idx t]

theorem blk_dh (t : Fin cfg0.N) (r : Fin 544) (e : Fin 256) :
    iblk m c 7 t (ix2 r e) = X3 m c (ix2 (row (tl t) r) ⟨(hd t).val * 256 + e.val, by omega⟩) := by
  blk_point [iblk, V, idx t]
  rfl

theorem blk_g (t : Fin cfg0.N) (j : Fin 8) (s : Fin 2176) :
    iblk m c 3 t (ix2 j s) = V m c main_v3 (ix2 ⟨j.val, by omega⟩ s) := by
  blk_point [iblk, idx t]

theorem blk_m (t : Fin cfg0.N) (r : Fin 544) (j : Fin 128) :
    iblk m c 4 t (ix2 r j) = V m c main_v5 (ix2 (row (tl t) r) j) := by
  blk_point [iblk, idx t]
  rfl

theorem blk_c (t : Fin cfg0.N) (r : Fin 544) (j : Fin 128) :
    iblk m c 5 t (ix2 r j) = V m c main_v9 (ix2 (row (tl t) r) j) := by
  blk_point [iblk, idx t]
  rfl

theorem blk_ht (t : Fin cfg0.N) (r : Fin 544) (e : Fin 256) :
    iblk m c 6 t (ix2 r e) = V m c main_v53 (ix2 (row (tl t) r) ⟨(hd t).val * 256 + e.val, by omega⟩) := by
  blk_point [iblk, idx t]
  rfl

end Mlstm.Blocks
-- ==== Proof.Loads.lean ====
/-
  What the kernel reads at a grid point, as real numbers of the point's head.
-/
module

public import proofs.«01_k».proof.Proof.Blocks

@[expose] public section

noncomputable section

set_option maxRecDepth 16384

namespace Mlstm.Blocks

open Idealize.ShloMosaic Cert.KernelIdeal Cert.KernelIdeal.Gen Idealize.ShloMosaic.TcCoe Idealize.SL.Sem
open Mlstm.Host

variable (m : (ℓ : Loc nD τ sig) → Buf (Elt Ideal) ℓ) (c : Dev nD)

/-- The head of a grid point, over the real numbers. -/
def H (h : Fin 4) : Head 2176 128 256 := head (X0 m c) (X1 m c) (X2 m c) (X3 m c) h

/-- Its stabiliser. -/
def M (h : Fin 4) : Fin 2176 → ℝ := mu (X1 m c) (X2 m c) h

/-- The kernel's arguments are finite. -/
abbrev Fin4 : Prop := Finite4 (X0 m c) (X1 m c) (X2 m c) (X3 m c)

variable {m c} (hf : Fin4 m c)

include hf

theorem real_q (t : Fin cfg0.N) (r : Fin 544) (d : Fin 128) :
    iblk m c 0 t (ix2 r d) = ((H m c (hd t)).q (row (tl t) r) d : EReal) :=
  (blk_q m c t r d).trans (hf.qkv _).eq

theorem real_k (t : Fin cfg0.N) (s : Fin 2176) (d : Fin 128) :
    iblk m c 1 t (ix2 s d) = ((H m c (hd t)).k s d : EReal) :=
  (blk_k m c t s d).trans (hf.qkv _).eq

theorem real_v (t : Fin cfg0.N) (s : Fin 2176) (e : Fin 256) :
    iblk m c 2 t (ix2 s e) = ((H m c (hd t)).v s e : EReal) :=
  (blk_v m c t s e).trans (hf.qkv _).eq

theorem real_dh (t : Fin cfg0.N) (r : Fin 544) (e : Fin 256) :
    iblk m c 7 t (ix2 r e) = ((H m c (hd t)).dh (row (tl t) r) e : EReal) :=
  (blk_dh m c t r e).trans (hf.dh _).eq

theorem real_ht (t : Fin cfg0.N) (r : Fin 544) (e : Fin 256) :
    iblk m c 6 t (ix2 r e) = ((H m c (hd t)).ht (M m c (hd t)) (row (tl t) r) e : EReal) := by
  rw [blk_ht, V_ht]
  exact forward_eq hf (hd t) (row (tl t) r) e _

theorem real_g (t : Fin cfg0.N) (s : Fin 2176) :
    iblk m c 3 t (ix2 ⟨(hd t).val, by omega⟩ s)
      = (((H m c (hd t)).li s - (H m c (hd t)).b s : ℝ) : EReal) := by
  rw [blk_g, V_grow]
  refine Eq.trans ?_ (gate_eq hf (hd t) s)
  pointwise

theorem real_m (t : Fin cfg0.N) (r : Fin 544) :
    iblk m c 4 t (ix2 r ⟨(hd t).val, by omega⟩) = (M m c (hd t) (row (tl t) r) : EReal) := by
  rw [blk_m, V_mcol]
  refine Eq.trans ?_ (top_eq hf (hd t) (row (tl t) r))
  pointwise

theorem real_c (t : Fin cfg0.N) (r : Fin 544) :
    iblk m c 5 t (ix2 r ⟨(hd t).val, by omega⟩)
      = ((-(H m c (hd t)).b (row (tl t) r) - M m c (hd t) (row (tl t) r) : ℝ) : EReal) := by
  rw [blk_c, V_ccol]
  pointwise
  rw [ref_b hf, top_eq hf, EReal.coe_sub, EReal.coe_neg]
  rfl

omit hf in
/-- One lane picked out of a row by comparing lane numbers. -/
theorem lane (f : Fin 128 → EReal) (h : Fin 4) :
    ∑ x : Fin 128, Scalar.select (IntOp.cmpi CmpIPredicate.eq (BitVec.ofNat 32 x.val) (BitVec.ofNat 32 h.val)) (f x) 0
      = f ⟨h.val, by omega⟩ := by
  rw [Finset.sum_eq_single (⟨h.val, by omega⟩ : Fin 128)]
  · rw [WordCmp.cmpi_eq_ofNat (by have := h.isLt; omega) (by have := h.isLt; omega), WordCmp.select_decide, if_pos rfl]
  · intro x _ hx
    rw [WordCmp.cmpi_eq_ofNat (by have := x.isLt; omega) (by have := h.isLt; omega), WordCmp.select_decide, if_neg]
    exact fun e => hx (Fin.ext e)
  · exact fun hx => absurd (Finset.mem_univ _) hx

omit hf in
theorem pick_m (i : grid0.Coords) (h : Fin 4) (hi : (i 0).val = h.val) (x : Vec Ideal S544x128 .f32) (r : Fin 544) :
    k0_pay67 i x (ix2 r 0) = x (ix2 r ⟨h.val, by omega⟩) := by
  pointwise [k0_pay67]
  rw [hi]
  exact lane (fun j => x (ix2 r j)) h

omit hf in
theorem pick_c (i : grid0.Coords) (h : Fin 4) (hi : (i 0).val = h.val) (x : Vec Ideal S544x128 .f32) (r : Fin 544) :
    k0_pay68 i x (ix2 r 0) = x (ix2 r ⟨h.val, by omega⟩) := by
  pointwise [k0_pay68]
  rw [hi]
  exact lane (fun j => x (ix2 r j)) h

/-- The kernel's reads at a grid point are the tile's. `K`, `W` and `G` are its first `n` keys, values and gates. -/
theorem reads (t : Fin cfg0.N) {n : ℕ} (hn : n ≤ 2176) (hc : ((tl t).val + 1) * 544 ≤ n)
    (K : (⟨2, ![n, 128]⟩ : Shape).Idx → EReal) (W : (⟨2, ![n, 256]⟩ : Shape).Idx → EReal)
    (G : (⟨2, ![1, n]⟩ : Shape).Idx → EReal)
    (hK : ∀ s d, K (ix2 s d) = iblk m c 1 t (ix2 (Fin.castLE hn s) d))
    (hW : ∀ s e, W (ix2 s e) = iblk m c 2 t (ix2 (Fin.castLE hn s) e))
    (hG : ∀ s, G (ix2 0 s) = iblk m c 3 t (ix2 ⟨(hd t).val, by omega⟩ (Fin.castLE hn s))) :
    Reads (H m c (hd t)) (M m c (hd t)) (tl t) hn (BitVec.ofNat 32 (grid0.coords t 1).val)
      (fun r d => iblk m c 0 t (ix2 r d)) (fun s d => K (ix2 s d)) (fun s e => W (ix2 s e)) (fun s => G (ix2 0 s))
      (fun r => k0_pay67 (grid0.coords t) (iblk m c 4 t) (ix2 r 0))
      (fun r => k0_pay68 (grid0.coords t) (iblk m c 5 t) (ix2 r 0))
      (fun r e => iblk m c 7 t (ix2 r e)) (fun r e => iblk m c 6 t (ix2 r e)) where
  tile := by rw [(coords t).2]
  cover := hc
  scale := scale_eq
  top t' s h := le_mu hf (hd t) t' s h
  q := real_q hf t
  k s d := (hK s d).trans (real_k hf t _ d)
  v s e := (hW s e).trans (real_v hf t _ e)
  gate s := (hG s).trans (real_g hf t _)
  stab r := (pick_m _ (hd t) (coords t).1 _ r).trans (real_m hf t r)
  clamp r := (pick_c _ (hd t) (coords t).1 _ r).trans (real_c hf t r)
  dh := real_dh hf t
  ht := real_ht hf t

end Mlstm.Blocks
-- ==== Proof.Patch.lean ====
/-
  A rectangle of a matrix, loaded or overwritten, one entry at a time.
-/
module

public import Idealize.ShloMosaic.Lib.Pointwise
public import Idealize.ShloMosaic.Lib.Pipeline.ValueKit

@[expose] public section

noncomputable section

namespace Mlstm

open Idealize.ShloMosaic

variable {A B a b : ℕ} {e : EltTy} {off : Fin 2 → ℕ}

/-- A load of a rectangle reads the matrix at the rectangle's entries. -/
theorem ld_at (X : (⟨2, ![A, B]⟩ : Shape).Idx → Elt Ideal e)
    (inb : ∀ x : Fin (⟨2, ![A, B]⟩ : Shape).rank, off x + (![a, b] : Fin 2 → ℕ) x ≤ (⟨2, ![A, B]⟩ : Shape).size x)
    (s : Fin a) (d : Fin b) (R : Fin A) (C : Fin B) (hR : R.val = off 0 + s.val) (hC : C.val = off 1 + d.val) :
    View.ld X (Rect.unit (s := (⟨2, ![A, B]⟩ : Shape)) off ![a, b] inb) (ix2 s d) = X (ix2 R C) := by
  refine congrArg X (funext fun x => Fin.ext ?_)
  fin_cases x
  · show off 0 + 1 * s.val = R.val
    omega
  · show off 1 + 1 * d.val = C.val
    omega

/-- The matrix with a rectangle overwritten. -/
def patch (inb : ∀ x : Fin (⟨2, ![A, B]⟩ : Shape).rank, off x + (![a, b] : Fin 2 → ℕ) x ≤ (⟨2, ![A, B]⟩ : Shape).size x)
    (X : (⟨2, ![A, B]⟩ : Shape).Idx → Elt Ideal e) (w : (⟨2, ![a, b]⟩ : Shape).Idx → Elt Ideal e) :
    (⟨2, ![A, B]⟩ : Shape).Idx → Elt Ideal e :=
  (Rect.unit (s := (⟨2, ![A, B]⟩ : Shape)) off ![a, b] inb).overlay X w

variable (inb : ∀ x : Fin (⟨2, ![A, B]⟩ : Shape).rank, off x + (![a, b] : Fin 2 → ℕ) x ≤ (⟨2, ![A, B]⟩ : Shape).size x)
  (X : (⟨2, ![A, B]⟩ : Shape).Idx → Elt Ideal e) (w : (⟨2, ![a, b]⟩ : Shape).Idx → Elt Ideal e)

/-- Inside the rectangle it is what was written. -/
theorem patch_in (s : Fin a) (d : Fin b) (R : Fin A) (C : Fin B) (hR : R.val = off 0 + s.val) (hC : C.val = off 1 + d.val) :
    patch inb X w (ix2 R C) = w (ix2 s d) := by
  have h : (ix2 R C : (⟨2, ![A, B]⟩ : Shape).Idx)
      = (Rect.unit (s := (⟨2, ![A, B]⟩ : Shape)) off ![a, b] inb).emb (ix2 s d : (⟨2, ![a, b]⟩ : Shape).Idx) := by
    refine funext fun x => Fin.ext ?_
    fin_cases x
    · show R.val = off 0 + 1 * s.val
      omega
    · show C.val = off 1 + 1 * d.val
      omega
  unfold patch
  rw [h]
  exact Rect.overlay_emb _ _ _ _

/-- Outside it is what was there. -/
theorem patch_out (R : Fin A) (C : Fin B)
    (h : (R.val < off 0 ∨ off 0 + a ≤ R.val) ∨ (C.val < off 1 ∨ off 1 + b ≤ C.val)) :
    patch inb X w (ix2 R C) = X (ix2 R C) := by
  unfold patch
  refine Rect.overlay_of_not_mem _ _ _ ?_
  rw [Rect.mem_set_unit]
  intro hall
  have h0 : off 0 ≤ R.val ∧ R.val < off 0 + a := hall 0
  have h1 : off 1 ≤ C.val ∧ C.val < off 1 + b := hall 1
  omega

/-- Contents written whole and then in a rectangle. -/
theorem canon_patch (z : (⟨2, ![A, B]⟩ : Shape).Idx → Elt Ideal e)
    (inb' : ∀ x : Fin (⟨2, ![A, B]⟩ : Shape).rank, (![0, 0] : Fin 2 → ℕ) x + (![A, B] : Fin 2 → ℕ) x ≤ (⟨2, ![A, B]⟩ : Shape).size x) :
    View.canon (Val := Elt Ideal) [⟨Rect.unit (s := (⟨2, ![A, B]⟩ : Shape)) off ![a, b] inb, w⟩, ⟨Rect.unit (s := (⟨2, ![A, B]⟩ : Shape)) ![0, 0] ![A, B] inb', z⟩]
      = patch inb z w := by
  rw [View.canon_cons]
  have : View.canon (Val := Elt Ideal) [⟨Rect.unit (s := (⟨2, ![A, B]⟩ : Shape)) ![0, 0] ![A, B] inb', z⟩] = z := by
    funext y
    rw [eq_ix2 y]
    exact patch_in inb' _ z (y 0) (y 1) (y 0) (y 1) (Nat.zero_add _).symm (Nat.zero_add _).symm
  rw [this]
  rfl

/-- Contents written in a rectangle over what a buffer held. -/
theorem read_patch {sig : RefSig} {κ : Kind} {sp : Space} (v : View sig κ sp (⟨2, ![A, B]⟩ : Shape) e)
    (f : v.ty.Contents (Elt Ideal)) :
    v.read (Elt Ideal) (v.writes (Elt Ideal) f [⟨Rect.unit (s := (⟨2, ![A, B]⟩ : Shape)) off ![a, b] inb, w⟩])
      = patch inb (v.read (Elt Ideal) f) w := by
  funext y
  by_cases h : y ∈ (Rect.unit (s := (⟨2, ![A, B]⟩ : Shape)) off ![a, b] inb).set
  · obtain ⟨x, rfl⟩ : ∃ x, (Rect.unit (s := (⟨2, ![A, B]⟩ : Shape)) off ![a, b] inb).emb x = y :=
      (Rect.unit (s := (⟨2, ![A, B]⟩ : Shape)) off ![a, b] inb).exists_idx_of_mem h
    rw [View.read_writes_cons_emb]
    exact (Rect.overlay_emb _ _ _ _).symm
  · rw [View.read_writes_cons_miss _ _ _ _ _ h]
    exact (Rect.overlay_of_not_mem _ _ _ h).symm

/-- A load of a rectangle of contents just written whole. -/
theorem readCov_whole {sig : RefSig} {κ : Kind} {sp : Space} (v : View sig κ sp (⟨2, ![A, B]⟩ : Shape) e)
    (z : (⟨2, ![A, B]⟩ : Shape).Idx → Elt Ideal e)
    (inb' : ∀ x : Fin (⟨2, ![A, B]⟩ : Shape).rank, (![0, 0] : Fin 2 → ℕ) x + (![A, B] : Fin 2 → ℕ) x ≤ (⟨2, ![A, B]⟩ : Shape).size x) :
    v.readCov (Val := Elt Ideal) [⟨Rect.unit (s := (⟨2, ![A, B]⟩ : Shape)) ![0, 0] ![A, B] inb', z⟩]
        (Rect.unit (s := (⟨2, ![A, B]⟩ : Shape)) off ![a, b] inb).toLoadRect
      = View.ld z (Rect.unit (s := (⟨2, ![A, B]⟩ : Shape)) off ![a, b] inb) := by
  have hz : View.canon (Val := Elt Ideal) [⟨Rect.unit (s := (⟨2, ![A, B]⟩ : Shape)) ![0, 0] ![A, B] inb', z⟩] = z := by
    funext y
    rw [eq_ix2 y]
    exact patch_in inb' _ z (y 0) (y 1) (y 0) (y 1) (Nat.zero_add _).symm (Nat.zero_add _).symm
  rw [View.readCov_eq_canon_ld _ _ _ (fun y => ⟨_, List.mem_cons_self, ?_⟩), hz]
  rw [Rect.mem_set_unit]
  intro x
  fin_cases x
  · exact ⟨Nat.zero_le _, by
      show (y 0).val < 0 + A
      have : (y 0).val < A := (y 0).isLt
      omega⟩
  · exact ⟨Nat.zero_le _, by
      show (y 1).val < 0 + B
      have : (y 1).val < B := (y 1).isLt
      omega⟩

end Mlstm
-- ==== Proof.Steps.lean ====
/-
  What the kernel's running results hold after some grid points, and how one point's store moves each of them on.
-/
module

public import proofs.«01_k».proof.Proof.Loads
public import proofs.«01_k».proof.Proof.Patch

@[expose] public section

noncomputable section

set_option maxRecDepth 16384

namespace Mlstm.Blocks

open Idealize.ShloMosaic Cert.KernelIdeal Cert.KernelIdeal.Gen Idealize.ShloMosaic.TcCoe Idealize.SL.Sem
open Mlstm.Host

variable (m : (ℓ : Loc nD τ sig) → Buf (Elt Ideal) ℓ) (c : Dev nD)

/-- Of the first `n` grid points, how many belong to head `j`. -/
def cnt (n j : ℕ) : ℕ := min 4 (n - 4 * j)

theorem cnt_before (t : Fin cfg0.N) : cnt t.val (hd t).val = (tl t).val := by
  show min 4 (t.val - 4 * (t.val / 4)) = t.val % 4
  omega

theorem cnt_after (t : Fin cfg0.N) : cnt (t.val + 1) (hd t).val = (tl t).val + 1 := by
  show min 4 (t.val + 1 - 4 * (t.val / 4)) = t.val % 4 + 1
  omega

theorem cnt_other (t : Fin cfg0.N) (j : ℕ) (h : j ≠ (hd t).val) : cnt (t.val + 1) j = cnt t.val j := by
  have h' : j ≠ t.val / 4 := h
  show min 4 (t.val + 1 - 4 * j) = min 4 (t.val - 4 * j)
  omega

theorem cnt_all (j : ℕ) (h : j < 4) : cnt 16 j = 4 := by
  show min 4 (16 - 4 * j) = 4
  omega

/-- The input gates' gradients after `n` points: for each head the sum over its tiles so far. -/
def DG (n : ℕ) (X : S128x2176.Idx → EReal) : Prop := ∀ (j : Fin 128) (s : Fin 2176),
  X (ix2 j s) = if hj : j.val < 4 then
    ((upto (fun t => (H m c ⟨j.val, hj⟩).r (M m c ⟨j.val, hj⟩) t s) (cnt n j.val) : ℝ) : EReal) else 0

/-- The row gradients after `n` points: for each head those of its tiles so far. -/
def DX (n : ℕ) (X : S2176x128.Idx → EReal) : Prop := ∀ (t : Fin 2176) (j : Fin 128),
  X (ix2 t j) = if hj : j.val < 4 then
    (if t.val < cnt n j.val * 544 then ((H m c ⟨j.val, hj⟩).gfx (M m c ⟨j.val, hj⟩) t : EReal) else 0) else 0

/-- The keys' gradients of head `h`, transposed, after `k` tiles. -/
def SK (h : Fin 4) (k : ℕ) (X : S128x2176.Idx → EReal) : Prop := ∀ (d : Fin 128) (s : Fin 2176),
  X (ix2 d s) = ((upto (fun t => (H m c h).q t d * (H m c h).ds (M m c h) t s) k : ℝ) : EReal)

/-- The values' gradients of head `h`, transposed, after `k` tiles. -/
def SV (h : Fin 4) (k : ℕ) (X : S256x2176.Idx → EReal) : Prop := ∀ (e : Fin 256) (s : Fin 2176),
  X (ix2 e s) = ((upto (fun t => (H m c h).dn (M m c h) t e * (H m c h).p (M m c h) t s) k : ℝ) : EReal)

theorem cnt_zero (j : ℕ) : cnt 0 j = 0 := by
  show min 4 (0 - 4 * j) = 0
  omega

theorem DG_zero (X : S128x2176.Idx → EReal) (h : ∀ j s, X (ix2 j s) = 0) : DG m c 0 X := fun j s => by
  rw [h, cnt_zero]
  split
  · rw [upto_zero, EReal.coe_zero]
  · rfl

theorem DX_zero (X : S2176x128.Idx → EReal) (h : ∀ t j, X (ix2 t j) = 0) : DX m c 0 X := fun t j => by
  rw [h, cnt_zero]
  split
  · rw [if_neg (by omega)]
  · rfl

theorem SK_zero (g : Fin 4) (X : S128x2176.Idx → EReal) (h : ∀ j s, X (ix2 j s) = 0) : SK m c g 0 X := fun j s => by
  rw [h, upto_zero, EReal.coe_zero]

theorem SV_zero (g : Fin 4) (X : S256x2176.Idx → EReal) (h : ∀ j s, X (ix2 j s) = 0) : SV m c g 0 X := fun j s => by
  rw [h, upto_zero, EReal.coe_zero]

variable {m c}

/-- A sum over tiles is unchanged by a tile whose rows come before the column. -/
theorem upto_same (f : Fin 2176 → ℝ) (s : Fin 2176) (hf : ∀ t, t < s → f t = 0) (i : Fin 4) (h : (i.val + 1) * 544 ≤ s.val) :
    upto f (i.val + 1) = upto f i.val := by
  rw [upto_before f s hf _ h, upto_before f s hf _ (by omega)]

section

variable {t : Fin cfg0.N} {n : ℕ} (hn : n ≤ 2176) (hc : ((tl t).val + 1) * 544 ≤ n) {off : Fin 2 → ℕ}

include hc

theorem DG_step (inb : ∀ x : Fin S128x2176.rank, off x + (![1, n] : Fin 2 → ℕ) x ≤ S128x2176.size x)
    (ho : off = ![(hd t).val, 0]) (X : S128x2176.Idx → EReal) (w : (⟨2, ![1, n]⟩ : Shape).Idx → EReal) (hX : DG m c t.val X)
    (hw : ∀ s : Fin n, View.ld (Val := Elt Ideal) (e' := .f32) X (Rect.unit (s := S128x2176) off ![1, n] inb) (ix2 0 s)
        = ((upto (fun t' => (H m c (hd t)).r (M m c (hd t)) t' (Fin.castLE hn s)) (tl t).val : ℝ) : EReal)
      → w (ix2 0 s) = ((upto (fun t' => (H m c (hd t)).r (M m c (hd t)) t' (Fin.castLE hn s)) ((tl t).val + 1) : ℝ) : EReal)) :
    DG m c (t.val + 1) (patch (e := .f32) inb X w) := fun j s => by
  have h4 := (hd t).isLt
  have o0 : off 0 = (hd t).val := by rw [ho]; rfl
  have o1 : off 1 = 0 := by rw [ho]; rfl
  by_cases hj : j.val = (hd t).val
  · obtain rfl : j = ⟨(hd t).val, Nat.lt_of_lt_of_le h4 (by norm_num)⟩ := Fin.ext hj
    rw [dif_pos (show (hd t).val < 4 from h4)]
    show _ = ((upto (fun t' => (H m c (hd t)).r (M m c (hd t)) t' s) (cnt (t.val + 1) (hd t).val) : ℝ) : EReal)
    have hx : ∀ s, X (ix2 ⟨(hd t).val, by omega⟩ s)
        = ((upto (fun t' => (H m c (hd t)).r (M m c (hd t)) t' s) (tl t).val : ℝ) : EReal) := fun s => by
      have := hX ⟨(hd t).val, by omega⟩ s
      rw [dif_pos (show (hd t).val < 4 from h4), cnt_before] at this
      exact this
    rw [cnt_after]
    by_cases hs : s.val < n
    · rw [patch_in (e := .f32) inb X w (0 : Fin 1) (⟨s.val, hs⟩ : Fin n) _ s (by rw [o0]; rfl) (by rw [o1]; exact (Nat.zero_add _).symm)]
      refine hw ⟨s.val, hs⟩ ?_
      rw [ld_at (e := .f32) X inb (0 : Fin 1) (⟨s.val, hs⟩ : Fin n) ⟨(hd t).val, by omega⟩ s (by rw [o0]; rfl)
        (by rw [o1]; exact (Nat.zero_add _).symm)]
      exact hx s
    · rw [patch_out (e := .f32) inb X w _ s (Or.inr (Or.inr (by omega))), hx,
        upto_same _ s (fun t' ht => (H m c (hd t)).r_zero _ (not_le.mpr ht)) (tl t) (by omega)]
  · rw [patch_out (e := .f32) inb X w j s (Or.inl (by omega)), hX j s, cnt_other t _ hj]

omit hc in
theorem DX_step (inb : ∀ x : Fin S2176x128.rank, off x + (![544, 128] : Fin 2 → ℕ) x ≤ S2176x128.size x)
    (ho : off = ![(tl t).val * 544, 0]) (X : S2176x128.Idx → EReal) (w : (⟨2, ![544, 128]⟩ : Shape).Idx → EReal)
    (hX : DX m c t.val X)
    (hw : ∀ (r : Fin 544) (j : Fin 128), w (ix2 r j)
      = View.ld (Val := Elt Ideal) (e' := .f32) X (Rect.unit (s := S2176x128) off ![544, 128] inb) (ix2 r j)
        + if j.val = (hd t).val then ((H m c (hd t)).gfx (M m c (hd t)) (row (tl t) r) : EReal) else 0) :
    DX m c (t.val + 1) (patch (e := .f32) inb X w) := fun t' j => by
  have h4 := (hd t).isLt
  have o0 : off 0 = (tl t).val * 544 := by rw [ho]; rfl
  have o1 : off 1 = 0 := by rw [ho]; rfl
  by_cases hin : (tl t).val * 544 ≤ t'.val ∧ t'.val < (tl t).val * 544 + 544
  · have hr : t' = row (tl t) ⟨t'.val - (tl t).val * 544, by omega⟩ := Fin.ext (by
      show t'.val = (tl t).val * 544 + (t'.val - (tl t).val * 544)
      omega)
    rw [patch_in (e := .f32) inb X w (⟨t'.val - (tl t).val * 544, by omega⟩ : Fin 544) j t' j (by rw [o0]; show _ = _ + (_ - _); omega)
      (by rw [o1]; exact (Nat.zero_add _).symm), hw,
      ld_at (e := .f32) X inb (⟨t'.val - (tl t).val * 544, by omega⟩ : Fin 544) j t' j (by rw [o0]; show _ = _ + (_ - _); omega)
        (by rw [o1]; exact (Nat.zero_add _).symm), hX t' j, ← hr]
    by_cases hj : j.val = (hd t).val
    · obtain rfl : j = ⟨(hd t).val, Nat.lt_of_lt_of_le h4 (by norm_num)⟩ := Fin.ext hj
      rw [dif_pos (show (hd t).val < 4 from h4), dif_pos (show (hd t).val < 4 from h4), if_pos rfl]
      show (if t'.val < cnt t.val (hd t).val * 544 then _ else _) + _ = if t'.val < cnt (t.val + 1) (hd t).val * 544 then _ else _
      rw [cnt_before, cnt_after, if_neg (by omega), if_pos (by omega), zero_add]
    · rw [if_neg hj, add_zero, cnt_other t _ hj]
  · rw [patch_out (e := .f32) inb X w t' j (Or.inl (by omega)), hX t' j]
    by_cases hj : j.val = (hd t).val
    · obtain rfl : j = ⟨(hd t).val, Nat.lt_of_lt_of_le h4 (by norm_num)⟩ := Fin.ext hj
      rw [dif_pos (show (hd t).val < 4 from h4), dif_pos (show (hd t).val < 4 from h4)]
      show (if t'.val < cnt t.val (hd t).val * 544 then _ else _) = if t'.val < cnt (t.val + 1) (hd t).val * 544 then _ else _
      rw [cnt_before, cnt_after]
      exact if_congr (by omega) rfl rfl
    · rw [cnt_other t _ hj]

theorem SK_step (inb : ∀ x : Fin S128x2176.rank, (![0, 0] : Fin 2 → ℕ) x + (![128, n] : Fin 2 → ℕ) x ≤ S128x2176.size x)
    (X : S128x2176.Idx → EReal) (w : (⟨2, ![128, n]⟩ : Shape).Idx → EReal) (hX : SK m c (hd t) (tl t).val X)
    (hw : ∀ (d : Fin 128) (s : Fin n), View.ld (Val := Elt Ideal) (e' := .f32) X (Rect.unit (s := S128x2176) ![0, 0] ![128, n] inb) (ix2 d s)
        = ((upto (fun t' => (H m c (hd t)).q t' d * (H m c (hd t)).ds (M m c (hd t)) t' (Fin.castLE hn s)) (tl t).val : ℝ) : EReal)
      → w (ix2 d s) = ((upto (fun t' => (H m c (hd t)).q t' d * (H m c (hd t)).ds (M m c (hd t)) t' (Fin.castLE hn s)) ((tl t).val + 1) : ℝ) : EReal)) :
    SK m c (hd t) ((tl t).val + 1) (patch (e := .f32) inb X w) := fun d s => by
  by_cases hs : s.val < n
  · rw [patch_in (e := .f32) inb X w d (⟨s.val, hs⟩ : Fin n) d s (Nat.zero_add _).symm (Nat.zero_add _).symm]
    refine hw d ⟨s.val, hs⟩ ?_
    rw [ld_at (e := .f32) X inb d (⟨s.val, hs⟩ : Fin n) d s (Nat.zero_add _).symm (Nat.zero_add _).symm]
    exact hX d s
  · rw [patch_out (e := .f32) inb X w d s (Or.inr (Or.inr (by show 0 + n ≤ s.val; omega))), hX d s,
      upto_same _ s (fun t' ht => by rw [(H m c (hd t)).ds_zero _ (not_le.mpr ht), mul_zero]) (tl t) (by omega)]

theorem SV_step (inb : ∀ x : Fin S256x2176.rank, (![0, 0] : Fin 2 → ℕ) x + (![256, n] : Fin 2 → ℕ) x ≤ S256x2176.size x)
    (X : S256x2176.Idx → EReal) (w : (⟨2, ![256, n]⟩ : Shape).Idx → EReal) (hX : SV m c (hd t) (tl t).val X)
    (hw : ∀ (e : Fin 256) (s : Fin n), View.ld (Val := Elt Ideal) (e' := .f32) X (Rect.unit (s := S256x2176) ![0, 0] ![256, n] inb) (ix2 e s)
        = ((upto (fun t' => (H m c (hd t)).dn (M m c (hd t)) t' e * (H m c (hd t)).p (M m c (hd t)) t' (Fin.castLE hn s)) (tl t).val : ℝ) : EReal)
      → w (ix2 e s) = ((upto (fun t' => (H m c (hd t)).dn (M m c (hd t)) t' e * (H m c (hd t)).p (M m c (hd t)) t' (Fin.castLE hn s)) ((tl t).val + 1) : ℝ) : EReal)) :
    SV m c (hd t) ((tl t).val + 1) (patch (e := .f32) inb X w) := fun e s => by
  by_cases hs : s.val < n
  · rw [patch_in (e := .f32) inb X w e (⟨s.val, hs⟩ : Fin n) e s (Nat.zero_add _).symm (Nat.zero_add _).symm]
    refine hw e ⟨s.val, hs⟩ ?_
    rw [ld_at (e := .f32) X inb e (⟨s.val, hs⟩ : Fin n) e s (Nat.zero_add _).symm (Nat.zero_add _).symm]
    exact hX e s
  · rw [patch_out (e := .f32) inb X w e s (Or.inr (Or.inr (by show 0 + n ≤ s.val; omega))), hX e s,
      upto_same _ s (fun t' ht => by rw [(H m c (hd t)).p_zero _ (not_le.mpr ht), mul_zero]) (tl t) (by omega)]

end

theorem read_s0 (h : (Memref.whole cc0_scratch0).IsWhole) (X : S128x2176.Idx → EReal) :
    View.read (Elt Ideal) (View.whole cc0_scratch0) (h.unread (Val := Elt Ideal) X) = X :=
  h.read_unread (Val := Elt Ideal) X

theorem read_s1 (h : (Memref.whole cc0_scratch1).IsWhole) (X : S256x2176.Idx → EReal) :
    View.read (Elt Ideal) (View.whole cc0_scratch1) (h.unread (Val := Elt Ideal) X) = X :=
  h.read_unread (Val := Elt Ideal) X

/-- What the kernel's buffers hold after a grid point: the five results' buffers, then the two running sums. -/
abbrev St : Type := Vec Ideal S544x128 .bf16 × Vec Ideal S2176x128 .bf16 × Vec Ideal S2176x256 .bf16 × Vec Ideal S128x2176 .f32
  × Vec Ideal S2176x128 .f32 × Vec Ideal S128x2176 .f32 × Vec Ideal S256x2176 .f32

variable (m c) in
/-- What they hold, as real numbers. -/
structure After (t : Fin cfg0.N) (Y : St) : Prop where
  gq : ∀ r d, Y.1 (ix2 r d) = ((H m c (hd t)).gq (M m c (hd t)) (row (tl t) r) d : EReal)
  dg : DG m c (t.val + 1) Y.2.2.2.1
  dx : DX m c (t.val + 1) Y.2.2.2.2.1
  sk : SK m c (hd t) ((tl t).val + 1) Y.2.2.2.2.2.1
  sv : SV m c (hd t) ((tl t).val + 1) Y.2.2.2.2.2.2

end Mlstm.Blocks
-- ==== Proof.Tile640.lean ====
/-
  The kernel's arithmetic at one tile, over the first 640 columns.

  Each value the body computes there, read at an index, is the real number of the same name in `Gradient`.
-/
module

public import proofs.«01_k».proof.Proof.Tile
public import proofs.«01_k».proof.Proof.Gen.KernelIdeal.Skeleton

@[expose] public section

set_option maxRecDepth 16384

noncomputable section

namespace Mlstm.Tile640

open Idealize.ShloMosaic
open Cert.KernelIdeal Cert.KernelIdeal.Gen

variable {H : Head 2176 128 256} {μ : Fin 2176 → ℝ} {i : Fin 4} {w : BitVec 32}
  {q : Vec Ideal S544x128 .bf16} {k : Vec Ideal S640x128 .bf16} {v : Vec Ideal S640x256 .bf16}
  {g : Vec Ideal S1x640 .f32} {a b : FVec Ideal S544x1 .f32} {dh ht : Vec Ideal S544x256 .f32}
  {hn : 640 ≤ 2176}
  (R : Reads H μ i hn w (fun r d => q (ix2 r d)) (fun s d => k (ix2 s d)) (fun s e => v (ix2 s e))
    (fun s => g (ix2 0 s)) (fun r => a (ix2 r 0)) (fun r => b (ix2 r 0)) (fun r e => dh (ix2 r e))
    (fun r e => ht (ix2 r e)))

include R

theorem wt (r : Fin 544) (s : Fin 640) :
    k0_pay7 w a g (ix2 r s) = (H.wt μ (row i r) (Fin.castLE hn s) : EReal) := by
  pointwise [k0_pay7]
  exact R.wt r s

theorem p (r : Fin 544) (s : Fin 640) :
    k0_pay8 w a q k g (ix2 r s) = (H.p μ (row i r) (Fin.castLE hn s) : EReal) := by
  pointwise [k0_pay8]
  rw [wt R]
  exact R.p r s

theorem den (r : Fin 544) : k0_pay9 w a q k g (ix2 r 0) = (H.den μ (row i r) : EReal) := by
  pointwise [k0_pay9]
  simp only [p R]
  exact R.den r

theorem active (r : Fin 544) : k0_pay11 w a b q k g (ix2 r 0)
    = BitVec.ofBool (decide (|H.den μ (row i r)| < H.clamp μ (row i r))) := by
  pointwise [k0_pay11, k0_pay10]
  simp only [den R]
  exact R.active r

theorem dd (r : Fin 544) : k0_pay12 w a b q k g (ix2 r 0) = (H.dd μ (row i r) : EReal) := by
  pointwise [k0_pay12, k0_pay10]
  simp only [den R]
  exact R.dd r

theorem hdh (r : Fin 544) : k0_pay13 dh ht (ix2 r 0) = (H.hdh μ (row i r) : EReal) := by
  pointwise [k0_pay13]
  exact R.hdh r

theorem dn (r : Fin 544) (e : Fin 256) :
    k0_pay14 w a b q k g dh (ix2 r e) = (H.dn μ (row i r) e : EReal) := by
  pointwise [k0_pay14]
  rw [dd R]
  exact R.dn r e

theorem dp (r : Fin 544) (s : Fin 640) : k0_pay15 v (k0_pay9 w a q k g) (k0_pay11 w a b q k g) (k0_pay12 w a b q k g) (k0_pay13 dh ht) (k0_pay14 w a b q k g dh) (ix2 r s)
    = (H.dp μ (row i r) (Fin.castLE hn s) : EReal) := by
  pointwise [k0_pay15]
  simp only [dn R, den R, active R, dd R, hdh R]
  exact R.dp r s

theorem r (r : Fin 544) (s : Fin 640) : k0_pay16 v (k0_pay8 w a q k g) (k0_pay9 w a q k g) (k0_pay11 w a b q k g) (k0_pay12 w a b q k g) (k0_pay13 dh ht) (k0_pay14 w a b q k g dh) (ix2 r s)
    = (H.r μ (row i r) (Fin.castLE hn s) : EReal) := by
  pointwise [k0_pay16]
  rw [dp R, p R]
  exact R.r r s

theorem ds (r : Fin 544) (s : Fin 640) : k0_pay18 v (k0_pay7 w a g) (k0_pay9 w a q k g) (k0_pay11 w a b q k g) (k0_pay12 w a b q k g) (k0_pay13 dh ht) (k0_pay14 w a b q k g dh) (ix2 r s)
    = (H.ds μ (row i r) (Fin.castLE hn s) : EReal) := by
  pointwise [k0_pay18]
  rw [dp R, wt R]
  exact R.ds r s

/-- The queries' gradient. -/
theorem gq (r : Fin 544) (d : Fin 128) : k0_pay19 k v (k0_pay7 w a g) (k0_pay9 w a q k g) (k0_pay11 w a b q k g) (k0_pay12 w a b q k g) (k0_pay13 dh ht) (k0_pay14 w a b q k g dh) (ix2 r d) = (H.gq μ (row i r) d : EReal) := by
  pointwise [k0_pay19]
  simp only [ds R]
  exact R.gq r d

/-- The keys' gradient, transposed: the tile's part is added. -/
theorem gk (x : Vec Ideal S128x640 .f32) (d : Fin 128) (s : Fin 640)
    (hx : x (ix2 d s) = (upto (fun t => H.q t d * H.ds μ t (Fin.castLE hn s)) i.val : EReal)) :
    k0_pay20 q v (k0_pay7 w a g) (k0_pay9 w a q k g) (k0_pay11 w a b q k g) (k0_pay12 w a b q k g) (k0_pay13 dh ht) (k0_pay14 w a b q k g dh) x (ix2 d s)
      = (upto (fun t => H.q t d * H.ds μ t (Fin.castLE hn s)) (i.val + 1) : EReal) := by
  pointwise [k0_pay20]
  refine R.step _ _ _ hx fun r => ?_
  rw [ds R, R.q, ← EReal.coe_mul]

/-- The values' gradient, transposed: the tile's part is added. -/
theorem gv (x : Vec Ideal S256x640 .f32) (e : Fin 256) (s : Fin 640)
    (hx : x (ix2 e s) = (upto (fun t => H.dn μ t e * H.p μ t (Fin.castLE hn s)) i.val : EReal)) :
    k0_pay69 (k0_pay8 w a q k g) (k0_pay14 w a b q k g dh) x (ix2 e s)
      = (upto (fun t => H.dn μ t e * H.p μ t (Fin.castLE hn s)) (i.val + 1) : EReal) := by
  pointwise [k0_pay69]
  refine R.step _ _ _ hx fun r => ?_
  rw [dn R, p R, ← EReal.coe_mul]

/-- The input gate's gradient: the tile's part is added. -/
theorem gli (x : Vec Ideal S1x640 .f32) (s : Fin 640)
    (hx : x (ix2 0 s) = (upto (fun t => H.r μ t (Fin.castLE hn s)) i.val : EReal)) :
    k0_pay17 v (k0_pay8 w a q k g) (k0_pay9 w a q k g) (k0_pay11 w a b q k g) (k0_pay12 w a b q k g) (k0_pay13 dh ht) (k0_pay14 w a b q k g dh) x (ix2 0 s) = (upto (fun t => H.r μ t (Fin.castLE hn s)) (i.val + 1) : EReal) := by
  pointwise [k0_pay17]
  refine R.step _ _ _ hx fun r' => ?_
  rw [r R]

/-- The forget gate's gradient of the tile's rows, added in the lane of the head. -/
theorem gfx (c : grid0.Coords) (x : Vec Ideal S544x128 .f32) (r' : Fin 544) (j : Fin 128) :
    k0_pay70 c (k0_pay16 v (k0_pay8 w a q k g) (k0_pay9 w a q k g) (k0_pay11 w a b q k g) (k0_pay12 w a b q k g) (k0_pay13 dh ht) (k0_pay14 w a b q k g dh)) x (ix2 r' j)
      = x (ix2 r' j) + if j.val = (c 0).val then (H.gfx μ (row i r') : EReal) else 0 := by
  have hc : (c 0).val < 4 := (c 0).isLt
  pointwise [k0_pay70]
  simp only [r R]
  rw [R.gfx, WordCmp.cmpi_eq_ofNat (by omega) (by omega), WordCmp.select_decide]

end Mlstm.Tile640
-- ==== Proof.Start.lean ====
/-
  A grid point whose tile meets the first 640 columns.
-/
module

public import proofs.«01_k».proof.Proof.Steps
public import proofs.«01_k».proof.Proof.Tile640
public import proofs.«01_k».proof.Proof.Gen.KernelIdeal.Value

@[expose] public section

noncomputable section

set_option maxRecDepth 16384

namespace Mlstm.Blocks

open Idealize.ShloMosaic Cert.KernelIdeal Cert.KernelIdeal.Gen Cert.KernelIdeal.Value Idealize.ShloMosaic.TcCoe Idealize.SL.Sem
open Mlstm.Host

/-- The buffers' first contents are zero. -/
theorem zero_k (j : Fin 128) (s : Fin 2176) : k0_pay65 (F := Ideal) (ix2 j s) = (0 : EReal) := by
  pointwise [k0_pay65]

/-- The buffers' first contents are zero. -/
theorem zero_v (j : Fin 256) (s : Fin 2176) : k0_pay66 (F := Ideal) (ix2 j s) = (0 : EReal) := by
  pointwise [k0_pay66]

/-- The buffers' first contents are zero. -/
theorem zero_g (j : Fin 128) (s : Fin 2176) : k0_pay63 (F := Ideal) (ix2 j s) = (0 : EReal) := by
  pointwise [k0_pay63]

/-- The buffers' first contents are zero. -/
theorem zero_x (j : Fin 2176) (s : Fin 128) : k0_pay64 (F := Ideal) (ix2 j s) = (0 : EReal) := by
  pointwise [k0_pay64]

variable {m : (ℓ : Loc nD τ sig) → Buf (Elt Ideal) ℓ} {c : Dev nD} (hf : Fin4 m c)

theorem offAg : ∀ t : Fin cfg0.N, k0_off1 (grid0.coords t) = ![(hd t).val, 0] :=
  (by decide +kernel : ∀ t : Fin grid0.N, _)

theorem offAd : ∀ t : Fin cfg0.N, k0_off2 (grid0.coords t) = ![(hd t).val, 0] :=
  (by decide +kernel : ∀ t : Fin grid0.N, _)

theorem offAx : ∀ t : Fin cfg0.N, k0_off3 (grid0.coords t) = ![(tl t).val * 544, 0] :=
  (by decide +kernel : ∀ t : Fin grid0.N, _)

theorem rowA (t : Fin cfg0.N) (a : Fin S8x2176.rank) :
    k0_off1 (grid0.coords t) a + (![1, 640] : Fin 2 → ℕ) a ≤ S8x2176.size a := by
  have := (hd t).isLt
  rw [offAg]
  fin_cases a
  · show (hd t).val + 1 ≤ 8
    omega
  · show 0 + 640 ≤ 2176
    omega

/-- The point's keys, values and gates. -/
abbrev keyA (m : (ℓ : Loc nD τ sig) → Buf (Elt Ideal) ℓ) (c : Dev nD) (t : Fin cfg0.N) : Vec Ideal S640x128 .bf16 :=
  View.ld (iblk m c 1 t) (Rect.unit (s := S2176x128) ![0, 0] ![640, 128] inb_S2176x128_S640x128_0_0)
abbrev valA (m : (ℓ : Loc nD τ sig) → Buf (Elt Ideal) ℓ) (c : Dev nD) (t : Fin cfg0.N) : Vec Ideal S640x256 .bf16 :=
  View.ld (iblk m c 2 t) (Rect.unit (s := S2176x256) ![0, 0] ![640, 256] inb_S2176x256_S640x256_0_0)
abbrev gateA (m : (ℓ : Loc nD τ sig) → Buf (Elt Ideal) ℓ) (c : Dev nD) (t : Fin cfg0.N) : Vec Ideal S1x640 .f32 :=
  View.ld (iblk m c 3 t) (Rect.unit (s := S8x2176) (k0_off1 (grid0.coords t)) ![1, 640] (rowA t))

include hf

/-- The point's reads. -/
theorem readsA (t : Fin cfg0.N) (hc : ((tl t).val + 1) * 544 ≤ 640) :
    Reads (H m c (hd t)) (M m c (hd t)) (tl t) (n := 640) (by norm_num) (BitVec.ofNat 32 (grid0.coords t 1).val)
      (fun r d => iblk m c 0 t (ix2 r d)) (fun s d => keyA m c t (ix2 s d)) (fun s e => valA m c t (ix2 s e))
      (fun s => gateA m c t (ix2 0 s))
      (fun r => k0_pay67 (grid0.coords t) (iblk m c 4 t) (ix2 r 0))
      (fun r => k0_pay68 (grid0.coords t) (iblk m c 5 t) (ix2 r 0))
      (fun r e => iblk m c 7 t (ix2 r e)) (fun r e => iblk m c 6 t (ix2 r e)) :=
  reads hf t (n := 640) (by norm_num) hc (keyA m c t) (valA m c t) (gateA m c t)
    (fun s d => ld_at (e := .bf16) (iblk m c 1 t) _ s d _ _ (Nat.zero_add _).symm (Nat.zero_add _).symm)
    (fun s e => ld_at (e := .bf16) (iblk m c 2 t) _ s e _ _ (Nat.zero_add _).symm (Nat.zero_add _).symm)
    (fun s => ld_at (e := .f32) (iblk m c 3 t) (rowA t) (0 : Fin 1) s _ _ (by rw [offAg]; rfl)
      (by rw [offAg]; exact (Nat.zero_add _).symm))

end Mlstm.Blocks
-- ==== Proof.CaseA.lean ====
/-
  The first grid point.
-/
module

public import proofs.«01_k».proof.Proof.Start

@[expose] public section

noncomputable section

set_option maxRecDepth 16384

namespace Mlstm.Blocks

open Idealize.ShloMosaic Cert.KernelIdeal Cert.KernelIdeal.Gen Cert.KernelIdeal.Value Idealize.ShloMosaic.TcCoe Idealize.SL.Sem
open Mlstm.Host

variable {m : (ℓ : Loc nD τ sig) → Buf (Elt Ideal) ℓ} {c : Dev nD} (hf : Fin4 m c)

include hf

theorem caseA (t : Fin cfg0.N) (acc : St) (h : t.val = 0) :
    After m c t (stAt0 m c t.val t.isLt acc) := by
  have hc : ((tl t).val + 1) * 544 ≤ 640 := by
    show (t.val % 4 + 1) * 544 ≤ 640
    omega
  have hG : DG m c t.val (k0_pay63 (F := Ideal)) := by
    rw [h]
    exact DG_zero _ _ _ zero_g
  have hX : DX m c t.val (k0_pay64 (F := Ideal)) := by
    rw [h]
    exact DX_zero _ _ _ zero_x
  have h0 : (tl t).val = 0 := by
    show t.val % 4 = 0
    omega
  have hK : SK m c (hd t) (tl t).val (k0_pay65 (F := Ideal)) := by
    rw [h0]
    exact SK_zero _ _ _ _ zero_k
  have hV : SV m c (hd t) (tl t).val (k0_pay66 (F := Ideal)) := by
    rw [h0]
    exact SV_zero _ _ _ _ zero_v
  rw [stAt0_A m c t acc (by omega) (by omega) (by omega) (by omega) (by omega) (by omega) (by omega)]
  constructor
  · intro r d
    frame_out
    exact Tile640.gq (readsA hf t hc) r d
  · intro j s
    frame_out
    rw [canon_patch]
    exact DG_step (by norm_num) hc _ (offAd t) _ _ hG (fun s hs => Tile640.gli (readsA hf t hc) _ s hs) j s
  · intro t' j
    frame_out
    rw [canon_patch]
    refine DX_step _ (offAx t) _ _ hX (fun r j' => ?_) t' j
    refine (Tile640.gfx (readsA hf t hc) (grid0.coords t) _ r j').trans ?_
    rw [(coords t).1]
  · intro d s
    frame_out
    rw [canon_patch, readCov_whole]
    exact SK_step (by norm_num) hc _ _ _ hK (fun d s hs => Tile640.gk (readsA hf t hc) _ d s hs) d s
  · intro e s
    frame_out
    rw [canon_patch, readCov_whole]
    exact SV_step (by norm_num) hc _ _ _ hV (fun e s hs => Tile640.gv (readsA hf t hc) _ e s hs) e s

end Mlstm.Blocks
-- ==== Proof.Tile1152.lean ====
/-
  The kernel's arithmetic at one tile, over the first 1152 columns.

  Each value the body computes there, read at an index, is the real number of the same name in `Gradient`.
-/
module

public import proofs.«01_k».proof.Proof.Tile
public import proofs.«01_k».proof.Proof.Gen.KernelIdeal.Skeleton

@[expose] public section

set_option maxRecDepth 16384

noncomputable section

namespace Mlstm.Tile1152

open Idealize.ShloMosaic
open Cert.KernelIdeal Cert.KernelIdeal.Gen

variable {H : Head 2176 128 256} {μ : Fin 2176 → ℝ} {i : Fin 4} {w : BitVec 32}
  {q : Vec Ideal S544x128 .bf16} {k : Vec Ideal S1152x128 .bf16} {v : Vec Ideal S1152x256 .bf16}
  {g : Vec Ideal S1x1152 .f32} {a b : FVec Ideal S544x1 .f32} {dh ht : Vec Ideal S544x256 .f32}
  {hn : 1152 ≤ 2176}
  (R : Reads H μ i hn w (fun r d => q (ix2 r d)) (fun s d => k (ix2 s d)) (fun s e => v (ix2 s e))
    (fun s => g (ix2 0 s)) (fun r => a (ix2 r 0)) (fun r => b (ix2 r 0)) (fun r e => dh (ix2 r e))
    (fun r e => ht (ix2 r e)))

include R

theorem wt (r : Fin 544) (s : Fin 1152) :
    k0_pay21 w a g (ix2 r s) = (H.wt μ (row i r) (Fin.castLE hn s) : EReal) := by
  pointwise [k0_pay21]
  exact R.wt r s

theorem p (r : Fin 544) (s : Fin 1152) :
    k0_pay22 w a q k g (ix2 r s) = (H.p μ (row i r) (Fin.castLE hn s) : EReal) := by
  pointwise [k0_pay22]
  rw [wt R]
  exact R.p r s

theorem den (r : Fin 544) : k0_pay23 w a q k g (ix2 r 0) = (H.den μ (row i r) : EReal) := by
  pointwise [k0_pay23]
  simp only [p R]
  exact R.den r

theorem active (r : Fin 544) : k0_pay25 w a b q k g (ix2 r 0)
    = BitVec.ofBool (decide (|H.den μ (row i r)| < H.clamp μ (row i r))) := by
  pointwise [k0_pay25, k0_pay24]
  simp only [den R]
  exact R.active r

theorem dd (r : Fin 544) : k0_pay26 w a b q k g (ix2 r 0) = (H.dd μ (row i r) : EReal) := by
  pointwise [k0_pay26, k0_pay24]
  simp only [den R]
  exact R.dd r

theorem hdh (r : Fin 544) : k0_pay27 dh ht (ix2 r 0) = (H.hdh μ (row i r) : EReal) := by
  pointwise [k0_pay27]
  exact R.hdh r

theorem dn (r : Fin 544) (e : Fin 256) :
    k0_pay28 w a b q k g dh (ix2 r e) = (H.dn μ (row i r) e : EReal) := by
  pointwise [k0_pay28]
  rw [dd R]
  exact R.dn r e

theorem dp (r : Fin 544) (s : Fin 1152) : k0_pay29 v (k0_pay23 w a q k g) (k0_pay25 w a b q k g) (k0_pay26 w a b q k g) (k0_pay27 dh ht) (k0_pay28 w a b q k g dh) (ix2 r s)
    = (H.dp μ (row i r) (Fin.castLE hn s) : EReal) := by
  pointwise [k0_pay29]
  simp only [dn R, den R, active R, dd R, hdh R]
  exact R.dp r s

theorem r (r : Fin 544) (s : Fin 1152) : k0_pay30 v (k0_pay22 w a q k g) (k0_pay23 w a q k g) (k0_pay25 w a b q k g) (k0_pay26 w a b q k g) (k0_pay27 dh ht) (k0_pay28 w a b q k g dh) (ix2 r s)
    = (H.r μ (row i r) (Fin.castLE hn s) : EReal) := by
  pointwise [k0_pay30]
  rw [dp R, p R]
  exact R.r r s

theorem ds (r : Fin 544) (s : Fin 1152) : k0_pay32 v (k0_pay21 w a g) (k0_pay23 w a q k g) (k0_pay25 w a b q k g) (k0_pay26 w a b q k g) (k0_pay27 dh ht) (k0_pay28 w a b q k g dh) (ix2 r s)
    = (H.ds μ (row i r) (Fin.castLE hn s) : EReal) := by
  pointwise [k0_pay32]
  rw [dp R, wt R]
  exact R.ds r s

/-- The queries' gradient. -/
theorem gq (r : Fin 544) (d : Fin 128) : k0_pay33 k v (k0_pay21 w a g) (k0_pay23 w a q k g) (k0_pay25 w a b q k g) (k0_pay26 w a b q k g) (k0_pay27 dh ht) (k0_pay28 w a b q k g dh) (ix2 r d) = (H.gq μ (row i r) d : EReal) := by
  pointwise [k0_pay33]
  simp only [ds R]
  exact R.gq r d

/-- The keys' gradient, transposed: the tile's part is added. -/
theorem gk (x : Vec Ideal S128x1152 .f32) (d : Fin 128) (s : Fin 1152)
    (hx : x (ix2 d s) = (upto (fun t => H.q t d * H.ds μ t (Fin.castLE hn s)) i.val : EReal)) :
    k0_pay34 q v (k0_pay21 w a g) (k0_pay23 w a q k g) (k0_pay25 w a b q k g) (k0_pay26 w a b q k g) (k0_pay27 dh ht) (k0_pay28 w a b q k g dh) x (ix2 d s)
      = (upto (fun t => H.q t d * H.ds μ t (Fin.castLE hn s)) (i.val + 1) : EReal) := by
  pointwise [k0_pay34]
  refine R.step _ _ _ hx fun r => ?_
  rw [ds R, R.q, ← EReal.coe_mul]

/-- The values' gradient, transposed: the tile's part is added. -/
theorem gv (x : Vec Ideal S256x1152 .f32) (e : Fin 256) (s : Fin 1152)
    (hx : x (ix2 e s) = (upto (fun t => H.dn μ t e * H.p μ t (Fin.castLE hn s)) i.val : EReal)) :
    k0_pay71 (k0_pay22 w a q k g) (k0_pay28 w a b q k g dh) x (ix2 e s)
      = (upto (fun t => H.dn μ t e * H.p μ t (Fin.castLE hn s)) (i.val + 1) : EReal) := by
  pointwise [k0_pay71]
  refine R.step _ _ _ hx fun r => ?_
  rw [dn R, p R, ← EReal.coe_mul]

/-- The input gate's gradient: the tile's part is added. -/
theorem gli (x : Vec Ideal S1x1152 .f32) (s : Fin 1152)
    (hx : x (ix2 0 s) = (upto (fun t => H.r μ t (Fin.castLE hn s)) i.val : EReal)) :
    k0_pay31 v (k0_pay22 w a q k g) (k0_pay23 w a q k g) (k0_pay25 w a b q k g) (k0_pay26 w a b q k g) (k0_pay27 dh ht) (k0_pay28 w a b q k g dh) x (ix2 0 s) = (upto (fun t => H.r μ t (Fin.castLE hn s)) (i.val + 1) : EReal) := by
  pointwise [k0_pay31]
  refine R.step _ _ _ hx fun r' => ?_
  rw [r R]

/-- The forget gate's gradient of the tile's rows, added in the lane of the head. -/
theorem gfx (c : grid0.Coords) (x : Vec Ideal S544x128 .f32) (r' : Fin 544) (j : Fin 128) :
    k0_pay72 c (k0_pay30 v (k0_pay22 w a q k g) (k0_pay23 w a q k g) (k0_pay25 w a b q k g) (k0_pay26 w a b q k g) (k0_pay27 dh ht) (k0_pay28 w a b q k g dh)) x (ix2 r' j)
      = x (ix2 r' j) + if j.val = (c 0).val then (H.gfx μ (row i r') : EReal) else 0 := by
  have hc : (c 0).val < 4 := (c 0).isLt
  pointwise [k0_pay72]
  simp only [r R]
  rw [R.gfx, WordCmp.cmpi_eq_ofNat (by omega) (by omega), WordCmp.select_decide]

end Mlstm.Tile1152
-- ==== Proof.CaseB.lean ====
/-
  A grid point whose tile meets the first 1152 columns.
-/
module

public import proofs.«01_k».proof.Proof.Steps
public import proofs.«01_k».proof.Proof.Tile1152
public import proofs.«01_k».proof.Proof.Gen.KernelIdeal.Value

@[expose] public section

noncomputable section

set_option maxRecDepth 16384

namespace Mlstm.Blocks

open Idealize.ShloMosaic Cert.KernelIdeal Cert.KernelIdeal.Gen Cert.KernelIdeal.Value Idealize.ShloMosaic.TcCoe Idealize.SL.Sem
open Mlstm.Host

variable {m : (ℓ : Loc nD τ sig) → Buf (Elt Ideal) ℓ} {c : Dev nD} (hf : Fin4 m c)

theorem offBg : ∀ t : Fin cfg0.N, k0_off4 (grid0.coords t) = ![(hd t).val, 0] :=
  (by decide +kernel : ∀ t : Fin grid0.N, _)

theorem offBd : ∀ t : Fin cfg0.N, k0_off5 (grid0.coords t) = ![(hd t).val, 0] :=
  (by decide +kernel : ∀ t : Fin grid0.N, _)

theorem offBx : ∀ t : Fin cfg0.N, k0_off6 (grid0.coords t) = ![(tl t).val * 544, 0] :=
  (by decide +kernel : ∀ t : Fin grid0.N, _)

theorem rowB (t : Fin cfg0.N) (a : Fin S8x2176.rank) :
    k0_off4 (grid0.coords t) a + (![1, 1152] : Fin 2 → ℕ) a ≤ S8x2176.size a := by
  have := (hd t).isLt
  rw [offBg]
  fin_cases a
  · show (hd t).val + 1 ≤ 8
    omega
  · show 0 + 1152 ≤ 2176
    omega

/-- The point's keys, values and gates. -/
abbrev keyB (m : (ℓ : Loc nD τ sig) → Buf (Elt Ideal) ℓ) (c : Dev nD) (t : Fin cfg0.N) : Vec Ideal S1152x128 .bf16 :=
  View.ld (iblk m c 1 t) (Rect.unit (s := S2176x128) ![0, 0] ![1152, 128] inb_S2176x128_S1152x128_0_0)
abbrev valB (m : (ℓ : Loc nD τ sig) → Buf (Elt Ideal) ℓ) (c : Dev nD) (t : Fin cfg0.N) : Vec Ideal S1152x256 .bf16 :=
  View.ld (iblk m c 2 t) (Rect.unit (s := S2176x256) ![0, 0] ![1152, 256] inb_S2176x256_S1152x256_0_0)
abbrev gateB (m : (ℓ : Loc nD τ sig) → Buf (Elt Ideal) ℓ) (c : Dev nD) (t : Fin cfg0.N) : Vec Ideal S1x1152 .f32 :=
  View.ld (iblk m c 3 t) (Rect.unit (s := S8x2176) (k0_off4 (grid0.coords t)) ![1, 1152] (rowB t))

include hf

/-- The point's reads. -/
theorem readsB (t : Fin cfg0.N) (hc : ((tl t).val + 1) * 544 ≤ 1152) :
    Reads (H m c (hd t)) (M m c (hd t)) (tl t) (n := 1152) (by norm_num) (BitVec.ofNat 32 (grid0.coords t 1).val)
      (fun r d => iblk m c 0 t (ix2 r d)) (fun s d => keyB m c t (ix2 s d)) (fun s e => valB m c t (ix2 s e))
      (fun s => gateB m c t (ix2 0 s))
      (fun r => k0_pay67 (grid0.coords t) (iblk m c 4 t) (ix2 r 0))
      (fun r => k0_pay68 (grid0.coords t) (iblk m c 5 t) (ix2 r 0))
      (fun r e => iblk m c 7 t (ix2 r e)) (fun r e => iblk m c 6 t (ix2 r e)) :=
  reads hf t (n := 1152) (by norm_num) hc (keyB m c t) (valB m c t) (gateB m c t)
    (fun s d => ld_at (e := .bf16) (iblk m c 1 t) _ s d _ _ (Nat.zero_add _).symm (Nat.zero_add _).symm)
    (fun s e => ld_at (e := .bf16) (iblk m c 2 t) _ s e _ _ (Nat.zero_add _).symm (Nat.zero_add _).symm)
    (fun s => ld_at (e := .f32) (iblk m c 3 t) (rowB t) (0 : Fin 1) s _ _ (by rw [offBg]; rfl)
      (by rw [offBg]; exact (Nat.zero_add _).symm))

theorem caseB (t : Fin cfg0.N) (acc : St) (h : t.val % 4 = 1)
    (hG : DG m c t.val acc.2.2.2.1) (hX : DX m c t.val acc.2.2.2.2.1)
    (hK : SK m c (hd t) (tl t).val acc.2.2.2.2.2.1) (hV : SV m c (hd t) (tl t).val acc.2.2.2.2.2.2) :
    After m c t (stAt0 m c t.val t.isLt acc) := by
  have hc : ((tl t).val + 1) * 544 ≤ 1152 := by
    show (t.val % 4 + 1) * 544 ≤ 1152
    omega
  rw [stAt0_B m c t acc (by omega) (by omega) (by omega) (by omega) (by omega) (by omega) (by omega)]
  constructor
  · intro r d
    frame_out
    exact Tile1152.gq (readsB hf t hc) r d
  · intro j s
    frame_out
    rw [read_patch, Memref.IsWhole.read_unread]
    exact DG_step (by norm_num) hc _ (offBd t) _ _ hG (fun s hs => Tile1152.gli (readsB hf t hc) _ s hs) j s
  · intro t' j
    frame_out
    rw [read_patch, Memref.IsWhole.read_unread]
    refine DX_step _ (offBx t) _ _ hX (fun r j' => ?_) t' j
    refine (Tile1152.gfx (readsB hf t hc) (grid0.coords t) _ r j').trans ?_
    rw [(coords t).1]
  · intro d s
    frame_out
    rw [read_patch, read_s0]
    exact SK_step (by norm_num) hc _ _ _ hK (fun d s hs => Tile1152.gk (readsB hf t hc) _ d s hs) d s
  · intro e s
    frame_out
    rw [read_patch, read_s1]
    exact SV_step (by norm_num) hc _ _ _ hV (fun e s hs => Tile1152.gv (readsB hf t hc) _ e s hs) e s

end Mlstm.Blocks
-- ==== Proof.Tile1664.lean ====
/-
  The kernel's arithmetic at one tile, over the first 1664 columns.

  Each value the body computes there, read at an index, is the real number of the same name in `Gradient`.
-/
module

public import proofs.«01_k».proof.Proof.Tile
public import proofs.«01_k».proof.Proof.Gen.KernelIdeal.Skeleton

@[expose] public section

set_option maxRecDepth 16384

noncomputable section

namespace Mlstm.Tile1664

open Idealize.ShloMosaic
open Cert.KernelIdeal Cert.KernelIdeal.Gen

variable {H : Head 2176 128 256} {μ : Fin 2176 → ℝ} {i : Fin 4} {w : BitVec 32}
  {q : Vec Ideal S544x128 .bf16} {k : Vec Ideal S1664x128 .bf16} {v : Vec Ideal S1664x256 .bf16}
  {g : Vec Ideal S1x1664 .f32} {a b : FVec Ideal S544x1 .f32} {dh ht : Vec Ideal S544x256 .f32}
  {hn : 1664 ≤ 2176}
  (R : Reads H μ i hn w (fun r d => q (ix2 r d)) (fun s d => k (ix2 s d)) (fun s e => v (ix2 s e))
    (fun s => g (ix2 0 s)) (fun r => a (ix2 r 0)) (fun r => b (ix2 r 0)) (fun r e => dh (ix2 r e))
    (fun r e => ht (ix2 r e)))

include R

theorem wt (r : Fin 544) (s : Fin 1664) :
    k0_pay35 w a g (ix2 r s) = (H.wt μ (row i r) (Fin.castLE hn s) : EReal) := by
  pointwise [k0_pay35]
  exact R.wt r s

theorem p (r : Fin 544) (s : Fin 1664) :
    k0_pay36 w a q k g (ix2 r s) = (H.p μ (row i r) (Fin.castLE hn s) : EReal) := by
  pointwise [k0_pay36]
  rw [wt R]
  exact R.p r s

theorem den (r : Fin 544) : k0_pay37 w a q k g (ix2 r 0) = (H.den μ (row i r) : EReal) := by
  pointwise [k0_pay37]
  simp only [p R]
  exact R.den r

theorem active (r : Fin 544) : k0_pay39 w a b q k g (ix2 r 0)
    = BitVec.ofBool (decide (|H.den μ (row i r)| < H.clamp μ (row i r))) := by
  pointwise [k0_pay39, k0_pay38]
  simp only [den R]
  exact R.active r

theorem dd (r : Fin 544) : k0_pay40 w a b q k g (ix2 r 0) = (H.dd μ (row i r) : EReal) := by
  pointwise [k0_pay40, k0_pay38]
  simp only [den R]
  exact R.dd r

theorem hdh (r : Fin 544) : k0_pay41 dh ht (ix2 r 0) = (H.hdh μ (row i r) : EReal) := by
  pointwise [k0_pay41]
  exact R.hdh r

theorem dn (r : Fin 544) (e : Fin 256) :
    k0_pay42 w a b q k g dh (ix2 r e) = (H.dn μ (row i r) e : EReal) := by
  pointwise [k0_pay42]
  rw [dd R]
  exact R.dn r e

theorem dp (r : Fin 544) (s : Fin 1664) : k0_pay43 v (k0_pay37 w a q k g) (k0_pay39 w a b q k g) (k0_pay40 w a b q k g) (k0_pay41 dh ht) (k0_pay42 w a b q k g dh) (ix2 r s)
    = (H.dp μ (row i r) (Fin.castLE hn s) : EReal) := by
  pointwise [k0_pay43]
  simp only [dn R, den R, active R, dd R, hdh R]
  exact R.dp r s

theorem r (r : Fin 544) (s : Fin 1664) : k0_pay44 v (k0_pay36 w a q k g) (k0_pay37 w a q k g) (k0_pay39 w a b q k g) (k0_pay40 w a b q k g) (k0_pay41 dh ht) (k0_pay42 w a b q k g dh) (ix2 r s)
    = (H.r μ (row i r) (Fin.castLE hn s) : EReal) := by
  pointwise [k0_pay44]
  rw [dp R, p R]
  exact R.r r s

theorem ds (r : Fin 544) (s : Fin 1664) : k0_pay46 v (k0_pay35 w a g) (k0_pay37 w a q k g) (k0_pay39 w a b q k g) (k0_pay40 w a b q k g) (k0_pay41 dh ht) (k0_pay42 w a b q k g dh) (ix2 r s)
    = (H.ds μ (row i r) (Fin.castLE hn s) : EReal) := by
  pointwise [k0_pay46]
  rw [dp R, wt R]
  exact R.ds r s

/-- The queries' gradient. -/
theorem gq (r : Fin 544) (d : Fin 128) : k0_pay47 k v (k0_pay35 w a g) (k0_pay37 w a q k g) (k0_pay39 w a b q k g) (k0_pay40 w a b q k g) (k0_pay41 dh ht) (k0_pay42 w a b q k g dh) (ix2 r d) = (H.gq μ (row i r) d : EReal) := by
  pointwise [k0_pay47]
  simp only [ds R]
  exact R.gq r d

/-- The keys' gradient, transposed: the tile's part is added. -/
theorem gk (x : Vec Ideal S128x1664 .f32) (d : Fin 128) (s : Fin 1664)
    (hx : x (ix2 d s) = (upto (fun t => H.q t d * H.ds μ t (Fin.castLE hn s)) i.val : EReal)) :
    k0_pay48 q v (k0_pay35 w a g) (k0_pay37 w a q k g) (k0_pay39 w a b q k g) (k0_pay40 w a b q k g) (k0_pay41 dh ht) (k0_pay42 w a b q k g dh) x (ix2 d s)
      = (upto (fun t => H.q t d * H.ds μ t (Fin.castLE hn s)) (i.val + 1) : EReal) := by
  pointwise [k0_pay48]
  refine R.step _ _ _ hx fun r => ?_
  rw [ds R, R.q, ← EReal.coe_mul]

/-- The values' gradient, transposed: the tile's part is added. -/
theorem gv (x : Vec Ideal S256x1664 .f32) (e : Fin 256) (s : Fin 1664)
    (hx : x (ix2 e s) = (upto (fun t => H.dn μ t e * H.p μ t (Fin.castLE hn s)) i.val : EReal)) :
    k0_pay1 (k0_pay36 w a q k g) (k0_pay42 w a b q k g dh) x (ix2 e s)
      = (upto (fun t => H.dn μ t e * H.p μ t (Fin.castLE hn s)) (i.val + 1) : EReal) := by
  pointwise [k0_pay1]
  refine R.step _ _ _ hx fun r => ?_
  rw [dn R, p R, ← EReal.coe_mul]

/-- The input gate's gradient: the tile's part is added. -/
theorem gli (x : Vec Ideal S1x1664 .f32) (s : Fin 1664)
    (hx : x (ix2 0 s) = (upto (fun t => H.r μ t (Fin.castLE hn s)) i.val : EReal)) :
    k0_pay45 v (k0_pay36 w a q k g) (k0_pay37 w a q k g) (k0_pay39 w a b q k g) (k0_pay40 w a b q k g) (k0_pay41 dh ht) (k0_pay42 w a b q k g dh) x (ix2 0 s) = (upto (fun t => H.r μ t (Fin.castLE hn s)) (i.val + 1) : EReal) := by
  pointwise [k0_pay45]
  refine R.step _ _ _ hx fun r' => ?_
  rw [r R]

/-- The forget gate's gradient of the tile's rows, added in the lane of the head. -/
theorem gfx (c : Fin 4) (x : Vec Ideal S544x128 .f32) (r' : Fin 544) (j : Fin 128) :
    k0_pay2 (BitVec.ofNat 32 c.val) (k0_pay44 v (k0_pay36 w a q k g) (k0_pay37 w a q k g) (k0_pay39 w a b q k g) (k0_pay40 w a b q k g) (k0_pay41 dh ht) (k0_pay42 w a b q k g dh)) x (ix2 r' j)
      = x (ix2 r' j) + if j.val = c.val then (H.gfx μ (row i r') : EReal) else 0 := by
  pointwise [k0_pay2]
  simp only [r R]
  rw [R.gfx, WordCmp.cmpi_eq_ofNat (by omega) (by omega), WordCmp.select_decide]

end Mlstm.Tile1664
-- ==== Proof.CaseC.lean ====
/-
  A grid point whose tile meets the first 1664 columns.
-/
module

public import proofs.«01_k».proof.Proof.Steps
public import proofs.«01_k».proof.Proof.Tile1664
public import proofs.«01_k».proof.Proof.Gen.KernelIdeal.Value

@[expose] public section

noncomputable section

set_option maxRecDepth 16384

namespace Mlstm.Blocks

open Idealize.ShloMosaic Cert.KernelIdeal Cert.KernelIdeal.Gen Cert.KernelIdeal.Value Idealize.ShloMosaic.TcCoe Idealize.SL.Sem
open Mlstm.Host

variable {m : (ℓ : Loc nD τ sig) → Buf (Elt Ideal) ℓ} {c : Dev nD} (hf : Fin4 m c)

theorem offCg : ∀ t : Fin cfg0.N, k0_off7 (grid0.coords t) = ![(hd t).val, 0] :=
  (by decide +kernel : ∀ t : Fin grid0.N, _)

theorem offCd : ∀ t : Fin cfg0.N, k0_off8 (grid0.coords t) = ![(hd t).val, 0] :=
  (by decide +kernel : ∀ t : Fin grid0.N, _)

theorem offCx : ∀ t : Fin cfg0.N, k0_off9 (grid0.coords t) = ![(tl t).val * 544, 0] :=
  (by decide +kernel : ∀ t : Fin grid0.N, _)

theorem rowC (t : Fin cfg0.N) (a : Fin S8x2176.rank) :
    k0_off7 (grid0.coords t) a + (![1, 1664] : Fin 2 → ℕ) a ≤ S8x2176.size a := by
  have := (hd t).isLt
  rw [offCg]
  fin_cases a
  · show (hd t).val + 1 ≤ 8
    omega
  · show 0 + 1664 ≤ 2176
    omega

/-- The point's keys, values and gates. -/
abbrev keyC (m : (ℓ : Loc nD τ sig) → Buf (Elt Ideal) ℓ) (c : Dev nD) (t : Fin cfg0.N) : Vec Ideal S1664x128 .bf16 :=
  View.ld (iblk m c 1 t) (Rect.unit (s := S2176x128) ![0, 0] ![1664, 128] inb_S2176x128_S1664x128_0_0)
abbrev valC (m : (ℓ : Loc nD τ sig) → Buf (Elt Ideal) ℓ) (c : Dev nD) (t : Fin cfg0.N) : Vec Ideal S1664x256 .bf16 :=
  View.ld (iblk m c 2 t) (Rect.unit (s := S2176x256) ![0, 0] ![1664, 256] inb_S2176x256_S1664x256_0_0)
abbrev gateC (m : (ℓ : Loc nD τ sig) → Buf (Elt Ideal) ℓ) (c : Dev nD) (t : Fin cfg0.N) : Vec Ideal S1x1664 .f32 :=
  View.ld (iblk m c 3 t) (Rect.unit (s := S8x2176) (k0_off7 (grid0.coords t)) ![1, 1664] (rowC t))

include hf

/-- The point's reads. -/
theorem readsC (t : Fin cfg0.N) (hc : ((tl t).val + 1) * 544 ≤ 1664) :
    Reads (H m c (hd t)) (M m c (hd t)) (tl t) (n := 1664) (by norm_num) (BitVec.ofNat 32 (grid0.coords t 1).val)
      (fun r d => iblk m c 0 t (ix2 r d)) (fun s d => keyC m c t (ix2 s d)) (fun s e => valC m c t (ix2 s e))
      (fun s => gateC m c t (ix2 0 s))
      (fun r => k0_pay67 (grid0.coords t) (iblk m c 4 t) (ix2 r 0))
      (fun r => k0_pay68 (grid0.coords t) (iblk m c 5 t) (ix2 r 0))
      (fun r e => iblk m c 7 t (ix2 r e)) (fun r e => iblk m c 6 t (ix2 r e)) :=
  reads hf t (n := 1664) (by norm_num) hc (keyC m c t) (valC m c t) (gateC m c t)
    (fun s d => ld_at (e := .bf16) (iblk m c 1 t) _ s d _ _ (Nat.zero_add _).symm (Nat.zero_add _).symm)
    (fun s e => ld_at (e := .bf16) (iblk m c 2 t) _ s e _ _ (Nat.zero_add _).symm (Nat.zero_add _).symm)
    (fun s => ld_at (e := .f32) (iblk m c 3 t) (rowC t) (0 : Fin 1) s _ _ (by rw [offCg]; rfl)
      (by rw [offCg]; exact (Nat.zero_add _).symm))

theorem caseC (t : Fin cfg0.N) (acc : St) (h : t.val % 4 = 2)
    (hG : DG m c t.val acc.2.2.2.1) (hX : DX m c t.val acc.2.2.2.2.1)
    (hK : SK m c (hd t) (tl t).val acc.2.2.2.2.2.1) (hV : SV m c (hd t) (tl t).val acc.2.2.2.2.2.2) :
    After m c t (stAt0 m c t.val t.isLt acc) := by
  have hc : ((tl t).val + 1) * 544 ≤ 1664 := by
    show (t.val % 4 + 1) * 544 ≤ 1664
    omega
  rw [stAt0_C m c t acc (by omega) (by omega) (by omega) (by omega) (by omega) (by omega) (by omega)]
  constructor
  · intro r d
    frame_out
    exact Tile1664.gq (readsC hf t hc) r d
  · intro j s
    frame_out
    rw [read_patch, Memref.IsWhole.read_unread]
    exact DG_step (by norm_num) hc _ (offCd t) _ _ hG (fun s hs => Tile1664.gli (readsC hf t hc) _ s hs) j s
  · intro t' j
    frame_out
    rw [read_patch, Memref.IsWhole.read_unread]
    refine DX_step _ (offCx t) _ _ hX (fun r j' => ?_) t' j
    refine (Tile1664.gfx (readsC hf t hc) (grid0.coords t 0) _ r j').trans ?_
    rw [(coords t).1]
  · intro d s
    frame_out
    rw [read_patch, read_s0]
    exact SK_step (by norm_num) hc _ _ _ hK (fun d s hs => Tile1664.gk (readsC hf t hc) _ d s hs) d s
  · intro e s
    frame_out
    rw [read_patch, read_s1]
    exact SV_step (by norm_num) hc _ _ _ hV (fun e s hs => Tile1664.gv (readsC hf t hc) _ e s hs) e s

end Mlstm.Blocks
-- ==== Proof.Tile2176.lean ====
/-
  The kernel's arithmetic at one tile, over the first 2176 columns.

  Each value the body computes there, read at an index, is the real number of the same name in `Gradient`.
-/
module

public import proofs.«01_k».proof.Proof.Tile
public import proofs.«01_k».proof.Proof.Gen.KernelIdeal.Skeleton

@[expose] public section

set_option maxRecDepth 16384

noncomputable section

namespace Mlstm.Tile2176

open Idealize.ShloMosaic
open Cert.KernelIdeal Cert.KernelIdeal.Gen

variable {H : Head 2176 128 256} {μ : Fin 2176 → ℝ} {i : Fin 4} {w : BitVec 32}
  {q : Vec Ideal S544x128 .bf16} {k : Vec Ideal S2176x128 .bf16} {v : Vec Ideal S2176x256 .bf16}
  {g : Vec Ideal S1x2176 .f32} {a b : FVec Ideal S544x1 .f32} {dh ht : Vec Ideal S544x256 .f32}
  {hn : 2176 ≤ 2176}
  (R : Reads H μ i hn w (fun r d => q (ix2 r d)) (fun s d => k (ix2 s d)) (fun s e => v (ix2 s e))
    (fun s => g (ix2 0 s)) (fun r => a (ix2 r 0)) (fun r => b (ix2 r 0)) (fun r e => dh (ix2 r e))
    (fun r e => ht (ix2 r e)))

include R

theorem wt (r : Fin 544) (s : Fin 2176) :
    k0_pay49 w a g (ix2 r s) = (H.wt μ (row i r) (Fin.castLE hn s) : EReal) := by
  pointwise [k0_pay49]
  exact R.wt r s

theorem p (r : Fin 544) (s : Fin 2176) :
    k0_pay50 w a q k g (ix2 r s) = (H.p μ (row i r) (Fin.castLE hn s) : EReal) := by
  pointwise [k0_pay50]
  rw [wt R]
  exact R.p r s

theorem den (r : Fin 544) : k0_pay51 w a q k g (ix2 r 0) = (H.den μ (row i r) : EReal) := by
  pointwise [k0_pay51]
  simp only [p R]
  exact R.den r

theorem active (r : Fin 544) : k0_pay53 w a b q k g (ix2 r 0)
    = BitVec.ofBool (decide (|H.den μ (row i r)| < H.clamp μ (row i r))) := by
  pointwise [k0_pay53, k0_pay52]
  simp only [den R]
  exact R.active r

theorem dd (r : Fin 544) : k0_pay54 w a b q k g (ix2 r 0) = (H.dd μ (row i r) : EReal) := by
  pointwise [k0_pay54, k0_pay52]
  simp only [den R]
  exact R.dd r

theorem hdh (r : Fin 544) : k0_pay55 dh ht (ix2 r 0) = (H.hdh μ (row i r) : EReal) := by
  pointwise [k0_pay55]
  exact R.hdh r

theorem dn (r : Fin 544) (e : Fin 256) :
    k0_pay56 w a b q k g dh (ix2 r e) = (H.dn μ (row i r) e : EReal) := by
  pointwise [k0_pay56]
  rw [dd R]
  exact R.dn r e

theorem dp (r : Fin 544) (s : Fin 2176) : k0_pay57 v (k0_pay51 w a q k g) (k0_pay53 w a b q k g) (k0_pay54 w a b q k g) (k0_pay55 dh ht) (k0_pay56 w a b q k g dh) (ix2 r s)
    = (H.dp μ (row i r) (Fin.castLE hn s) : EReal) := by
  pointwise [k0_pay57]
  simp only [dn R, den R, active R, dd R, hdh R]
  exact R.dp r s

theorem r (r : Fin 544) (s : Fin 2176) : k0_pay58 v (k0_pay50 w a q k g) (k0_pay51 w a q k g) (k0_pay53 w a b q k g) (k0_pay54 w a b q k g) (k0_pay55 dh ht) (k0_pay56 w a b q k g dh) (ix2 r s)
    = (H.r μ (row i r) (Fin.castLE hn s) : EReal) := by
  pointwise [k0_pay58]
  rw [dp R, p R]
  exact R.r r s

theorem ds (r : Fin 544) (s : Fin 2176) : k0_pay60 v (k0_pay49 w a g) (k0_pay51 w a q k g) (k0_pay53 w a b q k g) (k0_pay54 w a b q k g) (k0_pay55 dh ht) (k0_pay56 w a b q k g dh) (ix2 r s)
    = (H.ds μ (row i r) (Fin.castLE hn s) : EReal) := by
  pointwise [k0_pay60]
  rw [dp R, wt R]
  exact R.ds r s

/-- The queries' gradient. -/
theorem gq (r : Fin 544) (d : Fin 128) : k0_pay61 k v (k0_pay49 w a g) (k0_pay51 w a q k g) (k0_pay53 w a b q k g) (k0_pay54 w a b q k g) (k0_pay55 dh ht) (k0_pay56 w a b q k g dh) (ix2 r d) = (H.gq μ (row i r) d : EReal) := by
  pointwise [k0_pay61]
  simp only [ds R]
  exact R.gq r d

/-- The keys' gradient, transposed: the tile's part is added. -/
theorem gk (x : Vec Ideal S128x2176 .f32) (d : Fin 128) (s : Fin 2176)
    (hx : x (ix2 d s) = (upto (fun t => H.q t d * H.ds μ t (Fin.castLE hn s)) i.val : EReal)) :
    k0_pay62 q v (k0_pay49 w a g) (k0_pay51 w a q k g) (k0_pay53 w a b q k g) (k0_pay54 w a b q k g) (k0_pay55 dh ht) (k0_pay56 w a b q k g dh) x (ix2 d s)
      = (upto (fun t => H.q t d * H.ds μ t (Fin.castLE hn s)) (i.val + 1) : EReal) := by
  pointwise [k0_pay62]
  refine R.step _ _ _ hx fun r => ?_
  rw [ds R, R.q, ← EReal.coe_mul]

/-- The values' gradient, transposed: the tile's part is added. -/
theorem gv (x : Vec Ideal S256x2176 .f32) (e : Fin 256) (s : Fin 2176)
    (hx : x (ix2 e s) = (upto (fun t => H.dn μ t e * H.p μ t (Fin.castLE hn s)) i.val : EReal)) :
    k0_pay3 (k0_pay50 w a q k g) (k0_pay56 w a b q k g dh) x (ix2 e s)
      = (upto (fun t => H.dn μ t e * H.p μ t (Fin.castLE hn s)) (i.val + 1) : EReal) := by
  pointwise [k0_pay3]
  refine R.step _ _ _ hx fun r => ?_
  rw [dn R, p R, ← EReal.coe_mul]

/-- The input gate's gradient: the tile's part is added. -/
theorem gli (x : Vec Ideal S1x2176 .f32) (s : Fin 2176)
    (hx : x (ix2 0 s) = (upto (fun t => H.r μ t (Fin.castLE hn s)) i.val : EReal)) :
    k0_pay59 v (k0_pay50 w a q k g) (k0_pay51 w a q k g) (k0_pay53 w a b q k g) (k0_pay54 w a b q k g) (k0_pay55 dh ht) (k0_pay56 w a b q k g dh) x (ix2 0 s) = (upto (fun t => H.r μ t (Fin.castLE hn s)) (i.val + 1) : EReal) := by
  pointwise [k0_pay59]
  refine R.step _ _ _ hx fun r' => ?_
  rw [r R]

/-- The forget gate's gradient of the tile's rows, added in the lane of the head. -/
theorem gfx (c : Fin 4) (x : Vec Ideal S544x128 .f32) (r' : Fin 544) (j : Fin 128) :
    k0_pay4 (BitVec.ofNat 32 c.val) (k0_pay58 v (k0_pay50 w a q k g) (k0_pay51 w a q k g) (k0_pay53 w a b q k g) (k0_pay54 w a b q k g) (k0_pay55 dh ht) (k0_pay56 w a b q k g dh)) x (ix2 r' j)
      = x (ix2 r' j) + if j.val = c.val then (H.gfx μ (row i r') : EReal) else 0 := by
  pointwise [k0_pay4]
  simp only [r R]
  rw [R.gfx, WordCmp.cmpi_eq_ofNat (by omega) (by omega), WordCmp.select_decide]

end Mlstm.Tile2176
-- ==== Proof.CaseD.lean ====
/-
  A grid point whose tile meets the first 2176 columns.
-/
module

public import proofs.«01_k».proof.Proof.Steps
public import proofs.«01_k».proof.Proof.Tile2176
public import proofs.«01_k».proof.Proof.Gen.KernelIdeal.Value

@[expose] public section

noncomputable section

set_option maxRecDepth 16384

namespace Mlstm.Blocks

open Idealize.ShloMosaic Cert.KernelIdeal Cert.KernelIdeal.Gen Cert.KernelIdeal.Value Idealize.ShloMosaic.TcCoe Idealize.SL.Sem
open Mlstm.Host

/-- The keys' gradients leave transposed. -/
theorem turn_k (X : Vec Ideal S128x2176 .f32) (s : Fin 2176) (d : Fin 128) : k0_pay5 X (ix2 s d) = X (ix2 d s) := by
  pointwise [k0_pay5]

/-- The values' gradients leave transposed. -/
theorem turn_v (X : Vec Ideal S256x2176 .f32) (s : Fin 2176) (e : Fin 256) : k0_pay6 X (ix2 s e) = X (ix2 e s) := by
  pointwise [k0_pay6]

variable {m : (ℓ : Loc nD τ sig) → Buf (Elt Ideal) ℓ} {c : Dev nD} (hf : Fin4 m c)

theorem offDg : ∀ t : Fin cfg0.N, k0_off10 (grid0.coords t) = ![(hd t).val, 0] :=
  (by decide +kernel : ∀ t : Fin grid0.N, _)

theorem offDd : ∀ t : Fin cfg0.N, k0_off11 (grid0.coords t) = ![(hd t).val, 0] :=
  (by decide +kernel : ∀ t : Fin grid0.N, _)

theorem offDx : ∀ t : Fin cfg0.N, k0_off12 (grid0.coords t) = ![(tl t).val * 544, 0] :=
  (by decide +kernel : ∀ t : Fin grid0.N, _)

theorem rowD (t : Fin cfg0.N) (a : Fin S8x2176.rank) :
    k0_off10 (grid0.coords t) a + (![1, 2176] : Fin 2 → ℕ) a ≤ S8x2176.size a := by
  have := (hd t).isLt
  rw [offDg]
  fin_cases a
  · show (hd t).val + 1 ≤ 8
    omega
  · show 0 + 2176 ≤ 2176
    omega

/-- The point's keys, values and gates. -/
abbrev keyD (m : (ℓ : Loc nD τ sig) → Buf (Elt Ideal) ℓ) (c : Dev nD) (t : Fin cfg0.N) : Vec Ideal S2176x128 .bf16 :=
  iblk m c 1 t
abbrev valD (m : (ℓ : Loc nD τ sig) → Buf (Elt Ideal) ℓ) (c : Dev nD) (t : Fin cfg0.N) : Vec Ideal S2176x256 .bf16 :=
  iblk m c 2 t
abbrev gateD (m : (ℓ : Loc nD τ sig) → Buf (Elt Ideal) ℓ) (c : Dev nD) (t : Fin cfg0.N) : Vec Ideal S1x2176 .f32 :=
  View.ld (iblk m c 3 t) (Rect.unit (s := S8x2176) (k0_off10 (grid0.coords t)) ![1, 2176] (rowD t))

include hf

/-- The point's reads. -/
theorem readsD (t : Fin cfg0.N) (hc : ((tl t).val + 1) * 544 ≤ 2176) :
    Reads (H m c (hd t)) (M m c (hd t)) (tl t) (n := 2176) (by norm_num) (BitVec.ofNat 32 (grid0.coords t 1).val)
      (fun r d => iblk m c 0 t (ix2 r d)) (fun s d => keyD m c t (ix2 s d)) (fun s e => valD m c t (ix2 s e))
      (fun s => gateD m c t (ix2 0 s))
      (fun r => k0_pay67 (grid0.coords t) (iblk m c 4 t) (ix2 r 0))
      (fun r => k0_pay68 (grid0.coords t) (iblk m c 5 t) (ix2 r 0))
      (fun r e => iblk m c 7 t (ix2 r e)) (fun r e => iblk m c 6 t (ix2 r e)) :=
  reads hf t (n := 2176) (by norm_num) hc (keyD m c t) (valD m c t) (gateD m c t)
    (fun s d => rfl)
    (fun s e => rfl)
    (fun s => ld_at (e := .f32) (iblk m c 3 t) (rowD t) (0 : Fin 1) s _ _ (by rw [offDg]; rfl)
      (by rw [offDg]; exact (Nat.zero_add _).symm))

theorem caseD (t : Fin cfg0.N) (acc : St) (h : t.val % 4 = 3)
    (hG : DG m c t.val acc.2.2.2.1) (hX : DX m c t.val acc.2.2.2.2.1)
    (hK : SK m c (hd t) (tl t).val acc.2.2.2.2.2.1) (hV : SV m c (hd t) (tl t).val acc.2.2.2.2.2.2) :
    After m c t (stAt0 m c t.val t.isLt acc) := by
  have hc : ((tl t).val + 1) * 544 ≤ 2176 := by
    show (t.val % 4 + 1) * 544 ≤ 2176
    omega
  rw [stAt0_D m c t acc (by omega) (by omega) (by omega) (by omega) (by omega) (by omega) (by omega)]
  constructor
  · intro r d
    frame_out
    exact Tile2176.gq (readsD hf t hc) r d
  · intro j s
    frame_out
    rw [read_patch, Memref.IsWhole.read_unread]
    exact DG_step (by norm_num) hc _ (offDd t) _ _ hG (fun s hs => Tile2176.gli (readsD hf t hc) _ s hs) j s
  · intro t' j
    frame_out
    rw [read_patch, Memref.IsWhole.read_unread]
    refine DX_step _ (offDx t) _ _ hX (fun r j' => ?_) t' j
    refine (Tile2176.gfx (readsD hf t hc) (grid0.coords t 0) _ r j').trans ?_
    rw [(coords t).1]
  · intro d s
    frame_out
    rw [read_s0]
    exact Tile2176.gk (readsD hf t hc) _ d s (hK d s)
  · intro e s
    frame_out
    rw [read_s1]
    exact Tile2176.gv (readsD hf t hc) _ e s (hV e s)

/-- After a head's last tile its keys' and values' gradients are complete. -/
theorem caseD_last (t : Fin cfg0.N) (acc : St) (h : t.val % 4 = 3)
    (hK : SK m c (hd t) (tl t).val acc.2.2.2.2.2.1) (hV : SV m c (hd t) (tl t).val acc.2.2.2.2.2.2) :
    (∀ s d, (stAt0 m c t.val t.isLt acc).2.1 (ix2 s d) = ((H m c (hd t)).gk (M m c (hd t)) s d : EReal))
      ∧ ∀ s e, (stAt0 m c t.val t.isLt acc).2.2.1 (ix2 s e) = ((H m c (hd t)).gv (M m c (hd t)) s e : EReal) := by
  have hc : ((tl t).val + 1) * 544 ≤ 2176 := by
    show (t.val % 4 + 1) * 544 ≤ 2176
    omega
  rw [stAt0_D m c t acc (by omega) (by omega) (by omega) (by omega) (by omega) (by omega) (by omega)]
  have last : (tl t).val + 1 = 4 := by
    show t.val % 4 + 1 = 4
    omega
  constructor
  · intro s d
    frame_out
    rw [read_s0]
    refine (turn_k _ s d).trans ((Tile2176.gk (readsD hf t hc) _ d s (hK d s)).trans ?_)
    rw [last, upto_four]
    rfl
  · intro s e
    frame_out
    rw [read_s1]
    refine (turn_v _ s e).trans ((Tile2176.gv (readsD hf t hc) _ e s (hV e s)).trans ?_)
    rw [last, upto_four]
    rfl

end Mlstm.Blocks
-- ==== Proof.CaseE.lean ====
/-
  A head's first grid point, after another head's.
-/
module

public import proofs.«01_k».proof.Proof.Start

@[expose] public section

noncomputable section

set_option maxRecDepth 16384

namespace Mlstm.Blocks

open Idealize.ShloMosaic Cert.KernelIdeal Cert.KernelIdeal.Gen Cert.KernelIdeal.Value Idealize.ShloMosaic.TcCoe Idealize.SL.Sem
open Mlstm.Host

variable {m : (ℓ : Loc nD τ sig) → Buf (Elt Ideal) ℓ} {c : Dev nD} (hf : Fin4 m c)

include hf

theorem caseE (t : Fin cfg0.N) (acc : St) (h : t.val % 4 = 0) (h16 : t.val % 16 ≠ 0)
    (hG : DG m c t.val acc.2.2.2.1) (hX : DX m c t.val acc.2.2.2.2.1) :
    After m c t (stAt0 m c t.val t.isLt acc) := by
  have hc : ((tl t).val + 1) * 544 ≤ 640 := by
    show (t.val % 4 + 1) * 544 ≤ 640
    omega
  have h0 : (tl t).val = 0 := by
    show t.val % 4 = 0
    omega
  have hK : SK m c (hd t) (tl t).val (k0_pay65 (F := Ideal)) := by
    rw [h0]
    exact SK_zero _ _ _ _ zero_k
  have hV : SV m c (hd t) (tl t).val (k0_pay66 (F := Ideal)) := by
    rw [h0]
    exact SV_zero _ _ _ _ zero_v
  rw [stAt0_E m c t acc (by omega) (by omega) (by omega) (by omega) (by omega) (by omega) (by omega)]
  constructor
  · intro r d
    frame_out
    exact Tile640.gq (readsA hf t hc) r d
  · intro j s
    frame_out
    rw [read_patch, Memref.IsWhole.read_unread]
    exact DG_step (by norm_num) hc _ (offAd t) _ _ hG (fun s hs => Tile640.gli (readsA hf t hc) _ s hs) j s
  · intro t' j
    frame_out
    rw [read_patch, Memref.IsWhole.read_unread]
    refine DX_step _ (offAx t) _ _ hX (fun r j' => ?_) t' j
    refine (Tile640.gfx (readsA hf t hc) (grid0.coords t) _ r j').trans ?_
    rw [(coords t).1]
  · intro d s
    frame_out
    rw [canon_patch, readCov_whole]
    exact SK_step (by norm_num) hc _ _ _ hK (fun d s hs => Tile640.gk (readsA hf t hc) _ d s hs) d s
  · intro e s
    frame_out
    rw [canon_patch, readCov_whole]
    exact SV_step (by norm_num) hc _ _ _ hV (fun e s hs => Tile640.gv (readsA hf t hc) _ e s hs) e s

end Mlstm.Blocks
-- ==== Proof.Sweep.lean ====
/-
  What the call leaves, from what each grid point adds.
-/
module

public import proofs.«01_k».proof.Proof.CaseA
public import proofs.«01_k».proof.Proof.CaseB
public import proofs.«01_k».proof.Proof.CaseC
public import proofs.«01_k».proof.Proof.CaseD
public import proofs.«01_k».proof.Proof.CaseE

@[expose] public section

noncomputable section

set_option maxRecDepth 16384

namespace Mlstm.Blocks

open Idealize.ShloMosaic Cert.KernelIdeal Cert.KernelIdeal.Gen Cert.KernelIdeal.Value Idealize.ShloMosaic.TcCoe Idealize.SL.Sem
open Mlstm.Host

variable {m : (ℓ : Loc nD τ sig) → Buf (Elt Ideal) ℓ} {c : Dev nD} (hf : Fin4 m c)

/-- The sums one point leaves are those the next point of the same head starts from. -/
theorem carry {n : ℕ} (hn : n + 1 < cfg0.N) {Y : St} (hY : After m c ⟨n, Nat.lt_of_succ_lt hn⟩ Y) (h : (n + 1) % 4 ≠ 0) :
    SK m c (hd ⟨n + 1, hn⟩) (tl ⟨n + 1, hn⟩).val Y.2.2.2.2.2.1 ∧ SV m c (hd ⟨n + 1, hn⟩) (tl ⟨n + 1, hn⟩).val Y.2.2.2.2.2.2 := by
  have eh : hd ⟨n + 1, hn⟩ = hd ⟨n, Nat.lt_of_succ_lt hn⟩ := Fin.ext (by
    show (n + 1) / 4 = n / 4
    omega)
  have et : (tl ⟨n + 1, hn⟩).val = (tl ⟨n, Nat.lt_of_succ_lt hn⟩).val + 1 := by
    show (n + 1) % 4 = n % 4 + 1
    omega
  rw [eh, et]
  exact ⟨hY.sk, hY.sv⟩

theorem outs_congr {n n' : ℕ} (e : n = n') (hn : n < cfg0.N) (hn' : n' < cfg0.N) : outsAt0 m c n hn = outsAt0 m c n' hn' := by
  subst e
  rfl

include hf

/-- Every grid point leaves the gradients of the tiles so far. -/
theorem after : ∀ (n : ℕ) (hn : n < cfg0.N), After m c ⟨n, hn⟩ (outsAt0 m c n hn)
  | 0, hn => by
    rw [outsAt0_zero]
    exact caseA hf ⟨0, hn⟩ _ rfl
  | n + 1, hn => by
    have hN : n + 1 < 16 := lt_of_lt_of_eq hn N_0
    have ih := after n (Nat.lt_of_succ_lt hn)
    rw [outsAt0_succ]
    by_cases h0 : (n + 1) % 4 = 0
    · exact caseE hf ⟨n + 1, hn⟩ _ h0 (by show (n + 1) % 16 ≠ 0; omega) ih.dg ih.dx
    · obtain ⟨hK, hV⟩ := carry hn ih h0
      by_cases h1 : (n + 1) % 4 = 1
      · exact caseB hf ⟨n + 1, hn⟩ _ h1 ih.dg ih.dx hK hV
      · by_cases h2 : (n + 1) % 4 = 2
        · exact caseC hf ⟨n + 1, hn⟩ _ h2 ih.dg ih.dx hK hV
        · exact caseD hf ⟨n + 1, hn⟩ _ (by show (n + 1) % 4 = 3; omega) ih.dg ih.dx hK hV

/-- A head's last grid point leaves its keys' and values' gradients. -/
theorem after_last (n : ℕ) (hn : n < cfg0.N) (h : n % 4 = 3) :
    (∀ s d, (outsAt0 m c n hn).2.1 (ix2 s d) = ((H m c (hd ⟨n, hn⟩)).gk (M m c (hd ⟨n, hn⟩)) s d : EReal))
      ∧ ∀ s e, (outsAt0 m c n hn).2.2.1 (ix2 s e) = ((H m c (hd ⟨n, hn⟩)).gv (M m c (hd ⟨n, hn⟩)) s e : EReal) := by
  obtain ⟨k, rfl⟩ : ∃ k, n = k + 1 := ⟨n - 1, by omega⟩
  obtain ⟨hK, hV⟩ := carry hn (after hf k (Nat.lt_of_succ_lt hn)) (by omega)
  rw [outsAt0_succ]
  exact caseD_last hf ⟨k + 1, hn⟩ _ h hK hV

/-- The queries' gradients. -/
theorem value_dq (h : Fin 4) (t : Fin 2176) (d : Fin 128) (hl : h.val * 128 + d.val < 512) :
    G8 m c (ix2 t ⟨h.val * 128 + d.val, hl⟩) = ((H m c h).gq (M m c h) t d : EReal) := by
  have hp : pt8Of (ix2 t ⟨h.val * 128 + d.val, hl⟩) = h.val * 4 + t.val / 544 := by
    show 1 * (t.val / 544 - 0) + 4 * ((h.val * 128 + d.val) / 128 - 0) = _
    omega
  have hn : h.val * 4 + t.val / 544 < cfg0.N := by
    rw [show cfg0.N = 16 from N_0]
    omega
  have el : loc8Of (ix2 t ⟨h.val * 128 + d.val, hl⟩) = ix2 (⟨t.val % 544, Nat.mod_lt _ (by decide)⟩ : Fin 544) d := by
    funext a
    apply Fin.ext
    fin_cases a
    · rfl
    · show (h.val * 128 + d.val) % 128 = d.val
      omega
  have eh : hd ⟨h.val * 4 + t.val / 544, hn⟩ = h := Fin.ext (by
    show (h.val * 4 + t.val / 544) / 4 = h.val
    omega)
  have er : row (tl ⟨h.val * 4 + t.val / 544, hn⟩) ⟨t.val % 544, Nat.mod_lt _ (by decide)⟩ = t := Fin.ext (by
    show (h.val * 4 + t.val / 544) % 4 * 544 + t.val % 544 = t.val
    omega)
  unfold G8
  rw [dif_pos (by rw [hp]; exact hn), ← outsAt0_sweep m c _ (by rw [hp]; exact hn), outs_congr hp _ hn, el]
  refine ((after hf _ hn).gq _ d).trans ?_
  rw [eh, er]

/-- The keys' gradients. -/
theorem value_dk (h : Fin 4) (s : Fin 2176) (d : Fin 128) (hl : h.val * 128 + d.val < 512) :
    G9 m c (ix2 s ⟨h.val * 128 + d.val, hl⟩) = ((H m c h).gk (M m c h) s d : EReal) := by
  have hp : pt9Of (ix2 s ⟨h.val * 128 + d.val, hl⟩) = h.val * 4 + 3 := by
    show 4 * (4 * (s.val / 2176 - 0) + 1 * ((h.val * 128 + d.val) / 128 - 0)) + 3 = _
    omega
  have hn : h.val * 4 + 3 < cfg0.N := by
    rw [show cfg0.N = 16 from N_0]
    omega
  have el : loc9Of (ix2 s ⟨h.val * 128 + d.val, hl⟩) = ix2 s d := by
    funext a
    apply Fin.ext
    fin_cases a
    · exact Nat.mod_eq_of_lt s.isLt
    · show (h.val * 128 + d.val) % 128 = d.val
      omega
  have eh : hd ⟨h.val * 4 + 3, hn⟩ = h := Fin.ext (by
    show (h.val * 4 + 3) / 4 = h.val
    omega)
  unfold G9
  rw [dif_pos (by rw [hp]; exact hn), ← outsAt0_sweep m c _ (by rw [hp]; exact hn), outs_congr hp _ hn, el]
  refine ((after_last hf _ hn (by omega)).1 s d).trans ?_
  rw [eh]

/-- The values' gradients. -/
theorem value_dv (h : Fin 4) (s : Fin 2176) (e : Fin 256) (hl : h.val * 256 + e.val < 1024) :
    G10 m c (ix2 s ⟨h.val * 256 + e.val, hl⟩) = ((H m c h).gv (M m c h) s e : EReal) := by
  have hp : pt10Of (ix2 s ⟨h.val * 256 + e.val, hl⟩) = h.val * 4 + 3 := by
    show 4 * (4 * (s.val / 2176 - 0) + 1 * ((h.val * 256 + e.val) / 256 - 0)) + 3 = _
    omega
  have hn : h.val * 4 + 3 < cfg0.N := by
    rw [show cfg0.N = 16 from N_0]
    omega
  have el : loc10Of (ix2 s ⟨h.val * 256 + e.val, hl⟩) = ix2 s e := by
    funext a
    apply Fin.ext
    fin_cases a
    · exact Nat.mod_eq_of_lt s.isLt
    · show (h.val * 256 + e.val) % 256 = e.val
      omega
  have eh : hd ⟨h.val * 4 + 3, hn⟩ = h := Fin.ext (by
    show (h.val * 4 + 3) / 4 = h.val
    omega)
  unfold G10
  rw [dif_pos (by rw [hp]; exact hn), ← outsAt0_sweep m c _ (by rw [hp]; exact hn), outs_congr hp _ hn, el]
  refine ((after_last hf _ hn (by omega)).2 s e).trans ?_
  rw [eh]

/-- The input gates' gradients. -/
theorem value_dgrow (j : Fin 128) (s : Fin 2176) :
    G11 m c (ix2 j s) = if hj : j.val < 4 then ((H m c ⟨j.val, hj⟩).gli (M m c ⟨j.val, hj⟩) s : EReal) else 0 := by
  have hn : 15 < cfg0.N := lt_of_lt_of_eq (by decide) N_0.symm
  rw [G11_last, ← outsAt0_sweep m c 15 hn]
  refine ((after hf 15 hn).dg j s).trans ?_
  split
  · next hj =>
    show ((upto _ (cnt 16 j.val) : ℝ) : EReal) = _
    rw [cnt_all _ hj, upto_four]
    rfl
  · rfl

/-- The rows' gradients. -/
theorem value_dfx (t : Fin 2176) (j : Fin 128) :
    G12 m c (ix2 t j) = if hj : j.val < 4 then ((H m c ⟨j.val, hj⟩).gfx (M m c ⟨j.val, hj⟩) t : EReal) else 0 := by
  have hn : 15 < cfg0.N := lt_of_lt_of_eq (by decide) N_0.symm
  rw [G12_last, ← outsAt0_sweep m c 15 hn]
  refine ((after hf 15 hn).dx t j).trans ?_
  split
  · next hj =>
    show (if t.val < cnt 16 j.val * 544 then _ else _) = _
    rw [cnt_all _ hj, if_pos t.isLt]
  · rfl

end Mlstm.Blocks
-- ==== Proof.Match.lean ====
/-
  The call's results are the reference's.
-/
module

public import proofs.«01_k».proof.Proof.Sweep
public import proofs.«01_k».proof.Proof.RefBackward

@[expose] public section

noncomputable section

set_option maxRecDepth 16384

namespace Mlstm.Blocks

open Idealize.ShloMosaic Cert.KernelIdeal Cert.KernelIdeal.Gen Cert.KernelIdeal.Value Idealize.ShloMosaic.TcCoe Idealize.SL.Sem
open Mlstm.Host Cert.ReferenceIdeal.Read

/-- A lane is a head's lane. -/
theorem lane_split {w n : ℕ} (hw : 0 < w) (hn : n = 4 * w) (j : Fin n) :
    ∃ (h : Fin 4) (d : Fin w) (hl : h.val * w + d.val < n), j = ⟨h.val * w + d.val, hl⟩ := by
  have e : j.val / w * w + j.val % w = j.val := by rw [Nat.mul_comm]; exact Nat.div_add_mod _ _
  exact ⟨⟨j.val / w, Nat.div_lt_of_lt_mul (by rw [Nat.mul_comm, ← hn]; exact j.isLt)⟩, ⟨j.val % w, Nat.mod_lt _ hw⟩,
    by show j.val / w * w + j.val % w < n; rw [e]; exact j.isLt, Fin.ext e.symm⟩

variable {m : (ℓ : Loc nD τ sig) → Buf (Elt Ideal) ℓ} {c : Dev nD} (hf : Fin4 m c)
  (hn : NoTie (X0 m c) (X1 m c) (X2 m c) (X3 m c))

include hf hn

theorem match_dq : G8 m c = val_main_v143 (X0 m c) (X1 m c) (X2 m c) (X3 m c) := by
  funext y
  rw [eq_ix2 y]
  obtain ⟨h, d, hl, e⟩ := lane_split (w := 128) (by norm_num) rfl (y 1)
  rw [e]
  refine (value_dq hf h _ d hl).trans (Eq.trans ?_ (ref_dq hf hn h _ d hl).symm)
  exact congrArg _ (Head.gq_change _ _ _ _ _)

theorem match_dk : G9 m c = val_main_v146 (X0 m c) (X1 m c) (X2 m c) (X3 m c) := by
  funext y
  rw [eq_ix2 y]
  obtain ⟨h, d, hl, e⟩ := lane_split (w := 128) (by norm_num) rfl (y 1)
  rw [e]
  refine (value_dk hf h _ d hl).trans (Eq.trans ?_ (ref_dk hf hn h _ d hl).symm)
  exact congrArg _ (Head.gk_change _ _ _ _ _)

theorem match_dv : G10 m c = val_main_v149 (X0 m c) (X1 m c) (X2 m c) (X3 m c) := by
  funext y
  rw [eq_ix2 y]
  obtain ⟨h, d, hl, e⟩ := lane_split (w := 256) (by norm_num) rfl (y 1)
  rw [e]
  refine (value_dv hf h _ d hl).trans (Eq.trans ?_ (ref_dv hf hn h _ d hl).symm)
  exact congrArg _ (Head.gv_change _ _ _ _ _)

theorem match_dgrow : G11 m c = val_main_v137 (X0 m c) (X1 m c) (X2 m c) (X3 m c) := by
  funext y
  rw [eq_ix2 y]
  refine (value_dgrow hf _ _).trans (Eq.trans ?_ (ref_dgrow hf hn _ _).symm)
  split
  · exact congrArg _ (Head.gli_change _ _ _ _)
  · rfl

theorem match_dfx : G12 m c = val_main_v140 (X0 m c) (X1 m c) (X2 m c) (X3 m c) := by
  funext y
  rw [eq_ix2 y]
  refine (value_dfx hf _ _).trans (Eq.trans ?_ (ref_dfx hf hn _ _).symm)
  split
  · exact congrArg _ (Head.gfx_change _ _ _ _)
  · rfl

end Mlstm.Blocks
-- ==== Proof.Precondition.lean ====
/-
  What the precondition says: every entry of the four arguments is a real number, and no row's normaliser ties with
  its clamp.
-/
module

public import proofs.«01_k».proof.Proof.RefBackward
public import proofs.«01_k».proof.Pre_finite_no_tie
public import Idealize.ShloMosaic.Lib.ReduceAll

@[expose] public section

set_option maxRecDepth 16384

noncomputable section

namespace Mlstm

open Reals Idealize.ShloMosaic
open Cert.ReferenceIdeal Cert.ReferenceIdeal.Read Cert.ReferenceIdeal.Gen

theorem pre_facts : Cert.Pre_finite_no_tie.Facts :=
  ⟨by decide, by decide, by decide, by decide, by decide, by decide, by decide, by decide, by decide, by decide, by decide,
    by decide, by decide, by decide, by decide, by decide, by decide, by decide, by decide, by decide⟩

variable {x0 : (⟨S2176x2048, .bf16⟩ : BufTy).Contents (Elt Ideal)} {x1 x2 : (⟨S4x2176, .f32⟩ : BufTy).Contents (Elt Ideal)}
  {x3 : (⟨S2176x1024, .f32⟩ : BufTy).Contents (Elt Ideal)}

/-- What the precondition's last part says. -/
theorem part2_spec [Cert.Pre_finite_no_tie.Facts] (m d : S4x2176.Idx → EReal) (y : S_.Idx → BitVec 1) (c : S_.Idx → EReal)
    (hc : ∀ i, c i = ⊤)
    (hp : Cert.Pre_finite_no_tie.fn_part2 (F := Ideal) x3 m d y (Host.absf (F := Ideal) (φ := .f32) x2) c ix0 = 1#1) :
    y ix0 = 1#1 ∧ (∀ i, IsReal (x2 i)) ∧ (∀ i, IsReal (x3 i)) ∧
      ∀ i, FloatOps.absf (F := Ideal) (φ := .f32) (d i) ≠ Ideal.exp (-(m i)) := by
  unfold Cert.Pre_finite_no_tie.fn_part2 at hp
  obtain ⟨h1, h2⟩ := andi_one hp
  obtain ⟨h3, h4⟩ := andi_one h1
  obtain ⟨h5, h6⟩ := andi_one h3
  refine ⟨h5, real_of_all .f32 x2 c hc _ _ _ _ h6, real_of_all .f32 x3 _ (fun i => ofBits_infinity) _ _ _ _ h4, fun i => ?_⟩
  have h7 := Host.reduce_andi_all _ _ _ _ _ h2 i
  intro he
  have h8 : BitVec.ofBool (decide (FloatOps.absf (F := Ideal) (φ := .f32) (d i) ≠ Ideal.exp (-(m i)))) = 1#1 := by
    rw [← h7]; rfl
  rw [decide_eq_false (not_not.2 he)] at h8
  exact absurd h8 (by decide)

/-- The precondition's exponents are the reference's. -/
theorem pre_exponent [Cert.Pre_finite_no_tie.Facts] :
    select (cmpi .sge (iotaInDim S4x2176x2176 32 1) (iotaInDim S4x2176x2176 32 2))
     (addf (F := Ideal) (φ := .f32) (subf (broadcastInDim S4x2176x2176 ![0, 1] Cert.Pre_finite_no_tie.Facts.bcast_S4x2176_S4x2176x2176_0_1 (val_main_v0 x2))
        (broadcastInDim S4x2176x2176 ![0, 2] Cert.Pre_finite_no_tie.Facts.bcast_S4x2176_S4x2176x2176_0_2 (val_main_v0 x2)))
        (broadcastInDim S4x2176x2176 ![0, 2] Cert.Pre_finite_no_tie.Facts.bcast_S4x2176_S4x2176x2176_0_2 x1))
     (broadcastInDim S4x2176x2176 ![] Cert.Pre_finite_no_tie.Facts.bcast_S_S4x2176x2176 (constant (F := Ideal) S_ .f32 0xFF800000#32))
     = val_main_v25_0 x1 x2 := by
  funext i
  idx_vars i
  pointwise [val_main_v25_0, val_main_v24, val_main_v23, val_main_v22, val_main_v21, val_main_v20, val_main_v19, val_main_v18, val_main_v17, val_main_call2_v2, val_main_call2_v0, val_main_cst_0]
  rw [ref_mask, WordCmp.cmpi_sge_ofNat (by omega) (by omega)]
  rfl

theorem spec_of_parts [Cert.Pre_finite_no_tie.Facts] (q k : S4x2176x128.Idx → EReal) (y : S4x2176x2176.Idx → EReal) (m : S4x2176.Idx → EReal)
    (c : S_.Idx → EReal) (hq : q = val_main_v4 x0) (hk : k = val_main_v8 x0) (hy : y = val_main_v25_0 x1 x2) (hm : m = val_main_v32 x1 x2)
    (hc : c = constant (F := Ideal) S_ .f32 0x3DB504F3#32)
    (hp : Cert.Pre_finite_no_tie.fn_part1 (F := Ideal) x0 x1 x2 x3 q k y m c ix0 = 1#1) :
    Finite4 x0 x1 x2 x3 ∧ NoTie x0 x1 x2 x3 := by
  unfold Cert.Pre_finite_no_tie.fn_part1 at hp
  have h := part2_spec (x2 := x2) (x3 := x3) _ _ _ _ (fun i => ofBits_infinity) hp
  obtain ⟨h0, h2, h3, h4⟩ := h
  obtain ⟨h5, h6⟩ := andi_one h0
  have hf : Finite4 x0 x1 x2 x3 := ⟨real_of_all .bf16 x0 _ (fun i => ofBits_infinity_bf16) _ _ _ _ h5,
    real_of_all .f32 x1 _ (fun i => ofBits_infinity) _ _ _ _ h6, h2, h3⟩
  refine ⟨hf, fun h t he => ?_⟩
  refine h4 (ix2 h t) ?_
  have e1 : Ideal.exp (-(m (ix2 h t))) = ((head x0 x1 x2 x3 h).clamp (refMu x1 x2 h) t : EReal) := by
    rw [hm, ← ref_clamp hf]
    pointwise [val_main_v59, val_main_v58]
  rw [e1, ← he, ← abs_coe]
  refine congrArg _ ?_
  rw [← ref_den hf]
  subst hq hk hy hm hc
  pointwise [val_main_v54, val_main_v52, val_main_v51, val_main_v50, val_main_v49, val_main_v48, val_main_v47, val_main_v16, val_main_v15, val_main_cst, val_main_cst_9]

/-- The precondition: real entries, and no tie. -/
theorem pre_spec [Cert.Pre_finite_no_tie.Facts] (hp : Cert.Pre_finite_no_tie.fn (F := Ideal) x0 x1 x2 x3 ix0 = 1#1) :
    Finite4 x0 x1 x2 x3 ∧ NoTie x0 x1 x2 x3 := by
  unfold Cert.Pre_finite_no_tie.fn at hp
  refine spec_of_parts _ _ _ _ _ ?_ ?_ pre_exponent ?_ rfl hp
  · rfl
  · rfl
  · exact congrArg (fun z => maximumf (F := Ideal) (φ := .f32) (val_main_v0 x2) (Host.reduce (FloatOps.maximumf (F := Ideal) (φ := .f32)) z (val_main_cst_1 (F := Ideal)) reducesTo_S4x2176x2176_S4x2176_d2 h_S_)) pre_exponent

end Mlstm

end
-- ==== Proof.Claims.lean ====
/-
  The claims about the mLSTM's backward call.
-/
module

public import proofs.«01_k».proof.Defs
public import proofs.«01_k».proof.Proof.Match
public import proofs.«01_k».proof.Proof.Precondition
public import proofs.«01_k».proof.Proof.Gen.Kernel.Frame
public import proofs.«01_k».proof.Proof.Gen.KernelIdeal.Frame
public import proofs.«01_k».proof.Proof.Gen.ReferenceIdeal.Run
public import proofs.«01_k».proof.Proof.Gen.ReferenceIdeal.Read
public import Idealize.ShloMosaic.Lib.Quiescent

@[expose] public section

noncomputable section

set_option maxRecDepth 16384

namespace Mlstm.Claims

open Idealize.ShloMosaic Idealize.ShloMosaic.TcCoe Idealize.SL.Sem

attribute [local instance] Cert.Kernel.Gen.facts Cert.KernelIdeal.Gen.facts Cert.ReferenceIdeal.Gen.facts

theorem frame_p : Cert.quiescent_Kernel := fun m ρ _ => Cert.Kernel.Gen.frame m ρ

theorem frame_pi : Cert.quiescent_KernelIdeal := fun m ρ _ => Cert.KernelIdeal.Gen.frame m ρ

theorem frame_pi_pre : Cert.quiescent_KernelIdeal_pre_finite_no_tie (hPre_finite_no_tie := pre_facts) :=
  fun m ρ _ => Cert.KernelIdeal.Gen.frame m ρ

theorem frame_ri : Cert.quiescent_ReferenceIdeal := fun m ρ _ =>
  (θ_run Cert.ReferenceIdeal.defs _ _).mono (fun r h => ⟨fun c => (h c).2.2.2.2.2, sem_eq_zero_of_no_sems (by decide) r.2⟩)
    (Cert.ReferenceIdeal.Value.run (F := Ideal) m ρ)

theorem frame_ri_pre : Cert.quiescent_ReferenceIdeal_pre_finite_no_tie (hPre_finite_no_tie := pre_facts) :=
  fun m ρ _ => frame_ri m ρ trivial

theorem preserves : Cert.preserves_Kernel_KernelIdeal := IdealRules.sign_bit.statement Cert.KernelIdeal.S544x1 .f32

/-- The arguments are finite and no row's normaliser ties. -/
theorem pre_at (m : (ℓ : Loc Cert.KernelIdeal.nD Cert.KernelIdeal.τ Cert.KernelIdeal.sig) → Buf (Elt Ideal) ℓ)
    (h : Cert.Pre_KernelIdeal_finite_no_tie (hPre_finite_no_tie := pre_facts) m) (c : Dev Cert.KernelIdeal.nD) :
    Blocks.Fin4 m c ∧ NoTie (Host.X0 m c) (Host.X1 m c) (Host.X2 m c) (Blocks.X3 m c) :=
  letI := pre_facts
  pre_spec (congrFun (h c) ix0)

open Cert.ReferenceIdeal Cert.ReferenceIdeal.Read in
/-- What the reference's run leaves, by its stages. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v143) = val_main_v143 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v146) = val_main_v146 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v149) = val_main_v149 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v137) = val_main_v137 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v140) = val_main_v140 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (val_main_v143_eq (StableHlo.launchContents m c)),
      (h c).2.1.trans (val_main_v146_eq (StableHlo.launchContents m c)),
      (h c).2.2.1.trans (val_main_v149_eq (StableHlo.launchContents m c)),
      (h c).2.2.2.1.trans (val_main_v137_eq (StableHlo.launchContents m c)),
      (h c).2.2.2.2.1.trans (val_main_v140_eq (StableHlo.launchContents m c)),
      (h c).2.2.2.2.2⟩)
    (Cert.ReferenceIdeal.Value.run (F := Ideal) m ρ)

theorem algebraic : Cert.algebraic_KernelIdeal_ReferenceIdeal_pre_finite_no_tie (hPre_finite_no_tie := pre_facts) := by
  intro m ρ m' ρ' hpre hagree
  refine ⟨Cert.KernelIdeal.Value.G8 m, Cert.KernelIdeal.Value.G9 m, Cert.KernelIdeal.Value.G10 m, Cert.KernelIdeal.Value.G11 m,
    Cert.KernelIdeal.Value.G12 m, Cert.KernelIdeal.Value.run (F := Ideal) m ρ, ?_⟩
  refine (θ_run Cert.ReferenceIdeal.defs _ _).mono (fun _ h c => ?_) (ref_run m' ρ')
  obtain ⟨h0, h1, h2, h3, h4, h5⟩ := h c
  obtain ⟨hf, hn⟩ := pre_at m hpre c
  obtain ⟨e0, e1, e2, e3⟩ := hagree c
  rw [e0, e1, e2, e3] at h0 h1 h2 h3 h4
  exact ⟨h0.trans (Blocks.match_dq hf hn).symm, h1.trans (Blocks.match_dk hf hn).symm, h2.trans (Blocks.match_dv hf hn).symm,
    h3.trans (Blocks.match_dgrow hf hn).symm, h4.trans (Blocks.match_dfx hf hn).symm, h5⟩

end Mlstm.Claims
-- ==== Proof.Parts.lean ====
/-
  An index cut into a tile and a place in it, and a sum over the tiles.
-/
module

public import Idealize.ShloMosaic.Lib.Pointwise
public import Idealize.ShloMosaic.Lib.Pipeline.ValueKit

@[expose] public section

namespace Parts

/-- Place `r` of tile `i`. -/
theorem lt {a b N : ℕ} (h : a * b = N) (i : Fin a) (r : Fin b) : i.val * b + r.val < N := by
  have : (i.val + 1) * b ≤ a * b := Nat.mul_le_mul_right b i.isLt
  have := r.isLt
  rw [Nat.add_mul, Nat.one_mul] at *
  omega

/-- Every index is a place of a tile. -/
theorem split {a b N : ℕ} (h : a * b = N) (R : Fin N) : ∃ (i : Fin a) (r : Fin b), R = ⟨i.val * b + r.val, lt h i r⟩ := by
  have hb : 0 < b := Nat.pos_of_ne_zero (by rintro rfl; have := R.isLt; omega)
  have hi : R.val / b < a := Nat.div_lt_of_lt_mul (lt_of_lt_of_eq R.isLt (h.symm.trans (Nat.mul_comm a b)))
  exact ⟨⟨R.val / b, hi⟩, ⟨R.val % b, Nat.mod_lt _ hb⟩, Fin.ext (Nat.div_add_mod' _ _).symm⟩

/-- A sum, tile by tile. -/
theorem sum {a b N : ℕ} (h : a * b = N) {M : Type*} [AddCommMonoid M] (f : Fin N → M) :
    ∑ k, f k = ∑ i : Fin a, ∑ r : Fin b, f ⟨i.val * b + r.val, lt h i r⟩ := by
  subst h
  rw [← finProdFinEquiv.sum_comp, Fintype.sum_prod_type]
  refine Finset.sum_congr rfl fun i _ => Finset.sum_congr rfl fun r _ => congrArg f (Fin.ext ?_)
  show r.val + b * i.val = i.val * b + r.val
  rw [Nat.mul_comm, Nat.add_comm]

end Parts
-- ==== Proof.Up.lean ====
/-
  The SwiGLU's first products: each grid point computes a block of the two products from all of the rows' features and
  a block of columns, and the gated product of the two. The weights come cut by columns into four parts, one for each
  chip.
-/
module

public import proofs.«01_k».proof.Defs
public import proofs.«01_k».proof.Proof.Parts
public import proofs.«01_k».proof.Proof.Gen.FfnUp.Frame
public import proofs.«01_k».proof.Proof.Gen.FfnUpIdeal.Value
public import proofs.«01_k».proof.Proof.Gen.FfnUpRefIdeal.Read
public import Idealize.ShloMosaic.Lib.Pointwise
public import Idealize.ShloMosaic.Lib.Pipeline.ValueKit
public import Idealize.ShloMosaic.Lib.Quiescent

@[expose] public section

set_option maxRecDepth 16384

noncomputable section

namespace Ffn.Up

open Idealize.ShloMosaic Cert.FfnUpIdeal Cert.FfnUpIdeal.Gen Cert.FfnUpIdeal.Value Idealize.ShloMosaic.TcCoe Idealize.SL.Sem

variable (x0 : Vec Ideal S544x2048 .bf16) (x1 x2 : Vec Ideal S1x2048x1408 .bf16) (r : Fin 544) (s : Fin 1408)

/-- A product of the block of rows and a block of columns. -/
abbrev prod (w : Vec Ideal S1x2048x1408 .bf16) : EReal := ∑ k : Fin 2048, x0 (ix2 r k) * w (ix3 0 k s)

theorem out_g : out0_3 x0 x1 x2 (ix2 r s) = prod x0 r s x1 := by
  unfold out0_3
  rw [View.canon_cons_unit_lit, View.ld_unit_lit, View.ld_unit_lit] <;> try decide
  pointwise [k0_pay3, k0_pay1]

theorem out_u : out0_4 x0 x1 x2 (ix2 r s) = prod x0 r s x2 := by
  unfold out0_4
  rw [View.canon_cons_unit_lit, View.ld_unit_lit, View.ld_unit_lit] <;> try decide
  pointwise [k0_pay4, k0_pay2]

theorem out_a : out0_5 x0 x1 x2 (ix2 r s)
    = prod x0 r s x1 * Ideal.logistic (prod x0 r s x1) * prod x0 r s x2 := by
  unfold out0_5
  rw [View.canon_cons_unit_lit, View.ld_unit_lit, View.ld_unit_lit, View.ld_unit_lit] <;> try decide
  pointwise [k0_pay5, k0_pay1, k0_pay2]

section
open Cert.FfnUpRefIdeal.Read
variable (y0 : Vec Ideal S2176x2048 .bf16) (y1 y2 : Vec Ideal S2048x5632 .bf16) (R : Fin 2176) (S : Fin 5632)

theorem ref_g : val_main_v5 y0 y1 (ix2 R S) = ∑ k : Fin 2048, y0 (ix2 R k) * y1 (ix2 k S) := by
  pointwise [val_main_v5, val_main_v2, val_main_v1, val_main_v0]

theorem ref_u : val_main_v6 y0 y2 (ix2 R S) = ∑ k : Fin 2048, y0 (ix2 R k) * y2 (ix2 k S) := by
  pointwise [val_main_v6, val_main_v4, val_main_v3, val_main_v0]

theorem ref_a : val_main_v9 y0 y1 y2 (ix2 R S) = (∑ k : Fin 2048, y0 (ix2 R k) * y1 (ix2 k S))
    * Ideal.logistic (∑ k : Fin 2048, y0 (ix2 R k) * y1 (ix2 k S)) * ∑ k : Fin 2048, y0 (ix2 R k) * y2 (ix2 k S) := by
  pointwise [val_main_v9, val_main_v8, val_main_v7, val_main_call0_v5, val_main_call0_v4, val_main_call0_cst_0,
    val_main_call0_v3, val_main_call0_v2, val_main_call0_cst, val_main_call0_v1, val_main_call0_v0, val_main_v4, val_main_v3,
    val_main_v2, val_main_v1, val_main_v0]
  rfl

end

variable (m : (ℓ : Loc nD τ sig) → Buf (Elt Ideal) ℓ) (c : Dev nD)

/-- The grid point of a tile of columns and a tile of rows. -/
def pt (j i : Fin 4) : Fin cfg0.N := ⟨j.val * 4 + i.val, by show _ < 16; omega⟩

/-- Which block of each array a grid point reads or writes. -/
theorem idx : ∀ j i, win0_0.index (pt j i) = ![i.val, 0] ∧ win0_1.index (pt j i) = ![j.val, 0, 0]
    ∧ win0_2.index (pt j i) = ![j.val, 0, 0] ∧ win0_3.index (pt j i) = ![i.val, j.val]
    ∧ win0_4.index (pt j i) = ![i.val, j.val] ∧ win0_5.index (pt j i) = ![i.val, j.val] := by decide +kernel

abbrev X0 : Vec Ideal S2176x2048 .bf16 := m ((c : Thread nD τ).loc main_arg0)
abbrev X1 : Vec Ideal S2048x5632 .bf16 := m ((c : Thread nD τ).loc main_arg1)
abbrev X2 : Vec Ideal S2048x5632 .bf16 := m ((c : Thread nD τ).loc main_arg2)

variable (j i : Fin 4) (k : Fin 2048)

theorem blk_x : iblk m c 0 (pt j i) (ix2 r k) = X0 m c (ix2 ⟨i.val * 544 + r.val, by omega⟩ k) := by
  blk_point [iblk, V, idx j i]

theorem blk_g : iblk m c 1 (pt j i) (ix3 0 k s) = X1 m c (ix2 k ⟨j.val * 1408 + s.val, by omega⟩) := by
  blk_point [iblk, V, idx j i]

theorem blk_u : iblk m c 2 (pt j i) (ix3 0 k s) = X2 m c (ix2 k ⟨j.val * 1408 + s.val, by omega⟩) := by
  blk_point [iblk, V, idx j i]

theorem final_g : (dats m 0 c).arrAt 3 cfg0.N (ix2 ⟨i.val * 544 + r.val, by omega⟩ ⟨j.val * 1408 + s.val, by omega⟩)
    = out0_3 (iblk m c 0 (pt j i)) (iblk m c 1 (pt j i)) (iblk m c 2 (pt j i)) (ix2 r s) := by
  have h := congrFun (blocks3 m c (pt j i) (flush0_3 _)) (ix2 r s)
  rw [flushed3] at h
  refine Eq.trans ?_ h
  blk_point [idx j i]

theorem final_u : (dats m 0 c).arrAt 4 cfg0.N (ix2 ⟨i.val * 544 + r.val, by omega⟩ ⟨j.val * 1408 + s.val, by omega⟩)
    = out0_4 (iblk m c 0 (pt j i)) (iblk m c 1 (pt j i)) (iblk m c 2 (pt j i)) (ix2 r s) := by
  have h := congrFun (blocks4 m c (pt j i) (flush0_4 _)) (ix2 r s)
  rw [flushed4] at h
  refine Eq.trans ?_ h
  blk_point [idx j i]

theorem final_a : (dats m 0 c).arrAt 5 cfg0.N (ix2 ⟨i.val * 544 + r.val, by omega⟩ ⟨j.val * 1408 + s.val, by omega⟩)
    = out0_5 (iblk m c 0 (pt j i)) (iblk m c 1 (pt j i)) (iblk m c 2 (pt j i)) (ix2 r s) := by
  have h := congrFun (blocks5 m c (pt j i) (flush0_5 _)) (ix2 r s)
  rw [flushed5] at h
  refine Eq.trans ?_ h
  blk_point [idx j i]

/-- A product of blocks is the product of the arrays there. -/
theorem prod_g : prod (iblk m c 0 (pt j i)) r s (iblk m c 1 (pt j i))
    = ∑ k : Fin 2048, X0 m c (ix2 ⟨i.val * 544 + r.val, by omega⟩ k) * X1 m c (ix2 k ⟨j.val * 1408 + s.val, by omega⟩) :=
  Finset.sum_congr rfl fun k _ => congrArg₂ _ (blk_x r m c j i k) (blk_g s m c j i k)

theorem prod_u : prod (iblk m c 0 (pt j i)) r s (iblk m c 2 (pt j i))
    = ∑ k : Fin 2048, X0 m c (ix2 ⟨i.val * 544 + r.val, by omega⟩ k) * X2 m c (ix2 k ⟨j.val * 1408 + s.val, by omega⟩) :=
  Finset.sum_congr rfl fun k _ => congrArg₂ _ (blk_x r m c j i k) (blk_u s m c j i k)

/-- Every element of a result is a place of a block. -/
theorem places (y : S2176x5632.Idx) : ∃ (j i : Fin 4) (r : Fin 544) (s : Fin 1408),
    y = ix2 ⟨i.val * 544 + r.val, by omega⟩ ⟨j.val * 1408 + s.val, by omega⟩ := by
  obtain ⟨R, S, rfl⟩ : ∃ (R : Fin 2176) (S : Fin 5632), y = ix2 R S := ⟨y 0, y 1, eq_ix2 y⟩
  obtain ⟨i, r, rfl⟩ := Parts.split (a := 4) (b := 544) (by norm_num) R
  obtain ⟨j, s, rfl⟩ := Parts.split (a := 4) (b := 1408) (by norm_num) S
  exact ⟨j, i, r, s, rfl⟩

theorem value_g : (dats m 0 c).arrAt 3 cfg0.N = Cert.FfnUpRefIdeal.Read.val_main_v5 (F := Ideal) (X0 m c) (X1 m c) := by
  funext y
  obtain ⟨j, i, r, s, rfl⟩ := places y
  refine (final_g r s m c j i).trans ?_
  rw [out_g, ref_g, prod_g]

theorem value_u : (dats m 0 c).arrAt 4 cfg0.N = Cert.FfnUpRefIdeal.Read.val_main_v6 (F := Ideal) (X0 m c) (X2 m c) := by
  funext y
  obtain ⟨j, i, r, s, rfl⟩ := places y
  refine (final_u r s m c j i).trans ?_
  rw [out_u, ref_u, prod_u]

theorem value_a : (dats m 0 c).arrAt 5 cfg0.N = Cert.FfnUpRefIdeal.Read.val_main_v9 (F := Ideal) (X0 m c) (X1 m c) (X2 m c) := by
  funext y
  obtain ⟨j, i, r, s, rfl⟩ := places y
  refine (final_a r s m c j i).trans ?_
  rw [out_a, ref_a, prod_g, prod_u]

attribute [local instance] Cert.FfnUp.Gen.facts Cert.FfnUpIdeal.Gen.facts Cert.FfnUpRefIdeal.Gen.facts

theorem frame_p : Cert.quiescent_FfnUp := fun m ρ _ => Cert.FfnUp.Gen.frame m ρ

theorem frame_pi : Cert.quiescent_FfnUpIdeal := fun m ρ _ => Cert.FfnUpIdeal.Gen.frame m ρ

theorem frame_ri : Cert.quiescent_FfnUpRefIdeal := fun m ρ _ =>
  (θ_run Cert.FfnUpRefIdeal.defs _ _).mono (fun r h => ⟨fun c => (h c).2.2.2, sem_eq_zero_of_no_sems (by decide) r.2⟩)
    (Cert.FfnUpRefIdeal.Value.run (F := Ideal) m ρ)

theorem algebraic : Cert.algebraic_FfnUpIdeal_FfnUpRefIdeal := by
  intro m ρ m' ρ' _ hagree
  refine ⟨fun c => (dats m 0 c).arrAt 3 cfg0.N, fun c => (dats m 0 c).arrAt 4 cfg0.N, fun c => (dats m 0 c).arrAt 5 cfg0.N,
    run_blocks (F := Ideal) m ρ, ?_⟩
  refine (θ_run Cert.FfnUpRefIdeal.defs _ _).mono (fun _ h c => ?_) (Cert.FfnUpRefIdeal.Value.run (F := Ideal) m' ρ')
  obtain ⟨h0, h1, h2, h3⟩ := h c
  obtain ⟨e0, e1, e2⟩ := hagree c
  rw [Cert.FfnUpRefIdeal.Read.val_main_v5_eq, e0, e1] at h0
  rw [Cert.FfnUpRefIdeal.Read.val_main_v6_eq, e0, e2] at h1
  rw [Cert.FfnUpRefIdeal.Read.val_main_v9_eq, e0, e1, e2] at h2
  exact ⟨h0.trans (value_g m c).symm, h1.trans (value_u m c).symm, h2.trans (value_a m c).symm, h3⟩

end Ffn.Up
-- ==== Proof.Down.lean ====
/-
  The SwiGLU's second product: each grid point writes a block of the residual plus the whole product, so that the result
  is the plain expression. The weights come cut by rows into four parts, one for each chip.
-/
module

public import proofs.«01_k».proof.Defs
public import proofs.«01_k».proof.Proof.Parts
public import proofs.«01_k».proof.Proof.Gen.FfnDown.Frame
public import proofs.«01_k».proof.Proof.Gen.FfnDownIdeal.Value
public import proofs.«01_k».proof.Proof.Gen.FfnDownRefIdeal.Read
public import Idealize.ShloMosaic.Lib.Pointwise
public import Idealize.ShloMosaic.Lib.Pipeline.ValueKit
public import Idealize.ShloMosaic.Lib.Quiescent

@[expose] public section

set_option maxRecDepth 16384

noncomputable section

namespace Ffn.Down

open Idealize.ShloMosaic Cert.FfnDownIdeal Cert.FfnDownIdeal.Gen Cert.FfnDownIdeal.Value Idealize.ShloMosaic.TcCoe Idealize.SL.Sem

theorem out_apply (x0 : Vec Ideal S1088x5632 .bf16) (x1 : Vec Ideal S4x1408x512 .bf16) (x2 : Vec Ideal S1088x512 .f32)
    (r : Fin 1088) (s : Fin 512) : out0_3 x0 x1 x2 (ix2 r s)
      = x2 (ix2 r s) + ∑ k : Fin 5632, x0 (ix2 r k) * x1 (ix3 ⟨k.val / 1408, by omega⟩ ⟨k.val % 1408, by omega⟩ s) := by
  unfold out0_3
  rw [View.canon_cons_unit_lit, View.ld_unit_lit, View.ld_unit_lit, View.ld_unit_lit] <;> try decide
  pointwise [k0_pay1]

theorem ref_apply (x0 : Vec Ideal S2176x5632 .bf16) (x1 : Vec Ideal S5632x2048 .bf16) (x2 : Vec Ideal S2176x2048 .f32)
    (r : Fin 2176) (s : Fin 2048) : Cert.FfnDownRefIdeal.Read.val_main_v3 x0 x1 x2 (ix2 r s)
      = x2 (ix2 r s) + ∑ k : Fin 5632, x0 (ix2 r k) * x1 (ix2 k s) := by
  pointwise [Cert.FfnDownRefIdeal.Read.val_main_v3, Cert.FfnDownRefIdeal.Read.val_main_v2, Cert.FfnDownRefIdeal.Read.val_main_v1, Cert.FfnDownRefIdeal.Read.val_main_v0]

variable (m : (ℓ : Loc nD τ sig) → Buf (Elt Ideal) ℓ) (c : Dev nD)

/-- The grid point of a tile of rows and a tile of columns. -/
def pt (i : Fin 2) (j : Fin 4) : Fin cfg0.N := ⟨i.val * 4 + j.val, by show _ < 8; omega⟩

/-- Which block of each array a grid point reads. -/
theorem idx : ∀ i j, win0_0.index (pt i j) = ![i.val, 0] ∧ win0_1.index (pt i j) = ![0, 0, j.val]
    ∧ win0_2.index (pt i j) = ![i.val, j.val] ∧ win0_3.index (pt i j) = ![i.val, j.val] := by decide +kernel

theorem final (i : Fin 2) (j : Fin 4) (r : Fin 1088) (s : Fin 512) :
    (dats m 0 c).arrAt 3 cfg0.N (ix2 ⟨i.val * 1088 + r.val, by omega⟩ ⟨j.val * 512 + s.val, by omega⟩)
      = out0_3 (iblk m c 0 (pt i j)) (iblk m c 1 (pt i j)) (iblk m c 2 (pt i j)) (ix2 r s) := by
  have h := congrFun (blocks3 m c (pt i j) (flush0_3 _)) (ix2 r s)
  rw [flushed3] at h
  refine Eq.trans ?_ h
  blk_point [idx i j]

abbrev X0 : Buf (Elt Ideal) ((c : Thread nD τ).loc main_arg0) := m ((c : Thread nD τ).loc main_arg0)
abbrev X1 : Buf (Elt Ideal) ((c : Thread nD τ).loc main_arg1) := m ((c : Thread nD τ).loc main_arg1)
abbrev X2 : Buf (Elt Ideal) ((c : Thread nD τ).loc main_arg2) := m ((c : Thread nD τ).loc main_arg2)

theorem blk_a (i : Fin 2) (j : Fin 4) (r : Fin 1088) (k : Fin 5632) :
    iblk m c 0 (pt i j) (ix2 r k) = X0 m c (ix2 ⟨i.val * 1088 + r.val, by omega⟩ k) := by
  blk_point [iblk, V, idx i j]

theorem blk_w (i : Fin 2) (j : Fin 4) (p : Fin 4) (k : Fin 1408) (s : Fin 512) :
    iblk m c 1 (pt i j) (ix3 p k s) = X1 m c (ix2 ⟨p.val * 1408 + k.val, by omega⟩ ⟨j.val * 512 + s.val, by omega⟩) := by
  blk_point [iblk, V, idx i j]

theorem blk_h (i : Fin 2) (j : Fin 4) (r : Fin 1088) (s : Fin 512) :
    iblk m c 2 (pt i j) (ix2 r s) = X2 m c (ix2 ⟨i.val * 1088 + r.val, by omega⟩ ⟨j.val * 512 + s.val, by omega⟩) := by
  blk_point [iblk, V, idx i j]

/-- The result is the reference's. -/
theorem value : (dats m 0 c).arrAt 3 cfg0.N = Cert.FfnDownRefIdeal.Read.val_main_v3 (F := Ideal) (X0 m c) (X1 m c) (X2 m c) := by
  funext y
  obtain ⟨R, S, rfl⟩ : ∃ (R : Fin 2176) (S : Fin 2048), y = ix2 R S := ⟨y 0, y 1, eq_ix2 y⟩
  obtain ⟨i, r, rfl⟩ := Parts.split (a := 2) (b := 1088) (by norm_num) R
  obtain ⟨j, s, rfl⟩ := Parts.split (a := 4) (b := 512) (by norm_num) S
  refine (final m c i j r s).trans ?_
  rw [out_apply, ref_apply, blk_h]
  refine congrArg _ (Finset.sum_congr rfl fun k _ => ?_)
  rw [blk_a, blk_w]
  refine congrArg₂ _ rfl (congrArg _ (congrArg₂ _ (Fin.ext ?_) rfl))
  exact Nat.div_add_mod' k.val 1408

attribute [local instance] Cert.FfnDown.Gen.facts Cert.FfnDownIdeal.Gen.facts Cert.FfnDownRefIdeal.Gen.facts

theorem frame_p : Cert.quiescent_FfnDown := fun m ρ _ => Cert.FfnDown.Gen.frame m ρ

theorem frame_pi : Cert.quiescent_FfnDownIdeal := fun m ρ _ => Cert.FfnDownIdeal.Gen.frame m ρ

theorem frame_ri : Cert.quiescent_FfnDownRefIdeal := fun m ρ _ =>
  (θ_run Cert.FfnDownRefIdeal.defs _ _).mono (fun r h => ⟨fun c => (h c).2, sem_eq_zero_of_no_sems (by decide) r.2⟩)
    (Cert.FfnDownRefIdeal.Value.run (F := Ideal) m ρ)

theorem algebraic : Cert.algebraic_FfnDownIdeal_FfnDownRefIdeal := by
  intro m ρ m' ρ' _ hagree
  refine ⟨fun c => (dats m 0 c).arrAt 3 cfg0.N, run_blocks (F := Ideal) m ρ, ?_⟩
  refine (θ_run Cert.FfnDownRefIdeal.defs _ _).mono (fun _ h c => ?_) (Cert.FfnDownRefIdeal.Value.run (F := Ideal) m' ρ')
  obtain ⟨h0, h1⟩ := h c
  obtain ⟨e0, e1, e2⟩ := hagree c
  rw [Cert.FfnDownRefIdeal.Read.val_main_v3_eq, e0, e1, e2] at h0
  exact ⟨h0.trans (value m c).symm, h1⟩

end Ffn.Down
-- ==== Proof.Act.lean ====
/-
  The SwiGLU's backward pointwise part: each grid point computes a block of the cotangent of the gated product, from a
  block of rows of the result's cotangent and a block of weights, and from it the cotangents of the two factors. The
  weights come cut by rows into four parts, one for each chip.
-/
module

public import proofs.«01_k».proof.Defs
public import proofs.«01_k».proof.Proof.Parts
public import proofs.«01_k».proof.Proof.Reals
public import proofs.«01_k».proof.Proof.Gen.FfnAct.Frame
public import proofs.«01_k».proof.Proof.Gen.FfnActIdeal.Value
public import proofs.«01_k».proof.Proof.Gen.FfnActRefIdeal.Read
public import Idealize.ShloMosaic.Lib.Pointwise
public import Idealize.ShloMosaic.Lib.Pipeline.ValueKit
public import Idealize.ShloMosaic.Lib.Quiescent

@[expose] public section

set_option maxRecDepth 16384

noncomputable section

namespace Ffn.Act

open Reals Idealize.ShloMosaic Cert.FfnActIdeal Cert.FfnActIdeal.Gen Cert.FfnActIdeal.Value Idealize.ShloMosaic.TcCoe Idealize.SL.Sem

/-! ### The derivative of silu -/

/-- The two forms of the derivative of silu agree, with `d` and `u` real and `g` any. -/
theorem silu_deriv {d u : EReal} (hd : IsReal d) (hu : IsReal u) (g : EReal) :
    d * u * (Ideal.logistic g * (1 + g * (1 - Ideal.logistic g)))
      = d * u * Ideal.logistic g + g * (d * u) * (Ideal.logistic g * (1 - Ideal.logistic g)) := by
  obtain ⟨e, he⟩ := hd.mul hu
  rw [he]
  induction g using EReal.rec with
  | bot => simp
  | top =>
    have h : (1 : EReal) - 1 = 0 := by rw [← EReal.coe_one, ← EReal.coe_sub, sub_self, EReal.coe_zero]
    simp [h]
  | coe g =>
    rw [Ideal.logistic_coe, ← EReal.coe_one]
    norm_cast
    ring

section
variable (x0 : Vec Ideal S544x2048 .bf16) (x1 : Vec Ideal S1x1408x2048 .bf16) (x2 x3 : Vec Ideal S544x1408 .bf16)
  (r : Fin 544) (s : Fin 1408)

/-- A product of the block of rows and a block of weights. -/
abbrev prod : EReal := ∑ k : Fin 2048, x0 (ix2 r k) * x1 (ix3 0 s k)

theorem out_g : out0_4 x0 x1 x2 x3 (ix2 r s) = prod x0 x1 r s * x3 (ix2 r s)
    * (Ideal.logistic (x2 (ix2 r s)) * (1 + x2 (ix2 r s) * (1 - Ideal.logistic (x2 (ix2 r s))))) := by
  unfold out0_4
  rw [View.canon_cons_unit_lit, View.ld_unit_lit, View.ld_unit_lit, View.ld_unit_lit, View.ld_unit_lit] <;> try decide
  pointwise [k0_pay4, k0_pay3, k0_pay2, k0_pay1]

theorem out_u : out0_5 x0 x1 x2 x3 (ix2 r s) = prod x0 x1 r s * (x2 (ix2 r s) * Ideal.logistic (x2 (ix2 r s))) := by
  unfold out0_5
  rw [View.canon_cons_unit_lit, View.ld_unit_lit, View.ld_unit_lit, View.ld_unit_lit] <;> try decide
  pointwise [k0_pay5, k0_pay3, k0_pay2, k0_pay1]

end

section
open Cert.FfnActRefIdeal.Read
variable (y0 : Vec Ideal S2176x2048 .bf16) (y1 : Vec Ideal S5632x2048 .bf16) (y2 y3 : Vec Ideal S2176x5632 .bf16)
  (R : Fin 2176) (S : Fin 5632)

/-- The gated product's cotangent. -/
abbrev refProd : EReal := ∑ k : Fin 2048, y0 (ix2 R k) * y1 (ix2 S k)

theorem ref_g : val_main_v11 y0 y1 y2 y3 (ix2 R S) = refProd y0 y1 R S * y3 (ix2 R S) * Ideal.logistic (y2 (ix2 R S))
    + y2 (ix2 R S) * (refProd y0 y1 R S * y3 (ix2 R S)) * (Ideal.logistic (y2 (ix2 R S)) * (1 - Ideal.logistic (y2 (ix2 R S)))) := by
  pointwise [val_main_v11, val_main_v10, val_main_call1_v2, val_main_call1_v1, val_main_call1_v0, val_main_v9, val_main_v7, val_main_v6,
    val_main_v4, val_main_v2_1, val_main_call0_v7, val_main_call0_v6, val_main_call0_cst_1, val_main_v2_2, val_main_call0_v4,
    val_main_call0_cst_0, val_main_call0_v3, val_main_call0_v2, val_main_call0_cst, val_main_call0_v1, val_main_call0_v0, val_main_v1,
    val_main_v0]
  rfl

theorem ref_u : val_main_v12 y0 y1 y2 (ix2 R S)
    = y2 (ix2 R S) * Ideal.logistic (y2 (ix2 R S)) * refProd y0 y1 R S := by
  pointwise [val_main_v12, val_main_v8, val_main_v7, val_main_v6,
    val_main_v4, val_main_v2_0, val_main_v2_2, val_main_call0_v4,
    val_main_call0_cst_0, val_main_call0_v3, val_main_call0_v2, val_main_call0_cst, val_main_call0_v1, val_main_call0_v0, val_main_v0]
  rfl

end

/-! ### The precondition -/

theorem pre_facts : Cert.Pre_finite.Facts :=
  ⟨by decide, by decide, by decide, by decide, by decide, by decide, by decide⟩

theorem pre_spec [Cert.Pre_finite.Facts] {y0 : FVec Ideal S2176x2048 .bf16} {y1 : FVec Ideal S5632x2048 .bf16}
    {y2 y3 : FVec Ideal S2176x5632 .bf16} (h : Cert.Pre_finite.fn (F := Ideal) y0 y1 y2 y3 ix0 = 1#1) :
    (∀ i, IsReal (y0 i)) ∧ (∀ i, IsReal (y1 i)) ∧ ∀ i, IsReal (y3 i) := by
  unfold Cert.Pre_finite.fn at h
  obtain ⟨h1, h3⟩ := andi_one h
  obtain ⟨h0, h1⟩ := andi_one h1
  exact ⟨real_of_all .bf16 y0 _ (fun i => ofBits_infinity_bf16) _ _ _ _ h0,
    real_of_all .bf16 y1 _ (fun i => ofBits_infinity_bf16) _ _ _ _ h1,
    real_of_all .bf16 y3 _ (fun i => ofBits_infinity_bf16) _ _ _ _ h3⟩

/-! ### The results -/

variable (m : (ℓ : Loc nD τ sig) → Buf (Elt Ideal) ℓ) (c : Dev nD)

/-- The grid point of a tile of columns and a tile of rows. -/
def pt (j i : Fin 4) : Fin cfg0.N := ⟨j.val * 4 + i.val, by show _ < 16; omega⟩

/-- Which block of each array a grid point reads or writes. -/
theorem idx : ∀ j i, win0_0.index (pt j i) = ![i.val, 0] ∧ win0_1.index (pt j i) = ![j.val, 0, 0]
    ∧ win0_2.index (pt j i) = ![i.val, j.val] ∧ win0_3.index (pt j i) = ![i.val, j.val]
    ∧ win0_4.index (pt j i) = ![i.val, j.val] ∧ win0_5.index (pt j i) = ![i.val, j.val] := by decide +kernel

abbrev X0 : Vec Ideal S2176x2048 .bf16 := m ((c : Thread nD τ).loc main_arg0)
abbrev X1 : Vec Ideal S5632x2048 .bf16 := m ((c : Thread nD τ).loc main_arg1)
abbrev X2 : Vec Ideal S2176x5632 .bf16 := m ((c : Thread nD τ).loc main_arg2)
abbrev X3 : Vec Ideal S2176x5632 .bf16 := m ((c : Thread nD τ).loc main_arg3)

variable (r : Fin 544) (s : Fin 1408) (j i : Fin 4) (k : Fin 2048)

theorem blk_d : iblk m c 0 (pt j i) (ix2 r k) = X0 m c (ix2 ⟨i.val * 544 + r.val, by omega⟩ k) := by
  blk_point [iblk, V, idx j i]

theorem blk_w : iblk m c 1 (pt j i) (ix3 0 s k) = X1 m c (ix2 ⟨j.val * 1408 + s.val, by omega⟩ k) := by
  blk_point [iblk, V, idx j i]

theorem blk_g : iblk m c 2 (pt j i) (ix2 r s) = X2 m c (ix2 ⟨i.val * 544 + r.val, by omega⟩ ⟨j.val * 1408 + s.val, by omega⟩) := by
  blk_point [iblk, V, idx j i]

theorem blk_u : iblk m c 3 (pt j i) (ix2 r s) = X3 m c (ix2 ⟨i.val * 544 + r.val, by omega⟩ ⟨j.val * 1408 + s.val, by omega⟩) := by
  blk_point [iblk, V, idx j i]

theorem final_g : (dats m 0 c).arrAt 4 cfg0.N (ix2 ⟨i.val * 544 + r.val, by omega⟩ ⟨j.val * 1408 + s.val, by omega⟩)
    = out0_4 (iblk m c 0 (pt j i)) (iblk m c 1 (pt j i)) (iblk m c 2 (pt j i)) (iblk m c 3 (pt j i)) (ix2 r s) := by
  have h := congrFun (blocks4 m c (pt j i) (flush0_4 _)) (ix2 r s)
  rw [flushed4] at h
  refine Eq.trans ?_ h
  blk_point [idx j i]

theorem final_u : (dats m 0 c).arrAt 5 cfg0.N (ix2 ⟨i.val * 544 + r.val, by omega⟩ ⟨j.val * 1408 + s.val, by omega⟩)
    = out0_5 (iblk m c 0 (pt j i)) (iblk m c 1 (pt j i)) (iblk m c 2 (pt j i)) (iblk m c 3 (pt j i)) (ix2 r s) := by
  have h := congrFun (blocks5 m c (pt j i) (flush0_5 _)) (ix2 r s)
  rw [flushed5] at h
  refine Eq.trans ?_ h
  blk_point [idx j i]

/-- The product of blocks is the product of the arrays there. -/
theorem prod_eq : prod (iblk m c 0 (pt j i)) (iblk m c 1 (pt j i)) r s
    = refProd (X0 m c) (X1 m c) ⟨i.val * 544 + r.val, by omega⟩ ⟨j.val * 1408 + s.val, by omega⟩ :=
  Finset.sum_congr rfl fun k _ => congrArg₂ _ (blk_d m c r j i k) (blk_w m c s j i k)

/-- Every element of a result is a place of a block. -/
theorem places (y : S2176x5632.Idx) : ∃ (j i : Fin 4) (r : Fin 544) (s : Fin 1408),
    y = ix2 ⟨i.val * 544 + r.val, by omega⟩ ⟨j.val * 1408 + s.val, by omega⟩ := by
  obtain ⟨R, S, rfl⟩ : ∃ (R : Fin 2176) (S : Fin 5632), y = ix2 R S := ⟨y 0, y 1, eq_ix2 y⟩
  obtain ⟨i, r, rfl⟩ := Parts.split (a := 4) (b := 544) (by norm_num) R
  obtain ⟨j, s, rfl⟩ := Parts.split (a := 4) (b := 1408) (by norm_num) S
  exact ⟨j, i, r, s, rfl⟩

theorem value_g (h0 : ∀ i, IsReal (X0 m c i)) (h1 : ∀ i, IsReal (X1 m c i)) (h3 : ∀ i, IsReal (X3 m c i)) :
    (dats m 0 c).arrAt 4 cfg0.N = Cert.FfnActRefIdeal.Read.val_main_v11 (F := Ideal) (X0 m c) (X1 m c) (X2 m c) (X3 m c) := by
  funext y
  obtain ⟨j, i, r, s, rfl⟩ := places y
  refine (final_g m c r s j i).trans ?_
  rw [out_g, ref_g, prod_eq, blk_g, blk_u]
  exact silu_deriv (IsReal.sum _ _ fun k _ => (h0 _).mul (h1 _)) (h3 _) _

theorem value_u : (dats m 0 c).arrAt 5 cfg0.N = Cert.FfnActRefIdeal.Read.val_main_v12 (F := Ideal) (X0 m c) (X1 m c) (X2 m c) := by
  funext y
  obtain ⟨j, i, r, s, rfl⟩ := places y
  refine (final_u m c r s j i).trans ?_
  rw [out_u, ref_u, prod_eq, blk_g, mul_comm]

/-! ### The claims -/

attribute [local instance] Cert.FfnAct.Gen.facts Cert.FfnActIdeal.Gen.facts Cert.FfnActRefIdeal.Gen.facts

theorem frame_p : Cert.quiescent_FfnAct := fun m ρ _ => Cert.FfnAct.Gen.frame m ρ

theorem frame_pi : Cert.quiescent_FfnActIdeal := fun m ρ _ => Cert.FfnActIdeal.Gen.frame m ρ

theorem frame_pi_pre : Cert.quiescent_FfnActIdeal_pre_finite (hPre_finite := pre_facts) := fun m ρ _ => Cert.FfnActIdeal.Gen.frame m ρ

theorem frame_ri : Cert.quiescent_FfnActRefIdeal := fun m ρ _ =>
  (θ_run Cert.FfnActRefIdeal.defs _ _).mono (fun r h => ⟨fun c => (h c).2.2, sem_eq_zero_of_no_sems (by decide) r.2⟩)
    (Cert.FfnActRefIdeal.Value.run (F := Ideal) m ρ)

theorem frame_ri_pre : Cert.quiescent_FfnActRefIdeal_pre_finite (hPre_finite := pre_facts) := fun m ρ _ => frame_ri m ρ trivial

theorem algebraic : Cert.algebraic_FfnActIdeal_FfnActRefIdeal_pre_finite (hPre_finite := pre_facts) := by
  intro m ρ m' ρ' hpre hagree
  refine ⟨fun c => (dats m 0 c).arrAt 4 cfg0.N, fun c => (dats m 0 c).arrAt 5 cfg0.N, run_blocks (F := Ideal) m ρ, ?_⟩
  refine (θ_run Cert.FfnActRefIdeal.defs _ _).mono (fun _ h c => ?_) (Cert.FfnActRefIdeal.Value.run (F := Ideal) m' ρ')
  obtain ⟨h0, h1, h2⟩ := h c
  obtain ⟨e0, e1, e2, e3⟩ := hagree c
  letI := pre_facts
  obtain ⟨r0, r1, r3⟩ := pre_spec (h := congrFun (hpre c) ix0)
  rw [Cert.FfnActRefIdeal.Read.val_main_v11_eq, e0, e1, e2, e3] at h0
  rw [Cert.FfnActRefIdeal.Read.val_main_v12_eq, e0, e1, e2] at h1
  exact ⟨h0.trans (value_g m c r0 r1 r3).symm, h1.trans (value_u m c).symm, h2⟩

end Ffn.Act
-- ==== Proof.In.lean ====
/-
  The gradient at the SwiGLU's input: a block of the result is the sum, over four parts of the hidden columns, of the
  two products of a block of gradients and a block of weights. The grid's last axis runs over the four parts, and the
  sum so far is kept between its points. The weights come cut by columns into four parts, one for each chip.
-/
module

public import proofs.«01_k».proof.Defs
public import proofs.«01_k».proof.Proof.Parts
public import proofs.«01_k».proof.Proof.Gen.FfnIn.Frame
public import proofs.«01_k».proof.Proof.Gen.FfnInIdeal.Value
public import proofs.«01_k».proof.Proof.Gen.FfnInRefIdeal.Read
public import Idealize.ShloMosaic.Lib.Pointwise
public import Idealize.ShloMosaic.Lib.Pipeline.ValueKit
public import Idealize.ShloMosaic.Lib.Quiescent

@[expose] public section

set_option maxRecDepth 16384

noncomputable section

namespace Ffn.In

open Idealize.ShloMosaic Cert.FfnInIdeal Cert.FfnInIdeal.Gen Cert.FfnInIdeal.Value Idealize.ShloMosaic.TcCoe Idealize.SL.Sem

section
variable (x0 x1 : Vec Ideal S1088x1408 .bf16) (x2 x3 : Vec Ideal S1x1024x1408 .bf16) (r : Fin 1088) (s : Fin 1024)

/-- The product over a part of the columns. -/
abbrev prod : EReal := ∑ k : Fin 1408, x0 (ix2 r k) * x2 (ix3 0 s k)

/-- The two products of a part of the columns. -/
abbrev part : EReal := prod x0 x2 r s + prod x1 x3 r s

theorem pay : k0_pay1 x0 x2 x1 x3 (ix2 r s) = part x0 x1 x2 x3 r s := by
  pointwise [k0_pay1]

open Cert.FfnInRefIdeal.Read in
theorem ref_apply (y0 y1 : Vec Ideal S2176x5632 .bf16) (y2 y3 : Vec Ideal S2048x5632 .bf16) (R : Fin 2176) (S : Fin 2048) :
    val_main_v9 y0 y1 y2 y3 (ix2 R S)
      = (∑ k : Fin 5632, y1 (ix2 R k) * y3 (ix2 S k)) + ∑ k : Fin 5632, y0 (ix2 R k) * y2 (ix2 S k) := by
  pointwise [val_main_v9, val_main_v8, val_main_v7, val_main_v6, val_main_v5, val_main_v3, val_main_v1]

end

variable (m : (ℓ : Loc nD τ sig) → Buf (Elt Ideal) ℓ) (c : Dev nD)

/-- The grid point of a tile of rows, a tile of columns and a part of the sum. -/
def pt (i j : Fin 2) (k : Fin 4) : Fin cfg0.N := ⟨4 * (2 * i.val + j.val) + k.val, by show _ < 16; omega⟩

/-- Which block of each array a grid point reads. -/
theorem idx : ∀ i j k, win0_0.index (pt i j k) = ![i.val, k.val] ∧ win0_1.index (pt i j k) = ![i.val, k.val]
    ∧ win0_2.index (pt i j k) = ![k.val, j.val, 0] ∧ win0_3.index (pt i j k) = ![k.val, j.val, 0] := by decide +kernel

abbrev X0 : Vec Ideal S2176x5632 .bf16 := m ((c : Thread nD τ).loc main_arg0)
abbrev X1 : Vec Ideal S2176x5632 .bf16 := m ((c : Thread nD τ).loc main_arg1)
abbrev X2 : Vec Ideal S2048x5632 .bf16 := m ((c : Thread nD τ).loc main_arg2)
abbrev X3 : Vec Ideal S2048x5632 .bf16 := m ((c : Thread nD τ).loc main_arg3)

variable (i j : Fin 2) (r : Fin 1088) (s : Fin 1024) (k : Fin 4) (l : Fin 1408)

theorem blk_0 : iblk m c 0 (pt i j k) (ix2 r l)
    = X0 m c (ix2 ⟨i.val * 1088 + r.val, by omega⟩ ⟨k.val * 1408 + l.val, by omega⟩) := by
  blk_point [iblk, V, idx i j k]

theorem blk_1 : iblk m c 1 (pt i j k) (ix2 r l)
    = X1 m c (ix2 ⟨i.val * 1088 + r.val, by omega⟩ ⟨k.val * 1408 + l.val, by omega⟩) := by
  blk_point [iblk, V, idx i j k]

theorem blk_2 : iblk m c 2 (pt i j k) (ix3 0 s l)
    = X2 m c (ix2 ⟨j.val * 1024 + s.val, by omega⟩ ⟨k.val * 1408 + l.val, by omega⟩) := by
  blk_point [iblk, V, idx i j k]

theorem blk_3 : iblk m c 3 (pt i j k) (ix3 0 s l)
    = X3 m c (ix2 ⟨j.val * 1024 + s.val, by omega⟩ ⟨k.val * 1408 + l.val, by omega⟩) := by
  blk_point [iblk, V, idx i j k]

/-- What a grid point adds. -/
abbrev at_ (t : Fin cfg0.N) : EReal := part (iblk m c 0 t) (iblk m c 1 t) (iblk m c 2 t) (iblk m c 3 t) r s

theorem first (t : Fin cfg0.N) (h : t.val % 4 = 0) : (outsAt0 m c t.val t.isLt).2 (ix2 r s) = at_ m c r s t := by
  rw [outsAt0_A m c t h (by omega) (by omega)]
  frame_out
  pointwise [k0_pay2]
  exact pay _ _ _ _ r s

theorem next (t : Fin cfg0.N) (h : 1 ≤ t.val % 4 ∧ t.val % 4 ≤ 2) :
    (outsAt0 m c t.val t.isLt).2 (ix2 r s)
      = (outsAt0 m c (t.val - 1) (Nat.lt_of_le_of_lt (Nat.sub_le _ _) t.isLt)).2 (ix2 r s) + at_ m c r s t := by
  rw [outsAt0_B m c t (by omega) h (by omega)]
  frame_out
  pointwise [k0_pay3]
  rw [pay]
  exact congrArg (· + _) (congrFun (Memref.IsWhole.read_unread _ _) _)

theorem last (t : Fin cfg0.N) (h : t.val % 4 = 3) :
    (outsAt0 m c t.val t.isLt).1 (ix2 r s)
      = (outsAt0 m c (t.val - 1) (Nat.lt_of_le_of_lt (Nat.sub_le _ _) t.isLt)).2 (ix2 r s) + at_ m c r s t := by
  rw [outsAt0_C m c t (by omega) (by omega) h]
  frame_out
  pointwise [k0_pay4]
  rw [pay]
  exact congrArg (· + _) (congrFun (Memref.IsWhole.read_unread _ _) _)

/-- The four parts of a block's sum. -/
theorem four : (outsAt0 m c (pt i j 3).val (pt i j 3).isLt).1 (ix2 r s) = ∑ k : Fin 4, at_ m c r s (pt i j k) := by
  rw [last m c r s (pt i j 3) (by show (4 * _ + 3) % 4 = 3; omega), Fin.sum_univ_four]
  have h2 := next m c r s (pt i j 2) (by show 1 ≤ (4 * _ + 2) % 4 ∧ (4 * _ + 2) % 4 ≤ 2; omega)
  have h1 := next m c r s (pt i j 1) (by show 1 ≤ (4 * _ + 1) % 4 ∧ (4 * _ + 1) % 4 ≤ 2; omega)
  have h0 := first m c r s (pt i j 0) (by show (4 * _ + 0) % 4 = 0; omega)
  refine congrArg (· + at_ m c r s (pt i j 3)) (h2.trans (congrArg (· + at_ m c r s (pt i j 2)) (h1.trans
    (congrArg (· + at_ m c r s (pt i j 1)) h0))))

theorem outs_congr {n n' : ℕ} (e : n = n') (hn : n < cfg0.N) (hn' : n' < cfg0.N) : outsAt0 m c n hn = outsAt0 m c n' hn' := by
  subst e; rfl

theorem final : G4 m c (ix2 ⟨i.val * 1088 + r.val, by omega⟩ ⟨j.val * 1024 + s.val, by omega⟩)
    = (outsAt0 m c (pt i j 3).val (pt i j 3).isLt).1 (ix2 r s) := by
  have e : pt4Of (ix2 ⟨i.val * 1088 + r.val, by omega⟩ ⟨j.val * 1024 + s.val, by omega⟩) = (pt i j 3).val := by
    show 4 * (2 * ((i.val * 1088 + r.val) / 1088 - 0) + 1 * ((j.val * 1024 + s.val) / 1024 - 0)) + 3 = 4 * (2 * i.val + j.val) + 3
    omega
  have el : loc4Of (ix2 ⟨i.val * 1088 + r.val, by omega⟩ ⟨j.val * 1024 + s.val, by omega⟩) = ix2 r s := by
    funext a
    fin_cases a
    · exact Fin.ext (show (i.val * 1088 + r.val) % 1088 = r.val by omega)
    · exact Fin.ext (show (j.val * 1024 + s.val) % 1024 = s.val by omega)
  unfold G4
  rw [dif_pos (e.symm ▸ (pt i j 3).isLt), ← outsAt0_sweep m c _ (e.symm ▸ (pt i j 3).isLt), el]
  exact congrFun (congrArg Prod.fst (outs_congr m c e _ _)) _

theorem sum_0 : prod (iblk m c 0 (pt i j k)) (iblk m c 2 (pt i j k)) r s
    = ∑ l : Fin 1408, X0 m c (ix2 ⟨i.val * 1088 + r.val, by omega⟩ ⟨k.val * 1408 + l.val, by omega⟩)
          * X2 m c (ix2 ⟨j.val * 1024 + s.val, by omega⟩ ⟨k.val * 1408 + l.val, by omega⟩) :=
  Finset.sum_congr rfl fun l _ => congrArg₂ _ (blk_0 m c i j r k l) (blk_2 m c i j s k l)

theorem sum_1 : prod (iblk m c 1 (pt i j k)) (iblk m c 3 (pt i j k)) r s
    = ∑ l : Fin 1408, X1 m c (ix2 ⟨i.val * 1088 + r.val, by omega⟩ ⟨k.val * 1408 + l.val, by omega⟩)
          * X3 m c (ix2 ⟨j.val * 1024 + s.val, by omega⟩ ⟨k.val * 1408 + l.val, by omega⟩) :=
  Finset.sum_congr rfl fun l _ => congrArg₂ _ (blk_1 m c i j r k l) (blk_3 m c i j s k l)

/-- What a grid point adds, from the arrays. -/
theorem at_eq : at_ m c r s (pt i j k)
    = (∑ l : Fin 1408, X0 m c (ix2 ⟨i.val * 1088 + r.val, by omega⟩ ⟨k.val * 1408 + l.val, by omega⟩)
          * X2 m c (ix2 ⟨j.val * 1024 + s.val, by omega⟩ ⟨k.val * 1408 + l.val, by omega⟩))
      + ∑ l : Fin 1408, X1 m c (ix2 ⟨i.val * 1088 + r.val, by omega⟩ ⟨k.val * 1408 + l.val, by omega⟩)
          * X3 m c (ix2 ⟨j.val * 1024 + s.val, by omega⟩ ⟨k.val * 1408 + l.val, by omega⟩) := by
  rw [← sum_0, ← sum_1]

theorem value : G4 m c = Cert.FfnInRefIdeal.Read.val_main_v9 (F := Ideal) (X0 m c) (X1 m c) (X2 m c) (X3 m c) := by
  funext y
  obtain ⟨R, S, rfl⟩ : ∃ (R : Fin 2176) (S : Fin 2048), y = ix2 R S := ⟨y 0, y 1, eq_ix2 y⟩
  obtain ⟨i, r, rfl⟩ := Parts.split (a := 2) (b := 1088) (by norm_num) R
  obtain ⟨j, s, rfl⟩ := Parts.split (a := 2) (b := 1024) (by norm_num) S
  refine (final m c i j r s).trans ((four m c i j r s).trans ?_)
  rw [ref_apply, add_comm, Parts.sum (show 4 * 1408 = 5632 by norm_num), Parts.sum (show 4 * 1408 = 5632 by norm_num),
    ← Finset.sum_add_distrib]
  exact Finset.sum_congr rfl fun k _ => at_eq m c i j r s k

attribute [local instance] Cert.FfnIn.Gen.facts Cert.FfnInIdeal.Gen.facts Cert.FfnInRefIdeal.Gen.facts

theorem frame_p : Cert.quiescent_FfnIn := fun m ρ _ => Cert.FfnIn.Gen.frame m ρ

theorem frame_pi : Cert.quiescent_FfnInIdeal := fun m ρ _ => Cert.FfnInIdeal.Gen.frame m ρ

theorem frame_ri : Cert.quiescent_FfnInRefIdeal := fun m ρ _ =>
  (θ_run Cert.FfnInRefIdeal.defs _ _).mono (fun r h => ⟨fun c => (h c).2, sem_eq_zero_of_no_sems (by decide) r.2⟩)
    (Cert.FfnInRefIdeal.Value.run (F := Ideal) m ρ)

theorem algebraic : Cert.algebraic_FfnInIdeal_FfnInRefIdeal := by
  intro m ρ m' ρ' _ hagree
  refine ⟨fun c => G4 m c, run (F := Ideal) m ρ, ?_⟩
  refine (θ_run Cert.FfnInRefIdeal.defs _ _).mono (fun _ h c => ?_) (Cert.FfnInRefIdeal.Value.run (F := Ideal) m' ρ')
  obtain ⟨h0, h1⟩ := h c
  obtain ⟨e0, e1, e2, e3⟩ := hagree c
  rw [Cert.FfnInRefIdeal.Read.val_main_v9_eq, e0, e1, e2, e3] at h0
  exact ⟨h0.trans (value m c).symm, h1⟩

end Ffn.In
-- ==== Proof.DhnHost.lean ====
/-
  What the host gives the call for the gradient at the layer's input: the columns of the projections cut into six
  pieces, four of them stacked, and the gates padded with zeros.
-/
module

public import proofs.«01_k».proof.Proof.Gen.DhnIdeal.Frame
public import Idealize.ShloMosaic.Lib.Pointwise
public import Idealize.ShloMosaic.Lib.Pipeline.ValueKit
public import Idealize.ShloMosaic.Lib.StableHlo.RunRead
public import Idealize.ShloMosaic.Lib.Quiescent

@[expose] public section

set_option maxRecDepth 16384

noncomputable section

namespace Dhn.Host

open Idealize.ShloMosaic Cert.DhnIdeal Cert.DhnIdeal.Gen Idealize.ShloMosaic.TcCoe Idealize.SL.Sem

set_option maxHeartbeats 1000000

variable (m : (ℓ : Loc nD τ sig) → Buf (Elt Ideal) ℓ) (c : Dev nD)

abbrev X0 : Vec Ideal S2176x6152 .bf16 := m ((c : Thread nD τ).loc main_arg0)
abbrev X1 : Vec Ideal S2048x6152 .bf16 := m ((c : Thread nD τ).loc main_arg1)

/-- Four pieces stacked, piece by piece. -/
theorem stack {T s : Shape} {x : Fin T.rank} {α : Type} {a b p q a' b' p' q' : s.Idx → α} (h) (h')
    (ha : a = a') (hb : b = b') (hp : p = p') (hq : q = q') :
    concatenate T x [⟨s, a⟩, ⟨s, b⟩, ⟨s, p⟩, ⟨s, q⟩] h = concatenate T x [⟨s, a'⟩, ⟨s, b'⟩, ⟨s, p'⟩, ⟨s, q'⟩] h' := by
  subst ha hb hp hq; rfl

theorem V_q : V m c main_v17 = extractStridedSlice S2176x2048 ![0, 0] (X0 m c) slices_S2176x6152_S2176x2048_0_0 := by
  unfold V
  simp only [hostOps0, hostOps0_1, hostOps0_2, hostOps0_3, hostOps0_4, List.flatten_cons, List.flatten_nil, List.append_nil,
    List.cons_append, List.nil_append]
  after_reads_simp

theorem V_wq : V m c main_v24 = transpose S2048x2048 [1, 0]
    (extractStridedSlice S2048x2048 ![0, 0] (X1 m c) slices_S2048x6152_S2048x2048_0_0) transposes_S2048x2048_S2048x2048_1_0 := by
  unfold V
  simp only [hostOps0, hostOps0_1, hostOps0_2, hostOps0_3, hostOps0_4, List.flatten_cons, List.flatten_nil, List.append_nil,
    List.cons_append, List.nil_append]
  after_reads_simp

theorem V_g : V m c main_v13 = pad S2176x128 ![0, 0] ![0, 120] ![0, 0]
    (extractStridedSlice S2176x8 ![0, 3072] (X0 m c) slices_S2176x6152_S2176x8_0_3072) (sitofp (F := Ideal) .bf16 (constantI S_ 32 0#32))
    pads_S2176x8_S2176x128_000_01200 h_S_ := by
  unfold V
  simp only [hostOps0, hostOps0_1, hostOps0_2, hostOps0_3, hostOps0_4, List.flatten_cons, List.flatten_nil, List.append_nil,
    List.cons_append, List.nil_append]
  after_reads_simp
  rfl

theorem V_wg : V m c main_v16 = pad S128x2048 ![0, 0] ![120, 0] ![0, 0]
    (transpose S8x2048 [1, 0] (extractStridedSlice S2048x8 ![0, 3072] (X1 m c) slices_S2048x6152_S2048x8_0_3072)
      transposes_S2048x8_S8x2048_1_0) (sitofp (F := Ideal) .bf16 (constantI S_ 32 0#32)) pads_S8x2048_S128x2048_01200_000 h_S_ := by
  unfold V
  simp only [hostOps0, hostOps0_1, hostOps0_2, hostOps0_3, hostOps0_4, List.flatten_cons, List.flatten_nil, List.append_nil,
    List.cons_append, List.nil_append]
  after_reads_simp
  rfl

/-- A piece of the columns, as one of the stacked. -/
abbrev piece (o : ℕ) (h : S2176x6152.Slices ![0, o] S2176x1024) : Vec Ideal S1x2176x1024 .bf16 :=
  broadcastInDim S1x2176x1024 ![1, 2] bcast_S2176x1024_S1x2176x1024_1_2 (extractStridedSlice S2176x1024 ![0, o] (X0 m c) h)

theorem V_e : V m c main_v22 = concatenate S4x2176x1024 0
    [⟨S1x2176x1024, piece m c 2048 slices_S2176x6152_S2176x1024_0_2048⟩,
     ⟨S1x2176x1024, piece m c 3080 slices_S2176x6152_S2176x1024_0_3080⟩,
     ⟨S1x2176x1024, piece m c 4104 slices_S2176x6152_S2176x1024_0_4104⟩,
     ⟨S1x2176x1024, piece m c 5128 slices_S2176x6152_S2176x1024_0_5128⟩]
    concatenates_S1x2176x1024_S1x2176x1024_S1x2176x1024_S1x2176x1024_S4x2176x1024_d0 := by
  unfold V
  simp only [hostOps0, hostOps0_1, hostOps0_2, hostOps0_3, hostOps0_4, List.flatten_cons, List.flatten_nil, List.append_nil,
    List.cons_append, List.nil_append]
  after_reads_simp
  refine stack _ _ ?_ ?_ ?_ ?_
  · show StableHlo.upto _ _ _ (Proc.tc.devRef main_v18) = _
    after_reads_simp
  · show StableHlo.upto _ _ _ (Proc.tc.devRef main_v19) = _
    after_reads_simp
  · show StableHlo.upto _ _ _ (Proc.tc.devRef main_v20) = _
    after_reads_simp
  · show StableHlo.upto _ _ _ (Proc.tc.devRef main_v21) = _
    after_reads_simp

/-- A piece of the weights, as one of the stacked. -/
abbrev wpiece (o : ℕ) (h : S2048x6152.Slices ![0, o] S2048x1024) : Vec Ideal S1x1024x2048 .bf16 :=
  broadcastInDim S1x1024x2048 ![1, 2] bcast_S1024x2048_S1x1024x2048_1_2 (transpose S1024x2048 [1, 0]
    (extractStridedSlice S2048x1024 ![0, o] (X1 m c) h) transposes_S2048x1024_S1024x2048_1_0)

theorem V_we : V m c main_v29 = concatenate S4x1024x2048 0
    [⟨S1x1024x2048, wpiece m c 2048 slices_S2048x6152_S2048x1024_0_2048⟩,
     ⟨S1x1024x2048, wpiece m c 3080 slices_S2048x6152_S2048x1024_0_3080⟩,
     ⟨S1x1024x2048, wpiece m c 4104 slices_S2048x6152_S2048x1024_0_4104⟩,
     ⟨S1x1024x2048, wpiece m c 5128 slices_S2048x6152_S2048x1024_0_5128⟩]
    concatenates_S1x1024x2048_S1x1024x2048_S1x1024x2048_S1x1024x2048_S4x1024x2048_d0 := by
  unfold V
  simp only [hostOps0, hostOps0_1, hostOps0_2, hostOps0_3, hostOps0_4, List.flatten_cons, List.flatten_nil, List.append_nil,
    List.cons_append, List.nil_append]
  after_reads_simp
  refine stack _ _ ?_ ?_ ?_ ?_
  · show StableHlo.upto _ _ _ (Proc.tc.devRef main_v25) = _
    after_reads_simp
  · show StableHlo.upto _ _ _ (Proc.tc.devRef main_v26) = _
    after_reads_simp
  · show StableHlo.upto _ _ _ (Proc.tc.devRef main_v27) = _
    after_reads_simp
  · show StableHlo.upto _ _ _ (Proc.tc.devRef main_v28) = _
    after_reads_simp

theorem q_at (R : Fin 2176) (k : Fin 2048) : V m c main_v17 (ix2 R k) = X0 m c (ix2 R ⟨k.val, by omega⟩) := by
  rw [V_q]
  pointwise

theorem wq_at (k S : Fin 2048) : V m c main_v24 (ix2 k S) = X1 m c (ix2 S ⟨k.val, by omega⟩) := by
  rw [V_wq]
  pointwise

/-- Where a stacked part starts among the columns. -/
abbrev Starts (p : Fin 4) (o : ℕ) : Prop := p.val = 0 ∧ o = 2048 ∨ p.val = 1 ∧ o = 3080 ∨ p.val = 2 ∧ o = 4104 ∨ p.val = 3 ∧ o = 5128

theorem e_at (p : Fin 4) (o : ℕ) (ho : Starts p o) (R : Fin 2176) (k : Fin 1024) :
    V m c main_v22 (ix3 p R k) = X0 m c (ix2 R ⟨o + k.val, by omega⟩) := by
  rw [V_e]
  pointwise
  rcases ho with ⟨hp, rfl⟩ | ⟨hp, rfl⟩ | ⟨hp, rfl⟩ | ⟨hp, rfl⟩ <;> split_ifs <;> first | rfl | omega

theorem we_at (p : Fin 4) (o : ℕ) (ho : Starts p o) (k : Fin 1024) (S : Fin 2048) :
    V m c main_v29 (ix3 p k S) = X1 m c (ix2 S ⟨o + k.val, by omega⟩) := by
  rw [V_we]
  pointwise
  rcases ho with ⟨hp, rfl⟩ | ⟨hp, rfl⟩ | ⟨hp, rfl⟩ | ⟨hp, rfl⟩ <;> split_ifs <;> first | rfl | omega

theorem g_at (R : Fin 2176) (k : Fin 8) : V m c main_v13 (ix2 R ⟨k.val, by omega⟩) = X0 m c (ix2 R ⟨3072 + k.val, by omega⟩) := by
  rw [V_g]
  pointwise

theorem wg_at (k : Fin 8) (S : Fin 2048) : V m c main_v16 (ix2 ⟨k.val, by omega⟩ S) = X1 m c (ix2 S ⟨3072 + k.val, by omega⟩) := by
  rw [V_wg]
  pointwise

theorem g_zero (R : Fin 2176) (k : Fin 128) (hk : 8 ≤ k.val) : V m c main_v13 (ix2 R k) = (0 : EReal) := by
  rw [V_g]
  pointwise
  rw [dif_neg (by omega)]
  show ((((0#32 : BitVec 32).toInt : ℝ)) : EReal) = 0
  simp

end Dhn.Host
-- ==== Proof.Dhn.lean ====
/-
  The gradient at the layer's input: each grid point writes a block of one product over all the columns of the
  projections, taken in six pieces: q, k and v; the output gate and the three gated units, stacked; and the gates,
  padded with zeros.
-/
module

public import proofs.«01_k».proof.Defs
public import proofs.«01_k».proof.Proof.Parts
public import proofs.«01_k».proof.Proof.DhnHost
public import proofs.«01_k».proof.Proof.Gen.Dhn.Frame
public import proofs.«01_k».proof.Proof.Gen.DhnIdeal.Value
public import proofs.«01_k».proof.Proof.Gen.DhnRefIdeal.Read
public import Idealize.ShloMosaic.Lib.Pointwise
public import Idealize.ShloMosaic.Lib.Pipeline.ValueKit
public import Idealize.ShloMosaic.Lib.Quiescent

@[expose] public section

set_option maxRecDepth 16384

noncomputable section

namespace Dhn

open Idealize.ShloMosaic Cert.DhnIdeal Cert.DhnIdeal.Gen Cert.DhnIdeal.Value Idealize.ShloMosaic.TcCoe Idealize.SL.Sem

section
variable {M : Type*} [AddCommMonoid M]

/-- A sum over a stretch of indices, cut in two. -/
theorem cut {N o o' a b n : ℕ} (hn : a + b = n) (ho : o + a = o') (h : o + n ≤ N) (f : Fin N → M) :
    ∑ k : Fin n, f ⟨o + k.val, by omega⟩ = ∑ k : Fin a, f ⟨o + k.val, by omega⟩ + ∑ k : Fin b, f ⟨o' + k.val, by omega⟩ := by
  subst hn ho
  rw [Fin.sum_univ_add]
  refine congrArg (_ + ·) (Finset.sum_congr rfl fun k _ => congrArg f (Fin.ext ?_))
  show o + (a + k.val) = o + a + k.val
  omega

/-- The six pieces of the columns. -/
theorem six (f : Fin 6152 → M) :
    ∑ k, f k = (∑ k : Fin 2048, f ⟨k.val, by omega⟩) + (∑ k : Fin 1024, f ⟨2048 + k.val, by omega⟩)
        + (∑ k : Fin 1024, f ⟨3080 + k.val, by omega⟩) + (∑ k : Fin 1024, f ⟨4104 + k.val, by omega⟩)
        + (∑ k : Fin 1024, f ⟨5128 + k.val, by omega⟩) + ∑ k : Fin 8, f ⟨3072 + k.val, by omega⟩ := by
  have h0 : ∀ n (h : 0 + n ≤ 6152), ∑ k : Fin n, f ⟨k.val, by omega⟩ = ∑ k : Fin n, f ⟨0 + k.val, by omega⟩ :=
    fun n h => Finset.sum_congr rfl fun k _ => congrArg f (Fin.ext (Nat.zero_add _).symm)
  have h1 := cut (o := 0) (o' := 2048) (a := 2048) (b := 4104) (n := 6152) (by norm_num) (by norm_num) (by norm_num) f
  have h2 := cut (o := 2048) (o' := 3072) (a := 1024) (b := 3080) (n := 4104) (by norm_num) (by norm_num) (by norm_num) f
  have h3 := cut (o := 3072) (o' := 3080) (a := 8) (b := 3072) (n := 3080) (by norm_num) (by norm_num) (by norm_num) f
  have h4 := cut (o := 3080) (o' := 4104) (a := 1024) (b := 2048) (n := 3072) (by norm_num) (by norm_num) (by norm_num) f
  have h5 := cut (o := 4104) (o' := 5128) (a := 1024) (b := 1024) (n := 2048) (by norm_num) (by norm_num) (by norm_num) f
  refine (h0 6152 (by norm_num)).trans ?_
  rw [h1, h2, h3, h4, h5, h0 2048 (by norm_num)]
  abel

/-- A sum whose terms from the ninth on are zero. -/
theorem eight (f : Fin 128 → M) (h : ∀ k : Fin 128, 8 ≤ k.val → f k = 0) : ∑ k, f k = ∑ k : Fin 8, f ⟨k.val, by omega⟩ := by
  have e : ∑ k : Fin 120, f (Fin.natAdd 8 k) = 0 :=
    Finset.sum_eq_zero fun k _ => h (Fin.natAdd 8 k) (show 8 ≤ 8 + k.val by omega)
  rw [show (∑ k, f k) = ∑ k : Fin (8 + 120), f k from rfl, Fin.sum_univ_add, e, add_zero]
  rfl

end

section
variable (x0 : Vec Ideal S1088x2048 .bf16) (x1 : Vec Ideal S4x1088x1024 .bf16) (x2 : Vec Ideal S1088x128 .bf16)
  (x3 : Vec Ideal S2048x512 .bf16) (x4 : Vec Ideal S4x1024x512 .bf16) (x5 : Vec Ideal S128x512 .bf16) (r : Fin 1088) (s : Fin 512)

/-- The product over the columns of q, k and v. -/
abbrev prodQ : EReal := ∑ k : Fin 2048, x0 (ix2 r k) * x3 (ix2 k s)

/-- The product over the columns of a stacked part. -/
abbrev prodE (p : Fin 4) : EReal := ∑ k : Fin 1024, x1 (ix3 p r k) * x4 (ix3 p k s)

/-- The product over the columns of the gates. -/
abbrev prodG : EReal := ∑ k : Fin 128, x2 (ix2 r k) * x5 (ix2 k s)

theorem out_apply : out0_6 x0 x1 x2 x3 x4 x5 (ix2 r s)
    = prodQ x0 x3 r s + prodE x1 x4 r s 0 + prodE x1 x4 r s 1 + prodE x1 x4 r s 2 + prodE x1 x4 r s 3 + prodG x2 x5 r s := by
  unfold out0_6
  rw [View.canon_cons_unit_lit, View.ld_unit_lit (X := x0), View.ld_unit_lit (X := x3), View.ld_unit_lit (X := x2), View.ld_unit_lit (X := x5)] <;> try decide
  pointwise [k0_pay1, k0_pay2, k0_pay3]

open Cert.DhnRefIdeal.Read in
theorem ref_apply (y0 : Vec Ideal S2176x6152 .bf16) (y1 : Vec Ideal S2048x6152 .bf16) (R : Fin 2176) (S : Fin 2048) :
    val_main_v4 y0 y1 (ix2 R S) = ∑ k : Fin 6152, y0 (ix2 R k) * y1 (ix2 S k) := by
  pointwise [val_main_v4, val_main_v3, val_main_v1]

end

open Host

variable (m : (ℓ : Loc nD τ sig) → Buf (Elt Ideal) ℓ) (c : Dev nD)

/-- The grid point of a tile of rows and a tile of columns. -/
def pt (i : Fin 2) (j : Fin 4) : Fin cfg0.N := ⟨i.val * 4 + j.val, by show _ < 8; omega⟩

/-- Which block of each array a grid point reads. -/
theorem idx : ∀ i j, win0_0.index (pt i j) = ![i.val, 0] ∧ win0_1.index (pt i j) = ![0, i.val, 0]
    ∧ win0_2.index (pt i j) = ![i.val, 0] ∧ win0_3.index (pt i j) = ![0, j.val] ∧ win0_4.index (pt i j) = ![0, 0, j.val]
    ∧ win0_5.index (pt i j) = ![0, j.val] ∧ win0_6.index (pt i j) = ![i.val, j.val] := by decide +kernel

variable (i : Fin 2) (j : Fin 4) (r : Fin 1088) (s : Fin 512)

theorem final :
    (dats m 0 c).arrAt 6 cfg0.N (ix2 ⟨i.val * 1088 + r.val, by omega⟩ ⟨j.val * 512 + s.val, by omega⟩)
      = out0_6 (iblk m c 0 (pt i j)) (iblk m c 1 (pt i j)) (iblk m c 2 (pt i j)) (iblk m c 3 (pt i j)) (iblk m c 4 (pt i j))
          (iblk m c 5 (pt i j)) (ix2 r s) := by
  have h := congrFun (blocks6 m c (pt i j) (flush0_6 _)) (ix2 r s)
  rw [flushed6] at h
  refine Eq.trans ?_ h
  blk_point [idx i j]

theorem blk_0 (k : Fin 2048) : iblk m c 0 (pt i j) (ix2 r k) = V m c main_v17 (ix2 ⟨i.val * 1088 + r.val, by omega⟩ k) := by
  blk_point [iblk, idx i j]

theorem blk_1 (k : Fin 1024) (p : Fin 4) : iblk m c 1 (pt i j) (ix3 p r k) = V m c main_v22 (ix3 p ⟨i.val * 1088 + r.val, by omega⟩ k) := by
  blk_point [iblk, idx i j]

theorem blk_2 (k : Fin 128) : iblk m c 2 (pt i j) (ix2 r k) = V m c main_v13 (ix2 ⟨i.val * 1088 + r.val, by omega⟩ k) := by
  blk_point [iblk, idx i j]

theorem blk_3 (k : Fin 2048) : iblk m c 3 (pt i j) (ix2 k s) = V m c main_v24 (ix2 k ⟨j.val * 512 + s.val, by omega⟩) := by
  blk_point [iblk, idx i j]

theorem blk_4 (k : Fin 1024) (p : Fin 4) : iblk m c 4 (pt i j) (ix3 p k s) = V m c main_v29 (ix3 p k ⟨j.val * 512 + s.val, by omega⟩) := by
  blk_point [iblk, idx i j]

theorem blk_5 (k : Fin 128) : iblk m c 5 (pt i j) (ix2 k s) = V m c main_v16 (ix2 k ⟨j.val * 512 + s.val, by omega⟩) := by
  blk_point [iblk, idx i j]

/-- The term of the reference's sum. -/
abbrev term (k : Fin 6152) : EReal :=
  X0 m c (ix2 ⟨i.val * 1088 + r.val, by omega⟩ k) * X1 m c (ix2 ⟨j.val * 512 + s.val, by omega⟩ k)

theorem sumQ : prodQ (iblk m c 0 (pt i j)) (iblk m c 3 (pt i j)) r s = ∑ k : Fin 2048, term m c i j r s ⟨k.val, by omega⟩ :=
  Finset.sum_congr rfl fun k _ => congrArg₂ (fun a b : EReal => a * b) ((blk_0 m c i j r k).trans (q_at m c _ k))
    ((blk_3 m c i j s k).trans (wq_at m c k _))

theorem sumE (p : Fin 4) (o : ℕ) (ho : Starts p o) :
    prodE (iblk m c 1 (pt i j)) (iblk m c 4 (pt i j)) r s p
      = ∑ k : Fin 1024, term m c i j r s ⟨o + k.val, by rcases ho with h | h | h | h <;> omega⟩ :=
  Finset.sum_congr rfl fun k _ => congrArg₂ (fun a b : EReal => a * b) ((blk_1 m c i j r k p).trans (e_at m c p o ho _ k))
    ((blk_4 m c i j s k p).trans (we_at m c p o ho k _))

theorem sumG : prodG (iblk m c 2 (pt i j)) (iblk m c 5 (pt i j)) r s = ∑ k : Fin 8, term m c i j r s ⟨3072 + k.val, by omega⟩ := by
  refine (eight _ fun k hk => ?_).trans (Finset.sum_congr rfl fun k _ => congrArg₂ (fun a b : EReal => a * b)
    ((blk_2 m c i j r ⟨k.val, by omega⟩).trans (g_at m c _ k)) ((blk_5 m c i j s ⟨k.val, by omega⟩).trans (wg_at m c k _)))
  exact (congrArg₂ (fun a b : EReal => a * b) ((blk_2 m c i j r k).trans (g_zero m c _ k hk)) rfl).trans (zero_mul _)

/-- The result is the reference's. -/
theorem value : (dats m 0 c).arrAt 6 cfg0.N = Cert.DhnRefIdeal.Read.val_main_v4 (F := Ideal) (X0 m c) (X1 m c) := by
  funext y
  obtain ⟨R, S, rfl⟩ : ∃ (R : Fin 2176) (S : Fin 2048), y = ix2 R S := ⟨y 0, y 1, eq_ix2 y⟩
  obtain ⟨i, r, rfl⟩ := Parts.split (a := 2) (b := 1088) (by norm_num) R
  obtain ⟨j, s, rfl⟩ := Parts.split (a := 4) (b := 512) (by norm_num) S
  refine (final m c i j r s).trans ((out_apply _ _ _ _ _ _ r s).trans (Eq.trans ?_ (ref_apply _ _ ..).symm))
  rw [sumQ, sumE m c i j r s 0 2048 (by decide), sumE m c i j r s 1 3080 (by decide), sumE m c i j r s 2 4104 (by decide),
    sumE m c i j r s 3 5128 (by decide), sumG]
  exact (six (term m c i j r s)).symm

attribute [local instance] Cert.Dhn.Gen.facts Cert.DhnIdeal.Gen.facts Cert.DhnRefIdeal.Gen.facts

theorem frame_p : Cert.quiescent_Dhn := fun m ρ _ => Cert.Dhn.Gen.frame m ρ

theorem frame_pi : Cert.quiescent_DhnIdeal := fun m ρ _ => Cert.DhnIdeal.Gen.frame m ρ

theorem frame_ri : Cert.quiescent_DhnRefIdeal := fun m ρ _ =>
  (θ_run Cert.DhnRefIdeal.defs _ _).mono (fun r h => ⟨fun c => (h c).2, sem_eq_zero_of_no_sems (by decide) r.2⟩)
    (Cert.DhnRefIdeal.Value.run (F := Ideal) m ρ)

theorem algebraic : Cert.algebraic_DhnIdeal_DhnRefIdeal := by
  intro m ρ m' ρ' _ hagree
  refine ⟨fun c => (dats m 0 c).arrAt 6 cfg0.N, run_blocks (F := Ideal) m ρ, ?_⟩
  refine (θ_run Cert.DhnRefIdeal.defs _ _).mono (fun _ h c => ?_) (Cert.DhnRefIdeal.Value.run (F := Ideal) m' ρ')
  obtain ⟨h0, h1⟩ := h c
  obtain ⟨e0, e1⟩ := hagree c
  rw [Cert.DhnRefIdeal.Read.val_main_v4_eq, e0, e1] at h0
  exact ⟨h0.trans (value m c).symm, h1⟩

end Dhn
-- ==== Proof.DwQkv.lean ====
/-
  The gradient of the weights of q, k and v: each grid point writes a block of the product of two arrays, summed over
  their rows.
-/
module

public import proofs.«01_k».proof.Defs
public import proofs.«01_k».proof.Proof.Parts
public import proofs.«01_k».proof.Proof.Gen.DwQkv.Frame
public import proofs.«01_k».proof.Proof.Gen.DwQkvIdeal.Value
public import proofs.«01_k».proof.Proof.Gen.DwQkvRefIdeal.Read
public import Idealize.ShloMosaic.Lib.Pointwise
public import Idealize.ShloMosaic.Lib.Pipeline.ValueKit
public import Idealize.ShloMosaic.Lib.Quiescent

@[expose] public section

set_option maxRecDepth 16384

noncomputable section

namespace DwQkv

open Idealize.ShloMosaic Cert.DwQkvIdeal Cert.DwQkvIdeal.Gen Cert.DwQkvIdeal.Value Idealize.ShloMosaic.TcCoe Idealize.SL.Sem

theorem out_apply (x0 x1 : Vec Ideal S2176x1024 .bf16) (r s : Fin 1024) :
    out0_2 x0 x1 (ix2 r s) = ∑ k : Fin 2176, x0 (ix2 k r) * x1 (ix2 k s) := by
  unfold out0_2
  rw [View.canon_cons_unit_lit, View.ld_unit_lit, View.ld_unit_lit] <;> try decide
  pointwise [k0_pay1]

open Cert.DwQkvRefIdeal.Read in
theorem ref_apply (x0 x1 : Vec Ideal S2176x2048 .bf16) (r s : Fin 2048) :
    val_main_v8 x0 x1 (ix2 r s) = ∑ k : Fin 2176, x0 (ix2 k r) * x1 (ix2 k s) := by
  pointwise [val_main_v8, val_main_v7, val_main_v6, val_main_v5, val_main_v4, val_main_v1]

variable (m : (ℓ : Loc nD τ sig) → Buf (Elt Ideal) ℓ) (c : Dev nD)

/-- The grid point of a tile of rows and a tile of columns. -/
def pt (i j : Fin 2) : Fin cfg0.N := ⟨i.val * 2 + j.val, by show _ < 4; omega⟩

/-- Which block of each array a grid point reads. -/
theorem idx : ∀ i j, win0_0.index (pt i j) = ![0, i.val] ∧ win0_1.index (pt i j) = ![0, j.val]
    ∧ win0_2.index (pt i j) = ![i.val, j.val] := by decide +kernel

variable (i j : Fin 2)

theorem final (r s : Fin 1024) :
    (dats m 0 c).arrAt 2 cfg0.N (ix2 ⟨i.val * 1024 + r.val, by omega⟩ ⟨j.val * 1024 + s.val, by omega⟩)
      = out0_2 (iblk m c 0 (pt i j)) (iblk m c 1 (pt i j)) (ix2 r s) := by
  have h := congrFun (blocks2 m c (pt i j) (flush0_2 _)) (ix2 r s)
  rw [flushed2] at h
  refine Eq.trans ?_ h
  blk_point [idx i j]

abbrev X0 : Vec Ideal S2176x2048 .bf16 := m ((c : Thread nD τ).loc main_arg0)
abbrev X1 : Vec Ideal S2176x2048 .bf16 := m ((c : Thread nD τ).loc main_arg1)

theorem blk_0 (k : Fin 2176) (r : Fin 1024) : iblk m c 0 (pt i j) (ix2 k r) = X0 m c (ix2 k ⟨i.val * 1024 + r.val, by omega⟩) := by
  blk_point [iblk, V, idx i j]

theorem blk_1 (k : Fin 2176) (s : Fin 1024) : iblk m c 1 (pt i j) (ix2 k s) = X1 m c (ix2 k ⟨j.val * 1024 + s.val, by omega⟩) := by
  blk_point [iblk, V, idx i j]

/-- The result is the reference's. -/
theorem value : (dats m 0 c).arrAt 2 cfg0.N = Cert.DwQkvRefIdeal.Read.val_main_v8 (F := Ideal) (X0 m c) (X1 m c) := by
  funext y
  obtain ⟨R, S, rfl⟩ : ∃ (R : Fin 2048) (S : Fin 2048), y = ix2 R S := ⟨y 0, y 1, eq_ix2 y⟩
  obtain ⟨i, r, rfl⟩ := Parts.split (a := 2) (b := 1024) (by norm_num) R
  obtain ⟨j, s, rfl⟩ := Parts.split (a := 2) (b := 1024) (by norm_num) S
  refine (final m c i j r s).trans ((out_apply _ _ r s).trans (Eq.trans ?_ (ref_apply _ _ ..).symm))
  exact Finset.sum_congr rfl fun k _ => congrArg₂ _ (blk_0 m c i j k r) (blk_1 m c i j k s)

attribute [local instance] Cert.DwQkv.Gen.facts Cert.DwQkvIdeal.Gen.facts Cert.DwQkvRefIdeal.Gen.facts

theorem frame_p : Cert.quiescent_DwQkv := fun m ρ _ => Cert.DwQkv.Gen.frame m ρ

theorem frame_pi : Cert.quiescent_DwQkvIdeal := fun m ρ _ => Cert.DwQkvIdeal.Gen.frame m ρ

theorem frame_ri : Cert.quiescent_DwQkvRefIdeal := fun m ρ _ =>
  (θ_run Cert.DwQkvRefIdeal.defs _ _).mono (fun r h => ⟨fun c => (h c).2, sem_eq_zero_of_no_sems (by decide) r.2⟩)
    (Cert.DwQkvRefIdeal.Value.run (F := Ideal) m ρ)

theorem algebraic : Cert.algebraic_DwQkvIdeal_DwQkvRefIdeal := by
  intro m ρ m' ρ' _ hagree
  refine ⟨fun c => (dats m 0 c).arrAt 2 cfg0.N, run_blocks (F := Ideal) m ρ, ?_⟩
  refine (θ_run Cert.DwQkvRefIdeal.defs _ _).mono (fun _ h c => ?_) (Cert.DwQkvRefIdeal.Value.run (F := Ideal) m' ρ')
  obtain ⟨h0, h1⟩ := h c
  obtain ⟨e0, e1⟩ := hagree c
  rw [Cert.DwQkvRefIdeal.Read.val_main_v8_eq, e0, e1] at h0
  exact ⟨h0.trans (value m c).symm, h1⟩

end DwQkv
-- ==== Proof.DwE.lean ====
/-
  The gradient of the weights of the output gate and of the gated units: each grid point writes a block of the product
  of two arrays, summed over their rows. The first comes cut by columns into four parts.
-/
module

public import proofs.«01_k».proof.Defs
public import proofs.«01_k».proof.Proof.Parts
public import proofs.«01_k».proof.Proof.Gen.DwE.Frame
public import proofs.«01_k».proof.Proof.Gen.DwEIdeal.Value
public import proofs.«01_k».proof.Proof.Gen.DwERefIdeal.Read
public import Idealize.ShloMosaic.Lib.Pointwise
public import Idealize.ShloMosaic.Lib.Pipeline.ValueKit
public import Idealize.ShloMosaic.Lib.Quiescent

@[expose] public section

set_option maxRecDepth 16384

noncomputable section

namespace DwE

open Idealize.ShloMosaic Cert.DwEIdeal Cert.DwEIdeal.Gen Cert.DwEIdeal.Value Idealize.ShloMosaic.TcCoe Idealize.SL.Sem

theorem out_apply (x0 : Vec Ideal S1x2176x1024 .bf16) (x1 : Vec Ideal S2176x1024 .bf16) (r s : Fin 1024) :
    out0_2 x0 x1 (ix3 0 r s) = ∑ k : Fin 2176, x0 (ix3 0 k r) * x1 (ix2 k s) := by
  unfold out0_2
  rw [View.canon_cons_unit_lit, View.ld_unit_lit, View.ld_unit_lit] <;> try decide
  pointwise [k0_pay1]

open Cert.DwERefIdeal.Read in
theorem ref_apply (x0 : Vec Ideal S2176x4096 .bf16) (x1 : Vec Ideal S2176x2048 .bf16) (p : Fin 4) (r : Fin 1024) (s : Fin 2048) :
    val_main_v10 x0 x1 (ix3 p r s) = ∑ k : Fin 2176, x0 (ix2 k ⟨p.val * 1024 + r.val, by omega⟩) * x1 (ix2 k s) := by
  pointwise [val_main_v10, val_main_v9, val_main_v8, val_main_v7, val_main_v6, val_main_v5, val_main_v1]

variable (m : (ℓ : Loc nD τ sig) → Buf (Elt Ideal) ℓ) (c : Dev nD)

/-- The grid point of a part and a tile of columns. -/
def pt (p : Fin 4) (j : Fin 2) : Fin cfg0.N := ⟨p.val * 2 + j.val, by show _ < 8; omega⟩

/-- Which block of each array a grid point reads. -/
theorem idx : ∀ p j, win0_0.index (pt p j) = ![p.val, 0, 0] ∧ win0_1.index (pt p j) = ![0, j.val]
    ∧ win0_2.index (pt p j) = ![p.val, 0, j.val] := by decide +kernel

variable (p : Fin 4) (j : Fin 2)

theorem final (r s : Fin 1024) :
    (dats m 0 c).arrAt 2 cfg0.N (ix3 p r ⟨j.val * 1024 + s.val, by omega⟩)
      = out0_2 (iblk m c 0 (pt p j)) (iblk m c 1 (pt p j)) (ix3 0 r s) := by
  have h := congrFun (blocks2 m c (pt p j) (flush0_2 _)) (ix3 0 r s)
  rw [flushed2] at h
  refine Eq.trans ?_ h
  blk_point [idx p j]

abbrev X0 : Vec Ideal S2176x4096 .bf16 := m ((c : Thread nD τ).loc main_arg0)
abbrev X1 : Vec Ideal S2176x2048 .bf16 := m ((c : Thread nD τ).loc main_arg1)

theorem blk_0 (k : Fin 2176) (r : Fin 1024) : iblk m c 0 (pt p j) (ix3 0 k r) = X0 m c (ix2 k ⟨p.val * 1024 + r.val, by omega⟩) := by
  blk_point [iblk, V, idx p j]

theorem blk_1 (k : Fin 2176) (s : Fin 1024) : iblk m c 1 (pt p j) (ix2 k s) = X1 m c (ix2 k ⟨j.val * 1024 + s.val, by omega⟩) := by
  blk_point [iblk, V, idx p j]

/-- The result is the reference's. -/
theorem value : (dats m 0 c).arrAt 2 cfg0.N = Cert.DwERefIdeal.Read.val_main_v10 (F := Ideal) (X0 m c) (X1 m c) := by
  funext y
  obtain ⟨p, r, S, rfl⟩ : ∃ (p : Fin 4) (r : Fin 1024) (S : Fin 2048), y = ix3 p r S := ⟨y 0, y 1, y 2, eq_ix3 y⟩
  obtain ⟨j, s, rfl⟩ := Parts.split (a := 2) (b := 1024) (by norm_num) S
  refine (final m c p j r s).trans ((out_apply _ _ r s).trans (Eq.trans ?_ (ref_apply _ _ ..).symm))
  exact Finset.sum_congr rfl fun k _ => congrArg₂ _ (blk_0 m c p j k r) (blk_1 m c p j k s)

attribute [local instance] Cert.DwE.Gen.facts Cert.DwEIdeal.Gen.facts Cert.DwERefIdeal.Gen.facts

theorem frame_p : Cert.quiescent_DwE := fun m ρ _ => Cert.DwE.Gen.frame m ρ

theorem frame_pi : Cert.quiescent_DwEIdeal := fun m ρ _ => Cert.DwEIdeal.Gen.frame m ρ

theorem frame_ri : Cert.quiescent_DwERefIdeal := fun m ρ _ =>
  (θ_run Cert.DwERefIdeal.defs _ _).mono (fun r h => ⟨fun c => (h c).2, sem_eq_zero_of_no_sems (by decide) r.2⟩)
    (Cert.DwERefIdeal.Value.run (F := Ideal) m ρ)

theorem algebraic : Cert.algebraic_DwEIdeal_DwERefIdeal := by
  intro m ρ m' ρ' _ hagree
  refine ⟨fun c => (dats m 0 c).arrAt 2 cfg0.N, run_blocks (F := Ideal) m ρ, ?_⟩
  refine (θ_run Cert.DwERefIdeal.defs _ _).mono (fun _ h c => ?_) (Cert.DwERefIdeal.Value.run (F := Ideal) m' ρ')
  obtain ⟨h0, h1⟩ := h c
  obtain ⟨e0, e1⟩ := hagree c
  rw [Cert.DwERefIdeal.Read.val_main_v10_eq, e0, e1] at h0
  exact ⟨h0.trans (value m c).symm, h1⟩

end DwE
-- ==== Proof.DwOut.lean ====
/-
  The gradient of the output projection's weights: each grid point writes a block of the product of two arrays, summed
  over their rows. The first comes cut by columns into halves.
-/
module

public import proofs.«01_k».proof.Defs
public import proofs.«01_k».proof.Proof.Parts
public import proofs.«01_k».proof.Proof.Gen.DwOut.Frame
public import proofs.«01_k».proof.Proof.Gen.DwOutIdeal.Value
public import proofs.«01_k».proof.Proof.Gen.DwOutRefIdeal.Read
public import Idealize.ShloMosaic.Lib.Pointwise
public import Idealize.ShloMosaic.Lib.Pipeline.ValueKit
public import Idealize.ShloMosaic.Lib.Quiescent

@[expose] public section

set_option maxRecDepth 16384

noncomputable section

namespace DwOut

open Idealize.ShloMosaic Cert.DwOutIdeal Cert.DwOutIdeal.Gen Cert.DwOutIdeal.Value Idealize.ShloMosaic.TcCoe Idealize.SL.Sem

theorem out_apply (x0 : Vec Ideal S1x2176x1024 .bf16) (x1 : Vec Ideal S2176x1024 .bf16) (r s : Fin 1024) :
    out0_2 x0 x1 (ix2 r s) = ∑ k : Fin 2176, x0 (ix3 0 k r) * x1 (ix2 k s) := by
  unfold out0_2
  rw [View.canon_cons_unit_lit, View.ld_unit_lit, View.ld_unit_lit] <;> try decide
  pointwise [k0_pay1]

open Cert.DwOutRefIdeal.Read in
theorem ref_apply (x0 x1 : Vec Ideal S2176x2048 .bf16) (r s : Fin 2048) :
    val_main_v6 x0 x1 (ix2 r s) = ∑ k : Fin 2176, x1 (ix2 k s) * x0 (ix2 k r) := by
  pointwise [val_main_v6, val_main_v5, val_main_v4, val_main_v3, val_main_v1]

variable (m : (ℓ : Loc nD τ sig) → Buf (Elt Ideal) ℓ) (c : Dev nD)

/-- The grid point of a tile of rows and a tile of columns. -/
def pt (i j : Fin 2) : Fin cfg0.N := ⟨i.val * 2 + j.val, by show _ < 4; omega⟩

/-- Which block of each array a grid point reads. -/
theorem idx : ∀ i j, win0_0.index (pt i j) = ![i.val, 0, 0] ∧ win0_1.index (pt i j) = ![0, j.val]
    ∧ win0_2.index (pt i j) = ![i.val, j.val] := by decide +kernel

variable (i j : Fin 2)

theorem final (r s : Fin 1024) :
    (dats m 0 c).arrAt 2 cfg0.N (ix2 ⟨i.val * 1024 + r.val, by omega⟩ ⟨j.val * 1024 + s.val, by omega⟩)
      = out0_2 (iblk m c 0 (pt i j)) (iblk m c 1 (pt i j)) (ix2 r s) := by
  have h := congrFun (blocks2 m c (pt i j) (flush0_2 _)) (ix2 r s)
  rw [flushed2] at h
  refine Eq.trans ?_ h
  blk_point [idx i j]

abbrev X0 : Vec Ideal S2176x2048 .bf16 := m ((c : Thread nD τ).loc main_arg0)
abbrev X1 : Vec Ideal S2176x2048 .bf16 := m ((c : Thread nD τ).loc main_arg1)

theorem blk_0 (k : Fin 2176) (r : Fin 1024) : iblk m c 0 (pt i j) (ix3 0 k r) = X0 m c (ix2 k ⟨i.val * 1024 + r.val, by omega⟩) := by
  blk_point [iblk, V, idx i j]

theorem blk_1 (k : Fin 2176) (s : Fin 1024) : iblk m c 1 (pt i j) (ix2 k s) = X1 m c (ix2 k ⟨j.val * 1024 + s.val, by omega⟩) := by
  blk_point [iblk, V, idx i j]

/-- The result is the reference's. -/
theorem value : (dats m 0 c).arrAt 2 cfg0.N = Cert.DwOutRefIdeal.Read.val_main_v6 (F := Ideal) (X0 m c) (X1 m c) := by
  funext y
  obtain ⟨R, S, rfl⟩ : ∃ (R : Fin 2048) (S : Fin 2048), y = ix2 R S := ⟨y 0, y 1, eq_ix2 y⟩
  obtain ⟨i, r, rfl⟩ := Parts.split (a := 2) (b := 1024) (by norm_num) R
  obtain ⟨j, s, rfl⟩ := Parts.split (a := 2) (b := 1024) (by norm_num) S
  refine (final m c i j r s).trans ((out_apply _ _ r s).trans (Eq.trans ?_ (ref_apply _ _ ..).symm))
  exact Finset.sum_congr rfl fun k _ => (congrArg₂ _ (blk_0 m c i j k r) (blk_1 m c i j k s)).trans (mul_comm (G := EReal) _ _)

attribute [local instance] Cert.DwOut.Gen.facts Cert.DwOutIdeal.Gen.facts Cert.DwOutRefIdeal.Gen.facts

theorem frame_p : Cert.quiescent_DwOut := fun m ρ _ => Cert.DwOut.Gen.frame m ρ

theorem frame_pi : Cert.quiescent_DwOutIdeal := fun m ρ _ => Cert.DwOutIdeal.Gen.frame m ρ

theorem frame_ri : Cert.quiescent_DwOutRefIdeal := fun m ρ _ =>
  (θ_run Cert.DwOutRefIdeal.defs _ _).mono (fun r h => ⟨fun c => (h c).2, sem_eq_zero_of_no_sems (by decide) r.2⟩)
    (Cert.DwOutRefIdeal.Value.run (F := Ideal) m ρ)

theorem algebraic : Cert.algebraic_DwOutIdeal_DwOutRefIdeal := by
  intro m ρ m' ρ' _ hagree
  refine ⟨fun c => (dats m 0 c).arrAt 2 cfg0.N, run_blocks (F := Ideal) m ρ, ?_⟩
  refine (θ_run Cert.DwOutRefIdeal.defs _ _).mono (fun _ h c => ?_) (Cert.DwOutRefIdeal.Value.run (F := Ideal) m' ρ')
  obtain ⟨h0, h1⟩ := h c
  obtain ⟨e0, e1⟩ := hagree c
  rw [Cert.DwOutRefIdeal.Read.val_main_v6_eq, e0, e1] at h0
  exact ⟨h0.trans (value m c).symm, h1⟩

end DwOut
-- ==== Proof.Dmix.lean ====
/-
  The gradient at the mixer's output: each grid point writes a block of the product of the incoming gradient and the
  output projection's weights, both summed over their columns.
-/
module

public import proofs.«01_k».proof.Defs
public import proofs.«01_k».proof.Proof.Parts
public import proofs.«01_k».proof.Proof.Gen.Dmix.Frame
public import proofs.«01_k».proof.Proof.Gen.DmixIdeal.Value
public import proofs.«01_k».proof.Proof.Gen.DmixRefIdeal.Read
public import Idealize.ShloMosaic.Lib.Pointwise
public import Idealize.ShloMosaic.Lib.Pipeline.ValueKit
public import Idealize.ShloMosaic.Lib.Quiescent

@[expose] public section

set_option maxRecDepth 16384

noncomputable section

namespace Dmix

open Idealize.ShloMosaic Cert.DmixIdeal Cert.DmixIdeal.Gen Cert.DmixIdeal.Value Idealize.ShloMosaic.TcCoe Idealize.SL.Sem

theorem out_apply (x0 : Vec Ideal S1088x2048 .bf16) (x1 : Vec Ideal S1024x2048 .bf16) (r : Fin 1088) (s : Fin 1024) :
    out0_2 x0 x1 (ix2 r s) = ∑ k : Fin 2048, x0 (ix2 r k) * x1 (ix2 s k) := by
  unfold out0_2
  rw [View.canon_cons_unit_lit, View.ld_unit_lit, View.ld_unit_lit] <;> try decide
  pointwise [k0_pay1]

open Cert.DmixRefIdeal.Read in
theorem ref_apply (x0 : Vec Ideal S2176x2048 .bf16) (x1 : Vec Ideal S2048x2048 .bf16) (r : Fin 2176) (s : Fin 2048) :
    val_main_v4 x0 x1 (ix2 r s) = ∑ k : Fin 2048, x0 (ix2 r k) * x1 (ix2 s k) := by
  pointwise [val_main_v4, val_main_v3, val_main_v1]

variable (m : (ℓ : Loc nD τ sig) → Buf (Elt Ideal) ℓ) (c : Dev nD)

/-- The grid point of a tile of rows and a tile of columns. -/
def pt (i j : Fin 2) : Fin cfg0.N := ⟨i.val * 2 + j.val, by show _ < 4; omega⟩

/-- Which block of each array a grid point reads. -/
theorem idx : ∀ i j, win0_0.index (pt i j) = ![i.val, 0] ∧ win0_1.index (pt i j) = ![j.val, 0]
    ∧ win0_2.index (pt i j) = ![i.val, j.val] := by decide +kernel

variable (i j : Fin 2)

theorem final (r : Fin 1088) (s : Fin 1024) :
    (dats m 0 c).arrAt 2 cfg0.N (ix2 ⟨i.val * 1088 + r.val, by omega⟩ ⟨j.val * 1024 + s.val, by omega⟩)
      = out0_2 (iblk m c 0 (pt i j)) (iblk m c 1 (pt i j)) (ix2 r s) := by
  have h := congrFun (blocks2 m c (pt i j) (flush0_2 _)) (ix2 r s)
  rw [flushed2] at h
  refine Eq.trans ?_ h
  blk_point [idx i j]

abbrev X0 : Vec Ideal S2176x2048 .bf16 := m ((c : Thread nD τ).loc main_arg0)
abbrev X1 : Vec Ideal S2048x2048 .bf16 := m ((c : Thread nD τ).loc main_arg1)

theorem blk_0 (r : Fin 1088) (k : Fin 2048) : iblk m c 0 (pt i j) (ix2 r k) = X0 m c (ix2 ⟨i.val * 1088 + r.val, by omega⟩ k) := by
  blk_point [iblk, V, idx i j]

theorem blk_1 (s : Fin 1024) (k : Fin 2048) : iblk m c 1 (pt i j) (ix2 s k) = X1 m c (ix2 ⟨j.val * 1024 + s.val, by omega⟩ k) := by
  blk_point [iblk, V, idx i j]

/-- The result is the reference's. -/
theorem value : (dats m 0 c).arrAt 2 cfg0.N = Cert.DmixRefIdeal.Read.val_main_v4 (F := Ideal) (X0 m c) (X1 m c) := by
  funext y
  obtain ⟨R, S, rfl⟩ : ∃ (R : Fin 2176) (S : Fin 2048), y = ix2 R S := ⟨y 0, y 1, eq_ix2 y⟩
  obtain ⟨i, r, rfl⟩ := Parts.split (a := 2) (b := 1088) (by norm_num) R
  obtain ⟨j, s, rfl⟩ := Parts.split (a := 2) (b := 1024) (by norm_num) S
  refine (final m c i j r s).trans ((out_apply _ _ r s).trans (Eq.trans ?_ (ref_apply _ _ ..).symm))
  exact Finset.sum_congr rfl fun k _ => congrArg₂ _ (blk_0 m c i j r k) (blk_1 m c i j s k)

attribute [local instance] Cert.Dmix.Gen.facts Cert.DmixIdeal.Gen.facts Cert.DmixRefIdeal.Gen.facts

theorem frame_p : Cert.quiescent_Dmix := fun m ρ _ => Cert.Dmix.Gen.frame m ρ

theorem frame_pi : Cert.quiescent_DmixIdeal := fun m ρ _ => Cert.DmixIdeal.Gen.frame m ρ

theorem frame_ri : Cert.quiescent_DmixRefIdeal := fun m ρ _ =>
  (θ_run Cert.DmixRefIdeal.defs _ _).mono (fun r h => ⟨fun c => (h c).2, sem_eq_zero_of_no_sems (by decide) r.2⟩)
    (Cert.DmixRefIdeal.Value.run (F := Ideal) m ρ)

theorem algebraic : Cert.algebraic_DmixIdeal_DmixRefIdeal := by
  intro m ρ m' ρ' _ hagree
  refine ⟨fun c => (dats m 0 c).arrAt 2 cfg0.N, run_blocks (F := Ideal) m ρ, ?_⟩
  refine (θ_run Cert.DmixRefIdeal.defs _ _).mono (fun _ h c => ?_) (Cert.DmixRefIdeal.Value.run (F := Ideal) m' ρ')
  obtain ⟨h0, h1⟩ := h c
  obtain ⟨e0, e1⟩ := hagree c
  rw [Cert.DmixRefIdeal.Read.val_main_v4_eq, e0, e1] at h0
  exact ⟨h0.trans (value m c).symm, h1⟩

end Dmix
-- ==== Proof.ProjQkv.lean ====
/-
  The projections to q, k and v: each grid point writes all the rows of a block of columns of the product of the
  layer's input and the weights, both summed over their columns.
-/
module

public import proofs.«01_k».proof.Defs
public import proofs.«01_k».proof.Proof.Parts
public import proofs.«01_k».proof.Proof.Gen.ProjQkv.Frame
public import proofs.«01_k».proof.Proof.Gen.ProjQkvIdeal.Value
public import proofs.«01_k».proof.Proof.Gen.ProjQkvRefIdeal.Read
public import Idealize.ShloMosaic.Lib.Pointwise
public import Idealize.ShloMosaic.Lib.Pipeline.ValueKit
public import Idealize.ShloMosaic.Lib.Quiescent

@[expose] public section

set_option maxRecDepth 16384

noncomputable section

namespace ProjQkv

open Idealize.ShloMosaic Cert.ProjQkvIdeal Cert.ProjQkvIdeal.Gen Cert.ProjQkvIdeal.Value Idealize.ShloMosaic.TcCoe Idealize.SL.Sem

theorem out_apply (x0 : Vec Ideal S2176x2048 .bf16) (x1 : Vec Ideal S512x2048 .bf16) (r : Fin 2176) (s : Fin 512) :
    out0_2 x0 x1 (ix2 r s) = ∑ k : Fin 2048, x0 (ix2 r k) * x1 (ix2 s k) := by
  unfold out0_2
  rw [View.canon_cons_unit_lit, View.ld_unit_lit, View.ld_unit_lit] <;> try decide
  pointwise [k0_pay1]

open Cert.ProjQkvRefIdeal.Read in
theorem ref_apply (x0 : Vec Ideal S2176x2048 .bf16) (x1 : Vec Ideal S2048x2048 .bf16) (r : Fin 2176) (s : Fin 2048) :
    val_main_v4 x0 x1 (ix2 r s) = ∑ k : Fin 2048, x0 (ix2 r k) * x1 (ix2 s k) := by
  pointwise [val_main_v4, val_main_v3, val_main_v2, val_main_v1, val_main_v0]

variable (m : (ℓ : Loc nD τ sig) → Buf (Elt Ideal) ℓ) (c : Dev nD)

/-- The grid point of a tile of columns. -/
def pt (j : Fin 4) : Fin cfg0.N := ⟨j.val, by show _ < 4; omega⟩

/-- Which block of each array a grid point reads. -/
theorem idx : ∀ j, win0_0.index (pt j) = ![0, 0] ∧ win0_1.index (pt j) = ![j.val, 0]
    ∧ win0_2.index (pt j) = ![0, j.val] := by decide +kernel

variable (j : Fin 4)

theorem final (r : Fin 2176) (s : Fin 512) :
    (dats m 0 c).arrAt 2 cfg0.N (ix2 r ⟨j.val * 512 + s.val, by omega⟩)
      = out0_2 (iblk m c 0 (pt j)) (iblk m c 1 (pt j)) (ix2 r s) := by
  have h := congrFun (blocks2 m c (pt j) (flush0_2 _)) (ix2 r s)
  rw [flushed2] at h
  refine Eq.trans ?_ h
  blk_point [idx j]

abbrev X0 : Vec Ideal S2176x2048 .bf16 := m ((c : Thread nD τ).loc main_arg0)
abbrev X1 : Vec Ideal S2048x2048 .bf16 := m ((c : Thread nD τ).loc main_arg1)

theorem blk_0 (r : Fin 2176) (k : Fin 2048) : iblk m c 0 (pt j) (ix2 r k) = X0 m c (ix2 r k) := by
  blk_point [iblk, V, idx j]

theorem blk_1 (s : Fin 512) (k : Fin 2048) : iblk m c 1 (pt j) (ix2 s k) = X1 m c (ix2 ⟨j.val * 512 + s.val, by omega⟩ k) := by
  blk_point [iblk, V, idx j]

/-- The result is the reference's. -/
theorem value : (dats m 0 c).arrAt 2 cfg0.N = Cert.ProjQkvRefIdeal.Read.val_main_v4 (F := Ideal) (X0 m c) (X1 m c) := by
  funext y
  obtain ⟨r, S, rfl⟩ : ∃ (r : Fin 2176) (S : Fin 2048), y = ix2 r S := ⟨y 0, y 1, eq_ix2 y⟩
  obtain ⟨j, s, rfl⟩ := Parts.split (a := 4) (b := 512) (by norm_num) S
  refine (final m c j r s).trans ((out_apply _ _ r s).trans (Eq.trans ?_ (ref_apply _ _ ..).symm))
  exact Finset.sum_congr rfl fun k _ => congrArg₂ _ (blk_0 m c j r k) (blk_1 m c j s k)

attribute [local instance] Cert.ProjQkv.Gen.facts Cert.ProjQkvIdeal.Gen.facts Cert.ProjQkvRefIdeal.Gen.facts

theorem frame_p : Cert.quiescent_ProjQkv := fun m ρ _ => Cert.ProjQkv.Gen.frame m ρ

theorem frame_pi : Cert.quiescent_ProjQkvIdeal := fun m ρ _ => Cert.ProjQkvIdeal.Gen.frame m ρ

theorem frame_ri : Cert.quiescent_ProjQkvRefIdeal := fun m ρ _ =>
  (θ_run Cert.ProjQkvRefIdeal.defs _ _).mono (fun r h => ⟨fun c => (h c).2, sem_eq_zero_of_no_sems (by decide) r.2⟩)
    (Cert.ProjQkvRefIdeal.Value.run (F := Ideal) m ρ)

theorem algebraic : Cert.algebraic_ProjQkvIdeal_ProjQkvRefIdeal := by
  intro m ρ m' ρ' _ hagree
  refine ⟨fun c => (dats m 0 c).arrAt 2 cfg0.N, run_blocks (F := Ideal) m ρ, ?_⟩
  refine (θ_run Cert.ProjQkvRefIdeal.defs _ _).mono (fun _ h c => ?_) (Cert.ProjQkvRefIdeal.Value.run (F := Ideal) m' ρ')
  obtain ⟨h0, h1⟩ := h c
  obtain ⟨e0, e1⟩ := hagree c
  rw [Cert.ProjQkvRefIdeal.Read.val_main_v4_eq, e0, e1] at h0
  exact ⟨h0.trans (value m c).symm, h1⟩

end ProjQkv
-- ==== Proof.ProjE.lean ====
/-
  The projections to the output gate and to the gated units: each grid point writes all the rows of a block of columns
  of one part of the product of the layer's input and the weights, both summed over their columns.
-/
module

public import proofs.«01_k».proof.Defs
public import proofs.«01_k».proof.Proof.Parts
public import proofs.«01_k».proof.Proof.Gen.ProjE.Frame
public import proofs.«01_k».proof.Proof.Gen.ProjEIdeal.Value
public import proofs.«01_k».proof.Proof.Gen.ProjERefIdeal.Read
public import Idealize.ShloMosaic.Lib.Pointwise
public import Idealize.ShloMosaic.Lib.Pipeline.ValueKit
public import Idealize.ShloMosaic.Lib.Quiescent

@[expose] public section

set_option maxRecDepth 16384

noncomputable section

namespace ProjE

open Idealize.ShloMosaic Cert.ProjEIdeal Cert.ProjEIdeal.Gen Cert.ProjEIdeal.Value Idealize.ShloMosaic.TcCoe Idealize.SL.Sem

theorem out_apply (x0 : Vec Ideal S2176x2048 .bf16) (x1 : Vec Ideal S1x512x2048 .bf16) (r : Fin 2176) (s : Fin 512) :
    out0_2 x0 x1 (ix3 0 r s) = ∑ k : Fin 2048, x0 (ix2 r k) * x1 (ix3 0 s k) := by
  unfold out0_2
  rw [View.canon_cons_unit_lit, View.ld_unit_lit, View.ld_unit_lit] <;> try decide
  pointwise [k0_pay1]

open Cert.ProjERefIdeal.Read in
theorem ref_apply (x0 : Vec Ideal S2176x2048 .bf16) (x1 : Vec Ideal S4x1024x2048 .bf16) (p : Fin 4) (r : Fin 2176) (s : Fin 1024) :
    val_main_v7 x0 x1 (ix3 p r s) = ∑ k : Fin 2048, x0 (ix2 r k) * x1 (ix3 p s k) := by
  pointwise [val_main_v7, val_main_v6, val_main_v5, val_main_v4, val_main_v3, val_main_v2, val_main_v1, val_main_v0]

variable (m : (ℓ : Loc nD τ sig) → Buf (Elt Ideal) ℓ) (c : Dev nD)

/-- The grid point of a part and a tile of its columns. -/
def pt (p : Fin 4) (j : Fin 2) : Fin cfg0.N := ⟨p.val * 2 + j.val, by show _ < 8; omega⟩

/-- Which block of each array a grid point reads. -/
theorem idx : ∀ p j, win0_0.index (pt p j) = ![0, 0] ∧ win0_1.index (pt p j) = ![p.val, j.val, 0]
    ∧ win0_2.index (pt p j) = ![p.val, 0, j.val] := by decide +kernel

variable (p : Fin 4) (j : Fin 2)

theorem final (r : Fin 2176) (s : Fin 512) :
    (dats m 0 c).arrAt 2 cfg0.N (ix3 p r ⟨j.val * 512 + s.val, by omega⟩)
      = out0_2 (iblk m c 0 (pt p j)) (iblk m c 1 (pt p j)) (ix3 0 r s) := by
  have h := congrFun (blocks2 m c (pt p j) (flush0_2 _)) (ix3 0 r s)
  rw [flushed2] at h
  refine Eq.trans ?_ h
  blk_point [idx p j]

abbrev X0 : Vec Ideal S2176x2048 .bf16 := m ((c : Thread nD τ).loc main_arg0)
abbrev X1 : Vec Ideal S4x1024x2048 .bf16 := m ((c : Thread nD τ).loc main_arg1)

theorem blk_0 (r : Fin 2176) (k : Fin 2048) : iblk m c 0 (pt p j) (ix2 r k) = X0 m c (ix2 r k) := by
  blk_point [iblk, V, idx p j]

theorem blk_1 (s : Fin 512) (k : Fin 2048) : iblk m c 1 (pt p j) (ix3 0 s k) = X1 m c (ix3 p ⟨j.val * 512 + s.val, by omega⟩ k) := by
  blk_point [iblk, V, idx p j]

/-- The result is the reference's. -/
theorem value : (dats m 0 c).arrAt 2 cfg0.N = Cert.ProjERefIdeal.Read.val_main_v7 (F := Ideal) (X0 m c) (X1 m c) := by
  funext y
  obtain ⟨p, r, S, rfl⟩ : ∃ (p : Fin 4) (r : Fin 2176) (S : Fin 1024), y = ix3 p r S := ⟨y 0, y 1, y 2, eq_ix3 y⟩
  obtain ⟨j, s, rfl⟩ := Parts.split (a := 2) (b := 512) (by norm_num) S
  refine (final m c p j r s).trans ((out_apply _ _ r s).trans (Eq.trans ?_ (ref_apply _ _ ..).symm))
  exact Finset.sum_congr rfl fun k _ => congrArg₂ _ (blk_0 m c p j r k) (blk_1 m c p j s k)

attribute [local instance] Cert.ProjE.Gen.facts Cert.ProjEIdeal.Gen.facts Cert.ProjERefIdeal.Gen.facts

theorem frame_p : Cert.quiescent_ProjE := fun m ρ _ => Cert.ProjE.Gen.frame m ρ

theorem frame_pi : Cert.quiescent_ProjEIdeal := fun m ρ _ => Cert.ProjEIdeal.Gen.frame m ρ

theorem frame_ri : Cert.quiescent_ProjERefIdeal := fun m ρ _ =>
  (θ_run Cert.ProjERefIdeal.defs _ _).mono (fun r h => ⟨fun c => (h c).2, sem_eq_zero_of_no_sems (by decide) r.2⟩)
    (Cert.ProjERefIdeal.Value.run (F := Ideal) m ρ)

theorem algebraic : Cert.algebraic_ProjEIdeal_ProjERefIdeal := by
  intro m ρ m' ρ' _ hagree
  refine ⟨fun c => (dats m 0 c).arrAt 2 cfg0.N, run_blocks (F := Ideal) m ρ, ?_⟩
  refine (θ_run Cert.ProjERefIdeal.defs _ _).mono (fun _ h c => ?_) (Cert.ProjERefIdeal.Value.run (F := Ideal) m' ρ')
  obtain ⟨h0, h1⟩ := h c
  obtain ⟨e0, e1⟩ := hagree c
  rw [Cert.ProjERefIdeal.Read.val_main_v7_eq, e0, e1] at h0
  exact ⟨h0.trans (value m c).symm, h1⟩

end ProjE
-- ==== Proof.OutProj.lean ====
/-
  The output projection and the residual: a block of the result is the sum of the products over two halves of the
  mixer's columns, and the residual's block. The grid's last axis runs over the halves, and the first product is kept
  between its points.
-/
module

public import proofs.«01_k».proof.Defs
public import proofs.«01_k».proof.Proof.Parts
public import proofs.«01_k».proof.Proof.Gen.OutProj.Frame
public import proofs.«01_k».proof.Proof.Gen.OutProjIdeal.Value
public import proofs.«01_k».proof.Proof.Gen.OutProjRefIdeal.Read
public import Idealize.ShloMosaic.Lib.Pointwise
public import Idealize.ShloMosaic.Lib.Pipeline.ValueKit
public import Idealize.ShloMosaic.Lib.Quiescent

@[expose] public section

set_option maxRecDepth 16384

noncomputable section

namespace OutProj

open Idealize.ShloMosaic Cert.OutProjIdeal Cert.OutProjIdeal.Gen Cert.OutProjIdeal.Value Idealize.ShloMosaic.TcCoe Idealize.SL.Sem

section
variable (x0 : Vec Ideal S1x1088x1024 .bf16) (x1 : Vec Ideal S1024x1024 .bf16) (r : Fin 1088) (s : Fin 1024)

/-- The product over a half of the columns. -/
abbrev prod : EReal := ∑ k : Fin 1024, x0 (ix3 0 r k) * x1 (ix2 k s)

theorem pay : k0_pay1 x0 x1 (ix2 r s) = prod x0 x1 r s := by
  pointwise [k0_pay1]

open Cert.OutProjRefIdeal.Read in
theorem ref_apply (y0 : Vec Ideal S2176x2048 .bf16) (y1 : Vec Ideal S2048x2048 .bf16) (y2 : Vec Ideal S2176x2048 .f32)
    (R : Fin 2176) (S : Fin 2048) :
    val_main_v3 y0 y1 y2 (ix2 R S) = y2 (ix2 R S) + ∑ k : Fin 2048, y0 (ix2 R k) * y1 (ix2 k S) := by
  pointwise [val_main_v3, val_main_v2, val_main_v1, val_main_v0]

end

variable (m : (ℓ : Loc nD τ sig) → Buf (Elt Ideal) ℓ) (c : Dev nD)

/-- The grid point of a tile of rows, a tile of columns and a half of the sum. -/
def pt (i j k : Fin 2) : Fin cfg0.N := ⟨2 * (2 * i.val + j.val) + k.val, by show _ < 8; omega⟩

/-- Which block of each array a grid point reads. -/
theorem idx : ∀ i j k, win0_0.index (pt i j k) = ![k.val, i.val, 0] ∧ win0_1.index (pt i j k) = ![k.val, j.val]
    ∧ win0_2.index (pt i j k) = ![i.val, j.val] := by decide +kernel

abbrev X0 : Vec Ideal S2176x2048 .bf16 := m ((c : Thread nD τ).loc main_arg0)
abbrev X1 : Vec Ideal S2048x2048 .bf16 := m ((c : Thread nD τ).loc main_arg1)
abbrev X2 : Vec Ideal S2176x2048 .f32 := m ((c : Thread nD τ).loc main_arg2)

variable (i j : Fin 2) (r : Fin 1088) (s : Fin 1024) (k : Fin 2) (l : Fin 1024)

theorem blk_0 : iblk m c 0 (pt i j k) (ix3 0 r l)
    = X0 m c (ix2 ⟨i.val * 1088 + r.val, by omega⟩ ⟨k.val * 1024 + l.val, by omega⟩) := by
  blk_point [iblk, V, idx i j k]

theorem blk_1 : iblk m c 1 (pt i j k) (ix2 l s)
    = X1 m c (ix2 ⟨k.val * 1024 + l.val, by omega⟩ ⟨j.val * 1024 + s.val, by omega⟩) := by
  blk_point [iblk, V, idx i j k]

theorem blk_2 : iblk m c 2 (pt i j k) (ix2 r s)
    = X2 m c (ix2 ⟨i.val * 1088 + r.val, by omega⟩ ⟨j.val * 1024 + s.val, by omega⟩) := by
  blk_point [iblk, V, idx i j k]

/-- What a grid point adds. -/
abbrev at_ (t : Fin cfg0.N) : EReal := prod (iblk m c 0 t) (iblk m c 1 t) r s

/-- The residual at a grid point's block. -/
abbrev res (t : Fin cfg0.N) : EReal := (iblk m c 2 t : Vec Ideal S1088x1024 .f32) (ix2 r s)

theorem first (t : Fin cfg0.N) (h : t.val % 2 = 0) : (outsAt0 m c t.val t.isLt).2 (ix2 r s) = at_ m c r s t := by
  rw [outsAt0_A m c t h (by omega)]
  frame_out
  pointwise [k0_pay2]
  exact pay _ _ r s

theorem last (t : Fin cfg0.N) (h : t.val % 2 = 1) :
    (outsAt0 m c t.val t.isLt).1 (ix2 r s)
      = (outsAt0 m c (t.val - 1) (Nat.lt_of_le_of_lt (Nat.sub_le _ _) t.isLt)).2 (ix2 r s) + at_ m c r s t + res m c r s t := by
  rw [outsAt0_B m c t (by omega) h]
  frame_out
  pointwise [k0_pay4]
  rw [pay]
  exact congrArg (· + _ + _) (congrFun (Memref.IsWhole.read_unread _ _) _)

/-- The two parts of a block's sum, and the residual. -/
theorem two : (outsAt0 m c (pt i j 1).val (pt i j 1).isLt).1 (ix2 r s)
    = (∑ k : Fin 2, at_ m c r s (pt i j k)) + res m c r s (pt i j 1) := by
  rw [last m c r s (pt i j 1) (by show (2 * _ + 1) % 2 = 1; omega), Fin.sum_univ_two]
  exact congrArg (· + at_ m c r s (pt i j 1) + _) (first m c r s (pt i j 0) (by show (2 * _ + 0) % 2 = 0; omega))

theorem outs_congr {n n' : ℕ} (e : n = n') (hn : n < cfg0.N) (hn' : n' < cfg0.N) : outsAt0 m c n hn = outsAt0 m c n' hn' := by
  subst e; rfl

theorem final : G3 m c (ix2 ⟨i.val * 1088 + r.val, by omega⟩ ⟨j.val * 1024 + s.val, by omega⟩)
    = (outsAt0 m c (pt i j 1).val (pt i j 1).isLt).1 (ix2 r s) := by
  have e : pt3Of (ix2 ⟨i.val * 1088 + r.val, by omega⟩ ⟨j.val * 1024 + s.val, by omega⟩) = (pt i j 1).val := by
    show 2 * (2 * ((i.val * 1088 + r.val) / 1088 - 0) + 1 * ((j.val * 1024 + s.val) / 1024 - 0)) + 1 = 2 * (2 * i.val + j.val) + 1
    omega
  have el : loc3Of (ix2 ⟨i.val * 1088 + r.val, by omega⟩ ⟨j.val * 1024 + s.val, by omega⟩) = ix2 r s := by
    funext a
    fin_cases a
    · exact Fin.ext (show (i.val * 1088 + r.val) % 1088 = r.val by omega)
    · exact Fin.ext (show (j.val * 1024 + s.val) % 1024 = s.val by omega)
  unfold G3
  rw [dif_pos (e.symm ▸ (pt i j 1).isLt), ← outsAt0_sweep m c _ (e.symm ▸ (pt i j 1).isLt), el]
  exact congrFun (congrArg Prod.fst (outs_congr m c e _ _)) _

/-- What a grid point adds, from the arrays. -/
theorem at_eq : at_ m c r s (pt i j k)
    = ∑ l : Fin 1024, X0 m c (ix2 ⟨i.val * 1088 + r.val, by omega⟩ ⟨k.val * 1024 + l.val, by omega⟩)
          * X1 m c (ix2 ⟨k.val * 1024 + l.val, by omega⟩ ⟨j.val * 1024 + s.val, by omega⟩) :=
  Finset.sum_congr rfl fun l _ => congrArg₂ _ (blk_0 m c i j r k l) (blk_1 m c i j s k l)

/-- The result is the reference's. -/
theorem value : G3 m c = Cert.OutProjRefIdeal.Read.val_main_v3 (F := Ideal) (X0 m c) (X1 m c) (X2 m c) := by
  funext y
  obtain ⟨R, S, rfl⟩ : ∃ (R : Fin 2176) (S : Fin 2048), y = ix2 R S := ⟨y 0, y 1, eq_ix2 y⟩
  obtain ⟨i, r, rfl⟩ := Parts.split (a := 2) (b := 1088) (by norm_num) R
  obtain ⟨j, s, rfl⟩ := Parts.split (a := 2) (b := 1024) (by norm_num) S
  refine (final m c i j r s).trans ((two m c i j r s).trans ?_)
  rw [ref_apply, add_comm, Parts.sum (show 2 * 1024 = 2048 by norm_num)]
  exact congrArg₂ _ (blk_2 m c i j r s 1) (Finset.sum_congr rfl fun k _ => at_eq m c i j r s k)

attribute [local instance] Cert.OutProj.Gen.facts Cert.OutProjIdeal.Gen.facts Cert.OutProjRefIdeal.Gen.facts

theorem frame_p : Cert.quiescent_OutProj := fun m ρ _ => Cert.OutProj.Gen.frame m ρ

theorem frame_pi : Cert.quiescent_OutProjIdeal := fun m ρ _ => Cert.OutProjIdeal.Gen.frame m ρ

theorem frame_ri : Cert.quiescent_OutProjRefIdeal := fun m ρ _ =>
  (θ_run Cert.OutProjRefIdeal.defs _ _).mono (fun r h => ⟨fun c => (h c).2, sem_eq_zero_of_no_sems (by decide) r.2⟩)
    (Cert.OutProjRefIdeal.Value.run (F := Ideal) m ρ)

theorem algebraic : Cert.algebraic_OutProjIdeal_OutProjRefIdeal := by
  intro m ρ m' ρ' _ hagree
  refine ⟨fun c => G3 m c, run (F := Ideal) m ρ, ?_⟩
  refine (θ_run Cert.OutProjRefIdeal.defs _ _).mono (fun _ h c => ?_) (Cert.OutProjRefIdeal.Value.run (F := Ideal) m' ρ')
  obtain ⟨h0, h1⟩ := h c
  obtain ⟨e0, e1, e2⟩ := hagree c
  rw [Cert.OutProjRefIdeal.Read.val_main_v3_eq, e0, e1, e2] at h0
  exact ⟨h0.trans (value m c).symm, h1⟩

end OutProj
-- ==== Proof.Norm.lean ====
/-
  One row of the derivative of a root-mean-square norm, over the extended reals. No entry need be finite: a row with an
  infinite entry is scaled by zero, and a row of real numbers is scaled by a positive one, over which sums distribute.
-/
module

public import Idealize.ShloMosaic.PureOps.Ideal.Laws

@[expose] public section

noncomputable section

namespace Norm

open Idealize.ShloMosaic

variable {ι : Type} [Fintype ι]

/-- A nonnegative real factor goes into a sum. -/
theorem sum_mul (f : ι → EReal) {c : ℝ} (hc : 0 ≤ c) : ∑ k, f k * (c : EReal) = (∑ k, f k) * (c : EReal) := by
  classical
  refine Finset.induction_on (Finset.univ : Finset ι) (by simp) fun a s ha ih => ?_
  rw [Finset.sum_insert ha, Finset.sum_insert ha, ih,
    EReal.right_distrib_of_nonneg_of_ne_top (EReal.coe_nonneg.2 hc) (EReal.coe_ne_top c)]

theorem two_mul (y : EReal) : y + y = ((2 : ℝ) : EReal) * y := by
  induction y using EReal.rec with
  | bot => rw [EReal.coe_mul_bot_of_pos two_pos]; rfl
  | top => rw [EReal.coe_mul_top_of_pos two_pos]; rfl
  | coe r => norm_cast; ring

theorem sum_coe (f : ι → ℝ) : ∑ k, (f k : EReal) = ((∑ k, f k : ℝ) : EReal) := by
  classical
  refine Finset.induction_on (Finset.univ : Finset ι) (by simp) fun a s ha ih => ?_
  rw [Finset.sum_insert ha, Finset.sum_insert ha, ih, EReal.coe_add]

theorem pull (y : EReal) (p q r : ℝ) : (p : EReal) * (y * (q : EReal) * (r : EReal)) = y * ((p * q * r : ℝ) : EReal) := by
  rw [EReal.coe_mul, EReal.coe_mul]
  ac_rfl

/-- The mean of the squares, and the small number that keeps it from zero. -/
abbrev msq (x : ι → EReal) (n e : ℝ) : EReal := Ideal.div (∑ k, x k * x k) (n : EReal) + (e : EReal)

theorem msq_top (x : ι → EReal) {n : ℝ} (hn : 0 < n) (e : ℝ) (k : ι) (h : x k = ⊤ ∨ x k = ⊥) : msq x n e = ⊤ := by
  classical
  have hk : x k * x k = ⊤ := by rcases h with h | h <;> rw [h] <;> rfl
  have hpos : ∀ k, 0 ≤ x k * x k := fun k => by
    induction x k using EReal.rec with
    | bot => exact le_top
    | top => exact le_top
    | coe r => exact_mod_cast mul_self_nonneg r
  have hs : ∑ k, x k * x k = ⊤ := top_le_iff.1 (hk ▸ Finset.single_le_sum (fun k _ => hpos k) (Finset.mem_univ k))
  show Ideal.div (∑ k, x k * x k) (n : EReal) + (e : EReal) = ⊤
  rw [hs, Ideal.div_coe hn.ne', EReal.top_mul_coe_of_pos (one_div_pos.2 hn), EReal.top_add_coe]

theorem msq_real (a : ι → ℝ) {n : ℝ} (hn : 0 < n) (e : ℝ) :
    msq (fun k => (a k : EReal)) n e = (((∑ k, a k * a k) * (1 / n) + e : ℝ) : EReal) := by
  show Ideal.div (∑ k, (a k : EReal) * (a k : EReal)) (n : EReal) + (e : EReal) = _
  rw [Ideal.div_coe hn.ne', EReal.coe_add, EReal.coe_mul, ← sum_coe]
  push_cast
  rfl

/-- The derivative at one entry of a row, as the kernel computes it and as the reference does. -/
theorem row (x g : ι → EReal) {n e : ℝ} (hn : 0 < n) (he : 0 < e) {h : ℝ} (hh : h = -(1 / 2)) (j : ι) :
    Ideal.rsqrt (msq x n e)
        * (g j - x j * Ideal.rsqrt (msq x n e) * Ideal.div (∑ k, g k * (x k * Ideal.rsqrt (msq x n e))) (n : EReal))
      = g j * Ideal.rsqrt (msq x n e)
          + x j * Ideal.div ((∑ k, x k * g k) * ((h : EReal) * Ideal.div (Ideal.rsqrt (msq x n e)) (msq x n e))) (n : EReal)
          + Ideal.div ((∑ k, x k * g k) * ((h : EReal) * Ideal.div (Ideal.rsqrt (msq x n e)) (msq x n e))) (n : EReal) * x j := by
  by_cases hx : ∃ k, x k = ⊤ ∨ x k = ⊥
  · obtain ⟨k, hk⟩ := hx
    rw [msq_top x hn e k hk]
    simp [Ideal.div, hn.ne']
  · have hx' : ∀ k, x k = ((x k).toReal : EReal) := fun k => by
      have := not_exists.1 hx k
      exact (EReal.coe_toReal (fun h => this (.inl h)) (fun h => this (.inr h))).symm
    obtain ⟨a, rfl⟩ : ∃ a : ι → ℝ, x = fun k => (a k : EReal) := ⟨fun k => (x k).toReal, funext hx'⟩
    rw [msq_real a hn]
    set v : ℝ := (∑ k, a k * a k) * (1 / n) + e with hv
    have hv0 : 0 < v :=
      add_pos_of_nonneg_of_pos (mul_nonneg (Finset.sum_nonneg fun k _ => mul_self_nonneg (a k)) (one_div_pos.2 hn).le) he
    have hr : Ideal.rsqrt (v : EReal) = (((Real.sqrt v)⁻¹ : ℝ) : EReal) := by
      rw [Ideal.rsqrt_coe, if_neg (not_lt.2 hv0.le), if_neg hv0.ne']
    rw [hr]
    set ρ : ℝ := (Real.sqrt v)⁻¹ with hρ
    have hρ0 : 0 < ρ := inv_pos.2 (Real.sqrt_pos.2 hv0)
    have hρv : 1 / v = ρ * ρ := by
      rw [hρ, ← mul_inv, Real.mul_self_sqrt hv0.le, one_div]
    have hs : ∑ k, g k * ((a k : EReal) * (ρ : EReal)) = (∑ k, (a k : EReal) * g k) * (ρ : EReal) := by
      rw [← sum_mul _ hρ0.le]
      exact Finset.sum_congr rfl fun k _ => by rw [← mul_assoc, mul_comm (g k)]
    rw [hs]
    generalize (∑ k, (a k : EReal) * g k) = S
    have l : (a j : EReal) * (ρ : EReal) * Ideal.div (S * (ρ : EReal)) (n : EReal) = S * ((a j * ρ * (ρ * (1 / n)) : ℝ) : EReal) := by
      rw [Ideal.div_coe hn.ne', EReal.coe_mul (a j * ρ), EReal.coe_mul, EReal.coe_mul]
      ac_rfl
    have z : Ideal.div (S * ((h : EReal) * Ideal.div (ρ : EReal) (v : EReal))) (n : EReal) = S * ((h * (ρ * (1 / v)) * (1 / n) : ℝ) : EReal) := by
      rw [Ideal.div_coe hn.ne', Ideal.div_coe hv0.ne', EReal.coe_mul, EReal.coe_mul, EReal.coe_mul]
      ac_rfl
    rw [l, z, sub_eq_add_neg, EReal.left_distrib_of_nonneg_of_ne_top (EReal.coe_nonneg.2 hρ0.le) (EReal.coe_ne_top ρ), add_assoc,
      mul_comm (a j : EReal), two_mul]
    refine congrArg₂ _ (mul_comm _ _) ?_
    rw [← mul_neg, ← EReal.coe_neg, hρv, mul_comm (ρ : EReal), mul_assoc, ← EReal.coe_mul, pull]
    refine congrArg (fun t : ℝ => S * (t : EReal)) ?_
    rw [hh]
    ring

/-! ### The numbers of the norms -/

theorem ofBits_2048 : Ideal.ofBits .f32 0x45000000#32 = ((2048 : ℝ) : EReal) := by
  simp [Ideal.ofBits, Ideal.ieee]
  norm_num
  rw [← EReal.coe_mul]
  norm_num

theorem ofBits_256 : Ideal.ofBits .f32 0x43800000#32 = ((256 : ℝ) : EReal) := by
  simp [Ideal.ofBits, Ideal.ieee]
  norm_num
  rw [← EReal.coe_mul]
  norm_num

theorem ofBits_neg_half : Ideal.ofBits .f32 0xBF000000#32 = ((-(1 / 2) : ℝ) : EReal) := by
  simp [Ideal.ofBits, Ideal.ieee]
  norm_num
  rw [← EReal.coe_mul]
  norm_num

theorem ofBits_eps : ∃ e : ℝ, 0 < e ∧ Ideal.ofBits .f32 0x358637BD#32 = (e : EReal) := by
  simp [Ideal.ofBits, Ideal.ieee]
  refine ⟨_, ?_, by norm_cast⟩
  positivity

/-- `row`, the numbers written as their patterns. -/
theorem row_lit {N E H : EReal} {n : ℝ} (hN : N = (n : EReal)) (hn : 0 < n) (hE : ∃ e : ℝ, 0 < e ∧ E = (e : EReal))
    (hH : H = ((-(1 / 2) : ℝ) : EReal)) (x g : ι → EReal) (j : ι) :
    Ideal.rsqrt (Ideal.div (∑ k, x k * x k) N + E)
        * (g j - x j * Ideal.rsqrt (Ideal.div (∑ k, x k * x k) N + E)
            * Ideal.div (∑ k, g k * (x k * Ideal.rsqrt (Ideal.div (∑ k, x k * x k) N + E))) N)
      = g j * Ideal.rsqrt (Ideal.div (∑ k, x k * x k) N + E)
          + x j * Ideal.div ((∑ k, x k * g k)
              * (H * Ideal.div (Ideal.rsqrt (Ideal.div (∑ k, x k * x k) N + E)) (Ideal.div (∑ k, x k * x k) N + E))) N
          + Ideal.div ((∑ k, x k * g k)
              * (H * Ideal.div (Ideal.rsqrt (Ideal.div (∑ k, x k * x k) N + E)) (Ideal.div (∑ k, x k * x k) N + E))) N * x j := by
  obtain ⟨e, he, rfl⟩ := hE
  subst hN hH
  exact row x g hn he rfl j

end Norm
-- ==== Proof.NormB.lean ====
/-
  The derivative of a root-mean-square norm: each grid point takes a block of rows, computes the cotangent of the rows,
  added to the residual's, and adds the block's share of the gradient of the norm's weights.
-/
module

public import proofs.«01_k».proof.Defs
public import proofs.«01_k».proof.Proof.Norm
public import proofs.«01_k».proof.Proof.Parts
public import proofs.«01_k».proof.Proof.Patch
public import proofs.«01_k».proof.Proof.Gen.NormBwd.Frame
public import proofs.«01_k».proof.Proof.Gen.NormBwdIdeal.Value
public import proofs.«01_k».proof.Proof.Gen.NormBwdRefIdeal.Read
public import Idealize.ShloMosaic.Lib.Pointwise
public import Idealize.ShloMosaic.Lib.Pipeline.ValueKit
public import Idealize.ShloMosaic.Lib.StableHlo.RunRead
public import Idealize.ShloMosaic.Lib.Quiescent

@[expose] public section

set_option maxRecDepth 16384

noncomputable section

namespace NormB

open Mlstm Idealize.ShloMosaic Cert.NormBwdIdeal Cert.NormBwdIdeal.Gen Cert.NormBwdIdeal.Value Idealize.ShloMosaic.TcCoe Idealize.SL.Sem

section
variable (x : Vec Ideal S272x2048 .f32) (d : Vec Ideal S272x2048 .f32) (w : Vec Ideal S1x2048 .f32) (e : Vec Ideal S272x2048 .f32)
  (a : Vec Ideal S1x2048 .f32) (r : Fin 272) (s : Fin 2048)

/-- The scale of a row. -/
abbrev scale (x : Fin 2048 → EReal) : EReal :=
  Ideal.rsqrt (Ideal.div (∑ k, x k * x k) (Ideal.ofBits .f32 0x45000000#32) + Ideal.ofBits .f32 0x358637BD#32)

/-- The cotangent of a row at an entry, from the row and the cotangent of the normed row. -/
abbrev cot (x g : Fin 2048 → EReal) (j : Fin 2048) : EReal :=
  scale x * (g j - x j * scale x * Ideal.div (∑ k, g k * (x k * scale x)) (Ideal.ofBits .f32 0x45000000#32))

theorem pay4 : k0_pay4 x d w e (ix2 r s)
    = e (ix2 r s) + cot (fun k => x (ix2 r k)) (fun k => d (ix2 r k) * w (ix2 0 k)) s := by
  pointwise [k0_pay4, k0_pay3, k0_pay2]

theorem pay5 : k0_pay5 x d w e (ix2 r s)
    = e (ix2 r s) + cot (fun k => x (ix2 r k)) (fun k => d (ix2 r k) * w (ix2 0 k)) s := by
  pointwise [k0_pay5, k0_pay4, k0_pay3, k0_pay2]

/-- A block's share of the gradient of a weight. -/
abbrev share : EReal := ∑ r : Fin 272, d (ix2 r s) * (x (ix2 r s) * scale (fun k => x (ix2 r k)))

theorem pay1 (z : Fin 1) : k0_pay1 (k0_pay3 x) d a (ix2 z s) = a (ix2 z s) + share x d s := by
  pointwise [k0_pay1, k0_pay3, k0_pay2]

end

section
open Cert.NormBwdRefIdeal.Read
variable (y0 y1 : Vec Ideal S2176x2048 .f32) (y2 : Vec Ideal S2048 .f32) (y3 : Vec Ideal S2176x2048 .f32) (R : Fin 2176) (S : Fin 2048)

theorem ref_h : val_main_v36 y0 y1 y2 y3 (ix2 R S)
    = y3 (ix2 R S) + cot (fun k => y1 (ix2 R k)) (fun k => y0 (ix2 R k) * y2 (ix1 k)) S := by
  refine Eq.trans ?_ (congrArg (y3 (ix2 R S) + ·) (Norm.row_lit Norm.ofBits_2048 (by norm_num) Norm.ofBits_eps Norm.ofBits_neg_half
    (fun k => y1 (ix2 R k)) (fun k => y0 (ix2 R k) * y2 (ix1 k)) S).symm)
  pointwise [val_main_v36, val_main_v35, val_main_v34, val_main_v33, val_main_v32, val_main_v31, val_main_v30, val_main_cst_7, val_main_v29,
    val_main_v28, val_main_cst_6, val_main_v27, val_main_v26, val_main_v25, val_main_v24, val_main_v23, val_main_cst_5, val_main_v22,
    val_main_v20, val_main_v19, val_main_v13, val_main_v10, val_main_v9, val_main_cst_2, val_main_v8, val_main_v7, val_main_v6, val_main_v5,
    val_main_cst_1, val_main_v4, val_main_v3, val_main_cst_0, val_main_v2, val_main_v1, val_main_cst, val_main_v0]
  rw [Fin.sum_univ_one]

theorem ref_b : val_main_v37 y0 y1 y2 y3 (ix2 R S) = val_main_v36 y0 y1 y2 y3 (ix2 R S) := rfl

theorem ref_w (q : Fin 8) : val_main_v39 y0 y1 (ix2 q S)
    = if q.val = 0 then ∑ R : Fin 2176, y0 (ix2 R S) * (y1 (ix2 R S) * scale (fun k => y1 (ix2 R k))) else 0 := by
  pointwise [val_main_v39, val_main_v38, val_main_v21, val_main_cst_4, val_main_v18, val_main_v17, val_main_cst_3, val_main_v16,
   val_main_v12, val_main_v11, val_main_v7, val_main_v6, val_main_v5, val_main_c, val_main_call0_v0,
    val_main_cst_1, val_main_v4, val_main_v3, val_main_cst_0, val_main_v2, val_main_v1, val_main_cst, val_main_v0]
  by_cases h : q.val = 0
  · rw [dif_pos (show q.val < 1 by omega), if_pos h, Fin.sum_univ_one]
    exact Finset.sum_congr rfl fun R _ => mul_comm (G := EReal) _ _
  · rw [dif_neg (show ¬ q.val < 1 by omega), if_neg h]
    simp [FloatOps.sitofp]

end

variable (m : (ℓ : Loc nD τ sig) → Buf (Elt Ideal) ℓ) (c : Dev nD)

/-- The grid point of a tile of rows. -/
def pt (i : Fin 8) : Fin cfg0.N := ⟨i.val, by show _ < 8; omega⟩

/-- Which block of each array a grid point reads or writes. -/
theorem idx : ∀ i, win0_0.index (pt i) = ![i.val, 0] ∧ win0_1.index (pt i) = ![i.val, 0]
    ∧ win0_2.index (pt i) = ![0, 0] ∧ win0_3.index (pt i) = ![i.val, 0]
    ∧ win0_4.index (pt i) = ![i.val, 0] ∧ win0_5.index (pt i) = ![i.val, 0] ∧ win0_6.index (pt i) = ![0, 0] := by decide +kernel

abbrev X0 : Vec Ideal S2176x2048 .f32 := m ((c : Thread nD τ).loc main_arg0)
abbrev X1 : Vec Ideal S2176x2048 .f32 := m ((c : Thread nD τ).loc main_arg1)
abbrev X2 : Vec Ideal S2048 .f32 := m ((c : Thread nD τ).loc main_arg2)
abbrev X3 : Vec Ideal S2176x2048 .f32 := m ((c : Thread nD τ).loc main_arg3)

variable (i : Fin 8) (r : Fin 272) (s : Fin 2048)

theorem blk_0 : iblk m c 0 (pt i) (ix2 r s) = X0 m c (ix2 ⟨i.val * 272 + r.val, by omega⟩ s) := by
  blk_point [iblk, V, idx i]

theorem blk_1 : iblk m c 1 (pt i) (ix2 r s) = X1 m c (ix2 ⟨i.val * 272 + r.val, by omega⟩ s) := by
  blk_point [iblk, V, idx i]

theorem blk_3 : iblk m c 3 (pt i) (ix2 r s) = X3 m c (ix2 ⟨i.val * 272 + r.val, by omega⟩ s) := by
  blk_point [iblk, V, idx i]

theorem blk_w : iblk m c 2 (pt i) (ix2 0 s) = V m c main_v0 (ix2 0 s) := by
  blk_point [iblk, idx i]

theorem V_w : V m c main_v0 = broadcastInDim S1x2048 ![1] bcast_S2048_S1x2048_1 (X2 m c) := by
  unfold V
  simp only [hostOps0, List.flatten_cons, List.flatten_nil, List.append_nil, List.cons_append, List.nil_append]
  after_reads_simp

theorem w_at : V m c main_v0 (ix2 0 s) = X2 m c (ix1 s) := by
  rw [V_w]
  pointwise

theorem blk_2 : iblk m c 2 (pt i) (ix2 0 s) = X2 m c (ix1 s) := (blk_w m c i s).trans (w_at m c s)

/-- A row's cotangent, from the arrays. -/
theorem cot_eq (x d : Vec Ideal S272x2048 .f32) (w : Vec Ideal S1x2048 .f32) (hx : x = iblk m c 1 (pt i)) (hd : d = iblk m c 0 (pt i))
    (hw : w = iblk m c 2 (pt i)) : cot (fun k => x (ix2 r k)) (fun k => d (ix2 r k) * w (ix2 0 k)) s
    = cot (fun k => X1 m c (ix2 ⟨i.val * 272 + r.val, by omega⟩ k))
        (fun k => X0 m c (ix2 ⟨i.val * 272 + r.val, by omega⟩ k) * X2 m c (ix1 k)) s := by
  subst hx hd hw
  have h1 := funext fun k => blk_1 m c i r k
  have h2 := funext fun k => congrArg₂ (fun a b : EReal => a * b) (blk_0 m c i r k) (blk_2 m c i k)
  exact congrFun (congrArg₂ cot h1 h2) s

theorem final_h : (outsAt0 m c (pt i).val (pt i).isLt).1 (ix2 r s)
    = k0_pay4 (iblk m c 1 (pt i)) (iblk m c 0 (pt i)) (iblk m c 2 (pt i)) (iblk m c 3 (pt i)) (ix2 r s) := by
  by_cases h0 : (pt i).val % 8 = 0
  · rw [outsAt0_A m c _ h0]
    frame_out
  · rw [outsAt0_B m c _ h0]
    frame_out

theorem final_b : (outsAt0 m c (pt i).val (pt i).isLt).2.1 (ix2 r s)
    = k0_pay5 (iblk m c 1 (pt i)) (iblk m c 0 (pt i)) (iblk m c 2 (pt i)) (iblk m c 3 (pt i)) (ix2 r s) := by
  by_cases h0 : (pt i).val % 8 = 0
  · rw [outsAt0_A m c _ h0]
    frame_out
  · rw [outsAt0_B m c _ h0]
    frame_out

/-- What a grid point adds to the gradient of the weights. -/
abbrev at_ (t : Fin cfg0.N) (q : Fin 8) : EReal := if q.val = 0 then share (iblk m c 1 t) (iblk m c 0 t) s else 0

variable (q : Fin 8)

theorem first (t : Fin cfg0.N) (h : t.val % 8 = 0) : (outsAt0 m c t.val t.isLt).2.2 (ix2 q s) = at_ m c s t q := by
  rw [outsAt0_A m c t h]
  frame_out
  rw [canon_patch, readCov_whole]
  by_cases hq : q.val = 0
  · rw [patch_in _ _ _ 0 s q s (by simpa using hq) (Nat.zero_add _).symm, pay1, ld_at _ _ _ _ q s (by simpa using hq) (Nat.zero_add _).symm]
    pointwise [k0_pay6, at_]
    rw [if_pos hq]
  · rw [patch_out _ _ _ q s (.inl (.inr (by show 0 + 1 ≤ _; omega)))]
    pointwise [k0_pay6, at_]
    rw [if_neg hq]

theorem next (t : Fin cfg0.N) (h : ¬ t.val % 8 = 0) : (outsAt0 m c t.val t.isLt).2.2 (ix2 q s)
    = (outsAt0 m c (t.val - 1) (Nat.lt_of_le_of_lt (Nat.sub_le _ _) t.isLt)).2.2 (ix2 q s) + at_ m c s t q := by
  rw [outsAt0_B m c t h]
  frame_out
  rw [read_patch, Memref.IsWhole.read_unread]
  by_cases hq : q.val = 0
  · rw [patch_in _ _ _ 0 s q s (by simpa using hq) (Nat.zero_add _).symm, pay1, ld_at _ _ _ _ q s (by simpa using hq) (Nat.zero_add _).symm,
      at_, if_pos hq]
  · rw [patch_out _ _ _ q s (.inl (.inr (by show 0 + 1 ≤ _; omega))), at_, if_neg hq, add_zero]

/-- After a grid point the gradient holds the shares of the tiles so far. -/
theorem sofar (n : ℕ) (hn : n < cfg0.N) : (outsAt0 m c n hn).2.2 (ix2 q s)
    = ∑ i : Fin (n + 1), at_ m c s ⟨i.val, Nat.lt_of_lt_of_le i.isLt hn⟩ q := by
  induction n with
  | zero =>
    rw [Fin.sum_univ_one]
    exact first m c s q ⟨0, hn⟩ rfl
  | succ n ih =>
    have hn' : n + 1 < 8 := hn
    rw [Fin.sum_univ_castSucc]
    refine (next m c s q ⟨n + 1, hn⟩ (by show ¬ (n + 1) % 8 = 0; omega)).trans ?_
    exact congrArg (· + _) (ih _)

theorem share_eq : share (iblk m c 1 (pt i)) (iblk m c 0 (pt i)) s
    = ∑ r : Fin 272, X0 m c (ix2 ⟨i.val * 272 + r.val, by omega⟩ s) * (X1 m c (ix2 ⟨i.val * 272 + r.val, by omega⟩ s)
        * scale (fun k => X1 m c (ix2 ⟨i.val * 272 + r.val, by omega⟩ k))) :=
  Finset.sum_congr rfl fun r _ => congrArg₂ (fun a b : EReal => a * b) (blk_0 m c i r s)
    (congrArg₂ (fun a b : EReal => a * b) (blk_1 m c i r s) (congrArg scale (funext fun k => blk_1 m c i r k)))

theorem value_h : (dats m 0 c).arrAt 4 cfg0.N
    = Cert.NormBwdRefIdeal.Read.val_main_v36 (F := Ideal) (X0 m c) (X1 m c) (X2 m c) (X3 m c) := by
  funext y
  obtain ⟨R, S, rfl⟩ : ∃ (R : Fin 2176) (S : Fin 2048), y = ix2 R S := ⟨y 0, y 1, eq_ix2 y⟩
  obtain ⟨i, r, rfl⟩ := Parts.split (a := 8) (b := 272) (by norm_num) R
  have h := congrFun (blocks4 m c (pt i) (flush0_4 _)) (ix2 r S)
  rw [flushed4] at h
  have h' : (dats m 0 c).arrAt 4 cfg0.N (ix2 ⟨i.val * 272 + r.val, by omega⟩ S) = (outsAt0 m c (pt i).val (pt i).isLt).1 (ix2 r S) := by
    refine Eq.trans ?_ h
    blk_point [idx i]
  refine h'.trans ((final_h m c i r S).trans ((pay4 ..).trans (Eq.trans ?_ (ref_h ..).symm)))
  exact congrArg₂ (fun a b : EReal => a + b) (blk_3 m c i r S) (cot_eq m c i r S _ _ _ rfl rfl rfl)

theorem value_b : (dats m 0 c).arrAt 5 cfg0.N
    = Cert.NormBwdRefIdeal.Read.val_main_v37 (F := Ideal) (X0 m c) (X1 m c) (X2 m c) (X3 m c) := by
  funext y
  obtain ⟨R, S, rfl⟩ : ∃ (R : Fin 2176) (S : Fin 2048), y = ix2 R S := ⟨y 0, y 1, eq_ix2 y⟩
  obtain ⟨i, r, rfl⟩ := Parts.split (a := 8) (b := 272) (by norm_num) R
  have h := congrFun (blocks5 m c (pt i) (flush0_5 _)) (ix2 r S)
  rw [flushed5] at h
  have h' : (dats m 0 c).arrAt 5 cfg0.N (ix2 ⟨i.val * 272 + r.val, by omega⟩ S) = (outsAt0 m c (pt i).val (pt i).isLt).2.1 (ix2 r S) := by
    refine Eq.trans ?_ h
    blk_point [idx i]
  refine h'.trans ((final_b m c i r S).trans ((pay5 ..).trans (Eq.trans ?_ ((ref_b ..).trans (ref_h ..)).symm)))
  exact congrArg₂ (fun a b : EReal => a + b) (blk_3 m c i r S) (cot_eq m c i r S _ _ _ rfl rfl rfl)

theorem value_w : (dats m 0 c).arrAt 6 cfg0.N = Cert.NormBwdRefIdeal.Read.val_main_v39 (F := Ideal) (X0 m c) (X1 m c) := by
  funext y
  obtain ⟨q, S, rfl⟩ : ∃ (q : Fin 8) (S : Fin 2048), y = ix2 q S := ⟨y 0, y 1, eq_ix2 y⟩
  have h := congrFun ((dats m 0 c).read_blk_arrAt_eq_flushed 6 (Pipeline.Window.hdisj_of_index_inj _ (by decide +kernel)) cfg0.N (pt 7) (pt 7).isLt
    (by decide +kernel)) (ix2 q S)
  rw [flushed6] at h
  have h' : (dats m 0 c).arrAt 6 cfg0.N (ix2 q S) = (outsAt0 m c (pt 7).val (pt 7).isLt).2.2 (ix2 q S) := by
    refine Eq.trans ?_ h
    blk_point [idx 7]
  refine h'.trans ((sofar m c S q _ _).trans (Eq.trans ?_ (ref_w ..).symm))
  by_cases hq : q.val = 0
  · rw [if_pos hq, Parts.sum (show 8 * 272 = 2176 by norm_num)]
    exact Finset.sum_congr rfl fun i _ => (if_pos hq).trans (share_eq m c i S)
  · rw [if_neg hq]
    exact Finset.sum_eq_zero fun i _ => if_neg hq

/-! ### The claims -/

attribute [local instance] Cert.NormBwd.Gen.facts Cert.NormBwdIdeal.Gen.facts Cert.NormBwdRefIdeal.Gen.facts

theorem frame_p : Cert.quiescent_NormBwd := fun m ρ _ => Cert.NormBwd.Gen.frame m ρ

theorem frame_pi : Cert.quiescent_NormBwdIdeal := fun m ρ _ => Cert.NormBwdIdeal.Gen.frame m ρ

theorem frame_ri : Cert.quiescent_NormBwdRefIdeal := fun m ρ _ =>
  (θ_run Cert.NormBwdRefIdeal.defs _ _).mono (fun r h => ⟨fun c => (h c).2.2.2, sem_eq_zero_of_no_sems (by decide) r.2⟩)
    (Cert.NormBwdRefIdeal.Value.run (F := Ideal) m ρ)

theorem algebraic : Cert.algebraic_NormBwdIdeal_NormBwdRefIdeal := by
  intro m ρ m' ρ' _ hagree
  refine ⟨fun c => (dats m 0 c).arrAt 4 cfg0.N, fun c => (dats m 0 c).arrAt 5 cfg0.N, fun c => (dats m 0 c).arrAt 6 cfg0.N,
    run_blocks (F := Ideal) m ρ, ?_⟩
  refine (θ_run Cert.NormBwdRefIdeal.defs _ _).mono (fun _ h c => ?_) (Cert.NormBwdRefIdeal.Value.run (F := Ideal) m' ρ')
  obtain ⟨h0, h1, h2, h3⟩ := h c
  obtain ⟨e0, e1, e2, e3⟩ := hagree c
  rw [Cert.NormBwdRefIdeal.Read.val_main_v36_eq, e0, e1, e2, e3] at h0
  rw [Cert.NormBwdRefIdeal.Read.val_main_v37_eq, e0, e1, e2, e3] at h1
  rw [Cert.NormBwdRefIdeal.Read.val_main_v39_eq, e0, e1] at h2
  exact ⟨h0.trans (value_h m c).symm, h1.trans (value_b m c).symm, h2.trans (value_w m c).symm, h3⟩

end NormB
-- ==== Proof.Loss.lean ====
/-
  The loss at the end of the trunk: each grid point takes a block of rows, norms them, compares the rows of the tokens with
  their targets, computes the cotangent of the rows, and adds the block's share of the gradient of the norm's weights and of
  the loss.
-/
module

public import proofs.«01_k».proof.Defs
public import proofs.«01_k».proof.Proof.Norm
public import proofs.«01_k».proof.Proof.NormB
public import proofs.«01_k».proof.Proof.Parts
public import proofs.«01_k».proof.Proof.Patch
public import proofs.«01_k».proof.Proof.Gen.LossHead.Frame
public import proofs.«01_k».proof.Proof.Gen.LossHeadIdeal.Value
public import proofs.«01_k».proof.Proof.Gen.LossHeadRefIdeal.Read
public import Idealize.ShloMosaic.Lib.Pointwise
public import Idealize.ShloMosaic.Lib.WordCmp
public import Idealize.ShloMosaic.Lib.Pipeline.ValueKit
public import Idealize.ShloMosaic.Lib.StableHlo.RunRead
public import Idealize.ShloMosaic.Lib.Quiescent

@[expose] public section

set_option maxRecDepth 16384

noncomputable section

namespace Loss

open Mlstm Idealize.ShloMosaic Cert.LossHeadIdeal Cert.LossHeadIdeal.Gen Cert.LossHeadIdeal.Value Idealize.ShloMosaic.TcCoe Idealize.SL.Sem
open NormB (scale cot)

section
variable (i : grid0.Coords) (x : Vec Ideal S272x2048 .f32) (w : Vec Ideal S1x2048 .f32) (t : Vec Ideal S272x2048 .f32)
  (a : Vec Ideal S1x2048 .f32) (b : Vec Ideal S8x128 .f32) (r : Fin 272) (s : Fin 2048)

theorem pay10 (n : ℕ) (hn : (i 0).val = n) (hb : n < 8) : k0_pay10 i x w t (ix2 r s)
    = if 16 ≤ n * 272 + r.val ∧ n * 272 + r.val < 2064 then x (ix2 r s) * scale (fun k => x (ix2 r k)) * w (ix2 0 s) - t (ix2 r s) else 0 := by
  subst hn
  pointwise [k0_pay10, k0_pay9, k0_pay8, k0_pay7]
  have h1 : IntOp.addi (Scalar.muli (BitVec.ofNat 32 (i 0).val) 272#32) (BitVec.ofNat 32 r.val)
      = BitVec.ofNat 32 ((i 0).val * 272 + r.val) := by
    show BitVec.ofNat 32 (i 0).val * 272#32 + BitVec.ofNat 32 r.val = _
    rw [BitVec.ofNat_add, BitVec.ofNat_mul]
  have := r.isLt
  rw [h1, WordCmp.cmpi_sge_ofNat (by omega) (by omega), WordCmp.cmpi_slt_ofNat (by omega) (by omega), WordCmp.andi_ofBool,
    ← Bool.decide_and, WordCmp.select_decide]

theorem pay1 : k0_pay1 (k0_pay7 x) (k0_pay12 i x w t) (ix2 r s)
    = cot (fun k => x (ix2 r k)) (fun k => k0_pay10 i x w t (ix2 r k) * Ideal.ofBits .f32 0x3A000000#32 * w (ix2 0 k)) s := by
  pointwise [k0_pay1, k0_pay12, k0_pay11, k0_pay9, k0_pay8, k0_pay7]

theorem pay2 : k0_pay2 (k0_pay7 x) (k0_pay12 i x w t) (ix2 r s) = k0_pay1 (k0_pay7 x) (k0_pay12 i x w t) (ix2 r s) := by
  pointwise [k0_pay2]

theorem pay5 (z : Fin 1) : k0_pay5 (k0_pay8 x) (k0_pay11 i x w t) a (ix2 z s) = a (ix2 z s)
    + ∑ r : Fin 272, k0_pay10 i x w t (ix2 r s) * Ideal.ofBits .f32 0x3A000000#32 * (x (ix2 r s) * scale (fun k => x (ix2 r k))) := by
  pointwise [k0_pay5, k0_pay11, k0_pay8, k0_pay7]

theorem pay6 (p : Vec Ideal S272x2048 .f32) (q : Fin 8) (l : Fin 128) : k0_pay6 p b (ix2 q l) = b (ix2 q l)
    + (∑ r : Fin 272, ∑ k : Fin 2048, p (ix2 r k) * p (ix2 r k)) * Ideal.ofBits .f32 0x39800000#32 := by
  pointwise [k0_pay6]

end

/-! ### The literals -/

theorem ofBits_half : Ideal.ofBits .f32 0x3F000000#32 = ((1 / 2 : ℝ) : EReal) := by
  simp [Ideal.ofBits, Ideal.ieee]
  norm_num
  rw [← EReal.coe_mul]
  norm_num

theorem ofBits_two : Ideal.ofBits .f32 0x40000000#32 = ((2 : ℝ) : EReal) := by
  simp [Ideal.ofBits, Ideal.ieee]
  norm_num
  rw [← EReal.coe_mul]
  norm_num

theorem ofBits_2048th : Ideal.ofBits .f32 0x3A000000#32 = ((1 / 2048 : ℝ) : EReal) := by
  simp [Ideal.ofBits, Ideal.ieee]
  norm_num
  rw [← EReal.coe_mul]
  norm_num

theorem ofBits_4096th : Ideal.ofBits .f32 0x39800000#32 = ((1 / 4096 : ℝ) : EReal) := by
  simp [Ideal.ofBits, Ideal.ieee]
  norm_num
  rw [← EReal.coe_mul]
  norm_num

/-- The cotangent of a row's mean of squares, at an entry. -/
theorem slope (y : EReal) : Ideal.div (Ideal.ofBits .f32 0x3F000000#32) (Ideal.ofBits .f32 0x45000000#32)
    * (Ideal.ofBits .f32 0x40000000#32 * y) = y * Ideal.ofBits .f32 0x3A000000#32 := by
  rw [ofBits_half, ofBits_two, ofBits_2048th, Norm.ofBits_2048, Ideal.div_coe (by norm_num), ← EReal.coe_mul, ← mul_assoc,
    ← EReal.coe_mul, mul_comm]
  congr 2
  norm_num

/-- Half the sum of the rows' means is the whole sum, scaled. -/
theorem halved {n : ℕ} (f : Fin n → EReal) : Ideal.ofBits .f32 0x3F000000#32
    * ∑ p, Ideal.div (f p) (Ideal.ofBits .f32 0x45000000#32) = (∑ p, f p) * Ideal.ofBits .f32 0x39800000#32 := by
  simp only [Norm.ofBits_2048, Ideal.div_coe (show (2048 : ℝ) ≠ 0 by norm_num)]
  rw [Norm.sum_mul f (by norm_num), ofBits_half, ofBits_4096th, mul_comm, mul_assoc, ← EReal.coe_mul]
  congr 2
  norm_num

/-- A sum over all rows, of which only the tokens' rows count. -/
theorem tokens (f : Fin 2176 → EReal) (h : ∀ R, ¬ (16 ≤ R.val ∧ R.val - 16 < 2048) → f R = 0) :
    ∑ p : Fin 2048, f ⟨16 + p.val, by omega⟩ = ∑ R, f R :=
  Fintype.sum_of_injective (fun p : Fin 2048 => (⟨16 + p.val, by omega⟩ : Fin 2176))
    (fun p q e => Fin.ext (by have := congrArg Fin.val e; simp only at this; omega)) _ _
    (fun R hR => h R fun hh => hR ⟨⟨R.val - 16, hh.2⟩, Fin.ext (by show 16 + (R.val - 16) = R.val; omega)⟩) fun p => rfl

/-- The difference from the target, zero beside the tokens. -/
abbrev err (y0 : Vec Ideal S2176x2048 .f32) (y1 : Vec Ideal S2048x2048 .f32) (y2 : Vec Ideal S2048 .f32) (R : Fin 2176) (S : Fin 2048) :
    EReal :=
  if h : 16 ≤ R.val ∧ R.val - 16 < 2048 then
    y0 (ix2 R S) * scale (fun k => y0 (ix2 R k)) * y2 (ix1 S) - y1 (ix2 ⟨R.val - 16, h.2⟩ S)
  else 0

section
open Cert.LossHeadRefIdeal.Read
variable (y0 : Vec Ideal S2176x2048 .f32) (y1 : Vec Ideal S2048x2048 .f32) (y2 : Vec Ideal S2048 .f32) (R : Fin 2176) (S : Fin 2048)

theorem ref_g : val_main_v32 y0 y1 y2 (ix2 R S) = err y0 y1 y2 R S * Ideal.ofBits .f32 0x3A000000#32 := by
  pointwise [val_main_v32, val_main_cst_11, val_main_v31, val_main_v30, val_main_v29, val_main_v28, val_main_cst_10, val_main_v27,
    val_main_v26, val_main_cst_9, val_main_cst_8, val_main_v20, val_main_v19, val_main_cst_3, val_main_v17, val_main_v16, val_main_v15,
    val_main_v14, val_main_v13, val_main_v12, val_main_v11, val_main_v7, val_main_v6, val_main_v5,
    val_main_cst_1, val_main_v4, val_main_v3, val_main_cst_0, val_main_v2, val_main_v1, val_main_cst, val_main_v0]
  by_cases h : 16 ≤ R.val ∧ R.val - 16 < 2048
  · have e : (⟨16 + (R.val - 16), by omega⟩ : Fin 2176) = R := Fin.ext (by show 16 + (R.val - 16) = R.val; omega)
    rw [dif_pos h, err, dif_pos h, slope]
    simp only [e]
  · rw [dif_neg h, err, dif_neg h, zero_mul]

theorem ref_h : val_main_v52 y0 y1 y2 (ix2 R S)
    = cot (fun k => y0 (ix2 R k)) (fun k => val_main_v32 y0 y1 y2 (ix2 R k) * y2 (ix1 k)) S := by
  refine Eq.trans ?_ (Norm.row_lit Norm.ofBits_2048 (by norm_num) Norm.ofBits_eps Norm.ofBits_neg_half
    (fun k => y0 (ix2 R k)) (fun k => val_main_v32 y0 y1 y2 (ix2 R k) * y2 (ix1 k)) S).symm
  pointwise [val_main_v52, val_main_v51, val_main_v50, val_main_v49, val_main_v48, val_main_v47, val_main_cst_16, val_main_v46,
    val_main_v45, val_main_cst_15, val_main_v44, val_main_v43, val_main_v42, val_main_v41, val_main_v40, val_main_cst_14, val_main_v39,
    val_main_v37, val_main_v36, val_main_v13, val_main_v10, val_main_v9, val_main_cst_2, val_main_v8, val_main_v7, val_main_v6, val_main_v5,
    val_main_cst_1, val_main_v4, val_main_v3, val_main_cst_0, val_main_v2, val_main_v1, val_main_cst, val_main_v0]
  rw [Fin.sum_univ_one]

theorem ref_b : val_main_v53 y0 y1 y2 (ix2 R S) = val_main_v52 y0 y1 y2 (ix2 R S) := rfl

theorem ref_w (q : Fin 8) : val_main_v55 y0 y1 y2 (ix2 q S)
    = if q.val = 0 then ∑ R : Fin 2176, val_main_v32 y0 y1 y2 (ix2 R S) * (y0 (ix2 R S) * scale (fun k => y0 (ix2 R k))) else 0 := by
  pointwise [val_main_v55, val_main_v54, val_main_v38, val_main_cst_13, val_main_v35, val_main_v34, val_main_cst_12, val_main_v33,
   val_main_v12, val_main_v11, val_main_v7, val_main_v6, val_main_v5, val_main_c, val_main_call0_v0,
    val_main_cst_1, val_main_v4, val_main_v3, val_main_cst_0, val_main_v2, val_main_v1, val_main_cst, val_main_v0]
  by_cases h : q.val = 0
  · rw [dif_pos (show q.val < 1 by omega), if_pos h, Fin.sum_univ_one]
    exact Finset.sum_congr rfl fun R _ => mul_comm (G := EReal) _ _
  · rw [dif_neg (show ¬ q.val < 1 by omega), if_neg h]
    simp [FloatOps.sitofp]

theorem ref_l (q : Fin 8) (l : Fin 128) : val_main_v56 y0 y1 y2 (ix2 q l)
    = (∑ R : Fin 2176, ∑ k : Fin 2048, err y0 y1 y2 R k * err y0 y1 y2 R k) * Ideal.ofBits .f32 0x39800000#32 := by
  pointwise [val_main_v56, val_main_v25, val_main_cst_7, val_main_v24, val_main_cst_6, val_main_v23, val_main_v22, val_main_cst_5,
    val_main_v21, val_main_cst_4, val_main_v18, val_main_v17, val_main_v16, val_main_v15,
    val_main_v14, val_main_v13, val_main_v12, val_main_v11, val_main_v7, val_main_v6, val_main_v5,
    val_main_cst_1, val_main_v4, val_main_v3, val_main_cst_0, val_main_v2, val_main_v1, val_main_cst, val_main_v0]
  rw [← tokens _ (fun R h => Finset.sum_eq_zero fun k _ => by rw [err, dif_neg h, zero_mul])]
  refine (halved _).trans (congrArg (· * _) (Finset.sum_congr rfl fun p _ => Finset.sum_congr rfl fun k _ => ?_))
  have h : 16 ≤ 16 + p.val ∧ 16 + p.val - 16 < 2048 := by omega
  have e : (⟨16 + p.val - 16, h.2⟩ : Fin 2048) = p := Fin.ext (by show 16 + p.val - 16 = p.val; omega)
  rw [err, dif_pos h, e]

end

variable (m : (ℓ : Loc nD τ sig) → Buf (Elt Ideal) ℓ) (c : Dev nD)

/-- The grid point of a tile of rows. -/
def pt (i : Fin 8) : Fin cfg0.N := ⟨i.val, by show _ < 8; omega⟩

/-- Which block of each array a grid point reads or writes. -/
theorem idx : ∀ i, win0_0.index (pt i) = ![i.val, 0] ∧ win0_1.index (pt i) = ![i.val, 0]
    ∧ win0_2.index (pt i) = ![0, 0] ∧ win0_3.index (pt i) = ![i.val, 0]
    ∧ win0_4.index (pt i) = ![i.val, 0] ∧ win0_5.index (pt i) = ![0, 0] ∧ win0_6.index (pt i) = ![0, 0] := by decide +kernel

theorem at_tile : ∀ i : Fin 8, (grid0.coords (pt i) 0).val = i.val := by decide +kernel

abbrev X0 : Vec Ideal S2176x2048 .f32 := m ((c : Thread nD τ).loc main_arg0)
abbrev X1 : Vec Ideal S2048x2048 .f32 := m ((c : Thread nD τ).loc main_arg1)
abbrev X2 : Vec Ideal S2048 .f32 := m ((c : Thread nD τ).loc main_arg2)

theorem V_t : V m c main_v0 = pad S2176x2048 ![16, 0] ![112, 0] ![0, 0] (X1 m c) (sitofp (F := Ideal) .f32 (constantI S_ 32 0#32))
    pads_S2048x2048_S2176x2048_161120_000 h_S_ := by
  unfold V
  simp only [hostOps0, hostOps0_1, hostOps0_2, List.flatten_cons, List.flatten_nil, List.append_nil, List.cons_append, List.nil_append]
  after_reads_simp
  rfl

theorem V_w : V m c main_v1 = broadcastInDim S1x2048 ![1] bcast_S2048_S1x2048_1 (X2 m c) := by
  unfold V
  simp only [hostOps0, hostOps0_1, hostOps0_2, List.flatten_cons, List.flatten_nil, List.append_nil, List.cons_append, List.nil_append]
  after_reads_simp

variable (i : Fin 8) (r : Fin 272) (s : Fin 2048)

/-- The target of a token's row. -/
theorem t_at (R : Fin 2176) (h : 16 ≤ R.val ∧ R.val - 16 < 2048) : V m c main_v0 (ix2 R s) = X1 m c (ix2 ⟨R.val - 16, h.2⟩ s) := by
  rw [V_t]
  pointwise
  rw [dif_pos h]

theorem w_at : V m c main_v1 (ix2 0 s) = X2 m c (ix1 s) := by
  rw [V_w]
  pointwise

/-- A tile's row. -/
abbrev row : Fin 2176 := ⟨i.val * 272 + r.val, by omega⟩

theorem blk_0 : iblk m c 0 (pt i) (ix2 r s) = X0 m c (ix2 (row i r) s) := by
  blk_point [iblk, V, idx i]

theorem blk_t : iblk m c 1 (pt i) (ix2 r s) = V m c main_v0 (ix2 (row i r) s) := by
  blk_point [iblk, idx i]

theorem blk_w : iblk m c 2 (pt i) (ix2 0 s) = V m c main_v1 (ix2 0 s) := by
  blk_point [iblk, idx i]

theorem blk_2 : iblk m c 2 (pt i) (ix2 0 s) = X2 m c (ix1 s) := (blk_w m c i s).trans (w_at m c s)

/-- A tile's differences, from the arrays. -/
abbrev tile (t : Fin cfg0.N) : FVec Ideal S272x2048 .f32 := k0_pay10 (grid0.coords t) (iblk m c 0 t) (iblk m c 2 t) (iblk m c 1 t)

theorem tile_eq : tile m c (pt i) (ix2 r s) = err (X0 m c) (X1 m c) (X2 m c) (row i r) s := by
  refine (pay10 _ _ _ _ r s i.val (at_tile i) i.isLt).trans ?_
  by_cases h : 16 ≤ (row i r).val ∧ (row i r).val - 16 < 2048
  · rw [if_pos (show 16 ≤ i.val * 272 + r.val ∧ i.val * 272 + r.val < 2064 from ⟨h.1, by have := h.2; simp only [row] at this; omega⟩), err, dif_pos h]
    exact congrArg₂ (fun a b : EReal => a - b) (congrArg₂ (fun a b : EReal => a * b) (congrArg₂ (fun a b : EReal => a * b) (blk_0 m c i r s)
      (congrArg scale (funext fun k => blk_0 m c i r k))) (blk_2 m c i s)) ((blk_t m c i r s).trans (t_at m c s _ h))
  · rw [if_neg (fun h' => h ⟨h'.1, by have := h'.2; show i.val * 272 + r.val - 16 < 2048; omega⟩), err, dif_neg h]

/-- A row's cotangent, from the arrays. -/
theorem cot_eq (x : Vec Ideal S272x2048 .f32) (w : Vec Ideal S1x2048 .f32) (hx : x = iblk m c 0 (pt i))
    (hw : w = iblk m c 2 (pt i)) :
    cot (fun k => x (ix2 r k)) (fun k => tile m c (pt i) (ix2 r k) * Ideal.ofBits .f32 0x3A000000#32 * w (ix2 0 k)) s
    = cot (fun k => X0 m c (ix2 (row i r) k))
        (fun k => err (X0 m c) (X1 m c) (X2 m c) (row i r) k * Ideal.ofBits .f32 0x3A000000#32 * X2 m c (ix1 k)) s := by
  subst hx hw
  have h1 := funext fun k => blk_0 m c i r k
  have h2 := funext fun k => congrArg₂ (fun a b : EReal => a * b) (congrArg (· * Ideal.ofBits .f32 0x3A000000#32) (tile_eq m c i r k))
    (blk_2 m c i k)
  exact congrFun (congrArg₂ cot h1 h2) s

theorem final_h : (outsAt0 m c (pt i).val (pt i).isLt).1 (ix2 r s)
    = k0_pay1 (k0_pay7 (iblk m c 0 (pt i))) (k0_pay12 (grid0.coords (pt i)) (iblk m c 0 (pt i)) (iblk m c 2 (pt i)) (iblk m c 1 (pt i)))
      (ix2 r s) := by
  by_cases h0 : (pt i).val % 8 = 0
  · rw [outsAt0_A m c _ h0]
    frame_out
  · rw [outsAt0_B m c _ h0]
    frame_out

theorem final_b : (outsAt0 m c (pt i).val (pt i).isLt).2.1 (ix2 r s)
    = k0_pay2 (k0_pay7 (iblk m c 0 (pt i))) (k0_pay12 (grid0.coords (pt i)) (iblk m c 0 (pt i)) (iblk m c 2 (pt i)) (iblk m c 1 (pt i)))
      (ix2 r s) := by
  by_cases h0 : (pt i).val % 8 = 0
  · rw [outsAt0_A m c _ h0]
    frame_out
  · rw [outsAt0_B m c _ h0]
    frame_out

/-- A block's share of the gradient of a weight. -/
abbrev share (x p : Vec Ideal S272x2048 .f32) : EReal :=
  ∑ r : Fin 272, p (ix2 r s) * Ideal.ofBits .f32 0x3A000000#32 * (x (ix2 r s) * scale (fun k => x (ix2 r k)))

/-- What a grid point adds to the gradient of the weights. -/
abbrev at_ (t : Fin cfg0.N) (q : Fin 8) : EReal := if q.val = 0 then share s (iblk m c 0 t) (tile m c t) else 0

variable (q : Fin 8) (l : Fin 128)

theorem first (t : Fin cfg0.N) (h : t.val % 8 = 0) : (outsAt0 m c t.val t.isLt).2.2.1 (ix2 q s) = at_ m c s t q := by
  rw [outsAt0_A m c t h]
  frame_out
  rw [canon_patch, readCov_whole]
  by_cases hq : q.val = 0
  · rw [patch_in _ _ _ 0 s q s (by simpa using hq) (Nat.zero_add _).symm, pay5, ld_at _ _ _ _ q s (by simpa using hq) (Nat.zero_add _).symm]
    pointwise [k0_pay3, at_]
    rw [if_pos hq]
  · rw [patch_out _ _ _ q s (.inl (.inr (by show 0 + 1 ≤ _; omega)))]
    pointwise [k0_pay3, at_]
    rw [if_neg hq]

theorem next (t : Fin cfg0.N) (h : ¬ t.val % 8 = 0) : (outsAt0 m c t.val t.isLt).2.2.1 (ix2 q s)
    = (outsAt0 m c (t.val - 1) (Nat.lt_of_le_of_lt (Nat.sub_le _ _) t.isLt)).2.2.1 (ix2 q s) + at_ m c s t q := by
  rw [outsAt0_B m c t h]
  frame_out
  rw [read_patch, Memref.IsWhole.read_unread]
  by_cases hq : q.val = 0
  · rw [patch_in _ _ _ 0 s q s (by simpa using hq) (Nat.zero_add _).symm, pay5, ld_at _ _ _ _ q s (by simpa using hq) (Nat.zero_add _).symm,
      at_, if_pos hq]
  · rw [patch_out _ _ _ q s (.inl (.inr (by show 0 + 1 ≤ _; omega))), at_, if_neg hq, add_zero]

/-- What a grid point adds to the loss. -/
abbrev part (t : Fin cfg0.N) : EReal :=
  (∑ r : Fin 272, ∑ k : Fin 2048, tile m c t (ix2 r k) * tile m c t (ix2 r k)) * Ideal.ofBits .f32 0x39800000#32

theorem first_l (t : Fin cfg0.N) (h : t.val % 8 = 0) : (outsAt0 m c t.val t.isLt).2.2.2 (ix2 q l) = part m c t := by
  rw [outsAt0_A m c t h]
  frame_out
  rw [pay6]
  pointwise [k0_pay4]

theorem next_l (t : Fin cfg0.N) (h : ¬ t.val % 8 = 0) : (outsAt0 m c t.val t.isLt).2.2.2 (ix2 q l)
    = (outsAt0 m c (t.val - 1) (Nat.lt_of_le_of_lt (Nat.sub_le _ _) t.isLt)).2.2.2 (ix2 q l) + part m c t := by
  rw [outsAt0_B m c t h]
  frame_out
  rw [pay6]

/-- Sums over the points so far, of what starts with the first point's share and grows by each later point's. -/
theorem grows (f : (n : ℕ) → n < cfg0.N → EReal) (g : Fin cfg0.N → EReal) (h0 : f 0 (by decide) = g ⟨0, by decide⟩)
    (h1 : ∀ n (hn : n + 1 < cfg0.N), f (n + 1) hn = f n (Nat.lt_of_succ_lt hn) + g ⟨n + 1, hn⟩) (n : ℕ) (hn : n < cfg0.N) :
    f n hn = ∑ i : Fin (n + 1), g ⟨i.val, Nat.lt_of_lt_of_le i.isLt hn⟩ := by
  induction n with
  | zero => rw [Fin.sum_univ_one]; exact h0
  | succ n ih => rw [Fin.sum_univ_castSucc, h1 n hn, ih]; rfl

theorem sofar (n : ℕ) (hn : n < cfg0.N) : (outsAt0 m c n hn).2.2.1 (ix2 q s)
    = ∑ i : Fin (n + 1), at_ m c s ⟨i.val, Nat.lt_of_lt_of_le i.isLt hn⟩ q :=
  grows (fun n hn => (outsAt0 m c n hn).2.2.1 (ix2 q s)) (fun t => at_ m c s t q) (first m c s q ⟨0, by decide⟩ rfl)
    (fun n hn => next m c s q ⟨n + 1, hn⟩ (by have : n + 1 < 8 := hn; show ¬ (n + 1) % 8 = 0; omega)) n hn

theorem sofar_l (n : ℕ) (hn : n < cfg0.N) : (outsAt0 m c n hn).2.2.2 (ix2 q l)
    = ∑ i : Fin (n + 1), part m c ⟨i.val, Nat.lt_of_lt_of_le i.isLt hn⟩ :=
  grows (fun n hn => (outsAt0 m c n hn).2.2.2 (ix2 q l)) (part m c) (first_l m c q l ⟨0, by decide⟩ rfl)
    (fun n hn => next_l m c q l ⟨n + 1, hn⟩ (by have : n + 1 < 8 := hn; show ¬ (n + 1) % 8 = 0; omega)) n hn

theorem share_eq : share s (iblk m c 0 (pt i)) (tile m c (pt i))
    = ∑ r : Fin 272, err (X0 m c) (X1 m c) (X2 m c) (row i r) s * Ideal.ofBits .f32 0x3A000000#32
        * (X0 m c (ix2 (row i r) s) * scale (fun k => X0 m c (ix2 (row i r) k))) :=
  Finset.sum_congr rfl fun r _ => congrArg₂ (fun a b : EReal => a * b) (congrArg (· * Ideal.ofBits .f32 0x3A000000#32) (tile_eq m c i r s))
    (congrArg₂ (fun a b : EReal => a * b) (blk_0 m c i r s) (congrArg scale (funext fun k => blk_0 m c i r k)))

theorem part_eq : part m c (pt i) = (∑ r : Fin 272, ∑ k : Fin 2048, err (X0 m c) (X1 m c) (X2 m c) (row i r) k
    * err (X0 m c) (X1 m c) (X2 m c) (row i r) k) * Ideal.ofBits .f32 0x39800000#32 :=
  congrArg (· * Ideal.ofBits .f32 0x39800000#32) (Finset.sum_congr rfl fun r _ => Finset.sum_congr rfl fun k _ =>
    congrArg (fun a : EReal => a * a) (tile_eq m c i r k))

/-- The reference's cotangent of a row, with its own differences. -/
theorem ref_cot (y0 : Vec Ideal S2176x2048 .f32) (y1 : Vec Ideal S2048x2048 .f32) (y2 : Vec Ideal S2048 .f32) (R : Fin 2176) :
    Cert.LossHeadRefIdeal.Read.val_main_v52 (F := Ideal) y0 y1 y2 (ix2 R s)
    = cot (fun k => y0 (ix2 R k)) (fun k => err y0 y1 y2 R k * Ideal.ofBits .f32 0x3A000000#32 * y2 (ix1 k)) s := by
  rw [ref_h]
  simp only [ref_g]

theorem value_h : (dats m 0 c).arrAt 3 cfg0.N
    = Cert.LossHeadRefIdeal.Read.val_main_v52 (F := Ideal) (X0 m c) (X1 m c) (X2 m c) := by
  funext y
  obtain ⟨R, S, rfl⟩ : ∃ (R : Fin 2176) (S : Fin 2048), y = ix2 R S := ⟨y 0, y 1, eq_ix2 y⟩
  obtain ⟨i, r, rfl⟩ := Parts.split (a := 8) (b := 272) (by norm_num) R
  have h := congrFun (blocks3 m c (pt i) (flush0_3 _)) (ix2 r S)
  rw [flushed3] at h
  have h' : (dats m 0 c).arrAt 3 cfg0.N (ix2 (row i r) S) = (outsAt0 m c (pt i).val (pt i).isLt).1 (ix2 r S) := by
    refine Eq.trans ?_ h
    blk_point [idx i]
  exact h'.trans ((final_h m c i r S).trans ((pay1 ..).trans ((cot_eq m c i r S _ _ rfl rfl).trans (ref_cot ..).symm)))

theorem value_b : (dats m 0 c).arrAt 4 cfg0.N
    = Cert.LossHeadRefIdeal.Read.val_main_v53 (F := Ideal) (X0 m c) (X1 m c) (X2 m c) := by
  funext y
  obtain ⟨R, S, rfl⟩ : ∃ (R : Fin 2176) (S : Fin 2048), y = ix2 R S := ⟨y 0, y 1, eq_ix2 y⟩
  obtain ⟨i, r, rfl⟩ := Parts.split (a := 8) (b := 272) (by norm_num) R
  have h := congrFun (blocks4 m c (pt i) (flush0_4 _)) (ix2 r S)
  rw [flushed4] at h
  have h' : (dats m 0 c).arrAt 4 cfg0.N (ix2 (row i r) S) = (outsAt0 m c (pt i).val (pt i).isLt).2.1 (ix2 r S) := by
    refine Eq.trans ?_ h
    blk_point [idx i]
  exact h'.trans ((final_b m c i r S).trans ((pay2 ..).trans ((pay1 ..).trans ((cot_eq m c i r S _ _ rfl rfl).trans
    ((ref_b ..).trans (ref_cot ..)).symm))))

theorem value_w : (dats m 0 c).arrAt 5 cfg0.N = Cert.LossHeadRefIdeal.Read.val_main_v55 (F := Ideal) (X0 m c) (X1 m c) (X2 m c) := by
  funext y
  obtain ⟨q, S, rfl⟩ : ∃ (q : Fin 8) (S : Fin 2048), y = ix2 q S := ⟨y 0, y 1, eq_ix2 y⟩
  have h := congrFun ((dats m 0 c).read_blk_arrAt_eq_flushed 5 (Pipeline.Window.hdisj_of_index_inj _ (by decide +kernel)) cfg0.N (pt 7) (pt 7).isLt
    (by decide +kernel)) (ix2 q S)
  rw [flushed5] at h
  have h' : (dats m 0 c).arrAt 5 cfg0.N (ix2 q S) = (outsAt0 m c (pt 7).val (pt 7).isLt).2.2.1 (ix2 q S) := by
    refine Eq.trans ?_ h
    blk_point [idx 7]
  refine h'.trans ((sofar m c S q _ _).trans (Eq.trans ?_ (ref_w ..).symm))
  by_cases hq : q.val = 0
  · rw [if_pos hq, Parts.sum (show 8 * 272 = 2176 by norm_num)]
    simp only [ref_g]
    exact Finset.sum_congr rfl fun i _ => (if_pos hq).trans (share_eq m c i S)
  · rw [if_neg hq]
    exact Finset.sum_eq_zero fun i _ => if_neg hq

theorem value_l : (dats m 0 c).arrAt 6 cfg0.N = Cert.LossHeadRefIdeal.Read.val_main_v56 (F := Ideal) (X0 m c) (X1 m c) (X2 m c) := by
  funext y
  obtain ⟨q, l, rfl⟩ : ∃ (q : Fin 8) (l : Fin 128), y = ix2 q l := ⟨y 0, y 1, eq_ix2 y⟩
  have h := congrFun ((dats m 0 c).read_blk_arrAt_eq_flushed 6 (Pipeline.Window.hdisj_of_index_inj _ (by decide +kernel)) cfg0.N (pt 7) (pt 7).isLt
    (by decide +kernel)) (ix2 q l)
  rw [flushed6] at h
  have h' : (dats m 0 c).arrAt 6 cfg0.N (ix2 q l) = (outsAt0 m c (pt 7).val (pt 7).isLt).2.2.2 (ix2 q l) := by
    refine Eq.trans ?_ h
    blk_point [idx 7]
  refine h'.trans ((sofar_l m c q l _ _).trans (Eq.trans ?_ (ref_l ..).symm))
  rw [Parts.sum (show 8 * 272 = 2176 by norm_num), ofBits_4096th, ← Norm.sum_mul _ (by norm_num)]
  refine Finset.sum_congr rfl fun i _ => (part_eq m c i).trans ?_
  rw [ofBits_4096th]

/-! ### The claims -/

attribute [local instance] Cert.LossHead.Gen.facts Cert.LossHeadIdeal.Gen.facts Cert.LossHeadRefIdeal.Gen.facts

theorem frame_p : Cert.quiescent_LossHead := fun m ρ _ => Cert.LossHead.Gen.frame m ρ

theorem frame_pi : Cert.quiescent_LossHeadIdeal := fun m ρ _ => Cert.LossHeadIdeal.Gen.frame m ρ

theorem frame_ri : Cert.quiescent_LossHeadRefIdeal := fun m ρ _ =>
  (θ_run Cert.LossHeadRefIdeal.defs _ _).mono (fun r h => ⟨fun c => (h c).2.2.2.2, sem_eq_zero_of_no_sems (by decide) r.2⟩)
    (Cert.LossHeadRefIdeal.Value.run (F := Ideal) m ρ)

theorem algebraic : Cert.algebraic_LossHeadIdeal_LossHeadRefIdeal := by
  intro m ρ m' ρ' _ hagree
  refine ⟨fun c => (dats m 0 c).arrAt 3 cfg0.N, fun c => (dats m 0 c).arrAt 4 cfg0.N, fun c => (dats m 0 c).arrAt 5 cfg0.N,
    fun c => (dats m 0 c).arrAt 6 cfg0.N, run_blocks (F := Ideal) m ρ, ?_⟩
  refine (θ_run Cert.LossHeadRefIdeal.defs _ _).mono (fun _ h c => ?_) (Cert.LossHeadRefIdeal.Value.run (F := Ideal) m' ρ')
  obtain ⟨h0, h1, h2, h3, h4⟩ := h c
  obtain ⟨e0, e1, e2⟩ := hagree c
  rw [Cert.LossHeadRefIdeal.Read.val_main_v52_eq, e0, e1, e2] at h0
  rw [Cert.LossHeadRefIdeal.Read.val_main_v53_eq, e0, e1, e2] at h1
  rw [Cert.LossHeadRefIdeal.Read.val_main_v55_eq, e0, e1, e2] at h2
  rw [Cert.LossHeadRefIdeal.Read.val_main_v56_eq, e0, e1, e2] at h3
  exact ⟨h0.trans (value_h m c).symm, h1.trans (value_b m c).symm, h2.trans (value_w m c).symm, h3.trans (value_l m c).symm, h4⟩

end Loss
-- ==== Proof.Small.lean ====
/-
  The optimiser's step of the packed small parameters: one call, entry by entry, of the packed gradients, weights and moments.
-/
module

public import proofs.«01_k».proof.Defs
public import proofs.«01_k».proof.Proof.Gen.AdamSmall.Frame
public import proofs.«01_k».proof.Proof.Gen.AdamSmallIdeal.Value
public import proofs.«01_k».proof.Proof.Gen.AdamSmallRefIdeal.Read
public import Idealize.ShloMosaic.Lib.Quiescent

@[expose] public section

set_option maxRecDepth 16384

noncomputable section

namespace Small

open Idealize.ShloMosaic Cert.AdamSmallIdeal Cert.AdamSmallIdeal.Value Idealize.ShloMosaic.TcCoe Idealize.SL.Sem

variable (g w p q : Vec Ideal S176x128 .f32)

open Cert.AdamSmallRefIdeal.Read

theorem delta : G4 (F := Ideal) w g p q = val_main_v23 (F := Ideal) g w p q := rfl

theorem mean : G5 (F := Ideal) g p = val_main_v4 (F := Ideal) g p := rfl

theorem square : G6 (F := Ideal) g q = val_main_v10 (F := Ideal) g q := rfl

/-! ### The claims -/

attribute [local instance] Cert.AdamSmall.Gen.facts Cert.AdamSmallIdeal.Gen.facts Cert.AdamSmallRefIdeal.Gen.facts

theorem frame_p : Cert.quiescent_AdamSmall := fun m ρ _ => Cert.AdamSmall.Gen.frame m ρ

theorem frame_pi : Cert.quiescent_AdamSmallIdeal := fun m ρ _ => Cert.AdamSmallIdeal.Gen.frame m ρ

theorem frame_ri : Cert.quiescent_AdamSmallRefIdeal := fun m ρ _ =>
  (θ_run Cert.AdamSmallRefIdeal.defs _ _).mono (fun r h => ⟨fun c => (h c).2.2.2, sem_eq_zero_of_no_sems (by decide) r.2⟩)
    (Cert.AdamSmallRefIdeal.Value.run (F := Ideal) m ρ)

theorem algebraic : Cert.algebraic_AdamSmallIdeal_AdamSmallRefIdeal := by
  intro m ρ m' ρ' hpre hagree
  refine ⟨_, _, _, run (F := Ideal) m ρ, ?_⟩
  refine (θ_run Cert.AdamSmallRefIdeal.defs _ _).mono (fun _ h c => ?_) (Cert.AdamSmallRefIdeal.Value.run (F := Ideal) m' ρ')
  obtain ⟨h0, h1, h2, h3⟩ := h c
  obtain ⟨e0, e1, e2, e3⟩ := hagree c
  rw [val_main_v23_eq, e0, e1, e2, e3] at h0
  rw [val_main_v4_eq, e0, e2] at h1
  rw [val_main_v10_eq, e0, e3] at h2
  exact ⟨h0.trans (delta ..).symm, h1.trans (mean ..).symm, h2.trans (square ..).symm, h3⟩

end Small
-- ==== Proof.Adam.lean ====
/-
  The optimiser's formulas at one entry, and the clipping of a block's number between the first and the last.
-/
module

public import proofs.«01_k».proof.Defs
public import Idealize.ShloMosaic.Lib.Pointwise
public import Idealize.ShloMosaic.Lib.Pipeline.ValueKit

@[expose] public section

noncomputable section

namespace Adam

open Idealize.ShloMosaic

/-- The running mean of a gradient's entry. -/
def mean (g p : EReal) : EReal := Ideal.ofBits FTy.f32 1063675494#32 * p + Ideal.ofBits FTy.f32 1036831949#32 * g

/-- The running mean of its square. -/
def square (g q : EReal) : EReal := Ideal.ofBits FTy.f32 1065336439#32 * q + Ideal.ofBits FTy.f32 981668463#32 * (g * g)

/-- The step of a weight's entry. -/
def step (g w p q : EReal) : EReal :=
  Ideal.ofBits FTy.f32 3129152111#32 *
    (Ideal.div (Ideal.div (mean g p) (Ideal.ofBits FTy.f32 1059503362#32))
        (Ideal.sqrt (Ideal.div (square g q) (Ideal.ofBits FTy.f32 1008933580#32)) + Ideal.ofBits FTy.f32 841731191#32) +
      Ideal.ofBits FTy.f32 1008981770#32 * w)

theorem maxsi_zero (x : BitVec 32) : Scalar.maxsi 0#32 x = 0#32 ∨ (Scalar.maxsi 0#32 x = x ∧ ¬ x.slt 0#32 = true) := by
  by_cases h : x.slt 0#32 = true
  · exact .inl (if_pos h)
  · exact .inr ⟨if_neg h, h⟩

/-- A block's number clipped between 0 and the last. -/
theorem held (l : Nat) (hl : l < 2 ^ 31) (x : BitVec 32) :
    (Scalar.minsi (BitVec.ofNat 32 l) (Scalar.maxsi 0#32 x)).toNat ≤ l := by
  have hn : (BitVec.ofNat 32 l).toNat = l := by
    rw [BitVec.toNat_ofNat]
    omega
  have h0 : (0#32 : BitVec 32).toInt = 0 := by decide
  have hi : (BitVec.ofNat 32 l).toInt = l := by
    rw [BitVec.toInt_eq_toNat_cond, hn]
    split <;> omega
  rcases maxsi_zero x with e | ⟨e, h⟩
  · rw [e]
    by_cases h' : (BitVec.ofNat 32 l).slt 0#32 = true
    · have e' : Scalar.minsi (BitVec.ofNat 32 l) 0#32 = BitVec.ofNat 32 l := if_pos h'
      rw [e', hn]
    · have e' : Scalar.minsi (BitVec.ofNat 32 l) 0#32 = 0#32 := if_neg h'
      rw [e']
      exact Nat.zero_le _
  · rw [e]
    by_cases h' : (BitVec.ofNat 32 l).slt x = true
    · have e' : Scalar.minsi (BitVec.ofNat 32 l) x = BitVec.ofNat 32 l := if_pos h'
      rw [e', hn]
    · have e' : Scalar.minsi (BitVec.ofNat 32 l) x = x := if_neg h'
      rw [e']
      simp only [BitVec.slt, hi, h0, decide_eq_true_eq] at h h'
      rw [BitVec.toInt_eq_toNat_cond] at h h'
      split at h <;> omega

/-- A word that is zero or one. -/
theorem either (x : BitVec 32) (h : IntOp.ori (IntOp.cmpi .eq x 0#32) (IntOp.cmpi .eq x 1#32) = 1#1) : ∃ p : Fin 2, x = BitVec.ofNat 32 p.val := by
  by_cases h0 : x = 0#32
  · exact ⟨0, h0⟩
  · by_cases h1 : x = 1#32
    · exact ⟨1, h1⟩
    · have a : (x == 0#32) = false := beq_false_of_ne h0
      have b : (x == 1#32) = false := beq_false_of_ne h1
      have e : IntOp.ori (BitVec.ofBool (x == 0#32)) (BitVec.ofBool (x == 1#32)) = 1#1 := h
      rw [a, b] at e
      exact absurd e (by decide)

end Adam
-- ==== Proof.Gate0.lean ====
/-
  The optimiser's step of the second layer (the first the call meets) of a weight of the SwiGLU's first half, block of rows by block of rows.
-/
module

public import proofs.«01_k».proof.Defs
public import proofs.«01_k».proof.Proof.Parts
public import proofs.«01_k».proof.Proof.Adam
public import proofs.«01_k».proof.Proof.Gen.AdamGate0.Frame
public import proofs.«01_k».proof.Proof.Gen.AdamGate0Ideal.Frame
public import proofs.«01_k».proof.Proof.Gen.AdamGate0RefIdeal.Read
public import proofs.«01_k».proof.Proof.Gen.Pre_core_gate0
public import Idealize.ShloMosaic.Lib.Pointwise
public import Idealize.ShloMosaic.Lib.Pipeline.ValueKit
public import Idealize.ShloMosaic.Lib.StableHlo.RunRead
public import Idealize.ShloMosaic.Lib.Quiescent

@[expose] public section

set_option maxRecDepth 16384

noncomputable section

namespace Gate0

open Idealize.ShloMosaic Cert.AdamGate0Ideal Cert.AdamGate0Ideal.Gen Idealize.ShloMosaic.TcCoe Idealize.SL.Sem

section
variable {F : FTy → Type} [FloatOps F]

/-- The blocks lie inside the arrays, whatever the table holds. -/
theorem ok (m : (ℓ : Loc nD τ sig) → Buf (Elt F) ℓ) : Ok m := by
  unfold Ok
  rw [ok0.eq_1]
  constructor <;> intro i <;> refine ⟨fun a => ?_, .inl rfl⟩
  · match a with
    | ⟨0, _⟩ => exact Nat.le_trans (Nat.mul_le_mul_right _ (Nat.add_le_add_right (Adam.held 7 (by norm_num) _) 1)) (by show (7 + 1) * 128 ≤ 1024; omega)
    | ⟨1, _⟩ => exact Nat.le_of_eq rfl
  · match a with
    | ⟨0, _⟩ => exact Nat.le_trans (Nat.mul_le_mul_right _ (Nat.add_le_add_right (Adam.held 7 (by norm_num) _) 1)) (by show (7 + 1) * 128 ≤ 1024; omega)
    | ⟨1, _⟩ => exact Nat.le_of_eq rfl

end

variable (m : (ℓ : Loc nD τ sig) → Buf (Elt Ideal) ℓ) (c : Dev nD)

/-- The grid point of a tile of rows. -/
def pt (i : Fin 16) : Fin grid0.N := ⟨i.val, by show _ < 16; omega⟩

abbrev X0 : Vec Ideal S1024x1408 .f32 := m ((c : Thread nD τ).loc main_arg0)
abbrev X1 : Vec Ideal S1024x1408 .f32 := m ((c : Thread nD τ).loc main_arg1)
abbrev X2 : Vec Ideal S2x2048x1408 .f32 := m ((c : Thread nD τ).loc main_arg2)
abbrev X3 : Vec Ideal S2x2048x1408 .f32 := m ((c : Thread nD τ).loc main_arg3)
abbrev X4 : Vec Ideal S2x2048x1408 .f32 := m ((c : Thread nD τ).loc main_arg4)
abbrev X5 : Vec Ideal S5 .i32 := m ((c : Thread nD τ).loc main_arg5)

variable (i : Fin 16) (r : Fin 128) (s : Fin 1408)

theorem idx_2 : ((cfgM m (ok m)).win 2).index (pt i) = ![1, i.val, 0] := by
  show cc0_transform_2 (grid0.coords (pt i)) = _
  revert i
  decide +kernel

theorem idx_3 : ((cfgM m (ok m)).win 3).index (pt i) = ![1, i.val, 0] := idx_2 m i

theorem idx_4 : ((cfgM m (ok m)).win 4).index (pt i) = ![1, i.val, 0] := idx_2 m i

theorem idx_5 : ((cfgM m (ok m)).win 5).index (pt i) = ![1, i.val, 0] := idx_2 m i

theorem idx_6 : ((cfgM m (ok m)).win 6).index (pt i) = ![1, i.val, 0] := idx_2 m i

theorem idx_7 : ((cfgM m (ok m)).win 7).index (pt i) = ![1, i.val, 0] := idx_2 m i

theorem idx_8 : ((cfgM m (ok m)).win 8).index (pt i) = ![1, i.val, 0] := idx_2 m i

theorem blk_2 : iblk m (ok m) c 2 (pt i) (ix3 0 r s) = X2 m c (ix3 1 ⟨i.val * 128 + r.val, by omega⟩ s) := by
  blk_point [iblk, V, idx_2 m i]

theorem blk_3 : iblk m (ok m) c 3 (pt i) (ix3 0 r s) = X3 m c (ix3 1 ⟨i.val * 128 + r.val, by omega⟩ s) := by
  blk_point [iblk, V, idx_3 m i]

theorem blk_4 : iblk m (ok m) c 4 (pt i) (ix3 0 r s) = X4 m c (ix3 1 ⟨i.val * 128 + r.val, by omega⟩ s) := by
  blk_point [iblk, V, idx_4 m i]

theorem blk_0 (k : Fin 8) (h : ((cfgM m (ok m)).win 0).index (pt i) = ![k.val, 0]) :
    iblk m (ok m) c 0 (pt i) (ix2 r s) = X0 m c (ix2 ⟨k.val * 128 + r.val, by omega⟩ s) := by
  blk_point [iblk, V, h]

theorem blk_1 (k : Fin 8) (h : ((cfgM m (ok m)).win 1).index (pt i) = ![k.val, 0]) :
    iblk m (ok m) c 1 (pt i) (ix2 r s) = X1 m c (ix2 ⟨k.val * 128 + r.val, by omega⟩ s) := by
  blk_point [iblk, V, h]

theorem word : tbl m 0 (ix1 0) = X5 m c (ix1 0) := by
  obtain rfl : c = 0 := Subsingleton.elim _ _
  rfl

theorem table (inb : ∀ a, (![0] : Fin 1 → Nat) a + S1.size a ≤ S5.size a) (n : S1.numel = 1) :
    (tbl m).at 0 (Rect.unit (s := S5) ![0] S1.size inb) n = X5 m c (ix1 0) := by
  obtain rfl : c = 0 := Subsingleton.elim _ _
  show X5 m 0 ((Rect.unit (s := S5) ![0] S1.size inb).emb (Shape.Idx.first (n.symm ▸ Nat.one_pos))) = X5 m 0 (ix1 0)
  refine congrArg (X5 m 0) ?_
  funext a
  obtain rfl : a = 0 := Subsingleton.elim _ _
  exact Fin.ext rfl

/-- Which block of a core's half of the gradient a tile reads, on either core. -/
theorem idx_0 (p : Fin 2) (h : X5 m c (ix1 0) = BitVec.ofNat 32 p.val) :
    ((cfgM m (ok m)).win 0).index (pt i) = ![min 7 (i.val - 8 * p.val), 0] := by
  show cc0_transform_0 _ _ (tbl m) (grid0.coords (pt i)) = _
  unfold cc0_transform_0
  rw [table m c, h]
  clear h
  revert i p
  decide +kernel

theorem idx_1 (p : Fin 2) (h : X5 m c (ix1 0) = BitVec.ofNat 32 p.val) :
    ((cfgM m (ok m)).win 1).index (pt i) = ![min 7 (i.val - 8 * (1 - p.val)), 0] := by
  show cc0_transform_1 _ _ (tbl m) (grid0.coords (pt i)) = _
  unfold cc0_transform_1
  rw [table m c, h]
  clear h
  revert i p
  decide +kernel

/-- The half a tile takes its gradient from. -/
theorem chosen (p : Fin 2) (x y : Vec Ideal S128x1408 .f32) :
    k0_pay6 (grid0.coords (pt i)) (BitVec.ofNat 32 p.val) x y = if i.val / 8 = p.val then x else y := by
  fin_cases p <;> fin_cases i <;> rfl

abbrev pick : Vec Ideal S128x1408 .f32 :=
  k0_pay6 (grid0.coords (pt i)) (X5 m c (ix1 0)) (iblk m (ok m) c 0 (pt i)) (iblk m (ok m) c 1 (pt i))

theorem picked : k0_pay6 (grid0.coords (pt i)) ((tbl m).at 0 (Rect.unit (s := S5) ![0] S1.size inb_S5_S1_0) numel1_S1)
    ((ms0_0 m (ok m) (pt i)).view.read (Elt Ideal) ((hs0_0 m (ok m) (pt i)).unread (iblk m (ok m) c 0 (pt i))))
    ((ms0_1 m (ok m) (pt i)).view.read (Elt Ideal) ((hs0_1 m (ok m) (pt i)).unread (iblk m (ok m) c 1 (pt i)))) = pick m c i :=
  congr (congr (congrArg (k0_pay6 _) (table m c _ _)) (Memref.IsWhole.read_unread _ _)) (Memref.IsWhole.read_unread _ _)

theorem final_g : (outsAt0 m (ok m) c (pt i)).1 (ix3 0 r s) = pick m c i (ix2 r s) := by
  unfold outsAt0
  frame_out
  refine Eq.trans (congrFun (congrArg k0_pay2 (picked m c i)) _) ?_
  pointwise [k0_pay2]

theorem final_m : (outsAt0 m (ok m) c (pt i)).2.2.1 (ix3 0 r s) = Adam.mean (pick m c i (ix2 r s)) (iblk m (ok m) c 3 (pt i) (ix3 0 r s)) := by
  unfold outsAt0
  frame_out
  refine Eq.trans (congrFun (congrArg k0_pay4 (congr (congr (congr (congrArg (k0_pay8 _) (table m c inb_S5_S1_0 numel1_S1)) (Memref.IsWhole.read_unread _ _)) (Memref.IsWhole.read_unread _ _))
    (Memref.IsWhole.read_unread (hs0_3 m (ok m) (pt i)) _))) _) ?_
  pointwise [k0_pay4, k0_pay8]
  rfl

theorem final_v : (outsAt0 m (ok m) c (pt i)).2.2.2 (ix3 0 r s) = Adam.square (pick m c i (ix2 r s)) (iblk m (ok m) c 4 (pt i) (ix3 0 r s)) := by
  unfold outsAt0
  frame_out
  refine Eq.trans (congrFun (congr (congrArg k0_pay5 (picked m c i))
    (congrArg k0_pay9 (Memref.IsWhole.read_unread (hs0_4 m (ok m) (pt i)) _))) _) ?_
  pointwise [k0_pay5, k0_pay9, k0_pay1]
  rfl

theorem final_d : (outsAt0 m (ok m) c (pt i)).2.1 (ix3 0 r s) = Adam.step (pick m c i (ix2 r s)) (iblk m (ok m) c 2 (pt i) (ix3 0 r s))
    (iblk m (ok m) c 3 (pt i) (ix3 0 r s)) (iblk m (ok m) c 4 (pt i) (ix3 0 r s)) := by
  unfold outsAt0
  frame_out
  refine Eq.trans (congrFun (congr (congr (congr (congrArg k0_pay3 (picked m c i))
    (congrArg k0_pay7 (Memref.IsWhole.read_unread (hs0_2 m (ok m) (pt i)) _)))
    (congr (congr (congr (congrArg (k0_pay8 _) (table m c inb_S5_S1_0 numel1_S1)) (Memref.IsWhole.read_unread _ _)) (Memref.IsWhole.read_unread _ _))
      (Memref.IsWhole.read_unread (hs0_3 m (ok m) (pt i)) _)))
    (congrArg k0_pay9 (Memref.IsWhole.read_unread (hs0_4 m (ok m) (pt i)) _))) _) ?_
  pointwise [k0_pay3, k0_pay7, k0_pay8, k0_pay9, k0_pay1]
  rfl

section ref
open Cert.AdamGate0RefIdeal.Read
variable (x0 x1 : Vec Ideal S1024x1408 .f32) (x2 x3 x4 : Vec Ideal S2x2048x1408 .f32) (x5 : Vec Ideal S5 .i32) (R : Fin 2048)

theorem ref_m : val_main_v16 (F := Ideal) x0 x1 x3 x5 (ix2 R s) = Adam.mean (val_main_v5 (F := Ideal) x0 x1 x5 (ix2 R s)) (x3 (ix3 1 R s)) := by
  pointwise [val_main_v16, val_main_v13, val_main_v12, val_main_cst, val_main_v9, val_main_v8, val_main_v15, val_main_v14, val_main_cst_0]
  rfl

theorem ref_v : val_main_v22 (F := Ideal) x0 x1 x4 x5 (ix2 R s) = Adam.square (val_main_v5 (F := Ideal) x0 x1 x5 (ix2 R s)) (x4 (ix3 1 R s)) := by
  pointwise [val_main_v22, val_main_v21, val_main_v20, val_main_cst_2, val_main_v19, val_main_v18, val_main_v17, val_main_cst_1, val_main_v11,
    val_main_v10]
  rfl

theorem ref_d : val_main_v35 (F := Ideal) x0 x1 x2 x3 x4 x5 (ix2 R s)
    = Adam.step (val_main_v5 (F := Ideal) x0 x1 x5 (ix2 R s)) (x2 (ix3 1 R s)) (x3 (ix3 1 R s)) (x4 (ix3 1 R s)) := by
  unfold Adam.step
  rw [← ref_m s x0 x1 x3 x5 R, ← ref_v s x0 x1 x4 x5 R]
  pointwise [val_main_v35, val_main_v34, val_main_cst_7, val_main_v33, val_main_v32, val_main_v31, val_main_cst_6, val_main_v30, val_main_v29,
    val_main_v28, val_main_cst_5, val_main_v27, val_main_v26, val_main_v25, val_main_cst_4, val_main_v24, val_main_v23, val_main_cst_3,
    val_main_v7, val_main_v6]

theorem ref_g (p : Fin 2) (h : x5 (ix1 0) = BitVec.ofNat 32 p.val) (i : Fin 16) (r : Fin 128) (k : Fin 8) (hk : i.val = 8 * (i.val / 8) + k.val) :
   val_main_v5 (F := Ideal) x0 x1 x5 (ix2 ⟨i.val * 128 + r.val, by omega⟩ s) =
   if i.val / 8 = p.val then x0 (ix2 ⟨k.val * 128 + r.val, by omega⟩ s) else x1 (ix2 ⟨k.val * 128 + r.val, by omega⟩ s) := by
  pointwise [val_main_v5, val_main_v4, val_main_v3, val_main_v2, val_main_v1, val_main_v0, val_main_c, h]
  have z (a b : EReal) : Scalar.select (IntOp.cmpi .eq (BitVec.ofNat 32 0) 0#32) a b = a := rfl
  have o (a b : EReal) : Scalar.select (IntOp.cmpi .eq (BitVec.ofNat 32 1) 0#32) a b = b := rfl
  have e (x : Vec Ideal S1024x1408 .f32) (R R' : Fin 1024) (hR : R.val = R'.val) : x (ix2 R s) = x (ix2 R' s) :=
    congrArg (fun R => x (ix2 R s)) (Fin.ext hR)
  by_cases hi : i.val < 8
  · rw [dif_pos (by omega), dif_pos (by omega)]
    match p with
    | ⟨0, _⟩ => exact (z _ _).trans ((e _ _ _ (by show _ = _; simp only []; omega)).trans (if_pos (by show _ = 0; omega)).symm)
    | ⟨1, _⟩ => exact (o _ _).trans ((e _ _ _ (by show _ = _; simp only []; omega)).trans (if_neg (by show ¬ _ = 1; omega)).symm)
  · rw [dif_neg (by omega), dif_neg (by omega)]
    match p with
    | ⟨0, _⟩ => exact (z _ _).trans ((e _ _ _ (by show _ = _; simp only []; omega)).trans (if_neg (by show ¬ _ = 0; omega)).symm)
    | ⟨1, _⟩ => exact (o _ _).trans ((e _ _ _ (by show _ = _; simp only []; omega)).trans (if_pos (by show _ = 1; omega)).symm)
end ref

/-- The gradient's entry a tile works from is the sum's, its halves side by side. -/
theorem pick_eq (p : Fin 2) (h : X5 m c (ix1 0) = BitVec.ofNat 32 p.val) : pick m c i (ix2 r s)
    = Cert.AdamGate0RefIdeal.Read.val_main_v5 (F := Ideal) (X0 m c) (X1 m c) (X5 m c) (ix2 ⟨i.val * 128 + r.val, by omega⟩ s) := by
  have hk : i.val = 8 * (i.val / 8) + (⟨i.val % 8, by omega⟩ : Fin 8).val := by
    show i.val = 8 * (i.val / 8) + i.val % 8
    omega
  refine Eq.trans ?_ (ref_g s (X0 m c) (X1 m c) (X5 m c) p h i r ⟨i.val % 8, by omega⟩ hk).symm
  have q (x y : Vec Ideal S128x1408 .f32) : k0_pay6 (grid0.coords (pt i)) (X5 m c (ix1 0)) x y = if i.val / 8 = p.val then x else y := by
    rw [h]
    exact chosen i p x y
  by_cases hp : i.val / 8 = p.val
  · rw [if_pos hp]
    exact (congrFun ((q _ _).trans (if_pos hp)) _).trans
      (blk_0 m c i r s _ ((idx_0 m c i p h).trans (congrArg (![·, 0]) (by show min 7 (i.val - 8 * p.val) = i.val % 8; omega))))
  · rw [if_neg hp]
    exact (congrFun ((q _ _).trans (if_neg hp)) _).trans
      (blk_1 m c i r s _ ((idx_1 m c i p h).trans (congrArg (![·, 0]) (by show min 7 (i.val - 8 * (1 - p.val)) = i.val % 8; omega))))

/-! ### The arrays the call leaves -/

theorem apart : ∀ t t' : Fin grid0.N, cc0_transform_5 (grid0.coords t) = cc0_transform_5 (grid0.coords t') → t = t' := by decide +kernel

abbrev arr (w : Fin 9) := (dats m (ok m) 0 c).arrAt w (cfgM m (ok m)).N

theorem read_5 (A : Vec Ideal S2x2048x1408 .f32) : (((cfgM m (ok m)).win 5).blk (pt i)).view.read (Elt Ideal) A (ix3 0 r s)
    = A (ix3 1 ⟨i.val * 128 + r.val, by omega⟩ s) := by
  blk_point [idx_5 m i]

theorem arr_5 : arr m c 5 (ix3 1 ⟨i.val * 128 + r.val, by omega⟩ s) = (outsAt0 m (ok m) c (pt i)).1 (ix3 0 r s) := by
  have h := congrFun ((dats m (ok m) 0 c).read_blk_arrAt_eq_flushed 5 (Pipeline.Window.hdisj_of_index_inj _ fun t t' _ _ e => apart t t' e)
    (cfgM m (ok m)).N (pt i) (pt i).isLt (flush0_5 _ _)) (ix3 0 r s)
  exact (read_5 m i r s _).symm.trans (h.trans (congrFun (after0_5 m (ok m) c (pt i)) _))

theorem tail_5 : Pipeline.afterTail pcfgs (fun _ => adm m (ok m)) (dats m (ok m)) 0 (V0 m) [hostOps1] c main_v2
    = shapeCast S2048x1408 (extractStridedSlice S1x2048x1408 ![1, 0, 0] (arr m c 5) slices_S2x2048x1408_S1x2048x1408_1_0_0)
      shapeCasts_S1x2048x1408_S2048x1408 := by
  unfold Pipeline.afterTail
  simp only [hostOps1, List.flatten_cons, List.flatten_nil, List.append_nil, List.cons_append, List.nil_append]
  after_reads_simp
  exact congrArg (fun A => shapeCast S2048x1408 (extractStridedSlice S1x2048x1408 ![1, 0, 0] A slices_S2x2048x1408_S1x2048x1408_1_0_0)
    shapeCasts_S1x2048x1408_S2048x1408) (Pipeline.withArrays_arr spec0 (by decide) c (V0 m c) (arr m c) 5)

theorem read_6 (A : Vec Ideal S2x2048x1408 .f32) : (((cfgM m (ok m)).win 6).blk (pt i)).view.read (Elt Ideal) A (ix3 0 r s)
    = A (ix3 1 ⟨i.val * 128 + r.val, by omega⟩ s) := by
  blk_point [idx_6 m i]

theorem arr_6 : arr m c 6 (ix3 1 ⟨i.val * 128 + r.val, by omega⟩ s) = (outsAt0 m (ok m) c (pt i)).2.1 (ix3 0 r s) := by
  have h := congrFun ((dats m (ok m) 0 c).read_blk_arrAt_eq_flushed 6 (Pipeline.Window.hdisj_of_index_inj _ fun t t' _ _ e => apart t t' e)
    (cfgM m (ok m)).N (pt i) (pt i).isLt (flush0_6 _ _)) (ix3 0 r s)
  exact (read_6 m i r s _).symm.trans (h.trans (congrFun (after0_6 m (ok m) c (pt i)) _))

theorem tail_6 : Pipeline.afterTail pcfgs (fun _ => adm m (ok m)) (dats m (ok m)) 0 (V0 m) [hostOps1] c main_v4
    = shapeCast S2048x1408 (extractStridedSlice S1x2048x1408 ![1, 0, 0] (arr m c 6) slices_S2x2048x1408_S1x2048x1408_1_0_0)
      shapeCasts_S1x2048x1408_S2048x1408 := by
  unfold Pipeline.afterTail
  simp only [hostOps1, List.flatten_cons, List.flatten_nil, List.append_nil, List.cons_append, List.nil_append]
  after_reads_simp
  exact congrArg (fun A => shapeCast S2048x1408 (extractStridedSlice S1x2048x1408 ![1, 0, 0] A slices_S2x2048x1408_S1x2048x1408_1_0_0)
    shapeCasts_S1x2048x1408_S2048x1408) (Pipeline.withArrays_arr spec0 (by decide) c (V0 m c) (arr m c) 6)

theorem read_7 (A : Vec Ideal S2x2048x1408 .f32) : (((cfgM m (ok m)).win 7).blk (pt i)).view.read (Elt Ideal) A (ix3 0 r s)
    = A (ix3 1 ⟨i.val * 128 + r.val, by omega⟩ s) := by
  blk_point [idx_7 m i]

theorem arr_7 : arr m c 7 (ix3 1 ⟨i.val * 128 + r.val, by omega⟩ s) = (outsAt0 m (ok m) c (pt i)).2.2.1 (ix3 0 r s) := by
  have h := congrFun ((dats m (ok m) 0 c).read_blk_arrAt_eq_flushed 7 (Pipeline.Window.hdisj_of_index_inj _ fun t t' _ _ e => apart t t' e)
    (cfgM m (ok m)).N (pt i) (pt i).isLt (flush0_7 _ _)) (ix3 0 r s)
  exact (read_7 m i r s _).symm.trans (h.trans (congrFun (after0_7 m (ok m) c (pt i)) _))

theorem tail_7 : Pipeline.afterTail pcfgs (fun _ => adm m (ok m)) (dats m (ok m)) 0 (V0 m) [hostOps1] c main_v6
    = shapeCast S2048x1408 (extractStridedSlice S1x2048x1408 ![1, 0, 0] (arr m c 7) slices_S2x2048x1408_S1x2048x1408_1_0_0)
      shapeCasts_S1x2048x1408_S2048x1408 := by
  unfold Pipeline.afterTail
  simp only [hostOps1, List.flatten_cons, List.flatten_nil, List.append_nil, List.cons_append, List.nil_append]
  after_reads_simp
  exact congrArg (fun A => shapeCast S2048x1408 (extractStridedSlice S1x2048x1408 ![1, 0, 0] A slices_S2x2048x1408_S1x2048x1408_1_0_0)
    shapeCasts_S1x2048x1408_S2048x1408) (Pipeline.withArrays_arr spec0 (by decide) c (V0 m c) (arr m c) 7)

theorem read_8 (A : Vec Ideal S2x2048x1408 .f32) : (((cfgM m (ok m)).win 8).blk (pt i)).view.read (Elt Ideal) A (ix3 0 r s)
    = A (ix3 1 ⟨i.val * 128 + r.val, by omega⟩ s) := by
  blk_point [idx_8 m i]

theorem arr_8 : arr m c 8 (ix3 1 ⟨i.val * 128 + r.val, by omega⟩ s) = (outsAt0 m (ok m) c (pt i)).2.2.2 (ix3 0 r s) := by
  have h := congrFun ((dats m (ok m) 0 c).read_blk_arrAt_eq_flushed 8 (Pipeline.Window.hdisj_of_index_inj _ fun t t' _ _ e => apart t t' e)
    (cfgM m (ok m)).N (pt i) (pt i).isLt (flush0_8 _ _)) (ix3 0 r s)
  exact (read_8 m i r s _).symm.trans (h.trans (congrFun (after0_8 m (ok m) c (pt i)) _))

theorem tail_8 : Pipeline.afterTail pcfgs (fun _ => adm m (ok m)) (dats m (ok m)) 0 (V0 m) [hostOps1] c main_v8
    = shapeCast S2048x1408 (extractStridedSlice S1x2048x1408 ![1, 0, 0] (arr m c 8) slices_S2x2048x1408_S1x2048x1408_1_0_0)
      shapeCasts_S1x2048x1408_S2048x1408 := by
  unfold Pipeline.afterTail
  simp only [hostOps1, List.flatten_cons, List.flatten_nil, List.append_nil, List.cons_append, List.nil_append]
  after_reads_simp
  exact congrArg (fun A => shapeCast S2048x1408 (extractStridedSlice S1x2048x1408 ![1, 0, 0] A slices_S2x2048x1408_S1x2048x1408_1_0_0)
    shapeCasts_S1x2048x1408_S2048x1408) (Pipeline.withArrays_arr spec0 (by decide) c (V0 m c) (arr m c) 8)

/-- The second layer's slab of an array of two layers, entry by entry. -/
theorem slab (A : Vec Ideal S2x2048x1408 .f32) (B : Vec Ideal S2048x1408 .f32)
    (h : ∀ (i : Fin 16) (r : Fin 128) (s : Fin 1408), A (ix3 1 ⟨i.val * 128 + r.val, by omega⟩ s) = B (ix2 ⟨i.val * 128 + r.val, by omega⟩ s)) :
    shapeCast S2048x1408 (extractStridedSlice S1x2048x1408 ![1, 0, 0] A slices_S2x2048x1408_S1x2048x1408_1_0_0)
      shapeCasts_S1x2048x1408_S2048x1408 = B := by
  funext y
  obtain ⟨R, s, rfl⟩ : ∃ (R : Fin 2048) (s : Fin 1408), y = ix2 R s := ⟨y 0, y 1, eq_ix2 y⟩
  obtain ⟨i, r, rfl⟩ := Parts.split (a := 16) (b := 128) (by norm_num) R
  refine Eq.trans ?_ (h i r s)
  pointwise []

open Cert.AdamGate0RefIdeal.Read

variable (p : Fin 2) (hp : X5 m c (ix1 0) = BitVec.ofNat 32 p.val)
include hp

theorem value_g : Pipeline.afterTail pcfgs (fun _ => adm m (ok m)) (dats m (ok m)) 0 (V0 m) [hostOps1] c main_v2
    = val_main_v5 (F := Ideal) (X0 m c) (X1 m c) (X5 m c) :=
  (tail_5 m c).trans (slab _ _ fun i r s => (arr_5 m c i r s).trans ((final_g m c i r s).trans (pick_eq m c i r s p hp)))

theorem value_d : Pipeline.afterTail pcfgs (fun _ => adm m (ok m)) (dats m (ok m)) 0 (V0 m) [hostOps1] c main_v4
    = val_main_v35 (F := Ideal) (X0 m c) (X1 m c) (X2 m c) (X3 m c) (X4 m c) (X5 m c) :=
  (tail_6 m c).trans (slab _ _ fun i r s => (arr_6 m c i r s).trans ((final_d m c i r s).trans (by
    rw [ref_d, pick_eq m c i r s p hp]
    exact congr (congr (congrArg (Adam.step _) (blk_2 m c i r s)) (blk_3 m c i r s)) (blk_4 m c i r s))))

theorem value_m : Pipeline.afterTail pcfgs (fun _ => adm m (ok m)) (dats m (ok m)) 0 (V0 m) [hostOps1] c main_v6
    = val_main_v16 (F := Ideal) (X0 m c) (X1 m c) (X3 m c) (X5 m c) :=
  (tail_7 m c).trans (slab _ _ fun i r s => (arr_7 m c i r s).trans ((final_m m c i r s).trans (by
    rw [ref_m, pick_eq m c i r s p hp]
    exact congrArg (Adam.mean _) (blk_3 m c i r s))))

theorem value_v : Pipeline.afterTail pcfgs (fun _ => adm m (ok m)) (dats m (ok m)) 0 (V0 m) [hostOps1] c main_v8
    = val_main_v22 (F := Ideal) (X0 m c) (X1 m c) (X4 m c) (X5 m c) :=
  (tail_8 m c).trans (slab _ _ fun i r s => (arr_8 m c i r s).trans ((final_v m c i r s).trans (by
    rw [ref_v, pick_eq m c i r s p hp]
    exact congrArg (Adam.square _) (blk_4 m c i r s))))

omit hp

/-! ### The claims -/

theorem ok_bits (m : (ℓ : Loc Cert.AdamGate0.nD Cert.AdamGate0.τ Cert.AdamGate0.sig) → Buf (Elt Bits) ℓ) : Cert.AdamGate0.Gen.Ok m := by
  unfold Cert.AdamGate0.Gen.Ok
  rw [Cert.AdamGate0.ok0.eq_1]
  constructor <;> intro i <;> refine ⟨fun a => ?_, .inl rfl⟩
  · match a with
    | ⟨0, _⟩ => exact Nat.le_trans (Nat.mul_le_mul_right _ (Nat.add_le_add_right (Adam.held 7 (by norm_num) _) 1)) (by show (7 + 1) * 128 ≤ 1024; omega)
    | ⟨1, _⟩ => exact Nat.le_of_eq rfl
  · match a with
    | ⟨0, _⟩ => exact Nat.le_trans (Nat.mul_le_mul_right _ (Nat.add_le_add_right (Adam.held 7 (by norm_num) _) 1)) (by show (7 + 1) * 128 ≤ 1024; omega)
    | ⟨1, _⟩ => exact Nat.le_of_eq rfl

attribute [local instance] Cert.AdamGate0.Gen.facts Cert.AdamGate0Ideal.Gen.facts Cert.AdamGate0RefIdeal.Gen.facts Cert.Pre_core_gate0.Gen.facts

/-- The precondition says which of the pair the core is. -/
theorem side (h : Cert.Pre_AdamGate0Ideal_core_gate0 m) : ∃ p : Fin 2, X5 m c (ix1 0) = BitVec.ofNat 32 p.val := by
  refine Adam.either _ (Eq.trans ?_ (congrFun (h c) (fun a => a.elim0)))
  pointwise [Cert.Pre_core_gate0.fn]

theorem frame_p : Cert.quiescent_AdamGate0 := fun m ρ _ => Cert.AdamGate0.Gen.frame m ρ (ok_bits m)

theorem frame_pi : Cert.quiescent_AdamGate0Ideal := fun m ρ _ => Cert.AdamGate0Ideal.Gen.frame m ρ (ok m)

theorem frame_pi_pre : Cert.quiescent_AdamGate0Ideal_pre_core_gate0 := fun m ρ _ => Cert.AdamGate0Ideal.Gen.frame m ρ (ok m)

theorem frame_ri : Cert.quiescent_AdamGate0RefIdeal := fun m ρ _ =>
  (θ_run Cert.AdamGate0RefIdeal.defs _ _).mono (fun r h => ⟨fun c => (h c).2.2.2.2, sem_eq_zero_of_no_sems (by decide) r.2⟩)
    (Cert.AdamGate0RefIdeal.Value.run (F := Ideal) m ρ)

theorem frame_ri_pre : Cert.quiescent_AdamGate0RefIdeal_pre_core_gate0 := fun m ρ _ => frame_ri m ρ trivial

theorem algebraic : Cert.algebraic_AdamGate0Ideal_AdamGate0RefIdeal_pre_core_gate0 := by
  intro m ρ m' ρ' hpre hagree
  refine ⟨fun c => val_main_v5 (F := Ideal) (X0 m c) (X1 m c) (X5 m c), fun c => val_main_v35 (F := Ideal) (X0 m c) (X1 m c) (X2 m c) (X3 m c) (X4 m c) (X5 m c),
    fun c => val_main_v16 (F := Ideal) (X0 m c) (X1 m c) (X3 m c) (X5 m c), fun c => val_main_v22 (F := Ideal) (X0 m c) (X1 m c) (X4 m c) (X5 m c), ?_, ?_⟩
  · refine (θ_run defs _ _).mono (fun r h c => ?_) (θ_run_and (unchanged m ρ (ok m)) (run_main m ρ (ok m)))
    obtain ⟨p, hp⟩ := side m c hpre
    exact ⟨((h.2 c).2 main_v2 (by decide : main_v2 ∈ Pipeline.restRefs sig spec0)).trans (value_g m c p hp), ((h.2 c).2 main_v4 (by decide : main_v4 ∈ Pipeline.restRefs sig spec0)).trans (value_d m c p hp),
      ((h.2 c).2 main_v6 (by decide : main_v6 ∈ Pipeline.restRefs sig spec0)).trans (value_m m c p hp), ((h.2 c).2 main_v8 (by decide : main_v8 ∈ Pipeline.restRefs sig spec0)).trans (value_v m c p hp), h.1 c⟩
  · refine (θ_run Cert.AdamGate0RefIdeal.defs _ _).mono (fun _ h c => ?_) (Cert.AdamGate0RefIdeal.Value.run (F := Ideal) m' ρ')
    obtain ⟨h0, h1, h2, h3, h4⟩ := h c
    obtain ⟨e0, e1, e2, e3, e4, e5⟩ := hagree c
    rw [val_main_v5_eq, e0, e1, e5] at h0
    rw [val_main_v35_eq, e0, e1, e2, e3, e4, e5] at h1
    rw [val_main_v16_eq, e0, e1, e3, e5] at h2
    rw [val_main_v22_eq, e0, e1, e4, e5] at h3
    exact ⟨h0, h1, h2, h3, h4⟩

end Gate0
-- ==== Proof.Gate1.lean ====
/-
  The optimiser's step of the first layer of a weight of the SwiGLU's first half, block of rows by block of rows.
-/
module

public import proofs.«01_k».proof.Defs
public import proofs.«01_k».proof.Proof.Parts
public import proofs.«01_k».proof.Proof.Adam
public import proofs.«01_k».proof.Proof.Gen.AdamGate1.Frame
public import proofs.«01_k».proof.Proof.Gen.AdamGate1Ideal.Frame
public import proofs.«01_k».proof.Proof.Gen.AdamGate1RefIdeal.Read
public import proofs.«01_k».proof.Proof.Gen.Pre_core_gate1
public import Idealize.ShloMosaic.Lib.Pointwise
public import Idealize.ShloMosaic.Lib.Pipeline.ValueKit
public import Idealize.ShloMosaic.Lib.StableHlo.RunRead
public import Idealize.ShloMosaic.Lib.Quiescent

@[expose] public section

set_option maxRecDepth 16384

noncomputable section

namespace Gate1

open Idealize.ShloMosaic Cert.AdamGate1Ideal Cert.AdamGate1Ideal.Gen Idealize.ShloMosaic.TcCoe Idealize.SL.Sem

section
variable {F : FTy → Type} [FloatOps F]

/-- The blocks lie inside the arrays, whatever the table holds. -/
theorem ok (m : (ℓ : Loc nD τ sig) → Buf (Elt F) ℓ) : Ok m := by
  unfold Ok
  rw [ok0.eq_1]
  constructor <;> intro i <;> refine ⟨fun a => ?_, .inl rfl⟩
  · match a with
    | ⟨0, _⟩ => exact Nat.le_trans (Nat.mul_le_mul_right _ (Nat.add_le_add_right (Adam.held 7 (by norm_num) _) 1)) (by show (7 + 1) * 128 ≤ 1024; omega)
    | ⟨1, _⟩ => exact Nat.le_of_eq rfl
  · match a with
    | ⟨0, _⟩ => exact Nat.le_trans (Nat.mul_le_mul_right _ (Nat.add_le_add_right (Adam.held 7 (by norm_num) _) 1)) (by show (7 + 1) * 128 ≤ 1024; omega)
    | ⟨1, _⟩ => exact Nat.le_of_eq rfl

end

variable (m : (ℓ : Loc nD τ sig) → Buf (Elt Ideal) ℓ) (c : Dev nD)

/-- The grid point of a tile of rows. -/
def pt (i : Fin 16) : Fin grid0.N := ⟨i.val, by show _ < 16; omega⟩

abbrev X0 : Vec Ideal S1024x1408 .f32 := m ((c : Thread nD τ).loc main_arg0)
abbrev X1 : Vec Ideal S1024x1408 .f32 := m ((c : Thread nD τ).loc main_arg1)
abbrev X2 : Vec Ideal S2x2048x1408 .f32 := m ((c : Thread nD τ).loc main_arg2)
abbrev X3 : Vec Ideal S2x2048x1408 .f32 := m ((c : Thread nD τ).loc main_arg3)
abbrev X4 : Vec Ideal S2x2048x1408 .f32 := m ((c : Thread nD τ).loc main_arg4)
abbrev X5 : Vec Ideal S2x2048x1408 .f32 := m ((c : Thread nD τ).loc main_arg5)
abbrev X6 : Vec Ideal S2x2048x1408 .f32 := m ((c : Thread nD τ).loc main_arg6)
abbrev X7 : Vec Ideal S2x2048x1408 .f32 := m ((c : Thread nD τ).loc main_arg7)
abbrev X8 : Vec Ideal S2x2048x1408 .f32 := m ((c : Thread nD τ).loc main_arg8)
abbrev X9 : Vec Ideal S5 .i32 := m ((c : Thread nD τ).loc main_arg9)

variable (i : Fin 16) (r : Fin 128) (s : Fin 1408)

theorem idx_2 : ((cfgM m (ok m)).win 2).index (pt i) = ![0, i.val, 0] := by
  show cc0_transform_2 (grid0.coords (pt i)) = _
  revert i
  decide +kernel

theorem idx_3 : ((cfgM m (ok m)).win 3).index (pt i) = ![0, i.val, 0] := idx_2 m i

theorem idx_4 : ((cfgM m (ok m)).win 4).index (pt i) = ![0, i.val, 0] := idx_2 m i

theorem idx_5 : ((cfgM m (ok m)).win 5).index (pt i) = ![0, i.val, 0] := idx_2 m i

theorem idx_6 : ((cfgM m (ok m)).win 6).index (pt i) = ![0, i.val, 0] := idx_2 m i

theorem idx_7 : ((cfgM m (ok m)).win 7).index (pt i) = ![0, i.val, 0] := idx_2 m i

theorem idx_8 : ((cfgM m (ok m)).win 8).index (pt i) = ![0, i.val, 0] := idx_2 m i

theorem blk_2 : iblk m (ok m) c 2 (pt i) (ix3 0 r s) = X2 m c (ix3 0 ⟨i.val * 128 + r.val, by omega⟩ s) := by
  blk_point [iblk, V, idx_2 m i]

theorem blk_3 : iblk m (ok m) c 3 (pt i) (ix3 0 r s) = X3 m c (ix3 0 ⟨i.val * 128 + r.val, by omega⟩ s) := by
  blk_point [iblk, V, idx_3 m i]

theorem blk_4 : iblk m (ok m) c 4 (pt i) (ix3 0 r s) = X4 m c (ix3 0 ⟨i.val * 128 + r.val, by omega⟩ s) := by
  blk_point [iblk, V, idx_4 m i]

theorem blk_0 (k : Fin 8) (h : ((cfgM m (ok m)).win 0).index (pt i) = ![k.val, 0]) :
    iblk m (ok m) c 0 (pt i) (ix2 r s) = X0 m c (ix2 ⟨k.val * 128 + r.val, by omega⟩ s) := by
  blk_point [iblk, V, h]

theorem blk_1 (k : Fin 8) (h : ((cfgM m (ok m)).win 1).index (pt i) = ![k.val, 0]) :
    iblk m (ok m) c 1 (pt i) (ix2 r s) = X1 m c (ix2 ⟨k.val * 128 + r.val, by omega⟩ s) := by
  blk_point [iblk, V, h]

theorem word : tbl m 0 (ix1 0) = X9 m c (ix1 0) := by
  obtain rfl : c = 0 := Subsingleton.elim _ _
  rfl

theorem table (inb : ∀ a, (![0] : Fin 1 → Nat) a + S1.size a ≤ S5.size a) (n : S1.numel = 1) :
    (tbl m).at 0 (Rect.unit (s := S5) ![0] S1.size inb) n = X9 m c (ix1 0) := by
  obtain rfl : c = 0 := Subsingleton.elim _ _
  show X9 m 0 ((Rect.unit (s := S5) ![0] S1.size inb).emb (Shape.Idx.first (n.symm ▸ Nat.one_pos))) = X9 m 0 (ix1 0)
  refine congrArg (X9 m 0) ?_
  funext a
  obtain rfl : a = 0 := Subsingleton.elim _ _
  exact Fin.ext rfl

/-- Which block of a core's half of the gradient a tile reads, on either core. -/
theorem idx_0 (p : Fin 2) (h : X9 m c (ix1 0) = BitVec.ofNat 32 p.val) :
    ((cfgM m (ok m)).win 0).index (pt i) = ![min 7 (i.val - 8 * p.val), 0] := by
  show cc0_transform_0 _ _ (tbl m) (grid0.coords (pt i)) = _
  unfold cc0_transform_0
  rw [table m c, h]
  clear h
  revert i p
  decide +kernel

theorem idx_1 (p : Fin 2) (h : X9 m c (ix1 0) = BitVec.ofNat 32 p.val) :
    ((cfgM m (ok m)).win 1).index (pt i) = ![min 7 (i.val - 8 * (1 - p.val)), 0] := by
  show cc0_transform_1 _ _ (tbl m) (grid0.coords (pt i)) = _
  unfold cc0_transform_1
  rw [table m c, h]
  clear h
  revert i p
  decide +kernel

/-- The half a tile takes its gradient from. -/
theorem chosen (p : Fin 2) (x y : Vec Ideal S128x1408 .f32) :
    k0_pay6 (grid0.coords (pt i)) (BitVec.ofNat 32 p.val) x y = if i.val / 8 = p.val then x else y := by
  fin_cases p <;> fin_cases i <;> rfl

abbrev pick : Vec Ideal S128x1408 .f32 :=
  k0_pay6 (grid0.coords (pt i)) (X9 m c (ix1 0)) (iblk m (ok m) c 0 (pt i)) (iblk m (ok m) c 1 (pt i))

theorem picked : k0_pay6 (grid0.coords (pt i)) ((tbl m).at 0 (Rect.unit (s := S5) ![0] S1.size inb_S5_S1_0) numel1_S1)
    ((ms0_0 m (ok m) (pt i)).view.read (Elt Ideal) ((hs0_0 m (ok m) (pt i)).unread (iblk m (ok m) c 0 (pt i))))
    ((ms0_1 m (ok m) (pt i)).view.read (Elt Ideal) ((hs0_1 m (ok m) (pt i)).unread (iblk m (ok m) c 1 (pt i)))) = pick m c i :=
  congr (congr (congrArg (k0_pay6 _) (table m c _ _)) (Memref.IsWhole.read_unread _ _)) (Memref.IsWhole.read_unread _ _)

theorem final_g : (outsAt0 m (ok m) c (pt i)).1 (ix3 0 r s) = pick m c i (ix2 r s) := by
  unfold outsAt0
  frame_out
  refine Eq.trans (congrFun (congrArg k0_pay2 (picked m c i)) _) ?_
  pointwise [k0_pay2]

theorem final_m : (outsAt0 m (ok m) c (pt i)).2.2.1 (ix3 0 r s) = Adam.mean (pick m c i (ix2 r s)) (iblk m (ok m) c 3 (pt i) (ix3 0 r s)) := by
  unfold outsAt0
  frame_out
  refine Eq.trans (congrFun (congrArg k0_pay4 (congr (congr (congr (congrArg (k0_pay8 _) (table m c inb_S5_S1_0 numel1_S1)) (Memref.IsWhole.read_unread _ _)) (Memref.IsWhole.read_unread _ _))
    (Memref.IsWhole.read_unread (hs0_3 m (ok m) (pt i)) _))) _) ?_
  pointwise [k0_pay4, k0_pay8]
  rfl

theorem final_v : (outsAt0 m (ok m) c (pt i)).2.2.2 (ix3 0 r s) = Adam.square (pick m c i (ix2 r s)) (iblk m (ok m) c 4 (pt i) (ix3 0 r s)) := by
  unfold outsAt0
  frame_out
  refine Eq.trans (congrFun (congr (congrArg k0_pay5 (picked m c i))
    (congrArg k0_pay9 (Memref.IsWhole.read_unread (hs0_4 m (ok m) (pt i)) _))) _) ?_
  pointwise [k0_pay5, k0_pay9, k0_pay1]
  rfl

theorem final_d : (outsAt0 m (ok m) c (pt i)).2.1 (ix3 0 r s) = Adam.step (pick m c i (ix2 r s)) (iblk m (ok m) c 2 (pt i) (ix3 0 r s))
    (iblk m (ok m) c 3 (pt i) (ix3 0 r s)) (iblk m (ok m) c 4 (pt i) (ix3 0 r s)) := by
  unfold outsAt0
  frame_out
  refine Eq.trans (congrFun (congr (congr (congr (congrArg k0_pay3 (picked m c i))
    (congrArg k0_pay7 (Memref.IsWhole.read_unread (hs0_2 m (ok m) (pt i)) _)))
    (congr (congr (congr (congrArg (k0_pay8 _) (table m c inb_S5_S1_0 numel1_S1)) (Memref.IsWhole.read_unread _ _)) (Memref.IsWhole.read_unread _ _))
      (Memref.IsWhole.read_unread (hs0_3 m (ok m) (pt i)) _)))
    (congrArg k0_pay9 (Memref.IsWhole.read_unread (hs0_4 m (ok m) (pt i)) _))) _) ?_
  pointwise [k0_pay3, k0_pay7, k0_pay8, k0_pay9, k0_pay1]
  rfl

section ref
open Cert.AdamGate1RefIdeal.Read
variable (x0 x1 : Vec Ideal S1024x1408 .f32) (x2 x3 x4 : Vec Ideal S2x2048x1408 .f32) (x9 : Vec Ideal S5 .i32) (R : Fin 2048)

theorem ref_m : val_main_v16 (F := Ideal) x0 x1 x3 x9 (ix2 R s) = Adam.mean (val_main_v5 (F := Ideal) x0 x1 x9 (ix2 R s)) (x3 (ix3 0 R s)) := by
  pointwise [val_main_v16, val_main_v13, val_main_v12, val_main_cst, val_main_v9, val_main_v8, val_main_v15, val_main_v14, val_main_cst_0]
  rfl

theorem ref_v : val_main_v22 (F := Ideal) x0 x1 x4 x9 (ix2 R s) = Adam.square (val_main_v5 (F := Ideal) x0 x1 x9 (ix2 R s)) (x4 (ix3 0 R s)) := by
  pointwise [val_main_v22, val_main_v21, val_main_v20, val_main_cst_2, val_main_v19, val_main_v18, val_main_v17, val_main_cst_1, val_main_v11,
    val_main_v10]
  rfl

theorem ref_d : val_main_v35 (F := Ideal) x0 x1 x2 x3 x4 x9 (ix2 R s)
    = Adam.step (val_main_v5 (F := Ideal) x0 x1 x9 (ix2 R s)) (x2 (ix3 0 R s)) (x3 (ix3 0 R s)) (x4 (ix3 0 R s)) := by
  unfold Adam.step
  rw [← ref_m s x0 x1 x3 x9 R, ← ref_v s x0 x1 x4 x9 R]
  pointwise [val_main_v35, val_main_v34, val_main_cst_7, val_main_v33, val_main_v32, val_main_v31, val_main_cst_6, val_main_v30, val_main_v29,
    val_main_v28, val_main_cst_5, val_main_v27, val_main_v26, val_main_v25, val_main_cst_4, val_main_v24, val_main_v23, val_main_cst_3,
    val_main_v7, val_main_v6]

theorem ref_g (p : Fin 2) (h : x9 (ix1 0) = BitVec.ofNat 32 p.val) (i : Fin 16) (r : Fin 128) (k : Fin 8) (hk : i.val = 8 * (i.val / 8) + k.val) :
   val_main_v5 (F := Ideal) x0 x1 x9 (ix2 ⟨i.val * 128 + r.val, by omega⟩ s) =
   if i.val / 8 = p.val then x0 (ix2 ⟨k.val * 128 + r.val, by omega⟩ s) else x1 (ix2 ⟨k.val * 128 + r.val, by omega⟩ s) := by
  pointwise [val_main_v5, val_main_v4, val_main_v3, val_main_v2, val_main_v1, val_main_v0, val_main_c, h]
  have z (a b : EReal) : Scalar.select (IntOp.cmpi .eq (BitVec.ofNat 32 0) 0#32) a b = a := rfl
  have o (a b : EReal) : Scalar.select (IntOp.cmpi .eq (BitVec.ofNat 32 1) 0#32) a b = b := rfl
  have e (x : Vec Ideal S1024x1408 .f32) (R R' : Fin 1024) (hR : R.val = R'.val) : x (ix2 R s) = x (ix2 R' s) :=
    congrArg (fun R => x (ix2 R s)) (Fin.ext hR)
  by_cases hi : i.val < 8
  · rw [dif_pos (by omega), dif_pos (by omega)]
    match p with
    | ⟨0, _⟩ => exact (z _ _).trans ((e _ _ _ (by show _ = _; simp only []; omega)).trans (if_pos (by show _ = 0; omega)).symm)
    | ⟨1, _⟩ => exact (o _ _).trans ((e _ _ _ (by show _ = _; simp only []; omega)).trans (if_neg (by show ¬ _ = 1; omega)).symm)
  · rw [dif_neg (by omega), dif_neg (by omega)]
    match p with
    | ⟨0, _⟩ => exact (z _ _).trans ((e _ _ _ (by show _ = _; simp only []; omega)).trans (if_neg (by show ¬ _ = 0; omega)).symm)
    | ⟨1, _⟩ => exact (o _ _).trans ((e _ _ _ (by show _ = _; simp only []; omega)).trans (if_pos (by show _ = 1; omega)).symm)
theorem ref_400 (a : Vec Ideal S2x2048x1408 .f32) : val_main_v40 (F := Ideal) x0 x1 a x9 (ix3 1 R s) = a (ix3 1 R s) := by
  pointwise [val_main_v40, val_main_v39, val_main_v38, val_main_v37, val_main_v36]

theorem ref_401 (a : Vec Ideal S2x2048x1408 .f32) : val_main_v40 (F := Ideal) x0 x1 a x9 (ix3 0 R s) = val_main_v5 (F := Ideal) x0 x1 x9 (ix2 R s) := by
  pointwise [val_main_v40, val_main_v39, val_main_v38, val_main_v37, val_main_v36]

theorem ref_450 (a : Vec Ideal S2x2048x1408 .f32) : val_main_v45 (F := Ideal) x0 x1 x2 x3 x4 a x9 (ix3 1 R s) = a (ix3 1 R s) := by
  pointwise [val_main_v45, val_main_v44, val_main_v43, val_main_v42, val_main_v41]

theorem ref_451 (a : Vec Ideal S2x2048x1408 .f32) : val_main_v45 (F := Ideal) x0 x1 x2 x3 x4 a x9 (ix3 0 R s) = val_main_v35 (F := Ideal) x0 x1 x2 x3 x4 x9 (ix2 R s) := by
  pointwise [val_main_v45, val_main_v44, val_main_v43, val_main_v42, val_main_v41]

theorem ref_500 (a : Vec Ideal S2x2048x1408 .f32) : val_main_v50 (F := Ideal) x0 x1 x3 a x9 (ix3 1 R s) = a (ix3 1 R s) := by
  pointwise [val_main_v50, val_main_v49, val_main_v48, val_main_v47, val_main_v46]

theorem ref_501 (a : Vec Ideal S2x2048x1408 .f32) : val_main_v50 (F := Ideal) x0 x1 x3 a x9 (ix3 0 R s) = val_main_v16 (F := Ideal) x0 x1 x3 x9 (ix2 R s) := by
  pointwise [val_main_v50, val_main_v49, val_main_v48, val_main_v47, val_main_v46]

theorem ref_550 (a : Vec Ideal S2x2048x1408 .f32) : val_main_v55 (F := Ideal) x0 x1 x4 a x9 (ix3 1 R s) = a (ix3 1 R s) := by
  pointwise [val_main_v55, val_main_v54, val_main_v53, val_main_v52, val_main_v51]

theorem ref_551 (a : Vec Ideal S2x2048x1408 .f32) : val_main_v55 (F := Ideal) x0 x1 x4 a x9 (ix3 0 R s) = val_main_v22 (F := Ideal) x0 x1 x4 x9 (ix2 R s) := by
  pointwise [val_main_v55, val_main_v54, val_main_v53, val_main_v52, val_main_v51]

end ref

/-- The gradient's entry a tile works from is the sum's, its halves side by side. -/
theorem pick_eq (p : Fin 2) (h : X9 m c (ix1 0) = BitVec.ofNat 32 p.val) : pick m c i (ix2 r s)
    = Cert.AdamGate1RefIdeal.Read.val_main_v5 (F := Ideal) (X0 m c) (X1 m c) (X9 m c) (ix2 ⟨i.val * 128 + r.val, by omega⟩ s) := by
  have hk : i.val = 8 * (i.val / 8) + (⟨i.val % 8, by omega⟩ : Fin 8).val := by
    show i.val = 8 * (i.val / 8) + i.val % 8
    omega
  refine Eq.trans ?_ (ref_g s (X0 m c) (X1 m c) (X9 m c) p h i r ⟨i.val % 8, by omega⟩ hk).symm
  have q (x y : Vec Ideal S128x1408 .f32) : k0_pay6 (grid0.coords (pt i)) (X9 m c (ix1 0)) x y = if i.val / 8 = p.val then x else y := by
    rw [h]
    exact chosen i p x y
  by_cases hp : i.val / 8 = p.val
  · rw [if_pos hp]
    exact (congrFun ((q _ _).trans (if_pos hp)) _).trans
      (blk_0 m c i r s _ ((idx_0 m c i p h).trans (congrArg (![·, 0]) (by show min 7 (i.val - 8 * p.val) = i.val % 8; omega))))
  · rw [if_neg hp]
    exact (congrFun ((q _ _).trans (if_neg hp)) _).trans
      (blk_1 m c i r s _ ((idx_1 m c i p h).trans (congrArg (![·, 0]) (by show min 7 (i.val - 8 * (1 - p.val)) = i.val % 8; omega))))

/-! ### The arrays the call leaves -/

theorem apart : ∀ t t' : Fin grid0.N, cc0_transform_9 (grid0.coords t) = cc0_transform_9 (grid0.coords t') → t = t' := by decide +kernel

abbrev arr (w : Fin 9) := (dats m (ok m) 0 c).arrAt w (cfgM m (ok m)).N

theorem start_5 : V m c main_v0_0 = X5 m c := by
  unfold V
  simp only [hostOps0, List.flatten_cons, List.flatten_nil, List.append_nil, List.cons_append, List.nil_append]
  after_reads_simp
  rfl

theorem start_6 : V m c main_v0_1 = X6 m c := by
  unfold V
  simp only [hostOps0, List.flatten_cons, List.flatten_nil, List.append_nil, List.cons_append, List.nil_append]
  after_reads_simp
  rfl

theorem start_7 : V m c main_v0_2 = X7 m c := by
  unfold V
  simp only [hostOps0, List.flatten_cons, List.flatten_nil, List.append_nil, List.cons_append, List.nil_append]
  after_reads_simp
  rfl

theorem start_8 : V m c main_v0_3 = X8 m c := by
  unfold V
  simp only [hostOps0, List.flatten_cons, List.flatten_nil, List.append_nil, List.cons_append, List.nil_append]
  after_reads_simp
  rfl

theorem read_5 (A : Vec Ideal S2x2048x1408 .f32) : (((cfgM m (ok m)).win 5).blk (pt i)).view.read (Elt Ideal) A (ix3 0 r s)
    = A (ix3 0 ⟨i.val * 128 + r.val, by omega⟩ s) := by
  blk_point [idx_5 m i]

theorem arr_5 : arr m c 5 (ix3 0 ⟨i.val * 128 + r.val, by omega⟩ s) = (outsAt0 m (ok m) c (pt i)).1 (ix3 0 r s) := by
  have h := congrFun ((dats m (ok m) 0 c).read_blk_arrAt_eq_flushed 5 (Pipeline.Window.hdisj_of_index_inj _ fun t t' _ _ e => apart t t' e)
    (cfgM m (ok m)).N (pt i) (pt i).isLt (flush0_5 _ _)) (ix3 0 r s)
  exact (read_5 m i r s _).symm.trans (h.trans (congrFun (after0_5 m (ok m) c (pt i)) _))

theorem entry_5 (R : Fin 2048) : arr m c 5 (ix3 1 R s) = X5 m c (ix3 1 R s) := by
  refine ((dats m (ok m) 0 c).arrAt_apply_of_forall_not_mem 5 (cfgM m (ok m)).N _ fun t _ _ hmem => ?_).trans ?_
  · have h : 1 < ((cfgM m (ok m)).win 5).index t (0 : Fin 3) * 1 + 1 :=
      ((Pipeline.Window.emb_mem_blk_iff ((cfgM m (ok m)).win 5) t (ix3 1 R s) rfl).mp hmem (0 : Fin 3)).2
    have e : ((cfgM m (ok m)).win 5).index t (0 : Fin 3) = 0 := congrFun (idx_5 m (⟨t.val, t.isLt⟩ : Fin 16)) (0 : Fin 3)
    omega
  · rw [A_eq]
    exact congrFun (start_5 m c) _

theorem read_6 (A : Vec Ideal S2x2048x1408 .f32) : (((cfgM m (ok m)).win 6).blk (pt i)).view.read (Elt Ideal) A (ix3 0 r s)
    = A (ix3 0 ⟨i.val * 128 + r.val, by omega⟩ s) := by
  blk_point [idx_6 m i]

theorem arr_6 : arr m c 6 (ix3 0 ⟨i.val * 128 + r.val, by omega⟩ s) = (outsAt0 m (ok m) c (pt i)).2.1 (ix3 0 r s) := by
  have h := congrFun ((dats m (ok m) 0 c).read_blk_arrAt_eq_flushed 6 (Pipeline.Window.hdisj_of_index_inj _ fun t t' _ _ e => apart t t' e)
    (cfgM m (ok m)).N (pt i) (pt i).isLt (flush0_6 _ _)) (ix3 0 r s)
  exact (read_6 m i r s _).symm.trans (h.trans (congrFun (after0_6 m (ok m) c (pt i)) _))

theorem entry_6 (R : Fin 2048) : arr m c 6 (ix3 1 R s) = X6 m c (ix3 1 R s) := by
  refine ((dats m (ok m) 0 c).arrAt_apply_of_forall_not_mem 6 (cfgM m (ok m)).N _ fun t _ _ hmem => ?_).trans ?_
  · have h : 1 < ((cfgM m (ok m)).win 6).index t (0 : Fin 3) * 1 + 1 :=
      ((Pipeline.Window.emb_mem_blk_iff ((cfgM m (ok m)).win 6) t (ix3 1 R s) rfl).mp hmem (0 : Fin 3)).2
    have e : ((cfgM m (ok m)).win 6).index t (0 : Fin 3) = 0 := congrFun (idx_6 m (⟨t.val, t.isLt⟩ : Fin 16)) (0 : Fin 3)
    omega
  · rw [A_eq]
    exact congrFun (start_6 m c) _

theorem read_7 (A : Vec Ideal S2x2048x1408 .f32) : (((cfgM m (ok m)).win 7).blk (pt i)).view.read (Elt Ideal) A (ix3 0 r s)
    = A (ix3 0 ⟨i.val * 128 + r.val, by omega⟩ s) := by
  blk_point [idx_7 m i]

theorem arr_7 : arr m c 7 (ix3 0 ⟨i.val * 128 + r.val, by omega⟩ s) = (outsAt0 m (ok m) c (pt i)).2.2.1 (ix3 0 r s) := by
  have h := congrFun ((dats m (ok m) 0 c).read_blk_arrAt_eq_flushed 7 (Pipeline.Window.hdisj_of_index_inj _ fun t t' _ _ e => apart t t' e)
    (cfgM m (ok m)).N (pt i) (pt i).isLt (flush0_7 _ _)) (ix3 0 r s)
  exact (read_7 m i r s _).symm.trans (h.trans (congrFun (after0_7 m (ok m) c (pt i)) _))

theorem entry_7 (R : Fin 2048) : arr m c 7 (ix3 1 R s) = X7 m c (ix3 1 R s) := by
  refine ((dats m (ok m) 0 c).arrAt_apply_of_forall_not_mem 7 (cfgM m (ok m)).N _ fun t _ _ hmem => ?_).trans ?_
  · have h : 1 < ((cfgM m (ok m)).win 7).index t (0 : Fin 3) * 1 + 1 :=
      ((Pipeline.Window.emb_mem_blk_iff ((cfgM m (ok m)).win 7) t (ix3 1 R s) rfl).mp hmem (0 : Fin 3)).2
    have e : ((cfgM m (ok m)).win 7).index t (0 : Fin 3) = 0 := congrFun (idx_7 m (⟨t.val, t.isLt⟩ : Fin 16)) (0 : Fin 3)
    omega
  · rw [A_eq]
    exact congrFun (start_7 m c) _

theorem read_8 (A : Vec Ideal S2x2048x1408 .f32) : (((cfgM m (ok m)).win 8).blk (pt i)).view.read (Elt Ideal) A (ix3 0 r s)
    = A (ix3 0 ⟨i.val * 128 + r.val, by omega⟩ s) := by
  blk_point [idx_8 m i]

theorem arr_8 : arr m c 8 (ix3 0 ⟨i.val * 128 + r.val, by omega⟩ s) = (outsAt0 m (ok m) c (pt i)).2.2.2 (ix3 0 r s) := by
  have h := congrFun ((dats m (ok m) 0 c).read_blk_arrAt_eq_flushed 8 (Pipeline.Window.hdisj_of_index_inj _ fun t t' _ _ e => apart t t' e)
    (cfgM m (ok m)).N (pt i) (pt i).isLt (flush0_8 _ _)) (ix3 0 r s)
  exact (read_8 m i r s _).symm.trans (h.trans (congrFun (after0_8 m (ok m) c (pt i)) _))

theorem entry_8 (R : Fin 2048) : arr m c 8 (ix3 1 R s) = X8 m c (ix3 1 R s) := by
  refine ((dats m (ok m) 0 c).arrAt_apply_of_forall_not_mem 8 (cfgM m (ok m)).N _ fun t _ _ hmem => ?_).trans ?_
  · have h : 1 < ((cfgM m (ok m)).win 8).index t (0 : Fin 3) * 1 + 1 :=
      ((Pipeline.Window.emb_mem_blk_iff ((cfgM m (ok m)).win 8) t (ix3 1 R s) rfl).mp hmem (0 : Fin 3)).2
    have e : ((cfgM m (ok m)).win 8).index t (0 : Fin 3) = 0 := congrFun (idx_8 m (⟨t.val, t.isLt⟩ : Fin 16)) (0 : Fin 3)
    omega
  · rw [A_eq]
    exact congrFun (start_8 m c) _

/-- An array of two layers, of which the call writes the first, entry by entry. -/
theorem layers (A B : Vec Ideal S2x2048x1408 .f32) (h0 : ∀ (s : Fin 1408) (R : Fin 2048), A (ix3 1 R s) = B (ix3 1 R s))
    (h : ∀ (i : Fin 16) (r : Fin 128) (s : Fin 1408), A (ix3 0 ⟨i.val * 128 + r.val, by omega⟩ s) = B (ix3 0 ⟨i.val * 128 + r.val, by omega⟩ s)) :
    A = B := by
  funext y
  obtain ⟨l, R, s, rfl⟩ : ∃ (l : Fin 2) (R : Fin 2048) (s : Fin 1408), y = ix3 l R s := ⟨y 0, y 1, y 2, eq_ix3 y⟩
  match l with
  | ⟨0, _⟩ =>
    obtain ⟨i, r, rfl⟩ := Parts.split (a := 16) (b := 128) (by norm_num) R
    exact h i r s
  | ⟨1, _⟩ => exact h0 s R

open Cert.AdamGate1RefIdeal.Read

variable (p : Fin 2) (hp : X9 m c (ix1 0) = BitVec.ofNat 32 p.val)
include hp

theorem value_g : arr m c 5 = val_main_v40 (F := Ideal) (X0 m c) (X1 m c) (X5 m c) (X9 m c) :=
  layers _ _ (fun s R => (entry_5 m c s R).trans (ref_400 s _ _ _ R _).symm) fun i r s =>
    ((arr_5 m c i r s).trans ((final_g m c i r s).trans (pick_eq m c i r s p hp))).trans (ref_401 s _ _ _ _ _).symm

theorem value_d : arr m c 6 = val_main_v45 (F := Ideal) (X0 m c) (X1 m c) (X2 m c) (X3 m c) (X4 m c) (X6 m c) (X9 m c) :=
  layers _ _ (fun s R => (entry_6 m c s R).trans (ref_450 s _ _ _ _ _ _ R _).symm) fun i r s =>
    ((arr_6 m c i r s).trans ((final_d m c i r s).trans (by
    rw [ref_d, pick_eq m c i r s p hp]
    exact congr (congr (congrArg (Adam.step _) (blk_2 m c i r s)) (blk_3 m c i r s)) (blk_4 m c i r s)))).trans (ref_451 s _ _ _ _ _ _ _ _).symm

theorem value_m : arr m c 7 = val_main_v50 (F := Ideal) (X0 m c) (X1 m c) (X3 m c) (X7 m c) (X9 m c) :=
  layers _ _ (fun s R => (entry_7 m c s R).trans (ref_500 s _ _ _ _ R _).symm) fun i r s =>
    ((arr_7 m c i r s).trans ((final_m m c i r s).trans (by
    rw [ref_m, pick_eq m c i r s p hp]
    exact congrArg (Adam.mean _) (blk_3 m c i r s)))).trans (ref_501 s _ _ _ _ _ _).symm

theorem value_v : arr m c 8 = val_main_v55 (F := Ideal) (X0 m c) (X1 m c) (X4 m c) (X8 m c) (X9 m c) :=
  layers _ _ (fun s R => (entry_8 m c s R).trans (ref_550 s _ _ _ _ R _).symm) fun i r s =>
    ((arr_8 m c i r s).trans ((final_v m c i r s).trans (by
    rw [ref_v, pick_eq m c i r s p hp]
    exact congrArg (Adam.square _) (blk_4 m c i r s)))).trans (ref_551 s _ _ _ _ _ _).symm

omit hp

/-! ### The claims -/

theorem ok_bits (m : (ℓ : Loc Cert.AdamGate1.nD Cert.AdamGate1.τ Cert.AdamGate1.sig) → Buf (Elt Bits) ℓ) : Cert.AdamGate1.Gen.Ok m := by
  unfold Cert.AdamGate1.Gen.Ok
  rw [Cert.AdamGate1.ok0.eq_1]
  constructor <;> intro i <;> refine ⟨fun a => ?_, .inl rfl⟩
  · match a with
    | ⟨0, _⟩ => exact Nat.le_trans (Nat.mul_le_mul_right _ (Nat.add_le_add_right (Adam.held 7 (by norm_num) _) 1)) (by show (7 + 1) * 128 ≤ 1024; omega)
    | ⟨1, _⟩ => exact Nat.le_of_eq rfl
  · match a with
    | ⟨0, _⟩ => exact Nat.le_trans (Nat.mul_le_mul_right _ (Nat.add_le_add_right (Adam.held 7 (by norm_num) _) 1)) (by show (7 + 1) * 128 ≤ 1024; omega)
    | ⟨1, _⟩ => exact Nat.le_of_eq rfl

attribute [local instance] Cert.AdamGate1.Gen.facts Cert.AdamGate1Ideal.Gen.facts Cert.AdamGate1RefIdeal.Gen.facts Cert.Pre_core_gate1.Gen.facts

/-- The precondition says which of the pair the core is. -/
theorem side (h : Cert.Pre_AdamGate1Ideal_core_gate1 m) : ∃ p : Fin 2, X9 m c (ix1 0) = BitVec.ofNat 32 p.val := by
  refine Adam.either _ (Eq.trans ?_ (congrFun (h c) (fun a => a.elim0)))
  pointwise [Cert.Pre_core_gate1.fn]

theorem frame_p : Cert.quiescent_AdamGate1 := fun m ρ _ => Cert.AdamGate1.Gen.frame m ρ (ok_bits m)

theorem frame_pi : Cert.quiescent_AdamGate1Ideal := fun m ρ _ => Cert.AdamGate1Ideal.Gen.frame m ρ (ok m)

theorem frame_pi_pre : Cert.quiescent_AdamGate1Ideal_pre_core_gate1 := fun m ρ _ => Cert.AdamGate1Ideal.Gen.frame m ρ (ok m)

theorem frame_ri : Cert.quiescent_AdamGate1RefIdeal := fun m ρ _ =>
  (θ_run Cert.AdamGate1RefIdeal.defs _ _).mono (fun r h => ⟨fun c => (h c).2.2.2.2, sem_eq_zero_of_no_sems (by decide) r.2⟩)
    (Cert.AdamGate1RefIdeal.Value.run (F := Ideal) m ρ)

theorem frame_ri_pre : Cert.quiescent_AdamGate1RefIdeal_pre_core_gate1 := fun m ρ _ => frame_ri m ρ trivial

theorem algebraic : Cert.algebraic_AdamGate1Ideal_AdamGate1RefIdeal_pre_core_gate1 := by
  intro m ρ m' ρ' hpre hagree
  refine ⟨fun c => val_main_v40 (F := Ideal) (X0 m c) (X1 m c) (X5 m c) (X9 m c), fun c => val_main_v45 (F := Ideal) (X0 m c) (X1 m c) (X2 m c) (X3 m c) (X4 m c) (X6 m c) (X9 m c),
    fun c => val_main_v50 (F := Ideal) (X0 m c) (X1 m c) (X3 m c) (X7 m c) (X9 m c), fun c => val_main_v55 (F := Ideal) (X0 m c) (X1 m c) (X4 m c) (X8 m c) (X9 m c), ?_, ?_⟩
  · refine (θ_run defs _ _).mono (fun r h c => ?_) (θ_run_and (unchanged m ρ (ok m)) (run_main m ρ (ok m)))
    obtain ⟨p, hp⟩ := side m c hpre
    exact ⟨((h.2 c).1 5).trans (value_g m c p hp), ((h.2 c).1 6).trans (value_d m c p hp),
      ((h.2 c).1 7).trans (value_m m c p hp), ((h.2 c).1 8).trans (value_v m c p hp), h.1 c⟩
  · refine (θ_run Cert.AdamGate1RefIdeal.defs _ _).mono (fun _ h c => ?_) (Cert.AdamGate1RefIdeal.Value.run (F := Ideal) m' ρ')
    obtain ⟨h0, h1, h2, h3, h4⟩ := h c
    obtain ⟨e0, e1, e2, e3, e4, e5, e6, e7, e8, e9⟩ := hagree c
    rw [val_main_v40_eq, e0, e1, e5, e9] at h0
    rw [val_main_v45_eq, e0, e1, e2, e3, e4, e6, e9] at h1
    rw [val_main_v50_eq, e0, e1, e3, e7, e9] at h2
    rw [val_main_v55_eq, e0, e1, e4, e8, e9] at h3
    exact ⟨h0, h1, h2, h3, h4⟩

end Gate1
-- ==== Proof.Down0.lean ====
/-
  The optimiser's step of the second layer (the first the call meets) of the weight of the SwiGLU's second half, block of rows by block of rows.
-/
module

public import proofs.«01_k».proof.Defs
public import proofs.«01_k».proof.Proof.Parts
public import proofs.«01_k».proof.Proof.Adam
public import proofs.«01_k».proof.Proof.Gen.AdamDown0.Frame
public import proofs.«01_k».proof.Proof.Gen.AdamDown0Ideal.Frame
public import proofs.«01_k».proof.Proof.Gen.AdamDown0RefIdeal.Read
public import proofs.«01_k».proof.Proof.Gen.Pre_core_down0
public import Idealize.ShloMosaic.Lib.Pointwise
public import Idealize.ShloMosaic.Lib.Pipeline.ValueKit
public import Idealize.ShloMosaic.Lib.StableHlo.RunRead
public import Idealize.ShloMosaic.Lib.Quiescent

@[expose] public section

set_option maxRecDepth 16384

noncomputable section

namespace Down0

open Idealize.ShloMosaic Cert.AdamDown0Ideal Cert.AdamDown0Ideal.Gen Idealize.ShloMosaic.TcCoe Idealize.SL.Sem

section
variable {F : FTy → Type} [FloatOps F]

/-- The blocks lie inside the arrays, whatever the table holds. -/
theorem ok (m : (ℓ : Loc nD τ sig) → Buf (Elt F) ℓ) : Ok m := by
  unfold Ok
  rw [ok0.eq_1]
  constructor <;> intro i <;> refine ⟨fun a => ?_, .inl rfl⟩
  · match a with
    | ⟨0, _⟩ => exact Nat.le_trans (Nat.mul_le_mul_right _ (Nat.add_le_add_right (Adam.held 7 (by norm_num) _) 1)) (by show (7 + 1) * 88 ≤ 704; omega)
    | ⟨1, _⟩ => exact Nat.le_of_eq rfl
  · match a with
    | ⟨0, _⟩ => exact Nat.le_trans (Nat.mul_le_mul_right _ (Nat.add_le_add_right (Adam.held 7 (by norm_num) _) 1)) (by show (7 + 1) * 88 ≤ 704; omega)
    | ⟨1, _⟩ => exact Nat.le_of_eq rfl

end

variable (m : (ℓ : Loc nD τ sig) → Buf (Elt Ideal) ℓ) (c : Dev nD)

/-- The grid point of a tile of rows. -/
def pt (i : Fin 16) : Fin grid0.N := ⟨i.val, by show _ < 16; omega⟩

abbrev X0 : Vec Ideal S704x2048 .f32 := m ((c : Thread nD τ).loc main_arg0)
abbrev X1 : Vec Ideal S704x2048 .f32 := m ((c : Thread nD τ).loc main_arg1)
abbrev X2 : Vec Ideal S2x1408x2048 .f32 := m ((c : Thread nD τ).loc main_arg2)
abbrev X3 : Vec Ideal S2x1408x2048 .f32 := m ((c : Thread nD τ).loc main_arg3)
abbrev X4 : Vec Ideal S2x1408x2048 .f32 := m ((c : Thread nD τ).loc main_arg4)
abbrev X5 : Vec Ideal S5 .i32 := m ((c : Thread nD τ).loc main_arg5)

variable (i : Fin 16) (r : Fin 88) (s : Fin 2048)

theorem idx_2 : ((cfgM m (ok m)).win 2).index (pt i) = ![1, i.val, 0] := by
  show cc0_transform_2 (grid0.coords (pt i)) = _
  revert i
  decide +kernel

theorem idx_3 : ((cfgM m (ok m)).win 3).index (pt i) = ![1, i.val, 0] := idx_2 m i

theorem idx_4 : ((cfgM m (ok m)).win 4).index (pt i) = ![1, i.val, 0] := idx_2 m i

theorem idx_5 : ((cfgM m (ok m)).win 5).index (pt i) = ![1, i.val, 0] := idx_2 m i

theorem idx_6 : ((cfgM m (ok m)).win 6).index (pt i) = ![1, i.val, 0] := idx_2 m i

theorem idx_7 : ((cfgM m (ok m)).win 7).index (pt i) = ![1, i.val, 0] := idx_2 m i

theorem idx_8 : ((cfgM m (ok m)).win 8).index (pt i) = ![1, i.val, 0] := idx_2 m i

theorem blk_2 : iblk m (ok m) c 2 (pt i) (ix3 0 r s) = X2 m c (ix3 1 ⟨i.val * 88 + r.val, by omega⟩ s) := by
  blk_point [iblk, V, idx_2 m i]

theorem blk_3 : iblk m (ok m) c 3 (pt i) (ix3 0 r s) = X3 m c (ix3 1 ⟨i.val * 88 + r.val, by omega⟩ s) := by
  blk_point [iblk, V, idx_3 m i]

theorem blk_4 : iblk m (ok m) c 4 (pt i) (ix3 0 r s) = X4 m c (ix3 1 ⟨i.val * 88 + r.val, by omega⟩ s) := by
  blk_point [iblk, V, idx_4 m i]

theorem blk_0 (k : Fin 8) (h : ((cfgM m (ok m)).win 0).index (pt i) = ![k.val, 0]) :
    iblk m (ok m) c 0 (pt i) (ix2 r s) = X0 m c (ix2 ⟨k.val * 88 + r.val, by omega⟩ s) := by
  blk_point [iblk, V, h]

theorem blk_1 (k : Fin 8) (h : ((cfgM m (ok m)).win 1).index (pt i) = ![k.val, 0]) :
    iblk m (ok m) c 1 (pt i) (ix2 r s) = X1 m c (ix2 ⟨k.val * 88 + r.val, by omega⟩ s) := by
  blk_point [iblk, V, h]

theorem word : tbl m 0 (ix1 0) = X5 m c (ix1 0) := by
  obtain rfl : c = 0 := Subsingleton.elim _ _
  rfl

theorem table (inb : ∀ a, (![0] : Fin 1 → Nat) a + S1.size a ≤ S5.size a) (n : S1.numel = 1) :
    (tbl m).at 0 (Rect.unit (s := S5) ![0] S1.size inb) n = X5 m c (ix1 0) := by
  obtain rfl : c = 0 := Subsingleton.elim _ _
  show X5 m 0 ((Rect.unit (s := S5) ![0] S1.size inb).emb (Shape.Idx.first (n.symm ▸ Nat.one_pos))) = X5 m 0 (ix1 0)
  refine congrArg (X5 m 0) ?_
  funext a
  obtain rfl : a = 0 := Subsingleton.elim _ _
  exact Fin.ext rfl

/-- Which block of a core's half of the gradient a tile reads, on either core. -/
theorem idx_0 (p : Fin 2) (h : X5 m c (ix1 0) = BitVec.ofNat 32 p.val) :
    ((cfgM m (ok m)).win 0).index (pt i) = ![min 7 (i.val - 8 * p.val), 0] := by
  show cc0_transform_0 _ _ (tbl m) (grid0.coords (pt i)) = _
  unfold cc0_transform_0
  rw [table m c, h]
  clear h
  revert i p
  decide +kernel

theorem idx_1 (p : Fin 2) (h : X5 m c (ix1 0) = BitVec.ofNat 32 p.val) :
    ((cfgM m (ok m)).win 1).index (pt i) = ![min 7 (i.val - 8 * (1 - p.val)), 0] := by
  show cc0_transform_1 _ _ (tbl m) (grid0.coords (pt i)) = _
  unfold cc0_transform_1
  rw [table m c, h]
  clear h
  revert i p
  decide +kernel

/-- The half a tile takes its gradient from. -/
theorem chosen (p : Fin 2) (x y : Vec Ideal S88x2048 .f32) :
    k0_pay6 (grid0.coords (pt i)) (BitVec.ofNat 32 p.val) x y = if i.val / 8 = p.val then x else y := by
  fin_cases p <;> fin_cases i <;> rfl

abbrev pick : Vec Ideal S88x2048 .f32 :=
  k0_pay6 (grid0.coords (pt i)) (X5 m c (ix1 0)) (iblk m (ok m) c 0 (pt i)) (iblk m (ok m) c 1 (pt i))

theorem picked : k0_pay6 (grid0.coords (pt i)) ((tbl m).at 0 (Rect.unit (s := S5) ![0] S1.size inb_S5_S1_0) numel1_S1)
    ((ms0_0 m (ok m) (pt i)).view.read (Elt Ideal) ((hs0_0 m (ok m) (pt i)).unread (iblk m (ok m) c 0 (pt i))))
    ((ms0_1 m (ok m) (pt i)).view.read (Elt Ideal) ((hs0_1 m (ok m) (pt i)).unread (iblk m (ok m) c 1 (pt i)))) = pick m c i :=
  congr (congr (congrArg (k0_pay6 _) (table m c _ _)) (Memref.IsWhole.read_unread _ _)) (Memref.IsWhole.read_unread _ _)

theorem final_g : (outsAt0 m (ok m) c (pt i)).1 (ix3 0 r s) = pick m c i (ix2 r s) := by
  unfold outsAt0
  frame_out
  refine Eq.trans (congrFun (congrArg k0_pay2 (picked m c i)) _) ?_
  pointwise [k0_pay2]

theorem final_m : (outsAt0 m (ok m) c (pt i)).2.2.1 (ix3 0 r s) = Adam.mean (pick m c i (ix2 r s)) (iblk m (ok m) c 3 (pt i) (ix3 0 r s)) := by
  unfold outsAt0
  frame_out
  refine Eq.trans (congrFun (congrArg k0_pay4 (congr (congr (congr (congrArg (k0_pay8 _) (table m c inb_S5_S1_0 numel1_S1)) (Memref.IsWhole.read_unread _ _)) (Memref.IsWhole.read_unread _ _))
    (Memref.IsWhole.read_unread (hs0_3 m (ok m) (pt i)) _))) _) ?_
  pointwise [k0_pay4, k0_pay8]
  rfl

theorem final_v : (outsAt0 m (ok m) c (pt i)).2.2.2 (ix3 0 r s) = Adam.square (pick m c i (ix2 r s)) (iblk m (ok m) c 4 (pt i) (ix3 0 r s)) := by
  unfold outsAt0
  frame_out
  refine Eq.trans (congrFun (congr (congrArg k0_pay5 (picked m c i))
    (congrArg k0_pay9 (Memref.IsWhole.read_unread (hs0_4 m (ok m) (pt i)) _))) _) ?_
  pointwise [k0_pay5, k0_pay9, k0_pay1]
  rfl

theorem final_d : (outsAt0 m (ok m) c (pt i)).2.1 (ix3 0 r s) = Adam.step (pick m c i (ix2 r s)) (iblk m (ok m) c 2 (pt i) (ix3 0 r s))
    (iblk m (ok m) c 3 (pt i) (ix3 0 r s)) (iblk m (ok m) c 4 (pt i) (ix3 0 r s)) := by
  unfold outsAt0
  frame_out
  refine Eq.trans (congrFun (congr (congr (congr (congrArg k0_pay3 (picked m c i))
    (congrArg k0_pay7 (Memref.IsWhole.read_unread (hs0_2 m (ok m) (pt i)) _)))
    (congr (congr (congr (congrArg (k0_pay8 _) (table m c inb_S5_S1_0 numel1_S1)) (Memref.IsWhole.read_unread _ _)) (Memref.IsWhole.read_unread _ _))
      (Memref.IsWhole.read_unread (hs0_3 m (ok m) (pt i)) _)))
    (congrArg k0_pay9 (Memref.IsWhole.read_unread (hs0_4 m (ok m) (pt i)) _))) _) ?_
  pointwise [k0_pay3, k0_pay7, k0_pay8, k0_pay9, k0_pay1]
  rfl

section ref
open Cert.AdamDown0RefIdeal.Read
variable (x0 x1 : Vec Ideal S704x2048 .f32) (x2 x3 x4 : Vec Ideal S2x1408x2048 .f32) (x5 : Vec Ideal S5 .i32) (R : Fin 1408)

theorem ref_m : val_main_v16 (F := Ideal) x0 x1 x3 x5 (ix2 R s) = Adam.mean (val_main_v5 (F := Ideal) x0 x1 x5 (ix2 R s)) (x3 (ix3 1 R s)) := by
  pointwise [val_main_v16, val_main_v13, val_main_v12, val_main_cst, val_main_v9, val_main_v8, val_main_v15, val_main_v14, val_main_cst_0]
  rfl

theorem ref_v : val_main_v22 (F := Ideal) x0 x1 x4 x5 (ix2 R s) = Adam.square (val_main_v5 (F := Ideal) x0 x1 x5 (ix2 R s)) (x4 (ix3 1 R s)) := by
  pointwise [val_main_v22, val_main_v21, val_main_v20, val_main_cst_2, val_main_v19, val_main_v18, val_main_v17, val_main_cst_1, val_main_v11,
    val_main_v10]
  rfl

theorem ref_d : val_main_v35 (F := Ideal) x0 x1 x2 x3 x4 x5 (ix2 R s)
    = Adam.step (val_main_v5 (F := Ideal) x0 x1 x5 (ix2 R s)) (x2 (ix3 1 R s)) (x3 (ix3 1 R s)) (x4 (ix3 1 R s)) := by
  unfold Adam.step
  rw [← ref_m s x0 x1 x3 x5 R, ← ref_v s x0 x1 x4 x5 R]
  pointwise [val_main_v35, val_main_v34, val_main_cst_7, val_main_v33, val_main_v32, val_main_v31, val_main_cst_6, val_main_v30, val_main_v29,
    val_main_v28, val_main_cst_5, val_main_v27, val_main_v26, val_main_v25, val_main_cst_4, val_main_v24, val_main_v23, val_main_cst_3,
    val_main_v7, val_main_v6]

theorem ref_g (p : Fin 2) (h : x5 (ix1 0) = BitVec.ofNat 32 p.val) (i : Fin 16) (r : Fin 88) (k : Fin 8) (hk : i.val = 8 * (i.val / 8) + k.val) :
   val_main_v5 (F := Ideal) x0 x1 x5 (ix2 ⟨i.val * 88 + r.val, by omega⟩ s) =
   if i.val / 8 = p.val then x0 (ix2 ⟨k.val * 88 + r.val, by omega⟩ s) else x1 (ix2 ⟨k.val * 88 + r.val, by omega⟩ s) := by
  pointwise [val_main_v5, val_main_v4, val_main_v3, val_main_v2, val_main_v1, val_main_v0, val_main_c, h]
  have z (a b : EReal) : Scalar.select (IntOp.cmpi .eq (BitVec.ofNat 32 0) 0#32) a b = a := rfl
  have o (a b : EReal) : Scalar.select (IntOp.cmpi .eq (BitVec.ofNat 32 1) 0#32) a b = b := rfl
  have e (x : Vec Ideal S704x2048 .f32) (R R' : Fin 704) (hR : R.val = R'.val) : x (ix2 R s) = x (ix2 R' s) :=
    congrArg (fun R => x (ix2 R s)) (Fin.ext hR)
  by_cases hi : i.val < 8
  · rw [dif_pos (by omega), dif_pos (by omega)]
    match p with
    | ⟨0, _⟩ => exact (z _ _).trans ((e _ _ _ (by show _ = _; simp only []; omega)).trans (if_pos (by show _ = 0; omega)).symm)
    | ⟨1, _⟩ => exact (o _ _).trans ((e _ _ _ (by show _ = _; simp only []; omega)).trans (if_neg (by show ¬ _ = 1; omega)).symm)
  · rw [dif_neg (by omega), dif_neg (by omega)]
    match p with
    | ⟨0, _⟩ => exact (z _ _).trans ((e _ _ _ (by show _ = _; simp only []; omega)).trans (if_neg (by show ¬ _ = 0; omega)).symm)
    | ⟨1, _⟩ => exact (o _ _).trans ((e _ _ _ (by show _ = _; simp only []; omega)).trans (if_pos (by show _ = 1; omega)).symm)
end ref

/-- The gradient's entry a tile works from is the sum's, its halves side by side. -/
theorem pick_eq (p : Fin 2) (h : X5 m c (ix1 0) = BitVec.ofNat 32 p.val) : pick m c i (ix2 r s)
    = Cert.AdamDown0RefIdeal.Read.val_main_v5 (F := Ideal) (X0 m c) (X1 m c) (X5 m c) (ix2 ⟨i.val * 88 + r.val, by omega⟩ s) := by
  have hk : i.val = 8 * (i.val / 8) + (⟨i.val % 8, by omega⟩ : Fin 8).val := by
    show i.val = 8 * (i.val / 8) + i.val % 8
    omega
  refine Eq.trans ?_ (ref_g s (X0 m c) (X1 m c) (X5 m c) p h i r ⟨i.val % 8, by omega⟩ hk).symm
  have q (x y : Vec Ideal S88x2048 .f32) : k0_pay6 (grid0.coords (pt i)) (X5 m c (ix1 0)) x y = if i.val / 8 = p.val then x else y := by
    rw [h]
    exact chosen i p x y
  by_cases hp : i.val / 8 = p.val
  · rw [if_pos hp]
    exact (congrFun ((q _ _).trans (if_pos hp)) _).trans
      (blk_0 m c i r s _ ((idx_0 m c i p h).trans (congrArg (![·, 0]) (by show min 7 (i.val - 8 * p.val) = i.val % 8; omega))))
  · rw [if_neg hp]
    exact (congrFun ((q _ _).trans (if_neg hp)) _).trans
      (blk_1 m c i r s _ ((idx_1 m c i p h).trans (congrArg (![·, 0]) (by show min 7 (i.val - 8 * (1 - p.val)) = i.val % 8; omega))))

/-! ### The arrays the call leaves -/

theorem apart : ∀ t t' : Fin grid0.N, cc0_transform_5 (grid0.coords t) = cc0_transform_5 (grid0.coords t') → t = t' := by decide +kernel

abbrev arr (w : Fin 9) := (dats m (ok m) 0 c).arrAt w (cfgM m (ok m)).N

theorem read_5 (A : Vec Ideal S2x1408x2048 .f32) : (((cfgM m (ok m)).win 5).blk (pt i)).view.read (Elt Ideal) A (ix3 0 r s)
    = A (ix3 1 ⟨i.val * 88 + r.val, by omega⟩ s) := by
  blk_point [idx_5 m i]

theorem arr_5 : arr m c 5 (ix3 1 ⟨i.val * 88 + r.val, by omega⟩ s) = (outsAt0 m (ok m) c (pt i)).1 (ix3 0 r s) := by
  have h := congrFun ((dats m (ok m) 0 c).read_blk_arrAt_eq_flushed 5 (Pipeline.Window.hdisj_of_index_inj _ fun t t' _ _ e => apart t t' e)
    (cfgM m (ok m)).N (pt i) (pt i).isLt (flush0_5 _ _)) (ix3 0 r s)
  exact (read_5 m i r s _).symm.trans (h.trans (congrFun (after0_5 m (ok m) c (pt i)) _))

theorem tail_5 : Pipeline.afterTail pcfgs (fun _ => adm m (ok m)) (dats m (ok m)) 0 (V0 m) [hostOps1] c main_v2
    = shapeCast S1408x2048 (extractStridedSlice S1x1408x2048 ![1, 0, 0] (arr m c 5) slices_S2x1408x2048_S1x1408x2048_1_0_0)
      shapeCasts_S1x1408x2048_S1408x2048 := by
  unfold Pipeline.afterTail
  simp only [hostOps1, List.flatten_cons, List.flatten_nil, List.append_nil, List.cons_append, List.nil_append]
  after_reads_simp
  exact congrArg (fun A => shapeCast S1408x2048 (extractStridedSlice S1x1408x2048 ![1, 0, 0] A slices_S2x1408x2048_S1x1408x2048_1_0_0)
    shapeCasts_S1x1408x2048_S1408x2048) (Pipeline.withArrays_arr spec0 (by decide) c (V0 m c) (arr m c) 5)

theorem read_6 (A : Vec Ideal S2x1408x2048 .f32) : (((cfgM m (ok m)).win 6).blk (pt i)).view.read (Elt Ideal) A (ix3 0 r s)
    = A (ix3 1 ⟨i.val * 88 + r.val, by omega⟩ s) := by
  blk_point [idx_6 m i]

theorem arr_6 : arr m c 6 (ix3 1 ⟨i.val * 88 + r.val, by omega⟩ s) = (outsAt0 m (ok m) c (pt i)).2.1 (ix3 0 r s) := by
  have h := congrFun ((dats m (ok m) 0 c).read_blk_arrAt_eq_flushed 6 (Pipeline.Window.hdisj_of_index_inj _ fun t t' _ _ e => apart t t' e)
    (cfgM m (ok m)).N (pt i) (pt i).isLt (flush0_6 _ _)) (ix3 0 r s)
  exact (read_6 m i r s _).symm.trans (h.trans (congrFun (after0_6 m (ok m) c (pt i)) _))

theorem tail_6 : Pipeline.afterTail pcfgs (fun _ => adm m (ok m)) (dats m (ok m)) 0 (V0 m) [hostOps1] c main_v4
    = shapeCast S1408x2048 (extractStridedSlice S1x1408x2048 ![1, 0, 0] (arr m c 6) slices_S2x1408x2048_S1x1408x2048_1_0_0)
      shapeCasts_S1x1408x2048_S1408x2048 := by
  unfold Pipeline.afterTail
  simp only [hostOps1, List.flatten_cons, List.flatten_nil, List.append_nil, List.cons_append, List.nil_append]
  after_reads_simp
  exact congrArg (fun A => shapeCast S1408x2048 (extractStridedSlice S1x1408x2048 ![1, 0, 0] A slices_S2x1408x2048_S1x1408x2048_1_0_0)
    shapeCasts_S1x1408x2048_S1408x2048) (Pipeline.withArrays_arr spec0 (by decide) c (V0 m c) (arr m c) 6)

theorem read_7 (A : Vec Ideal S2x1408x2048 .f32) : (((cfgM m (ok m)).win 7).blk (pt i)).view.read (Elt Ideal) A (ix3 0 r s)
    = A (ix3 1 ⟨i.val * 88 + r.val, by omega⟩ s) := by
  blk_point [idx_7 m i]

theorem arr_7 : arr m c 7 (ix3 1 ⟨i.val * 88 + r.val, by omega⟩ s) = (outsAt0 m (ok m) c (pt i)).2.2.1 (ix3 0 r s) := by
  have h := congrFun ((dats m (ok m) 0 c).read_blk_arrAt_eq_flushed 7 (Pipeline.Window.hdisj_of_index_inj _ fun t t' _ _ e => apart t t' e)
    (cfgM m (ok m)).N (pt i) (pt i).isLt (flush0_7 _ _)) (ix3 0 r s)
  exact (read_7 m i r s _).symm.trans (h.trans (congrFun (after0_7 m (ok m) c (pt i)) _))

theorem tail_7 : Pipeline.afterTail pcfgs (fun _ => adm m (ok m)) (dats m (ok m)) 0 (V0 m) [hostOps1] c main_v6
    = shapeCast S1408x2048 (extractStridedSlice S1x1408x2048 ![1, 0, 0] (arr m c 7) slices_S2x1408x2048_S1x1408x2048_1_0_0)
      shapeCasts_S1x1408x2048_S1408x2048 := by
  unfold Pipeline.afterTail
  simp only [hostOps1, List.flatten_cons, List.flatten_nil, List.append_nil, List.cons_append, List.nil_append]
  after_reads_simp
  exact congrArg (fun A => shapeCast S1408x2048 (extractStridedSlice S1x1408x2048 ![1, 0, 0] A slices_S2x1408x2048_S1x1408x2048_1_0_0)
    shapeCasts_S1x1408x2048_S1408x2048) (Pipeline.withArrays_arr spec0 (by decide) c (V0 m c) (arr m c) 7)

theorem read_8 (A : Vec Ideal S2x1408x2048 .f32) : (((cfgM m (ok m)).win 8).blk (pt i)).view.read (Elt Ideal) A (ix3 0 r s)
    = A (ix3 1 ⟨i.val * 88 + r.val, by omega⟩ s) := by
  blk_point [idx_8 m i]

theorem arr_8 : arr m c 8 (ix3 1 ⟨i.val * 88 + r.val, by omega⟩ s) = (outsAt0 m (ok m) c (pt i)).2.2.2 (ix3 0 r s) := by
  have h := congrFun ((dats m (ok m) 0 c).read_blk_arrAt_eq_flushed 8 (Pipeline.Window.hdisj_of_index_inj _ fun t t' _ _ e => apart t t' e)
    (cfgM m (ok m)).N (pt i) (pt i).isLt (flush0_8 _ _)) (ix3 0 r s)
  exact (read_8 m i r s _).symm.trans (h.trans (congrFun (after0_8 m (ok m) c (pt i)) _))

theorem tail_8 : Pipeline.afterTail pcfgs (fun _ => adm m (ok m)) (dats m (ok m)) 0 (V0 m) [hostOps1] c main_v8
    = shapeCast S1408x2048 (extractStridedSlice S1x1408x2048 ![1, 0, 0] (arr m c 8) slices_S2x1408x2048_S1x1408x2048_1_0_0)
      shapeCasts_S1x1408x2048_S1408x2048 := by
  unfold Pipeline.afterTail
  simp only [hostOps1, List.flatten_cons, List.flatten_nil, List.append_nil, List.cons_append, List.nil_append]
  after_reads_simp
  exact congrArg (fun A => shapeCast S1408x2048 (extractStridedSlice S1x1408x2048 ![1, 0, 0] A slices_S2x1408x2048_S1x1408x2048_1_0_0)
    shapeCasts_S1x1408x2048_S1408x2048) (Pipeline.withArrays_arr spec0 (by decide) c (V0 m c) (arr m c) 8)

/-- The second layer's slab of an array of two layers, entry by entry. -/
theorem slab (A : Vec Ideal S2x1408x2048 .f32) (B : Vec Ideal S1408x2048 .f32)
    (h : ∀ (i : Fin 16) (r : Fin 88) (s : Fin 2048), A (ix3 1 ⟨i.val * 88 + r.val, by omega⟩ s) = B (ix2 ⟨i.val * 88 + r.val, by omega⟩ s)) :
    shapeCast S1408x2048 (extractStridedSlice S1x1408x2048 ![1, 0, 0] A slices_S2x1408x2048_S1x1408x2048_1_0_0)
      shapeCasts_S1x1408x2048_S1408x2048 = B := by
  funext y
  obtain ⟨R, s, rfl⟩ : ∃ (R : Fin 1408) (s : Fin 2048), y = ix2 R s := ⟨y 0, y 1, eq_ix2 y⟩
  obtain ⟨i, r, rfl⟩ := Parts.split (a := 16) (b := 88) (by norm_num) R
  refine Eq.trans ?_ (h i r s)
  pointwise []

open Cert.AdamDown0RefIdeal.Read

variable (p : Fin 2) (hp : X5 m c (ix1 0) = BitVec.ofNat 32 p.val)
include hp

theorem value_g : Pipeline.afterTail pcfgs (fun _ => adm m (ok m)) (dats m (ok m)) 0 (V0 m) [hostOps1] c main_v2
    = val_main_v5 (F := Ideal) (X0 m c) (X1 m c) (X5 m c) :=
  (tail_5 m c).trans (slab _ _ fun i r s => (arr_5 m c i r s).trans ((final_g m c i r s).trans (pick_eq m c i r s p hp)))

theorem value_d : Pipeline.afterTail pcfgs (fun _ => adm m (ok m)) (dats m (ok m)) 0 (V0 m) [hostOps1] c main_v4
    = val_main_v35 (F := Ideal) (X0 m c) (X1 m c) (X2 m c) (X3 m c) (X4 m c) (X5 m c) :=
  (tail_6 m c).trans (slab _ _ fun i r s => (arr_6 m c i r s).trans ((final_d m c i r s).trans (by
    rw [ref_d, pick_eq m c i r s p hp]
    exact congr (congr (congrArg (Adam.step _) (blk_2 m c i r s)) (blk_3 m c i r s)) (blk_4 m c i r s))))

theorem value_m : Pipeline.afterTail pcfgs (fun _ => adm m (ok m)) (dats m (ok m)) 0 (V0 m) [hostOps1] c main_v6
    = val_main_v16 (F := Ideal) (X0 m c) (X1 m c) (X3 m c) (X5 m c) :=
  (tail_7 m c).trans (slab _ _ fun i r s => (arr_7 m c i r s).trans ((final_m m c i r s).trans (by
    rw [ref_m, pick_eq m c i r s p hp]
    exact congrArg (Adam.mean _) (blk_3 m c i r s))))

theorem value_v : Pipeline.afterTail pcfgs (fun _ => adm m (ok m)) (dats m (ok m)) 0 (V0 m) [hostOps1] c main_v8
    = val_main_v22 (F := Ideal) (X0 m c) (X1 m c) (X4 m c) (X5 m c) :=
  (tail_8 m c).trans (slab _ _ fun i r s => (arr_8 m c i r s).trans ((final_v m c i r s).trans (by
    rw [ref_v, pick_eq m c i r s p hp]
    exact congrArg (Adam.square _) (blk_4 m c i r s))))

omit hp

/-! ### The claims -/

theorem ok_bits (m : (ℓ : Loc Cert.AdamDown0.nD Cert.AdamDown0.τ Cert.AdamDown0.sig) → Buf (Elt Bits) ℓ) : Cert.AdamDown0.Gen.Ok m := by
  unfold Cert.AdamDown0.Gen.Ok
  rw [Cert.AdamDown0.ok0.eq_1]
  constructor <;> intro i <;> refine ⟨fun a => ?_, .inl rfl⟩
  · match a with
    | ⟨0, _⟩ => exact Nat.le_trans (Nat.mul_le_mul_right _ (Nat.add_le_add_right (Adam.held 7 (by norm_num) _) 1)) (by show (7 + 1) * 88 ≤ 704; omega)
    | ⟨1, _⟩ => exact Nat.le_of_eq rfl
  · match a with
    | ⟨0, _⟩ => exact Nat.le_trans (Nat.mul_le_mul_right _ (Nat.add_le_add_right (Adam.held 7 (by norm_num) _) 1)) (by show (7 + 1) * 88 ≤ 704; omega)
    | ⟨1, _⟩ => exact Nat.le_of_eq rfl

attribute [local instance] Cert.AdamDown0.Gen.facts Cert.AdamDown0Ideal.Gen.facts Cert.AdamDown0RefIdeal.Gen.facts Cert.Pre_core_down0.Gen.facts

/-- The precondition says which of the pair the core is. -/
theorem side (h : Cert.Pre_AdamDown0Ideal_core_down0 m) : ∃ p : Fin 2, X5 m c (ix1 0) = BitVec.ofNat 32 p.val := by
  refine Adam.either _ (Eq.trans ?_ (congrFun (h c) (fun a => a.elim0)))
  pointwise [Cert.Pre_core_down0.fn]

theorem frame_p : Cert.quiescent_AdamDown0 := fun m ρ _ => Cert.AdamDown0.Gen.frame m ρ (ok_bits m)

theorem frame_pi : Cert.quiescent_AdamDown0Ideal := fun m ρ _ => Cert.AdamDown0Ideal.Gen.frame m ρ (ok m)

theorem frame_pi_pre : Cert.quiescent_AdamDown0Ideal_pre_core_down0 := fun m ρ _ => Cert.AdamDown0Ideal.Gen.frame m ρ (ok m)

theorem frame_ri : Cert.quiescent_AdamDown0RefIdeal := fun m ρ _ =>
  (θ_run Cert.AdamDown0RefIdeal.defs _ _).mono (fun r h => ⟨fun c => (h c).2.2.2.2, sem_eq_zero_of_no_sems (by decide) r.2⟩)
    (Cert.AdamDown0RefIdeal.Value.run (F := Ideal) m ρ)

theorem frame_ri_pre : Cert.quiescent_AdamDown0RefIdeal_pre_core_down0 := fun m ρ _ => frame_ri m ρ trivial

theorem algebraic : Cert.algebraic_AdamDown0Ideal_AdamDown0RefIdeal_pre_core_down0 := by
  intro m ρ m' ρ' hpre hagree
  refine ⟨fun c => val_main_v5 (F := Ideal) (X0 m c) (X1 m c) (X5 m c), fun c => val_main_v35 (F := Ideal) (X0 m c) (X1 m c) (X2 m c) (X3 m c) (X4 m c) (X5 m c),
    fun c => val_main_v16 (F := Ideal) (X0 m c) (X1 m c) (X3 m c) (X5 m c), fun c => val_main_v22 (F := Ideal) (X0 m c) (X1 m c) (X4 m c) (X5 m c), ?_, ?_⟩
  · refine (θ_run defs _ _).mono (fun r h c => ?_) (θ_run_and (unchanged m ρ (ok m)) (run_main m ρ (ok m)))
    obtain ⟨p, hp⟩ := side m c hpre
    exact ⟨((h.2 c).2 main_v2 (by decide : main_v2 ∈ Pipeline.restRefs sig spec0)).trans (value_g m c p hp), ((h.2 c).2 main_v4 (by decide : main_v4 ∈ Pipeline.restRefs sig spec0)).trans (value_d m c p hp),
      ((h.2 c).2 main_v6 (by decide : main_v6 ∈ Pipeline.restRefs sig spec0)).trans (value_m m c p hp), ((h.2 c).2 main_v8 (by decide : main_v8 ∈ Pipeline.restRefs sig spec0)).trans (value_v m c p hp), h.1 c⟩
  · refine (θ_run Cert.AdamDown0RefIdeal.defs _ _).mono (fun _ h c => ?_) (Cert.AdamDown0RefIdeal.Value.run (F := Ideal) m' ρ')
    obtain ⟨h0, h1, h2, h3, h4⟩ := h c
    obtain ⟨e0, e1, e2, e3, e4, e5⟩ := hagree c
    rw [val_main_v5_eq, e0, e1, e5] at h0
    rw [val_main_v35_eq, e0, e1, e2, e3, e4, e5] at h1
    rw [val_main_v16_eq, e0, e1, e3, e5] at h2
    rw [val_main_v22_eq, e0, e1, e4, e5] at h3
    exact ⟨h0, h1, h2, h3, h4⟩

end Down0
-- ==== Proof.Down1.lean ====
/-
  The optimiser's step of the first layer of the weight of the SwiGLU's second half, block of rows by block of rows.
-/
module

public import proofs.«01_k».proof.Defs
public import proofs.«01_k».proof.Proof.Parts
public import proofs.«01_k».proof.Proof.Adam
public import proofs.«01_k».proof.Proof.Gen.AdamDown1.Frame
public import proofs.«01_k».proof.Proof.Gen.AdamDown1Ideal.Frame
public import proofs.«01_k».proof.Proof.Gen.AdamDown1RefIdeal.Read
public import proofs.«01_k».proof.Proof.Gen.Pre_core_down1
public import Idealize.ShloMosaic.Lib.Pointwise
public import Idealize.ShloMosaic.Lib.Pipeline.ValueKit
public import Idealize.ShloMosaic.Lib.StableHlo.RunRead
public import Idealize.ShloMosaic.Lib.Quiescent

@[expose] public section

set_option maxRecDepth 16384

noncomputable section

namespace Down1

open Idealize.ShloMosaic Cert.AdamDown1Ideal Cert.AdamDown1Ideal.Gen Idealize.ShloMosaic.TcCoe Idealize.SL.Sem

section
variable {F : FTy → Type} [FloatOps F]

/-- The blocks lie inside the arrays, whatever the table holds. -/
theorem ok (m : (ℓ : Loc nD τ sig) → Buf (Elt F) ℓ) : Ok m := by
  unfold Ok
  rw [ok0.eq_1]
  constructor <;> intro i <;> refine ⟨fun a => ?_, .inl rfl⟩
  · match a with
    | ⟨0, _⟩ => exact Nat.le_trans (Nat.mul_le_mul_right _ (Nat.add_le_add_right (Adam.held 7 (by norm_num) _) 1)) (by show (7 + 1) * 88 ≤ 704; omega)
    | ⟨1, _⟩ => exact Nat.le_of_eq rfl
  · match a with
    | ⟨0, _⟩ => exact Nat.le_trans (Nat.mul_le_mul_right _ (Nat.add_le_add_right (Adam.held 7 (by norm_num) _) 1)) (by show (7 + 1) * 88 ≤ 704; omega)
    | ⟨1, _⟩ => exact Nat.le_of_eq rfl

end

variable (m : (ℓ : Loc nD τ sig) → Buf (Elt Ideal) ℓ) (c : Dev nD)

/-- The grid point of a tile of rows. -/
def pt (i : Fin 16) : Fin grid0.N := ⟨i.val, by show _ < 16; omega⟩

abbrev X0 : Vec Ideal S704x2048 .f32 := m ((c : Thread nD τ).loc main_arg0)
abbrev X1 : Vec Ideal S704x2048 .f32 := m ((c : Thread nD τ).loc main_arg1)
abbrev X2 : Vec Ideal S2x1408x2048 .f32 := m ((c : Thread nD τ).loc main_arg2)
abbrev X3 : Vec Ideal S2x1408x2048 .f32 := m ((c : Thread nD τ).loc main_arg3)
abbrev X4 : Vec Ideal S2x1408x2048 .f32 := m ((c : Thread nD τ).loc main_arg4)
abbrev X5 : Vec Ideal S2x1408x2048 .f32 := m ((c : Thread nD τ).loc main_arg5)
abbrev X6 : Vec Ideal S2x1408x2048 .f32 := m ((c : Thread nD τ).loc main_arg6)
abbrev X7 : Vec Ideal S2x1408x2048 .f32 := m ((c : Thread nD τ).loc main_arg7)
abbrev X8 : Vec Ideal S2x1408x2048 .f32 := m ((c : Thread nD τ).loc main_arg8)
abbrev X9 : Vec Ideal S5 .i32 := m ((c : Thread nD τ).loc main_arg9)

variable (i : Fin 16) (r : Fin 88) (s : Fin 2048)

theorem idx_2 : ((cfgM m (ok m)).win 2).index (pt i) = ![0, i.val, 0] := by
  show cc0_transform_2 (grid0.coords (pt i)) = _
  revert i
  decide +kernel

theorem idx_3 : ((cfgM m (ok m)).win 3).index (pt i) = ![0, i.val, 0] := idx_2 m i

theorem idx_4 : ((cfgM m (ok m)).win 4).index (pt i) = ![0, i.val, 0] := idx_2 m i

theorem idx_5 : ((cfgM m (ok m)).win 5).index (pt i) = ![0, i.val, 0] := idx_2 m i

theorem idx_6 : ((cfgM m (ok m)).win 6).index (pt i) = ![0, i.val, 0] := idx_2 m i

theorem idx_7 : ((cfgM m (ok m)).win 7).index (pt i) = ![0, i.val, 0] := idx_2 m i

theorem idx_8 : ((cfgM m (ok m)).win 8).index (pt i) = ![0, i.val, 0] := idx_2 m i

theorem blk_2 : iblk m (ok m) c 2 (pt i) (ix3 0 r s) = X2 m c (ix3 0 ⟨i.val * 88 + r.val, by omega⟩ s) := by
  blk_point [iblk, V, idx_2 m i]

theorem blk_3 : iblk m (ok m) c 3 (pt i) (ix3 0 r s) = X3 m c (ix3 0 ⟨i.val * 88 + r.val, by omega⟩ s) := by
  blk_point [iblk, V, idx_3 m i]

theorem blk_4 : iblk m (ok m) c 4 (pt i) (ix3 0 r s) = X4 m c (ix3 0 ⟨i.val * 88 + r.val, by omega⟩ s) := by
  blk_point [iblk, V, idx_4 m i]

theorem blk_0 (k : Fin 8) (h : ((cfgM m (ok m)).win 0).index (pt i) = ![k.val, 0]) :
    iblk m (ok m) c 0 (pt i) (ix2 r s) = X0 m c (ix2 ⟨k.val * 88 + r.val, by omega⟩ s) := by
  blk_point [iblk, V, h]

theorem blk_1 (k : Fin 8) (h : ((cfgM m (ok m)).win 1).index (pt i) = ![k.val, 0]) :
    iblk m (ok m) c 1 (pt i) (ix2 r s) = X1 m c (ix2 ⟨k.val * 88 + r.val, by omega⟩ s) := by
  blk_point [iblk, V, h]

theorem word : tbl m 0 (ix1 0) = X9 m c (ix1 0) := by
  obtain rfl : c = 0 := Subsingleton.elim _ _
  rfl

theorem table (inb : ∀ a, (![0] : Fin 1 → Nat) a + S1.size a ≤ S5.size a) (n : S1.numel = 1) :
    (tbl m).at 0 (Rect.unit (s := S5) ![0] S1.size inb) n = X9 m c (ix1 0) := by
  obtain rfl : c = 0 := Subsingleton.elim _ _
  show X9 m 0 ((Rect.unit (s := S5) ![0] S1.size inb).emb (Shape.Idx.first (n.symm ▸ Nat.one_pos))) = X9 m 0 (ix1 0)
  refine congrArg (X9 m 0) ?_
  funext a
  obtain rfl : a = 0 := Subsingleton.elim _ _
  exact Fin.ext rfl

/-- Which block of a core's half of the gradient a tile reads, on either core. -/
theorem idx_0 (p : Fin 2) (h : X9 m c (ix1 0) = BitVec.ofNat 32 p.val) :
    ((cfgM m (ok m)).win 0).index (pt i) = ![min 7 (i.val - 8 * p.val), 0] := by
  show cc0_transform_0 _ _ (tbl m) (grid0.coords (pt i)) = _
  unfold cc0_transform_0
  rw [table m c, h]
  clear h
  revert i p
  decide +kernel

theorem idx_1 (p : Fin 2) (h : X9 m c (ix1 0) = BitVec.ofNat 32 p.val) :
    ((cfgM m (ok m)).win 1).index (pt i) = ![min 7 (i.val - 8 * (1 - p.val)), 0] := by
  show cc0_transform_1 _ _ (tbl m) (grid0.coords (pt i)) = _
  unfold cc0_transform_1
  rw [table m c, h]
  clear h
  revert i p
  decide +kernel

/-- The half a tile takes its gradient from. -/
theorem chosen (p : Fin 2) (x y : Vec Ideal S88x2048 .f32) :
    k0_pay6 (grid0.coords (pt i)) (BitVec.ofNat 32 p.val) x y = if i.val / 8 = p.val then x else y := by
  fin_cases p <;> fin_cases i <;> rfl

abbrev pick : Vec Ideal S88x2048 .f32 :=
  k0_pay6 (grid0.coords (pt i)) (X9 m c (ix1 0)) (iblk m (ok m) c 0 (pt i)) (iblk m (ok m) c 1 (pt i))

theorem picked : k0_pay6 (grid0.coords (pt i)) ((tbl m).at 0 (Rect.unit (s := S5) ![0] S1.size inb_S5_S1_0) numel1_S1)
    ((ms0_0 m (ok m) (pt i)).view.read (Elt Ideal) ((hs0_0 m (ok m) (pt i)).unread (iblk m (ok m) c 0 (pt i))))
    ((ms0_1 m (ok m) (pt i)).view.read (Elt Ideal) ((hs0_1 m (ok m) (pt i)).unread (iblk m (ok m) c 1 (pt i)))) = pick m c i :=
  congr (congr (congrArg (k0_pay6 _) (table m c _ _)) (Memref.IsWhole.read_unread _ _)) (Memref.IsWhole.read_unread _ _)

theorem final_g : (outsAt0 m (ok m) c (pt i)).1 (ix3 0 r s) = pick m c i (ix2 r s) := by
  unfold outsAt0
  frame_out
  refine Eq.trans (congrFun (congrArg k0_pay2 (picked m c i)) _) ?_
  pointwise [k0_pay2]

theorem final_m : (outsAt0 m (ok m) c (pt i)).2.2.1 (ix3 0 r s) = Adam.mean (pick m c i (ix2 r s)) (iblk m (ok m) c 3 (pt i) (ix3 0 r s)) := by
  unfold outsAt0
  frame_out
  refine Eq.trans (congrFun (congrArg k0_pay4 (congr (congr (congr (congrArg (k0_pay8 _) (table m c inb_S5_S1_0 numel1_S1)) (Memref.IsWhole.read_unread _ _)) (Memref.IsWhole.read_unread _ _))
    (Memref.IsWhole.read_unread (hs0_3 m (ok m) (pt i)) _))) _) ?_
  pointwise [k0_pay4, k0_pay8]
  rfl

theorem final_v : (outsAt0 m (ok m) c (pt i)).2.2.2 (ix3 0 r s) = Adam.square (pick m c i (ix2 r s)) (iblk m (ok m) c 4 (pt i) (ix3 0 r s)) := by
  unfold outsAt0
  frame_out
  refine Eq.trans (congrFun (congr (congrArg k0_pay5 (picked m c i))
    (congrArg k0_pay9 (Memref.IsWhole.read_unread (hs0_4 m (ok m) (pt i)) _))) _) ?_
  pointwise [k0_pay5, k0_pay9, k0_pay1]
  rfl

theorem final_d : (outsAt0 m (ok m) c (pt i)).2.1 (ix3 0 r s) = Adam.step (pick m c i (ix2 r s)) (iblk m (ok m) c 2 (pt i) (ix3 0 r s))
    (iblk m (ok m) c 3 (pt i) (ix3 0 r s)) (iblk m (ok m) c 4 (pt i) (ix3 0 r s)) := by
  unfold outsAt0
  frame_out
  refine Eq.trans (congrFun (congr (congr (congr (congrArg k0_pay3 (picked m c i))
    (congrArg k0_pay7 (Memref.IsWhole.read_unread (hs0_2 m (ok m) (pt i)) _)))
    (congr (congr (congr (congrArg (k0_pay8 _) (table m c inb_S5_S1_0 numel1_S1)) (Memref.IsWhole.read_unread _ _)) (Memref.IsWhole.read_unread _ _))
      (Memref.IsWhole.read_unread (hs0_3 m (ok m) (pt i)) _)))
    (congrArg k0_pay9 (Memref.IsWhole.read_unread (hs0_4 m (ok m) (pt i)) _))) _) ?_
  pointwise [k0_pay3, k0_pay7, k0_pay8, k0_pay9, k0_pay1]
  rfl

section ref
open Cert.AdamDown1RefIdeal.Read
variable (x0 x1 : Vec Ideal S704x2048 .f32) (x2 x3 x4 : Vec Ideal S2x1408x2048 .f32) (x9 : Vec Ideal S5 .i32) (R : Fin 1408)

theorem ref_m : val_main_v16 (F := Ideal) x0 x1 x3 x9 (ix2 R s) = Adam.mean (val_main_v5 (F := Ideal) x0 x1 x9 (ix2 R s)) (x3 (ix3 0 R s)) := by
  pointwise [val_main_v16, val_main_v13, val_main_v12, val_main_cst, val_main_v9, val_main_v8, val_main_v15, val_main_v14, val_main_cst_0]
  rfl

theorem ref_v : val_main_v22 (F := Ideal) x0 x1 x4 x9 (ix2 R s) = Adam.square (val_main_v5 (F := Ideal) x0 x1 x9 (ix2 R s)) (x4 (ix3 0 R s)) := by
  pointwise [val_main_v22, val_main_v21, val_main_v20, val_main_cst_2, val_main_v19, val_main_v18, val_main_v17, val_main_cst_1, val_main_v11,
    val_main_v10]
  rfl

theorem ref_d : val_main_v35 (F := Ideal) x0 x1 x2 x3 x4 x9 (ix2 R s)
    = Adam.step (val_main_v5 (F := Ideal) x0 x1 x9 (ix2 R s)) (x2 (ix3 0 R s)) (x3 (ix3 0 R s)) (x4 (ix3 0 R s)) := by
  unfold Adam.step
  rw [← ref_m s x0 x1 x3 x9 R, ← ref_v s x0 x1 x4 x9 R]
  pointwise [val_main_v35, val_main_v34, val_main_cst_7, val_main_v33, val_main_v32, val_main_v31, val_main_cst_6, val_main_v30, val_main_v29,
    val_main_v28, val_main_cst_5, val_main_v27, val_main_v26, val_main_v25, val_main_cst_4, val_main_v24, val_main_v23, val_main_cst_3,
    val_main_v7, val_main_v6]

theorem ref_g (p : Fin 2) (h : x9 (ix1 0) = BitVec.ofNat 32 p.val) (i : Fin 16) (r : Fin 88) (k : Fin 8) (hk : i.val = 8 * (i.val / 8) + k.val) :
   val_main_v5 (F := Ideal) x0 x1 x9 (ix2 ⟨i.val * 88 + r.val, by omega⟩ s) =
   if i.val / 8 = p.val then x0 (ix2 ⟨k.val * 88 + r.val, by omega⟩ s) else x1 (ix2 ⟨k.val * 88 + r.val, by omega⟩ s) := by
  pointwise [val_main_v5, val_main_v4, val_main_v3, val_main_v2, val_main_v1, val_main_v0, val_main_c, h]
  have z (a b : EReal) : Scalar.select (IntOp.cmpi .eq (BitVec.ofNat 32 0) 0#32) a b = a := rfl
  have o (a b : EReal) : Scalar.select (IntOp.cmpi .eq (BitVec.ofNat 32 1) 0#32) a b = b := rfl
  have e (x : Vec Ideal S704x2048 .f32) (R R' : Fin 704) (hR : R.val = R'.val) : x (ix2 R s) = x (ix2 R' s) :=
    congrArg (fun R => x (ix2 R s)) (Fin.ext hR)
  by_cases hi : i.val < 8
  · rw [dif_pos (by omega), dif_pos (by omega)]
    match p with
    | ⟨0, _⟩ => exact (z _ _).trans ((e _ _ _ (by show _ = _; simp only []; omega)).trans (if_pos (by show _ = 0; omega)).symm)
    | ⟨1, _⟩ => exact (o _ _).trans ((e _ _ _ (by show _ = _; simp only []; omega)).trans (if_neg (by show ¬ _ = 1; omega)).symm)
  · rw [dif_neg (by omega), dif_neg (by omega)]
    match p with
    | ⟨0, _⟩ => exact (z _ _).trans ((e _ _ _ (by show _ = _; simp only []; omega)).trans (if_neg (by show ¬ _ = 0; omega)).symm)
    | ⟨1, _⟩ => exact (o _ _).trans ((e _ _ _ (by show _ = _; simp only []; omega)).trans (if_pos (by show _ = 1; omega)).symm)
theorem ref_400 (a : Vec Ideal S2x1408x2048 .f32) : val_main_v40 (F := Ideal) x0 x1 a x9 (ix3 1 R s) = a (ix3 1 R s) := by
  pointwise [val_main_v40, val_main_v39, val_main_v38, val_main_v37, val_main_v36]

theorem ref_401 (a : Vec Ideal S2x1408x2048 .f32) : val_main_v40 (F := Ideal) x0 x1 a x9 (ix3 0 R s) = val_main_v5 (F := Ideal) x0 x1 x9 (ix2 R s) := by
  pointwise [val_main_v40, val_main_v39, val_main_v38, val_main_v37, val_main_v36]

theorem ref_450 (a : Vec Ideal S2x1408x2048 .f32) : val_main_v45 (F := Ideal) x0 x1 x2 x3 x4 a x9 (ix3 1 R s) = a (ix3 1 R s) := by
  pointwise [val_main_v45, val_main_v44, val_main_v43, val_main_v42, val_main_v41]

theorem ref_451 (a : Vec Ideal S2x1408x2048 .f32) : val_main_v45 (F := Ideal) x0 x1 x2 x3 x4 a x9 (ix3 0 R s) = val_main_v35 (F := Ideal) x0 x1 x2 x3 x4 x9 (ix2 R s) := by
  pointwise [val_main_v45, val_main_v44, val_main_v43, val_main_v42, val_main_v41]

theorem ref_500 (a : Vec Ideal S2x1408x2048 .f32) : val_main_v50 (F := Ideal) x0 x1 x3 a x9 (ix3 1 R s) = a (ix3 1 R s) := by
  pointwise [val_main_v50, val_main_v49, val_main_v48, val_main_v47, val_main_v46]

theorem ref_501 (a : Vec Ideal S2x1408x2048 .f32) : val_main_v50 (F := Ideal) x0 x1 x3 a x9 (ix3 0 R s) = val_main_v16 (F := Ideal) x0 x1 x3 x9 (ix2 R s) := by
  pointwise [val_main_v50, val_main_v49, val_main_v48, val_main_v47, val_main_v46]

theorem ref_550 (a : Vec Ideal S2x1408x2048 .f32) : val_main_v55 (F := Ideal) x0 x1 x4 a x9 (ix3 1 R s) = a (ix3 1 R s) := by
  pointwise [val_main_v55, val_main_v54, val_main_v53, val_main_v52, val_main_v51]

theorem ref_551 (a : Vec Ideal S2x1408x2048 .f32) : val_main_v55 (F := Ideal) x0 x1 x4 a x9 (ix3 0 R s) = val_main_v22 (F := Ideal) x0 x1 x4 x9 (ix2 R s) := by
  pointwise [val_main_v55, val_main_v54, val_main_v53, val_main_v52, val_main_v51]

end ref

/-- The gradient's entry a tile works from is the sum's, its halves side by side. -/
theorem pick_eq (p : Fin 2) (h : X9 m c (ix1 0) = BitVec.ofNat 32 p.val) : pick m c i (ix2 r s)
    = Cert.AdamDown1RefIdeal.Read.val_main_v5 (F := Ideal) (X0 m c) (X1 m c) (X9 m c) (ix2 ⟨i.val * 88 + r.val, by omega⟩ s) := by
  have hk : i.val = 8 * (i.val / 8) + (⟨i.val % 8, by omega⟩ : Fin 8).val := by
    show i.val = 8 * (i.val / 8) + i.val % 8
    omega
  refine Eq.trans ?_ (ref_g s (X0 m c) (X1 m c) (X9 m c) p h i r ⟨i.val % 8, by omega⟩ hk).symm
  have q (x y : Vec Ideal S88x2048 .f32) : k0_pay6 (grid0.coords (pt i)) (X9 m c (ix1 0)) x y = if i.val / 8 = p.val then x else y := by
    rw [h]
    exact chosen i p x y
  by_cases hp : i.val / 8 = p.val
  · rw [if_pos hp]
    exact (congrFun ((q _ _).trans (if_pos hp)) _).trans
      (blk_0 m c i r s _ ((idx_0 m c i p h).trans (congrArg (![·, 0]) (by show min 7 (i.val - 8 * p.val) = i.val % 8; omega))))
  · rw [if_neg hp]
    exact (congrFun ((q _ _).trans (if_neg hp)) _).trans
      (blk_1 m c i r s _ ((idx_1 m c i p h).trans (congrArg (![·, 0]) (by show min 7 (i.val - 8 * (1 - p.val)) = i.val % 8; omega))))

/-! ### The arrays the call leaves -/

theorem apart : ∀ t t' : Fin grid0.N, cc0_transform_9 (grid0.coords t) = cc0_transform_9 (grid0.coords t') → t = t' := by decide +kernel

abbrev arr (w : Fin 9) := (dats m (ok m) 0 c).arrAt w (cfgM m (ok m)).N

theorem start_5 : V m c main_v0_0 = X5 m c := by
  unfold V
  simp only [hostOps0, List.flatten_cons, List.flatten_nil, List.append_nil, List.cons_append, List.nil_append]
  after_reads_simp
  rfl

theorem start_6 : V m c main_v0_1 = X6 m c := by
  unfold V
  simp only [hostOps0, List.flatten_cons, List.flatten_nil, List.append_nil, List.cons_append, List.nil_append]
  after_reads_simp
  rfl

theorem start_7 : V m c main_v0_2 = X7 m c := by
  unfold V
  simp only [hostOps0, List.flatten_cons, List.flatten_nil, List.append_nil, List.cons_append, List.nil_append]
  after_reads_simp
  rfl

theorem start_8 : V m c main_v0_3 = X8 m c := by
  unfold V
  simp only [hostOps0, List.flatten_cons, List.flatten_nil, List.append_nil, List.cons_append, List.nil_append]
  after_reads_simp
  rfl

theorem read_5 (A : Vec Ideal S2x1408x2048 .f32) : (((cfgM m (ok m)).win 5).blk (pt i)).view.read (Elt Ideal) A (ix3 0 r s)
    = A (ix3 0 ⟨i.val * 88 + r.val, by omega⟩ s) := by
  blk_point [idx_5 m i]

theorem arr_5 : arr m c 5 (ix3 0 ⟨i.val * 88 + r.val, by omega⟩ s) = (outsAt0 m (ok m) c (pt i)).1 (ix3 0 r s) := by
  have h := congrFun ((dats m (ok m) 0 c).read_blk_arrAt_eq_flushed 5 (Pipeline.Window.hdisj_of_index_inj _ fun t t' _ _ e => apart t t' e)
    (cfgM m (ok m)).N (pt i) (pt i).isLt (flush0_5 _ _)) (ix3 0 r s)
  exact (read_5 m i r s _).symm.trans (h.trans (congrFun (after0_5 m (ok m) c (pt i)) _))

theorem entry_5 (R : Fin 1408) : arr m c 5 (ix3 1 R s) = X5 m c (ix3 1 R s) := by
  refine ((dats m (ok m) 0 c).arrAt_apply_of_forall_not_mem 5 (cfgM m (ok m)).N _ fun t _ _ hmem => ?_).trans ?_
  · have h : 1 < ((cfgM m (ok m)).win 5).index t (0 : Fin 3) * 1 + 1 :=
      ((Pipeline.Window.emb_mem_blk_iff ((cfgM m (ok m)).win 5) t (ix3 1 R s) rfl).mp hmem (0 : Fin 3)).2
    have e : ((cfgM m (ok m)).win 5).index t (0 : Fin 3) = 0 := congrFun (idx_5 m (⟨t.val, t.isLt⟩ : Fin 16)) (0 : Fin 3)
    omega
  · rw [A_eq]
    exact congrFun (start_5 m c) _

theorem read_6 (A : Vec Ideal S2x1408x2048 .f32) : (((cfgM m (ok m)).win 6).blk (pt i)).view.read (Elt Ideal) A (ix3 0 r s)
    = A (ix3 0 ⟨i.val * 88 + r.val, by omega⟩ s) := by
  blk_point [idx_6 m i]

theorem arr_6 : arr m c 6 (ix3 0 ⟨i.val * 88 + r.val, by omega⟩ s) = (outsAt0 m (ok m) c (pt i)).2.1 (ix3 0 r s) := by
  have h := congrFun ((dats m (ok m) 0 c).read_blk_arrAt_eq_flushed 6 (Pipeline.Window.hdisj_of_index_inj _ fun t t' _ _ e => apart t t' e)
    (cfgM m (ok m)).N (pt i) (pt i).isLt (flush0_6 _ _)) (ix3 0 r s)
  exact (read_6 m i r s _).symm.trans (h.trans (congrFun (after0_6 m (ok m) c (pt i)) _))

theorem entry_6 (R : Fin 1408) : arr m c 6 (ix3 1 R s) = X6 m c (ix3 1 R s) := by
  refine ((dats m (ok m) 0 c).arrAt_apply_of_forall_not_mem 6 (cfgM m (ok m)).N _ fun t _ _ hmem => ?_).trans ?_
  · have h : 1 < ((cfgM m (ok m)).win 6).index t (0 : Fin 3) * 1 + 1 :=
      ((Pipeline.Window.emb_mem_blk_iff ((cfgM m (ok m)).win 6) t (ix3 1 R s) rfl).mp hmem (0 : Fin 3)).2
    have e : ((cfgM m (ok m)).win 6).index t (0 : Fin 3) = 0 := congrFun (idx_6 m (⟨t.val, t.isLt⟩ : Fin 16)) (0 : Fin 3)
    omega
  · rw [A_eq]
    exact congrFun (start_6 m c) _

theorem read_7 (A : Vec Ideal S2x1408x2048 .f32) : (((cfgM m (ok m)).win 7).blk (pt i)).view.read (Elt Ideal) A (ix3 0 r s)
    = A (ix3 0 ⟨i.val * 88 + r.val, by omega⟩ s) := by
  blk_point [idx_7 m i]

theorem arr_7 : arr m c 7 (ix3 0 ⟨i.val * 88 + r.val, by omega⟩ s) = (outsAt0 m (ok m) c (pt i)).2.2.1 (ix3 0 r s) := by
  have h := congrFun ((dats m (ok m) 0 c).read_blk_arrAt_eq_flushed 7 (Pipeline.Window.hdisj_of_index_inj _ fun t t' _ _ e => apart t t' e)
    (cfgM m (ok m)).N (pt i) (pt i).isLt (flush0_7 _ _)) (ix3 0 r s)
  exact (read_7 m i r s _).symm.trans (h.trans (congrFun (after0_7 m (ok m) c (pt i)) _))

theorem entry_7 (R : Fin 1408) : arr m c 7 (ix3 1 R s) = X7 m c (ix3 1 R s) := by
  refine ((dats m (ok m) 0 c).arrAt_apply_of_forall_not_mem 7 (cfgM m (ok m)).N _ fun t _ _ hmem => ?_).trans ?_
  · have h : 1 < ((cfgM m (ok m)).win 7).index t (0 : Fin 3) * 1 + 1 :=
      ((Pipeline.Window.emb_mem_blk_iff ((cfgM m (ok m)).win 7) t (ix3 1 R s) rfl).mp hmem (0 : Fin 3)).2
    have e : ((cfgM m (ok m)).win 7).index t (0 : Fin 3) = 0 := congrFun (idx_7 m (⟨t.val, t.isLt⟩ : Fin 16)) (0 : Fin 3)
    omega
  · rw [A_eq]
    exact congrFun (start_7 m c) _

theorem read_8 (A : Vec Ideal S2x1408x2048 .f32) : (((cfgM m (ok m)).win 8).blk (pt i)).view.read (Elt Ideal) A (ix3 0 r s)
    = A (ix3 0 ⟨i.val * 88 + r.val, by omega⟩ s) := by
  blk_point [idx_8 m i]

theorem arr_8 : arr m c 8 (ix3 0 ⟨i.val * 88 + r.val, by omega⟩ s) = (outsAt0 m (ok m) c (pt i)).2.2.2 (ix3 0 r s) := by
  have h := congrFun ((dats m (ok m) 0 c).read_blk_arrAt_eq_flushed 8 (Pipeline.Window.hdisj_of_index_inj _ fun t t' _ _ e => apart t t' e)
    (cfgM m (ok m)).N (pt i) (pt i).isLt (flush0_8 _ _)) (ix3 0 r s)
  exact (read_8 m i r s _).symm.trans (h.trans (congrFun (after0_8 m (ok m) c (pt i)) _))

theorem entry_8 (R : Fin 1408) : arr m c 8 (ix3 1 R s) = X8 m c (ix3 1 R s) := by
  refine ((dats m (ok m) 0 c).arrAt_apply_of_forall_not_mem 8 (cfgM m (ok m)).N _ fun t _ _ hmem => ?_).trans ?_
  · have h : 1 < ((cfgM m (ok m)).win 8).index t (0 : Fin 3) * 1 + 1 :=
      ((Pipeline.Window.emb_mem_blk_iff ((cfgM m (ok m)).win 8) t (ix3 1 R s) rfl).mp hmem (0 : Fin 3)).2
    have e : ((cfgM m (ok m)).win 8).index t (0 : Fin 3) = 0 := congrFun (idx_8 m (⟨t.val, t.isLt⟩ : Fin 16)) (0 : Fin 3)
    omega
  · rw [A_eq]
    exact congrFun (start_8 m c) _

/-- An array of two layers, of which the call writes the first, entry by entry. -/
theorem layers (A B : Vec Ideal S2x1408x2048 .f32) (h0 : ∀ (s : Fin 2048) (R : Fin 1408), A (ix3 1 R s) = B (ix3 1 R s))
    (h : ∀ (i : Fin 16) (r : Fin 88) (s : Fin 2048), A (ix3 0 ⟨i.val * 88 + r.val, by omega⟩ s) = B (ix3 0 ⟨i.val * 88 + r.val, by omega⟩ s)) :
    A = B := by
  funext y
  obtain ⟨l, R, s, rfl⟩ : ∃ (l : Fin 2) (R : Fin 1408) (s : Fin 2048), y = ix3 l R s := ⟨y 0, y 1, y 2, eq_ix3 y⟩
  match l with
  | ⟨0, _⟩ =>
    obtain ⟨i, r, rfl⟩ := Parts.split (a := 16) (b := 88) (by norm_num) R
    exact h i r s
  | ⟨1, _⟩ => exact h0 s R

open Cert.AdamDown1RefIdeal.Read

variable (p : Fin 2) (hp : X9 m c (ix1 0) = BitVec.ofNat 32 p.val)
include hp

theorem value_g : arr m c 5 = val_main_v40 (F := Ideal) (X0 m c) (X1 m c) (X5 m c) (X9 m c) :=
  layers _ _ (fun s R => (entry_5 m c s R).trans (ref_400 s _ _ _ R _).symm) fun i r s =>
    ((arr_5 m c i r s).trans ((final_g m c i r s).trans (pick_eq m c i r s p hp))).trans (ref_401 s _ _ _ _ _).symm

theorem value_d : arr m c 6 = val_main_v45 (F := Ideal) (X0 m c) (X1 m c) (X2 m c) (X3 m c) (X4 m c) (X6 m c) (X9 m c) :=
  layers _ _ (fun s R => (entry_6 m c s R).trans (ref_450 s _ _ _ _ _ _ R _).symm) fun i r s =>
    ((arr_6 m c i r s).trans ((final_d m c i r s).trans (by
    rw [ref_d, pick_eq m c i r s p hp]
    exact congr (congr (congrArg (Adam.step _) (blk_2 m c i r s)) (blk_3 m c i r s)) (blk_4 m c i r s)))).trans (ref_451 s _ _ _ _ _ _ _ _).symm

theorem value_m : arr m c 7 = val_main_v50 (F := Ideal) (X0 m c) (X1 m c) (X3 m c) (X7 m c) (X9 m c) :=
  layers _ _ (fun s R => (entry_7 m c s R).trans (ref_500 s _ _ _ _ R _).symm) fun i r s =>
    ((arr_7 m c i r s).trans ((final_m m c i r s).trans (by
    rw [ref_m, pick_eq m c i r s p hp]
    exact congrArg (Adam.mean _) (blk_3 m c i r s)))).trans (ref_501 s _ _ _ _ _ _).symm

theorem value_v : arr m c 8 = val_main_v55 (F := Ideal) (X0 m c) (X1 m c) (X4 m c) (X8 m c) (X9 m c) :=
  layers _ _ (fun s R => (entry_8 m c s R).trans (ref_550 s _ _ _ _ R _).symm) fun i r s =>
    ((arr_8 m c i r s).trans ((final_v m c i r s).trans (by
    rw [ref_v, pick_eq m c i r s p hp]
    exact congrArg (Adam.square _) (blk_4 m c i r s)))).trans (ref_551 s _ _ _ _ _ _).symm

omit hp

/-! ### The claims -/

theorem ok_bits (m : (ℓ : Loc Cert.AdamDown1.nD Cert.AdamDown1.τ Cert.AdamDown1.sig) → Buf (Elt Bits) ℓ) : Cert.AdamDown1.Gen.Ok m := by
  unfold Cert.AdamDown1.Gen.Ok
  rw [Cert.AdamDown1.ok0.eq_1]
  constructor <;> intro i <;> refine ⟨fun a => ?_, .inl rfl⟩
  · match a with
    | ⟨0, _⟩ => exact Nat.le_trans (Nat.mul_le_mul_right _ (Nat.add_le_add_right (Adam.held 7 (by norm_num) _) 1)) (by show (7 + 1) * 88 ≤ 704; omega)
    | ⟨1, _⟩ => exact Nat.le_of_eq rfl
  · match a with
    | ⟨0, _⟩ => exact Nat.le_trans (Nat.mul_le_mul_right _ (Nat.add_le_add_right (Adam.held 7 (by norm_num) _) 1)) (by show (7 + 1) * 88 ≤ 704; omega)
    | ⟨1, _⟩ => exact Nat.le_of_eq rfl

attribute [local instance] Cert.AdamDown1.Gen.facts Cert.AdamDown1Ideal.Gen.facts Cert.AdamDown1RefIdeal.Gen.facts Cert.Pre_core_down1.Gen.facts

/-- The precondition says which of the pair the core is. -/
theorem side (h : Cert.Pre_AdamDown1Ideal_core_down1 m) : ∃ p : Fin 2, X9 m c (ix1 0) = BitVec.ofNat 32 p.val := by
  refine Adam.either _ (Eq.trans ?_ (congrFun (h c) (fun a => a.elim0)))
  pointwise [Cert.Pre_core_down1.fn]

theorem frame_p : Cert.quiescent_AdamDown1 := fun m ρ _ => Cert.AdamDown1.Gen.frame m ρ (ok_bits m)

theorem frame_pi : Cert.quiescent_AdamDown1Ideal := fun m ρ _ => Cert.AdamDown1Ideal.Gen.frame m ρ (ok m)

theorem frame_pi_pre : Cert.quiescent_AdamDown1Ideal_pre_core_down1 := fun m ρ _ => Cert.AdamDown1Ideal.Gen.frame m ρ (ok m)

theorem frame_ri : Cert.quiescent_AdamDown1RefIdeal := fun m ρ _ =>
  (θ_run Cert.AdamDown1RefIdeal.defs _ _).mono (fun r h => ⟨fun c => (h c).2.2.2.2, sem_eq_zero_of_no_sems (by decide) r.2⟩)
    (Cert.AdamDown1RefIdeal.Value.run (F := Ideal) m ρ)

theorem frame_ri_pre : Cert.quiescent_AdamDown1RefIdeal_pre_core_down1 := fun m ρ _ => frame_ri m ρ trivial

theorem algebraic : Cert.algebraic_AdamDown1Ideal_AdamDown1RefIdeal_pre_core_down1 := by
  intro m ρ m' ρ' hpre hagree
  refine ⟨fun c => val_main_v40 (F := Ideal) (X0 m c) (X1 m c) (X5 m c) (X9 m c), fun c => val_main_v45 (F := Ideal) (X0 m c) (X1 m c) (X2 m c) (X3 m c) (X4 m c) (X6 m c) (X9 m c),
    fun c => val_main_v50 (F := Ideal) (X0 m c) (X1 m c) (X3 m c) (X7 m c) (X9 m c), fun c => val_main_v55 (F := Ideal) (X0 m c) (X1 m c) (X4 m c) (X8 m c) (X9 m c), ?_, ?_⟩
  · refine (θ_run defs _ _).mono (fun r h c => ?_) (θ_run_and (unchanged m ρ (ok m)) (run_main m ρ (ok m)))
    obtain ⟨p, hp⟩ := side m c hpre
    exact ⟨((h.2 c).1 5).trans (value_g m c p hp), ((h.2 c).1 6).trans (value_d m c p hp),
      ((h.2 c).1 7).trans (value_m m c p hp), ((h.2 c).1 8).trans (value_v m c p hp), h.1 c⟩
  · refine (θ_run Cert.AdamDown1RefIdeal.defs _ _).mono (fun _ h c => ?_) (Cert.AdamDown1RefIdeal.Value.run (F := Ideal) m' ρ')
    obtain ⟨h0, h1, h2, h3, h4⟩ := h c
    obtain ⟨e0, e1, e2, e3, e4, e5, e6, e7, e8, e9⟩ := hagree c
    rw [val_main_v40_eq, e0, e1, e5, e9] at h0
    rw [val_main_v45_eq, e0, e1, e2, e3, e4, e6, e9] at h1
    rw [val_main_v50_eq, e0, e1, e3, e7, e9] at h2
    rw [val_main_v55_eq, e0, e1, e4, e8, e9] at h3
    exact ⟨h0, h1, h2, h3, h4⟩

end Down1
-- ==== Proof.Out0.lean ====
/-
  The optimiser's step of the second layer (the first the call meets) of the mixer's output weight, block of rows by block of rows.
-/
module

public import proofs.«01_k».proof.Defs
public import proofs.«01_k».proof.Proof.Parts
public import proofs.«01_k».proof.Proof.Adam
public import proofs.«01_k».proof.Proof.Gen.AdamOut0.Frame
public import proofs.«01_k».proof.Proof.Gen.AdamOut0Ideal.Frame
public import proofs.«01_k».proof.Proof.Gen.AdamOut0RefIdeal.Read
public import proofs.«01_k».proof.Proof.Gen.Pre_core_out0
public import Idealize.ShloMosaic.Lib.Pointwise
public import Idealize.ShloMosaic.Lib.Pipeline.ValueKit
public import Idealize.ShloMosaic.Lib.StableHlo.RunRead
public import Idealize.ShloMosaic.Lib.Quiescent

@[expose] public section

set_option maxRecDepth 16384

noncomputable section

namespace Out0

open Idealize.ShloMosaic Cert.AdamOut0Ideal Cert.AdamOut0Ideal.Gen Idealize.ShloMosaic.TcCoe Idealize.SL.Sem

section
variable {F : FTy → Type} [FloatOps F]

/-- The blocks lie inside the arrays, whatever the table holds. -/
theorem ok (m : (ℓ : Loc nD τ sig) → Buf (Elt F) ℓ) : Ok m := by
  unfold Ok
  rw [ok0.eq_1]
  constructor <;> intro i <;> refine ⟨fun a => ?_, .inl rfl⟩
  · match a with
    | ⟨0, _⟩ => exact Nat.le_trans (Nat.mul_le_mul_right _ (Nat.add_le_add_right (Adam.held 1 (by norm_num) _) 1)) (by show (1 + 1) * 128 ≤ 256; omega)
    | ⟨1, _⟩ => exact Nat.le_of_eq rfl
  · match a with
    | ⟨0, _⟩ => exact Nat.le_trans (Nat.mul_le_mul_right _ (Nat.add_le_add_right (Adam.held 1 (by norm_num) _) 1)) (by show (1 + 1) * 128 ≤ 256; omega)
    | ⟨1, _⟩ => exact Nat.le_of_eq rfl

end

variable (m : (ℓ : Loc nD τ sig) → Buf (Elt Ideal) ℓ) (c : Dev nD)

/-- The grid point of a tile of rows. -/
def pt (i : Fin 4) : Fin grid0.N := ⟨i.val, by show _ < 4; omega⟩

abbrev X0 : Vec Ideal S256x2048 .f32 := m ((c : Thread nD τ).loc main_arg0)
abbrev X1 : Vec Ideal S256x2048 .f32 := m ((c : Thread nD τ).loc main_arg1)
abbrev X2 : Vec Ideal S2x512x2048 .f32 := m ((c : Thread nD τ).loc main_arg2)
abbrev X3 : Vec Ideal S2x512x2048 .f32 := m ((c : Thread nD τ).loc main_arg3)
abbrev X4 : Vec Ideal S2x512x2048 .f32 := m ((c : Thread nD τ).loc main_arg4)
abbrev X5 : Vec Ideal S5 .i32 := m ((c : Thread nD τ).loc main_arg5)

variable (i : Fin 4) (r : Fin 128) (s : Fin 2048)

theorem idx_2 : ((cfgM m (ok m)).win 2).index (pt i) = ![1, i.val, 0] := by
  show cc0_transform_2 (grid0.coords (pt i)) = _
  revert i
  decide +kernel

theorem idx_3 : ((cfgM m (ok m)).win 3).index (pt i) = ![1, i.val, 0] := idx_2 m i

theorem idx_4 : ((cfgM m (ok m)).win 4).index (pt i) = ![1, i.val, 0] := idx_2 m i

theorem idx_5 : ((cfgM m (ok m)).win 5).index (pt i) = ![1, i.val, 0] := idx_2 m i

theorem idx_6 : ((cfgM m (ok m)).win 6).index (pt i) = ![1, i.val, 0] := idx_2 m i

theorem idx_7 : ((cfgM m (ok m)).win 7).index (pt i) = ![1, i.val, 0] := idx_2 m i

theorem idx_8 : ((cfgM m (ok m)).win 8).index (pt i) = ![1, i.val, 0] := idx_2 m i

theorem blk_2 : iblk m (ok m) c 2 (pt i) (ix3 0 r s) = X2 m c (ix3 1 ⟨i.val * 128 + r.val, by omega⟩ s) := by
  blk_point [iblk, V, idx_2 m i]

theorem blk_3 : iblk m (ok m) c 3 (pt i) (ix3 0 r s) = X3 m c (ix3 1 ⟨i.val * 128 + r.val, by omega⟩ s) := by
  blk_point [iblk, V, idx_3 m i]

theorem blk_4 : iblk m (ok m) c 4 (pt i) (ix3 0 r s) = X4 m c (ix3 1 ⟨i.val * 128 + r.val, by omega⟩ s) := by
  blk_point [iblk, V, idx_4 m i]

theorem blk_0 (k : Fin 2) (h : ((cfgM m (ok m)).win 0).index (pt i) = ![k.val, 0]) :
    iblk m (ok m) c 0 (pt i) (ix2 r s) = X0 m c (ix2 ⟨k.val * 128 + r.val, by omega⟩ s) := by
  blk_point [iblk, V, h]

theorem blk_1 (k : Fin 2) (h : ((cfgM m (ok m)).win 1).index (pt i) = ![k.val, 0]) :
    iblk m (ok m) c 1 (pt i) (ix2 r s) = X1 m c (ix2 ⟨k.val * 128 + r.val, by omega⟩ s) := by
  blk_point [iblk, V, h]

theorem word : tbl m 0 (ix1 0) = X5 m c (ix1 0) := by
  obtain rfl : c = 0 := Subsingleton.elim _ _
  rfl

theorem table (inb : ∀ a, (![0] : Fin 1 → Nat) a + S1.size a ≤ S5.size a) (n : S1.numel = 1) :
    (tbl m).at 0 (Rect.unit (s := S5) ![0] S1.size inb) n = X5 m c (ix1 0) := by
  obtain rfl : c = 0 := Subsingleton.elim _ _
  show X5 m 0 ((Rect.unit (s := S5) ![0] S1.size inb).emb (Shape.Idx.first (n.symm ▸ Nat.one_pos))) = X5 m 0 (ix1 0)
  refine congrArg (X5 m 0) ?_
  funext a
  obtain rfl : a = 0 := Subsingleton.elim _ _
  exact Fin.ext rfl

/-- Which block of a core's half of the gradient a tile reads, on either core. -/
theorem idx_0 (p : Fin 2) (h : X5 m c (ix1 0) = BitVec.ofNat 32 p.val) :
    ((cfgM m (ok m)).win 0).index (pt i) = ![min 1 (i.val - 2 * p.val), 0] := by
  show cc0_transform_0 _ _ (tbl m) (grid0.coords (pt i)) = _
  unfold cc0_transform_0
  rw [table m c, h]
  clear h
  revert i p
  decide +kernel

theorem idx_1 (p : Fin 2) (h : X5 m c (ix1 0) = BitVec.ofNat 32 p.val) :
    ((cfgM m (ok m)).win 1).index (pt i) = ![min 1 (i.val - 2 * (1 - p.val)), 0] := by
  show cc0_transform_1 _ _ (tbl m) (grid0.coords (pt i)) = _
  unfold cc0_transform_1
  rw [table m c, h]
  clear h
  revert i p
  decide +kernel

/-- The half a tile takes its gradient from. -/
theorem chosen (p : Fin 2) (x y : Vec Ideal S128x2048 .f32) :
    k0_pay6 (grid0.coords (pt i)) (BitVec.ofNat 32 p.val) x y = if i.val / 2 = p.val then x else y := by
  fin_cases p <;> fin_cases i <;> rfl

abbrev pick : Vec Ideal S128x2048 .f32 :=
  k0_pay6 (grid0.coords (pt i)) (X5 m c (ix1 0)) (iblk m (ok m) c 0 (pt i)) (iblk m (ok m) c 1 (pt i))

theorem picked : k0_pay6 (grid0.coords (pt i)) ((tbl m).at 0 (Rect.unit (s := S5) ![0] S1.size inb_S5_S1_0) numel1_S1)
    ((ms0_0 m (ok m) (pt i)).view.read (Elt Ideal) ((hs0_0 m (ok m) (pt i)).unread (iblk m (ok m) c 0 (pt i))))
    ((ms0_1 m (ok m) (pt i)).view.read (Elt Ideal) ((hs0_1 m (ok m) (pt i)).unread (iblk m (ok m) c 1 (pt i)))) = pick m c i :=
  congr (congr (congrArg (k0_pay6 _) (table m c _ _)) (Memref.IsWhole.read_unread _ _)) (Memref.IsWhole.read_unread _ _)

theorem final_g : (outsAt0 m (ok m) c (pt i)).1 (ix3 0 r s) = pick m c i (ix2 r s) := by
  unfold outsAt0
  frame_out
  refine Eq.trans (congrFun (congrArg k0_pay2 (picked m c i)) _) ?_
  pointwise [k0_pay2]

theorem final_m : (outsAt0 m (ok m) c (pt i)).2.2.1 (ix3 0 r s) = Adam.mean (pick m c i (ix2 r s)) (iblk m (ok m) c 3 (pt i) (ix3 0 r s)) := by
  unfold outsAt0
  frame_out
  refine Eq.trans (congrFun (congrArg k0_pay4 (congr (congr (congr (congrArg (k0_pay8 _) (table m c inb_S5_S1_0 numel1_S1)) (Memref.IsWhole.read_unread _ _)) (Memref.IsWhole.read_unread _ _))
    (Memref.IsWhole.read_unread (hs0_3 m (ok m) (pt i)) _))) _) ?_
  pointwise [k0_pay4, k0_pay8]
  rfl

theorem final_v : (outsAt0 m (ok m) c (pt i)).2.2.2 (ix3 0 r s) = Adam.square (pick m c i (ix2 r s)) (iblk m (ok m) c 4 (pt i) (ix3 0 r s)) := by
  unfold outsAt0
  frame_out
  refine Eq.trans (congrFun (congr (congrArg k0_pay5 (picked m c i))
    (congrArg k0_pay9 (Memref.IsWhole.read_unread (hs0_4 m (ok m) (pt i)) _))) _) ?_
  pointwise [k0_pay5, k0_pay9, k0_pay1]
  rfl

theorem final_d : (outsAt0 m (ok m) c (pt i)).2.1 (ix3 0 r s) = Adam.step (pick m c i (ix2 r s)) (iblk m (ok m) c 2 (pt i) (ix3 0 r s))
    (iblk m (ok m) c 3 (pt i) (ix3 0 r s)) (iblk m (ok m) c 4 (pt i) (ix3 0 r s)) := by
  unfold outsAt0
  frame_out
  refine Eq.trans (congrFun (congr (congr (congr (congrArg k0_pay3 (picked m c i))
    (congrArg k0_pay7 (Memref.IsWhole.read_unread (hs0_2 m (ok m) (pt i)) _)))
    (congr (congr (congr (congrArg (k0_pay8 _) (table m c inb_S5_S1_0 numel1_S1)) (Memref.IsWhole.read_unread _ _)) (Memref.IsWhole.read_unread _ _))
      (Memref.IsWhole.read_unread (hs0_3 m (ok m) (pt i)) _)))
    (congrArg k0_pay9 (Memref.IsWhole.read_unread (hs0_4 m (ok m) (pt i)) _))) _) ?_
  pointwise [k0_pay3, k0_pay7, k0_pay8, k0_pay9, k0_pay1]
  rfl

section ref
open Cert.AdamOut0RefIdeal.Read
variable (x0 x1 : Vec Ideal S256x2048 .f32) (x2 x3 x4 : Vec Ideal S2x512x2048 .f32) (x5 : Vec Ideal S5 .i32) (R : Fin 512)

theorem ref_m : val_main_v16 (F := Ideal) x0 x1 x3 x5 (ix2 R s) = Adam.mean (val_main_v5 (F := Ideal) x0 x1 x5 (ix2 R s)) (x3 (ix3 1 R s)) := by
  pointwise [val_main_v16, val_main_v13, val_main_v12, val_main_cst, val_main_v9, val_main_v8, val_main_v15, val_main_v14, val_main_cst_0]
  rfl

theorem ref_v : val_main_v22 (F := Ideal) x0 x1 x4 x5 (ix2 R s) = Adam.square (val_main_v5 (F := Ideal) x0 x1 x5 (ix2 R s)) (x4 (ix3 1 R s)) := by
  pointwise [val_main_v22, val_main_v21, val_main_v20, val_main_cst_2, val_main_v19, val_main_v18, val_main_v17, val_main_cst_1, val_main_v11,
    val_main_v10]
  rfl

theorem ref_d : val_main_v35 (F := Ideal) x0 x1 x2 x3 x4 x5 (ix2 R s)
    = Adam.step (val_main_v5 (F := Ideal) x0 x1 x5 (ix2 R s)) (x2 (ix3 1 R s)) (x3 (ix3 1 R s)) (x4 (ix3 1 R s)) := by
  unfold Adam.step
  rw [← ref_m s x0 x1 x3 x5 R, ← ref_v s x0 x1 x4 x5 R]
  pointwise [val_main_v35, val_main_v34, val_main_cst_7, val_main_v33, val_main_v32, val_main_v31, val_main_cst_6, val_main_v30, val_main_v29,
    val_main_v28, val_main_cst_5, val_main_v27, val_main_v26, val_main_v25, val_main_cst_4, val_main_v24, val_main_v23, val_main_cst_3,
    val_main_v7, val_main_v6]

theorem ref_g (p : Fin 2) (h : x5 (ix1 0) = BitVec.ofNat 32 p.val) (i : Fin 4) (r : Fin 128) (k : Fin 2) (hk : i.val = 2 * (i.val / 2) + k.val) :
   val_main_v5 (F := Ideal) x0 x1 x5 (ix2 ⟨i.val * 128 + r.val, by omega⟩ s) =
   if i.val / 2 = p.val then x0 (ix2 ⟨k.val * 128 + r.val, by omega⟩ s) else x1 (ix2 ⟨k.val * 128 + r.val, by omega⟩ s) := by
  pointwise [val_main_v5, val_main_v4, val_main_v3, val_main_v2, val_main_v1, val_main_v0, val_main_c, h]
  have z (a b : EReal) : Scalar.select (IntOp.cmpi .eq (BitVec.ofNat 32 0) 0#32) a b = a := rfl
  have o (a b : EReal) : Scalar.select (IntOp.cmpi .eq (BitVec.ofNat 32 1) 0#32) a b = b := rfl
  have e (x : Vec Ideal S256x2048 .f32) (R R' : Fin 256) (hR : R.val = R'.val) : x (ix2 R s) = x (ix2 R' s) :=
    congrArg (fun R => x (ix2 R s)) (Fin.ext hR)
  by_cases hi : i.val < 2
  · rw [dif_pos (by omega), dif_pos (by omega)]
    match p with
    | ⟨0, _⟩ => exact (z _ _).trans ((e _ _ _ (by show _ = _; simp only []; omega)).trans (if_pos (by show _ = 0; omega)).symm)
    | ⟨1, _⟩ => exact (o _ _).trans ((e _ _ _ (by show _ = _; simp only []; omega)).trans (if_neg (by show ¬ _ = 1; omega)).symm)
  · rw [dif_neg (by omega), dif_neg (by omega)]
    match p with
    | ⟨0, _⟩ => exact (z _ _).trans ((e _ _ _ (by show _ = _; simp only []; omega)).trans (if_neg (by show ¬ _ = 0; omega)).symm)
    | ⟨1, _⟩ => exact (o _ _).trans ((e _ _ _ (by show _ = _; simp only []; omega)).trans (if_pos (by show _ = 1; omega)).symm)
end ref

/-- The gradient's entry a tile works from is the sum's, its halves side by side. -/
theorem pick_eq (p : Fin 2) (h : X5 m c (ix1 0) = BitVec.ofNat 32 p.val) : pick m c i (ix2 r s)
    = Cert.AdamOut0RefIdeal.Read.val_main_v5 (F := Ideal) (X0 m c) (X1 m c) (X5 m c) (ix2 ⟨i.val * 128 + r.val, by omega⟩ s) := by
  have hk : i.val = 2 * (i.val / 2) + (⟨i.val % 2, by omega⟩ : Fin 2).val := by
    show i.val = 2 * (i.val / 2) + i.val % 2
    omega
  refine Eq.trans ?_ (ref_g s (X0 m c) (X1 m c) (X5 m c) p h i r ⟨i.val % 2, by omega⟩ hk).symm
  have q (x y : Vec Ideal S128x2048 .f32) : k0_pay6 (grid0.coords (pt i)) (X5 m c (ix1 0)) x y = if i.val / 2 = p.val then x else y := by
    rw [h]
    exact chosen i p x y
  by_cases hp : i.val / 2 = p.val
  · rw [if_pos hp]
    exact (congrFun ((q _ _).trans (if_pos hp)) _).trans
      (blk_0 m c i r s _ ((idx_0 m c i p h).trans (congrArg (![·, 0]) (by show min 1 (i.val - 2 * p.val) = i.val % 2; omega))))
  · rw [if_neg hp]
    exact (congrFun ((q _ _).trans (if_neg hp)) _).trans
      (blk_1 m c i r s _ ((idx_1 m c i p h).trans (congrArg (![·, 0]) (by show min 1 (i.val - 2 * (1 - p.val)) = i.val % 2; omega))))

/-! ### The arrays the call leaves -/

theorem apart : ∀ t t' : Fin grid0.N, cc0_transform_5 (grid0.coords t) = cc0_transform_5 (grid0.coords t') → t = t' := by decide +kernel

abbrev arr (w : Fin 9) := (dats m (ok m) 0 c).arrAt w (cfgM m (ok m)).N

theorem read_5 (A : Vec Ideal S2x512x2048 .f32) : (((cfgM m (ok m)).win 5).blk (pt i)).view.read (Elt Ideal) A (ix3 0 r s)
    = A (ix3 1 ⟨i.val * 128 + r.val, by omega⟩ s) := by
  blk_point [idx_5 m i]

theorem arr_5 : arr m c 5 (ix3 1 ⟨i.val * 128 + r.val, by omega⟩ s) = (outsAt0 m (ok m) c (pt i)).1 (ix3 0 r s) := by
  have h := congrFun ((dats m (ok m) 0 c).read_blk_arrAt_eq_flushed 5 (Pipeline.Window.hdisj_of_index_inj _ fun t t' _ _ e => apart t t' e)
    (cfgM m (ok m)).N (pt i) (pt i).isLt (flush0_5 _ _)) (ix3 0 r s)
  exact (read_5 m i r s _).symm.trans (h.trans (congrFun (after0_5 m (ok m) c (pt i)) _))

theorem tail_5 : Pipeline.afterTail pcfgs (fun _ => adm m (ok m)) (dats m (ok m)) 0 (V0 m) [hostOps1] c main_v2
    = shapeCast S512x2048 (extractStridedSlice S1x512x2048 ![1, 0, 0] (arr m c 5) slices_S2x512x2048_S1x512x2048_1_0_0)
      shapeCasts_S1x512x2048_S512x2048 := by
  unfold Pipeline.afterTail
  simp only [hostOps1, List.flatten_cons, List.flatten_nil, List.append_nil, List.cons_append, List.nil_append]
  after_reads_simp
  exact congrArg (fun A => shapeCast S512x2048 (extractStridedSlice S1x512x2048 ![1, 0, 0] A slices_S2x512x2048_S1x512x2048_1_0_0)
    shapeCasts_S1x512x2048_S512x2048) (Pipeline.withArrays_arr spec0 (by decide) c (V0 m c) (arr m c) 5)

theorem read_6 (A : Vec Ideal S2x512x2048 .f32) : (((cfgM m (ok m)).win 6).blk (pt i)).view.read (Elt Ideal) A (ix3 0 r s)
    = A (ix3 1 ⟨i.val * 128 + r.val, by omega⟩ s) := by
  blk_point [idx_6 m i]

theorem arr_6 : arr m c 6 (ix3 1 ⟨i.val * 128 + r.val, by omega⟩ s) = (outsAt0 m (ok m) c (pt i)).2.1 (ix3 0 r s) := by
  have h := congrFun ((dats m (ok m) 0 c).read_blk_arrAt_eq_flushed 6 (Pipeline.Window.hdisj_of_index_inj _ fun t t' _ _ e => apart t t' e)
    (cfgM m (ok m)).N (pt i) (pt i).isLt (flush0_6 _ _)) (ix3 0 r s)
  exact (read_6 m i r s _).symm.trans (h.trans (congrFun (after0_6 m (ok m) c (pt i)) _))

theorem tail_6 : Pipeline.afterTail pcfgs (fun _ => adm m (ok m)) (dats m (ok m)) 0 (V0 m) [hostOps1] c main_v4
    = shapeCast S512x2048 (extractStridedSlice S1x512x2048 ![1, 0, 0] (arr m c 6) slices_S2x512x2048_S1x512x2048_1_0_0)
      shapeCasts_S1x512x2048_S512x2048 := by
  unfold Pipeline.afterTail
  simp only [hostOps1, List.flatten_cons, List.flatten_nil, List.append_nil, List.cons_append, List.nil_append]
  after_reads_simp
  exact congrArg (fun A => shapeCast S512x2048 (extractStridedSlice S1x512x2048 ![1, 0, 0] A slices_S2x512x2048_S1x512x2048_1_0_0)
    shapeCasts_S1x512x2048_S512x2048) (Pipeline.withArrays_arr spec0 (by decide) c (V0 m c) (arr m c) 6)

theorem read_7 (A : Vec Ideal S2x512x2048 .f32) : (((cfgM m (ok m)).win 7).blk (pt i)).view.read (Elt Ideal) A (ix3 0 r s)
    = A (ix3 1 ⟨i.val * 128 + r.val, by omega⟩ s) := by
  blk_point [idx_7 m i]

theorem arr_7 : arr m c 7 (ix3 1 ⟨i.val * 128 + r.val, by omega⟩ s) = (outsAt0 m (ok m) c (pt i)).2.2.1 (ix3 0 r s) := by
  have h := congrFun ((dats m (ok m) 0 c).read_blk_arrAt_eq_flushed 7 (Pipeline.Window.hdisj_of_index_inj _ fun t t' _ _ e => apart t t' e)
    (cfgM m (ok m)).N (pt i) (pt i).isLt (flush0_7 _ _)) (ix3 0 r s)
  exact (read_7 m i r s _).symm.trans (h.trans (congrFun (after0_7 m (ok m) c (pt i)) _))

theorem tail_7 : Pipeline.afterTail pcfgs (fun _ => adm m (ok m)) (dats m (ok m)) 0 (V0 m) [hostOps1] c main_v6
    = shapeCast S512x2048 (extractStridedSlice S1x512x2048 ![1, 0, 0] (arr m c 7) slices_S2x512x2048_S1x512x2048_1_0_0)
      shapeCasts_S1x512x2048_S512x2048 := by
  unfold Pipeline.afterTail
  simp only [hostOps1, List.flatten_cons, List.flatten_nil, List.append_nil, List.cons_append, List.nil_append]
  after_reads_simp
  exact congrArg (fun A => shapeCast S512x2048 (extractStridedSlice S1x512x2048 ![1, 0, 0] A slices_S2x512x2048_S1x512x2048_1_0_0)
    shapeCasts_S1x512x2048_S512x2048) (Pipeline.withArrays_arr spec0 (by decide) c (V0 m c) (arr m c) 7)

theorem read_8 (A : Vec Ideal S2x512x2048 .f32) : (((cfgM m (ok m)).win 8).blk (pt i)).view.read (Elt Ideal) A (ix3 0 r s)
    = A (ix3 1 ⟨i.val * 128 + r.val, by omega⟩ s) := by
  blk_point [idx_8 m i]

theorem arr_8 : arr m c 8 (ix3 1 ⟨i.val * 128 + r.val, by omega⟩ s) = (outsAt0 m (ok m) c (pt i)).2.2.2 (ix3 0 r s) := by
  have h := congrFun ((dats m (ok m) 0 c).read_blk_arrAt_eq_flushed 8 (Pipeline.Window.hdisj_of_index_inj _ fun t t' _ _ e => apart t t' e)
    (cfgM m (ok m)).N (pt i) (pt i).isLt (flush0_8 _ _)) (ix3 0 r s)
  exact (read_8 m i r s _).symm.trans (h.trans (congrFun (after0_8 m (ok m) c (pt i)) _))

theorem tail_8 : Pipeline.afterTail pcfgs (fun _ => adm m (ok m)) (dats m (ok m)) 0 (V0 m) [hostOps1] c main_v8
    = shapeCast S512x2048 (extractStridedSlice S1x512x2048 ![1, 0, 0] (arr m c 8) slices_S2x512x2048_S1x512x2048_1_0_0)
      shapeCasts_S1x512x2048_S512x2048 := by
  unfold Pipeline.afterTail
  simp only [hostOps1, List.flatten_cons, List.flatten_nil, List.append_nil, List.cons_append, List.nil_append]
  after_reads_simp
  exact congrArg (fun A => shapeCast S512x2048 (extractStridedSlice S1x512x2048 ![1, 0, 0] A slices_S2x512x2048_S1x512x2048_1_0_0)
    shapeCasts_S1x512x2048_S512x2048) (Pipeline.withArrays_arr spec0 (by decide) c (V0 m c) (arr m c) 8)

/-- The second layer's slab of an array of two layers, entry by entry. -/
theorem slab (A : Vec Ideal S2x512x2048 .f32) (B : Vec Ideal S512x2048 .f32)
    (h : ∀ (i : Fin 4) (r : Fin 128) (s : Fin 2048), A (ix3 1 ⟨i.val * 128 + r.val, by omega⟩ s) = B (ix2 ⟨i.val * 128 + r.val, by omega⟩ s)) :
    shapeCast S512x2048 (extractStridedSlice S1x512x2048 ![1, 0, 0] A slices_S2x512x2048_S1x512x2048_1_0_0)
      shapeCasts_S1x512x2048_S512x2048 = B := by
  funext y
  obtain ⟨R, s, rfl⟩ : ∃ (R : Fin 512) (s : Fin 2048), y = ix2 R s := ⟨y 0, y 1, eq_ix2 y⟩
  obtain ⟨i, r, rfl⟩ := Parts.split (a := 4) (b := 128) (by norm_num) R
  refine Eq.trans ?_ (h i r s)
  pointwise []

open Cert.AdamOut0RefIdeal.Read

variable (p : Fin 2) (hp : X5 m c (ix1 0) = BitVec.ofNat 32 p.val)
include hp

theorem value_g : Pipeline.afterTail pcfgs (fun _ => adm m (ok m)) (dats m (ok m)) 0 (V0 m) [hostOps1] c main_v2
    = val_main_v5 (F := Ideal) (X0 m c) (X1 m c) (X5 m c) :=
  (tail_5 m c).trans (slab _ _ fun i r s => (arr_5 m c i r s).trans ((final_g m c i r s).trans (pick_eq m c i r s p hp)))

theorem value_d : Pipeline.afterTail pcfgs (fun _ => adm m (ok m)) (dats m (ok m)) 0 (V0 m) [hostOps1] c main_v4
    = val_main_v35 (F := Ideal) (X0 m c) (X1 m c) (X2 m c) (X3 m c) (X4 m c) (X5 m c) :=
  (tail_6 m c).trans (slab _ _ fun i r s => (arr_6 m c i r s).trans ((final_d m c i r s).trans (by
    rw [ref_d, pick_eq m c i r s p hp]
    exact congr (congr (congrArg (Adam.step _) (blk_2 m c i r s)) (blk_3 m c i r s)) (blk_4 m c i r s))))

theorem value_m : Pipeline.afterTail pcfgs (fun _ => adm m (ok m)) (dats m (ok m)) 0 (V0 m) [hostOps1] c main_v6
    = val_main_v16 (F := Ideal) (X0 m c) (X1 m c) (X3 m c) (X5 m c) :=
  (tail_7 m c).trans (slab _ _ fun i r s => (arr_7 m c i r s).trans ((final_m m c i r s).trans (by
    rw [ref_m, pick_eq m c i r s p hp]
    exact congrArg (Adam.mean _) (blk_3 m c i r s))))

theorem value_v : Pipeline.afterTail pcfgs (fun _ => adm m (ok m)) (dats m (ok m)) 0 (V0 m) [hostOps1] c main_v8
    = val_main_v22 (F := Ideal) (X0 m c) (X1 m c) (X4 m c) (X5 m c) :=
  (tail_8 m c).trans (slab _ _ fun i r s => (arr_8 m c i r s).trans ((final_v m c i r s).trans (by
    rw [ref_v, pick_eq m c i r s p hp]
    exact congrArg (Adam.square _) (blk_4 m c i r s))))

omit hp

/-! ### The claims -/

theorem ok_bits (m : (ℓ : Loc Cert.AdamOut0.nD Cert.AdamOut0.τ Cert.AdamOut0.sig) → Buf (Elt Bits) ℓ) : Cert.AdamOut0.Gen.Ok m := by
  unfold Cert.AdamOut0.Gen.Ok
  rw [Cert.AdamOut0.ok0.eq_1]
  constructor <;> intro i <;> refine ⟨fun a => ?_, .inl rfl⟩
  · match a with
    | ⟨0, _⟩ => exact Nat.le_trans (Nat.mul_le_mul_right _ (Nat.add_le_add_right (Adam.held 1 (by norm_num) _) 1)) (by show (1 + 1) * 128 ≤ 256; omega)
    | ⟨1, _⟩ => exact Nat.le_of_eq rfl
  · match a with
    | ⟨0, _⟩ => exact Nat.le_trans (Nat.mul_le_mul_right _ (Nat.add_le_add_right (Adam.held 1 (by norm_num) _) 1)) (by show (1 + 1) * 128 ≤ 256; omega)
    | ⟨1, _⟩ => exact Nat.le_of_eq rfl

attribute [local instance] Cert.AdamOut0.Gen.facts Cert.AdamOut0Ideal.Gen.facts Cert.AdamOut0RefIdeal.Gen.facts Cert.Pre_core_out0.Gen.facts

/-- The precondition says which of the pair the core is. -/
theorem side (h : Cert.Pre_AdamOut0Ideal_core_out0 m) : ∃ p : Fin 2, X5 m c (ix1 0) = BitVec.ofNat 32 p.val := by
  refine Adam.either _ (Eq.trans ?_ (congrFun (h c) (fun a => a.elim0)))
  pointwise [Cert.Pre_core_out0.fn]

theorem frame_p : Cert.quiescent_AdamOut0 := fun m ρ _ => Cert.AdamOut0.Gen.frame m ρ (ok_bits m)

theorem frame_pi : Cert.quiescent_AdamOut0Ideal := fun m ρ _ => Cert.AdamOut0Ideal.Gen.frame m ρ (ok m)

theorem frame_pi_pre : Cert.quiescent_AdamOut0Ideal_pre_core_out0 := fun m ρ _ => Cert.AdamOut0Ideal.Gen.frame m ρ (ok m)

theorem frame_ri : Cert.quiescent_AdamOut0RefIdeal := fun m ρ _ =>
  (θ_run Cert.AdamOut0RefIdeal.defs _ _).mono (fun r h => ⟨fun c => (h c).2.2.2.2, sem_eq_zero_of_no_sems (by decide) r.2⟩)
    (Cert.AdamOut0RefIdeal.Value.run (F := Ideal) m ρ)

theorem frame_ri_pre : Cert.quiescent_AdamOut0RefIdeal_pre_core_out0 := fun m ρ _ => frame_ri m ρ trivial

theorem algebraic : Cert.algebraic_AdamOut0Ideal_AdamOut0RefIdeal_pre_core_out0 := by
  intro m ρ m' ρ' hpre hagree
  refine ⟨fun c => val_main_v5 (F := Ideal) (X0 m c) (X1 m c) (X5 m c), fun c => val_main_v35 (F := Ideal) (X0 m c) (X1 m c) (X2 m c) (X3 m c) (X4 m c) (X5 m c),
    fun c => val_main_v16 (F := Ideal) (X0 m c) (X1 m c) (X3 m c) (X5 m c), fun c => val_main_v22 (F := Ideal) (X0 m c) (X1 m c) (X4 m c) (X5 m c), ?_, ?_⟩
  · refine (θ_run defs _ _).mono (fun r h c => ?_) (θ_run_and (unchanged m ρ (ok m)) (run_main m ρ (ok m)))
    obtain ⟨p, hp⟩ := side m c hpre
    exact ⟨((h.2 c).2 main_v2 (by decide : main_v2 ∈ Pipeline.restRefs sig spec0)).trans (value_g m c p hp), ((h.2 c).2 main_v4 (by decide : main_v4 ∈ Pipeline.restRefs sig spec0)).trans (value_d m c p hp),
      ((h.2 c).2 main_v6 (by decide : main_v6 ∈ Pipeline.restRefs sig spec0)).trans (value_m m c p hp), ((h.2 c).2 main_v8 (by decide : main_v8 ∈ Pipeline.restRefs sig spec0)).trans (value_v m c p hp), h.1 c⟩
  · refine (θ_run Cert.AdamOut0RefIdeal.defs _ _).mono (fun _ h c => ?_) (Cert.AdamOut0RefIdeal.Value.run (F := Ideal) m' ρ')
    obtain ⟨h0, h1, h2, h3, h4⟩ := h c
    obtain ⟨e0, e1, e2, e3, e4, e5⟩ := hagree c
    rw [val_main_v5_eq, e0, e1, e5] at h0
    rw [val_main_v35_eq, e0, e1, e2, e3, e4, e5] at h1
    rw [val_main_v16_eq, e0, e1, e3, e5] at h2
    rw [val_main_v22_eq, e0, e1, e4, e5] at h3
    exact ⟨h0, h1, h2, h3, h4⟩

end Out0
-- ==== Proof.Out1.lean ====
/-
  The optimiser's step of the first layer of the mixer's output weight, block of rows by block of rows.
-/
module

public import proofs.«01_k».proof.Defs
public import proofs.«01_k».proof.Proof.Parts
public import proofs.«01_k».proof.Proof.Adam
public import proofs.«01_k».proof.Proof.Gen.AdamOut1.Frame
public import proofs.«01_k».proof.Proof.Gen.AdamOut1Ideal.Frame
public import proofs.«01_k».proof.Proof.Gen.AdamOut1RefIdeal.Read
public import proofs.«01_k».proof.Proof.Gen.Pre_core_out1
public import Idealize.ShloMosaic.Lib.Pointwise
public import Idealize.ShloMosaic.Lib.Pipeline.ValueKit
public import Idealize.ShloMosaic.Lib.StableHlo.RunRead
public import Idealize.ShloMosaic.Lib.Quiescent

@[expose] public section

set_option maxRecDepth 16384

noncomputable section

namespace Out1

open Idealize.ShloMosaic Cert.AdamOut1Ideal Cert.AdamOut1Ideal.Gen Idealize.ShloMosaic.TcCoe Idealize.SL.Sem

section
variable {F : FTy → Type} [FloatOps F]

/-- The blocks lie inside the arrays, whatever the table holds. -/
theorem ok (m : (ℓ : Loc nD τ sig) → Buf (Elt F) ℓ) : Ok m := by
  unfold Ok
  rw [ok0.eq_1]
  constructor <;> intro i <;> refine ⟨fun a => ?_, .inl rfl⟩
  · match a with
    | ⟨0, _⟩ => exact Nat.le_trans (Nat.mul_le_mul_right _ (Nat.add_le_add_right (Adam.held 1 (by norm_num) _) 1)) (by show (1 + 1) * 128 ≤ 256; omega)
    | ⟨1, _⟩ => exact Nat.le_of_eq rfl
  · match a with
    | ⟨0, _⟩ => exact Nat.le_trans (Nat.mul_le_mul_right _ (Nat.add_le_add_right (Adam.held 1 (by norm_num) _) 1)) (by show (1 + 1) * 128 ≤ 256; omega)
    | ⟨1, _⟩ => exact Nat.le_of_eq rfl

end

variable (m : (ℓ : Loc nD τ sig) → Buf (Elt Ideal) ℓ) (c : Dev nD)

/-- The grid point of a tile of rows. -/
def pt (i : Fin 4) : Fin grid0.N := ⟨i.val, by show _ < 4; omega⟩

abbrev X0 : Vec Ideal S256x2048 .f32 := m ((c : Thread nD τ).loc main_arg0)
abbrev X1 : Vec Ideal S256x2048 .f32 := m ((c : Thread nD τ).loc main_arg1)
abbrev X2 : Vec Ideal S2x512x2048 .f32 := m ((c : Thread nD τ).loc main_arg2)
abbrev X3 : Vec Ideal S2x512x2048 .f32 := m ((c : Thread nD τ).loc main_arg3)
abbrev X4 : Vec Ideal S2x512x2048 .f32 := m ((c : Thread nD τ).loc main_arg4)
abbrev X5 : Vec Ideal S2x512x2048 .f32 := m ((c : Thread nD τ).loc main_arg5)
abbrev X6 : Vec Ideal S2x512x2048 .f32 := m ((c : Thread nD τ).loc main_arg6)
abbrev X7 : Vec Ideal S2x512x2048 .f32 := m ((c : Thread nD τ).loc main_arg7)
abbrev X8 : Vec Ideal S2x512x2048 .f32 := m ((c : Thread nD τ).loc main_arg8)
abbrev X9 : Vec Ideal S5 .i32 := m ((c : Thread nD τ).loc main_arg9)

variable (i : Fin 4) (r : Fin 128) (s : Fin 2048)

theorem idx_2 : ((cfgM m (ok m)).win 2).index (pt i) = ![0, i.val, 0] := by
  show cc0_transform_2 (grid0.coords (pt i)) = _
  revert i
  decide +kernel

theorem idx_3 : ((cfgM m (ok m)).win 3).index (pt i) = ![0, i.val, 0] := idx_2 m i

theorem idx_4 : ((cfgM m (ok m)).win 4).index (pt i) = ![0, i.val, 0] := idx_2 m i

theorem idx_5 : ((cfgM m (ok m)).win 5).index (pt i) = ![0, i.val, 0] := idx_2 m i

theorem idx_6 : ((cfgM m (ok m)).win 6).index (pt i) = ![0, i.val, 0] := idx_2 m i

theorem idx_7 : ((cfgM m (ok m)).win 7).index (pt i) = ![0, i.val, 0] := idx_2 m i

theorem idx_8 : ((cfgM m (ok m)).win 8).index (pt i) = ![0, i.val, 0] := idx_2 m i

theorem blk_2 : iblk m (ok m) c 2 (pt i) (ix3 0 r s) = X2 m c (ix3 0 ⟨i.val * 128 + r.val, by omega⟩ s) := by
  blk_point [iblk, V, idx_2 m i]

theorem blk_3 : iblk m (ok m) c 3 (pt i) (ix3 0 r s) = X3 m c (ix3 0 ⟨i.val * 128 + r.val, by omega⟩ s) := by
  blk_point [iblk, V, idx_3 m i]

theorem blk_4 : iblk m (ok m) c 4 (pt i) (ix3 0 r s) = X4 m c (ix3 0 ⟨i.val * 128 + r.val, by omega⟩ s) := by
  blk_point [iblk, V, idx_4 m i]

theorem blk_0 (k : Fin 2) (h : ((cfgM m (ok m)).win 0).index (pt i) = ![k.val, 0]) :
    iblk m (ok m) c 0 (pt i) (ix2 r s) = X0 m c (ix2 ⟨k.val * 128 + r.val, by omega⟩ s) := by
  blk_point [iblk, V, h]

theorem blk_1 (k : Fin 2) (h : ((cfgM m (ok m)).win 1).index (pt i) = ![k.val, 0]) :
    iblk m (ok m) c 1 (pt i) (ix2 r s) = X1 m c (ix2 ⟨k.val * 128 + r.val, by omega⟩ s) := by
  blk_point [iblk, V, h]

theorem word : tbl m 0 (ix1 0) = X9 m c (ix1 0) := by
  obtain rfl : c = 0 := Subsingleton.elim _ _
  rfl

theorem table (inb : ∀ a, (![0] : Fin 1 → Nat) a + S1.size a ≤ S5.size a) (n : S1.numel = 1) :
    (tbl m).at 0 (Rect.unit (s := S5) ![0] S1.size inb) n = X9 m c (ix1 0) := by
  obtain rfl : c = 0 := Subsingleton.elim _ _
  show X9 m 0 ((Rect.unit (s := S5) ![0] S1.size inb).emb (Shape.Idx.first (n.symm ▸ Nat.one_pos))) = X9 m 0 (ix1 0)
  refine congrArg (X9 m 0) ?_
  funext a
  obtain rfl : a = 0 := Subsingleton.elim _ _
  exact Fin.ext rfl

/-- Which block of a core's half of the gradient a tile reads, on either core. -/
theorem idx_0 (p : Fin 2) (h : X9 m c (ix1 0) = BitVec.ofNat 32 p.val) :
    ((cfgM m (ok m)).win 0).index (pt i) = ![min 1 (i.val - 2 * p.val), 0] := by
  show cc0_transform_0 _ _ (tbl m) (grid0.coords (pt i)) = _
  unfold cc0_transform_0
  rw [table m c, h]
  clear h
  revert i p
  decide +kernel

theorem idx_1 (p : Fin 2) (h : X9 m c (ix1 0) = BitVec.ofNat 32 p.val) :
    ((cfgM m (ok m)).win 1).index (pt i) = ![min 1 (i.val - 2 * (1 - p.val)), 0] := by
  show cc0_transform_1 _ _ (tbl m) (grid0.coords (pt i)) = _
  unfold cc0_transform_1
  rw [table m c, h]
  clear h
  revert i p
  decide +kernel

/-- The half a tile takes its gradient from. -/
theorem chosen (p : Fin 2) (x y : Vec Ideal S128x2048 .f32) :
    k0_pay6 (grid0.coords (pt i)) (BitVec.ofNat 32 p.val) x y = if i.val / 2 = p.val then x else y := by
  fin_cases p <;> fin_cases i <;> rfl

abbrev pick : Vec Ideal S128x2048 .f32 :=
  k0_pay6 (grid0.coords (pt i)) (X9 m c (ix1 0)) (iblk m (ok m) c 0 (pt i)) (iblk m (ok m) c 1 (pt i))

theorem picked : k0_pay6 (grid0.coords (pt i)) ((tbl m).at 0 (Rect.unit (s := S5) ![0] S1.size inb_S5_S1_0) numel1_S1)
    ((ms0_0 m (ok m) (pt i)).view.read (Elt Ideal) ((hs0_0 m (ok m) (pt i)).unread (iblk m (ok m) c 0 (pt i))))
    ((ms0_1 m (ok m) (pt i)).view.read (Elt Ideal) ((hs0_1 m (ok m) (pt i)).unread (iblk m (ok m) c 1 (pt i)))) = pick m c i :=
  congr (congr (congrArg (k0_pay6 _) (table m c _ _)) (Memref.IsWhole.read_unread _ _)) (Memref.IsWhole.read_unread _ _)

theorem final_g : (outsAt0 m (ok m) c (pt i)).1 (ix3 0 r s) = pick m c i (ix2 r s) := by
  unfold outsAt0
  frame_out
  refine Eq.trans (congrFun (congrArg k0_pay2 (picked m c i)) _) ?_
  pointwise [k0_pay2]

theorem final_m : (outsAt0 m (ok m) c (pt i)).2.2.1 (ix3 0 r s) = Adam.mean (pick m c i (ix2 r s)) (iblk m (ok m) c 3 (pt i) (ix3 0 r s)) := by
  unfold outsAt0
  frame_out
  refine Eq.trans (congrFun (congrArg k0_pay4 (congr (congr (congr (congrArg (k0_pay8 _) (table m c inb_S5_S1_0 numel1_S1)) (Memref.IsWhole.read_unread _ _)) (Memref.IsWhole.read_unread _ _))
    (Memref.IsWhole.read_unread (hs0_3 m (ok m) (pt i)) _))) _) ?_
  pointwise [k0_pay4, k0_pay8]
  rfl

theorem final_v : (outsAt0 m (ok m) c (pt i)).2.2.2 (ix3 0 r s) = Adam.square (pick m c i (ix2 r s)) (iblk m (ok m) c 4 (pt i) (ix3 0 r s)) := by
  unfold outsAt0
  frame_out
  refine Eq.trans (congrFun (congr (congrArg k0_pay5 (picked m c i))
    (congrArg k0_pay9 (Memref.IsWhole.read_unread (hs0_4 m (ok m) (pt i)) _))) _) ?_
  pointwise [k0_pay5, k0_pay9, k0_pay1]
  rfl

theorem final_d : (outsAt0 m (ok m) c (pt i)).2.1 (ix3 0 r s) = Adam.step (pick m c i (ix2 r s)) (iblk m (ok m) c 2 (pt i) (ix3 0 r s))
    (iblk m (ok m) c 3 (pt i) (ix3 0 r s)) (iblk m (ok m) c 4 (pt i) (ix3 0 r s)) := by
  unfold outsAt0
  frame_out
  refine Eq.trans (congrFun (congr (congr (congr (congrArg k0_pay3 (picked m c i))
    (congrArg k0_pay7 (Memref.IsWhole.read_unread (hs0_2 m (ok m) (pt i)) _)))
    (congr (congr (congr (congrArg (k0_pay8 _) (table m c inb_S5_S1_0 numel1_S1)) (Memref.IsWhole.read_unread _ _)) (Memref.IsWhole.read_unread _ _))
      (Memref.IsWhole.read_unread (hs0_3 m (ok m) (pt i)) _)))
    (congrArg k0_pay9 (Memref.IsWhole.read_unread (hs0_4 m (ok m) (pt i)) _))) _) ?_
  pointwise [k0_pay3, k0_pay7, k0_pay8, k0_pay9, k0_pay1]
  rfl

section ref
open Cert.AdamOut1RefIdeal.Read
variable (x0 x1 : Vec Ideal S256x2048 .f32) (x2 x3 x4 : Vec Ideal S2x512x2048 .f32) (x9 : Vec Ideal S5 .i32) (R : Fin 512)

theorem ref_m : val_main_v16 (F := Ideal) x0 x1 x3 x9 (ix2 R s) = Adam.mean (val_main_v5 (F := Ideal) x0 x1 x9 (ix2 R s)) (x3 (ix3 0 R s)) := by
  pointwise [val_main_v16, val_main_v13, val_main_v12, val_main_cst, val_main_v9, val_main_v8, val_main_v15, val_main_v14, val_main_cst_0]
  rfl

theorem ref_v : val_main_v22 (F := Ideal) x0 x1 x4 x9 (ix2 R s) = Adam.square (val_main_v5 (F := Ideal) x0 x1 x9 (ix2 R s)) (x4 (ix3 0 R s)) := by
  pointwise [val_main_v22, val_main_v21, val_main_v20, val_main_cst_2, val_main_v19, val_main_v18, val_main_v17, val_main_cst_1, val_main_v11,
    val_main_v10]
  rfl

theorem ref_d : val_main_v35 (F := Ideal) x0 x1 x2 x3 x4 x9 (ix2 R s)
    = Adam.step (val_main_v5 (F := Ideal) x0 x1 x9 (ix2 R s)) (x2 (ix3 0 R s)) (x3 (ix3 0 R s)) (x4 (ix3 0 R s)) := by
  unfold Adam.step
  rw [← ref_m s x0 x1 x3 x9 R, ← ref_v s x0 x1 x4 x9 R]
  pointwise [val_main_v35, val_main_v34, val_main_cst_7, val_main_v33, val_main_v32, val_main_v31, val_main_cst_6, val_main_v30, val_main_v29,
    val_main_v28, val_main_cst_5, val_main_v27, val_main_v26, val_main_v25, val_main_cst_4, val_main_v24, val_main_v23, val_main_cst_3,
    val_main_v7, val_main_v6]

theorem ref_g (p : Fin 2) (h : x9 (ix1 0) = BitVec.ofNat 32 p.val) (i : Fin 4) (r : Fin 128) (k : Fin 2) (hk : i.val = 2 * (i.val / 2) + k.val) :
   val_main_v5 (F := Ideal) x0 x1 x9 (ix2 ⟨i.val * 128 + r.val, by omega⟩ s) =
   if i.val / 2 = p.val then x0 (ix2 ⟨k.val * 128 + r.val, by omega⟩ s) else x1 (ix2 ⟨k.val * 128 + r.val, by omega⟩ s) := by
  pointwise [val_main_v5, val_main_v4, val_main_v3, val_main_v2, val_main_v1, val_main_v0, val_main_c, h]
  have z (a b : EReal) : Scalar.select (IntOp.cmpi .eq (BitVec.ofNat 32 0) 0#32) a b = a := rfl
  have o (a b : EReal) : Scalar.select (IntOp.cmpi .eq (BitVec.ofNat 32 1) 0#32) a b = b := rfl
  have e (x : Vec Ideal S256x2048 .f32) (R R' : Fin 256) (hR : R.val = R'.val) : x (ix2 R s) = x (ix2 R' s) :=
    congrArg (fun R => x (ix2 R s)) (Fin.ext hR)
  by_cases hi : i.val < 2
  · rw [dif_pos (by omega), dif_pos (by omega)]
    match p with
    | ⟨0, _⟩ => exact (z _ _).trans ((e _ _ _ (by show _ = _; simp only []; omega)).trans (if_pos (by show _ = 0; omega)).symm)
    | ⟨1, _⟩ => exact (o _ _).trans ((e _ _ _ (by show _ = _; simp only []; omega)).trans (if_neg (by show ¬ _ = 1; omega)).symm)
  · rw [dif_neg (by omega), dif_neg (by omega)]
    match p with
    | ⟨0, _⟩ => exact (z _ _).trans ((e _ _ _ (by show _ = _; simp only []; omega)).trans (if_neg (by show ¬ _ = 0; omega)).symm)
    | ⟨1, _⟩ => exact (o _ _).trans ((e _ _ _ (by show _ = _; simp only []; omega)).trans (if_pos (by show _ = 1; omega)).symm)
theorem ref_400 (a : Vec Ideal S2x512x2048 .f32) : val_main_v40 (F := Ideal) x0 x1 a x9 (ix3 1 R s) = a (ix3 1 R s) := by
  pointwise [val_main_v40, val_main_v39, val_main_v38, val_main_v37, val_main_v36]

theorem ref_401 (a : Vec Ideal S2x512x2048 .f32) : val_main_v40 (F := Ideal) x0 x1 a x9 (ix3 0 R s) = val_main_v5 (F := Ideal) x0 x1 x9 (ix2 R s) := by
  pointwise [val_main_v40, val_main_v39, val_main_v38, val_main_v37, val_main_v36]

theorem ref_450 (a : Vec Ideal S2x512x2048 .f32) : val_main_v45 (F := Ideal) x0 x1 x2 x3 x4 a x9 (ix3 1 R s) = a (ix3 1 R s) := by
  pointwise [val_main_v45, val_main_v44, val_main_v43, val_main_v42, val_main_v41]

theorem ref_451 (a : Vec Ideal S2x512x2048 .f32) : val_main_v45 (F := Ideal) x0 x1 x2 x3 x4 a x9 (ix3 0 R s) = val_main_v35 (F := Ideal) x0 x1 x2 x3 x4 x9 (ix2 R s) := by
  pointwise [val_main_v45, val_main_v44, val_main_v43, val_main_v42, val_main_v41]

theorem ref_500 (a : Vec Ideal S2x512x2048 .f32) : val_main_v50 (F := Ideal) x0 x1 x3 a x9 (ix3 1 R s) = a (ix3 1 R s) := by
  pointwise [val_main_v50, val_main_v49, val_main_v48, val_main_v47, val_main_v46]

theorem ref_501 (a : Vec Ideal S2x512x2048 .f32) : val_main_v50 (F := Ideal) x0 x1 x3 a x9 (ix3 0 R s) = val_main_v16 (F := Ideal) x0 x1 x3 x9 (ix2 R s) := by
  pointwise [val_main_v50, val_main_v49, val_main_v48, val_main_v47, val_main_v46]

theorem ref_550 (a : Vec Ideal S2x512x2048 .f32) : val_main_v55 (F := Ideal) x0 x1 x4 a x9 (ix3 1 R s) = a (ix3 1 R s) := by
  pointwise [val_main_v55, val_main_v54, val_main_v53, val_main_v52, val_main_v51]

theorem ref_551 (a : Vec Ideal S2x512x2048 .f32) : val_main_v55 (F := Ideal) x0 x1 x4 a x9 (ix3 0 R s) = val_main_v22 (F := Ideal) x0 x1 x4 x9 (ix2 R s) := by
  pointwise [val_main_v55, val_main_v54, val_main_v53, val_main_v52, val_main_v51]

end ref

/-- The gradient's entry a tile works from is the sum's, its halves side by side. -/
theorem pick_eq (p : Fin 2) (h : X9 m c (ix1 0) = BitVec.ofNat 32 p.val) : pick m c i (ix2 r s)
    = Cert.AdamOut1RefIdeal.Read.val_main_v5 (F := Ideal) (X0 m c) (X1 m c) (X9 m c) (ix2 ⟨i.val * 128 + r.val, by omega⟩ s) := by
  have hk : i.val = 2 * (i.val / 2) + (⟨i.val % 2, by omega⟩ : Fin 2).val := by
    show i.val = 2 * (i.val / 2) + i.val % 2
    omega
  refine Eq.trans ?_ (ref_g s (X0 m c) (X1 m c) (X9 m c) p h i r ⟨i.val % 2, by omega⟩ hk).symm
  have q (x y : Vec Ideal S128x2048 .f32) : k0_pay6 (grid0.coords (pt i)) (X9 m c (ix1 0)) x y = if i.val / 2 = p.val then x else y := by
    rw [h]
    exact chosen i p x y
  by_cases hp : i.val / 2 = p.val
  · rw [if_pos hp]
    exact (congrFun ((q _ _).trans (if_pos hp)) _).trans
      (blk_0 m c i r s _ ((idx_0 m c i p h).trans (congrArg (![·, 0]) (by show min 1 (i.val - 2 * p.val) = i.val % 2; omega))))
  · rw [if_neg hp]
    exact (congrFun ((q _ _).trans (if_neg hp)) _).trans
      (blk_1 m c i r s _ ((idx_1 m c i p h).trans (congrArg (![·, 0]) (by show min 1 (i.val - 2 * (1 - p.val)) = i.val % 2; omega))))

/-! ### The arrays the call leaves -/

theorem apart : ∀ t t' : Fin grid0.N, cc0_transform_9 (grid0.coords t) = cc0_transform_9 (grid0.coords t') → t = t' := by decide +kernel

abbrev arr (w : Fin 9) := (dats m (ok m) 0 c).arrAt w (cfgM m (ok m)).N

theorem start_5 : V m c main_v0_0 = X5 m c := by
  unfold V
  simp only [hostOps0, List.flatten_cons, List.flatten_nil, List.append_nil, List.cons_append, List.nil_append]
  after_reads_simp
  rfl

theorem start_6 : V m c main_v0_1 = X6 m c := by
  unfold V
  simp only [hostOps0, List.flatten_cons, List.flatten_nil, List.append_nil, List.cons_append, List.nil_append]
  after_reads_simp
  rfl

theorem start_7 : V m c main_v0_2 = X7 m c := by
  unfold V
  simp only [hostOps0, List.flatten_cons, List.flatten_nil, List.append_nil, List.cons_append, List.nil_append]
  after_reads_simp
  rfl

theorem start_8 : V m c main_v0_3 = X8 m c := by
  unfold V
  simp only [hostOps0, List.flatten_cons, List.flatten_nil, List.append_nil, List.cons_append, List.nil_append]
  after_reads_simp
  rfl

theorem read_5 (A : Vec Ideal S2x512x2048 .f32) : (((cfgM m (ok m)).win 5).blk (pt i)).view.read (Elt Ideal) A (ix3 0 r s)
    = A (ix3 0 ⟨i.val * 128 + r.val, by omega⟩ s) := by
  blk_point [idx_5 m i]

theorem arr_5 : arr m c 5 (ix3 0 ⟨i.val * 128 + r.val, by omega⟩ s) = (outsAt0 m (ok m) c (pt i)).1 (ix3 0 r s) := by
  have h := congrFun ((dats m (ok m) 0 c).read_blk_arrAt_eq_flushed 5 (Pipeline.Window.hdisj_of_index_inj _ fun t t' _ _ e => apart t t' e)
    (cfgM m (ok m)).N (pt i) (pt i).isLt (flush0_5 _ _)) (ix3 0 r s)
  exact (read_5 m i r s _).symm.trans (h.trans (congrFun (after0_5 m (ok m) c (pt i)) _))

theorem entry_5 (R : Fin 512) : arr m c 5 (ix3 1 R s) = X5 m c (ix3 1 R s) := by
  refine ((dats m (ok m) 0 c).arrAt_apply_of_forall_not_mem 5 (cfgM m (ok m)).N _ fun t _ _ hmem => ?_).trans ?_
  · have h : 1 < ((cfgM m (ok m)).win 5).index t (0 : Fin 3) * 1 + 1 :=
      ((Pipeline.Window.emb_mem_blk_iff ((cfgM m (ok m)).win 5) t (ix3 1 R s) rfl).mp hmem (0 : Fin 3)).2
    have e : ((cfgM m (ok m)).win 5).index t (0 : Fin 3) = 0 := congrFun (idx_5 m (⟨t.val, t.isLt⟩ : Fin 4)) (0 : Fin 3)
    omega
  · rw [A_eq]
    exact congrFun (start_5 m c) _

theorem read_6 (A : Vec Ideal S2x512x2048 .f32) : (((cfgM m (ok m)).win 6).blk (pt i)).view.read (Elt Ideal) A (ix3 0 r s)
    = A (ix3 0 ⟨i.val * 128 + r.val, by omega⟩ s) := by
  blk_point [idx_6 m i]

theorem arr_6 : arr m c 6 (ix3 0 ⟨i.val * 128 + r.val, by omega⟩ s) = (outsAt0 m (ok m) c (pt i)).2.1 (ix3 0 r s) := by
  have h := congrFun ((dats m (ok m) 0 c).read_blk_arrAt_eq_flushed 6 (Pipeline.Window.hdisj_of_index_inj _ fun t t' _ _ e => apart t t' e)
    (cfgM m (ok m)).N (pt i) (pt i).isLt (flush0_6 _ _)) (ix3 0 r s)
  exact (read_6 m i r s _).symm.trans (h.trans (congrFun (after0_6 m (ok m) c (pt i)) _))

theorem entry_6 (R : Fin 512) : arr m c 6 (ix3 1 R s) = X6 m c (ix3 1 R s) := by
  refine ((dats m (ok m) 0 c).arrAt_apply_of_forall_not_mem 6 (cfgM m (ok m)).N _ fun t _ _ hmem => ?_).trans ?_
  · have h : 1 < ((cfgM m (ok m)).win 6).index t (0 : Fin 3) * 1 + 1 :=
      ((Pipeline.Window.emb_mem_blk_iff ((cfgM m (ok m)).win 6) t (ix3 1 R s) rfl).mp hmem (0 : Fin 3)).2
    have e : ((cfgM m (ok m)).win 6).index t (0 : Fin 3) = 0 := congrFun (idx_6 m (⟨t.val, t.isLt⟩ : Fin 4)) (0 : Fin 3)
    omega
  · rw [A_eq]
    exact congrFun (start_6 m c) _

theorem read_7 (A : Vec Ideal S2x512x2048 .f32) : (((cfgM m (ok m)).win 7).blk (pt i)).view.read (Elt Ideal) A (ix3 0 r s)
    = A (ix3 0 ⟨i.val * 128 + r.val, by omega⟩ s) := by
  blk_point [idx_7 m i]

theorem arr_7 : arr m c 7 (ix3 0 ⟨i.val * 128 + r.val, by omega⟩ s) = (outsAt0 m (ok m) c (pt i)).2.2.1 (ix3 0 r s) := by
  have h := congrFun ((dats m (ok m) 0 c).read_blk_arrAt_eq_flushed 7 (Pipeline.Window.hdisj_of_index_inj _ fun t t' _ _ e => apart t t' e)
    (cfgM m (ok m)).N (pt i) (pt i).isLt (flush0_7 _ _)) (ix3 0 r s)
  exact (read_7 m i r s _).symm.trans (h.trans (congrFun (after0_7 m (ok m) c (pt i)) _))

theorem entry_7 (R : Fin 512) : arr m c 7 (ix3 1 R s) = X7 m c (ix3 1 R s) := by
  refine ((dats m (ok m) 0 c).arrAt_apply_of_forall_not_mem 7 (cfgM m (ok m)).N _ fun t _ _ hmem => ?_).trans ?_
  · have h : 1 < ((cfgM m (ok m)).win 7).index t (0 : Fin 3) * 1 + 1 :=
      ((Pipeline.Window.emb_mem_blk_iff ((cfgM m (ok m)).win 7) t (ix3 1 R s) rfl).mp hmem (0 : Fin 3)).2
    have e : ((cfgM m (ok m)).win 7).index t (0 : Fin 3) = 0 := congrFun (idx_7 m (⟨t.val, t.isLt⟩ : Fin 4)) (0 : Fin 3)
    omega
  · rw [A_eq]
    exact congrFun (start_7 m c) _

theorem read_8 (A : Vec Ideal S2x512x2048 .f32) : (((cfgM m (ok m)).win 8).blk (pt i)).view.read (Elt Ideal) A (ix3 0 r s)
    = A (ix3 0 ⟨i.val * 128 + r.val, by omega⟩ s) := by
  blk_point [idx_8 m i]

theorem arr_8 : arr m c 8 (ix3 0 ⟨i.val * 128 + r.val, by omega⟩ s) = (outsAt0 m (ok m) c (pt i)).2.2.2 (ix3 0 r s) := by
  have h := congrFun ((dats m (ok m) 0 c).read_blk_arrAt_eq_flushed 8 (Pipeline.Window.hdisj_of_index_inj _ fun t t' _ _ e => apart t t' e)
    (cfgM m (ok m)).N (pt i) (pt i).isLt (flush0_8 _ _)) (ix3 0 r s)
  exact (read_8 m i r s _).symm.trans (h.trans (congrFun (after0_8 m (ok m) c (pt i)) _))

theorem entry_8 (R : Fin 512) : arr m c 8 (ix3 1 R s) = X8 m c (ix3 1 R s) := by
  refine ((dats m (ok m) 0 c).arrAt_apply_of_forall_not_mem 8 (cfgM m (ok m)).N _ fun t _ _ hmem => ?_).trans ?_
  · have h : 1 < ((cfgM m (ok m)).win 8).index t (0 : Fin 3) * 1 + 1 :=
      ((Pipeline.Window.emb_mem_blk_iff ((cfgM m (ok m)).win 8) t (ix3 1 R s) rfl).mp hmem (0 : Fin 3)).2
    have e : ((cfgM m (ok m)).win 8).index t (0 : Fin 3) = 0 := congrFun (idx_8 m (⟨t.val, t.isLt⟩ : Fin 4)) (0 : Fin 3)
    omega
  · rw [A_eq]
    exact congrFun (start_8 m c) _

/-- An array of two layers, of which the call writes the first, entry by entry. -/
theorem layers (A B : Vec Ideal S2x512x2048 .f32) (h0 : ∀ (s : Fin 2048) (R : Fin 512), A (ix3 1 R s) = B (ix3 1 R s))
    (h : ∀ (i : Fin 4) (r : Fin 128) (s : Fin 2048), A (ix3 0 ⟨i.val * 128 + r.val, by omega⟩ s) = B (ix3 0 ⟨i.val * 128 + r.val, by omega⟩ s)) :
    A = B := by
  funext y
  obtain ⟨l, R, s, rfl⟩ : ∃ (l : Fin 2) (R : Fin 512) (s : Fin 2048), y = ix3 l R s := ⟨y 0, y 1, y 2, eq_ix3 y⟩
  match l with
  | ⟨0, _⟩ =>
    obtain ⟨i, r, rfl⟩ := Parts.split (a := 4) (b := 128) (by norm_num) R
    exact h i r s
  | ⟨1, _⟩ => exact h0 s R

open Cert.AdamOut1RefIdeal.Read

variable (p : Fin 2) (hp : X9 m c (ix1 0) = BitVec.ofNat 32 p.val)
include hp

theorem value_g : arr m c 5 = val_main_v40 (F := Ideal) (X0 m c) (X1 m c) (X5 m c) (X9 m c) :=
  layers _ _ (fun s R => (entry_5 m c s R).trans (ref_400 s _ _ _ R _).symm) fun i r s =>
    ((arr_5 m c i r s).trans ((final_g m c i r s).trans (pick_eq m c i r s p hp))).trans (ref_401 s _ _ _ _ _).symm

theorem value_d : arr m c 6 = val_main_v45 (F := Ideal) (X0 m c) (X1 m c) (X2 m c) (X3 m c) (X4 m c) (X6 m c) (X9 m c) :=
  layers _ _ (fun s R => (entry_6 m c s R).trans (ref_450 s _ _ _ _ _ _ R _).symm) fun i r s =>
    ((arr_6 m c i r s).trans ((final_d m c i r s).trans (by
    rw [ref_d, pick_eq m c i r s p hp]
    exact congr (congr (congrArg (Adam.step _) (blk_2 m c i r s)) (blk_3 m c i r s)) (blk_4 m c i r s)))).trans (ref_451 s _ _ _ _ _ _ _ _).symm

theorem value_m : arr m c 7 = val_main_v50 (F := Ideal) (X0 m c) (X1 m c) (X3 m c) (X7 m c) (X9 m c) :=
  layers _ _ (fun s R => (entry_7 m c s R).trans (ref_500 s _ _ _ _ R _).symm) fun i r s =>
    ((arr_7 m c i r s).trans ((final_m m c i r s).trans (by
    rw [ref_m, pick_eq m c i r s p hp]
    exact congrArg (Adam.mean _) (blk_3 m c i r s)))).trans (ref_501 s _ _ _ _ _ _).symm

theorem value_v : arr m c 8 = val_main_v55 (F := Ideal) (X0 m c) (X1 m c) (X4 m c) (X8 m c) (X9 m c) :=
  layers _ _ (fun s R => (entry_8 m c s R).trans (ref_550 s _ _ _ _ R _).symm) fun i r s =>
    ((arr_8 m c i r s).trans ((final_v m c i r s).trans (by
    rw [ref_v, pick_eq m c i r s p hp]
    exact congrArg (Adam.square _) (blk_4 m c i r s)))).trans (ref_551 s _ _ _ _ _ _).symm

omit hp

/-! ### The claims -/

theorem ok_bits (m : (ℓ : Loc Cert.AdamOut1.nD Cert.AdamOut1.τ Cert.AdamOut1.sig) → Buf (Elt Bits) ℓ) : Cert.AdamOut1.Gen.Ok m := by
  unfold Cert.AdamOut1.Gen.Ok
  rw [Cert.AdamOut1.ok0.eq_1]
  constructor <;> intro i <;> refine ⟨fun a => ?_, .inl rfl⟩
  · match a with
    | ⟨0, _⟩ => exact Nat.le_trans (Nat.mul_le_mul_right _ (Nat.add_le_add_right (Adam.held 1 (by norm_num) _) 1)) (by show (1 + 1) * 128 ≤ 256; omega)
    | ⟨1, _⟩ => exact Nat.le_of_eq rfl
  · match a with
    | ⟨0, _⟩ => exact Nat.le_trans (Nat.mul_le_mul_right _ (Nat.add_le_add_right (Adam.held 1 (by norm_num) _) 1)) (by show (1 + 1) * 128 ≤ 256; omega)
    | ⟨1, _⟩ => exact Nat.le_of_eq rfl

attribute [local instance] Cert.AdamOut1.Gen.facts Cert.AdamOut1Ideal.Gen.facts Cert.AdamOut1RefIdeal.Gen.facts Cert.Pre_core_out1.Gen.facts

/-- The precondition says which of the pair the core is. -/
theorem side (h : Cert.Pre_AdamOut1Ideal_core_out1 m) : ∃ p : Fin 2, X9 m c (ix1 0) = BitVec.ofNat 32 p.val := by
  refine Adam.either _ (Eq.trans ?_ (congrFun (h c) (fun a => a.elim0)))
  pointwise [Cert.Pre_core_out1.fn]

theorem frame_p : Cert.quiescent_AdamOut1 := fun m ρ _ => Cert.AdamOut1.Gen.frame m ρ (ok_bits m)

theorem frame_pi : Cert.quiescent_AdamOut1Ideal := fun m ρ _ => Cert.AdamOut1Ideal.Gen.frame m ρ (ok m)

theorem frame_pi_pre : Cert.quiescent_AdamOut1Ideal_pre_core_out1 := fun m ρ _ => Cert.AdamOut1Ideal.Gen.frame m ρ (ok m)

theorem frame_ri : Cert.quiescent_AdamOut1RefIdeal := fun m ρ _ =>
  (θ_run Cert.AdamOut1RefIdeal.defs _ _).mono (fun r h => ⟨fun c => (h c).2.2.2.2, sem_eq_zero_of_no_sems (by decide) r.2⟩)
    (Cert.AdamOut1RefIdeal.Value.run (F := Ideal) m ρ)

theorem frame_ri_pre : Cert.quiescent_AdamOut1RefIdeal_pre_core_out1 := fun m ρ _ => frame_ri m ρ trivial

theorem algebraic : Cert.algebraic_AdamOut1Ideal_AdamOut1RefIdeal_pre_core_out1 := by
  intro m ρ m' ρ' hpre hagree
  refine ⟨fun c => val_main_v40 (F := Ideal) (X0 m c) (X1 m c) (X5 m c) (X9 m c), fun c => val_main_v45 (F := Ideal) (X0 m c) (X1 m c) (X2 m c) (X3 m c) (X4 m c) (X6 m c) (X9 m c),
    fun c => val_main_v50 (F := Ideal) (X0 m c) (X1 m c) (X3 m c) (X7 m c) (X9 m c), fun c => val_main_v55 (F := Ideal) (X0 m c) (X1 m c) (X4 m c) (X8 m c) (X9 m c), ?_, ?_⟩
  · refine (θ_run defs _ _).mono (fun r h c => ?_) (θ_run_and (unchanged m ρ (ok m)) (run_main m ρ (ok m)))
    obtain ⟨p, hp⟩ := side m c hpre
    exact ⟨((h.2 c).1 5).trans (value_g m c p hp), ((h.2 c).1 6).trans (value_d m c p hp),
      ((h.2 c).1 7).trans (value_m m c p hp), ((h.2 c).1 8).trans (value_v m c p hp), h.1 c⟩
  · refine (θ_run Cert.AdamOut1RefIdeal.defs _ _).mono (fun _ h c => ?_) (Cert.AdamOut1RefIdeal.Value.run (F := Ideal) m' ρ')
    obtain ⟨h0, h1, h2, h3, h4⟩ := h c
    obtain ⟨e0, e1, e2, e3, e4, e5, e6, e7, e8, e9⟩ := hagree c
    rw [val_main_v40_eq, e0, e1, e5, e9] at h0
    rw [val_main_v45_eq, e0, e1, e2, e3, e4, e6, e9] at h1
    rw [val_main_v50_eq, e0, e1, e3, e7, e9] at h2
    rw [val_main_v55_eq, e0, e1, e4, e8, e9] at h3
    exact ⟨h0, h1, h2, h3, h4⟩

end Out1
-- ==== Proof.Turned.lean ====
/-
  The optimiser's step of the projections' weight, both layers in one call, with the columns of the weight as rows.
-/
module

public import proofs.«01_k».proof.Defs
public import proofs.«01_k».proof.Proof.Parts
public import proofs.«01_k».proof.Proof.Adam
public import proofs.«01_k».proof.Proof.Gen.AdamIn.Frame
public import proofs.«01_k».proof.Proof.Gen.AdamInIdeal.Frame
public import proofs.«01_k».proof.Proof.Gen.AdamInRefIdeal.Read
public import proofs.«01_k».proof.Proof.Gen.Pre_core_in
public import Idealize.ShloMosaic.Lib.Pointwise
public import Idealize.ShloMosaic.Lib.Pipeline.ValueKit
public import Idealize.ShloMosaic.Lib.StableHlo.RunRead
public import Idealize.ShloMosaic.Lib.Quiescent

@[expose] public section

set_option maxRecDepth 16384

noncomputable section

namespace Turned

open Idealize.ShloMosaic Cert.AdamInIdeal Cert.AdamInIdeal.Gen Idealize.ShloMosaic.TcCoe Idealize.SL.Sem

/-- A clipped block of columns lies inside the array. -/
theorem fits (x : BitVec 32) (a : Fin 2) :
    (![(0#32).toNat, (Scalar.minsi 7#32 (Scalar.maxsi 0#32 x)).toNat] a + 1) * S1538x128.size a ≤ S1538x1024.size a := by
  match a with
  | ⟨0, _⟩ => exact Nat.le_of_eq rfl
  | ⟨1, _⟩ => exact Nat.le_trans (Nat.mul_le_mul_right _ (Nat.add_le_add_right (Adam.held 7 (by norm_num) _) 1)) (by show (7 + 1) * 128 ≤ 1024; omega)

section
variable {F : FTy → Type} [FloatOps F]

/-- The blocks lie inside the arrays, whatever the table holds. -/
theorem ok (m : (ℓ : Loc nD τ sig) → Buf (Elt F) ℓ) : Ok m := by
  unfold Ok
  rw [ok0.eq_1]
  refine ⟨?_, ?_, ?_, ?_⟩ <;> intro i <;> exact ⟨fun a => fits _ a, .inl rfl⟩

end

variable (m : (ℓ : Loc nD τ sig) → Buf (Elt Ideal) ℓ) (c : Dev nD)

/-- The grid point of a tile of columns. -/
def pt (i : Fin 16) : Fin grid0.N := ⟨i.val, by show _ < 16; omega⟩

abbrev X0 : Vec Ideal S1538x1024 .f32 := m ((c : Thread nD τ).loc main_arg0)
abbrev X1 : Vec Ideal S1538x1024 .f32 := m ((c : Thread nD τ).loc main_arg1)
abbrev X2 : Vec Ideal S1538x1024 .f32 := m ((c : Thread nD τ).loc main_arg2)
abbrev X3 : Vec Ideal S1538x1024 .f32 := m ((c : Thread nD τ).loc main_arg3)
abbrev X4 : Vec Ideal S2x2048x1538 .f32 := m ((c : Thread nD τ).loc main_arg4)
abbrev X5 : Vec Ideal S2x2048x1538 .f32 := m ((c : Thread nD τ).loc main_arg5)
abbrev X6 : Vec Ideal S2x2048x1538 .f32 := m ((c : Thread nD τ).loc main_arg6)
abbrev X7 : Vec Ideal S5 .i32 := m ((c : Thread nD τ).loc main_arg7)

variable (i : Fin 16) (r : Fin 128) (s : Fin 1538) (l : Fin 2)

theorem idx_4 : ((cfgM m (ok m)).win 4).index (pt i) = ![0, 0, i.val] := by
  show cc0_transform_4 (grid0.coords (pt i)) = _
  revert i
  decide +kernel

theorem idx_5 : ((cfgM m (ok m)).win 5).index (pt i) = ![0, 0, i.val] := idx_4 m i

theorem idx_6 : ((cfgM m (ok m)).win 6).index (pt i) = ![0, 0, i.val] := idx_4 m i

theorem idx_7 : ((cfgM m (ok m)).win 7).index (pt i) = ![0, 0, i.val] := idx_4 m i

theorem idx_8 : ((cfgM m (ok m)).win 8).index (pt i) = ![0, 0, i.val] := idx_4 m i

theorem idx_9 : ((cfgM m (ok m)).win 9).index (pt i) = ![0, 0, i.val] := idx_4 m i

theorem idx_10 : ((cfgM m (ok m)).win 10).index (pt i) = ![0, 0, i.val] := idx_4 m i

theorem start_4 : V m c main_v0 = transpose S1538x2x2048 [2, 0, 1] (X4 m c) transposes_S2x2048x1538_S1538x2x2048_2_0_1 := by
  unfold V
  simp only [hostOps0, List.flatten_cons, List.flatten_nil, List.append_nil, List.cons_append, List.nil_append]
  after_reads_simp

theorem block_4 : iblk m (ok m) c 4 (pt i) (ix3 s l r) = (V m c main_v0 : Vec Ideal S1538x2x2048 .f32) (ix3 s l ⟨i.val * 128 + r.val, by omega⟩) := by
  blk_point [iblk, idx_4 m i]

theorem start_5 : V m c main_v1 = transpose S1538x2x2048 [2, 0, 1] (X5 m c) transposes_S2x2048x1538_S1538x2x2048_2_0_1 := by
  unfold V
  simp only [hostOps0, List.flatten_cons, List.flatten_nil, List.append_nil, List.cons_append, List.nil_append]
  after_reads_simp

theorem block_5 : iblk m (ok m) c 5 (pt i) (ix3 s l r) = (V m c main_v1 : Vec Ideal S1538x2x2048 .f32) (ix3 s l ⟨i.val * 128 + r.val, by omega⟩) := by
  blk_point [iblk, idx_5 m i]

theorem start_6 : V m c main_v2 = transpose S1538x2x2048 [2, 0, 1] (X6 m c) transposes_S2x2048x1538_S1538x2x2048_2_0_1 := by
  unfold V
  simp only [hostOps0, List.flatten_cons, List.flatten_nil, List.append_nil, List.cons_append, List.nil_append]
  after_reads_simp

theorem block_6 : iblk m (ok m) c 6 (pt i) (ix3 s l r) = (V m c main_v2 : Vec Ideal S1538x2x2048 .f32) (ix3 s l ⟨i.val * 128 + r.val, by omega⟩) := by
  blk_point [iblk, idx_6 m i]

theorem turn (A : Vec Ideal S2x2048x1538 .f32) (R : Fin 2048) :
    (transpose S1538x2x2048 [2, 0, 1] A transposes_S2x2048x1538_S1538x2x2048_2_0_1 : Vec Ideal S1538x2x2048 .f32) (ix3 s l R) = A (ix3 l R s) := by
  pointwise []

theorem blk_4 : iblk m (ok m) c 4 (pt i) (ix3 s l r) = X4 m c (ix3 l ⟨i.val * 128 + r.val, by omega⟩ s) :=
  (block_4 m c i r s l).trans ((congrFun (start_4 m c) _).trans (turn s l _ _))

theorem blk_5 : iblk m (ok m) c 5 (pt i) (ix3 s l r) = X5 m c (ix3 l ⟨i.val * 128 + r.val, by omega⟩ s) :=
  (block_5 m c i r s l).trans ((congrFun (start_5 m c) _).trans (turn s l _ _))

theorem blk_6 : iblk m (ok m) c 6 (pt i) (ix3 s l r) = X6 m c (ix3 l ⟨i.val * 128 + r.val, by omega⟩ s) :=
  (block_6 m c i r s l).trans ((congrFun (start_6 m c) _).trans (turn s l _ _))

theorem blk_0 (k : Fin 8) (h : ((cfgM m (ok m)).win 0).index (pt i) = ![0, k.val]) :
    iblk m (ok m) c 0 (pt i) (ix2 s r) = X0 m c (ix2 s ⟨k.val * 128 + r.val, by omega⟩) := by
  blk_point [iblk, V, h]

theorem blk_1 (k : Fin 8) (h : ((cfgM m (ok m)).win 1).index (pt i) = ![0, k.val]) :
    iblk m (ok m) c 1 (pt i) (ix2 s r) = X1 m c (ix2 s ⟨k.val * 128 + r.val, by omega⟩) := by
  blk_point [iblk, V, h]

theorem blk_2 (k : Fin 8) (h : ((cfgM m (ok m)).win 2).index (pt i) = ![0, k.val]) :
    iblk m (ok m) c 2 (pt i) (ix2 s r) = X2 m c (ix2 s ⟨k.val * 128 + r.val, by omega⟩) := by
  blk_point [iblk, V, h]

theorem blk_3 (k : Fin 8) (h : ((cfgM m (ok m)).win 3).index (pt i) = ![0, k.val]) :
    iblk m (ok m) c 3 (pt i) (ix2 s r) = X3 m c (ix2 s ⟨k.val * 128 + r.val, by omega⟩) := by
  blk_point [iblk, V, h]

theorem table (inb : ∀ a, (![0] : Fin 1 → Nat) a + S1.size a ≤ S5.size a) (n : S1.numel = 1) :
    (tbl m).at 0 (Rect.unit (s := S5) ![0] S1.size inb) n = X7 m c (ix1 0) := by
  obtain rfl : c = 0 := Subsingleton.elim _ _
  show X7 m 0 ((Rect.unit (s := S5) ![0] S1.size inb).emb (Shape.Idx.first (n.symm ▸ Nat.one_pos))) = X7 m 0 (ix1 0)
  refine congrArg (X7 m 0) ?_
  funext a
  obtain rfl : a = 0 := Subsingleton.elim _ _
  exact Fin.ext rfl

/-- Which block of a core's half of the gradient a tile reads, on either core. -/
theorem idx_0 (p : Fin 2) (h : X7 m c (ix1 0) = BitVec.ofNat 32 p.val) :
    ((cfgM m (ok m)).win 0).index (pt i) = ![0, min 7 (i.val - 8 * p.val)] := by
  show cc0_transform_0 _ _ (tbl m) (grid0.coords (pt i)) = _
  unfold cc0_transform_0
  rw [table m c, h]
  clear h
  revert i p
  decide +kernel

theorem idx_1 (p : Fin 2) (h : X7 m c (ix1 0) = BitVec.ofNat 32 p.val) :
    ((cfgM m (ok m)).win 1).index (pt i) = ![0, min 7 (i.val - 8 * (1 - p.val))] := by
  show cc0_transform_1 _ _ (tbl m) (grid0.coords (pt i)) = _
  unfold cc0_transform_1
  rw [table m c, h]
  clear h
  revert i p
  decide +kernel

theorem idx_2 (p : Fin 2) (h : X7 m c (ix1 0) = BitVec.ofNat 32 p.val) :
    ((cfgM m (ok m)).win 2).index (pt i) = ![0, min 7 (i.val - 8 * p.val)] := idx_0 m c i p h

theorem idx_3 (p : Fin 2) (h : X7 m c (ix1 0) = BitVec.ofNat 32 p.val) :
    ((cfgM m (ok m)).win 3).index (pt i) = ![0, min 7 (i.val - 8 * (1 - p.val))] := idx_1 m c i p h

/-- The gradients of the two layers side by side. -/
def both (x y : Vec Ideal S1538x128 .f32) : FVec Ideal S1538x2x128 .f32 :=
  concatenate S1538x2x128 1 [⟨S1538x1x128, shapeCast S1538x1x128 x shapeCasts_S1538x128_S1538x1x128⟩,
    ⟨S1538x1x128, shapeCast S1538x1x128 y shapeCasts_S1538x128_S1538x1x128⟩] concatenates_S1538x1x128_S1538x1x128_S1538x2x128_d1

theorem both_0 (x y : Vec Ideal S1538x128 .f32) : both x y (ix3 s 0 r) = x (ix2 s r) := by
  pointwise [both]

theorem both_1 (x y : Vec Ideal S1538x128 .f32) : both x y (ix3 s 1 r) = y (ix2 s r) := by
  pointwise [both]

/-- The halves a tile takes its gradients from. -/
theorem chosen (p : Fin 2) (x y z t : Vec Ideal S1538x128 .f32) :
    k0_pay4 (grid0.coords (pt i)) (BitVec.ofNat 32 p.val) x y z t = if i.val / 8 = p.val then both x z else both y t := by
  fin_cases p <;> fin_cases i <;> rfl

abbrev pick : FVec Ideal S1538x2x128 .f32 :=
  k0_pay4 (grid0.coords (pt i)) (X7 m c (ix1 0)) (iblk m (ok m) c 0 (pt i)) (iblk m (ok m) c 1 (pt i)) (iblk m (ok m) c 2 (pt i)) (iblk m (ok m) c 3 (pt i))

theorem picked : k0_pay4 (grid0.coords (pt i)) ((tbl m).at 0 (Rect.unit (s := S5) ![0] S1.size inb_S5_S1_0) numel1_S1)
    ((ms0_0 m (ok m) (pt i)).view.read (Elt Ideal) ((hs0_0 m (ok m) (pt i)).unread (iblk m (ok m) c 0 (pt i))))
    ((ms0_1 m (ok m) (pt i)).view.read (Elt Ideal) ((hs0_1 m (ok m) (pt i)).unread (iblk m (ok m) c 1 (pt i))))
    ((ms0_2 m (ok m) (pt i)).view.read (Elt Ideal) ((hs0_2 m (ok m) (pt i)).unread (iblk m (ok m) c 2 (pt i))))
    ((ms0_3 m (ok m) (pt i)).view.read (Elt Ideal) ((hs0_3 m (ok m) (pt i)).unread (iblk m (ok m) c 3 (pt i)))) = pick m c i :=
  congr (congr (congr (congr (congrArg (k0_pay4 _) (table m c _ _)) (Memref.IsWhole.read_unread _ _)) (Memref.IsWhole.read_unread _ _))
    (Memref.IsWhole.read_unread _ _)) (Memref.IsWhole.read_unread _ _)

theorem final_g : (outsAt0 m (ok m) c (pt i)).1 (ix3 s l r) = pick m c i (ix3 s l r) := by
  unfold outsAt0
  frame_out
  exact congrFun (picked m c i) _

theorem final_m : (outsAt0 m (ok m) c (pt i)).2.2.1 (ix3 s l r) = Adam.mean (pick m c i (ix3 s l r)) (iblk m (ok m) c 5 (pt i) (ix3 s l r)) := by
  unfold outsAt0
  frame_out
  refine Eq.trans (congrFun (congr (congrArg k0_pay1 (picked m c i))
    (congrArg k0_pay6 (Memref.IsWhole.read_unread (hs0_5 m (ok m) (pt i)) _))) _) ?_
  pointwise [k0_pay1, k0_pay6]
  rfl

theorem final_v : (outsAt0 m (ok m) c (pt i)).2.2.2 (ix3 s l r) = Adam.square (pick m c i (ix3 s l r)) (iblk m (ok m) c 6 (pt i) (ix3 s l r)) := by
  unfold outsAt0
  frame_out
  refine Eq.trans (congrFun (congr (congrArg k0_pay2 (picked m c i))
    (congrArg k0_pay7 (Memref.IsWhole.read_unread (hs0_6 m (ok m) (pt i)) _))) _) ?_
  pointwise [k0_pay2, k0_pay7]
  rfl

theorem final_d : (outsAt0 m (ok m) c (pt i)).2.1 (ix3 s l r) = Adam.step (pick m c i (ix3 s l r)) (iblk m (ok m) c 4 (pt i) (ix3 s l r))
    (iblk m (ok m) c 5 (pt i) (ix3 s l r)) (iblk m (ok m) c 6 (pt i) (ix3 s l r)) := by
  unfold outsAt0
  frame_out
  refine Eq.trans (congrFun (congr (congr (congr (congrArg k0_pay3 (picked m c i))
    (congrArg k0_pay5 (Memref.IsWhole.read_unread (hs0_4 m (ok m) (pt i)) _)))
    (congrArg k0_pay6 (Memref.IsWhole.read_unread (hs0_5 m (ok m) (pt i)) _)))
    (congrArg k0_pay7 (Memref.IsWhole.read_unread (hs0_6 m (ok m) (pt i)) _))) _) ?_
  pointwise [k0_pay3, k0_pay1, k0_pay2, k0_pay5, k0_pay6, k0_pay7]
  rfl

section ref
open Cert.AdamInRefIdeal.Read
variable (x0 x1 x2 x3 : Vec Ideal S1538x1024 .f32) (x4 x5 x6 : Vec Ideal S2x2048x1538 .f32) (x7 : Vec Ideal S5 .i32) (R : Fin 2048)

theorem ref_m : val_main_v23 (F := Ideal) x0 x1 x2 x3 x5 x7 (ix3 l R s)
    = Adam.mean (val_main_v18 (F := Ideal) x0 x1 x2 x3 x7 (ix3 l R s)) (x5 (ix3 l R s)) := by
  pointwise [val_main_v23, val_main_v22, val_main_v21, val_main_cst_1, val_main_v20, val_main_v19, val_main_cst]
  rfl

theorem ref_v : val_main_v29 (F := Ideal) x0 x1 x2 x3 x6 x7 (ix3 l R s)
    = Adam.square (val_main_v18 (F := Ideal) x0 x1 x2 x3 x7 (ix3 l R s)) (x6 (ix3 l R s)) := by
  pointwise [val_main_v29, val_main_v28, val_main_v27, val_main_cst_3, val_main_v26, val_main_v25, val_main_v24, val_main_cst_2]
  rfl

theorem ref_d : val_main_v42 (F := Ideal) x0 x1 x2 x3 x4 x5 x6 x7 (ix3 l R s)
    = Adam.step (val_main_v18 (F := Ideal) x0 x1 x2 x3 x7 (ix3 l R s)) (x4 (ix3 l R s)) (x5 (ix3 l R s)) (x6 (ix3 l R s)) := by
  unfold Adam.step
  rw [← ref_m s l x0 x1 x2 x3 x5 x7 R, ← ref_v s l x0 x1 x2 x3 x6 x7 R]
  pointwise [val_main_v42, val_main_v41, val_main_cst_8, val_main_v40, val_main_v39, val_main_v38, val_main_cst_7, val_main_v37, val_main_v36,
    val_main_v35, val_main_cst_6, val_main_v34, val_main_v33, val_main_v32, val_main_cst_5, val_main_v31, val_main_v30, val_main_cst_4]

theorem layer_0 : val_main_v18 (F := Ideal) x0 x1 x2 x3 x7 (ix3 0 R s) = val_main_v7 (F := Ideal) x0 x1 x7 (ix2 R s) := by
  pointwise [val_main_v18, val_main_v17, val_main_v16]

theorem ref_0 (p : Fin 2) (h : x7 (ix1 0) = BitVec.ofNat 32 p.val) (i : Fin 16) (r : Fin 128) (k : Fin 8) (hk : i.val = 8 * (i.val / 8) + k.val) :
   val_main_v7 (F := Ideal) x0 x1 x7 (ix2 ⟨i.val * 128 + r.val, by omega⟩ s) =
   if i.val / 8 = p.val then x0 (ix2 s ⟨k.val * 128 + r.val, by omega⟩) else x1 (ix2 s ⟨k.val * 128 + r.val, by omega⟩) := by
  pointwise [val_main_v7, val_main_v6, val_main_v5, val_main_v4, val_main_v3, val_main_v2, val_main_v1, val_main_v0, val_main_c, h]
  have z (a b : EReal) : Scalar.select (IntOp.cmpi .eq (BitVec.ofNat 32 0) 0#32) a b = a := rfl
  have o (a b : EReal) : Scalar.select (IntOp.cmpi .eq (BitVec.ofNat 32 1) 0#32) a b = b := rfl
  have e (x : Vec Ideal S1538x1024 .f32) (R R' : Fin 1024) (hR : R.val = R'.val) : x (ix2 s R) = x (ix2 s R') :=
    congrArg (fun R => x (ix2 s R)) (Fin.ext hR)
  by_cases hi : i.val < 8
  · rw [dif_pos (by omega), dif_pos (by omega)]
    match p with
    | ⟨0, _⟩ => exact (z _ _).trans ((e _ _ _ (by show _ = _; simp only []; omega)).trans (if_pos (by show _ = 0; omega)).symm)
    | ⟨1, _⟩ => exact (o _ _).trans ((e _ _ _ (by show _ = _; simp only []; omega)).trans (if_neg (by show ¬ _ = 1; omega)).symm)
  · rw [dif_neg (by omega), dif_neg (by omega)]
    match p with
    | ⟨0, _⟩ => exact (z _ _).trans ((e _ _ _ (by show _ = _; simp only []; omega)).trans (if_neg (by show ¬ _ = 0; omega)).symm)
    | ⟨1, _⟩ => exact (o _ _).trans ((e _ _ _ (by show _ = _; simp only []; omega)).trans (if_pos (by show _ = 1; omega)).symm)

theorem layer_1 : val_main_v18 (F := Ideal) x0 x1 x2 x3 x7 (ix3 1 R s) = val_main_v15 (F := Ideal) x2 x3 x7 (ix2 R s) := by
  pointwise [val_main_v18, val_main_v17, val_main_v16]

theorem ref_1 (p : Fin 2) (h : x7 (ix1 0) = BitVec.ofNat 32 p.val) (i : Fin 16) (r : Fin 128) (k : Fin 8) (hk : i.val = 8 * (i.val / 8) + k.val) :
   val_main_v15 (F := Ideal) x2 x3 x7 (ix2 ⟨i.val * 128 + r.val, by omega⟩ s) =
   if i.val / 8 = p.val then x2 (ix2 s ⟨k.val * 128 + r.val, by omega⟩) else x3 (ix2 s ⟨k.val * 128 + r.val, by omega⟩) := by
  pointwise [val_main_v15, val_main_v14, val_main_v13, val_main_v12, val_main_v11, val_main_v10, val_main_v9, val_main_v8, val_main_c_0, h]
  have z (a b : EReal) : Scalar.select (IntOp.cmpi .eq (BitVec.ofNat 32 0) 0#32) a b = a := rfl
  have o (a b : EReal) : Scalar.select (IntOp.cmpi .eq (BitVec.ofNat 32 1) 0#32) a b = b := rfl
  have e (x : Vec Ideal S1538x1024 .f32) (R R' : Fin 1024) (hR : R.val = R'.val) : x (ix2 s R) = x (ix2 s R') :=
    congrArg (fun R => x (ix2 s R)) (Fin.ext hR)
  by_cases hi : i.val < 8
  · rw [dif_pos (by omega), dif_pos (by omega)]
    match p with
    | ⟨0, _⟩ => exact (z _ _).trans ((e _ _ _ (by show _ = _; simp only []; omega)).trans (if_pos (by show _ = 0; omega)).symm)
    | ⟨1, _⟩ => exact (o _ _).trans ((e _ _ _ (by show _ = _; simp only []; omega)).trans (if_neg (by show ¬ _ = 1; omega)).symm)
  · rw [dif_neg (by omega), dif_neg (by omega)]
    match p with
    | ⟨0, _⟩ => exact (z _ _).trans ((e _ _ _ (by show _ = _; simp only []; omega)).trans (if_neg (by show ¬ _ = 0; omega)).symm)
    | ⟨1, _⟩ => exact (o _ _).trans ((e _ _ _ (by show _ = _; simp only []; omega)).trans (if_pos (by show _ = 1; omega)).symm)

end ref

open Cert.AdamInRefIdeal.Read

theorem pick_0 (p : Fin 2) (h : X7 m c (ix1 0) = BitVec.ofNat 32 p.val) : pick m c i (ix3 s 0 r)
    = val_main_v18 (F := Ideal) (X0 m c) (X1 m c) (X2 m c) (X3 m c) (X7 m c) (ix3 0 ⟨i.val * 128 + r.val, by omega⟩ s) := by
  have hk : i.val = 8 * (i.val / 8) + (⟨i.val % 8, by omega⟩ : Fin 8).val := by
    show i.val = 8 * (i.val / 8) + i.val % 8
    omega
  refine Eq.trans ?_ ((layer_0 s (X0 m c) (X1 m c) (X2 m c) (X3 m c) (X7 m c) _).trans
    (ref_0 s (X0 m c) (X1 m c) (X7 m c) p h i r ⟨i.val % 8, by omega⟩ hk)).symm
  have q (x y z t : Vec Ideal S1538x128 .f32) : k0_pay4 (grid0.coords (pt i)) (X7 m c (ix1 0)) x y z t = if i.val / 8 = p.val then both x z else both y t := by
    rw [h]
    exact chosen i p x y z t
  by_cases hp : i.val / 8 = p.val
  · rw [if_pos hp]
    exact (congrFun ((q _ _ _ _).trans (if_pos hp)) _).trans ((both_0 r s _ _).trans
      (blk_0 m c i r s _ ((idx_0 m c i p h).trans (congrArg (![0, ·]) (by show min 7 (i.val - 8 * p.val) = i.val % 8; omega)))))
  · rw [if_neg hp]
    exact (congrFun ((q _ _ _ _).trans (if_neg hp)) _).trans ((both_0 r s _ _).trans
      (blk_1 m c i r s _ ((idx_1 m c i p h).trans (congrArg (![0, ·]) (by show min 7 (i.val - 8 * (1 - p.val)) = i.val % 8; omega)))))

theorem pick_1 (p : Fin 2) (h : X7 m c (ix1 0) = BitVec.ofNat 32 p.val) : pick m c i (ix3 s 1 r)
    = val_main_v18 (F := Ideal) (X0 m c) (X1 m c) (X2 m c) (X3 m c) (X7 m c) (ix3 1 ⟨i.val * 128 + r.val, by omega⟩ s) := by
  have hk : i.val = 8 * (i.val / 8) + (⟨i.val % 8, by omega⟩ : Fin 8).val := by
    show i.val = 8 * (i.val / 8) + i.val % 8
    omega
  refine Eq.trans ?_ ((layer_1 s (X0 m c) (X1 m c) (X2 m c) (X3 m c) (X7 m c) _).trans
    (ref_1 s (X2 m c) (X3 m c) (X7 m c) p h i r ⟨i.val % 8, by omega⟩ hk)).symm
  have q (x y z t : Vec Ideal S1538x128 .f32) : k0_pay4 (grid0.coords (pt i)) (X7 m c (ix1 0)) x y z t = if i.val / 8 = p.val then both x z else both y t := by
    rw [h]
    exact chosen i p x y z t
  by_cases hp : i.val / 8 = p.val
  · rw [if_pos hp]
    exact (congrFun ((q _ _ _ _).trans (if_pos hp)) _).trans ((both_1 r s _ _).trans
      (blk_2 m c i r s _ ((idx_2 m c i p h).trans (congrArg (![0, ·]) (by show min 7 (i.val - 8 * p.val) = i.val % 8; omega)))))
  · rw [if_neg hp]
    exact (congrFun ((q _ _ _ _).trans (if_neg hp)) _).trans ((both_1 r s _ _).trans
      (blk_3 m c i r s _ ((idx_3 m c i p h).trans (congrArg (![0, ·]) (by show min 7 (i.val - 8 * (1 - p.val)) = i.val % 8; omega)))))

/-- The gradients' entry a tile works from is the sum's, its halves side by side. -/
theorem pick_eq (p : Fin 2) (h : X7 m c (ix1 0) = BitVec.ofNat 32 p.val) : pick m c i (ix3 s l r)
    = val_main_v18 (F := Ideal) (X0 m c) (X1 m c) (X2 m c) (X3 m c) (X7 m c) (ix3 l ⟨i.val * 128 + r.val, by omega⟩ s) := by
  match l with
  | ⟨0, _⟩ => exact pick_0 m c i r s p h
  | ⟨1, _⟩ => exact pick_1 m c i r s p h

/-! ### The arrays the call leaves -/

theorem apart : ∀ t t' : Fin grid0.N, cc0_transform_7 (grid0.coords t) = cc0_transform_7 (grid0.coords t') → t = t' := by decide +kernel

abbrev arr (w : Fin 11) := (dats m (ok m) 0 c).arrAt w (cfgM m (ok m)).N

theorem read_7 (A : Vec Ideal S1538x2x2048 .f32) : (((cfgM m (ok m)).win 7).blk (pt i)).view.read (Elt Ideal) A (ix3 s l r)
    = A (ix3 s l ⟨i.val * 128 + r.val, by omega⟩) := by
  blk_point [idx_7 m i]

theorem arr_7 : arr m c 7 (ix3 s l ⟨i.val * 128 + r.val, by omega⟩) = (outsAt0 m (ok m) c (pt i)).1 (ix3 s l r) := by
  have h := congrFun ((dats m (ok m) 0 c).read_blk_arrAt_eq_flushed 7 (Pipeline.Window.hdisj_of_index_inj _ fun t t' _ _ e => apart t t' e)
    (cfgM m (ok m)).N (pt i) (pt i).isLt (flush0_7 _ _)) (ix3 s l r)
  exact (read_7 m i r s l _).symm.trans (h.trans (congrFun (after0_7 m (ok m) c (pt i)) _))

theorem tail_7 : Pipeline.afterTail pcfgs (fun _ => adm m (ok m)) (dats m (ok m)) 0 (V0 m) [hostOps1] c main_v4
    = transpose S2x2048x1538 [1, 2, 0] (arr m c 7) transposes_S1538x2x2048_S2x2048x1538_1_2_0 := by
  unfold Pipeline.afterTail
  simp only [hostOps1, List.flatten_cons, List.flatten_nil, List.append_nil, List.cons_append, List.nil_append]
  after_reads_simp
  exact congrArg (fun A => transpose S2x2048x1538 [1, 2, 0] A transposes_S1538x2x2048_S2x2048x1538_1_2_0)
    (Pipeline.withArrays_arr spec0 (by decide) c (V0 m c) (arr m c) 7)

theorem read_8 (A : Vec Ideal S1538x2x2048 .f32) : (((cfgM m (ok m)).win 8).blk (pt i)).view.read (Elt Ideal) A (ix3 s l r)
    = A (ix3 s l ⟨i.val * 128 + r.val, by omega⟩) := by
  blk_point [idx_8 m i]

theorem arr_8 : arr m c 8 (ix3 s l ⟨i.val * 128 + r.val, by omega⟩) = (outsAt0 m (ok m) c (pt i)).2.1 (ix3 s l r) := by
  have h := congrFun ((dats m (ok m) 0 c).read_blk_arrAt_eq_flushed 8 (Pipeline.Window.hdisj_of_index_inj _ fun t t' _ _ e => apart t t' e)
    (cfgM m (ok m)).N (pt i) (pt i).isLt (flush0_8 _ _)) (ix3 s l r)
  exact (read_8 m i r s l _).symm.trans (h.trans (congrFun (after0_8 m (ok m) c (pt i)) _))

theorem tail_8 : Pipeline.afterTail pcfgs (fun _ => adm m (ok m)) (dats m (ok m)) 0 (V0 m) [hostOps1] c main_v5
    = transpose S2x2048x1538 [1, 2, 0] (arr m c 8) transposes_S1538x2x2048_S2x2048x1538_1_2_0 := by
  unfold Pipeline.afterTail
  simp only [hostOps1, List.flatten_cons, List.flatten_nil, List.append_nil, List.cons_append, List.nil_append]
  after_reads_simp
  exact congrArg (fun A => transpose S2x2048x1538 [1, 2, 0] A transposes_S1538x2x2048_S2x2048x1538_1_2_0)
    (Pipeline.withArrays_arr spec0 (by decide) c (V0 m c) (arr m c) 8)

theorem read_9 (A : Vec Ideal S1538x2x2048 .f32) : (((cfgM m (ok m)).win 9).blk (pt i)).view.read (Elt Ideal) A (ix3 s l r)
    = A (ix3 s l ⟨i.val * 128 + r.val, by omega⟩) := by
  blk_point [idx_9 m i]

theorem arr_9 : arr m c 9 (ix3 s l ⟨i.val * 128 + r.val, by omega⟩) = (outsAt0 m (ok m) c (pt i)).2.2.1 (ix3 s l r) := by
  have h := congrFun ((dats m (ok m) 0 c).read_blk_arrAt_eq_flushed 9 (Pipeline.Window.hdisj_of_index_inj _ fun t t' _ _ e => apart t t' e)
    (cfgM m (ok m)).N (pt i) (pt i).isLt (flush0_9 _ _)) (ix3 s l r)
  exact (read_9 m i r s l _).symm.trans (h.trans (congrFun (after0_9 m (ok m) c (pt i)) _))

theorem tail_9 : Pipeline.afterTail pcfgs (fun _ => adm m (ok m)) (dats m (ok m)) 0 (V0 m) [hostOps1] c main_v6
    = transpose S2x2048x1538 [1, 2, 0] (arr m c 9) transposes_S1538x2x2048_S2x2048x1538_1_2_0 := by
  unfold Pipeline.afterTail
  simp only [hostOps1, List.flatten_cons, List.flatten_nil, List.append_nil, List.cons_append, List.nil_append]
  after_reads_simp
  exact congrArg (fun A => transpose S2x2048x1538 [1, 2, 0] A transposes_S1538x2x2048_S2x2048x1538_1_2_0)
    (Pipeline.withArrays_arr spec0 (by decide) c (V0 m c) (arr m c) 9)

theorem read_10 (A : Vec Ideal S1538x2x2048 .f32) : (((cfgM m (ok m)).win 10).blk (pt i)).view.read (Elt Ideal) A (ix3 s l r)
    = A (ix3 s l ⟨i.val * 128 + r.val, by omega⟩) := by
  blk_point [idx_10 m i]

theorem arr_10 : arr m c 10 (ix3 s l ⟨i.val * 128 + r.val, by omega⟩) = (outsAt0 m (ok m) c (pt i)).2.2.2 (ix3 s l r) := by
  have h := congrFun ((dats m (ok m) 0 c).read_blk_arrAt_eq_flushed 10 (Pipeline.Window.hdisj_of_index_inj _ fun t t' _ _ e => apart t t' e)
    (cfgM m (ok m)).N (pt i) (pt i).isLt (flush0_10 _ _)) (ix3 s l r)
  exact (read_10 m i r s l _).symm.trans (h.trans (congrFun (after0_10 m (ok m) c (pt i)) _))

theorem tail_10 : Pipeline.afterTail pcfgs (fun _ => adm m (ok m)) (dats m (ok m)) 0 (V0 m) [hostOps1] c main_v7
    = transpose S2x2048x1538 [1, 2, 0] (arr m c 10) transposes_S1538x2x2048_S2x2048x1538_1_2_0 := by
  unfold Pipeline.afterTail
  simp only [hostOps1, List.flatten_cons, List.flatten_nil, List.append_nil, List.cons_append, List.nil_append]
  after_reads_simp
  exact congrArg (fun A => transpose S2x2048x1538 [1, 2, 0] A transposes_S1538x2x2048_S2x2048x1538_1_2_0)
    (Pipeline.withArrays_arr spec0 (by decide) c (V0 m c) (arr m c) 10)

/-- An array turned back, entry by entry. -/
theorem back (A : Vec Ideal S1538x2x2048 .f32) (B : Vec Ideal S2x2048x1538 .f32)
    (h : ∀ (i : Fin 16) (r : Fin 128) (s : Fin 1538) (l : Fin 2), A (ix3 s l ⟨i.val * 128 + r.val, by omega⟩) = B (ix3 l ⟨i.val * 128 + r.val, by omega⟩ s)) :
    transpose S2x2048x1538 [1, 2, 0] A transposes_S1538x2x2048_S2x2048x1538_1_2_0 = B := by
  funext y
  obtain ⟨l, R, s, rfl⟩ : ∃ (l : Fin 2) (R : Fin 2048) (s : Fin 1538), y = ix3 l R s := ⟨y 0, y 1, y 2, eq_ix3 y⟩
  obtain ⟨i, r, rfl⟩ := Parts.split (a := 16) (b := 128) (by norm_num) R
  refine Eq.trans ?_ (h i r s l)
  pointwise []

variable (p : Fin 2) (hp : X7 m c (ix1 0) = BitVec.ofNat 32 p.val)
include hp

theorem value_g : Pipeline.afterTail pcfgs (fun _ => adm m (ok m)) (dats m (ok m)) 0 (V0 m) [hostOps1] c main_v4
    = val_main_v18 (F := Ideal) (X0 m c) (X1 m c) (X2 m c) (X3 m c) (X7 m c) :=
  (tail_7 m c).trans (back _ _ fun i r s l => (arr_7 m c i r s l).trans ((final_g m c i r s l).trans (pick_eq m c i r s l p hp)))

theorem value_d : Pipeline.afterTail pcfgs (fun _ => adm m (ok m)) (dats m (ok m)) 0 (V0 m) [hostOps1] c main_v5
    = val_main_v42 (F := Ideal) (X0 m c) (X1 m c) (X2 m c) (X3 m c) (X4 m c) (X5 m c) (X6 m c) (X7 m c) :=
  (tail_8 m c).trans (back _ _ fun i r s l => (arr_8 m c i r s l).trans ((final_d m c i r s l).trans (by
    rw [ref_d, pick_eq m c i r s l p hp]
    exact congr (congr (congrArg (Adam.step _) (blk_4 m c i r s l)) (blk_5 m c i r s l)) (blk_6 m c i r s l))))

theorem value_m : Pipeline.afterTail pcfgs (fun _ => adm m (ok m)) (dats m (ok m)) 0 (V0 m) [hostOps1] c main_v6
    = val_main_v23 (F := Ideal) (X0 m c) (X1 m c) (X2 m c) (X3 m c) (X5 m c) (X7 m c) :=
  (tail_9 m c).trans (back _ _ fun i r s l => (arr_9 m c i r s l).trans ((final_m m c i r s l).trans (by
    rw [ref_m, pick_eq m c i r s l p hp]
    exact congrArg (Adam.mean _) (blk_5 m c i r s l))))

theorem value_v : Pipeline.afterTail pcfgs (fun _ => adm m (ok m)) (dats m (ok m)) 0 (V0 m) [hostOps1] c main_v7
    = val_main_v29 (F := Ideal) (X0 m c) (X1 m c) (X2 m c) (X3 m c) (X6 m c) (X7 m c) :=
  (tail_10 m c).trans (back _ _ fun i r s l => (arr_10 m c i r s l).trans ((final_v m c i r s l).trans (by
    rw [ref_v, pick_eq m c i r s l p hp]
    exact congrArg (Adam.square _) (blk_6 m c i r s l))))

omit hp

/-! ### The claims -/

theorem ok_bits (m : (ℓ : Loc Cert.AdamIn.nD Cert.AdamIn.τ Cert.AdamIn.sig) → Buf (Elt Bits) ℓ) : Cert.AdamIn.Gen.Ok m := by
  unfold Cert.AdamIn.Gen.Ok
  rw [Cert.AdamIn.ok0.eq_1]
  refine ⟨?_, ?_, ?_, ?_⟩ <;> intro i <;> exact ⟨fun a => fits _ a, .inl rfl⟩

attribute [local instance] Cert.AdamIn.Gen.facts Cert.AdamInIdeal.Gen.facts Cert.AdamInRefIdeal.Gen.facts Cert.Pre_core_in.Gen.facts

/-- The precondition says which of the pair the core is. -/
theorem side (h : Cert.Pre_AdamInIdeal_core_in m) : ∃ p : Fin 2, X7 m c (ix1 0) = BitVec.ofNat 32 p.val := by
  refine Adam.either _ (Eq.trans ?_ (congrFun (h c) (fun a => a.elim0)))
  pointwise [Cert.Pre_core_in.fn]

theorem frame_p : Cert.quiescent_AdamIn := fun m ρ _ => Cert.AdamIn.Gen.frame m ρ (ok_bits m)

theorem frame_pi : Cert.quiescent_AdamInIdeal := fun m ρ _ => Cert.AdamInIdeal.Gen.frame m ρ (ok m)

theorem frame_pi_pre : Cert.quiescent_AdamInIdeal_pre_core_in := fun m ρ _ => Cert.AdamInIdeal.Gen.frame m ρ (ok m)

theorem frame_ri : Cert.quiescent_AdamInRefIdeal := fun m ρ _ =>
  (θ_run Cert.AdamInRefIdeal.defs _ _).mono (fun r h => ⟨fun c => (h c).2.2.2.2, sem_eq_zero_of_no_sems (by decide) r.2⟩)
    (Cert.AdamInRefIdeal.Value.run (F := Ideal) m ρ)

theorem frame_ri_pre : Cert.quiescent_AdamInRefIdeal_pre_core_in := fun m ρ _ => frame_ri m ρ trivial

theorem algebraic : Cert.algebraic_AdamInIdeal_AdamInRefIdeal_pre_core_in := by
  intro m ρ m' ρ' hpre hagree
  refine ⟨fun c => val_main_v18 (F := Ideal) (X0 m c) (X1 m c) (X2 m c) (X3 m c) (X7 m c),
    fun c => val_main_v42 (F := Ideal) (X0 m c) (X1 m c) (X2 m c) (X3 m c) (X4 m c) (X5 m c) (X6 m c) (X7 m c),
    fun c => val_main_v23 (F := Ideal) (X0 m c) (X1 m c) (X2 m c) (X3 m c) (X5 m c) (X7 m c),
    fun c => val_main_v29 (F := Ideal) (X0 m c) (X1 m c) (X2 m c) (X3 m c) (X6 m c) (X7 m c), ?_, ?_⟩
  · refine (θ_run defs _ _).mono (fun r h c => ?_) (θ_run_and (unchanged m ρ (ok m)) (run_main m ρ (ok m)))
    obtain ⟨p, hp⟩ := side m c hpre
    exact ⟨((h.2 c).2 main_v4 (by decide : main_v4 ∈ Pipeline.restRefs sig spec0)).trans (value_g m c p hp),
      ((h.2 c).2 main_v5 (by decide : main_v5 ∈ Pipeline.restRefs sig spec0)).trans (value_d m c p hp),
      ((h.2 c).2 main_v6 (by decide : main_v6 ∈ Pipeline.restRefs sig spec0)).trans (value_m m c p hp),
      ((h.2 c).2 main_v7 (by decide : main_v7 ∈ Pipeline.restRefs sig spec0)).trans (value_v m c p hp), h.1 c⟩
  · refine (θ_run Cert.AdamInRefIdeal.defs _ _).mono (fun _ h c => ?_) (Cert.AdamInRefIdeal.Value.run (F := Ideal) m' ρ')
    obtain ⟨h0, h1, h2, h3, h4⟩ := h c
    obtain ⟨e0, e1, e2, e3, e4, e5, e6, e7⟩ := hagree c
    rw [val_main_v18_eq, e0, e1, e2, e3, e7] at h0
    rw [val_main_v42_eq, e0, e1, e2, e3, e4, e5, e6, e7] at h1
    rw [val_main_v23_eq, e0, e1, e2, e3, e5, e7] at h2
    rw [val_main_v29_eq, e0, e1, e2, e3, e6, e7] at h3
    exact ⟨h0, h1, h2, h3, h4⟩

end Turned
-- ==== Proof.lean ====
/-
  The proof of the claims: the backward pass of the mLSTM (Proof/Claims.lean), the four parts of the SwiGLU, forward and
  backward (Proof/Up.lean, Proof/Down.lean, Proof/Act.lean, Proof/In.lean), and the products of the projections into and
  out of the mixers, backward (Proof/Dhn.lean, Proof/DwQkv.lean, Proof/DwE.lean, Proof/DwOut.lean, Proof/Dmix.lean) and
  forward (Proof/ProjQkv.lean, Proof/ProjE.lean, Proof/OutProj.lean), the norms' backward pass (Proof/NormB.lean), the loss with
  its gradient (Proof/Loss.lean), the update of the small parameters (Proof/Small.lean) and, over Proof/Adam.lean, that of
  the large weights layer by layer (Proof/Gate0.lean, Proof/Gate1.lean, Proof/Down0.lean, Proof/Down1.lean,
  Proof/Out0.lean, Proof/Out1.lean) or both layers at once (Proof/Turned.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Claims
public import proofs.«01_k».proof.Proof.Gen.FfnUp.Frame
public import proofs.«01_k».proof.Proof.Gen.FfnUpIdeal.Value
public import proofs.«01_k».proof.Proof.Gen.FfnUpRefIdeal.Run
public import proofs.«01_k».proof.Proof.Gen.FfnUpRefIdeal.Read
public import proofs.«01_k».proof.Proof.Up
public import proofs.«01_k».proof.Proof.Gen.FfnDown.Frame
public import proofs.«01_k».proof.Proof.Gen.FfnDownIdeal.Value
public import proofs.«01_k».proof.Proof.Gen.FfnDownRefIdeal.Run
public import proofs.«01_k».proof.Proof.Gen.FfnDownRefIdeal.Read
public import proofs.«01_k».proof.Proof.Down
public import proofs.«01_k».proof.Proof.Gen.FfnAct.Frame
public import proofs.«01_k».proof.Proof.Gen.FfnActIdeal.Value
public import proofs.«01_k».proof.Proof.Gen.FfnActRefIdeal.Run
public import proofs.«01_k».proof.Proof.Gen.FfnActRefIdeal.Read
public import proofs.«01_k».proof.Proof.Act
public import proofs.«01_k».proof.Proof.Gen.FfnIn.Frame
public import proofs.«01_k».proof.Proof.Gen.FfnInIdeal.Value
public import proofs.«01_k».proof.Proof.Gen.FfnInRefIdeal.Run
public import proofs.«01_k».proof.Proof.Gen.FfnInRefIdeal.Read
public import proofs.«01_k».proof.Proof.In
public import proofs.«01_k».proof.Proof.Gen.Dhn.Frame
public import proofs.«01_k».proof.Proof.Gen.DhnIdeal.Value
public import proofs.«01_k».proof.Proof.Gen.DhnRefIdeal.Run
public import proofs.«01_k».proof.Proof.Gen.DhnRefIdeal.Read
public import proofs.«01_k».proof.Proof.Dhn
public import proofs.«01_k».proof.Proof.Gen.DwQkv.Frame
public import proofs.«01_k».proof.Proof.Gen.DwQkvIdeal.Value
public import proofs.«01_k».proof.Proof.Gen.DwQkvRefIdeal.Run
public import proofs.«01_k».proof.Proof.Gen.DwQkvRefIdeal.Read
public import proofs.«01_k».proof.Proof.DwQkv
public import proofs.«01_k».proof.Proof.Gen.DwE.Frame
public import proofs.«01_k».proof.Proof.Gen.DwEIdeal.Value
public import proofs.«01_k».proof.Proof.Gen.DwERefIdeal.Run
public import proofs.«01_k».proof.Proof.Gen.DwERefIdeal.Read
public import proofs.«01_k».proof.Proof.DwE
public import proofs.«01_k».proof.Proof.Gen.DwOut.Frame
public import proofs.«01_k».proof.Proof.Gen.DwOutIdeal.Value
public import proofs.«01_k».proof.Proof.Gen.DwOutRefIdeal.Run
public import proofs.«01_k».proof.Proof.Gen.DwOutRefIdeal.Read
public import proofs.«01_k».proof.Proof.DwOut
public import proofs.«01_k».proof.Proof.Gen.Dmix.Frame
public import proofs.«01_k».proof.Proof.Gen.DmixIdeal.Value
public import proofs.«01_k».proof.Proof.Gen.DmixRefIdeal.Run
public import proofs.«01_k».proof.Proof.Gen.DmixRefIdeal.Read
public import proofs.«01_k».proof.Proof.Dmix
public import proofs.«01_k».proof.Proof.Gen.ProjQkv.Frame
public import proofs.«01_k».proof.Proof.Gen.ProjQkvIdeal.Value
public import proofs.«01_k».proof.Proof.Gen.ProjQkvRefIdeal.Run
public import proofs.«01_k».proof.Proof.Gen.ProjQkvRefIdeal.Read
public import proofs.«01_k».proof.Proof.ProjQkv
public import proofs.«01_k».proof.Proof.Gen.ProjE.Frame
public import proofs.«01_k».proof.Proof.Gen.ProjEIdeal.Value
public import proofs.«01_k».proof.Proof.Gen.ProjERefIdeal.Run
public import proofs.«01_k».proof.Proof.Gen.ProjERefIdeal.Read
public import proofs.«01_k».proof.Proof.ProjE
public import proofs.«01_k».proof.Proof.Gen.OutProj.Frame
public import proofs.«01_k».proof.Proof.Gen.OutProjIdeal.Value
public import proofs.«01_k».proof.Proof.Gen.OutProjRefIdeal.Run
public import proofs.«01_k».proof.Proof.Gen.OutProjRefIdeal.Read
public import proofs.«01_k».proof.Proof.OutProj
public import proofs.«01_k».proof.Proof.Gen.NormBwd.Frame
public import proofs.«01_k».proof.Proof.Gen.NormBwdIdeal.Value
public import proofs.«01_k».proof.Proof.Gen.NormBwdRefIdeal.Run
public import proofs.«01_k».proof.Proof.Gen.NormBwdRefIdeal.Read
public import proofs.«01_k».proof.Proof.NormB
public import proofs.«01_k».proof.Proof.Gen.LossHead.Frame
public import proofs.«01_k».proof.Proof.Gen.LossHeadIdeal.Value
public import proofs.«01_k».proof.Proof.Gen.LossHeadRefIdeal.Run
public import proofs.«01_k».proof.Proof.Gen.LossHeadRefIdeal.Read
public import proofs.«01_k».proof.Proof.Loss
public import proofs.«01_k».proof.Proof.Gen.AdamSmall.Frame
public import proofs.«01_k».proof.Proof.Gen.AdamSmallIdeal.Value
public import proofs.«01_k».proof.Proof.Gen.AdamSmallRefIdeal.Run
public import proofs.«01_k».proof.Proof.Gen.AdamSmallRefIdeal.Read
public import proofs.«01_k».proof.Proof.Small
public import proofs.«01_k».proof.Proof.Gate0
public import proofs.«01_k».proof.Proof.Gate1
public import proofs.«01_k».proof.Proof.Down0
public import proofs.«01_k».proof.Proof.Down1
public import proofs.«01_k».proof.Proof.Out0
public import proofs.«01_k».proof.Proof.Out1
public import proofs.«01_k».proof.Proof.Turned
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.FfnUp.Gen.facts, Cert.FfnUpIdeal.Gen.facts, Cert.FfnUpRefIdeal.Gen.facts,
  Cert.FfnDown.Gen.facts, Cert.FfnDownIdeal.Gen.facts, Cert.FfnDownRefIdeal.Gen.facts,
  Cert.FfnAct.Gen.facts, Cert.FfnActIdeal.Gen.facts, Cert.FfnActRefIdeal.Gen.facts,
  Cert.FfnIn.Gen.facts, Cert.FfnInIdeal.Gen.facts, Cert.FfnInRefIdeal.Gen.facts,
  Cert.Dhn.Gen.facts, Cert.DhnIdeal.Gen.facts, Cert.DhnRefIdeal.Gen.facts,
  Cert.DwQkv.Gen.facts, Cert.DwQkvIdeal.Gen.facts, Cert.DwQkvRefIdeal.Gen.facts,
  Cert.DwE.Gen.facts, Cert.DwEIdeal.Gen.facts, Cert.DwERefIdeal.Gen.facts,
  Cert.DwOut.Gen.facts, Cert.DwOutIdeal.Gen.facts, Cert.DwOutRefIdeal.Gen.facts,
  Cert.Dmix.Gen.facts, Cert.DmixIdeal.Gen.facts, Cert.DmixRefIdeal.Gen.facts,
  Cert.ProjQkv.Gen.facts, Cert.ProjQkvIdeal.Gen.facts, Cert.ProjQkvRefIdeal.Gen.facts,
  Cert.ProjE.Gen.facts, Cert.ProjEIdeal.Gen.facts, Cert.ProjERefIdeal.Gen.facts,
  Cert.OutProj.Gen.facts, Cert.OutProjIdeal.Gen.facts, Cert.OutProjRefIdeal.Gen.facts,
  Cert.NormBwd.Gen.facts, Cert.NormBwdIdeal.Gen.facts, Cert.NormBwdRefIdeal.Gen.facts,
  Cert.LossHead.Gen.facts, Cert.LossHeadIdeal.Gen.facts, Cert.LossHeadRefIdeal.Gen.facts,
  Cert.AdamSmall.Gen.facts, Cert.AdamSmallIdeal.Gen.facts, Cert.AdamSmallRefIdeal.Gen.facts,
  Cert.AdamGate0.Gen.facts, Cert.AdamGate0Ideal.Gen.facts, Cert.AdamGate0RefIdeal.Gen.facts,
  Cert.AdamGate1.Gen.facts, Cert.AdamGate1Ideal.Gen.facts, Cert.AdamGate1RefIdeal.Gen.facts,
  Cert.AdamDown0.Gen.facts, Cert.AdamDown0Ideal.Gen.facts, Cert.AdamDown0RefIdeal.Gen.facts,
  Cert.AdamDown1.Gen.facts, Cert.AdamDown1Ideal.Gen.facts, Cert.AdamDown1RefIdeal.Gen.facts,
  Cert.AdamOut0.Gen.facts, Cert.AdamOut0Ideal.Gen.facts, Cert.AdamOut0RefIdeal.Gen.facts,
  Cert.AdamOut1.Gen.facts, Cert.AdamOut1Ideal.Gen.facts, Cert.AdamOut1RefIdeal.Gen.facts,
  Cert.AdamIn.Gen.facts, Cert.AdamInIdeal.Gen.facts, Cert.AdamInRefIdeal.Gen.facts,
  Mlstm.pre_facts, Ffn.Act.pre_facts,
  Cert.Pre_core_gate0.Gen.facts, Cert.Pre_core_gate1.Gen.facts, Cert.Pre_core_down0.Gen.facts, Cert.Pre_core_down1.Gen.facts,
  Cert.Pre_core_out0.Gen.facts, Cert.Pre_core_out1.Gen.facts, Cert.Pre_core_in.Gen.facts,
  Mlstm.Claims.frame_p, Mlstm.Claims.frame_pi, Mlstm.Claims.frame_pi_pre, Mlstm.Claims.frame_ri, Mlstm.Claims.frame_ri_pre,
  Ffn.Up.frame_p, Ffn.Up.frame_pi, Ffn.Up.frame_ri, Ffn.Down.frame_p, Ffn.Down.frame_pi, Ffn.Down.frame_ri,
  Ffn.Act.frame_p, Ffn.Act.frame_pi, Ffn.Act.frame_pi_pre, Ffn.Act.frame_ri, Ffn.Act.frame_ri_pre,
  Ffn.In.frame_p, Ffn.In.frame_pi, Ffn.In.frame_ri,
  Dhn.frame_p, Dhn.frame_pi, Dhn.frame_ri,
  DwQkv.frame_p, DwQkv.frame_pi, DwQkv.frame_ri,
  DwE.frame_p, DwE.frame_pi, DwE.frame_ri,
  DwOut.frame_p, DwOut.frame_pi, DwOut.frame_ri,
  Dmix.frame_p, Dmix.frame_pi, Dmix.frame_ri,
  ProjQkv.frame_p, ProjQkv.frame_pi, ProjQkv.frame_ri,
  ProjE.frame_p, ProjE.frame_pi, ProjE.frame_ri,
  OutProj.frame_p, OutProj.frame_pi, OutProj.frame_ri,
  NormB.frame_p, NormB.frame_pi, NormB.frame_ri,
  Loss.frame_p, Loss.frame_pi, Loss.frame_ri,
  Small.frame_p, Small.frame_pi, Small.frame_ri,
  Gate0.frame_p, Gate0.frame_pi, Gate0.frame_pi_pre, Gate0.frame_ri, Gate0.frame_ri_pre,
  Gate1.frame_p, Gate1.frame_pi, Gate1.frame_pi_pre, Gate1.frame_ri, Gate1.frame_ri_pre,
  Down0.frame_p, Down0.frame_pi, Down0.frame_pi_pre, Down0.frame_ri, Down0.frame_ri_pre,
  Down1.frame_p, Down1.frame_pi, Down1.frame_pi_pre, Down1.frame_ri, Down1.frame_ri_pre,
  Out0.frame_p, Out0.frame_pi, Out0.frame_pi_pre, Out0.frame_ri, Out0.frame_ri_pre,
  Out1.frame_p, Out1.frame_pi, Out1.frame_pi_pre, Out1.frame_ri, Out1.frame_ri_pre,
  Turned.frame_p, Turned.frame_pi, Turned.frame_pi_pre, Turned.frame_ri, Turned.frame_ri_pre,
  Mlstm.Claims.preserves, Mlstm.Claims.algebraic, trivial, Ffn.Up.algebraic, trivial, Ffn.Down.algebraic,
  trivial, Ffn.Act.algebraic, trivial, Ffn.In.algebraic,
  trivial, Dhn.algebraic, trivial, DwQkv.algebraic, trivial, DwE.algebraic, trivial, DwOut.algebraic,
  trivial, Dmix.algebraic, trivial, ProjQkv.algebraic, trivial, ProjE.algebraic, trivial, OutProj.algebraic,
  trivial, NormB.algebraic,
  trivial, Loss.algebraic,
  trivial, Small.algebraic,
  trivial, Gate0.algebraic,
  trivial, Gate1.algebraic,
  trivial, Down0.algebraic,
  trivial, Down1.algebraic,
  trivial, Out0.algebraic,
  trivial, Out1.algebraic,
  trivial, Turned.algebraic⟩

end Cert.Proof

end
